-- ==== Defs.lean ====
def Pre_GateK (m : (ℓ : Loc Cert.GateK.nD Cert.GateK.τ Cert.GateK.sig) → Buf (Elt Bits) ℓ) : Prop :=
  True

def Pre_GateKIdeal (m : (ℓ : Loc Cert.GateKIdeal.nD Cert.GateKIdeal.τ Cert.GateKIdeal.sig) → Buf (Elt Ideal) ℓ) : Prop :=
  True

def Pre_GateKIdeal_gate_finite [hPre_gate_finite : Cert.Pre_gate_finite.Facts] (m : (ℓ : Loc Cert.GateKIdeal.nD Cert.GateKIdeal.τ Cert.GateKIdeal.sig) → Buf (Elt Ideal) ℓ) : Prop :=
  ∀ c : Dev Cert.GateKIdeal.nD,
    (Cert.Pre_gate_finite.fn (F := Ideal) (m ((c.tc : Thread Cert.GateKIdeal.nD Cert.GateKIdeal.τ).loc Cert.GateKIdeal.main_arg0)) (m ((c.tc : Thread Cert.GateKIdeal.nD Cert.GateKIdeal.τ).loc Cert.GateKIdeal.main_arg1)) (m ((c.tc : Thread Cert.GateKIdeal.nD Cert.GateKIdeal.τ).loc Cert.GateKIdeal.main_arg2)) (m ((c.tc : Thread Cert.GateKIdeal.nD Cert.GateKIdeal.τ).loc Cert.GateKIdeal.main_arg3))).1 = (fun _ => 1#1)
    ∧ (Cert.Pre_gate_finite.fn (F := Ideal) (m ((c.tc : Thread Cert.GateKIdeal.nD Cert.GateKIdeal.τ).loc Cert.GateKIdeal.main_arg0)) (m ((c.tc : Thread Cert.GateKIdeal.nD Cert.GateKIdeal.τ).loc Cert.GateKIdeal.main_arg1)) (m ((c.tc : Thread Cert.GateKIdeal.nD Cert.GateKIdeal.τ).loc Cert.GateKIdeal.main_arg2)) (m ((c.tc : Thread Cert.GateKIdeal.nD Cert.GateKIdeal.τ).loc Cert.GateKIdeal.main_arg3))).2.1 = (fun _ => 1#1)
    ∧ (Cert.Pre_gate_finite.fn (F := Ideal) (m ((c.tc : Thread Cert.GateKIdeal.nD Cert.GateKIdeal.τ).loc Cert.GateKIdeal.main_arg0)) (m ((c.tc : Thread Cert.GateKIdeal.nD Cert.GateKIdeal.τ).loc Cert.GateKIdeal.main_arg1)) (m ((c.tc : Thread Cert.GateKIdeal.nD Cert.GateKIdeal.τ).loc Cert.GateKIdeal.main_arg2)) (m ((c.tc : Thread Cert.GateKIdeal.nD Cert.GateKIdeal.τ).loc Cert.GateKIdeal.main_arg3))).2.2.1 = (fun _ => 1#1)
    ∧ (Cert.Pre_gate_finite.fn (F := Ideal) (m ((c.tc : Thread Cert.GateKIdeal.nD Cert.GateKIdeal.τ).loc Cert.GateKIdeal.main_arg0)) (m ((c.tc : Thread Cert.GateKIdeal.nD Cert.GateKIdeal.τ).loc Cert.GateKIdeal.main_arg1)) (m ((c.tc : Thread Cert.GateKIdeal.nD Cert.GateKIdeal.τ).loc Cert.GateKIdeal.main_arg2)) (m ((c.tc : Thread Cert.GateKIdeal.nD Cert.GateKIdeal.τ).loc Cert.GateKIdeal.main_arg3))).2.2.2 = (fun _ => 1#1)

def Pre_GateRIdeal (m : (ℓ : Loc Cert.GateRIdeal.nD Cert.GateRIdeal.τ Cert.GateRIdeal.sig) → Buf (Elt Ideal) ℓ) : Prop :=
  True

def Pre_GateRIdeal_gate_finite [hPre_gate_finite : Cert.Pre_gate_finite.Facts] (m : (ℓ : Loc Cert.GateRIdeal.nD Cert.GateRIdeal.τ Cert.GateRIdeal.sig) → Buf (Elt Ideal) ℓ) : Prop :=
  ∀ c : Dev Cert.GateRIdeal.nD,
    (Cert.Pre_gate_finite.fn (F := Ideal) (m ((c.tc : Thread Cert.GateRIdeal.nD Cert.GateRIdeal.τ).loc Cert.GateRIdeal.main_arg0)) (m ((c.tc : Thread Cert.GateRIdeal.nD Cert.GateRIdeal.τ).loc Cert.GateRIdeal.main_arg1)) (m ((c.tc : Thread Cert.GateRIdeal.nD Cert.GateRIdeal.τ).loc Cert.GateRIdeal.main_arg2)) (m ((c.tc : Thread Cert.GateRIdeal.nD Cert.GateRIdeal.τ).loc Cert.GateRIdeal.main_arg3))).1 = (fun _ => 1#1)
    ∧ (Cert.Pre_gate_finite.fn (F := Ideal) (m ((c.tc : Thread Cert.GateRIdeal.nD Cert.GateRIdeal.τ).loc Cert.GateRIdeal.main_arg0)) (m ((c.tc : Thread Cert.GateRIdeal.nD Cert.GateRIdeal.τ).loc Cert.GateRIdeal.main_arg1)) (m ((c.tc : Thread Cert.GateRIdeal.nD Cert.GateRIdeal.τ).loc Cert.GateRIdeal.main_arg2)) (m ((c.tc : Thread Cert.GateRIdeal.nD Cert.GateRIdeal.τ).loc Cert.GateRIdeal.main_arg3))).2.1 = (fun _ => 1#1)
    ∧ (Cert.Pre_gate_finite.fn (F := Ideal) (m ((c.tc : Thread Cert.GateRIdeal.nD Cert.GateRIdeal.τ).loc Cert.GateRIdeal.main_arg0)) (m ((c.tc : Thread Cert.GateRIdeal.nD Cert.GateRIdeal.τ).loc Cert.GateRIdeal.main_arg1)) (m ((c.tc : Thread Cert.GateRIdeal.nD Cert.GateRIdeal.τ).loc Cert.GateRIdeal.main_arg2)) (m ((c.tc : Thread Cert.GateRIdeal.nD Cert.GateRIdeal.τ).loc Cert.GateRIdeal.main_arg3))).2.2.1 = (fun _ => 1#1)
    ∧ (Cert.Pre_gate_finite.fn (F := Ideal) (m ((c.tc : Thread Cert.GateRIdeal.nD Cert.GateRIdeal.τ).loc Cert.GateRIdeal.main_arg0)) (m ((c.tc : Thread Cert.GateRIdeal.nD Cert.GateRIdeal.τ).loc Cert.GateRIdeal.main_arg1)) (m ((c.tc : Thread Cert.GateRIdeal.nD Cert.GateRIdeal.τ).loc Cert.GateRIdeal.main_arg2)) (m ((c.tc : Thread Cert.GateRIdeal.nD Cert.GateRIdeal.τ).loc Cert.GateRIdeal.main_arg3))).2.2.2 = (fun _ => 1#1)

def Pre_AttnK (m : (ℓ : Loc Cert.AttnK.nD Cert.AttnK.τ Cert.AttnK.sig) → Buf (Elt Bits) ℓ) : Prop :=
  True

def Pre_AttnKIdeal (m : (ℓ : Loc Cert.AttnKIdeal.nD Cert.AttnKIdeal.τ Cert.AttnKIdeal.sig) → Buf (Elt Ideal) ℓ) : Prop :=
  True

def Pre_AttnKIdeal_attn_finite [hPre_attn_finite : Cert.Pre_attn_finite.Facts] (m : (ℓ : Loc Cert.AttnKIdeal.nD Cert.AttnKIdeal.τ Cert.AttnKIdeal.sig) → Buf (Elt Ideal) ℓ) : Prop :=
  ∀ c : Dev Cert.AttnKIdeal.nD,
    (Cert.Pre_attn_finite.fn (F := Ideal) (m ((c.tc : Thread Cert.AttnKIdeal.nD Cert.AttnKIdeal.τ).loc Cert.AttnKIdeal.main_arg0)) (m ((c.tc : Thread Cert.AttnKIdeal.nD Cert.AttnKIdeal.τ).loc Cert.AttnKIdeal.main_arg1)) (m ((c.tc : Thread Cert.AttnKIdeal.nD Cert.AttnKIdeal.τ).loc Cert.AttnKIdeal.main_arg2)) (m ((c.tc : Thread Cert.AttnKIdeal.nD Cert.AttnKIdeal.τ).loc Cert.AttnKIdeal.main_arg3))).1 = (fun _ => 1#1)
    ∧ (Cert.Pre_attn_finite.fn (F := Ideal) (m ((c.tc : Thread Cert.AttnKIdeal.nD Cert.AttnKIdeal.τ).loc Cert.AttnKIdeal.main_arg0)) (m ((c.tc : Thread Cert.AttnKIdeal.nD Cert.AttnKIdeal.τ).loc Cert.AttnKIdeal.main_arg1)) (m ((c.tc : Thread Cert.AttnKIdeal.nD Cert.AttnKIdeal.τ).loc Cert.AttnKIdeal.main_arg2)) (m ((c.tc : Thread Cert.AttnKIdeal.nD Cert.AttnKIdeal.τ).loc Cert.AttnKIdeal.main_arg3))).2.1 = (fun _ => 1#1)
    ∧ (Cert.Pre_attn_finite.fn (F := Ideal) (m ((c.tc : Thread Cert.AttnKIdeal.nD Cert.AttnKIdeal.τ).loc Cert.AttnKIdeal.main_arg0)) (m ((c.tc : Thread Cert.AttnKIdeal.nD Cert.AttnKIdeal.τ).loc Cert.AttnKIdeal.main_arg1)) (m ((c.tc : Thread Cert.AttnKIdeal.nD Cert.AttnKIdeal.τ).loc Cert.AttnKIdeal.main_arg2)) (m ((c.tc : Thread Cert.AttnKIdeal.nD Cert.AttnKIdeal.τ).loc Cert.AttnKIdeal.main_arg3))).2.2.1 = (fun _ => 1#1)
    ∧ (Cert.Pre_attn_finite.fn (F := Ideal) (m ((c.tc : Thread Cert.AttnKIdeal.nD Cert.AttnKIdeal.τ).loc Cert.AttnKIdeal.main_arg0)) (m ((c.tc : Thread Cert.AttnKIdeal.nD Cert.AttnKIdeal.τ).loc Cert.AttnKIdeal.main_arg1)) (m ((c.tc : Thread Cert.AttnKIdeal.nD Cert.AttnKIdeal.τ).loc Cert.AttnKIdeal.main_arg2)) (m ((c.tc : Thread Cert.AttnKIdeal.nD Cert.AttnKIdeal.τ).loc Cert.AttnKIdeal.main_arg3))).2.2.2 = (fun _ => 1#1)

def Pre_AttnRIdeal (m : (ℓ : Loc Cert.AttnRIdeal.nD Cert.AttnRIdeal.τ Cert.AttnRIdeal.sig) → Buf (Elt Ideal) ℓ) : Prop :=
  True

def Pre_AttnRIdeal_attn_finite [hPre_attn_finite : Cert.Pre_attn_finite.Facts] (m : (ℓ : Loc Cert.AttnRIdeal.nD Cert.AttnRIdeal.τ Cert.AttnRIdeal.sig) → Buf (Elt Ideal) ℓ) : Prop :=
  ∀ c : Dev Cert.AttnRIdeal.nD,
    (Cert.Pre_attn_finite.fn (F := Ideal) (m ((c.tc : Thread Cert.AttnRIdeal.nD Cert.AttnRIdeal.τ).loc Cert.AttnRIdeal.main_arg0)) (m ((c.tc : Thread Cert.AttnRIdeal.nD Cert.AttnRIdeal.τ).loc Cert.AttnRIdeal.main_arg1)) (m ((c.tc : Thread Cert.AttnRIdeal.nD Cert.AttnRIdeal.τ).loc Cert.AttnRIdeal.main_arg2)) (m ((c.tc : Thread Cert.AttnRIdeal.nD Cert.AttnRIdeal.τ).loc Cert.AttnRIdeal.main_arg3))).1 = (fun _ => 1#1)
    ∧ (Cert.Pre_attn_finite.fn (F := Ideal) (m ((c.tc : Thread Cert.AttnRIdeal.nD Cert.AttnRIdeal.τ).loc Cert.AttnRIdeal.main_arg0)) (m ((c.tc : Thread Cert.AttnRIdeal.nD Cert.AttnRIdeal.τ).loc Cert.AttnRIdeal.main_arg1)) (m ((c.tc : Thread Cert.AttnRIdeal.nD Cert.AttnRIdeal.τ).loc Cert.AttnRIdeal.main_arg2)) (m ((c.tc : Thread Cert.AttnRIdeal.nD Cert.AttnRIdeal.τ).loc Cert.AttnRIdeal.main_arg3))).2.1 = (fun _ => 1#1)
    ∧ (Cert.Pre_attn_finite.fn (F := Ideal) (m ((c.tc : Thread Cert.AttnRIdeal.nD Cert.AttnRIdeal.τ).loc Cert.AttnRIdeal.main_arg0)) (m ((c.tc : Thread Cert.AttnRIdeal.nD Cert.AttnRIdeal.τ).loc Cert.AttnRIdeal.main_arg1)) (m ((c.tc : Thread Cert.AttnRIdeal.nD Cert.AttnRIdeal.τ).loc Cert.AttnRIdeal.main_arg2)) (m ((c.tc : Thread Cert.AttnRIdeal.nD Cert.AttnRIdeal.τ).loc Cert.AttnRIdeal.main_arg3))).2.2.1 = (fun _ => 1#1)
    ∧ (Cert.Pre_attn_finite.fn (F := Ideal) (m ((c.tc : Thread Cert.AttnRIdeal.nD Cert.AttnRIdeal.τ).loc Cert.AttnRIdeal.main_arg0)) (m ((c.tc : Thread Cert.AttnRIdeal.nD Cert.AttnRIdeal.τ).loc Cert.AttnRIdeal.main_arg1)) (m ((c.tc : Thread Cert.AttnRIdeal.nD Cert.AttnRIdeal.τ).loc Cert.AttnRIdeal.main_arg2)) (m ((c.tc : Thread Cert.AttnRIdeal.nD Cert.AttnRIdeal.τ).loc Cert.AttnRIdeal.main_arg3))).2.2.2 = (fun _ => 1#1)

def Pre_MergeK (m : (ℓ : Loc Cert.MergeK.nD Cert.MergeK.τ Cert.MergeK.sig) → Buf (Elt Bits) ℓ) : Prop :=
  True

def Pre_MergeKIdeal (m : (ℓ : Loc Cert.MergeKIdeal.nD Cert.MergeKIdeal.τ Cert.MergeKIdeal.sig) → Buf (Elt Ideal) ℓ) : Prop :=
  True

def Pre_MergeKIdeal_merge_finite [hPre_merge_finite : Cert.Pre_merge_finite.Facts] (m : (ℓ : Loc Cert.MergeKIdeal.nD Cert.MergeKIdeal.τ Cert.MergeKIdeal.sig) → Buf (Elt Ideal) ℓ) : Prop :=
  ∀ c : Dev Cert.MergeKIdeal.nD,
    (Cert.Pre_merge_finite.fn (F := Ideal) (m ((c.tc : Thread Cert.MergeKIdeal.nD Cert.MergeKIdeal.τ).loc Cert.MergeKIdeal.main_arg0)) (m ((c.tc : Thread Cert.MergeKIdeal.nD Cert.MergeKIdeal.τ).loc Cert.MergeKIdeal.main_arg1)) (m ((c.tc : Thread Cert.MergeKIdeal.nD Cert.MergeKIdeal.τ).loc Cert.MergeKIdeal.main_arg2)) (m ((c.tc : Thread Cert.MergeKIdeal.nD Cert.MergeKIdeal.τ).loc Cert.MergeKIdeal.main_arg3)) (m ((c.tc : Thread Cert.MergeKIdeal.nD Cert.MergeKIdeal.τ).loc Cert.MergeKIdeal.main_arg4)) (m ((c.tc : Thread Cert.MergeKIdeal.nD Cert.MergeKIdeal.τ).loc Cert.MergeKIdeal.main_arg5)) (m ((c.tc : Thread Cert.MergeKIdeal.nD Cert.MergeKIdeal.τ).loc Cert.MergeKIdeal.main_arg6)) (m ((c.tc : Thread Cert.MergeKIdeal.nD Cert.MergeKIdeal.τ).loc Cert.MergeKIdeal.main_arg7)) (m ((c.tc : Thread Cert.MergeKIdeal.nD Cert.MergeKIdeal.τ).loc Cert.MergeKIdeal.main_arg8))).1 = (fun _ => 1#1)
    ∧ (Cert.Pre_merge_finite.fn (F := Ideal) (m ((c.tc : Thread Cert.MergeKIdeal.nD Cert.MergeKIdeal.τ).loc Cert.MergeKIdeal.main_arg0)) (m ((c.tc : Thread Cert.MergeKIdeal.nD Cert.MergeKIdeal.τ).loc Cert.MergeKIdeal.main_arg1)) (m ((c.tc : Thread Cert.MergeKIdeal.nD Cert.MergeKIdeal.τ).loc Cert.MergeKIdeal.main_arg2)) (m ((c.tc : Thread Cert.MergeKIdeal.nD Cert.MergeKIdeal.τ).loc Cert.MergeKIdeal.main_arg3)) (m ((c.tc : Thread Cert.MergeKIdeal.nD Cert.MergeKIdeal.τ).loc Cert.MergeKIdeal.main_arg4)) (m ((c.tc : Thread Cert.MergeKIdeal.nD Cert.MergeKIdeal.τ).loc Cert.MergeKIdeal.main_arg5)) (m ((c.tc : Thread Cert.MergeKIdeal.nD Cert.MergeKIdeal.τ).loc Cert.MergeKIdeal.main_arg6)) (m ((c.tc : Thread Cert.MergeKIdeal.nD Cert.MergeKIdeal.τ).loc Cert.MergeKIdeal.main_arg7)) (m ((c.tc : Thread Cert.MergeKIdeal.nD Cert.MergeKIdeal.τ).loc Cert.MergeKIdeal.main_arg8))).2.1 = (fun _ => 1#1)
    ∧ (Cert.Pre_merge_finite.fn (F := Ideal) (m ((c.tc : Thread Cert.MergeKIdeal.nD Cert.MergeKIdeal.τ).loc Cert.MergeKIdeal.main_arg0)) (m ((c.tc : Thread Cert.MergeKIdeal.nD Cert.MergeKIdeal.τ).loc Cert.MergeKIdeal.main_arg1)) (m ((c.tc : Thread Cert.MergeKIdeal.nD Cert.MergeKIdeal.τ).loc Cert.MergeKIdeal.main_arg2)) (m ((c.tc : Thread Cert.MergeKIdeal.nD Cert.MergeKIdeal.τ).loc Cert.MergeKIdeal.main_arg3)) (m ((c.tc : Thread Cert.MergeKIdeal.nD Cert.MergeKIdeal.τ).loc Cert.MergeKIdeal.main_arg4)) (m ((c.tc : Thread Cert.MergeKIdeal.nD Cert.MergeKIdeal.τ).loc Cert.MergeKIdeal.main_arg5)) (m ((c.tc : Thread Cert.MergeKIdeal.nD Cert.MergeKIdeal.τ).loc Cert.MergeKIdeal.main_arg6)) (m ((c.tc : Thread Cert.MergeKIdeal.nD Cert.MergeKIdeal.τ).loc Cert.MergeKIdeal.main_arg7)) (m ((c.tc : Thread Cert.MergeKIdeal.nD Cert.MergeKIdeal.τ).loc Cert.MergeKIdeal.main_arg8))).2.2.1 = (fun _ => 1#1)
    ∧ (Cert.Pre_merge_finite.fn (F := Ideal) (m ((c.tc : Thread Cert.MergeKIdeal.nD Cert.MergeKIdeal.τ).loc Cert.MergeKIdeal.main_arg0)) (m ((c.tc : Thread Cert.MergeKIdeal.nD Cert.MergeKIdeal.τ).loc Cert.MergeKIdeal.main_arg1)) (m ((c.tc : Thread Cert.MergeKIdeal.nD Cert.MergeKIdeal.τ).loc Cert.MergeKIdeal.main_arg2)) (m ((c.tc : Thread Cert.MergeKIdeal.nD Cert.MergeKIdeal.τ).loc Cert.MergeKIdeal.main_arg3)) (m ((c.tc : Thread Cert.MergeKIdeal.nD Cert.MergeKIdeal.τ).loc Cert.MergeKIdeal.main_arg4)) (m ((c.tc : Thread Cert.MergeKIdeal.nD Cert.MergeKIdeal.τ).loc Cert.MergeKIdeal.main_arg5)) (m ((c.tc : Thread Cert.MergeKIdeal.nD Cert.MergeKIdeal.τ).loc Cert.MergeKIdeal.main_arg6)) (m ((c.tc : Thread Cert.MergeKIdeal.nD Cert.MergeKIdeal.τ).loc Cert.MergeKIdeal.main_arg7)) (m ((c.tc : Thread Cert.MergeKIdeal.nD Cert.MergeKIdeal.τ).loc Cert.MergeKIdeal.main_arg8))).2.2.2.1 = (fun _ => 1#1)
    ∧ (Cert.Pre_merge_finite.fn (F := Ideal) (m ((c.tc : Thread Cert.MergeKIdeal.nD Cert.MergeKIdeal.τ).loc Cert.MergeKIdeal.main_arg0)) (m ((c.tc : Thread Cert.MergeKIdeal.nD Cert.MergeKIdeal.τ).loc Cert.MergeKIdeal.main_arg1)) (m ((c.tc : Thread Cert.MergeKIdeal.nD Cert.MergeKIdeal.τ).loc Cert.MergeKIdeal.main_arg2)) (m ((c.tc : Thread Cert.MergeKIdeal.nD Cert.MergeKIdeal.τ).loc Cert.MergeKIdeal.main_arg3)) (m ((c.tc : Thread Cert.MergeKIdeal.nD Cert.MergeKIdeal.τ).loc Cert.MergeKIdeal.main_arg4)) (m ((c.tc : Thread Cert.MergeKIdeal.nD Cert.MergeKIdeal.τ).loc Cert.MergeKIdeal.main_arg5)) (m ((c.tc : Thread Cert.MergeKIdeal.nD Cert.MergeKIdeal.τ).loc Cert.MergeKIdeal.main_arg6)) (m ((c.tc : Thread Cert.MergeKIdeal.nD Cert.MergeKIdeal.τ).loc Cert.MergeKIdeal.main_arg7)) (m ((c.tc : Thread Cert.MergeKIdeal.nD Cert.MergeKIdeal.τ).loc Cert.MergeKIdeal.main_arg8))).2.2.2.2.1 = (fun _ => 1#1)
    ∧ (Cert.Pre_merge_finite.fn (F := Ideal) (m ((c.tc : Thread Cert.MergeKIdeal.nD Cert.MergeKIdeal.τ).loc Cert.MergeKIdeal.main_arg0)) (m ((c.tc : Thread Cert.MergeKIdeal.nD Cert.MergeKIdeal.τ).loc Cert.MergeKIdeal.main_arg1)) (m ((c.tc : Thread Cert.MergeKIdeal.nD Cert.MergeKIdeal.τ).loc Cert.MergeKIdeal.main_arg2)) (m ((c.tc : Thread Cert.MergeKIdeal.nD Cert.MergeKIdeal.τ).loc Cert.MergeKIdeal.main_arg3)) (m ((c.tc : Thread Cert.MergeKIdeal.nD Cert.MergeKIdeal.τ).loc Cert.MergeKIdeal.main_arg4)) (m ((c.tc : Thread Cert.MergeKIdeal.nD Cert.MergeKIdeal.τ).loc Cert.MergeKIdeal.main_arg5)) (m ((c.tc : Thread Cert.MergeKIdeal.nD Cert.MergeKIdeal.τ).loc Cert.MergeKIdeal.main_arg6)) (m ((c.tc : Thread Cert.MergeKIdeal.nD Cert.MergeKIdeal.τ).loc Cert.MergeKIdeal.main_arg7)) (m ((c.tc : Thread Cert.MergeKIdeal.nD Cert.MergeKIdeal.τ).loc Cert.MergeKIdeal.main_arg8))).2.2.2.2.2 = (fun _ => 1#1)

def Pre_MergeRIdeal (m : (ℓ : Loc Cert.MergeRIdeal.nD Cert.MergeRIdeal.τ Cert.MergeRIdeal.sig) → Buf (Elt Ideal) ℓ) : Prop :=
  True

def Pre_MergeRIdeal_merge_finite [hPre_merge_finite : Cert.Pre_merge_finite.Facts] (m : (ℓ : Loc Cert.MergeRIdeal.nD Cert.MergeRIdeal.τ Cert.MergeRIdeal.sig) → Buf (Elt Ideal) ℓ) : Prop :=
  ∀ c : Dev Cert.MergeRIdeal.nD,
    (Cert.Pre_merge_finite.fn (F := Ideal) (m ((c.tc : Thread Cert.MergeRIdeal.nD Cert.MergeRIdeal.τ).loc Cert.MergeRIdeal.main_arg0)) (m ((c.tc : Thread Cert.MergeRIdeal.nD Cert.MergeRIdeal.τ).loc Cert.MergeRIdeal.main_arg1)) (m ((c.tc : Thread Cert.MergeRIdeal.nD Cert.MergeRIdeal.τ).loc Cert.MergeRIdeal.main_arg2)) (m ((c.tc : Thread Cert.MergeRIdeal.nD Cert.MergeRIdeal.τ).loc Cert.MergeRIdeal.main_arg3)) (m ((c.tc : Thread Cert.MergeRIdeal.nD Cert.MergeRIdeal.τ).loc Cert.MergeRIdeal.main_arg4)) (m ((c.tc : Thread Cert.MergeRIdeal.nD Cert.MergeRIdeal.τ).loc Cert.MergeRIdeal.main_arg5)) (m ((c.tc : Thread Cert.MergeRIdeal.nD Cert.MergeRIdeal.τ).loc Cert.MergeRIdeal.main_arg6)) (m ((c.tc : Thread Cert.MergeRIdeal.nD Cert.MergeRIdeal.τ).loc Cert.MergeRIdeal.main_arg7)) (m ((c.tc : Thread Cert.MergeRIdeal.nD Cert.MergeRIdeal.τ).loc Cert.MergeRIdeal.main_arg8))).1 = (fun _ => 1#1)
    ∧ (Cert.Pre_merge_finite.fn (F := Ideal) (m ((c.tc : Thread Cert.MergeRIdeal.nD Cert.MergeRIdeal.τ).loc Cert.MergeRIdeal.main_arg0)) (m ((c.tc : Thread Cert.MergeRIdeal.nD Cert.MergeRIdeal.τ).loc Cert.MergeRIdeal.main_arg1)) (m ((c.tc : Thread Cert.MergeRIdeal.nD Cert.MergeRIdeal.τ).loc Cert.MergeRIdeal.main_arg2)) (m ((c.tc : Thread Cert.MergeRIdeal.nD Cert.MergeRIdeal.τ).loc Cert.MergeRIdeal.main_arg3)) (m ((c.tc : Thread Cert.MergeRIdeal.nD Cert.MergeRIdeal.τ).loc Cert.MergeRIdeal.main_arg4)) (m ((c.tc : Thread Cert.MergeRIdeal.nD Cert.MergeRIdeal.τ).loc Cert.MergeRIdeal.main_arg5)) (m ((c.tc : Thread Cert.MergeRIdeal.nD Cert.MergeRIdeal.τ).loc Cert.MergeRIdeal.main_arg6)) (m ((c.tc : Thread Cert.MergeRIdeal.nD Cert.MergeRIdeal.τ).loc Cert.MergeRIdeal.main_arg7)) (m ((c.tc : Thread Cert.MergeRIdeal.nD Cert.MergeRIdeal.τ).loc Cert.MergeRIdeal.main_arg8))).2.1 = (fun _ => 1#1)
    ∧ (Cert.Pre_merge_finite.fn (F := Ideal) (m ((c.tc : Thread Cert.MergeRIdeal.nD Cert.MergeRIdeal.τ).loc Cert.MergeRIdeal.main_arg0)) (m ((c.tc : Thread Cert.MergeRIdeal.nD Cert.MergeRIdeal.τ).loc Cert.MergeRIdeal.main_arg1)) (m ((c.tc : Thread Cert.MergeRIdeal.nD Cert.MergeRIdeal.τ).loc Cert.MergeRIdeal.main_arg2)) (m ((c.tc : Thread Cert.MergeRIdeal.nD Cert.MergeRIdeal.τ).loc Cert.MergeRIdeal.main_arg3)) (m ((c.tc : Thread Cert.MergeRIdeal.nD Cert.MergeRIdeal.τ).loc Cert.MergeRIdeal.main_arg4)) (m ((c.tc : Thread Cert.MergeRIdeal.nD Cert.MergeRIdeal.τ).loc Cert.MergeRIdeal.main_arg5)) (m ((c.tc : Thread Cert.MergeRIdeal.nD Cert.MergeRIdeal.τ).loc Cert.MergeRIdeal.main_arg6)) (m ((c.tc : Thread Cert.MergeRIdeal.nD Cert.MergeRIdeal.τ).loc Cert.MergeRIdeal.main_arg7)) (m ((c.tc : Thread Cert.MergeRIdeal.nD Cert.MergeRIdeal.τ).loc Cert.MergeRIdeal.main_arg8))).2.2.1 = (fun _ => 1#1)
    ∧ (Cert.Pre_merge_finite.fn (F := Ideal) (m ((c.tc : Thread Cert.MergeRIdeal.nD Cert.MergeRIdeal.τ).loc Cert.MergeRIdeal.main_arg0)) (m ((c.tc : Thread Cert.MergeRIdeal.nD Cert.MergeRIdeal.τ).loc Cert.MergeRIdeal.main_arg1)) (m ((c.tc : Thread Cert.MergeRIdeal.nD Cert.MergeRIdeal.τ).loc Cert.MergeRIdeal.main_arg2)) (m ((c.tc : Thread Cert.MergeRIdeal.nD Cert.MergeRIdeal.τ).loc Cert.MergeRIdeal.main_arg3)) (m ((c.tc : Thread Cert.MergeRIdeal.nD Cert.MergeRIdeal.τ).loc Cert.MergeRIdeal.main_arg4)) (m ((c.tc : Thread Cert.MergeRIdeal.nD Cert.MergeRIdeal.τ).loc Cert.MergeRIdeal.main_arg5)) (m ((c.tc : Thread Cert.MergeRIdeal.nD Cert.MergeRIdeal.τ).loc Cert.MergeRIdeal.main_arg6)) (m ((c.tc : Thread Cert.MergeRIdeal.nD Cert.MergeRIdeal.τ).loc Cert.MergeRIdeal.main_arg7)) (m ((c.tc : Thread Cert.MergeRIdeal.nD Cert.MergeRIdeal.τ).loc Cert.MergeRIdeal.main_arg8))).2.2.2.1 = (fun _ => 1#1)
    ∧ (Cert.Pre_merge_finite.fn (F := Ideal) (m ((c.tc : Thread Cert.MergeRIdeal.nD Cert.MergeRIdeal.τ).loc Cert.MergeRIdeal.main_arg0)) (m ((c.tc : Thread Cert.MergeRIdeal.nD Cert.MergeRIdeal.τ).loc Cert.MergeRIdeal.main_arg1)) (m ((c.tc : Thread Cert.MergeRIdeal.nD Cert.MergeRIdeal.τ).loc Cert.MergeRIdeal.main_arg2)) (m ((c.tc : Thread Cert.MergeRIdeal.nD Cert.MergeRIdeal.τ).loc Cert.MergeRIdeal.main_arg3)) (m ((c.tc : Thread Cert.MergeRIdeal.nD Cert.MergeRIdeal.τ).loc Cert.MergeRIdeal.main_arg4)) (m ((c.tc : Thread Cert.MergeRIdeal.nD Cert.MergeRIdeal.τ).loc Cert.MergeRIdeal.main_arg5)) (m ((c.tc : Thread Cert.MergeRIdeal.nD Cert.MergeRIdeal.τ).loc Cert.MergeRIdeal.main_arg6)) (m ((c.tc : Thread Cert.MergeRIdeal.nD Cert.MergeRIdeal.τ).loc Cert.MergeRIdeal.main_arg7)) (m ((c.tc : Thread Cert.MergeRIdeal.nD Cert.MergeRIdeal.τ).loc Cert.MergeRIdeal.main_arg8))).2.2.2.2.1 = (fun _ => 1#1)
    ∧ (Cert.Pre_merge_finite.fn (F := Ideal) (m ((c.tc : Thread Cert.MergeRIdeal.nD Cert.MergeRIdeal.τ).loc Cert.MergeRIdeal.main_arg0)) (m ((c.tc : Thread Cert.MergeRIdeal.nD Cert.MergeRIdeal.τ).loc Cert.MergeRIdeal.main_arg1)) (m ((c.tc : Thread Cert.MergeRIdeal.nD Cert.MergeRIdeal.τ).loc Cert.MergeRIdeal.main_arg2)) (m ((c.tc : Thread Cert.MergeRIdeal.nD Cert.MergeRIdeal.τ).loc Cert.MergeRIdeal.main_arg3)) (m ((c.tc : Thread Cert.MergeRIdeal.nD Cert.MergeRIdeal.τ).loc Cert.MergeRIdeal.main_arg4)) (m ((c.tc : Thread Cert.MergeRIdeal.nD Cert.MergeRIdeal.τ).loc Cert.MergeRIdeal.main_arg5)) (m ((c.tc : Thread Cert.MergeRIdeal.nD Cert.MergeRIdeal.τ).loc Cert.MergeRIdeal.main_arg6)) (m ((c.tc : Thread Cert.MergeRIdeal.nD Cert.MergeRIdeal.τ).loc Cert.MergeRIdeal.main_arg7)) (m ((c.tc : Thread Cert.MergeRIdeal.nD Cert.MergeRIdeal.τ).loc Cert.MergeRIdeal.main_arg8))).2.2.2.2.2 = (fun _ => 1#1)

def Pre_FwdK (m : (ℓ : Loc Cert.FwdK.nD Cert.FwdK.τ Cert.FwdK.sig) → Buf (Elt Bits) ℓ) : Prop :=
  True

def Pre_FwdKIdeal (m : (ℓ : Loc Cert.FwdKIdeal.nD Cert.FwdKIdeal.τ Cert.FwdKIdeal.sig) → Buf (Elt Ideal) ℓ) : Prop :=
  True

def Pre_FwdKIdeal_fwd_finite [hPre_fwd_finite : Cert.Pre_fwd_finite.Facts] (m : (ℓ : Loc Cert.FwdKIdeal.nD Cert.FwdKIdeal.τ Cert.FwdKIdeal.sig) → Buf (Elt Ideal) ℓ) : Prop :=
  ∀ c : Dev Cert.FwdKIdeal.nD,
    (Cert.Pre_fwd_finite.fn (F := Ideal) (m ((c.tc : Thread Cert.FwdKIdeal.nD Cert.FwdKIdeal.τ).loc Cert.FwdKIdeal.main_arg0)) (m ((c.tc : Thread Cert.FwdKIdeal.nD Cert.FwdKIdeal.τ).loc Cert.FwdKIdeal.main_arg1)) (m ((c.tc : Thread Cert.FwdKIdeal.nD Cert.FwdKIdeal.τ).loc Cert.FwdKIdeal.main_arg2))).1 = (fun _ => 1#1)
    ∧ (Cert.Pre_fwd_finite.fn (F := Ideal) (m ((c.tc : Thread Cert.FwdKIdeal.nD Cert.FwdKIdeal.τ).loc Cert.FwdKIdeal.main_arg0)) (m ((c.tc : Thread Cert.FwdKIdeal.nD Cert.FwdKIdeal.τ).loc Cert.FwdKIdeal.main_arg1)) (m ((c.tc : Thread Cert.FwdKIdeal.nD Cert.FwdKIdeal.τ).loc Cert.FwdKIdeal.main_arg2))).2.1 = (fun _ => 1#1)
    ∧ (Cert.Pre_fwd_finite.fn (F := Ideal) (m ((c.tc : Thread Cert.FwdKIdeal.nD Cert.FwdKIdeal.τ).loc Cert.FwdKIdeal.main_arg0)) (m ((c.tc : Thread Cert.FwdKIdeal.nD Cert.FwdKIdeal.τ).loc Cert.FwdKIdeal.main_arg1)) (m ((c.tc : Thread Cert.FwdKIdeal.nD Cert.FwdKIdeal.τ).loc Cert.FwdKIdeal.main_arg2))).2.2 = (fun _ => 1#1)

def Pre_FwdRIdeal (m : (ℓ : Loc Cert.FwdRIdeal.nD Cert.FwdRIdeal.τ Cert.FwdRIdeal.sig) → Buf (Elt Ideal) ℓ) : Prop :=
  True

def Pre_FwdRIdeal_fwd_finite [hPre_fwd_finite : Cert.Pre_fwd_finite.Facts] (m : (ℓ : Loc Cert.FwdRIdeal.nD Cert.FwdRIdeal.τ Cert.FwdRIdeal.sig) → Buf (Elt Ideal) ℓ) : Prop :=
  ∀ c : Dev Cert.FwdRIdeal.nD,
    (Cert.Pre_fwd_finite.fn (F := Ideal) (m ((c.tc : Thread Cert.FwdRIdeal.nD Cert.FwdRIdeal.τ).loc Cert.FwdRIdeal.main_arg0)) (m ((c.tc : Thread Cert.FwdRIdeal.nD Cert.FwdRIdeal.τ).loc Cert.FwdRIdeal.main_arg1)) (m ((c.tc : Thread Cert.FwdRIdeal.nD Cert.FwdRIdeal.τ).loc Cert.FwdRIdeal.main_arg2))).1 = (fun _ => 1#1)
    ∧ (Cert.Pre_fwd_finite.fn (F := Ideal) (m ((c.tc : Thread Cert.FwdRIdeal.nD Cert.FwdRIdeal.τ).loc Cert.FwdRIdeal.main_arg0)) (m ((c.tc : Thread Cert.FwdRIdeal.nD Cert.FwdRIdeal.τ).loc Cert.FwdRIdeal.main_arg1)) (m ((c.tc : Thread Cert.FwdRIdeal.nD Cert.FwdRIdeal.τ).loc Cert.FwdRIdeal.main_arg2))).2.1 = (fun _ => 1#1)
    ∧ (Cert.Pre_fwd_finite.fn (F := Ideal) (m ((c.tc : Thread Cert.FwdRIdeal.nD Cert.FwdRIdeal.τ).loc Cert.FwdRIdeal.main_arg0)) (m ((c.tc : Thread Cert.FwdRIdeal.nD Cert.FwdRIdeal.τ).loc Cert.FwdRIdeal.main_arg1)) (m ((c.tc : Thread Cert.FwdRIdeal.nD Cert.FwdRIdeal.τ).loc Cert.FwdRIdeal.main_arg2))).2.2 = (fun _ => 1#1)

def Pre_MlpK (m : (ℓ : Loc Cert.MlpK.nD Cert.MlpK.τ Cert.MlpK.sig) → Buf (Elt Bits) ℓ) : Prop :=
  True

def Pre_MlpKIdeal (m : (ℓ : Loc Cert.MlpKIdeal.nD Cert.MlpKIdeal.τ Cert.MlpKIdeal.sig) → Buf (Elt Ideal) ℓ) : Prop :=
  True

def Pre_MlpKIdeal_mlp_finite [hPre_mlp_finite : Cert.Pre_mlp_finite.Facts] (m : (ℓ : Loc Cert.MlpKIdeal.nD Cert.MlpKIdeal.τ Cert.MlpKIdeal.sig) → Buf (Elt Ideal) ℓ) : Prop :=
  ∀ c : Dev Cert.MlpKIdeal.nD,
    (Cert.Pre_mlp_finite.fn (F := Ideal) (m ((c.tc : Thread Cert.MlpKIdeal.nD Cert.MlpKIdeal.τ).loc Cert.MlpKIdeal.main_arg0)) (m ((c.tc : Thread Cert.MlpKIdeal.nD Cert.MlpKIdeal.τ).loc Cert.MlpKIdeal.main_arg1)) (m ((c.tc : Thread Cert.MlpKIdeal.nD Cert.MlpKIdeal.τ).loc Cert.MlpKIdeal.main_arg2)) (m ((c.tc : Thread Cert.MlpKIdeal.nD Cert.MlpKIdeal.τ).loc Cert.MlpKIdeal.main_arg3)) (m ((c.tc : Thread Cert.MlpKIdeal.nD Cert.MlpKIdeal.τ).loc Cert.MlpKIdeal.main_arg4)) (m ((c.tc : Thread Cert.MlpKIdeal.nD Cert.MlpKIdeal.τ).loc Cert.MlpKIdeal.main_arg5))).1 = (fun _ => 1#1)
    ∧ (Cert.Pre_mlp_finite.fn (F := Ideal) (m ((c.tc : Thread Cert.MlpKIdeal.nD Cert.MlpKIdeal.τ).loc Cert.MlpKIdeal.main_arg0)) (m ((c.tc : Thread Cert.MlpKIdeal.nD Cert.MlpKIdeal.τ).loc Cert.MlpKIdeal.main_arg1)) (m ((c.tc : Thread Cert.MlpKIdeal.nD Cert.MlpKIdeal.τ).loc Cert.MlpKIdeal.main_arg2)) (m ((c.tc : Thread Cert.MlpKIdeal.nD Cert.MlpKIdeal.τ).loc Cert.MlpKIdeal.main_arg3)) (m ((c.tc : Thread Cert.MlpKIdeal.nD Cert.MlpKIdeal.τ).loc Cert.MlpKIdeal.main_arg4)) (m ((c.tc : Thread Cert.MlpKIdeal.nD Cert.MlpKIdeal.τ).loc Cert.MlpKIdeal.main_arg5))).2.1 = (fun _ => 1#1)
    ∧ (Cert.Pre_mlp_finite.fn (F := Ideal) (m ((c.tc : Thread Cert.MlpKIdeal.nD Cert.MlpKIdeal.τ).loc Cert.MlpKIdeal.main_arg0)) (m ((c.tc : Thread Cert.MlpKIdeal.nD Cert.MlpKIdeal.τ).loc Cert.MlpKIdeal.main_arg1)) (m ((c.tc : Thread Cert.MlpKIdeal.nD Cert.MlpKIdeal.τ).loc Cert.MlpKIdeal.main_arg2)) (m ((c.tc : Thread Cert.MlpKIdeal.nD Cert.MlpKIdeal.τ).loc Cert.MlpKIdeal.main_arg3)) (m ((c.tc : Thread Cert.MlpKIdeal.nD Cert.MlpKIdeal.τ).loc Cert.MlpKIdeal.main_arg4)) (m ((c.tc : Thread Cert.MlpKIdeal.nD Cert.MlpKIdeal.τ).loc Cert.MlpKIdeal.main_arg5))).2.2.1 = (fun _ => 1#1)
    ∧ (Cert.Pre_mlp_finite.fn (F := Ideal) (m ((c.tc : Thread Cert.MlpKIdeal.nD Cert.MlpKIdeal.τ).loc Cert.MlpKIdeal.main_arg0)) (m ((c.tc : Thread Cert.MlpKIdeal.nD Cert.MlpKIdeal.τ).loc Cert.MlpKIdeal.main_arg1)) (m ((c.tc : Thread Cert.MlpKIdeal.nD Cert.MlpKIdeal.τ).loc Cert.MlpKIdeal.main_arg2)) (m ((c.tc : Thread Cert.MlpKIdeal.nD Cert.MlpKIdeal.τ).loc Cert.MlpKIdeal.main_arg3)) (m ((c.tc : Thread Cert.MlpKIdeal.nD Cert.MlpKIdeal.τ).loc Cert.MlpKIdeal.main_arg4)) (m ((c.tc : Thread Cert.MlpKIdeal.nD Cert.MlpKIdeal.τ).loc Cert.MlpKIdeal.main_arg5))).2.2.2.1 = (fun _ => 1#1)
    ∧ (Cert.Pre_mlp_finite.fn (F := Ideal) (m ((c.tc : Thread Cert.MlpKIdeal.nD Cert.MlpKIdeal.τ).loc Cert.MlpKIdeal.main_arg0)) (m ((c.tc : Thread Cert.MlpKIdeal.nD Cert.MlpKIdeal.τ).loc Cert.MlpKIdeal.main_arg1)) (m ((c.tc : Thread Cert.MlpKIdeal.nD Cert.MlpKIdeal.τ).loc Cert.MlpKIdeal.main_arg2)) (m ((c.tc : Thread Cert.MlpKIdeal.nD Cert.MlpKIdeal.τ).loc Cert.MlpKIdeal.main_arg3)) (m ((c.tc : Thread Cert.MlpKIdeal.nD Cert.MlpKIdeal.τ).loc Cert.MlpKIdeal.main_arg4)) (m ((c.tc : Thread Cert.MlpKIdeal.nD Cert.MlpKIdeal.τ).loc Cert.MlpKIdeal.main_arg5))).2.2.2.2.1 = (fun _ => 1#1)
    ∧ (Cert.Pre_mlp_finite.fn (F := Ideal) (m ((c.tc : Thread Cert.MlpKIdeal.nD Cert.MlpKIdeal.τ).loc Cert.MlpKIdeal.main_arg0)) (m ((c.tc : Thread Cert.MlpKIdeal.nD Cert.MlpKIdeal.τ).loc Cert.MlpKIdeal.main_arg1)) (m ((c.tc : Thread Cert.MlpKIdeal.nD Cert.MlpKIdeal.τ).loc Cert.MlpKIdeal.main_arg2)) (m ((c.tc : Thread Cert.MlpKIdeal.nD Cert.MlpKIdeal.τ).loc Cert.MlpKIdeal.main_arg3)) (m ((c.tc : Thread Cert.MlpKIdeal.nD Cert.MlpKIdeal.τ).loc Cert.MlpKIdeal.main_arg4)) (m ((c.tc : Thread Cert.MlpKIdeal.nD Cert.MlpKIdeal.τ).loc Cert.MlpKIdeal.main_arg5))).2.2.2.2.2 = (fun _ => 1#1)

def Pre_MlpRIdeal (m : (ℓ : Loc Cert.MlpRIdeal.nD Cert.MlpRIdeal.τ Cert.MlpRIdeal.sig) → Buf (Elt Ideal) ℓ) : Prop :=
  True

def Pre_MlpRIdeal_mlp_finite [hPre_mlp_finite : Cert.Pre_mlp_finite.Facts] (m : (ℓ : Loc Cert.MlpRIdeal.nD Cert.MlpRIdeal.τ Cert.MlpRIdeal.sig) → Buf (Elt Ideal) ℓ) : Prop :=
  ∀ c : Dev Cert.MlpRIdeal.nD,
    (Cert.Pre_mlp_finite.fn (F := Ideal) (m ((c.tc : Thread Cert.MlpRIdeal.nD Cert.MlpRIdeal.τ).loc Cert.MlpRIdeal.main_arg0)) (m ((c.tc : Thread Cert.MlpRIdeal.nD Cert.MlpRIdeal.τ).loc Cert.MlpRIdeal.main_arg1)) (m ((c.tc : Thread Cert.MlpRIdeal.nD Cert.MlpRIdeal.τ).loc Cert.MlpRIdeal.main_arg2)) (m ((c.tc : Thread Cert.MlpRIdeal.nD Cert.MlpRIdeal.τ).loc Cert.MlpRIdeal.main_arg3)) (m ((c.tc : Thread Cert.MlpRIdeal.nD Cert.MlpRIdeal.τ).loc Cert.MlpRIdeal.main_arg4)) (m ((c.tc : Thread Cert.MlpRIdeal.nD Cert.MlpRIdeal.τ).loc Cert.MlpRIdeal.main_arg5))).1 = (fun _ => 1#1)
    ∧ (Cert.Pre_mlp_finite.fn (F := Ideal) (m ((c.tc : Thread Cert.MlpRIdeal.nD Cert.MlpRIdeal.τ).loc Cert.MlpRIdeal.main_arg0)) (m ((c.tc : Thread Cert.MlpRIdeal.nD Cert.MlpRIdeal.τ).loc Cert.MlpRIdeal.main_arg1)) (m ((c.tc : Thread Cert.MlpRIdeal.nD Cert.MlpRIdeal.τ).loc Cert.MlpRIdeal.main_arg2)) (m ((c.tc : Thread Cert.MlpRIdeal.nD Cert.MlpRIdeal.τ).loc Cert.MlpRIdeal.main_arg3)) (m ((c.tc : Thread Cert.MlpRIdeal.nD Cert.MlpRIdeal.τ).loc Cert.MlpRIdeal.main_arg4)) (m ((c.tc : Thread Cert.MlpRIdeal.nD Cert.MlpRIdeal.τ).loc Cert.MlpRIdeal.main_arg5))).2.1 = (fun _ => 1#1)
    ∧ (Cert.Pre_mlp_finite.fn (F := Ideal) (m ((c.tc : Thread Cert.MlpRIdeal.nD Cert.MlpRIdeal.τ).loc Cert.MlpRIdeal.main_arg0)) (m ((c.tc : Thread Cert.MlpRIdeal.nD Cert.MlpRIdeal.τ).loc Cert.MlpRIdeal.main_arg1)) (m ((c.tc : Thread Cert.MlpRIdeal.nD Cert.MlpRIdeal.τ).loc Cert.MlpRIdeal.main_arg2)) (m ((c.tc : Thread Cert.MlpRIdeal.nD Cert.MlpRIdeal.τ).loc Cert.MlpRIdeal.main_arg3)) (m ((c.tc : Thread Cert.MlpRIdeal.nD Cert.MlpRIdeal.τ).loc Cert.MlpRIdeal.main_arg4)) (m ((c.tc : Thread Cert.MlpRIdeal.nD Cert.MlpRIdeal.τ).loc Cert.MlpRIdeal.main_arg5))).2.2.1 = (fun _ => 1#1)
    ∧ (Cert.Pre_mlp_finite.fn (F := Ideal) (m ((c.tc : Thread Cert.MlpRIdeal.nD Cert.MlpRIdeal.τ).loc Cert.MlpRIdeal.main_arg0)) (m ((c.tc : Thread Cert.MlpRIdeal.nD Cert.MlpRIdeal.τ).loc Cert.MlpRIdeal.main_arg1)) (m ((c.tc : Thread Cert.MlpRIdeal.nD Cert.MlpRIdeal.τ).loc Cert.MlpRIdeal.main_arg2)) (m ((c.tc : Thread Cert.MlpRIdeal.nD Cert.MlpRIdeal.τ).loc Cert.MlpRIdeal.main_arg3)) (m ((c.tc : Thread Cert.MlpRIdeal.nD Cert.MlpRIdeal.τ).loc Cert.MlpRIdeal.main_arg4)) (m ((c.tc : Thread Cert.MlpRIdeal.nD Cert.MlpRIdeal.τ).loc Cert.MlpRIdeal.main_arg5))).2.2.2.1 = (fun _ => 1#1)
    ∧ (Cert.Pre_mlp_finite.fn (F := Ideal) (m ((c.tc : Thread Cert.MlpRIdeal.nD Cert.MlpRIdeal.τ).loc Cert.MlpRIdeal.main_arg0)) (m ((c.tc : Thread Cert.MlpRIdeal.nD Cert.MlpRIdeal.τ).loc Cert.MlpRIdeal.main_arg1)) (m ((c.tc : Thread Cert.MlpRIdeal.nD Cert.MlpRIdeal.τ).loc Cert.MlpRIdeal.main_arg2)) (m ((c.tc : Thread Cert.MlpRIdeal.nD Cert.MlpRIdeal.τ).loc Cert.MlpRIdeal.main_arg3)) (m ((c.tc : Thread Cert.MlpRIdeal.nD Cert.MlpRIdeal.τ).loc Cert.MlpRIdeal.main_arg4)) (m ((c.tc : Thread Cert.MlpRIdeal.nD Cert.MlpRIdeal.τ).loc Cert.MlpRIdeal.main_arg5))).2.2.2.2.1 = (fun _ => 1#1)
    ∧ (Cert.Pre_mlp_finite.fn (F := Ideal) (m ((c.tc : Thread Cert.MlpRIdeal.nD Cert.MlpRIdeal.τ).loc Cert.MlpRIdeal.main_arg0)) (m ((c.tc : Thread Cert.MlpRIdeal.nD Cert.MlpRIdeal.τ).loc Cert.MlpRIdeal.main_arg1)) (m ((c.tc : Thread Cert.MlpRIdeal.nD Cert.MlpRIdeal.τ).loc Cert.MlpRIdeal.main_arg2)) (m ((c.tc : Thread Cert.MlpRIdeal.nD Cert.MlpRIdeal.τ).loc Cert.MlpRIdeal.main_arg3)) (m ((c.tc : Thread Cert.MlpRIdeal.nD Cert.MlpRIdeal.τ).loc Cert.MlpRIdeal.main_arg4)) (m ((c.tc : Thread Cert.MlpRIdeal.nD Cert.MlpRIdeal.τ).loc Cert.MlpRIdeal.main_arg5))).2.2.2.2.2 = (fun _ => 1#1)

def Pre_InbK (m : (ℓ : Loc Cert.InbK.nD Cert.InbK.τ Cert.InbK.sig) → Buf (Elt Bits) ℓ) : Prop :=
  True

def Pre_InbKIdeal (m : (ℓ : Loc Cert.InbKIdeal.nD Cert.InbKIdeal.τ Cert.InbKIdeal.sig) → Buf (Elt Ideal) ℓ) : Prop :=
  True

def Pre_InbKIdeal_inb_finite [hPre_inb_finite : Cert.Pre_inb_finite.Facts] (m : (ℓ : Loc Cert.InbKIdeal.nD Cert.InbKIdeal.τ Cert.InbKIdeal.sig) → Buf (Elt Ideal) ℓ) : Prop :=
  ∀ c : Dev Cert.InbKIdeal.nD,
    (Cert.Pre_inb_finite.fn (F := Ideal) (m ((c.tc : Thread Cert.InbKIdeal.nD Cert.InbKIdeal.τ).loc Cert.InbKIdeal.main_arg0)) (m ((c.tc : Thread Cert.InbKIdeal.nD Cert.InbKIdeal.τ).loc Cert.InbKIdeal.main_arg1)) (m ((c.tc : Thread Cert.InbKIdeal.nD Cert.InbKIdeal.τ).loc Cert.InbKIdeal.main_arg2)) (m ((c.tc : Thread Cert.InbKIdeal.nD Cert.InbKIdeal.τ).loc Cert.InbKIdeal.main_arg3)) (m ((c.tc : Thread Cert.InbKIdeal.nD Cert.InbKIdeal.τ).loc Cert.InbKIdeal.main_arg4)) (m ((c.tc : Thread Cert.InbKIdeal.nD Cert.InbKIdeal.τ).loc Cert.InbKIdeal.main_arg5))).1 = (fun _ => 1#1)
    ∧ (Cert.Pre_inb_finite.fn (F := Ideal) (m ((c.tc : Thread Cert.InbKIdeal.nD Cert.InbKIdeal.τ).loc Cert.InbKIdeal.main_arg0)) (m ((c.tc : Thread Cert.InbKIdeal.nD Cert.InbKIdeal.τ).loc Cert.InbKIdeal.main_arg1)) (m ((c.tc : Thread Cert.InbKIdeal.nD Cert.InbKIdeal.τ).loc Cert.InbKIdeal.main_arg2)) (m ((c.tc : Thread Cert.InbKIdeal.nD Cert.InbKIdeal.τ).loc Cert.InbKIdeal.main_arg3)) (m ((c.tc : Thread Cert.InbKIdeal.nD Cert.InbKIdeal.τ).loc Cert.InbKIdeal.main_arg4)) (m ((c.tc : Thread Cert.InbKIdeal.nD Cert.InbKIdeal.τ).loc Cert.InbKIdeal.main_arg5))).2.1 = (fun _ => 1#1)
    ∧ (Cert.Pre_inb_finite.fn (F := Ideal) (m ((c.tc : Thread Cert.InbKIdeal.nD Cert.InbKIdeal.τ).loc Cert.InbKIdeal.main_arg0)) (m ((c.tc : Thread Cert.InbKIdeal.nD Cert.InbKIdeal.τ).loc Cert.InbKIdeal.main_arg1)) (m ((c.tc : Thread Cert.InbKIdeal.nD Cert.InbKIdeal.τ).loc Cert.InbKIdeal.main_arg2)) (m ((c.tc : Thread Cert.InbKIdeal.nD Cert.InbKIdeal.τ).loc Cert.InbKIdeal.main_arg3)) (m ((c.tc : Thread Cert.InbKIdeal.nD Cert.InbKIdeal.τ).loc Cert.InbKIdeal.main_arg4)) (m ((c.tc : Thread Cert.InbKIdeal.nD Cert.InbKIdeal.τ).loc Cert.InbKIdeal.main_arg5))).2.2.1 = (fun _ => 1#1)
    ∧ (Cert.Pre_inb_finite.fn (F := Ideal) (m ((c.tc : Thread Cert.InbKIdeal.nD Cert.InbKIdeal.τ).loc Cert.InbKIdeal.main_arg0)) (m ((c.tc : Thread Cert.InbKIdeal.nD Cert.InbKIdeal.τ).loc Cert.InbKIdeal.main_arg1)) (m ((c.tc : Thread Cert.InbKIdeal.nD Cert.InbKIdeal.τ).loc Cert.InbKIdeal.main_arg2)) (m ((c.tc : Thread Cert.InbKIdeal.nD Cert.InbKIdeal.τ).loc Cert.InbKIdeal.main_arg3)) (m ((c.tc : Thread Cert.InbKIdeal.nD Cert.InbKIdeal.τ).loc Cert.InbKIdeal.main_arg4)) (m ((c.tc : Thread Cert.InbKIdeal.nD Cert.InbKIdeal.τ).loc Cert.InbKIdeal.main_arg5))).2.2.2.1 = (fun _ => 1#1)
    ∧ (Cert.Pre_inb_finite.fn (F := Ideal) (m ((c.tc : Thread Cert.InbKIdeal.nD Cert.InbKIdeal.τ).loc Cert.InbKIdeal.main_arg0)) (m ((c.tc : Thread Cert.InbKIdeal.nD Cert.InbKIdeal.τ).loc Cert.InbKIdeal.main_arg1)) (m ((c.tc : Thread Cert.InbKIdeal.nD Cert.InbKIdeal.τ).loc Cert.InbKIdeal.main_arg2)) (m ((c.tc : Thread Cert.InbKIdeal.nD Cert.InbKIdeal.τ).loc Cert.InbKIdeal.main_arg3)) (m ((c.tc : Thread Cert.InbKIdeal.nD Cert.InbKIdeal.τ).loc Cert.InbKIdeal.main_arg4)) (m ((c.tc : Thread Cert.InbKIdeal.nD Cert.InbKIdeal.τ).loc Cert.InbKIdeal.main_arg5))).2.2.2.2 = (fun _ => 1#1)

def Pre_InbRIdeal (m : (ℓ : Loc Cert.InbRIdeal.nD Cert.InbRIdeal.τ Cert.InbRIdeal.sig) → Buf (Elt Ideal) ℓ) : Prop :=
  True

def Pre_InbRIdeal_inb_finite [hPre_inb_finite : Cert.Pre_inb_finite.Facts] (m : (ℓ : Loc Cert.InbRIdeal.nD Cert.InbRIdeal.τ Cert.InbRIdeal.sig) → Buf (Elt Ideal) ℓ) : Prop :=
  ∀ c : Dev Cert.InbRIdeal.nD,
    (Cert.Pre_inb_finite.fn (F := Ideal) (m ((c.tc : Thread Cert.InbRIdeal.nD Cert.InbRIdeal.τ).loc Cert.InbRIdeal.main_arg0)) (m ((c.tc : Thread Cert.InbRIdeal.nD Cert.InbRIdeal.τ).loc Cert.InbRIdeal.main_arg1)) (m ((c.tc : Thread Cert.InbRIdeal.nD Cert.InbRIdeal.τ).loc Cert.InbRIdeal.main_arg2)) (m ((c.tc : Thread Cert.InbRIdeal.nD Cert.InbRIdeal.τ).loc Cert.InbRIdeal.main_arg3)) (m ((c.tc : Thread Cert.InbRIdeal.nD Cert.InbRIdeal.τ).loc Cert.InbRIdeal.main_arg4)) (m ((c.tc : Thread Cert.InbRIdeal.nD Cert.InbRIdeal.τ).loc Cert.InbRIdeal.main_arg5))).1 = (fun _ => 1#1)
    ∧ (Cert.Pre_inb_finite.fn (F := Ideal) (m ((c.tc : Thread Cert.InbRIdeal.nD Cert.InbRIdeal.τ).loc Cert.InbRIdeal.main_arg0)) (m ((c.tc : Thread Cert.InbRIdeal.nD Cert.InbRIdeal.τ).loc Cert.InbRIdeal.main_arg1)) (m ((c.tc : Thread Cert.InbRIdeal.nD Cert.InbRIdeal.τ).loc Cert.InbRIdeal.main_arg2)) (m ((c.tc : Thread Cert.InbRIdeal.nD Cert.InbRIdeal.τ).loc Cert.InbRIdeal.main_arg3)) (m ((c.tc : Thread Cert.InbRIdeal.nD Cert.InbRIdeal.τ).loc Cert.InbRIdeal.main_arg4)) (m ((c.tc : Thread Cert.InbRIdeal.nD Cert.InbRIdeal.τ).loc Cert.InbRIdeal.main_arg5))).2.1 = (fun _ => 1#1)
    ∧ (Cert.Pre_inb_finite.fn (F := Ideal) (m ((c.tc : Thread Cert.InbRIdeal.nD Cert.InbRIdeal.τ).loc Cert.InbRIdeal.main_arg0)) (m ((c.tc : Thread Cert.InbRIdeal.nD Cert.InbRIdeal.τ).loc Cert.InbRIdeal.main_arg1)) (m ((c.tc : Thread Cert.InbRIdeal.nD Cert.InbRIdeal.τ).loc Cert.InbRIdeal.main_arg2)) (m ((c.tc : Thread Cert.InbRIdeal.nD Cert.InbRIdeal.τ).loc Cert.InbRIdeal.main_arg3)) (m ((c.tc : Thread Cert.InbRIdeal.nD Cert.InbRIdeal.τ).loc Cert.InbRIdeal.main_arg4)) (m ((c.tc : Thread Cert.InbRIdeal.nD Cert.InbRIdeal.τ).loc Cert.InbRIdeal.main_arg5))).2.2.1 = (fun _ => 1#1)
    ∧ (Cert.Pre_inb_finite.fn (F := Ideal) (m ((c.tc : Thread Cert.InbRIdeal.nD Cert.InbRIdeal.τ).loc Cert.InbRIdeal.main_arg0)) (m ((c.tc : Thread Cert.InbRIdeal.nD Cert.InbRIdeal.τ).loc Cert.InbRIdeal.main_arg1)) (m ((c.tc : Thread Cert.InbRIdeal.nD Cert.InbRIdeal.τ).loc Cert.InbRIdeal.main_arg2)) (m ((c.tc : Thread Cert.InbRIdeal.nD Cert.InbRIdeal.τ).loc Cert.InbRIdeal.main_arg3)) (m ((c.tc : Thread Cert.InbRIdeal.nD Cert.InbRIdeal.τ).loc Cert.InbRIdeal.main_arg4)) (m ((c.tc : Thread Cert.InbRIdeal.nD Cert.InbRIdeal.τ).loc Cert.InbRIdeal.main_arg5))).2.2.2.1 = (fun _ => 1#1)
    ∧ (Cert.Pre_inb_finite.fn (F := Ideal) (m ((c.tc : Thread Cert.InbRIdeal.nD Cert.InbRIdeal.τ).loc Cert.InbRIdeal.main_arg0)) (m ((c.tc : Thread Cert.InbRIdeal.nD Cert.InbRIdeal.τ).loc Cert.InbRIdeal.main_arg1)) (m ((c.tc : Thread Cert.InbRIdeal.nD Cert.InbRIdeal.τ).loc Cert.InbRIdeal.main_arg2)) (m ((c.tc : Thread Cert.InbRIdeal.nD Cert.InbRIdeal.τ).loc Cert.InbRIdeal.main_arg3)) (m ((c.tc : Thread Cert.InbRIdeal.nD Cert.InbRIdeal.τ).loc Cert.InbRIdeal.main_arg4)) (m ((c.tc : Thread Cert.InbRIdeal.nD Cert.InbRIdeal.τ).loc Cert.InbRIdeal.main_arg5))).2.2.2.2 = (fun _ => 1#1)

def Pre_QkK (m : (ℓ : Loc Cert.QkK.nD Cert.QkK.τ Cert.QkK.sig) → Buf (Elt Bits) ℓ) : Prop :=
  True

def Pre_QkKIdeal (m : (ℓ : Loc Cert.QkKIdeal.nD Cert.QkKIdeal.τ Cert.QkKIdeal.sig) → Buf (Elt Ideal) ℓ) : Prop :=
  True

def Pre_QkKIdeal_qk_finite [hPre_qk_finite : Cert.Pre_qk_finite.Facts] (m : (ℓ : Loc Cert.QkKIdeal.nD Cert.QkKIdeal.τ Cert.QkKIdeal.sig) → Buf (Elt Ideal) ℓ) : Prop :=
  ∀ c : Dev Cert.QkKIdeal.nD,
    (Cert.Pre_qk_finite.fn (F := Ideal) (m ((c.tc : Thread Cert.QkKIdeal.nD Cert.QkKIdeal.τ).loc Cert.QkKIdeal.main_arg0)) (m ((c.tc : Thread Cert.QkKIdeal.nD Cert.QkKIdeal.τ).loc Cert.QkKIdeal.main_arg1)) (m ((c.tc : Thread Cert.QkKIdeal.nD Cert.QkKIdeal.τ).loc Cert.QkKIdeal.main_arg2)) (m ((c.tc : Thread Cert.QkKIdeal.nD Cert.QkKIdeal.τ).loc Cert.QkKIdeal.main_arg3)) (m ((c.tc : Thread Cert.QkKIdeal.nD Cert.QkKIdeal.τ).loc Cert.QkKIdeal.main_arg4)) (m ((c.tc : Thread Cert.QkKIdeal.nD Cert.QkKIdeal.τ).loc Cert.QkKIdeal.main_arg5)) (m ((c.tc : Thread Cert.QkKIdeal.nD Cert.QkKIdeal.τ).loc Cert.QkKIdeal.main_arg6)) (m ((c.tc : Thread Cert.QkKIdeal.nD Cert.QkKIdeal.τ).loc Cert.QkKIdeal.main_arg7)) (m ((c.tc : Thread Cert.QkKIdeal.nD Cert.QkKIdeal.τ).loc Cert.QkKIdeal.main_arg8)) (m ((c.tc : Thread Cert.QkKIdeal.nD Cert.QkKIdeal.τ).loc Cert.QkKIdeal.main_arg9)) (m ((c.tc : Thread Cert.QkKIdeal.nD Cert.QkKIdeal.τ).loc Cert.QkKIdeal.main_arg10))).1 = (fun _ => 1#1)
    ∧ (Cert.Pre_qk_finite.fn (F := Ideal) (m ((c.tc : Thread Cert.QkKIdeal.nD Cert.QkKIdeal.τ).loc Cert.QkKIdeal.main_arg0)) (m ((c.tc : Thread Cert.QkKIdeal.nD Cert.QkKIdeal.τ).loc Cert.QkKIdeal.main_arg1)) (m ((c.tc : Thread Cert.QkKIdeal.nD Cert.QkKIdeal.τ).loc Cert.QkKIdeal.main_arg2)) (m ((c.tc : Thread Cert.QkKIdeal.nD Cert.QkKIdeal.τ).loc Cert.QkKIdeal.main_arg3)) (m ((c.tc : Thread Cert.QkKIdeal.nD Cert.QkKIdeal.τ).loc Cert.QkKIdeal.main_arg4)) (m ((c.tc : Thread Cert.QkKIdeal.nD Cert.QkKIdeal.τ).loc Cert.QkKIdeal.main_arg5)) (m ((c.tc : Thread Cert.QkKIdeal.nD Cert.QkKIdeal.τ).loc Cert.QkKIdeal.main_arg6)) (m ((c.tc : Thread Cert.QkKIdeal.nD Cert.QkKIdeal.τ).loc Cert.QkKIdeal.main_arg7)) (m ((c.tc : Thread Cert.QkKIdeal.nD Cert.QkKIdeal.τ).loc Cert.QkKIdeal.main_arg8)) (m ((c.tc : Thread Cert.QkKIdeal.nD Cert.QkKIdeal.τ).loc Cert.QkKIdeal.main_arg9)) (m ((c.tc : Thread Cert.QkKIdeal.nD Cert.QkKIdeal.τ).loc Cert.QkKIdeal.main_arg10))).2.1 = (fun _ => 1#1)
    ∧ (Cert.Pre_qk_finite.fn (F := Ideal) (m ((c.tc : Thread Cert.QkKIdeal.nD Cert.QkKIdeal.τ).loc Cert.QkKIdeal.main_arg0)) (m ((c.tc : Thread Cert.QkKIdeal.nD Cert.QkKIdeal.τ).loc Cert.QkKIdeal.main_arg1)) (m ((c.tc : Thread Cert.QkKIdeal.nD Cert.QkKIdeal.τ).loc Cert.QkKIdeal.main_arg2)) (m ((c.tc : Thread Cert.QkKIdeal.nD Cert.QkKIdeal.τ).loc Cert.QkKIdeal.main_arg3)) (m ((c.tc : Thread Cert.QkKIdeal.nD Cert.QkKIdeal.τ).loc Cert.QkKIdeal.main_arg4)) (m ((c.tc : Thread Cert.QkKIdeal.nD Cert.QkKIdeal.τ).loc Cert.QkKIdeal.main_arg5)) (m ((c.tc : Thread Cert.QkKIdeal.nD Cert.QkKIdeal.τ).loc Cert.QkKIdeal.main_arg6)) (m ((c.tc : Thread Cert.QkKIdeal.nD Cert.QkKIdeal.τ).loc Cert.QkKIdeal.main_arg7)) (m ((c.tc : Thread Cert.QkKIdeal.nD Cert.QkKIdeal.τ).loc Cert.QkKIdeal.main_arg8)) (m ((c.tc : Thread Cert.QkKIdeal.nD Cert.QkKIdeal.τ).loc Cert.QkKIdeal.main_arg9)) (m ((c.tc : Thread Cert.QkKIdeal.nD Cert.QkKIdeal.τ).loc Cert.QkKIdeal.main_arg10))).2.2.1 = (fun _ => 1#1)
    ∧ (Cert.Pre_qk_finite.fn (F := Ideal) (m ((c.tc : Thread Cert.QkKIdeal.nD Cert.QkKIdeal.τ).loc Cert.QkKIdeal.main_arg0)) (m ((c.tc : Thread Cert.QkKIdeal.nD Cert.QkKIdeal.τ).loc Cert.QkKIdeal.main_arg1)) (m ((c.tc : Thread Cert.QkKIdeal.nD Cert.QkKIdeal.τ).loc Cert.QkKIdeal.main_arg2)) (m ((c.tc : Thread Cert.QkKIdeal.nD Cert.QkKIdeal.τ).loc Cert.QkKIdeal.main_arg3)) (m ((c.tc : Thread Cert.QkKIdeal.nD Cert.QkKIdeal.τ).loc Cert.QkKIdeal.main_arg4)) (m ((c.tc : Thread Cert.QkKIdeal.nD Cert.QkKIdeal.τ).loc Cert.QkKIdeal.main_arg5)) (m ((c.tc : Thread Cert.QkKIdeal.nD Cert.QkKIdeal.τ).loc Cert.QkKIdeal.main_arg6)) (m ((c.tc : Thread Cert.QkKIdeal.nD Cert.QkKIdeal.τ).loc Cert.QkKIdeal.main_arg7)) (m ((c.tc : Thread Cert.QkKIdeal.nD Cert.QkKIdeal.τ).loc Cert.QkKIdeal.main_arg8)) (m ((c.tc : Thread Cert.QkKIdeal.nD Cert.QkKIdeal.τ).loc Cert.QkKIdeal.main_arg9)) (m ((c.tc : Thread Cert.QkKIdeal.nD Cert.QkKIdeal.τ).loc Cert.QkKIdeal.main_arg10))).2.2.2.1 = (fun _ => 1#1)
    ∧ (Cert.Pre_qk_finite.fn (F := Ideal) (m ((c.tc : Thread Cert.QkKIdeal.nD Cert.QkKIdeal.τ).loc Cert.QkKIdeal.main_arg0)) (m ((c.tc : Thread Cert.QkKIdeal.nD Cert.QkKIdeal.τ).loc Cert.QkKIdeal.main_arg1)) (m ((c.tc : Thread Cert.QkKIdeal.nD Cert.QkKIdeal.τ).loc Cert.QkKIdeal.main_arg2)) (m ((c.tc : Thread Cert.QkKIdeal.nD Cert.QkKIdeal.τ).loc Cert.QkKIdeal.main_arg3)) (m ((c.tc : Thread Cert.QkKIdeal.nD Cert.QkKIdeal.τ).loc Cert.QkKIdeal.main_arg4)) (m ((c.tc : Thread Cert.QkKIdeal.nD Cert.QkKIdeal.τ).loc Cert.QkKIdeal.main_arg5)) (m ((c.tc : Thread Cert.QkKIdeal.nD Cert.QkKIdeal.τ).loc Cert.QkKIdeal.main_arg6)) (m ((c.tc : Thread Cert.QkKIdeal.nD Cert.QkKIdeal.τ).loc Cert.QkKIdeal.main_arg7)) (m ((c.tc : Thread Cert.QkKIdeal.nD Cert.QkKIdeal.τ).loc Cert.QkKIdeal.main_arg8)) (m ((c.tc : Thread Cert.QkKIdeal.nD Cert.QkKIdeal.τ).loc Cert.QkKIdeal.main_arg9)) (m ((c.tc : Thread Cert.QkKIdeal.nD Cert.QkKIdeal.τ).loc Cert.QkKIdeal.main_arg10))).2.2.2.2 = (fun _ => 1#1)

def Pre_QkRIdeal (m : (ℓ : Loc Cert.QkRIdeal.nD Cert.QkRIdeal.τ Cert.QkRIdeal.sig) → Buf (Elt Ideal) ℓ) : Prop :=
  True

def Pre_QkRIdeal_qk_finite [hPre_qk_finite : Cert.Pre_qk_finite.Facts] (m : (ℓ : Loc Cert.QkRIdeal.nD Cert.QkRIdeal.τ Cert.QkRIdeal.sig) → Buf (Elt Ideal) ℓ) : Prop :=
  ∀ c : Dev Cert.QkRIdeal.nD,
    (Cert.Pre_qk_finite.fn (F := Ideal) (m ((c.tc : Thread Cert.QkRIdeal.nD Cert.QkRIdeal.τ).loc Cert.QkRIdeal.main_arg0)) (m ((c.tc : Thread Cert.QkRIdeal.nD Cert.QkRIdeal.τ).loc Cert.QkRIdeal.main_arg1)) (m ((c.tc : Thread Cert.QkRIdeal.nD Cert.QkRIdeal.τ).loc Cert.QkRIdeal.main_arg2)) (m ((c.tc : Thread Cert.QkRIdeal.nD Cert.QkRIdeal.τ).loc Cert.QkRIdeal.main_arg3)) (m ((c.tc : Thread Cert.QkRIdeal.nD Cert.QkRIdeal.τ).loc Cert.QkRIdeal.main_arg4)) (m ((c.tc : Thread Cert.QkRIdeal.nD Cert.QkRIdeal.τ).loc Cert.QkRIdeal.main_arg5)) (m ((c.tc : Thread Cert.QkRIdeal.nD Cert.QkRIdeal.τ).loc Cert.QkRIdeal.main_arg6)) (m ((c.tc : Thread Cert.QkRIdeal.nD Cert.QkRIdeal.τ).loc Cert.QkRIdeal.main_arg7)) (m ((c.tc : Thread Cert.QkRIdeal.nD Cert.QkRIdeal.τ).loc Cert.QkRIdeal.main_arg8)) (m ((c.tc : Thread Cert.QkRIdeal.nD Cert.QkRIdeal.τ).loc Cert.QkRIdeal.main_arg9)) (m ((c.tc : Thread Cert.QkRIdeal.nD Cert.QkRIdeal.τ).loc Cert.QkRIdeal.main_arg10))).1 = (fun _ => 1#1)
    ∧ (Cert.Pre_qk_finite.fn (F := Ideal) (m ((c.tc : Thread Cert.QkRIdeal.nD Cert.QkRIdeal.τ).loc Cert.QkRIdeal.main_arg0)) (m ((c.tc : Thread Cert.QkRIdeal.nD Cert.QkRIdeal.τ).loc Cert.QkRIdeal.main_arg1)) (m ((c.tc : Thread Cert.QkRIdeal.nD Cert.QkRIdeal.τ).loc Cert.QkRIdeal.main_arg2)) (m ((c.tc : Thread Cert.QkRIdeal.nD Cert.QkRIdeal.τ).loc Cert.QkRIdeal.main_arg3)) (m ((c.tc : Thread Cert.QkRIdeal.nD Cert.QkRIdeal.τ).loc Cert.QkRIdeal.main_arg4)) (m ((c.tc : Thread Cert.QkRIdeal.nD Cert.QkRIdeal.τ).loc Cert.QkRIdeal.main_arg5)) (m ((c.tc : Thread Cert.QkRIdeal.nD Cert.QkRIdeal.τ).loc Cert.QkRIdeal.main_arg6)) (m ((c.tc : Thread Cert.QkRIdeal.nD Cert.QkRIdeal.τ).loc Cert.QkRIdeal.main_arg7)) (m ((c.tc : Thread Cert.QkRIdeal.nD Cert.QkRIdeal.τ).loc Cert.QkRIdeal.main_arg8)) (m ((c.tc : Thread Cert.QkRIdeal.nD Cert.QkRIdeal.τ).loc Cert.QkRIdeal.main_arg9)) (m ((c.tc : Thread Cert.QkRIdeal.nD Cert.QkRIdeal.τ).loc Cert.QkRIdeal.main_arg10))).2.1 = (fun _ => 1#1)
    ∧ (Cert.Pre_qk_finite.fn (F := Ideal) (m ((c.tc : Thread Cert.QkRIdeal.nD Cert.QkRIdeal.τ).loc Cert.QkRIdeal.main_arg0)) (m ((c.tc : Thread Cert.QkRIdeal.nD Cert.QkRIdeal.τ).loc Cert.QkRIdeal.main_arg1)) (m ((c.tc : Thread Cert.QkRIdeal.nD Cert.QkRIdeal.τ).loc Cert.QkRIdeal.main_arg2)) (m ((c.tc : Thread Cert.QkRIdeal.nD Cert.QkRIdeal.τ).loc Cert.QkRIdeal.main_arg3)) (m ((c.tc : Thread Cert.QkRIdeal.nD Cert.QkRIdeal.τ).loc Cert.QkRIdeal.main_arg4)) (m ((c.tc : Thread Cert.QkRIdeal.nD Cert.QkRIdeal.τ).loc Cert.QkRIdeal.main_arg5)) (m ((c.tc : Thread Cert.QkRIdeal.nD Cert.QkRIdeal.τ).loc Cert.QkRIdeal.main_arg6)) (m ((c.tc : Thread Cert.QkRIdeal.nD Cert.QkRIdeal.τ).loc Cert.QkRIdeal.main_arg7)) (m ((c.tc : Thread Cert.QkRIdeal.nD Cert.QkRIdeal.τ).loc Cert.QkRIdeal.main_arg8)) (m ((c.tc : Thread Cert.QkRIdeal.nD Cert.QkRIdeal.τ).loc Cert.QkRIdeal.main_arg9)) (m ((c.tc : Thread Cert.QkRIdeal.nD Cert.QkRIdeal.τ).loc Cert.QkRIdeal.main_arg10))).2.2.1 = (fun _ => 1#1)
    ∧ (Cert.Pre_qk_finite.fn (F := Ideal) (m ((c.tc : Thread Cert.QkRIdeal.nD Cert.QkRIdeal.τ).loc Cert.QkRIdeal.main_arg0)) (m ((c.tc : Thread Cert.QkRIdeal.nD Cert.QkRIdeal.τ).loc Cert.QkRIdeal.main_arg1)) (m ((c.tc : Thread Cert.QkRIdeal.nD Cert.QkRIdeal.τ).loc Cert.QkRIdeal.main_arg2)) (m ((c.tc : Thread Cert.QkRIdeal.nD Cert.QkRIdeal.τ).loc Cert.QkRIdeal.main_arg3)) (m ((c.tc : Thread Cert.QkRIdeal.nD Cert.QkRIdeal.τ).loc Cert.QkRIdeal.main_arg4)) (m ((c.tc : Thread Cert.QkRIdeal.nD Cert.QkRIdeal.τ).loc Cert.QkRIdeal.main_arg5)) (m ((c.tc : Thread Cert.QkRIdeal.nD Cert.QkRIdeal.τ).loc Cert.QkRIdeal.main_arg6)) (m ((c.tc : Thread Cert.QkRIdeal.nD Cert.QkRIdeal.τ).loc Cert.QkRIdeal.main_arg7)) (m ((c.tc : Thread Cert.QkRIdeal.nD Cert.QkRIdeal.τ).loc Cert.QkRIdeal.main_arg8)) (m ((c.tc : Thread Cert.QkRIdeal.nD Cert.QkRIdeal.τ).loc Cert.QkRIdeal.main_arg9)) (m ((c.tc : Thread Cert.QkRIdeal.nD Cert.QkRIdeal.τ).loc Cert.QkRIdeal.main_arg10))).2.2.2.1 = (fun _ => 1#1)
    ∧ (Cert.Pre_qk_finite.fn (F := Ideal) (m ((c.tc : Thread Cert.QkRIdeal.nD Cert.QkRIdeal.τ).loc Cert.QkRIdeal.main_arg0)) (m ((c.tc : Thread Cert.QkRIdeal.nD Cert.QkRIdeal.τ).loc Cert.QkRIdeal.main_arg1)) (m ((c.tc : Thread Cert.QkRIdeal.nD Cert.QkRIdeal.τ).loc Cert.QkRIdeal.main_arg2)) (m ((c.tc : Thread Cert.QkRIdeal.nD Cert.QkRIdeal.τ).loc Cert.QkRIdeal.main_arg3)) (m ((c.tc : Thread Cert.QkRIdeal.nD Cert.QkRIdeal.τ).loc Cert.QkRIdeal.main_arg4)) (m ((c.tc : Thread Cert.QkRIdeal.nD Cert.QkRIdeal.τ).loc Cert.QkRIdeal.main_arg5)) (m ((c.tc : Thread Cert.QkRIdeal.nD Cert.QkRIdeal.τ).loc Cert.QkRIdeal.main_arg6)) (m ((c.tc : Thread Cert.QkRIdeal.nD Cert.QkRIdeal.τ).loc Cert.QkRIdeal.main_arg7)) (m ((c.tc : Thread Cert.QkRIdeal.nD Cert.QkRIdeal.τ).loc Cert.QkRIdeal.main_arg8)) (m ((c.tc : Thread Cert.QkRIdeal.nD Cert.QkRIdeal.τ).loc Cert.QkRIdeal.main_arg9)) (m ((c.tc : Thread Cert.QkRIdeal.nD Cert.QkRIdeal.τ).loc Cert.QkRIdeal.main_arg10))).2.2.2.2 = (fun _ => 1#1)

def Pre_DwK (m : (ℓ : Loc Cert.DwK.nD Cert.DwK.τ Cert.DwK.sig) → Buf (Elt Bits) ℓ) : Prop :=
  True

def Pre_DwKIdeal (m : (ℓ : Loc Cert.DwKIdeal.nD Cert.DwKIdeal.τ Cert.DwKIdeal.sig) → Buf (Elt Ideal) ℓ) : Prop :=
  True

def Pre_DwRIdeal (m : (ℓ : Loc Cert.DwRIdeal.nD Cert.DwRIdeal.τ Cert.DwRIdeal.sig) → Buf (Elt Ideal) ℓ) : Prop :=
  True

def quiescent_GateK [hGateK : Cert.GateK.Facts] : Prop :=
  ∀ (m : (ℓ : Loc Cert.GateK.nD Cert.GateK.τ Cert.GateK.sig) → Buf (Elt Bits) ℓ) (g : Dev Cert.GateK.nD → PrngReg), Pre_GateK m →
    θ_run (Cert.GateK.defs (F := Bits)) (onTc (τ := Cert.GateK.τ) (Cert.GateK.main (F := Bits))) ⟨m, fun _ => 0, g⟩ (fun r => (∀ c : Dev Cert.GateK.nD,
      r.2.mem ((c.tc : Thread Cert.GateK.nD Cert.GateK.τ).loc Cert.GateK.main_arg0) = m ((c.tc : Thread Cert.GateK.nD Cert.GateK.τ).loc Cert.GateK.main_arg0)
      ∧ r.2.mem ((c.tc : Thread Cert.GateK.nD Cert.GateK.τ).loc Cert.GateK.main_arg1) = m ((c.tc : Thread Cert.GateK.nD Cert.GateK.τ).loc Cert.GateK.main_arg1)
      ∧ r.2.mem ((c.tc : Thread Cert.GateK.nD Cert.GateK.τ).loc Cert.GateK.main_arg2) = m ((c.tc : Thread Cert.GateK.nD Cert.GateK.τ).loc Cert.GateK.main_arg2)
      ∧ r.2.mem ((c.tc : Thread Cert.GateK.nD Cert.GateK.τ).loc Cert.GateK.main_arg3) = m ((c.tc : Thread Cert.GateK.nD Cert.GateK.τ).loc Cert.GateK.main_arg3))
      ∧ r.2.sem = fun _ => 0)

def quiescent_GateKIdeal [hGateKIdeal : Cert.GateKIdeal.Facts] : Prop :=
  ∀ (m : (ℓ : Loc Cert.GateKIdeal.nD Cert.GateKIdeal.τ Cert.GateKIdeal.sig) → Buf (Elt Ideal) ℓ) (g : Dev Cert.GateKIdeal.nD → PrngReg), Pre_GateKIdeal m →
    θ_run (Cert.GateKIdeal.defs (F := Ideal)) (onTc (τ := Cert.GateKIdeal.τ) (Cert.GateKIdeal.main (F := Ideal))) ⟨m, fun _ => 0, g⟩ (fun r => (∀ c : Dev Cert.GateKIdeal.nD,
      r.2.mem ((c.tc : Thread Cert.GateKIdeal.nD Cert.GateKIdeal.τ).loc Cert.GateKIdeal.main_arg0) = m ((c.tc : Thread Cert.GateKIdeal.nD Cert.GateKIdeal.τ).loc Cert.GateKIdeal.main_arg0)
      ∧ r.2.mem ((c.tc : Thread Cert.GateKIdeal.nD Cert.GateKIdeal.τ).loc Cert.GateKIdeal.main_arg1) = m ((c.tc : Thread Cert.GateKIdeal.nD Cert.GateKIdeal.τ).loc Cert.GateKIdeal.main_arg1)
      ∧ r.2.mem ((c.tc : Thread Cert.GateKIdeal.nD Cert.GateKIdeal.τ).loc Cert.GateKIdeal.main_arg2) = m ((c.tc : Thread Cert.GateKIdeal.nD Cert.GateKIdeal.τ).loc Cert.GateKIdeal.main_arg2)
      ∧ r.2.mem ((c.tc : Thread Cert.GateKIdeal.nD Cert.GateKIdeal.τ).loc Cert.GateKIdeal.main_arg3) = m ((c.tc : Thread Cert.GateKIdeal.nD Cert.GateKIdeal.τ).loc Cert.GateKIdeal.main_arg3))
      ∧ r.2.sem = fun _ => 0)

def quiescent_GateKIdeal_pre_gate_finite [hGateKIdeal : Cert.GateKIdeal.Facts] [hPre_gate_finite : Cert.Pre_gate_finite.Facts] : Prop :=
  ∀ (m : (ℓ : Loc Cert.GateKIdeal.nD Cert.GateKIdeal.τ Cert.GateKIdeal.sig) → Buf (Elt Ideal) ℓ) (g : Dev Cert.GateKIdeal.nD → PrngReg), Pre_GateKIdeal_gate_finite m →
    θ_run (Cert.GateKIdeal.defs (F := Ideal)) (onTc (τ := Cert.GateKIdeal.τ) (Cert.GateKIdeal.main (F := Ideal))) ⟨m, fun _ => 0, g⟩ (fun r => (∀ c : Dev Cert.GateKIdeal.nD,
      r.2.mem ((c.tc : Thread Cert.GateKIdeal.nD Cert.GateKIdeal.τ).loc Cert.GateKIdeal.main_arg0) = m ((c.tc : Thread Cert.GateKIdeal.nD Cert.GateKIdeal.τ).loc Cert.GateKIdeal.main_arg0)
      ∧ r.2.mem ((c.tc : Thread Cert.GateKIdeal.nD Cert.GateKIdeal.τ).loc Cert.GateKIdeal.main_arg1) = m ((c.tc : Thread Cert.GateKIdeal.nD Cert.GateKIdeal.τ).loc Cert.GateKIdeal.main_arg1)
      ∧ r.2.mem ((c.tc : Thread Cert.GateKIdeal.nD Cert.GateKIdeal.τ).loc Cert.GateKIdeal.main_arg2) = m ((c.tc : Thread Cert.GateKIdeal.nD Cert.GateKIdeal.τ).loc Cert.GateKIdeal.main_arg2)
      ∧ r.2.mem ((c.tc : Thread Cert.GateKIdeal.nD Cert.GateKIdeal.τ).loc Cert.GateKIdeal.main_arg3) = m ((c.tc : Thread Cert.GateKIdeal.nD Cert.GateKIdeal.τ).loc Cert.GateKIdeal.main_arg3))
      ∧ r.2.sem = fun _ => 0)

def quiescent_GateRIdeal [hGateRIdeal : Cert.GateRIdeal.Facts] : Prop :=
  ∀ (m : (ℓ : Loc Cert.GateRIdeal.nD Cert.GateRIdeal.τ Cert.GateRIdeal.sig) → Buf (Elt Ideal) ℓ) (g : Dev Cert.GateRIdeal.nD → PrngReg), Pre_GateRIdeal m →
    θ_run (Cert.GateRIdeal.defs (F := Ideal)) (onTc (τ := Cert.GateRIdeal.τ) (Cert.GateRIdeal.main (F := Ideal))) ⟨m, fun _ => 0, g⟩ (fun r => (∀ c : Dev Cert.GateRIdeal.nD,
      r.2.mem ((c.tc : Thread Cert.GateRIdeal.nD Cert.GateRIdeal.τ).loc Cert.GateRIdeal.main_arg0) = m ((c.tc : Thread Cert.GateRIdeal.nD Cert.GateRIdeal.τ).loc Cert.GateRIdeal.main_arg0)
      ∧ r.2.mem ((c.tc : Thread Cert.GateRIdeal.nD Cert.GateRIdeal.τ).loc Cert.GateRIdeal.main_arg1) = m ((c.tc : Thread Cert.GateRIdeal.nD Cert.GateRIdeal.τ).loc Cert.GateRIdeal.main_arg1)
      ∧ r.2.mem ((c.tc : Thread Cert.GateRIdeal.nD Cert.GateRIdeal.τ).loc Cert.GateRIdeal.main_arg2) = m ((c.tc : Thread Cert.GateRIdeal.nD Cert.GateRIdeal.τ).loc Cert.GateRIdeal.main_arg2)
      ∧ r.2.mem ((c.tc : Thread Cert.GateRIdeal.nD Cert.GateRIdeal.τ).loc Cert.GateRIdeal.main_arg3) = m ((c.tc : Thread Cert.GateRIdeal.nD Cert.GateRIdeal.τ).loc Cert.GateRIdeal.main_arg3))
      ∧ r.2.sem = fun _ => 0)

def quiescent_GateRIdeal_pre_gate_finite [hGateRIdeal : Cert.GateRIdeal.Facts] [hPre_gate_finite : Cert.Pre_gate_finite.Facts] : Prop :=
  ∀ (m : (ℓ : Loc Cert.GateRIdeal.nD Cert.GateRIdeal.τ Cert.GateRIdeal.sig) → Buf (Elt Ideal) ℓ) (g : Dev Cert.GateRIdeal.nD → PrngReg), Pre_GateRIdeal_gate_finite m →
    θ_run (Cert.GateRIdeal.defs (F := Ideal)) (onTc (τ := Cert.GateRIdeal.τ) (Cert.GateRIdeal.main (F := Ideal))) ⟨m, fun _ => 0, g⟩ (fun r => (∀ c : Dev Cert.GateRIdeal.nD,
      r.2.mem ((c.tc : Thread Cert.GateRIdeal.nD Cert.GateRIdeal.τ).loc Cert.GateRIdeal.main_arg0) = m ((c.tc : Thread Cert.GateRIdeal.nD Cert.GateRIdeal.τ).loc Cert.GateRIdeal.main_arg0)
      ∧ r.2.mem ((c.tc : Thread Cert.GateRIdeal.nD Cert.GateRIdeal.τ).loc Cert.GateRIdeal.main_arg1) = m ((c.tc : Thread Cert.GateRIdeal.nD Cert.GateRIdeal.τ).loc Cert.GateRIdeal.main_arg1)
      ∧ r.2.mem ((c.tc : Thread Cert.GateRIdeal.nD Cert.GateRIdeal.τ).loc Cert.GateRIdeal.main_arg2) = m ((c.tc : Thread Cert.GateRIdeal.nD Cert.GateRIdeal.τ).loc Cert.GateRIdeal.main_arg2)
      ∧ r.2.mem ((c.tc : Thread Cert.GateRIdeal.nD Cert.GateRIdeal.τ).loc Cert.GateRIdeal.main_arg3) = m ((c.tc : Thread Cert.GateRIdeal.nD Cert.GateRIdeal.τ).loc Cert.GateRIdeal.main_arg3))
      ∧ r.2.sem = fun _ => 0)

def quiescent_AttnK [hAttnK : Cert.AttnK.Facts] : Prop :=
  ∀ (m : (ℓ : Loc Cert.AttnK.nD Cert.AttnK.τ Cert.AttnK.sig) → Buf (Elt Bits) ℓ) (g : Dev Cert.AttnK.nD → PrngReg), Pre_AttnK m →
    θ_run (Cert.AttnK.defs (F := Bits)) (onTc (τ := Cert.AttnK.τ) (Cert.AttnK.main (F := Bits))) ⟨m, fun _ => 0, g⟩ (fun r => (∀ c : Dev Cert.AttnK.nD,
      r.2.mem ((c.tc : Thread Cert.AttnK.nD Cert.AttnK.τ).loc Cert.AttnK.main_arg0) = m ((c.tc : Thread Cert.AttnK.nD Cert.AttnK.τ).loc Cert.AttnK.main_arg0)
      ∧ r.2.mem ((c.tc : Thread Cert.AttnK.nD Cert.AttnK.τ).loc Cert.AttnK.main_arg1) = m ((c.tc : Thread Cert.AttnK.nD Cert.AttnK.τ).loc Cert.AttnK.main_arg1)
      ∧ r.2.mem ((c.tc : Thread Cert.AttnK.nD Cert.AttnK.τ).loc Cert.AttnK.main_arg2) = m ((c.tc : Thread Cert.AttnK.nD Cert.AttnK.τ).loc Cert.AttnK.main_arg2)
      ∧ r.2.mem ((c.tc : Thread Cert.AttnK.nD Cert.AttnK.τ).loc Cert.AttnK.main_arg3) = m ((c.tc : Thread Cert.AttnK.nD Cert.AttnK.τ).loc Cert.AttnK.main_arg3))
      ∧ r.2.sem = fun _ => 0)

def quiescent_AttnKIdeal [hAttnKIdeal : Cert.AttnKIdeal.Facts] : Prop :=
  ∀ (m : (ℓ : Loc Cert.AttnKIdeal.nD Cert.AttnKIdeal.τ Cert.AttnKIdeal.sig) → Buf (Elt Ideal) ℓ) (g : Dev Cert.AttnKIdeal.nD → PrngReg), Pre_AttnKIdeal m →
    θ_run (Cert.AttnKIdeal.defs (F := Ideal)) (onTc (τ := Cert.AttnKIdeal.τ) (Cert.AttnKIdeal.main (F := Ideal))) ⟨m, fun _ => 0, g⟩ (fun r => (∀ c : Dev Cert.AttnKIdeal.nD,
      r.2.mem ((c.tc : Thread Cert.AttnKIdeal.nD Cert.AttnKIdeal.τ).loc Cert.AttnKIdeal.main_arg0) = m ((c.tc : Thread Cert.AttnKIdeal.nD Cert.AttnKIdeal.τ).loc Cert.AttnKIdeal.main_arg0)
      ∧ r.2.mem ((c.tc : Thread Cert.AttnKIdeal.nD Cert.AttnKIdeal.τ).loc Cert.AttnKIdeal.main_arg1) = m ((c.tc : Thread Cert.AttnKIdeal.nD Cert.AttnKIdeal.τ).loc Cert.AttnKIdeal.main_arg1)
      ∧ r.2.mem ((c.tc : Thread Cert.AttnKIdeal.nD Cert.AttnKIdeal.τ).loc Cert.AttnKIdeal.main_arg2) = m ((c.tc : Thread Cert.AttnKIdeal.nD Cert.AttnKIdeal.τ).loc Cert.AttnKIdeal.main_arg2)
      ∧ r.2.mem ((c.tc : Thread Cert.AttnKIdeal.nD Cert.AttnKIdeal.τ).loc Cert.AttnKIdeal.main_arg3) = m ((c.tc : Thread Cert.AttnKIdeal.nD Cert.AttnKIdeal.τ).loc Cert.AttnKIdeal.main_arg3))
      ∧ r.2.sem = fun _ => 0)

def quiescent_AttnKIdeal_pre_attn_finite [hAttnKIdeal : Cert.AttnKIdeal.Facts] [hPre_attn_finite : Cert.Pre_attn_finite.Facts] : Prop :=
  ∀ (m : (ℓ : Loc Cert.AttnKIdeal.nD Cert.AttnKIdeal.τ Cert.AttnKIdeal.sig) → Buf (Elt Ideal) ℓ) (g : Dev Cert.AttnKIdeal.nD → PrngReg), Pre_AttnKIdeal_attn_finite m →
    θ_run (Cert.AttnKIdeal.defs (F := Ideal)) (onTc (τ := Cert.AttnKIdeal.τ) (Cert.AttnKIdeal.main (F := Ideal))) ⟨m, fun _ => 0, g⟩ (fun r => (∀ c : Dev Cert.AttnKIdeal.nD,
      r.2.mem ((c.tc : Thread Cert.AttnKIdeal.nD Cert.AttnKIdeal.τ).loc Cert.AttnKIdeal.main_arg0) = m ((c.tc : Thread Cert.AttnKIdeal.nD Cert.AttnKIdeal.τ).loc Cert.AttnKIdeal.main_arg0)
      ∧ r.2.mem ((c.tc : Thread Cert.AttnKIdeal.nD Cert.AttnKIdeal.τ).loc Cert.AttnKIdeal.main_arg1) = m ((c.tc : Thread Cert.AttnKIdeal.nD Cert.AttnKIdeal.τ).loc Cert.AttnKIdeal.main_arg1)
      ∧ r.2.mem ((c.tc : Thread Cert.AttnKIdeal.nD Cert.AttnKIdeal.τ).loc Cert.AttnKIdeal.main_arg2) = m ((c.tc : Thread Cert.AttnKIdeal.nD Cert.AttnKIdeal.τ).loc Cert.AttnKIdeal.main_arg2)
      ∧ r.2.mem ((c.tc : Thread Cert.AttnKIdeal.nD Cert.AttnKIdeal.τ).loc Cert.AttnKIdeal.main_arg3) = m ((c.tc : Thread Cert.AttnKIdeal.nD Cert.AttnKIdeal.τ).loc Cert.AttnKIdeal.main_arg3))
      ∧ r.2.sem = fun _ => 0)

def quiescent_AttnRIdeal [hAttnRIdeal : Cert.AttnRIdeal.Facts] : Prop :=
  ∀ (m : (ℓ : Loc Cert.AttnRIdeal.nD Cert.AttnRIdeal.τ Cert.AttnRIdeal.sig) → Buf (Elt Ideal) ℓ) (g : Dev Cert.AttnRIdeal.nD → PrngReg), Pre_AttnRIdeal m →
    θ_run (Cert.AttnRIdeal.defs (F := Ideal)) (onTc (τ := Cert.AttnRIdeal.τ) (Cert.AttnRIdeal.main (F := Ideal))) ⟨m, fun _ => 0, g⟩ (fun r => (∀ c : Dev Cert.AttnRIdeal.nD,
      r.2.mem ((c.tc : Thread Cert.AttnRIdeal.nD Cert.AttnRIdeal.τ).loc Cert.AttnRIdeal.main_arg0) = m ((c.tc : Thread Cert.AttnRIdeal.nD Cert.AttnRIdeal.τ).loc Cert.AttnRIdeal.main_arg0)
      ∧ r.2.mem ((c.tc : Thread Cert.AttnRIdeal.nD Cert.AttnRIdeal.τ).loc Cert.AttnRIdeal.main_arg1) = m ((c.tc : Thread Cert.AttnRIdeal.nD Cert.AttnRIdeal.τ).loc Cert.AttnRIdeal.main_arg1)
      ∧ r.2.mem ((c.tc : Thread Cert.AttnRIdeal.nD Cert.AttnRIdeal.τ).loc Cert.AttnRIdeal.main_arg2) = m ((c.tc : Thread Cert.AttnRIdeal.nD Cert.AttnRIdeal.τ).loc Cert.AttnRIdeal.main_arg2)
      ∧ r.2.mem ((c.tc : Thread Cert.AttnRIdeal.nD Cert.AttnRIdeal.τ).loc Cert.AttnRIdeal.main_arg3) = m ((c.tc : Thread Cert.AttnRIdeal.nD Cert.AttnRIdeal.τ).loc Cert.AttnRIdeal.main_arg3))
      ∧ r.2.sem = fun _ => 0)

def quiescent_AttnRIdeal_pre_attn_finite [hAttnRIdeal : Cert.AttnRIdeal.Facts] [hPre_attn_finite : Cert.Pre_attn_finite.Facts] : Prop :=
  ∀ (m : (ℓ : Loc Cert.AttnRIdeal.nD Cert.AttnRIdeal.τ Cert.AttnRIdeal.sig) → Buf (Elt Ideal) ℓ) (g : Dev Cert.AttnRIdeal.nD → PrngReg), Pre_AttnRIdeal_attn_finite m →
    θ_run (Cert.AttnRIdeal.defs (F := Ideal)) (onTc (τ := Cert.AttnRIdeal.τ) (Cert.AttnRIdeal.main (F := Ideal))) ⟨m, fun _ => 0, g⟩ (fun r => (∀ c : Dev Cert.AttnRIdeal.nD,
      r.2.mem ((c.tc : Thread Cert.AttnRIdeal.nD Cert.AttnRIdeal.τ).loc Cert.AttnRIdeal.main_arg0) = m ((c.tc : Thread Cert.AttnRIdeal.nD Cert.AttnRIdeal.τ).loc Cert.AttnRIdeal.main_arg0)
      ∧ r.2.mem ((c.tc : Thread Cert.AttnRIdeal.nD Cert.AttnRIdeal.τ).loc Cert.AttnRIdeal.main_arg1) = m ((c.tc : Thread Cert.AttnRIdeal.nD Cert.AttnRIdeal.τ).loc Cert.AttnRIdeal.main_arg1)
      ∧ r.2.mem ((c.tc : Thread Cert.AttnRIdeal.nD Cert.AttnRIdeal.τ).loc Cert.AttnRIdeal.main_arg2) = m ((c.tc : Thread Cert.AttnRIdeal.nD Cert.AttnRIdeal.τ).loc Cert.AttnRIdeal.main_arg2)
      ∧ r.2.mem ((c.tc : Thread Cert.AttnRIdeal.nD Cert.AttnRIdeal.τ).loc Cert.AttnRIdeal.main_arg3) = m ((c.tc : Thread Cert.AttnRIdeal.nD Cert.AttnRIdeal.τ).loc Cert.AttnRIdeal.main_arg3))
      ∧ r.2.sem = fun _ => 0)

def quiescent_MergeK [hMergeK : Cert.MergeK.Facts] : Prop :=
  ∀ (m : (ℓ : Loc Cert.MergeK.nD Cert.MergeK.τ Cert.MergeK.sig) → Buf (Elt Bits) ℓ) (g : Dev Cert.MergeK.nD → PrngReg), Pre_MergeK m →
    θ_run (Cert.MergeK.defs (F := Bits)) (onTc (τ := Cert.MergeK.τ) (Cert.MergeK.main (F := Bits))) ⟨m, fun _ => 0, g⟩ (fun r => (∀ c : Dev Cert.MergeK.nD,
      r.2.mem ((c.tc : Thread Cert.MergeK.nD Cert.MergeK.τ).loc Cert.MergeK.main_arg0) = m ((c.tc : Thread Cert.MergeK.nD Cert.MergeK.τ).loc Cert.MergeK.main_arg0)
      ∧ r.2.mem ((c.tc : Thread Cert.MergeK.nD Cert.MergeK.τ).loc Cert.MergeK.main_arg1) = m ((c.tc : Thread Cert.MergeK.nD Cert.MergeK.τ).loc Cert.MergeK.main_arg1)
      ∧ r.2.mem ((c.tc : Thread Cert.MergeK.nD Cert.MergeK.τ).loc Cert.MergeK.main_arg2) = m ((c.tc : Thread Cert.MergeK.nD Cert.MergeK.τ).loc Cert.MergeK.main_arg2)
      ∧ r.2.mem ((c.tc : Thread Cert.MergeK.nD Cert.MergeK.τ).loc Cert.MergeK.main_arg3) = m ((c.tc : Thread Cert.MergeK.nD Cert.MergeK.τ).loc Cert.MergeK.main_arg3)
      ∧ r.2.mem ((c.tc : Thread Cert.MergeK.nD Cert.MergeK.τ).loc Cert.MergeK.main_arg4) = m ((c.tc : Thread Cert.MergeK.nD Cert.MergeK.τ).loc Cert.MergeK.main_arg4)
      ∧ r.2.mem ((c.tc : Thread Cert.MergeK.nD Cert.MergeK.τ).loc Cert.MergeK.main_arg5) = m ((c.tc : Thread Cert.MergeK.nD Cert.MergeK.τ).loc Cert.MergeK.main_arg5)
      ∧ r.2.mem ((c.tc : Thread Cert.MergeK.nD Cert.MergeK.τ).loc Cert.MergeK.main_arg6) = m ((c.tc : Thread Cert.MergeK.nD Cert.MergeK.τ).loc Cert.MergeK.main_arg6)
      ∧ r.2.mem ((c.tc : Thread Cert.MergeK.nD Cert.MergeK.τ).loc Cert.MergeK.main_arg7) = m ((c.tc : Thread Cert.MergeK.nD Cert.MergeK.τ).loc Cert.MergeK.main_arg7)
      ∧ r.2.mem ((c.tc : Thread Cert.MergeK.nD Cert.MergeK.τ).loc Cert.MergeK.main_arg8) = m ((c.tc : Thread Cert.MergeK.nD Cert.MergeK.τ).loc Cert.MergeK.main_arg8))
      ∧ r.2.sem = fun _ => 0)

def quiescent_MergeKIdeal [hMergeKIdeal : Cert.MergeKIdeal.Facts] : Prop :=
  ∀ (m : (ℓ : Loc Cert.MergeKIdeal.nD Cert.MergeKIdeal.τ Cert.MergeKIdeal.sig) → Buf (Elt Ideal) ℓ) (g : Dev Cert.MergeKIdeal.nD → PrngReg), Pre_MergeKIdeal m →
    θ_run (Cert.MergeKIdeal.defs (F := Ideal)) (onTc (τ := Cert.MergeKIdeal.τ) (Cert.MergeKIdeal.main (F := Ideal))) ⟨m, fun _ => 0, g⟩ (fun r => (∀ c : Dev Cert.MergeKIdeal.nD,
      r.2.mem ((c.tc : Thread Cert.MergeKIdeal.nD Cert.MergeKIdeal.τ).loc Cert.MergeKIdeal.main_arg0) = m ((c.tc : Thread Cert.MergeKIdeal.nD Cert.MergeKIdeal.τ).loc Cert.MergeKIdeal.main_arg0)
      ∧ r.2.mem ((c.tc : Thread Cert.MergeKIdeal.nD Cert.MergeKIdeal.τ).loc Cert.MergeKIdeal.main_arg1) = m ((c.tc : Thread Cert.MergeKIdeal.nD Cert.MergeKIdeal.τ).loc Cert.MergeKIdeal.main_arg1)
      ∧ r.2.mem ((c.tc : Thread Cert.MergeKIdeal.nD Cert.MergeKIdeal.τ).loc Cert.MergeKIdeal.main_arg2) = m ((c.tc : Thread Cert.MergeKIdeal.nD Cert.MergeKIdeal.τ).loc Cert.MergeKIdeal.main_arg2)
      ∧ r.2.mem ((c.tc : Thread Cert.MergeKIdeal.nD Cert.MergeKIdeal.τ).loc Cert.MergeKIdeal.main_arg3) = m ((c.tc : Thread Cert.MergeKIdeal.nD Cert.MergeKIdeal.τ).loc Cert.MergeKIdeal.main_arg3)
      ∧ r.2.mem ((c.tc : Thread Cert.MergeKIdeal.nD Cert.MergeKIdeal.τ).loc Cert.MergeKIdeal.main_arg4) = m ((c.tc : Thread Cert.MergeKIdeal.nD Cert.MergeKIdeal.τ).loc Cert.MergeKIdeal.main_arg4)
      ∧ r.2.mem ((c.tc : Thread Cert.MergeKIdeal.nD Cert.MergeKIdeal.τ).loc Cert.MergeKIdeal.main_arg5) = m ((c.tc : Thread Cert.MergeKIdeal.nD Cert.MergeKIdeal.τ).loc Cert.MergeKIdeal.main_arg5)
      ∧ r.2.mem ((c.tc : Thread Cert.MergeKIdeal.nD Cert.MergeKIdeal.τ).loc Cert.MergeKIdeal.main_arg6) = m ((c.tc : Thread Cert.MergeKIdeal.nD Cert.MergeKIdeal.τ).loc Cert.MergeKIdeal.main_arg6)
      ∧ r.2.mem ((c.tc : Thread Cert.MergeKIdeal.nD Cert.MergeKIdeal.τ).loc Cert.MergeKIdeal.main_arg7) = m ((c.tc : Thread Cert.MergeKIdeal.nD Cert.MergeKIdeal.τ).loc Cert.MergeKIdeal.main_arg7)
      ∧ r.2.mem ((c.tc : Thread Cert.MergeKIdeal.nD Cert.MergeKIdeal.τ).loc Cert.MergeKIdeal.main_arg8) = m ((c.tc : Thread Cert.MergeKIdeal.nD Cert.MergeKIdeal.τ).loc Cert.MergeKIdeal.main_arg8))
      ∧ r.2.sem = fun _ => 0)

def quiescent_MergeKIdeal_pre_merge_finite [hMergeKIdeal : Cert.MergeKIdeal.Facts] [hPre_merge_finite : Cert.Pre_merge_finite.Facts] : Prop :=
  ∀ (m : (ℓ : Loc Cert.MergeKIdeal.nD Cert.MergeKIdeal.τ Cert.MergeKIdeal.sig) → Buf (Elt Ideal) ℓ) (g : Dev Cert.MergeKIdeal.nD → PrngReg), Pre_MergeKIdeal_merge_finite m →
    θ_run (Cert.MergeKIdeal.defs (F := Ideal)) (onTc (τ := Cert.MergeKIdeal.τ) (Cert.MergeKIdeal.main (F := Ideal))) ⟨m, fun _ => 0, g⟩ (fun r => (∀ c : Dev Cert.MergeKIdeal.nD,
      r.2.mem ((c.tc : Thread Cert.MergeKIdeal.nD Cert.MergeKIdeal.τ).loc Cert.MergeKIdeal.main_arg0) = m ((c.tc : Thread Cert.MergeKIdeal.nD Cert.MergeKIdeal.τ).loc Cert.MergeKIdeal.main_arg0)
      ∧ r.2.mem ((c.tc : Thread Cert.MergeKIdeal.nD Cert.MergeKIdeal.τ).loc Cert.MergeKIdeal.main_arg1) = m ((c.tc : Thread Cert.MergeKIdeal.nD Cert.MergeKIdeal.τ).loc Cert.MergeKIdeal.main_arg1)
      ∧ r.2.mem ((c.tc : Thread Cert.MergeKIdeal.nD Cert.MergeKIdeal.τ).loc Cert.MergeKIdeal.main_arg2) = m ((c.tc : Thread Cert.MergeKIdeal.nD Cert.MergeKIdeal.τ).loc Cert.MergeKIdeal.main_arg2)
      ∧ r.2.mem ((c.tc : Thread Cert.MergeKIdeal.nD Cert.MergeKIdeal.τ).loc Cert.MergeKIdeal.main_arg3) = m ((c.tc : Thread Cert.MergeKIdeal.nD Cert.MergeKIdeal.τ).loc Cert.MergeKIdeal.main_arg3)
      ∧ r.2.mem ((c.tc : Thread Cert.MergeKIdeal.nD Cert.MergeKIdeal.τ).loc Cert.MergeKIdeal.main_arg4) = m ((c.tc : Thread Cert.MergeKIdeal.nD Cert.MergeKIdeal.τ).loc Cert.MergeKIdeal.main_arg4)
      ∧ r.2.mem ((c.tc : Thread Cert.MergeKIdeal.nD Cert.MergeKIdeal.τ).loc Cert.MergeKIdeal.main_arg5) = m ((c.tc : Thread Cert.MergeKIdeal.nD Cert.MergeKIdeal.τ).loc Cert.MergeKIdeal.main_arg5)
      ∧ r.2.mem ((c.tc : Thread Cert.MergeKIdeal.nD Cert.MergeKIdeal.τ).loc Cert.MergeKIdeal.main_arg6) = m ((c.tc : Thread Cert.MergeKIdeal.nD Cert.MergeKIdeal.τ).loc Cert.MergeKIdeal.main_arg6)
      ∧ r.2.mem ((c.tc : Thread Cert.MergeKIdeal.nD Cert.MergeKIdeal.τ).loc Cert.MergeKIdeal.main_arg7) = m ((c.tc : Thread Cert.MergeKIdeal.nD Cert.MergeKIdeal.τ).loc Cert.MergeKIdeal.main_arg7)
      ∧ r.2.mem ((c.tc : Thread Cert.MergeKIdeal.nD Cert.MergeKIdeal.τ).loc Cert.MergeKIdeal.main_arg8) = m ((c.tc : Thread Cert.MergeKIdeal.nD Cert.MergeKIdeal.τ).loc Cert.MergeKIdeal.main_arg8))
      ∧ r.2.sem = fun _ => 0)

def quiescent_MergeRIdeal [hMergeRIdeal : Cert.MergeRIdeal.Facts] : Prop :=
  ∀ (m : (ℓ : Loc Cert.MergeRIdeal.nD Cert.MergeRIdeal.τ Cert.MergeRIdeal.sig) → Buf (Elt Ideal) ℓ) (g : Dev Cert.MergeRIdeal.nD → PrngReg), Pre_MergeRIdeal m →
    θ_run (Cert.MergeRIdeal.defs (F := Ideal)) (onTc (τ := Cert.MergeRIdeal.τ) (Cert.MergeRIdeal.main (F := Ideal))) ⟨m, fun _ => 0, g⟩ (fun r => (∀ c : Dev Cert.MergeRIdeal.nD,
      r.2.mem ((c.tc : Thread Cert.MergeRIdeal.nD Cert.MergeRIdeal.τ).loc Cert.MergeRIdeal.main_arg0) = m ((c.tc : Thread Cert.MergeRIdeal.nD Cert.MergeRIdeal.τ).loc Cert.MergeRIdeal.main_arg0)
      ∧ r.2.mem ((c.tc : Thread Cert.MergeRIdeal.nD Cert.MergeRIdeal.τ).loc Cert.MergeRIdeal.main_arg1) = m ((c.tc : Thread Cert.MergeRIdeal.nD Cert.MergeRIdeal.τ).loc Cert.MergeRIdeal.main_arg1)
      ∧ r.2.mem ((c.tc : Thread Cert.MergeRIdeal.nD Cert.MergeRIdeal.τ).loc Cert.MergeRIdeal.main_arg2) = m ((c.tc : Thread Cert.MergeRIdeal.nD Cert.MergeRIdeal.τ).loc Cert.MergeRIdeal.main_arg2)
      ∧ r.2.mem ((c.tc : Thread Cert.MergeRIdeal.nD Cert.MergeRIdeal.τ).loc Cert.MergeRIdeal.main_arg3) = m ((c.tc : Thread Cert.MergeRIdeal.nD Cert.MergeRIdeal.τ).loc Cert.MergeRIdeal.main_arg3)
      ∧ r.2.mem ((c.tc : Thread Cert.MergeRIdeal.nD Cert.MergeRIdeal.τ).loc Cert.MergeRIdeal.main_arg4) = m ((c.tc : Thread Cert.MergeRIdeal.nD Cert.MergeRIdeal.τ).loc Cert.MergeRIdeal.main_arg4)
      ∧ r.2.mem ((c.tc : Thread Cert.MergeRIdeal.nD Cert.MergeRIdeal.τ).loc Cert.MergeRIdeal.main_arg5) = m ((c.tc : Thread Cert.MergeRIdeal.nD Cert.MergeRIdeal.τ).loc Cert.MergeRIdeal.main_arg5)
      ∧ r.2.mem ((c.tc : Thread Cert.MergeRIdeal.nD Cert.MergeRIdeal.τ).loc Cert.MergeRIdeal.main_arg6) = m ((c.tc : Thread Cert.MergeRIdeal.nD Cert.MergeRIdeal.τ).loc Cert.MergeRIdeal.main_arg6)
      ∧ r.2.mem ((c.tc : Thread Cert.MergeRIdeal.nD Cert.MergeRIdeal.τ).loc Cert.MergeRIdeal.main_arg7) = m ((c.tc : Thread Cert.MergeRIdeal.nD Cert.MergeRIdeal.τ).loc Cert.MergeRIdeal.main_arg7)
      ∧ r.2.mem ((c.tc : Thread Cert.MergeRIdeal.nD Cert.MergeRIdeal.τ).loc Cert.MergeRIdeal.main_arg8) = m ((c.tc : Thread Cert.MergeRIdeal.nD Cert.MergeRIdeal.τ).loc Cert.MergeRIdeal.main_arg8))
      ∧ r.2.sem = fun _ => 0)

def quiescent_MergeRIdeal_pre_merge_finite [hMergeRIdeal : Cert.MergeRIdeal.Facts] [hPre_merge_finite : Cert.Pre_merge_finite.Facts] : Prop :=
  ∀ (m : (ℓ : Loc Cert.MergeRIdeal.nD Cert.MergeRIdeal.τ Cert.MergeRIdeal.sig) → Buf (Elt Ideal) ℓ) (g : Dev Cert.MergeRIdeal.nD → PrngReg), Pre_MergeRIdeal_merge_finite m →
    θ_run (Cert.MergeRIdeal.defs (F := Ideal)) (onTc (τ := Cert.MergeRIdeal.τ) (Cert.MergeRIdeal.main (F := Ideal))) ⟨m, fun _ => 0, g⟩ (fun r => (∀ c : Dev Cert.MergeRIdeal.nD,
      r.2.mem ((c.tc : Thread Cert.MergeRIdeal.nD Cert.MergeRIdeal.τ).loc Cert.MergeRIdeal.main_arg0) = m ((c.tc : Thread Cert.MergeRIdeal.nD Cert.MergeRIdeal.τ).loc Cert.MergeRIdeal.main_arg0)
      ∧ r.2.mem ((c.tc : Thread Cert.MergeRIdeal.nD Cert.MergeRIdeal.τ).loc Cert.MergeRIdeal.main_arg1) = m ((c.tc : Thread Cert.MergeRIdeal.nD Cert.MergeRIdeal.τ).loc Cert.MergeRIdeal.main_arg1)
      ∧ r.2.mem ((c.tc : Thread Cert.MergeRIdeal.nD Cert.MergeRIdeal.τ).loc Cert.MergeRIdeal.main_arg2) = m ((c.tc : Thread Cert.MergeRIdeal.nD Cert.MergeRIdeal.τ).loc Cert.MergeRIdeal.main_arg2)
      ∧ r.2.mem ((c.tc : Thread Cert.MergeRIdeal.nD Cert.MergeRIdeal.τ).loc Cert.MergeRIdeal.main_arg3) = m ((c.tc : Thread Cert.MergeRIdeal.nD Cert.MergeRIdeal.τ).loc Cert.MergeRIdeal.main_arg3)
      ∧ r.2.mem ((c.tc : Thread Cert.MergeRIdeal.nD Cert.MergeRIdeal.τ).loc Cert.MergeRIdeal.main_arg4) = m ((c.tc : Thread Cert.MergeRIdeal.nD Cert.MergeRIdeal.τ).loc Cert.MergeRIdeal.main_arg4)
      ∧ r.2.mem ((c.tc : Thread Cert.MergeRIdeal.nD Cert.MergeRIdeal.τ).loc Cert.MergeRIdeal.main_arg5) = m ((c.tc : Thread Cert.MergeRIdeal.nD Cert.MergeRIdeal.τ).loc Cert.MergeRIdeal.main_arg5)
      ∧ r.2.mem ((c.tc : Thread Cert.MergeRIdeal.nD Cert.MergeRIdeal.τ).loc Cert.MergeRIdeal.main_arg6) = m ((c.tc : Thread Cert.MergeRIdeal.nD Cert.MergeRIdeal.τ).loc Cert.MergeRIdeal.main_arg6)
      ∧ r.2.mem ((c.tc : Thread Cert.MergeRIdeal.nD Cert.MergeRIdeal.τ).loc Cert.MergeRIdeal.main_arg7) = m ((c.tc : Thread Cert.MergeRIdeal.nD Cert.MergeRIdeal.τ).loc Cert.MergeRIdeal.main_arg7)
      ∧ r.2.mem ((c.tc : Thread Cert.MergeRIdeal.nD Cert.MergeRIdeal.τ).loc Cert.MergeRIdeal.main_arg8) = m ((c.tc : Thread Cert.MergeRIdeal.nD Cert.MergeRIdeal.τ).loc Cert.MergeRIdeal.main_arg8))
      ∧ r.2.sem = fun _ => 0)

def quiescent_FwdK [hFwdK : Cert.FwdK.Facts] : Prop :=
  ∀ (m : (ℓ : Loc Cert.FwdK.nD Cert.FwdK.τ Cert.FwdK.sig) → Buf (Elt Bits) ℓ) (g : Dev Cert.FwdK.nD → PrngReg), Pre_FwdK m →
    θ_run (Cert.FwdK.defs (F := Bits)) (onTc (τ := Cert.FwdK.τ) (Cert.FwdK.main (F := Bits))) ⟨m, fun _ => 0, g⟩ (fun r => (∀ c : Dev Cert.FwdK.nD,
      r.2.mem ((c.tc : Thread Cert.FwdK.nD Cert.FwdK.τ).loc Cert.FwdK.main_arg0) = m ((c.tc : Thread Cert.FwdK.nD Cert.FwdK.τ).loc Cert.FwdK.main_arg0)
      ∧ r.2.mem ((c.tc : Thread Cert.FwdK.nD Cert.FwdK.τ).loc Cert.FwdK.main_arg1) = m ((c.tc : Thread Cert.FwdK.nD Cert.FwdK.τ).loc Cert.FwdK.main_arg1)
      ∧ r.2.mem ((c.tc : Thread Cert.FwdK.nD Cert.FwdK.τ).loc Cert.FwdK.main_arg2) = m ((c.tc : Thread Cert.FwdK.nD Cert.FwdK.τ).loc Cert.FwdK.main_arg2))
      ∧ r.2.sem = fun _ => 0)

def quiescent_FwdKIdeal [hFwdKIdeal : Cert.FwdKIdeal.Facts] : Prop :=
  ∀ (m : (ℓ : Loc Cert.FwdKIdeal.nD Cert.FwdKIdeal.τ Cert.FwdKIdeal.sig) → Buf (Elt Ideal) ℓ) (g : Dev Cert.FwdKIdeal.nD → PrngReg), Pre_FwdKIdeal m →
    θ_run (Cert.FwdKIdeal.defs (F := Ideal)) (onTc (τ := Cert.FwdKIdeal.τ) (Cert.FwdKIdeal.main (F := Ideal))) ⟨m, fun _ => 0, g⟩ (fun r => (∀ c : Dev Cert.FwdKIdeal.nD,
      r.2.mem ((c.tc : Thread Cert.FwdKIdeal.nD Cert.FwdKIdeal.τ).loc Cert.FwdKIdeal.main_arg0) = m ((c.tc : Thread Cert.FwdKIdeal.nD Cert.FwdKIdeal.τ).loc Cert.FwdKIdeal.main_arg0)
      ∧ r.2.mem ((c.tc : Thread Cert.FwdKIdeal.nD Cert.FwdKIdeal.τ).loc Cert.FwdKIdeal.main_arg1) = m ((c.tc : Thread Cert.FwdKIdeal.nD Cert.FwdKIdeal.τ).loc Cert.FwdKIdeal.main_arg1)
      ∧ r.2.mem ((c.tc : Thread Cert.FwdKIdeal.nD Cert.FwdKIdeal.τ).loc Cert.FwdKIdeal.main_arg2) = m ((c.tc : Thread Cert.FwdKIdeal.nD Cert.FwdKIdeal.τ).loc Cert.FwdKIdeal.main_arg2))
      ∧ r.2.sem = fun _ => 0)

def quiescent_FwdKIdeal_pre_fwd_finite [hFwdKIdeal : Cert.FwdKIdeal.Facts] [hPre_fwd_finite : Cert.Pre_fwd_finite.Facts] : Prop :=
  ∀ (m : (ℓ : Loc Cert.FwdKIdeal.nD Cert.FwdKIdeal.τ Cert.FwdKIdeal.sig) → Buf (Elt Ideal) ℓ) (g : Dev Cert.FwdKIdeal.nD → PrngReg), Pre_FwdKIdeal_fwd_finite m →
    θ_run (Cert.FwdKIdeal.defs (F := Ideal)) (onTc (τ := Cert.FwdKIdeal.τ) (Cert.FwdKIdeal.main (F := Ideal))) ⟨m, fun _ => 0, g⟩ (fun r => (∀ c : Dev Cert.FwdKIdeal.nD,
      r.2.mem ((c.tc : Thread Cert.FwdKIdeal.nD Cert.FwdKIdeal.τ).loc Cert.FwdKIdeal.main_arg0) = m ((c.tc : Thread Cert.FwdKIdeal.nD Cert.FwdKIdeal.τ).loc Cert.FwdKIdeal.main_arg0)
      ∧ r.2.mem ((c.tc : Thread Cert.FwdKIdeal.nD Cert.FwdKIdeal.τ).loc Cert.FwdKIdeal.main_arg1) = m ((c.tc : Thread Cert.FwdKIdeal.nD Cert.FwdKIdeal.τ).loc Cert.FwdKIdeal.main_arg1)
      ∧ r.2.mem ((c.tc : Thread Cert.FwdKIdeal.nD Cert.FwdKIdeal.τ).loc Cert.FwdKIdeal.main_arg2) = m ((c.tc : Thread Cert.FwdKIdeal.nD Cert.FwdKIdeal.τ).loc Cert.FwdKIdeal.main_arg2))
      ∧ r.2.sem = fun _ => 0)

def quiescent_FwdRIdeal [hFwdRIdeal : Cert.FwdRIdeal.Facts] : Prop :=
  ∀ (m : (ℓ : Loc Cert.FwdRIdeal.nD Cert.FwdRIdeal.τ Cert.FwdRIdeal.sig) → Buf (Elt Ideal) ℓ) (g : Dev Cert.FwdRIdeal.nD → PrngReg), Pre_FwdRIdeal m →
    θ_run (Cert.FwdRIdeal.defs (F := Ideal)) (onTc (τ := Cert.FwdRIdeal.τ) (Cert.FwdRIdeal.main (F := Ideal))) ⟨m, fun _ => 0, g⟩ (fun r => (∀ c : Dev Cert.FwdRIdeal.nD,
      r.2.mem ((c.tc : Thread Cert.FwdRIdeal.nD Cert.FwdRIdeal.τ).loc Cert.FwdRIdeal.main_arg0) = m ((c.tc : Thread Cert.FwdRIdeal.nD Cert.FwdRIdeal.τ).loc Cert.FwdRIdeal.main_arg0)
      ∧ r.2.mem ((c.tc : Thread Cert.FwdRIdeal.nD Cert.FwdRIdeal.τ).loc Cert.FwdRIdeal.main_arg1) = m ((c.tc : Thread Cert.FwdRIdeal.nD Cert.FwdRIdeal.τ).loc Cert.FwdRIdeal.main_arg1)
      ∧ r.2.mem ((c.tc : Thread Cert.FwdRIdeal.nD Cert.FwdRIdeal.τ).loc Cert.FwdRIdeal.main_arg2) = m ((c.tc : Thread Cert.FwdRIdeal.nD Cert.FwdRIdeal.τ).loc Cert.FwdRIdeal.main_arg2))
      ∧ r.2.sem = fun _ => 0)

def quiescent_FwdRIdeal_pre_fwd_finite [hFwdRIdeal : Cert.FwdRIdeal.Facts] [hPre_fwd_finite : Cert.Pre_fwd_finite.Facts] : Prop :=
  ∀ (m : (ℓ : Loc Cert.FwdRIdeal.nD Cert.FwdRIdeal.τ Cert.FwdRIdeal.sig) → Buf (Elt Ideal) ℓ) (g : Dev Cert.FwdRIdeal.nD → PrngReg), Pre_FwdRIdeal_fwd_finite m →
    θ_run (Cert.FwdRIdeal.defs (F := Ideal)) (onTc (τ := Cert.FwdRIdeal.τ) (Cert.FwdRIdeal.main (F := Ideal))) ⟨m, fun _ => 0, g⟩ (fun r => (∀ c : Dev Cert.FwdRIdeal.nD,
      r.2.mem ((c.tc : Thread Cert.FwdRIdeal.nD Cert.FwdRIdeal.τ).loc Cert.FwdRIdeal.main_arg0) = m ((c.tc : Thread Cert.FwdRIdeal.nD Cert.FwdRIdeal.τ).loc Cert.FwdRIdeal.main_arg0)
      ∧ r.2.mem ((c.tc : Thread Cert.FwdRIdeal.nD Cert.FwdRIdeal.τ).loc Cert.FwdRIdeal.main_arg1) = m ((c.tc : Thread Cert.FwdRIdeal.nD Cert.FwdRIdeal.τ).loc Cert.FwdRIdeal.main_arg1)
      ∧ r.2.mem ((c.tc : Thread Cert.FwdRIdeal.nD Cert.FwdRIdeal.τ).loc Cert.FwdRIdeal.main_arg2) = m ((c.tc : Thread Cert.FwdRIdeal.nD Cert.FwdRIdeal.τ).loc Cert.FwdRIdeal.main_arg2))
      ∧ r.2.sem = fun _ => 0)

def quiescent_MlpK [hMlpK : Cert.MlpK.Facts] : Prop :=
  ∀ (m : (ℓ : Loc Cert.MlpK.nD Cert.MlpK.τ Cert.MlpK.sig) → Buf (Elt Bits) ℓ) (g : Dev Cert.MlpK.nD → PrngReg), Pre_MlpK m →
    θ_run (Cert.MlpK.defs (F := Bits)) (onTc (τ := Cert.MlpK.τ) (Cert.MlpK.main (F := Bits))) ⟨m, fun _ => 0, g⟩ (fun r => (∀ c : Dev Cert.MlpK.nD,
      r.2.mem ((c.tc : Thread Cert.MlpK.nD Cert.MlpK.τ).loc Cert.MlpK.main_arg0) = m ((c.tc : Thread Cert.MlpK.nD Cert.MlpK.τ).loc Cert.MlpK.main_arg0)
      ∧ r.2.mem ((c.tc : Thread Cert.MlpK.nD Cert.MlpK.τ).loc Cert.MlpK.main_arg1) = m ((c.tc : Thread Cert.MlpK.nD Cert.MlpK.τ).loc Cert.MlpK.main_arg1)
      ∧ r.2.mem ((c.tc : Thread Cert.MlpK.nD Cert.MlpK.τ).loc Cert.MlpK.main_arg2) = m ((c.tc : Thread Cert.MlpK.nD Cert.MlpK.τ).loc Cert.MlpK.main_arg2)
      ∧ r.2.mem ((c.tc : Thread Cert.MlpK.nD Cert.MlpK.τ).loc Cert.MlpK.main_arg3) = m ((c.tc : Thread Cert.MlpK.nD Cert.MlpK.τ).loc Cert.MlpK.main_arg3)
      ∧ r.2.mem ((c.tc : Thread Cert.MlpK.nD Cert.MlpK.τ).loc Cert.MlpK.main_arg4) = m ((c.tc : Thread Cert.MlpK.nD Cert.MlpK.τ).loc Cert.MlpK.main_arg4)
      ∧ r.2.mem ((c.tc : Thread Cert.MlpK.nD Cert.MlpK.τ).loc Cert.MlpK.main_arg5) = m ((c.tc : Thread Cert.MlpK.nD Cert.MlpK.τ).loc Cert.MlpK.main_arg5))
      ∧ r.2.sem = fun _ => 0)

def quiescent_MlpKIdeal [hMlpKIdeal : Cert.MlpKIdeal.Facts] : Prop :=
  ∀ (m : (ℓ : Loc Cert.MlpKIdeal.nD Cert.MlpKIdeal.τ Cert.MlpKIdeal.sig) → Buf (Elt Ideal) ℓ) (g : Dev Cert.MlpKIdeal.nD → PrngReg), Pre_MlpKIdeal m →
    θ_run (Cert.MlpKIdeal.defs (F := Ideal)) (onTc (τ := Cert.MlpKIdeal.τ) (Cert.MlpKIdeal.main (F := Ideal))) ⟨m, fun _ => 0, g⟩ (fun r => (∀ c : Dev Cert.MlpKIdeal.nD,
      r.2.mem ((c.tc : Thread Cert.MlpKIdeal.nD Cert.MlpKIdeal.τ).loc Cert.MlpKIdeal.main_arg0) = m ((c.tc : Thread Cert.MlpKIdeal.nD Cert.MlpKIdeal.τ).loc Cert.MlpKIdeal.main_arg0)
      ∧ r.2.mem ((c.tc : Thread Cert.MlpKIdeal.nD Cert.MlpKIdeal.τ).loc Cert.MlpKIdeal.main_arg1) = m ((c.tc : Thread Cert.MlpKIdeal.nD Cert.MlpKIdeal.τ).loc Cert.MlpKIdeal.main_arg1)
      ∧ r.2.mem ((c.tc : Thread Cert.MlpKIdeal.nD Cert.MlpKIdeal.τ).loc Cert.MlpKIdeal.main_arg2) = m ((c.tc : Thread Cert.MlpKIdeal.nD Cert.MlpKIdeal.τ).loc Cert.MlpKIdeal.main_arg2)
      ∧ r.2.mem ((c.tc : Thread Cert.MlpKIdeal.nD Cert.MlpKIdeal.τ).loc Cert.MlpKIdeal.main_arg3) = m ((c.tc : Thread Cert.MlpKIdeal.nD Cert.MlpKIdeal.τ).loc Cert.MlpKIdeal.main_arg3)
      ∧ r.2.mem ((c.tc : Thread Cert.MlpKIdeal.nD Cert.MlpKIdeal.τ).loc Cert.MlpKIdeal.main_arg4) = m ((c.tc : Thread Cert.MlpKIdeal.nD Cert.MlpKIdeal.τ).loc Cert.MlpKIdeal.main_arg4)
      ∧ r.2.mem ((c.tc : Thread Cert.MlpKIdeal.nD Cert.MlpKIdeal.τ).loc Cert.MlpKIdeal.main_arg5) = m ((c.tc : Thread Cert.MlpKIdeal.nD Cert.MlpKIdeal.τ).loc Cert.MlpKIdeal.main_arg5))
      ∧ r.2.sem = fun _ => 0)

def quiescent_MlpKIdeal_pre_mlp_finite [hMlpKIdeal : Cert.MlpKIdeal.Facts] [hPre_mlp_finite : Cert.Pre_mlp_finite.Facts] : Prop :=
  ∀ (m : (ℓ : Loc Cert.MlpKIdeal.nD Cert.MlpKIdeal.τ Cert.MlpKIdeal.sig) → Buf (Elt Ideal) ℓ) (g : Dev Cert.MlpKIdeal.nD → PrngReg), Pre_MlpKIdeal_mlp_finite m →
    θ_run (Cert.MlpKIdeal.defs (F := Ideal)) (onTc (τ := Cert.MlpKIdeal.τ) (Cert.MlpKIdeal.main (F := Ideal))) ⟨m, fun _ => 0, g⟩ (fun r => (∀ c : Dev Cert.MlpKIdeal.nD,
      r.2.mem ((c.tc : Thread Cert.MlpKIdeal.nD Cert.MlpKIdeal.τ).loc Cert.MlpKIdeal.main_arg0) = m ((c.tc : Thread Cert.MlpKIdeal.nD Cert.MlpKIdeal.τ).loc Cert.MlpKIdeal.main_arg0)
      ∧ r.2.mem ((c.tc : Thread Cert.MlpKIdeal.nD Cert.MlpKIdeal.τ).loc Cert.MlpKIdeal.main_arg1) = m ((c.tc : Thread Cert.MlpKIdeal.nD Cert.MlpKIdeal.τ).loc Cert.MlpKIdeal.main_arg1)
      ∧ r.2.mem ((c.tc : Thread Cert.MlpKIdeal.nD Cert.MlpKIdeal.τ).loc Cert.MlpKIdeal.main_arg2) = m ((c.tc : Thread Cert.MlpKIdeal.nD Cert.MlpKIdeal.τ).loc Cert.MlpKIdeal.main_arg2)
      ∧ r.2.mem ((c.tc : Thread Cert.MlpKIdeal.nD Cert.MlpKIdeal.τ).loc Cert.MlpKIdeal.main_arg3) = m ((c.tc : Thread Cert.MlpKIdeal.nD Cert.MlpKIdeal.τ).loc Cert.MlpKIdeal.main_arg3)
      ∧ r.2.mem ((c.tc : Thread Cert.MlpKIdeal.nD Cert.MlpKIdeal.τ).loc Cert.MlpKIdeal.main_arg4) = m ((c.tc : Thread Cert.MlpKIdeal.nD Cert.MlpKIdeal.τ).loc Cert.MlpKIdeal.main_arg4)
      ∧ r.2.mem ((c.tc : Thread Cert.MlpKIdeal.nD Cert.MlpKIdeal.τ).loc Cert.MlpKIdeal.main_arg5) = m ((c.tc : Thread Cert.MlpKIdeal.nD Cert.MlpKIdeal.τ).loc Cert.MlpKIdeal.main_arg5))
      ∧ r.2.sem = fun _ => 0)

def quiescent_MlpRIdeal [hMlpRIdeal : Cert.MlpRIdeal.Facts] : Prop :=
  ∀ (m : (ℓ : Loc Cert.MlpRIdeal.nD Cert.MlpRIdeal.τ Cert.MlpRIdeal.sig) → Buf (Elt Ideal) ℓ) (g : Dev Cert.MlpRIdeal.nD → PrngReg), Pre_MlpRIdeal m →
    θ_run (Cert.MlpRIdeal.defs (F := Ideal)) (onTc (τ := Cert.MlpRIdeal.τ) (Cert.MlpRIdeal.main (F := Ideal))) ⟨m, fun _ => 0, g⟩ (fun r => (∀ c : Dev Cert.MlpRIdeal.nD,
      r.2.mem ((c.tc : Thread Cert.MlpRIdeal.nD Cert.MlpRIdeal.τ).loc Cert.MlpRIdeal.main_arg0) = m ((c.tc : Thread Cert.MlpRIdeal.nD Cert.MlpRIdeal.τ).loc Cert.MlpRIdeal.main_arg0)
      ∧ r.2.mem ((c.tc : Thread Cert.MlpRIdeal.nD Cert.MlpRIdeal.τ).loc Cert.MlpRIdeal.main_arg1) = m ((c.tc : Thread Cert.MlpRIdeal.nD Cert.MlpRIdeal.τ).loc Cert.MlpRIdeal.main_arg1)
      ∧ r.2.mem ((c.tc : Thread Cert.MlpRIdeal.nD Cert.MlpRIdeal.τ).loc Cert.MlpRIdeal.main_arg2) = m ((c.tc : Thread Cert.MlpRIdeal.nD Cert.MlpRIdeal.τ).loc Cert.MlpRIdeal.main_arg2)
      ∧ r.2.mem ((c.tc : Thread Cert.MlpRIdeal.nD Cert.MlpRIdeal.τ).loc Cert.MlpRIdeal.main_arg3) = m ((c.tc : Thread Cert.MlpRIdeal.nD Cert.MlpRIdeal.τ).loc Cert.MlpRIdeal.main_arg3)
      ∧ r.2.mem ((c.tc : Thread Cert.MlpRIdeal.nD Cert.MlpRIdeal.τ).loc Cert.MlpRIdeal.main_arg4) = m ((c.tc : Thread Cert.MlpRIdeal.nD Cert.MlpRIdeal.τ).loc Cert.MlpRIdeal.main_arg4)
      ∧ r.2.mem ((c.tc : Thread Cert.MlpRIdeal.nD Cert.MlpRIdeal.τ).loc Cert.MlpRIdeal.main_arg5) = m ((c.tc : Thread Cert.MlpRIdeal.nD Cert.MlpRIdeal.τ).loc Cert.MlpRIdeal.main_arg5))
      ∧ r.2.sem = fun _ => 0)

def quiescent_MlpRIdeal_pre_mlp_finite [hMlpRIdeal : Cert.MlpRIdeal.Facts] [hPre_mlp_finite : Cert.Pre_mlp_finite.Facts] : Prop :=
  ∀ (m : (ℓ : Loc Cert.MlpRIdeal.nD Cert.MlpRIdeal.τ Cert.MlpRIdeal.sig) → Buf (Elt Ideal) ℓ) (g : Dev Cert.MlpRIdeal.nD → PrngReg), Pre_MlpRIdeal_mlp_finite m →
    θ_run (Cert.MlpRIdeal.defs (F := Ideal)) (onTc (τ := Cert.MlpRIdeal.τ) (Cert.MlpRIdeal.main (F := Ideal))) ⟨m, fun _ => 0, g⟩ (fun r => (∀ c : Dev Cert.MlpRIdeal.nD,
      r.2.mem ((c.tc : Thread Cert.MlpRIdeal.nD Cert.MlpRIdeal.τ).loc Cert.MlpRIdeal.main_arg0) = m ((c.tc : Thread Cert.MlpRIdeal.nD Cert.MlpRIdeal.τ).loc Cert.MlpRIdeal.main_arg0)
      ∧ r.2.mem ((c.tc : Thread Cert.MlpRIdeal.nD Cert.MlpRIdeal.τ).loc Cert.MlpRIdeal.main_arg1) = m ((c.tc : Thread Cert.MlpRIdeal.nD Cert.MlpRIdeal.τ).loc Cert.MlpRIdeal.main_arg1)
      ∧ r.2.mem ((c.tc : Thread Cert.MlpRIdeal.nD Cert.MlpRIdeal.τ).loc Cert.MlpRIdeal.main_arg2) = m ((c.tc : Thread Cert.MlpRIdeal.nD Cert.MlpRIdeal.τ).loc Cert.MlpRIdeal.main_arg2)
      ∧ r.2.mem ((c.tc : Thread Cert.MlpRIdeal.nD Cert.MlpRIdeal.τ).loc Cert.MlpRIdeal.main_arg3) = m ((c.tc : Thread Cert.MlpRIdeal.nD Cert.MlpRIdeal.τ).loc Cert.MlpRIdeal.main_arg3)
      ∧ r.2.mem ((c.tc : Thread Cert.MlpRIdeal.nD Cert.MlpRIdeal.τ).loc Cert.MlpRIdeal.main_arg4) = m ((c.tc : Thread Cert.MlpRIdeal.nD Cert.MlpRIdeal.τ).loc Cert.MlpRIdeal.main_arg4)
      ∧ r.2.mem ((c.tc : Thread Cert.MlpRIdeal.nD Cert.MlpRIdeal.τ).loc Cert.MlpRIdeal.main_arg5) = m ((c.tc : Thread Cert.MlpRIdeal.nD Cert.MlpRIdeal.τ).loc Cert.MlpRIdeal.main_arg5))
      ∧ r.2.sem = fun _ => 0)

def quiescent_InbK [hInbK : Cert.InbK.Facts] : Prop :=
  ∀ (m : (ℓ : Loc Cert.InbK.nD Cert.InbK.τ Cert.InbK.sig) → Buf (Elt Bits) ℓ) (g : Dev Cert.InbK.nD → PrngReg), Pre_InbK m →
    θ_run (Cert.InbK.defs (F := Bits)) (onTc (τ := Cert.InbK.τ) (Cert.InbK.main (F := Bits))) ⟨m, fun _ => 0, g⟩ (fun r => (∀ c : Dev Cert.InbK.nD,
      r.2.mem ((c.tc : Thread Cert.InbK.nD Cert.InbK.τ).loc Cert.InbK.main_arg0) = m ((c.tc : Thread Cert.InbK.nD Cert.InbK.τ).loc Cert.InbK.main_arg0)
      ∧ r.2.mem ((c.tc : Thread Cert.InbK.nD Cert.InbK.τ).loc Cert.InbK.main_arg1) = m ((c.tc : Thread Cert.InbK.nD Cert.InbK.τ).loc Cert.InbK.main_arg1)
      ∧ r.2.mem ((c.tc : Thread Cert.InbK.nD Cert.InbK.τ).loc Cert.InbK.main_arg2) = m ((c.tc : Thread Cert.InbK.nD Cert.InbK.τ).loc Cert.InbK.main_arg2)
      ∧ r.2.mem ((c.tc : Thread Cert.InbK.nD Cert.InbK.τ).loc Cert.InbK.main_arg3) = m ((c.tc : Thread Cert.InbK.nD Cert.InbK.τ).loc Cert.InbK.main_arg3)
      ∧ r.2.mem ((c.tc : Thread Cert.InbK.nD Cert.InbK.τ).loc Cert.InbK.main_arg4) = m ((c.tc : Thread Cert.InbK.nD Cert.InbK.τ).loc Cert.InbK.main_arg4)
      ∧ r.2.mem ((c.tc : Thread Cert.InbK.nD Cert.InbK.τ).loc Cert.InbK.main_arg5) = m ((c.tc : Thread Cert.InbK.nD Cert.InbK.τ).loc Cert.InbK.main_arg5))
      ∧ r.2.sem = fun _ => 0)

def quiescent_InbKIdeal [hInbKIdeal : Cert.InbKIdeal.Facts] : Prop :=
  ∀ (m : (ℓ : Loc Cert.InbKIdeal.nD Cert.InbKIdeal.τ Cert.InbKIdeal.sig) → Buf (Elt Ideal) ℓ) (g : Dev Cert.InbKIdeal.nD → PrngReg), Pre_InbKIdeal m →
    θ_run (Cert.InbKIdeal.defs (F := Ideal)) (onTc (τ := Cert.InbKIdeal.τ) (Cert.InbKIdeal.main (F := Ideal))) ⟨m, fun _ => 0, g⟩ (fun r => (∀ c : Dev Cert.InbKIdeal.nD,
      r.2.mem ((c.tc : Thread Cert.InbKIdeal.nD Cert.InbKIdeal.τ).loc Cert.InbKIdeal.main_arg0) = m ((c.tc : Thread Cert.InbKIdeal.nD Cert.InbKIdeal.τ).loc Cert.InbKIdeal.main_arg0)
      ∧ r.2.mem ((c.tc : Thread Cert.InbKIdeal.nD Cert.InbKIdeal.τ).loc Cert.InbKIdeal.main_arg1) = m ((c.tc : Thread Cert.InbKIdeal.nD Cert.InbKIdeal.τ).loc Cert.InbKIdeal.main_arg1)
      ∧ r.2.mem ((c.tc : Thread Cert.InbKIdeal.nD Cert.InbKIdeal.τ).loc Cert.InbKIdeal.main_arg2) = m ((c.tc : Thread Cert.InbKIdeal.nD Cert.InbKIdeal.τ).loc Cert.InbKIdeal.main_arg2)
      ∧ r.2.mem ((c.tc : Thread Cert.InbKIdeal.nD Cert.InbKIdeal.τ).loc Cert.InbKIdeal.main_arg3) = m ((c.tc : Thread Cert.InbKIdeal.nD Cert.InbKIdeal.τ).loc Cert.InbKIdeal.main_arg3)
      ∧ r.2.mem ((c.tc : Thread Cert.InbKIdeal.nD Cert.InbKIdeal.τ).loc Cert.InbKIdeal.main_arg4) = m ((c.tc : Thread Cert.InbKIdeal.nD Cert.InbKIdeal.τ).loc Cert.InbKIdeal.main_arg4)
      ∧ r.2.mem ((c.tc : Thread Cert.InbKIdeal.nD Cert.InbKIdeal.τ).loc Cert.InbKIdeal.main_arg5) = m ((c.tc : Thread Cert.InbKIdeal.nD Cert.InbKIdeal.τ).loc Cert.InbKIdeal.main_arg5))
      ∧ r.2.sem = fun _ => 0)

def quiescent_InbKIdeal_pre_inb_finite [hInbKIdeal : Cert.InbKIdeal.Facts] [hPre_inb_finite : Cert.Pre_inb_finite.Facts] : Prop :=
  ∀ (m : (ℓ : Loc Cert.InbKIdeal.nD Cert.InbKIdeal.τ Cert.InbKIdeal.sig) → Buf (Elt Ideal) ℓ) (g : Dev Cert.InbKIdeal.nD → PrngReg), Pre_InbKIdeal_inb_finite m →
    θ_run (Cert.InbKIdeal.defs (F := Ideal)) (onTc (τ := Cert.InbKIdeal.τ) (Cert.InbKIdeal.main (F := Ideal))) ⟨m, fun _ => 0, g⟩ (fun r => (∀ c : Dev Cert.InbKIdeal.nD,
      r.2.mem ((c.tc : Thread Cert.InbKIdeal.nD Cert.InbKIdeal.τ).loc Cert.InbKIdeal.main_arg0) = m ((c.tc : Thread Cert.InbKIdeal.nD Cert.InbKIdeal.τ).loc Cert.InbKIdeal.main_arg0)
      ∧ r.2.mem ((c.tc : Thread Cert.InbKIdeal.nD Cert.InbKIdeal.τ).loc Cert.InbKIdeal.main_arg1) = m ((c.tc : Thread Cert.InbKIdeal.nD Cert.InbKIdeal.τ).loc Cert.InbKIdeal.main_arg1)
      ∧ r.2.mem ((c.tc : Thread Cert.InbKIdeal.nD Cert.InbKIdeal.τ).loc Cert.InbKIdeal.main_arg2) = m ((c.tc : Thread Cert.InbKIdeal.nD Cert.InbKIdeal.τ).loc Cert.InbKIdeal.main_arg2)
      ∧ r.2.mem ((c.tc : Thread Cert.InbKIdeal.nD Cert.InbKIdeal.τ).loc Cert.InbKIdeal.main_arg3) = m ((c.tc : Thread Cert.InbKIdeal.nD Cert.InbKIdeal.τ).loc Cert.InbKIdeal.main_arg3)
      ∧ r.2.mem ((c.tc : Thread Cert.InbKIdeal.nD Cert.InbKIdeal.τ).loc Cert.InbKIdeal.main_arg4) = m ((c.tc : Thread Cert.InbKIdeal.nD Cert.InbKIdeal.τ).loc Cert.InbKIdeal.main_arg4)
      ∧ r.2.mem ((c.tc : Thread Cert.InbKIdeal.nD Cert.InbKIdeal.τ).loc Cert.InbKIdeal.main_arg5) = m ((c.tc : Thread Cert.InbKIdeal.nD Cert.InbKIdeal.τ).loc Cert.InbKIdeal.main_arg5))
      ∧ r.2.sem = fun _ => 0)

def quiescent_InbRIdeal [hInbRIdeal : Cert.InbRIdeal.Facts] : Prop :=
  ∀ (m : (ℓ : Loc Cert.InbRIdeal.nD Cert.InbRIdeal.τ Cert.InbRIdeal.sig) → Buf (Elt Ideal) ℓ) (g : Dev Cert.InbRIdeal.nD → PrngReg), Pre_InbRIdeal m →
    θ_run (Cert.InbRIdeal.defs (F := Ideal)) (onTc (τ := Cert.InbRIdeal.τ) (Cert.InbRIdeal.main (F := Ideal))) ⟨m, fun _ => 0, g⟩ (fun r => (∀ c : Dev Cert.InbRIdeal.nD,
      r.2.mem ((c.tc : Thread Cert.InbRIdeal.nD Cert.InbRIdeal.τ).loc Cert.InbRIdeal.main_arg0) = m ((c.tc : Thread Cert.InbRIdeal.nD Cert.InbRIdeal.τ).loc Cert.InbRIdeal.main_arg0)
      ∧ r.2.mem ((c.tc : Thread Cert.InbRIdeal.nD Cert.InbRIdeal.τ).loc Cert.InbRIdeal.main_arg1) = m ((c.tc : Thread Cert.InbRIdeal.nD Cert.InbRIdeal.τ).loc Cert.InbRIdeal.main_arg1)
      ∧ r.2.mem ((c.tc : Thread Cert.InbRIdeal.nD Cert.InbRIdeal.τ).loc Cert.InbRIdeal.main_arg2) = m ((c.tc : Thread Cert.InbRIdeal.nD Cert.InbRIdeal.τ).loc Cert.InbRIdeal.main_arg2)
      ∧ r.2.mem ((c.tc : Thread Cert.InbRIdeal.nD Cert.InbRIdeal.τ).loc Cert.InbRIdeal.main_arg3) = m ((c.tc : Thread Cert.InbRIdeal.nD Cert.InbRIdeal.τ).loc Cert.InbRIdeal.main_arg3)
      ∧ r.2.mem ((c.tc : Thread Cert.InbRIdeal.nD Cert.InbRIdeal.τ).loc Cert.InbRIdeal.main_arg4) = m ((c.tc : Thread Cert.InbRIdeal.nD Cert.InbRIdeal.τ).loc Cert.InbRIdeal.main_arg4)
      ∧ r.2.mem ((c.tc : Thread Cert.InbRIdeal.nD Cert.InbRIdeal.τ).loc Cert.InbRIdeal.main_arg5) = m ((c.tc : Thread Cert.InbRIdeal.nD Cert.InbRIdeal.τ).loc Cert.InbRIdeal.main_arg5))
      ∧ r.2.sem = fun _ => 0)

def quiescent_InbRIdeal_pre_inb_finite [hInbRIdeal : Cert.InbRIdeal.Facts] [hPre_inb_finite : Cert.Pre_inb_finite.Facts] : Prop :=
  ∀ (m : (ℓ : Loc Cert.InbRIdeal.nD Cert.InbRIdeal.τ Cert.InbRIdeal.sig) → Buf (Elt Ideal) ℓ) (g : Dev Cert.InbRIdeal.nD → PrngReg), Pre_InbRIdeal_inb_finite m →
    θ_run (Cert.InbRIdeal.defs (F := Ideal)) (onTc (τ := Cert.InbRIdeal.τ) (Cert.InbRIdeal.main (F := Ideal))) ⟨m, fun _ => 0, g⟩ (fun r => (∀ c : Dev Cert.InbRIdeal.nD,
      r.2.mem ((c.tc : Thread Cert.InbRIdeal.nD Cert.InbRIdeal.τ).loc Cert.InbRIdeal.main_arg0) = m ((c.tc : Thread Cert.InbRIdeal.nD Cert.InbRIdeal.τ).loc Cert.InbRIdeal.main_arg0)
      ∧ r.2.mem ((c.tc : Thread Cert.InbRIdeal.nD Cert.InbRIdeal.τ).loc Cert.InbRIdeal.main_arg1) = m ((c.tc : Thread Cert.InbRIdeal.nD Cert.InbRIdeal.τ).loc Cert.InbRIdeal.main_arg1)
      ∧ r.2.mem ((c.tc : Thread Cert.InbRIdeal.nD Cert.InbRIdeal.τ).loc Cert.InbRIdeal.main_arg2) = m ((c.tc : Thread Cert.InbRIdeal.nD Cert.InbRIdeal.τ).loc Cert.InbRIdeal.main_arg2)
      ∧ r.2.mem ((c.tc : Thread Cert.InbRIdeal.nD Cert.InbRIdeal.τ).loc Cert.InbRIdeal.main_arg3) = m ((c.tc : Thread Cert.InbRIdeal.nD Cert.InbRIdeal.τ).loc Cert.InbRIdeal.main_arg3)
      ∧ r.2.mem ((c.tc : Thread Cert.InbRIdeal.nD Cert.InbRIdeal.τ).loc Cert.InbRIdeal.main_arg4) = m ((c.tc : Thread Cert.InbRIdeal.nD Cert.InbRIdeal.τ).loc Cert.InbRIdeal.main_arg4)
      ∧ r.2.mem ((c.tc : Thread Cert.InbRIdeal.nD Cert.InbRIdeal.τ).loc Cert.InbRIdeal.main_arg5) = m ((c.tc : Thread Cert.InbRIdeal.nD Cert.InbRIdeal.τ).loc Cert.InbRIdeal.main_arg5))
      ∧ r.2.sem = fun _ => 0)

def quiescent_QkK [hQkK : Cert.QkK.Facts] : Prop :=
  ∀ (m : (ℓ : Loc Cert.QkK.nD Cert.QkK.τ Cert.QkK.sig) → Buf (Elt Bits) ℓ) (g : Dev Cert.QkK.nD → PrngReg), Pre_QkK m →
    θ_run (Cert.QkK.defs (F := Bits)) (onTc (τ := Cert.QkK.τ) (Cert.QkK.main (F := Bits))) ⟨m, fun _ => 0, g⟩ (fun r => (∀ c : Dev Cert.QkK.nD,
      r.2.mem ((c.tc : Thread Cert.QkK.nD Cert.QkK.τ).loc Cert.QkK.main_arg0) = m ((c.tc : Thread Cert.QkK.nD Cert.QkK.τ).loc Cert.QkK.main_arg0)
      ∧ r.2.mem ((c.tc : Thread Cert.QkK.nD Cert.QkK.τ).loc Cert.QkK.main_arg1) = m ((c.tc : Thread Cert.QkK.nD Cert.QkK.τ).loc Cert.QkK.main_arg1)
      ∧ r.2.mem ((c.tc : Thread Cert.QkK.nD Cert.QkK.τ).loc Cert.QkK.main_arg2) = m ((c.tc : Thread Cert.QkK.nD Cert.QkK.τ).loc Cert.QkK.main_arg2)
      ∧ r.2.mem ((c.tc : Thread Cert.QkK.nD Cert.QkK.τ).loc Cert.QkK.main_arg3) = m ((c.tc : Thread Cert.QkK.nD Cert.QkK.τ).loc Cert.QkK.main_arg3)
      ∧ r.2.mem ((c.tc : Thread Cert.QkK.nD Cert.QkK.τ).loc Cert.QkK.main_arg4) = m ((c.tc : Thread Cert.QkK.nD Cert.QkK.τ).loc Cert.QkK.main_arg4)
      ∧ r.2.mem ((c.tc : Thread Cert.QkK.nD Cert.QkK.τ).loc Cert.QkK.main_arg5) = m ((c.tc : Thread Cert.QkK.nD Cert.QkK.τ).loc Cert.QkK.main_arg5)
      ∧ r.2.mem ((c.tc : Thread Cert.QkK.nD Cert.QkK.τ).loc Cert.QkK.main_arg6) = m ((c.tc : Thread Cert.QkK.nD Cert.QkK.τ).loc Cert.QkK.main_arg6)
      ∧ r.2.mem ((c.tc : Thread Cert.QkK.nD Cert.QkK.τ).loc Cert.QkK.main_arg7) = m ((c.tc : Thread Cert.QkK.nD Cert.QkK.τ).loc Cert.QkK.main_arg7)
      ∧ r.2.mem ((c.tc : Thread Cert.QkK.nD Cert.QkK.τ).loc Cert.QkK.main_arg8) = m ((c.tc : Thread Cert.QkK.nD Cert.QkK.τ).loc Cert.QkK.main_arg8)
      ∧ r.2.mem ((c.tc : Thread Cert.QkK.nD Cert.QkK.τ).loc Cert.QkK.main_arg9) = m ((c.tc : Thread Cert.QkK.nD Cert.QkK.τ).loc Cert.QkK.main_arg9)
      ∧ r.2.mem ((c.tc : Thread Cert.QkK.nD Cert.QkK.τ).loc Cert.QkK.main_arg10) = m ((c.tc : Thread Cert.QkK.nD Cert.QkK.τ).loc Cert.QkK.main_arg10))
      ∧ r.2.sem = fun _ => 0)

def quiescent_QkKIdeal [hQkKIdeal : Cert.QkKIdeal.Facts] : Prop :=
  ∀ (m : (ℓ : Loc Cert.QkKIdeal.nD Cert.QkKIdeal.τ Cert.QkKIdeal.sig) → Buf (Elt Ideal) ℓ) (g : Dev Cert.QkKIdeal.nD → PrngReg), Pre_QkKIdeal m →
    θ_run (Cert.QkKIdeal.defs (F := Ideal)) (onTc (τ := Cert.QkKIdeal.τ) (Cert.QkKIdeal.main (F := Ideal))) ⟨m, fun _ => 0, g⟩ (fun r => (∀ c : Dev Cert.QkKIdeal.nD,
      r.2.mem ((c.tc : Thread Cert.QkKIdeal.nD Cert.QkKIdeal.τ).loc Cert.QkKIdeal.main_arg0) = m ((c.tc : Thread Cert.QkKIdeal.nD Cert.QkKIdeal.τ).loc Cert.QkKIdeal.main_arg0)
      ∧ r.2.mem ((c.tc : Thread Cert.QkKIdeal.nD Cert.QkKIdeal.τ).loc Cert.QkKIdeal.main_arg1) = m ((c.tc : Thread Cert.QkKIdeal.nD Cert.QkKIdeal.τ).loc Cert.QkKIdeal.main_arg1)
      ∧ r.2.mem ((c.tc : Thread Cert.QkKIdeal.nD Cert.QkKIdeal.τ).loc Cert.QkKIdeal.main_arg2) = m ((c.tc : Thread Cert.QkKIdeal.nD Cert.QkKIdeal.τ).loc Cert.QkKIdeal.main_arg2)
      ∧ r.2.mem ((c.tc : Thread Cert.QkKIdeal.nD Cert.QkKIdeal.τ).loc Cert.QkKIdeal.main_arg3) = m ((c.tc : Thread Cert.QkKIdeal.nD Cert.QkKIdeal.τ).loc Cert.QkKIdeal.main_arg3)
      ∧ r.2.mem ((c.tc : Thread Cert.QkKIdeal.nD Cert.QkKIdeal.τ).loc Cert.QkKIdeal.main_arg4) = m ((c.tc : Thread Cert.QkKIdeal.nD Cert.QkKIdeal.τ).loc Cert.QkKIdeal.main_arg4)
      ∧ r.2.mem ((c.tc : Thread Cert.QkKIdeal.nD Cert.QkKIdeal.τ).loc Cert.QkKIdeal.main_arg5) = m ((c.tc : Thread Cert.QkKIdeal.nD Cert.QkKIdeal.τ).loc Cert.QkKIdeal.main_arg5)
      ∧ r.2.mem ((c.tc : Thread Cert.QkKIdeal.nD Cert.QkKIdeal.τ).loc Cert.QkKIdeal.main_arg6) = m ((c.tc : Thread Cert.QkKIdeal.nD Cert.QkKIdeal.τ).loc Cert.QkKIdeal.main_arg6)
      ∧ r.2.mem ((c.tc : Thread Cert.QkKIdeal.nD Cert.QkKIdeal.τ).loc Cert.QkKIdeal.main_arg7) = m ((c.tc : Thread Cert.QkKIdeal.nD Cert.QkKIdeal.τ).loc Cert.QkKIdeal.main_arg7)
      ∧ r.2.mem ((c.tc : Thread Cert.QkKIdeal.nD Cert.QkKIdeal.τ).loc Cert.QkKIdeal.main_arg8) = m ((c.tc : Thread Cert.QkKIdeal.nD Cert.QkKIdeal.τ).loc Cert.QkKIdeal.main_arg8)
      ∧ r.2.mem ((c.tc : Thread Cert.QkKIdeal.nD Cert.QkKIdeal.τ).loc Cert.QkKIdeal.main_arg9) = m ((c.tc : Thread Cert.QkKIdeal.nD Cert.QkKIdeal.τ).loc Cert.QkKIdeal.main_arg9)
      ∧ r.2.mem ((c.tc : Thread Cert.QkKIdeal.nD Cert.QkKIdeal.τ).loc Cert.QkKIdeal.main_arg10) = m ((c.tc : Thread Cert.QkKIdeal.nD Cert.QkKIdeal.τ).loc Cert.QkKIdeal.main_arg10))
      ∧ r.2.sem = fun _ => 0)

def quiescent_QkKIdeal_pre_qk_finite [hQkKIdeal : Cert.QkKIdeal.Facts] [hPre_qk_finite : Cert.Pre_qk_finite.Facts] : Prop :=
  ∀ (m : (ℓ : Loc Cert.QkKIdeal.nD Cert.QkKIdeal.τ Cert.QkKIdeal.sig) → Buf (Elt Ideal) ℓ) (g : Dev Cert.QkKIdeal.nD → PrngReg), Pre_QkKIdeal_qk_finite m →
    θ_run (Cert.QkKIdeal.defs (F := Ideal)) (onTc (τ := Cert.QkKIdeal.τ) (Cert.QkKIdeal.main (F := Ideal))) ⟨m, fun _ => 0, g⟩ (fun r => (∀ c : Dev Cert.QkKIdeal.nD,
      r.2.mem ((c.tc : Thread Cert.QkKIdeal.nD Cert.QkKIdeal.τ).loc Cert.QkKIdeal.main_arg0) = m ((c.tc : Thread Cert.QkKIdeal.nD Cert.QkKIdeal.τ).loc Cert.QkKIdeal.main_arg0)
      ∧ r.2.mem ((c.tc : Thread Cert.QkKIdeal.nD Cert.QkKIdeal.τ).loc Cert.QkKIdeal.main_arg1) = m ((c.tc : Thread Cert.QkKIdeal.nD Cert.QkKIdeal.τ).loc Cert.QkKIdeal.main_arg1)
      ∧ r.2.mem ((c.tc : Thread Cert.QkKIdeal.nD Cert.QkKIdeal.τ).loc Cert.QkKIdeal.main_arg2) = m ((c.tc : Thread Cert.QkKIdeal.nD Cert.QkKIdeal.τ).loc Cert.QkKIdeal.main_arg2)
      ∧ r.2.mem ((c.tc : Thread Cert.QkKIdeal.nD Cert.QkKIdeal.τ).loc Cert.QkKIdeal.main_arg3) = m ((c.tc : Thread Cert.QkKIdeal.nD Cert.QkKIdeal.τ).loc Cert.QkKIdeal.main_arg3)
      ∧ r.2.mem ((c.tc : Thread Cert.QkKIdeal.nD Cert.QkKIdeal.τ).loc Cert.QkKIdeal.main_arg4) = m ((c.tc : Thread Cert.QkKIdeal.nD Cert.QkKIdeal.τ).loc Cert.QkKIdeal.main_arg4)
      ∧ r.2.mem ((c.tc : Thread Cert.QkKIdeal.nD Cert.QkKIdeal.τ).loc Cert.QkKIdeal.main_arg5) = m ((c.tc : Thread Cert.QkKIdeal.nD Cert.QkKIdeal.τ).loc Cert.QkKIdeal.main_arg5)
      ∧ r.2.mem ((c.tc : Thread Cert.QkKIdeal.nD Cert.QkKIdeal.τ).loc Cert.QkKIdeal.main_arg6) = m ((c.tc : Thread Cert.QkKIdeal.nD Cert.QkKIdeal.τ).loc Cert.QkKIdeal.main_arg6)
      ∧ r.2.mem ((c.tc : Thread Cert.QkKIdeal.nD Cert.QkKIdeal.τ).loc Cert.QkKIdeal.main_arg7) = m ((c.tc : Thread Cert.QkKIdeal.nD Cert.QkKIdeal.τ).loc Cert.QkKIdeal.main_arg7)
      ∧ r.2.mem ((c.tc : Thread Cert.QkKIdeal.nD Cert.QkKIdeal.τ).loc Cert.QkKIdeal.main_arg8) = m ((c.tc : Thread Cert.QkKIdeal.nD Cert.QkKIdeal.τ).loc Cert.QkKIdeal.main_arg8)
      ∧ r.2.mem ((c.tc : Thread Cert.QkKIdeal.nD Cert.QkKIdeal.τ).loc Cert.QkKIdeal.main_arg9) = m ((c.tc : Thread Cert.QkKIdeal.nD Cert.QkKIdeal.τ).loc Cert.QkKIdeal.main_arg9)
      ∧ r.2.mem ((c.tc : Thread Cert.QkKIdeal.nD Cert.QkKIdeal.τ).loc Cert.QkKIdeal.main_arg10) = m ((c.tc : Thread Cert.QkKIdeal.nD Cert.QkKIdeal.τ).loc Cert.QkKIdeal.main_arg10))
      ∧ r.2.sem = fun _ => 0)

def quiescent_QkRIdeal [hQkRIdeal : Cert.QkRIdeal.Facts] : Prop :=
  ∀ (m : (ℓ : Loc Cert.QkRIdeal.nD Cert.QkRIdeal.τ Cert.QkRIdeal.sig) → Buf (Elt Ideal) ℓ) (g : Dev Cert.QkRIdeal.nD → PrngReg), Pre_QkRIdeal m →
    θ_run (Cert.QkRIdeal.defs (F := Ideal)) (onTc (τ := Cert.QkRIdeal.τ) (Cert.QkRIdeal.main (F := Ideal))) ⟨m, fun _ => 0, g⟩ (fun r => (∀ c : Dev Cert.QkRIdeal.nD,
      r.2.mem ((c.tc : Thread Cert.QkRIdeal.nD Cert.QkRIdeal.τ).loc Cert.QkRIdeal.main_arg0) = m ((c.tc : Thread Cert.QkRIdeal.nD Cert.QkRIdeal.τ).loc Cert.QkRIdeal.main_arg0)
      ∧ r.2.mem ((c.tc : Thread Cert.QkRIdeal.nD Cert.QkRIdeal.τ).loc Cert.QkRIdeal.main_arg1) = m ((c.tc : Thread Cert.QkRIdeal.nD Cert.QkRIdeal.τ).loc Cert.QkRIdeal.main_arg1)
      ∧ r.2.mem ((c.tc : Thread Cert.QkRIdeal.nD Cert.QkRIdeal.τ).loc Cert.QkRIdeal.main_arg2) = m ((c.tc : Thread Cert.QkRIdeal.nD Cert.QkRIdeal.τ).loc Cert.QkRIdeal.main_arg2)
      ∧ r.2.mem ((c.tc : Thread Cert.QkRIdeal.nD Cert.QkRIdeal.τ).loc Cert.QkRIdeal.main_arg3) = m ((c.tc : Thread Cert.QkRIdeal.nD Cert.QkRIdeal.τ).loc Cert.QkRIdeal.main_arg3)
      ∧ r.2.mem ((c.tc : Thread Cert.QkRIdeal.nD Cert.QkRIdeal.τ).loc Cert.QkRIdeal.main_arg4) = m ((c.tc : Thread Cert.QkRIdeal.nD Cert.QkRIdeal.τ).loc Cert.QkRIdeal.main_arg4)
      ∧ r.2.mem ((c.tc : Thread Cert.QkRIdeal.nD Cert.QkRIdeal.τ).loc Cert.QkRIdeal.main_arg5) = m ((c.tc : Thread Cert.QkRIdeal.nD Cert.QkRIdeal.τ).loc Cert.QkRIdeal.main_arg5)
      ∧ r.2.mem ((c.tc : Thread Cert.QkRIdeal.nD Cert.QkRIdeal.τ).loc Cert.QkRIdeal.main_arg6) = m ((c.tc : Thread Cert.QkRIdeal.nD Cert.QkRIdeal.τ).loc Cert.QkRIdeal.main_arg6)
      ∧ r.2.mem ((c.tc : Thread Cert.QkRIdeal.nD Cert.QkRIdeal.τ).loc Cert.QkRIdeal.main_arg7) = m ((c.tc : Thread Cert.QkRIdeal.nD Cert.QkRIdeal.τ).loc Cert.QkRIdeal.main_arg7)
      ∧ r.2.mem ((c.tc : Thread Cert.QkRIdeal.nD Cert.QkRIdeal.τ).loc Cert.QkRIdeal.main_arg8) = m ((c.tc : Thread Cert.QkRIdeal.nD Cert.QkRIdeal.τ).loc Cert.QkRIdeal.main_arg8)
      ∧ r.2.mem ((c.tc : Thread Cert.QkRIdeal.nD Cert.QkRIdeal.τ).loc Cert.QkRIdeal.main_arg9) = m ((c.tc : Thread Cert.QkRIdeal.nD Cert.QkRIdeal.τ).loc Cert.QkRIdeal.main_arg9)
      ∧ r.2.mem ((c.tc : Thread Cert.QkRIdeal.nD Cert.QkRIdeal.τ).loc Cert.QkRIdeal.main_arg10) = m ((c.tc : Thread Cert.QkRIdeal.nD Cert.QkRIdeal.τ).loc Cert.QkRIdeal.main_arg10))
      ∧ r.2.sem = fun _ => 0)

def quiescent_QkRIdeal_pre_qk_finite [hQkRIdeal : Cert.QkRIdeal.Facts] [hPre_qk_finite : Cert.Pre_qk_finite.Facts] : Prop :=
  ∀ (m : (ℓ : Loc Cert.QkRIdeal.nD Cert.QkRIdeal.τ Cert.QkRIdeal.sig) → Buf (Elt Ideal) ℓ) (g : Dev Cert.QkRIdeal.nD → PrngReg), Pre_QkRIdeal_qk_finite m →
    θ_run (Cert.QkRIdeal.defs (F := Ideal)) (onTc (τ := Cert.QkRIdeal.τ) (Cert.QkRIdeal.main (F := Ideal))) ⟨m, fun _ => 0, g⟩ (fun r => (∀ c : Dev Cert.QkRIdeal.nD,
      r.2.mem ((c.tc : Thread Cert.QkRIdeal.nD Cert.QkRIdeal.τ).loc Cert.QkRIdeal.main_arg0) = m ((c.tc : Thread Cert.QkRIdeal.nD Cert.QkRIdeal.τ).loc Cert.QkRIdeal.main_arg0)
      ∧ r.2.mem ((c.tc : Thread Cert.QkRIdeal.nD Cert.QkRIdeal.τ).loc Cert.QkRIdeal.main_arg1) = m ((c.tc : Thread Cert.QkRIdeal.nD Cert.QkRIdeal.τ).loc Cert.QkRIdeal.main_arg1)
      ∧ r.2.mem ((c.tc : Thread Cert.QkRIdeal.nD Cert.QkRIdeal.τ).loc Cert.QkRIdeal.main_arg2) = m ((c.tc : Thread Cert.QkRIdeal.nD Cert.QkRIdeal.τ).loc Cert.QkRIdeal.main_arg2)
      ∧ r.2.mem ((c.tc : Thread Cert.QkRIdeal.nD Cert.QkRIdeal.τ).loc Cert.QkRIdeal.main_arg3) = m ((c.tc : Thread Cert.QkRIdeal.nD Cert.QkRIdeal.τ).loc Cert.QkRIdeal.main_arg3)
      ∧ r.2.mem ((c.tc : Thread Cert.QkRIdeal.nD Cert.QkRIdeal.τ).loc Cert.QkRIdeal.main_arg4) = m ((c.tc : Thread Cert.QkRIdeal.nD Cert.QkRIdeal.τ).loc Cert.QkRIdeal.main_arg4)
      ∧ r.2.mem ((c.tc : Thread Cert.QkRIdeal.nD Cert.QkRIdeal.τ).loc Cert.QkRIdeal.main_arg5) = m ((c.tc : Thread Cert.QkRIdeal.nD Cert.QkRIdeal.τ).loc Cert.QkRIdeal.main_arg5)
      ∧ r.2.mem ((c.tc : Thread Cert.QkRIdeal.nD Cert.QkRIdeal.τ).loc Cert.QkRIdeal.main_arg6) = m ((c.tc : Thread Cert.QkRIdeal.nD Cert.QkRIdeal.τ).loc Cert.QkRIdeal.main_arg6)
      ∧ r.2.mem ((c.tc : Thread Cert.QkRIdeal.nD Cert.QkRIdeal.τ).loc Cert.QkRIdeal.main_arg7) = m ((c.tc : Thread Cert.QkRIdeal.nD Cert.QkRIdeal.τ).loc Cert.QkRIdeal.main_arg7)
      ∧ r.2.mem ((c.tc : Thread Cert.QkRIdeal.nD Cert.QkRIdeal.τ).loc Cert.QkRIdeal.main_arg8) = m ((c.tc : Thread Cert.QkRIdeal.nD Cert.QkRIdeal.τ).loc Cert.QkRIdeal.main_arg8)
      ∧ r.2.mem ((c.tc : Thread Cert.QkRIdeal.nD Cert.QkRIdeal.τ).loc Cert.QkRIdeal.main_arg9) = m ((c.tc : Thread Cert.QkRIdeal.nD Cert.QkRIdeal.τ).loc Cert.QkRIdeal.main_arg9)
      ∧ r.2.mem ((c.tc : Thread Cert.QkRIdeal.nD Cert.QkRIdeal.τ).loc Cert.QkRIdeal.main_arg10) = m ((c.tc : Thread Cert.QkRIdeal.nD Cert.QkRIdeal.τ).loc Cert.QkRIdeal.main_arg10))
      ∧ r.2.sem = fun _ => 0)

def quiescent_DwK [hDwK : Cert.DwK.Facts] : Prop :=
  ∀ (m : (ℓ : Loc Cert.DwK.nD Cert.DwK.τ Cert.DwK.sig) → Buf (Elt Bits) ℓ) (g : Dev Cert.DwK.nD → PrngReg), Pre_DwK m →
    θ_run (Cert.DwK.defs (F := Bits)) (onTc (τ := Cert.DwK.τ) (Cert.DwK.main (F := Bits))) ⟨m, fun _ => 0, g⟩ (fun r => (∀ c : Dev Cert.DwK.nD,
      r.2.mem ((c.tc : Thread Cert.DwK.nD Cert.DwK.τ).loc Cert.DwK.main_arg0) = m ((c.tc : Thread Cert.DwK.nD Cert.DwK.τ).loc Cert.DwK.main_arg0)
      ∧ r.2.mem ((c.tc : Thread Cert.DwK.nD Cert.DwK.τ).loc Cert.DwK.main_arg1) = m ((c.tc : Thread Cert.DwK.nD Cert.DwK.τ).loc Cert.DwK.main_arg1))
      ∧ r.2.sem = fun _ => 0)

def quiescent_DwKIdeal [hDwKIdeal : Cert.DwKIdeal.Facts] : Prop :=
  ∀ (m : (ℓ : Loc Cert.DwKIdeal.nD Cert.DwKIdeal.τ Cert.DwKIdeal.sig) → Buf (Elt Ideal) ℓ) (g : Dev Cert.DwKIdeal.nD → PrngReg), Pre_DwKIdeal m →
    θ_run (Cert.DwKIdeal.defs (F := Ideal)) (onTc (τ := Cert.DwKIdeal.τ) (Cert.DwKIdeal.main (F := Ideal))) ⟨m, fun _ => 0, g⟩ (fun r => (∀ c : Dev Cert.DwKIdeal.nD,
      r.2.mem ((c.tc : Thread Cert.DwKIdeal.nD Cert.DwKIdeal.τ).loc Cert.DwKIdeal.main_arg0) = m ((c.tc : Thread Cert.DwKIdeal.nD Cert.DwKIdeal.τ).loc Cert.DwKIdeal.main_arg0)
      ∧ r.2.mem ((c.tc : Thread Cert.DwKIdeal.nD Cert.DwKIdeal.τ).loc Cert.DwKIdeal.main_arg1) = m ((c.tc : Thread Cert.DwKIdeal.nD Cert.DwKIdeal.τ).loc Cert.DwKIdeal.main_arg1))
      ∧ r.2.sem = fun _ => 0)

def quiescent_DwRIdeal [hDwRIdeal : Cert.DwRIdeal.Facts] : Prop :=
  ∀ (m : (ℓ : Loc Cert.DwRIdeal.nD Cert.DwRIdeal.τ Cert.DwRIdeal.sig) → Buf (Elt Ideal) ℓ) (g : Dev Cert.DwRIdeal.nD → PrngReg), Pre_DwRIdeal m →
    θ_run (Cert.DwRIdeal.defs (F := Ideal)) (onTc (τ := Cert.DwRIdeal.τ) (Cert.DwRIdeal.main (F := Ideal))) ⟨m, fun _ => 0, g⟩ (fun r => (∀ c : Dev Cert.DwRIdeal.nD,
      r.2.mem ((c.tc : Thread Cert.DwRIdeal.nD Cert.DwRIdeal.τ).loc Cert.DwRIdeal.main_arg0) = m ((c.tc : Thread Cert.DwRIdeal.nD Cert.DwRIdeal.τ).loc Cert.DwRIdeal.main_arg0)
      ∧ r.2.mem ((c.tc : Thread Cert.DwRIdeal.nD Cert.DwRIdeal.τ).loc Cert.DwRIdeal.main_arg1) = m ((c.tc : Thread Cert.DwRIdeal.nD Cert.DwRIdeal.τ).loc Cert.DwRIdeal.main_arg1))
      ∧ r.2.sem = fun _ => 0)

def preserves_GateK_GateKIdeal : Prop :=
  True

def algebraic_GateKIdeal_GateRIdeal_pre_gate_finite [hGateKIdeal : Cert.GateKIdeal.Facts] [hGateRIdeal : Cert.GateRIdeal.Facts] [hPre_gate_finite : Cert.Pre_gate_finite.Facts] : Prop :=
  ∀ (m : (ℓ : Loc Cert.GateKIdeal.nD Cert.GateKIdeal.τ Cert.GateKIdeal.sig) → Buf (Elt Ideal) ℓ) (g : Dev Cert.GateKIdeal.nD → PrngReg)
    (m' : (ℓ : Loc Cert.GateRIdeal.nD Cert.GateRIdeal.τ Cert.GateRIdeal.sig) → Buf (Elt Ideal) ℓ) (g' : Dev Cert.GateRIdeal.nD → PrngReg), Pre_GateKIdeal_gate_finite m →
    (∀ c : Dev Cert.GateKIdeal.nD,
      m' ((c.tc : Thread Cert.GateRIdeal.nD Cert.GateRIdeal.τ).loc Cert.GateRIdeal.main_arg0) = m ((c.tc : Thread Cert.GateKIdeal.nD Cert.GateKIdeal.τ).loc Cert.GateKIdeal.main_arg0)
      ∧ m' ((c.tc : Thread Cert.GateRIdeal.nD Cert.GateRIdeal.τ).loc Cert.GateRIdeal.main_arg1) = m ((c.tc : Thread Cert.GateKIdeal.nD Cert.GateKIdeal.τ).loc Cert.GateKIdeal.main_arg1)
      ∧ m' ((c.tc : Thread Cert.GateRIdeal.nD Cert.GateRIdeal.τ).loc Cert.GateRIdeal.main_arg2) = m ((c.tc : Thread Cert.GateKIdeal.nD Cert.GateKIdeal.τ).loc Cert.GateKIdeal.main_arg2)
      ∧ m' ((c.tc : Thread Cert.GateRIdeal.nD Cert.GateRIdeal.τ).loc Cert.GateRIdeal.main_arg3) = m ((c.tc : Thread Cert.GateKIdeal.nD Cert.GateKIdeal.τ).loc Cert.GateKIdeal.main_arg3)) →
    ∃ (v0 : (c : Dev Cert.GateKIdeal.nD) → Buf (Elt Ideal) ((c.tc : Thread Cert.GateKIdeal.nD Cert.GateKIdeal.τ).loc Cert.GateKIdeal.main_v9_0)) (v1 : (c : Dev Cert.GateKIdeal.nD) → Buf (Elt Ideal) ((c.tc : Thread Cert.GateKIdeal.nD Cert.GateKIdeal.τ).loc Cert.GateKIdeal.main_v9_1)),
      θ_run (Cert.GateKIdeal.defs (F := Ideal)) (onTc (τ := Cert.GateKIdeal.τ) (Cert.GateKIdeal.main (F := Ideal))) ⟨m, fun _ => 0, g⟩ (fun r => ∀ c : Dev Cert.GateKIdeal.nD,
          r.2.mem ((c.tc : Thread Cert.GateKIdeal.nD Cert.GateKIdeal.τ).loc Cert.GateKIdeal.main_v9_0) = v0 c
          ∧ r.2.mem ((c.tc : Thread Cert.GateKIdeal.nD Cert.GateKIdeal.τ).loc Cert.GateKIdeal.main_v9_1) = v1 c
          ∧ r.2.mem ((c.tc : Thread Cert.GateKIdeal.nD Cert.GateKIdeal.τ).loc Cert.GateKIdeal.main_arg0) = m ((c.tc : Thread Cert.GateKIdeal.nD Cert.GateKIdeal.τ).loc Cert.GateKIdeal.main_arg0)
          ∧ r.2.mem ((c.tc : Thread Cert.GateKIdeal.nD Cert.GateKIdeal.τ).loc Cert.GateKIdeal.main_arg1) = m ((c.tc : Thread Cert.GateKIdeal.nD Cert.GateKIdeal.τ).loc Cert.GateKIdeal.main_arg1)
          ∧ r.2.mem ((c.tc : Thread Cert.GateKIdeal.nD Cert.GateKIdeal.τ).loc Cert.GateKIdeal.main_arg2) = m ((c.tc : Thread Cert.GateKIdeal.nD Cert.GateKIdeal.τ).loc Cert.GateKIdeal.main_arg2)
          ∧ r.2.mem ((c.tc : Thread Cert.GateKIdeal.nD Cert.GateKIdeal.τ).loc Cert.GateKIdeal.main_arg3) = m ((c.tc : Thread Cert.GateKIdeal.nD Cert.GateKIdeal.τ).loc Cert.GateKIdeal.main_arg3))
      ∧ θ_run (Cert.GateRIdeal.defs (F := Ideal)) (onTc (τ := Cert.GateRIdeal.τ) (Cert.GateRIdeal.main (F := Ideal))) ⟨m', fun _ => 0, g'⟩ (fun r => ∀ c : Dev Cert.GateRIdeal.nD,
          r.2.mem ((c.tc : Thread Cert.GateRIdeal.nD Cert.GateRIdeal.τ).loc Cert.GateRIdeal.main_v14) = v0 c
          ∧ r.2.mem ((c.tc : Thread Cert.GateRIdeal.nD Cert.GateRIdeal.τ).loc Cert.GateRIdeal.main_v18) = v1 c
          ∧ r.2.mem ((c.tc : Thread Cert.GateRIdeal.nD Cert.GateRIdeal.τ).loc Cert.GateRIdeal.main_arg0) = m' ((c.tc : Thread Cert.GateRIdeal.nD Cert.GateRIdeal.τ).loc Cert.GateRIdeal.main_arg0)
          ∧ r.2.mem ((c.tc : Thread Cert.GateRIdeal.nD Cert.GateRIdeal.τ).loc Cert.GateRIdeal.main_arg1) = m' ((c.tc : Thread Cert.GateRIdeal.nD Cert.GateRIdeal.τ).loc Cert.GateRIdeal.main_arg1)
          ∧ r.2.mem ((c.tc : Thread Cert.GateRIdeal.nD Cert.GateRIdeal.τ).loc Cert.GateRIdeal.main_arg2) = m' ((c.tc : Thread Cert.GateRIdeal.nD Cert.GateRIdeal.τ).loc Cert.GateRIdeal.main_arg2)
          ∧ r.2.mem ((c.tc : Thread Cert.GateRIdeal.nD Cert.GateRIdeal.τ).loc Cert.GateRIdeal.main_arg3) = m' ((c.tc : Thread Cert.GateRIdeal.nD Cert.GateRIdeal.τ).loc Cert.GateRIdeal.main_arg3))

def preserves_AttnK_AttnKIdeal : Prop :=
  True

def algebraic_AttnKIdeal_AttnRIdeal_pre_attn_finite [hAttnKIdeal : Cert.AttnKIdeal.Facts] [hAttnRIdeal : Cert.AttnRIdeal.Facts] [hPre_attn_finite : Cert.Pre_attn_finite.Facts] : Prop :=
  ∀ (m : (ℓ : Loc Cert.AttnKIdeal.nD Cert.AttnKIdeal.τ Cert.AttnKIdeal.sig) → Buf (Elt Ideal) ℓ) (g : Dev Cert.AttnKIdeal.nD → PrngReg)
    (m' : (ℓ : Loc Cert.AttnRIdeal.nD Cert.AttnRIdeal.τ Cert.AttnRIdeal.sig) → Buf (Elt Ideal) ℓ) (g' : Dev Cert.AttnRIdeal.nD → PrngReg), Pre_AttnKIdeal_attn_finite m →
    (∀ c : Dev Cert.AttnKIdeal.nD,
      m' ((c.tc : Thread Cert.AttnRIdeal.nD Cert.AttnRIdeal.τ).loc Cert.AttnRIdeal.main_arg0) = m ((c.tc : Thread Cert.AttnKIdeal.nD Cert.AttnKIdeal.τ).loc Cert.AttnKIdeal.main_arg0)
      ∧ m' ((c.tc : Thread Cert.AttnRIdeal.nD Cert.AttnRIdeal.τ).loc Cert.AttnRIdeal.main_arg1) = m ((c.tc : Thread Cert.AttnKIdeal.nD Cert.AttnKIdeal.τ).loc Cert.AttnKIdeal.main_arg1)
      ∧ m' ((c.tc : Thread Cert.AttnRIdeal.nD Cert.AttnRIdeal.τ).loc Cert.AttnRIdeal.main_arg2) = m ((c.tc : Thread Cert.AttnKIdeal.nD Cert.AttnKIdeal.τ).loc Cert.AttnKIdeal.main_arg2)
      ∧ m' ((c.tc : Thread Cert.AttnRIdeal.nD Cert.AttnRIdeal.τ).loc Cert.AttnRIdeal.main_arg3) = m ((c.tc : Thread Cert.AttnKIdeal.nD Cert.AttnKIdeal.τ).loc Cert.AttnKIdeal.main_arg3)) →
    ∃ (v0 : (c : Dev Cert.AttnKIdeal.nD) → Buf (Elt Ideal) ((c.tc : Thread Cert.AttnKIdeal.nD Cert.AttnKIdeal.τ).loc Cert.AttnKIdeal.main_v151_0)) (v1 : (c : Dev Cert.AttnKIdeal.nD) → Buf (Elt Ideal) ((c.tc : Thread Cert.AttnKIdeal.nD Cert.AttnKIdeal.τ).loc Cert.AttnKIdeal.main_v151_1)) (v2 : (c : Dev Cert.AttnKIdeal.nD) → Buf (Elt Ideal) ((c.tc : Thread Cert.AttnKIdeal.nD Cert.AttnKIdeal.τ).loc Cert.AttnKIdeal.main_v151_2)),
      θ_run (Cert.AttnKIdeal.defs (F := Ideal)) (onTc (τ := Cert.AttnKIdeal.τ) (Cert.AttnKIdeal.main (F := Ideal))) ⟨m, fun _ => 0, g⟩ (fun r => ∀ c : Dev Cert.AttnKIdeal.nD,
          r.2.mem ((c.tc : Thread Cert.AttnKIdeal.nD Cert.AttnKIdeal.τ).loc Cert.AttnKIdeal.main_v151_0) = v0 c
          ∧ r.2.mem ((c.tc : Thread Cert.AttnKIdeal.nD Cert.AttnKIdeal.τ).loc Cert.AttnKIdeal.main_v151_1) = v1 c
          ∧ r.2.mem ((c.tc : Thread Cert.AttnKIdeal.nD Cert.AttnKIdeal.τ).loc Cert.AttnKIdeal.main_v151_2) = v2 c
          ∧ r.2.mem ((c.tc : Thread Cert.AttnKIdeal.nD Cert.AttnKIdeal.τ).loc Cert.AttnKIdeal.main_arg0) = m ((c.tc : Thread Cert.AttnKIdeal.nD Cert.AttnKIdeal.τ).loc Cert.AttnKIdeal.main_arg0)
          ∧ r.2.mem ((c.tc : Thread Cert.AttnKIdeal.nD Cert.AttnKIdeal.τ).loc Cert.AttnKIdeal.main_arg1) = m ((c.tc : Thread Cert.AttnKIdeal.nD Cert.AttnKIdeal.τ).loc Cert.AttnKIdeal.main_arg1)
          ∧ r.2.mem ((c.tc : Thread Cert.AttnKIdeal.nD Cert.AttnKIdeal.τ).loc Cert.AttnKIdeal.main_arg2) = m ((c.tc : Thread Cert.AttnKIdeal.nD Cert.AttnKIdeal.τ).loc Cert.AttnKIdeal.main_arg2)
          ∧ r.2.mem ((c.tc : Thread Cert.AttnKIdeal.nD Cert.AttnKIdeal.τ).loc Cert.AttnKIdeal.main_arg3) = m ((c.tc : Thread Cert.AttnKIdeal.nD Cert.AttnKIdeal.τ).loc Cert.AttnKIdeal.main_arg3))
      ∧ θ_run (Cert.AttnRIdeal.defs (F := Ideal)) (onTc (τ := Cert.AttnRIdeal.τ) (Cert.AttnRIdeal.main (F := Ideal))) ⟨m', fun _ => 0, g'⟩ (fun r => ∀ c : Dev Cert.AttnRIdeal.nD,
          r.2.mem ((c.tc : Thread Cert.AttnRIdeal.nD Cert.AttnRIdeal.τ).loc Cert.AttnRIdeal.main_v65) = v0 c
          ∧ r.2.mem ((c.tc : Thread Cert.AttnRIdeal.nD Cert.AttnRIdeal.τ).loc Cert.AttnRIdeal.main_v70) = v1 c
          ∧ r.2.mem ((c.tc : Thread Cert.AttnRIdeal.nD Cert.AttnRIdeal.τ).loc Cert.AttnRIdeal.main_v72) = v2 c
          ∧ r.2.mem ((c.tc : Thread Cert.AttnRIdeal.nD Cert.AttnRIdeal.τ).loc Cert.AttnRIdeal.main_arg0) = m' ((c.tc : Thread Cert.AttnRIdeal.nD Cert.AttnRIdeal.τ).loc Cert.AttnRIdeal.main_arg0)
          ∧ r.2.mem ((c.tc : Thread Cert.AttnRIdeal.nD Cert.AttnRIdeal.τ).loc Cert.AttnRIdeal.main_arg1) = m' ((c.tc : Thread Cert.AttnRIdeal.nD Cert.AttnRIdeal.τ).loc Cert.AttnRIdeal.main_arg1)
          ∧ r.2.mem ((c.tc : Thread Cert.AttnRIdeal.nD Cert.AttnRIdeal.τ).loc Cert.AttnRIdeal.main_arg2) = m' ((c.tc : Thread Cert.AttnRIdeal.nD Cert.AttnRIdeal.τ).loc Cert.AttnRIdeal.main_arg2)
          ∧ r.2.mem ((c.tc : Thread Cert.AttnRIdeal.nD Cert.AttnRIdeal.τ).loc Cert.AttnRIdeal.main_arg3) = m' ((c.tc : Thread Cert.AttnRIdeal.nD Cert.AttnRIdeal.τ).loc Cert.AttnRIdeal.main_arg3))

def preserves_MergeK_MergeKIdeal : Prop :=
  True

def algebraic_MergeKIdeal_MergeRIdeal_pre_merge_finite [hMergeKIdeal : Cert.MergeKIdeal.Facts] [hMergeRIdeal : Cert.MergeRIdeal.Facts] [hPre_merge_finite : Cert.Pre_merge_finite.Facts] : Prop :=
  ∀ (m : (ℓ : Loc Cert.MergeKIdeal.nD Cert.MergeKIdeal.τ Cert.MergeKIdeal.sig) → Buf (Elt Ideal) ℓ) (g : Dev Cert.MergeKIdeal.nD → PrngReg)
    (m' : (ℓ : Loc Cert.MergeRIdeal.nD Cert.MergeRIdeal.τ Cert.MergeRIdeal.sig) → Buf (Elt Ideal) ℓ) (g' : Dev Cert.MergeRIdeal.nD → PrngReg), Pre_MergeKIdeal_merge_finite m →
    (∀ c : Dev Cert.MergeKIdeal.nD,
      m' ((c.tc : Thread Cert.MergeRIdeal.nD Cert.MergeRIdeal.τ).loc Cert.MergeRIdeal.main_arg0) = m ((c.tc : Thread Cert.MergeKIdeal.nD Cert.MergeKIdeal.τ).loc Cert.MergeKIdeal.main_arg0)
      ∧ m' ((c.tc : Thread Cert.MergeRIdeal.nD Cert.MergeRIdeal.τ).loc Cert.MergeRIdeal.main_arg1) = m ((c.tc : Thread Cert.MergeKIdeal.nD Cert.MergeKIdeal.τ).loc Cert.MergeKIdeal.main_arg1)
      ∧ m' ((c.tc : Thread Cert.MergeRIdeal.nD Cert.MergeRIdeal.τ).loc Cert.MergeRIdeal.main_arg2) = m ((c.tc : Thread Cert.MergeKIdeal.nD Cert.MergeKIdeal.τ).loc Cert.MergeKIdeal.main_arg2)
      ∧ m' ((c.tc : Thread Cert.MergeRIdeal.nD Cert.MergeRIdeal.τ).loc Cert.MergeRIdeal.main_arg3) = m ((c.tc : Thread Cert.MergeKIdeal.nD Cert.MergeKIdeal.τ).loc Cert.MergeKIdeal.main_arg3)
      ∧ m' ((c.tc : Thread Cert.MergeRIdeal.nD Cert.MergeRIdeal.τ).loc Cert.MergeRIdeal.main_arg4) = m ((c.tc : Thread Cert.MergeKIdeal.nD Cert.MergeKIdeal.τ).loc Cert.MergeKIdeal.main_arg4)
      ∧ m' ((c.tc : Thread Cert.MergeRIdeal.nD Cert.MergeRIdeal.τ).loc Cert.MergeRIdeal.main_arg5) = m ((c.tc : Thread Cert.MergeKIdeal.nD Cert.MergeKIdeal.τ).loc Cert.MergeKIdeal.main_arg5)
      ∧ m' ((c.tc : Thread Cert.MergeRIdeal.nD Cert.MergeRIdeal.τ).loc Cert.MergeRIdeal.main_arg6) = m ((c.tc : Thread Cert.MergeKIdeal.nD Cert.MergeKIdeal.τ).loc Cert.MergeKIdeal.main_arg6)
      ∧ m' ((c.tc : Thread Cert.MergeRIdeal.nD Cert.MergeRIdeal.τ).loc Cert.MergeRIdeal.main_arg7) = m ((c.tc : Thread Cert.MergeKIdeal.nD Cert.MergeKIdeal.τ).loc Cert.MergeKIdeal.main_arg7)
      ∧ m' ((c.tc : Thread Cert.MergeRIdeal.nD Cert.MergeRIdeal.τ).loc Cert.MergeRIdeal.main_arg8) = m ((c.tc : Thread Cert.MergeKIdeal.nD Cert.MergeKIdeal.τ).loc Cert.MergeKIdeal.main_arg8)) →
    ∃ (v0 : (c : Dev Cert.MergeKIdeal.nD) → Buf (Elt Ideal) ((c.tc : Thread Cert.MergeKIdeal.nD Cert.MergeKIdeal.τ).loc Cert.MergeKIdeal.main_v6_0)) (v1 : (c : Dev Cert.MergeKIdeal.nD) → Buf (Elt Ideal) ((c.tc : Thread Cert.MergeKIdeal.nD Cert.MergeKIdeal.τ).loc Cert.MergeKIdeal.main_v6_1)) (v2 : (c : Dev Cert.MergeKIdeal.nD) → Buf (Elt Ideal) ((c.tc : Thread Cert.MergeKIdeal.nD Cert.MergeKIdeal.τ).loc Cert.MergeKIdeal.main_v6_2)) (v3 : (c : Dev Cert.MergeKIdeal.nD) → Buf (Elt Ideal) ((c.tc : Thread Cert.MergeKIdeal.nD Cert.MergeKIdeal.τ).loc Cert.MergeKIdeal.main_v6_3)) (v4 : (c : Dev Cert.MergeKIdeal.nD) → Buf (Elt Ideal) ((c.tc : Thread Cert.MergeKIdeal.nD Cert.MergeKIdeal.τ).loc Cert.MergeKIdeal.main_v7_0)) (v5 : (c : Dev Cert.MergeKIdeal.nD) → Buf (Elt Ideal) ((c.tc : Thread Cert.MergeKIdeal.nD Cert.MergeKIdeal.τ).loc Cert.MergeKIdeal.main_v7_1)) (v6 : (c : Dev Cert.MergeKIdeal.nD) → Buf (Elt Ideal) ((c.tc : Thread Cert.MergeKIdeal.nD Cert.MergeKIdeal.τ).loc Cert.MergeKIdeal.main_v7_2)) (v7 : (c : Dev Cert.MergeKIdeal.nD) → Buf (Elt Ideal) ((c.tc : Thread Cert.MergeKIdeal.nD Cert.MergeKIdeal.τ).loc Cert.MergeKIdeal.main_v7_3)) (v8 : (c : Dev Cert.MergeKIdeal.nD) → Buf (Elt Ideal) ((c.tc : Thread Cert.MergeKIdeal.nD Cert.MergeKIdeal.τ).loc Cert.MergeKIdeal.main_v7_4)) (v9 : (c : Dev Cert.MergeKIdeal.nD) → Buf (Elt Ideal) ((c.tc : Thread Cert.MergeKIdeal.nD Cert.MergeKIdeal.τ).loc Cert.MergeKIdeal.main_v7_5)) (v10 : (c : Dev Cert.MergeKIdeal.nD) → Buf (Elt Ideal) ((c.tc : Thread Cert.MergeKIdeal.nD Cert.MergeKIdeal.τ).loc Cert.MergeKIdeal.main_v7_6)) (v11 : (c : Dev Cert.MergeKIdeal.nD) → Buf (Elt Ideal) ((c.tc : Thread Cert.MergeKIdeal.nD Cert.MergeKIdeal.τ).loc Cert.MergeKIdeal.main_v7_7)) (v12 : (c : Dev Cert.MergeKIdeal.nD) → Buf (Elt Ideal) ((c.tc : Thread Cert.MergeKIdeal.nD Cert.MergeKIdeal.τ).loc Cert.MergeKIdeal.main_v7_8)),
      θ_run (Cert.MergeKIdeal.defs (F := Ideal)) (onTc (τ := Cert.MergeKIdeal.τ) (Cert.MergeKIdeal.main (F := Ideal))) ⟨m, fun _ => 0, g⟩ (fun r => ∀ c : Dev Cert.MergeKIdeal.nD,
          r.2.mem ((c.tc : Thread Cert.MergeKIdeal.nD Cert.MergeKIdeal.τ).loc Cert.MergeKIdeal.main_v6_0) = v0 c
          ∧ r.2.mem ((c.tc : Thread Cert.MergeKIdeal.nD Cert.MergeKIdeal.τ).loc Cert.MergeKIdeal.main_v6_1) = v1 c
          ∧ r.2.mem ((c.tc : Thread Cert.MergeKIdeal.nD Cert.MergeKIdeal.τ).loc Cert.MergeKIdeal.main_v6_2) = v2 c
          ∧ r.2.mem ((c.tc : Thread Cert.MergeKIdeal.nD Cert.MergeKIdeal.τ).loc Cert.MergeKIdeal.main_v6_3) = v3 c
          ∧ r.2.mem ((c.tc : Thread Cert.MergeKIdeal.nD Cert.MergeKIdeal.τ).loc Cert.MergeKIdeal.main_v7_0) = v4 c
          ∧ r.2.mem ((c.tc : Thread Cert.MergeKIdeal.nD Cert.MergeKIdeal.τ).loc Cert.MergeKIdeal.main_v7_1) = v5 c
          ∧ r.2.mem ((c.tc : Thread Cert.MergeKIdeal.nD Cert.MergeKIdeal.τ).loc Cert.MergeKIdeal.main_v7_2) = v6 c
          ∧ r.2.mem ((c.tc : Thread Cert.MergeKIdeal.nD Cert.MergeKIdeal.τ).loc Cert.MergeKIdeal.main_v7_3) = v7 c
          ∧ r.2.mem ((c.tc : Thread Cert.MergeKIdeal.nD Cert.MergeKIdeal.τ).loc Cert.MergeKIdeal.main_v7_4) = v8 c
          ∧ r.2.mem ((c.tc : Thread Cert.MergeKIdeal.nD Cert.MergeKIdeal.τ).loc Cert.MergeKIdeal.main_v7_5) = v9 c
          ∧ r.2.mem ((c.tc : Thread Cert.MergeKIdeal.nD Cert.MergeKIdeal.τ).loc Cert.MergeKIdeal.main_v7_6) = v10 c
          ∧ r.2.mem ((c.tc : Thread Cert.MergeKIdeal.nD Cert.MergeKIdeal.τ).loc Cert.MergeKIdeal.main_v7_7) = v11 c
          ∧ r.2.mem ((c.tc : Thread Cert.MergeKIdeal.nD Cert.MergeKIdeal.τ).loc Cert.MergeKIdeal.main_v7_8) = v12 c
          ∧ r.2.mem ((c.tc : Thread Cert.MergeKIdeal.nD Cert.MergeKIdeal.τ).loc Cert.MergeKIdeal.main_arg0) = m ((c.tc : Thread Cert.MergeKIdeal.nD Cert.MergeKIdeal.τ).loc Cert.MergeKIdeal.main_arg0)
          ∧ r.2.mem ((c.tc : Thread Cert.MergeKIdeal.nD Cert.MergeKIdeal.τ).loc Cert.MergeKIdeal.main_arg1) = m ((c.tc : Thread Cert.MergeKIdeal.nD Cert.MergeKIdeal.τ).loc Cert.MergeKIdeal.main_arg1)
          ∧ r.2.mem ((c.tc : Thread Cert.MergeKIdeal.nD Cert.MergeKIdeal.τ).loc Cert.MergeKIdeal.main_arg2) = m ((c.tc : Thread Cert.MergeKIdeal.nD Cert.MergeKIdeal.τ).loc Cert.MergeKIdeal.main_arg2)
          ∧ r.2.mem ((c.tc : Thread Cert.MergeKIdeal.nD Cert.MergeKIdeal.τ).loc Cert.MergeKIdeal.main_arg3) = m ((c.tc : Thread Cert.MergeKIdeal.nD Cert.MergeKIdeal.τ).loc Cert.MergeKIdeal.main_arg3)
          ∧ r.2.mem ((c.tc : Thread Cert.MergeKIdeal.nD Cert.MergeKIdeal.τ).loc Cert.MergeKIdeal.main_arg4) = m ((c.tc : Thread Cert.MergeKIdeal.nD Cert.MergeKIdeal.τ).loc Cert.MergeKIdeal.main_arg4)
          ∧ r.2.mem ((c.tc : Thread Cert.MergeKIdeal.nD Cert.MergeKIdeal.τ).loc Cert.MergeKIdeal.main_arg5) = m ((c.tc : Thread Cert.MergeKIdeal.nD Cert.MergeKIdeal.τ).loc Cert.MergeKIdeal.main_arg5)
          ∧ r.2.mem ((c.tc : Thread Cert.MergeKIdeal.nD Cert.MergeKIdeal.τ).loc Cert.MergeKIdeal.main_arg6) = m ((c.tc : Thread Cert.MergeKIdeal.nD Cert.MergeKIdeal.τ).loc Cert.MergeKIdeal.main_arg6)
          ∧ r.2.mem ((c.tc : Thread Cert.MergeKIdeal.nD Cert.MergeKIdeal.τ).loc Cert.MergeKIdeal.main_arg7) = m ((c.tc : Thread Cert.MergeKIdeal.nD Cert.MergeKIdeal.τ).loc Cert.MergeKIdeal.main_arg7)
          ∧ r.2.mem ((c.tc : Thread Cert.MergeKIdeal.nD Cert.MergeKIdeal.τ).loc Cert.MergeKIdeal.main_arg8) = m ((c.tc : Thread Cert.MergeKIdeal.nD Cert.MergeKIdeal.τ).loc Cert.MergeKIdeal.main_arg8))
      ∧ θ_run (Cert.MergeRIdeal.defs (F := Ideal)) (onTc (τ := Cert.MergeRIdeal.τ) (Cert.MergeRIdeal.main (F := Ideal))) ⟨m', fun _ => 0, g'⟩ (fun r => ∀ c : Dev Cert.MergeRIdeal.nD,
          r.2.mem ((c.tc : Thread Cert.MergeRIdeal.nD Cert.MergeRIdeal.τ).loc Cert.MergeRIdeal.main_v39) = v0 c
          ∧ r.2.mem ((c.tc : Thread Cert.MergeRIdeal.nD Cert.MergeRIdeal.τ).loc Cert.MergeRIdeal.main_v74) = v1 c
          ∧ r.2.mem ((c.tc : Thread Cert.MergeRIdeal.nD Cert.MergeRIdeal.τ).loc Cert.MergeRIdeal.main_v75) = v2 c
          ∧ r.2.mem ((c.tc : Thread Cert.MergeRIdeal.nD Cert.MergeRIdeal.τ).loc Cert.MergeRIdeal.main_v76) = v3 c
          ∧ r.2.mem ((c.tc : Thread Cert.MergeRIdeal.nD Cert.MergeRIdeal.τ).loc Cert.MergeRIdeal.main_v77) = v4 c
          ∧ r.2.mem ((c.tc : Thread Cert.MergeRIdeal.nD Cert.MergeRIdeal.τ).loc Cert.MergeRIdeal.main_v78) = v5 c
          ∧ r.2.mem ((c.tc : Thread Cert.MergeRIdeal.nD Cert.MergeRIdeal.τ).loc Cert.MergeRIdeal.main_v79) = v6 c
          ∧ r.2.mem ((c.tc : Thread Cert.MergeRIdeal.nD Cert.MergeRIdeal.τ).loc Cert.MergeRIdeal.main_v80) = v7 c
          ∧ r.2.mem ((c.tc : Thread Cert.MergeRIdeal.nD Cert.MergeRIdeal.τ).loc Cert.MergeRIdeal.main_v81) = v8 c
          ∧ r.2.mem ((c.tc : Thread Cert.MergeRIdeal.nD Cert.MergeRIdeal.τ).loc Cert.MergeRIdeal.main_v82) = v9 c
          ∧ r.2.mem ((c.tc : Thread Cert.MergeRIdeal.nD Cert.MergeRIdeal.τ).loc Cert.MergeRIdeal.main_v70) = v10 c
          ∧ r.2.mem ((c.tc : Thread Cert.MergeRIdeal.nD Cert.MergeRIdeal.τ).loc Cert.MergeRIdeal.main_v73) = v11 c
          ∧ r.2.mem ((c.tc : Thread Cert.MergeRIdeal.nD Cert.MergeRIdeal.τ).loc Cert.MergeRIdeal.main_v83) = v12 c
          ∧ r.2.mem ((c.tc : Thread Cert.MergeRIdeal.nD Cert.MergeRIdeal.τ).loc Cert.MergeRIdeal.main_arg0) = m' ((c.tc : Thread Cert.MergeRIdeal.nD Cert.MergeRIdeal.τ).loc Cert.MergeRIdeal.main_arg0)
          ∧ r.2.mem ((c.tc : Thread Cert.MergeRIdeal.nD Cert.MergeRIdeal.τ).loc Cert.MergeRIdeal.main_arg1) = m' ((c.tc : Thread Cert.MergeRIdeal.nD Cert.MergeRIdeal.τ).loc Cert.MergeRIdeal.main_arg1)
          ∧ r.2.mem ((c.tc : Thread Cert.MergeRIdeal.nD Cert.MergeRIdeal.τ).loc Cert.MergeRIdeal.main_arg2) = m' ((c.tc : Thread Cert.MergeRIdeal.nD Cert.MergeRIdeal.τ).loc Cert.MergeRIdeal.main_arg2)
          ∧ r.2.mem ((c.tc : Thread Cert.MergeRIdeal.nD Cert.MergeRIdeal.τ).loc Cert.MergeRIdeal.main_arg3) = m' ((c.tc : Thread Cert.MergeRIdeal.nD Cert.MergeRIdeal.τ).loc Cert.MergeRIdeal.main_arg3)
          ∧ r.2.mem ((c.tc : Thread Cert.MergeRIdeal.nD Cert.MergeRIdeal.τ).loc Cert.MergeRIdeal.main_arg4) = m' ((c.tc : Thread Cert.MergeRIdeal.nD Cert.MergeRIdeal.τ).loc Cert.MergeRIdeal.main_arg4)
          ∧ r.2.mem ((c.tc : Thread Cert.MergeRIdeal.nD Cert.MergeRIdeal.τ).loc Cert.MergeRIdeal.main_arg5) = m' ((c.tc : Thread Cert.MergeRIdeal.nD Cert.MergeRIdeal.τ).loc Cert.MergeRIdeal.main_arg5)
          ∧ r.2.mem ((c.tc : Thread Cert.MergeRIdeal.nD Cert.MergeRIdeal.τ).loc Cert.MergeRIdeal.main_arg6) = m' ((c.tc : Thread Cert.MergeRIdeal.nD Cert.MergeRIdeal.τ).loc Cert.MergeRIdeal.main_arg6)
          ∧ r.2.mem ((c.tc : Thread Cert.MergeRIdeal.nD Cert.MergeRIdeal.τ).loc Cert.MergeRIdeal.main_arg7) = m' ((c.tc : Thread Cert.MergeRIdeal.nD Cert.MergeRIdeal.τ).loc Cert.MergeRIdeal.main_arg7)
          ∧ r.2.mem ((c.tc : Thread Cert.MergeRIdeal.nD Cert.MergeRIdeal.τ).loc Cert.MergeRIdeal.main_arg8) = m' ((c.tc : Thread Cert.MergeRIdeal.nD Cert.MergeRIdeal.τ).loc Cert.MergeRIdeal.main_arg8))

def preserves_FwdK_FwdKIdeal : Prop :=
  IdealRules.named_const.Statement Cert.FwdKIdeal.κ "log2e" .f32 0x3FB8AA3B#32 (((Real.log 2)⁻¹ : ℝ) : EReal)

def algebraic_FwdKIdeal_FwdRIdeal_pre_fwd_finite [hFwdKIdeal : Cert.FwdKIdeal.Facts] [hFwdRIdeal : Cert.FwdRIdeal.Facts] [hPre_fwd_finite : Cert.Pre_fwd_finite.Facts] : Prop :=
  ∀ (m : (ℓ : Loc Cert.FwdKIdeal.nD Cert.FwdKIdeal.τ Cert.FwdKIdeal.sig) → Buf (Elt Ideal) ℓ) (g : Dev Cert.FwdKIdeal.nD → PrngReg)
    (m' : (ℓ : Loc Cert.FwdRIdeal.nD Cert.FwdRIdeal.τ Cert.FwdRIdeal.sig) → Buf (Elt Ideal) ℓ) (g' : Dev Cert.FwdRIdeal.nD → PrngReg), Pre_FwdKIdeal_fwd_finite m →
    (∀ c : Dev Cert.FwdKIdeal.nD,
      m' ((c.tc : Thread Cert.FwdRIdeal.nD Cert.FwdRIdeal.τ).loc Cert.FwdRIdeal.main_arg0) = m ((c.tc : Thread Cert.FwdKIdeal.nD Cert.FwdKIdeal.τ).loc Cert.FwdKIdeal.main_arg0)
      ∧ m' ((c.tc : Thread Cert.FwdRIdeal.nD Cert.FwdRIdeal.τ).loc Cert.FwdRIdeal.main_arg1) = m ((c.tc : Thread Cert.FwdKIdeal.nD Cert.FwdKIdeal.τ).loc Cert.FwdKIdeal.main_arg1)
      ∧ m' ((c.tc : Thread Cert.FwdRIdeal.nD Cert.FwdRIdeal.τ).loc Cert.FwdRIdeal.main_arg2) = m ((c.tc : Thread Cert.FwdKIdeal.nD Cert.FwdKIdeal.τ).loc Cert.FwdKIdeal.main_arg2)) →
    ∃ (v0 : (c : Dev Cert.FwdKIdeal.nD) → Buf (Elt Ideal) ((c.tc : Thread Cert.FwdKIdeal.nD Cert.FwdKIdeal.τ).loc Cert.FwdKIdeal.main_v13_0)) (v1 : (c : Dev Cert.FwdKIdeal.nD) → Buf (Elt Ideal) ((c.tc : Thread Cert.FwdKIdeal.nD Cert.FwdKIdeal.τ).loc Cert.FwdKIdeal.main_v13_1)),
      θ_run (Cert.FwdKIdeal.defs (F := Ideal)) (onTc (τ := Cert.FwdKIdeal.τ) (Cert.FwdKIdeal.main (F := Ideal))) ⟨m, fun _ => 0, g⟩ (fun r => ∀ c : Dev Cert.FwdKIdeal.nD,
          r.2.mem ((c.tc : Thread Cert.FwdKIdeal.nD Cert.FwdKIdeal.τ).loc Cert.FwdKIdeal.main_v13_0) = v0 c
          ∧ r.2.mem ((c.tc : Thread Cert.FwdKIdeal.nD Cert.FwdKIdeal.τ).loc Cert.FwdKIdeal.main_v13_1) = v1 c
          ∧ r.2.mem ((c.tc : Thread Cert.FwdKIdeal.nD Cert.FwdKIdeal.τ).loc Cert.FwdKIdeal.main_arg0) = m ((c.tc : Thread Cert.FwdKIdeal.nD Cert.FwdKIdeal.τ).loc Cert.FwdKIdeal.main_arg0)
          ∧ r.2.mem ((c.tc : Thread Cert.FwdKIdeal.nD Cert.FwdKIdeal.τ).loc Cert.FwdKIdeal.main_arg1) = m ((c.tc : Thread Cert.FwdKIdeal.nD Cert.FwdKIdeal.τ).loc Cert.FwdKIdeal.main_arg1)
          ∧ r.2.mem ((c.tc : Thread Cert.FwdKIdeal.nD Cert.FwdKIdeal.τ).loc Cert.FwdKIdeal.main_arg2) = m ((c.tc : Thread Cert.FwdKIdeal.nD Cert.FwdKIdeal.τ).loc Cert.FwdKIdeal.main_arg2))
      ∧ θ_run (Cert.FwdRIdeal.defs (F := Ideal)) (onTc (τ := Cert.FwdRIdeal.τ) (Cert.FwdRIdeal.main (F := Ideal))) ⟨m', fun _ => 0, g'⟩ (fun r => ∀ c : Dev Cert.FwdRIdeal.nD,
          r.2.mem ((c.tc : Thread Cert.FwdRIdeal.nD Cert.FwdRIdeal.τ).loc Cert.FwdRIdeal.main_v23) = v0 c
          ∧ r.2.mem ((c.tc : Thread Cert.FwdRIdeal.nD Cert.FwdRIdeal.τ).loc Cert.FwdRIdeal.main_v27) = v1 c
          ∧ r.2.mem ((c.tc : Thread Cert.FwdRIdeal.nD Cert.FwdRIdeal.τ).loc Cert.FwdRIdeal.main_arg0) = m' ((c.tc : Thread Cert.FwdRIdeal.nD Cert.FwdRIdeal.τ).loc Cert.FwdRIdeal.main_arg0)
          ∧ r.2.mem ((c.tc : Thread Cert.FwdRIdeal.nD Cert.FwdRIdeal.τ).loc Cert.FwdRIdeal.main_arg1) = m' ((c.tc : Thread Cert.FwdRIdeal.nD Cert.FwdRIdeal.τ).loc Cert.FwdRIdeal.main_arg1)
          ∧ r.2.mem ((c.tc : Thread Cert.FwdRIdeal.nD Cert.FwdRIdeal.τ).loc Cert.FwdRIdeal.main_arg2) = m' ((c.tc : Thread Cert.FwdRIdeal.nD Cert.FwdRIdeal.τ).loc Cert.FwdRIdeal.main_arg2))

def preserves_MlpK_MlpKIdeal : Prop :=
  True

def algebraic_MlpKIdeal_MlpRIdeal_pre_mlp_finite [hMlpKIdeal : Cert.MlpKIdeal.Facts] [hMlpRIdeal : Cert.MlpRIdeal.Facts] [hPre_mlp_finite : Cert.Pre_mlp_finite.Facts] : Prop :=
  ∀ (m : (ℓ : Loc Cert.MlpKIdeal.nD Cert.MlpKIdeal.τ Cert.MlpKIdeal.sig) → Buf (Elt Ideal) ℓ) (g : Dev Cert.MlpKIdeal.nD → PrngReg)
    (m' : (ℓ : Loc Cert.MlpRIdeal.nD Cert.MlpRIdeal.τ Cert.MlpRIdeal.sig) → Buf (Elt Ideal) ℓ) (g' : Dev Cert.MlpRIdeal.nD → PrngReg), Pre_MlpKIdeal_mlp_finite m →
    (∀ c : Dev Cert.MlpKIdeal.nD,
      m' ((c.tc : Thread Cert.MlpRIdeal.nD Cert.MlpRIdeal.τ).loc Cert.MlpRIdeal.main_arg0) = m ((c.tc : Thread Cert.MlpKIdeal.nD Cert.MlpKIdeal.τ).loc Cert.MlpKIdeal.main_arg0)
      ∧ m' ((c.tc : Thread Cert.MlpRIdeal.nD Cert.MlpRIdeal.τ).loc Cert.MlpRIdeal.main_arg1) = m ((c.tc : Thread Cert.MlpKIdeal.nD Cert.MlpKIdeal.τ).loc Cert.MlpKIdeal.main_arg1)
      ∧ m' ((c.tc : Thread Cert.MlpRIdeal.nD Cert.MlpRIdeal.τ).loc Cert.MlpRIdeal.main_arg2) = m ((c.tc : Thread Cert.MlpKIdeal.nD Cert.MlpKIdeal.τ).loc Cert.MlpKIdeal.main_arg2)
      ∧ m' ((c.tc : Thread Cert.MlpRIdeal.nD Cert.MlpRIdeal.τ).loc Cert.MlpRIdeal.main_arg3) = m ((c.tc : Thread Cert.MlpKIdeal.nD Cert.MlpKIdeal.τ).loc Cert.MlpKIdeal.main_arg3)
      ∧ m' ((c.tc : Thread Cert.MlpRIdeal.nD Cert.MlpRIdeal.τ).loc Cert.MlpRIdeal.main_arg4) = m ((c.tc : Thread Cert.MlpKIdeal.nD Cert.MlpKIdeal.τ).loc Cert.MlpKIdeal.main_arg4)
      ∧ m' ((c.tc : Thread Cert.MlpRIdeal.nD Cert.MlpRIdeal.τ).loc Cert.MlpRIdeal.main_arg5) = m ((c.tc : Thread Cert.MlpKIdeal.nD Cert.MlpKIdeal.τ).loc Cert.MlpKIdeal.main_arg5)) →
    ∃ (v0 : (c : Dev Cert.MlpKIdeal.nD) → Buf (Elt Ideal) ((c.tc : Thread Cert.MlpKIdeal.nD Cert.MlpKIdeal.τ).loc Cert.MlpKIdeal.main_v30_0)) (v1 : (c : Dev Cert.MlpKIdeal.nD) → Buf (Elt Ideal) ((c.tc : Thread Cert.MlpKIdeal.nD Cert.MlpKIdeal.τ).loc Cert.MlpKIdeal.main_v30_1)) (v2 : (c : Dev Cert.MlpKIdeal.nD) → Buf (Elt Ideal) ((c.tc : Thread Cert.MlpKIdeal.nD Cert.MlpKIdeal.τ).loc Cert.MlpKIdeal.main_v30_2)),
      θ_run (Cert.MlpKIdeal.defs (F := Ideal)) (onTc (τ := Cert.MlpKIdeal.τ) (Cert.MlpKIdeal.main (F := Ideal))) ⟨m, fun _ => 0, g⟩ (fun r => ∀ c : Dev Cert.MlpKIdeal.nD,
          r.2.mem ((c.tc : Thread Cert.MlpKIdeal.nD Cert.MlpKIdeal.τ).loc Cert.MlpKIdeal.main_v30_0) = v0 c
          ∧ r.2.mem ((c.tc : Thread Cert.MlpKIdeal.nD Cert.MlpKIdeal.τ).loc Cert.MlpKIdeal.main_v30_1) = v1 c
          ∧ r.2.mem ((c.tc : Thread Cert.MlpKIdeal.nD Cert.MlpKIdeal.τ).loc Cert.MlpKIdeal.main_v30_2) = v2 c
          ∧ r.2.mem ((c.tc : Thread Cert.MlpKIdeal.nD Cert.MlpKIdeal.τ).loc Cert.MlpKIdeal.main_arg0) = m ((c.tc : Thread Cert.MlpKIdeal.nD Cert.MlpKIdeal.τ).loc Cert.MlpKIdeal.main_arg0)
          ∧ r.2.mem ((c.tc : Thread Cert.MlpKIdeal.nD Cert.MlpKIdeal.τ).loc Cert.MlpKIdeal.main_arg1) = m ((c.tc : Thread Cert.MlpKIdeal.nD Cert.MlpKIdeal.τ).loc Cert.MlpKIdeal.main_arg1)
          ∧ r.2.mem ((c.tc : Thread Cert.MlpKIdeal.nD Cert.MlpKIdeal.τ).loc Cert.MlpKIdeal.main_arg2) = m ((c.tc : Thread Cert.MlpKIdeal.nD Cert.MlpKIdeal.τ).loc Cert.MlpKIdeal.main_arg2)
          ∧ r.2.mem ((c.tc : Thread Cert.MlpKIdeal.nD Cert.MlpKIdeal.τ).loc Cert.MlpKIdeal.main_arg3) = m ((c.tc : Thread Cert.MlpKIdeal.nD Cert.MlpKIdeal.τ).loc Cert.MlpKIdeal.main_arg3)
          ∧ r.2.mem ((c.tc : Thread Cert.MlpKIdeal.nD Cert.MlpKIdeal.τ).loc Cert.MlpKIdeal.main_arg4) = m ((c.tc : Thread Cert.MlpKIdeal.nD Cert.MlpKIdeal.τ).loc Cert.MlpKIdeal.main_arg4)
          ∧ r.2.mem ((c.tc : Thread Cert.MlpKIdeal.nD Cert.MlpKIdeal.τ).loc Cert.MlpKIdeal.main_arg5) = m ((c.tc : Thread Cert.MlpKIdeal.nD Cert.MlpKIdeal.τ).loc Cert.MlpKIdeal.main_arg5))
      ∧ θ_run (Cert.MlpRIdeal.defs (F := Ideal)) (onTc (τ := Cert.MlpRIdeal.τ) (Cert.MlpRIdeal.main (F := Ideal))) ⟨m', fun _ => 0, g'⟩ (fun r => ∀ c : Dev Cert.MlpRIdeal.nD,
          r.2.mem ((c.tc : Thread Cert.MlpRIdeal.nD Cert.MlpRIdeal.τ).loc Cert.MlpRIdeal.main_v75) = v0 c
          ∧ r.2.mem ((c.tc : Thread Cert.MlpRIdeal.nD Cert.MlpRIdeal.τ).loc Cert.MlpRIdeal.main_v74) = v1 c
          ∧ r.2.mem ((c.tc : Thread Cert.MlpRIdeal.nD Cert.MlpRIdeal.τ).loc Cert.MlpRIdeal.main_v79) = v2 c
          ∧ r.2.mem ((c.tc : Thread Cert.MlpRIdeal.nD Cert.MlpRIdeal.τ).loc Cert.MlpRIdeal.main_arg0) = m' ((c.tc : Thread Cert.MlpRIdeal.nD Cert.MlpRIdeal.τ).loc Cert.MlpRIdeal.main_arg0)
          ∧ r.2.mem ((c.tc : Thread Cert.MlpRIdeal.nD Cert.MlpRIdeal.τ).loc Cert.MlpRIdeal.main_arg1) = m' ((c.tc : Thread Cert.MlpRIdeal.nD Cert.MlpRIdeal.τ).loc Cert.MlpRIdeal.main_arg1)
          ∧ r.2.mem ((c.tc : Thread Cert.MlpRIdeal.nD Cert.MlpRIdeal.τ).loc Cert.MlpRIdeal.main_arg2) = m' ((c.tc : Thread Cert.MlpRIdeal.nD Cert.MlpRIdeal.τ).loc Cert.MlpRIdeal.main_arg2)
          ∧ r.2.mem ((c.tc : Thread Cert.MlpRIdeal.nD Cert.MlpRIdeal.τ).loc Cert.MlpRIdeal.main_arg3) = m' ((c.tc : Thread Cert.MlpRIdeal.nD Cert.MlpRIdeal.τ).loc Cert.MlpRIdeal.main_arg3)
          ∧ r.2.mem ((c.tc : Thread Cert.MlpRIdeal.nD Cert.MlpRIdeal.τ).loc Cert.MlpRIdeal.main_arg4) = m' ((c.tc : Thread Cert.MlpRIdeal.nD Cert.MlpRIdeal.τ).loc Cert.MlpRIdeal.main_arg4)
          ∧ r.2.mem ((c.tc : Thread Cert.MlpRIdeal.nD Cert.MlpRIdeal.τ).loc Cert.MlpRIdeal.main_arg5) = m' ((c.tc : Thread Cert.MlpRIdeal.nD Cert.MlpRIdeal.τ).loc Cert.MlpRIdeal.main_arg5))

def preserves_InbK_InbKIdeal : Prop :=
  True

def algebraic_InbKIdeal_InbRIdeal_pre_inb_finite [hInbKIdeal : Cert.InbKIdeal.Facts] [hInbRIdeal : Cert.InbRIdeal.Facts] [hPre_inb_finite : Cert.Pre_inb_finite.Facts] : Prop :=
  ∀ (m : (ℓ : Loc Cert.InbKIdeal.nD Cert.InbKIdeal.τ Cert.InbKIdeal.sig) → Buf (Elt Ideal) ℓ) (g : Dev Cert.InbKIdeal.nD → PrngReg)
    (m' : (ℓ : Loc Cert.InbRIdeal.nD Cert.InbRIdeal.τ Cert.InbRIdeal.sig) → Buf (Elt Ideal) ℓ) (g' : Dev Cert.InbRIdeal.nD → PrngReg), Pre_InbKIdeal_inb_finite m →
    (∀ c : Dev Cert.InbKIdeal.nD,
      m' ((c.tc : Thread Cert.InbRIdeal.nD Cert.InbRIdeal.τ).loc Cert.InbRIdeal.main_arg0) = m ((c.tc : Thread Cert.InbKIdeal.nD Cert.InbKIdeal.τ).loc Cert.InbKIdeal.main_arg0)
      ∧ m' ((c.tc : Thread Cert.InbRIdeal.nD Cert.InbRIdeal.τ).loc Cert.InbRIdeal.main_arg1) = m ((c.tc : Thread Cert.InbKIdeal.nD Cert.InbKIdeal.τ).loc Cert.InbKIdeal.main_arg1)
      ∧ m' ((c.tc : Thread Cert.InbRIdeal.nD Cert.InbRIdeal.τ).loc Cert.InbRIdeal.main_arg2) = m ((c.tc : Thread Cert.InbKIdeal.nD Cert.InbKIdeal.τ).loc Cert.InbKIdeal.main_arg2)
      ∧ m' ((c.tc : Thread Cert.InbRIdeal.nD Cert.InbRIdeal.τ).loc Cert.InbRIdeal.main_arg3) = m ((c.tc : Thread Cert.InbKIdeal.nD Cert.InbKIdeal.τ).loc Cert.InbKIdeal.main_arg3)
      ∧ m' ((c.tc : Thread Cert.InbRIdeal.nD Cert.InbRIdeal.τ).loc Cert.InbRIdeal.main_arg4) = m ((c.tc : Thread Cert.InbKIdeal.nD Cert.InbKIdeal.τ).loc Cert.InbKIdeal.main_arg4)
      ∧ m' ((c.tc : Thread Cert.InbRIdeal.nD Cert.InbRIdeal.τ).loc Cert.InbRIdeal.main_arg5) = m ((c.tc : Thread Cert.InbKIdeal.nD Cert.InbKIdeal.τ).loc Cert.InbKIdeal.main_arg5)) →
    ∃ (v0 : (c : Dev Cert.InbKIdeal.nD) → Buf (Elt Ideal) ((c.tc : Thread Cert.InbKIdeal.nD Cert.InbKIdeal.τ).loc Cert.InbKIdeal.main_v3_0)) (v1 : (c : Dev Cert.InbKIdeal.nD) → Buf (Elt Ideal) ((c.tc : Thread Cert.InbKIdeal.nD Cert.InbKIdeal.τ).loc Cert.InbKIdeal.main_v3_1)),
      θ_run (Cert.InbKIdeal.defs (F := Ideal)) (onTc (τ := Cert.InbKIdeal.τ) (Cert.InbKIdeal.main (F := Ideal))) ⟨m, fun _ => 0, g⟩ (fun r => ∀ c : Dev Cert.InbKIdeal.nD,
          r.2.mem ((c.tc : Thread Cert.InbKIdeal.nD Cert.InbKIdeal.τ).loc Cert.InbKIdeal.main_v3_0) = v0 c
          ∧ r.2.mem ((c.tc : Thread Cert.InbKIdeal.nD Cert.InbKIdeal.τ).loc Cert.InbKIdeal.main_v3_1) = v1 c
          ∧ r.2.mem ((c.tc : Thread Cert.InbKIdeal.nD Cert.InbKIdeal.τ).loc Cert.InbKIdeal.main_arg0) = m ((c.tc : Thread Cert.InbKIdeal.nD Cert.InbKIdeal.τ).loc Cert.InbKIdeal.main_arg0)
          ∧ r.2.mem ((c.tc : Thread Cert.InbKIdeal.nD Cert.InbKIdeal.τ).loc Cert.InbKIdeal.main_arg1) = m ((c.tc : Thread Cert.InbKIdeal.nD Cert.InbKIdeal.τ).loc Cert.InbKIdeal.main_arg1)
          ∧ r.2.mem ((c.tc : Thread Cert.InbKIdeal.nD Cert.InbKIdeal.τ).loc Cert.InbKIdeal.main_arg2) = m ((c.tc : Thread Cert.InbKIdeal.nD Cert.InbKIdeal.τ).loc Cert.InbKIdeal.main_arg2)
          ∧ r.2.mem ((c.tc : Thread Cert.InbKIdeal.nD Cert.InbKIdeal.τ).loc Cert.InbKIdeal.main_arg3) = m ((c.tc : Thread Cert.InbKIdeal.nD Cert.InbKIdeal.τ).loc Cert.InbKIdeal.main_arg3)
          ∧ r.2.mem ((c.tc : Thread Cert.InbKIdeal.nD Cert.InbKIdeal.τ).loc Cert.InbKIdeal.main_arg4) = m ((c.tc : Thread Cert.InbKIdeal.nD Cert.InbKIdeal.τ).loc Cert.InbKIdeal.main_arg4)
          ∧ r.2.mem ((c.tc : Thread Cert.InbKIdeal.nD Cert.InbKIdeal.τ).loc Cert.InbKIdeal.main_arg5) = m ((c.tc : Thread Cert.InbKIdeal.nD Cert.InbKIdeal.τ).loc Cert.InbKIdeal.main_arg5))
      ∧ θ_run (Cert.InbRIdeal.defs (F := Ideal)) (onTc (τ := Cert.InbRIdeal.τ) (Cert.InbRIdeal.main (F := Ideal))) ⟨m', fun _ => 0, g'⟩ (fun r => ∀ c : Dev Cert.InbRIdeal.nD,
          r.2.mem ((c.tc : Thread Cert.InbRIdeal.nD Cert.InbRIdeal.τ).loc Cert.InbRIdeal.main_v51) = v0 c
          ∧ r.2.mem ((c.tc : Thread Cert.InbRIdeal.nD Cert.InbRIdeal.τ).loc Cert.InbRIdeal.main_v55) = v1 c
          ∧ r.2.mem ((c.tc : Thread Cert.InbRIdeal.nD Cert.InbRIdeal.τ).loc Cert.InbRIdeal.main_arg0) = m' ((c.tc : Thread Cert.InbRIdeal.nD Cert.InbRIdeal.τ).loc Cert.InbRIdeal.main_arg0)
          ∧ r.2.mem ((c.tc : Thread Cert.InbRIdeal.nD Cert.InbRIdeal.τ).loc Cert.InbRIdeal.main_arg1) = m' ((c.tc : Thread Cert.InbRIdeal.nD Cert.InbRIdeal.τ).loc Cert.InbRIdeal.main_arg1)
          ∧ r.2.mem ((c.tc : Thread Cert.InbRIdeal.nD Cert.InbRIdeal.τ).loc Cert.InbRIdeal.main_arg2) = m' ((c.tc : Thread Cert.InbRIdeal.nD Cert.InbRIdeal.τ).loc Cert.InbRIdeal.main_arg2)
          ∧ r.2.mem ((c.tc : Thread Cert.InbRIdeal.nD Cert.InbRIdeal.τ).loc Cert.InbRIdeal.main_arg3) = m' ((c.tc : Thread Cert.InbRIdeal.nD Cert.InbRIdeal.τ).loc Cert.InbRIdeal.main_arg3)
          ∧ r.2.mem ((c.tc : Thread Cert.InbRIdeal.nD Cert.InbRIdeal.τ).loc Cert.InbRIdeal.main_arg4) = m' ((c.tc : Thread Cert.InbRIdeal.nD Cert.InbRIdeal.τ).loc Cert.InbRIdeal.main_arg4)
          ∧ r.2.mem ((c.tc : Thread Cert.InbRIdeal.nD Cert.InbRIdeal.τ).loc Cert.InbRIdeal.main_arg5) = m' ((c.tc : Thread Cert.InbRIdeal.nD Cert.InbRIdeal.τ).loc Cert.InbRIdeal.main_arg5))

def preserves_QkK_QkKIdeal : Prop :=
  IdealRules.named_const.Statement Cert.QkKIdeal.κ "ln2" .f32 0x3F317218#32 ((Real.log 2 : ℝ) : EReal)

def algebraic_QkKIdeal_QkRIdeal_pre_qk_finite [hQkKIdeal : Cert.QkKIdeal.Facts] [hQkRIdeal : Cert.QkRIdeal.Facts] [hPre_qk_finite : Cert.Pre_qk_finite.Facts] : Prop :=
  ∀ (m : (ℓ : Loc Cert.QkKIdeal.nD Cert.QkKIdeal.τ Cert.QkKIdeal.sig) → Buf (Elt Ideal) ℓ) (g : Dev Cert.QkKIdeal.nD → PrngReg)
    (m' : (ℓ : Loc Cert.QkRIdeal.nD Cert.QkRIdeal.τ Cert.QkRIdeal.sig) → Buf (Elt Ideal) ℓ) (g' : Dev Cert.QkRIdeal.nD → PrngReg), Pre_QkKIdeal_qk_finite m →
    (∀ c : Dev Cert.QkKIdeal.nD,
      m' ((c.tc : Thread Cert.QkRIdeal.nD Cert.QkRIdeal.τ).loc Cert.QkRIdeal.main_arg0) = m ((c.tc : Thread Cert.QkKIdeal.nD Cert.QkKIdeal.τ).loc Cert.QkKIdeal.main_arg0)
      ∧ m' ((c.tc : Thread Cert.QkRIdeal.nD Cert.QkRIdeal.τ).loc Cert.QkRIdeal.main_arg1) = m ((c.tc : Thread Cert.QkKIdeal.nD Cert.QkKIdeal.τ).loc Cert.QkKIdeal.main_arg1)
      ∧ m' ((c.tc : Thread Cert.QkRIdeal.nD Cert.QkRIdeal.τ).loc Cert.QkRIdeal.main_arg2) = m ((c.tc : Thread Cert.QkKIdeal.nD Cert.QkKIdeal.τ).loc Cert.QkKIdeal.main_arg2)
      ∧ m' ((c.tc : Thread Cert.QkRIdeal.nD Cert.QkRIdeal.τ).loc Cert.QkRIdeal.main_arg3) = m ((c.tc : Thread Cert.QkKIdeal.nD Cert.QkKIdeal.τ).loc Cert.QkKIdeal.main_arg3)
      ∧ m' ((c.tc : Thread Cert.QkRIdeal.nD Cert.QkRIdeal.τ).loc Cert.QkRIdeal.main_arg4) = m ((c.tc : Thread Cert.QkKIdeal.nD Cert.QkKIdeal.τ).loc Cert.QkKIdeal.main_arg4)
      ∧ m' ((c.tc : Thread Cert.QkRIdeal.nD Cert.QkRIdeal.τ).loc Cert.QkRIdeal.main_arg5) = m ((c.tc : Thread Cert.QkKIdeal.nD Cert.QkKIdeal.τ).loc Cert.QkKIdeal.main_arg5)
      ∧ m' ((c.tc : Thread Cert.QkRIdeal.nD Cert.QkRIdeal.τ).loc Cert.QkRIdeal.main_arg6) = m ((c.tc : Thread Cert.QkKIdeal.nD Cert.QkKIdeal.τ).loc Cert.QkKIdeal.main_arg6)
      ∧ m' ((c.tc : Thread Cert.QkRIdeal.nD Cert.QkRIdeal.τ).loc Cert.QkRIdeal.main_arg7) = m ((c.tc : Thread Cert.QkKIdeal.nD Cert.QkKIdeal.τ).loc Cert.QkKIdeal.main_arg7)
      ∧ m' ((c.tc : Thread Cert.QkRIdeal.nD Cert.QkRIdeal.τ).loc Cert.QkRIdeal.main_arg8) = m ((c.tc : Thread Cert.QkKIdeal.nD Cert.QkKIdeal.τ).loc Cert.QkKIdeal.main_arg8)
      ∧ m' ((c.tc : Thread Cert.QkRIdeal.nD Cert.QkRIdeal.τ).loc Cert.QkRIdeal.main_arg9) = m ((c.tc : Thread Cert.QkKIdeal.nD Cert.QkKIdeal.τ).loc Cert.QkKIdeal.main_arg9)
      ∧ m' ((c.tc : Thread Cert.QkRIdeal.nD Cert.QkRIdeal.τ).loc Cert.QkRIdeal.main_arg10) = m ((c.tc : Thread Cert.QkKIdeal.nD Cert.QkKIdeal.τ).loc Cert.QkKIdeal.main_arg10)) →
    ∃ (v0 : (c : Dev Cert.QkKIdeal.nD) → Buf (Elt Ideal) ((c.tc : Thread Cert.QkKIdeal.nD Cert.QkKIdeal.τ).loc Cert.QkKIdeal.main_v104_0)) (v1 : (c : Dev Cert.QkKIdeal.nD) → Buf (Elt Ideal) ((c.tc : Thread Cert.QkKIdeal.nD Cert.QkKIdeal.τ).loc Cert.QkKIdeal.main_v104_1)),
      θ_run (Cert.QkKIdeal.defs (F := Ideal)) (onTc (τ := Cert.QkKIdeal.τ) (Cert.QkKIdeal.main (F := Ideal))) ⟨m, fun _ => 0, g⟩ (fun r => ∀ c : Dev Cert.QkKIdeal.nD,
          r.2.mem ((c.tc : Thread Cert.QkKIdeal.nD Cert.QkKIdeal.τ).loc Cert.QkKIdeal.main_v104_0) = v0 c
          ∧ r.2.mem ((c.tc : Thread Cert.QkKIdeal.nD Cert.QkKIdeal.τ).loc Cert.QkKIdeal.main_v104_1) = v1 c
          ∧ r.2.mem ((c.tc : Thread Cert.QkKIdeal.nD Cert.QkKIdeal.τ).loc Cert.QkKIdeal.main_arg0) = m ((c.tc : Thread Cert.QkKIdeal.nD Cert.QkKIdeal.τ).loc Cert.QkKIdeal.main_arg0)
          ∧ r.2.mem ((c.tc : Thread Cert.QkKIdeal.nD Cert.QkKIdeal.τ).loc Cert.QkKIdeal.main_arg1) = m ((c.tc : Thread Cert.QkKIdeal.nD Cert.QkKIdeal.τ).loc Cert.QkKIdeal.main_arg1)
          ∧ r.2.mem ((c.tc : Thread Cert.QkKIdeal.nD Cert.QkKIdeal.τ).loc Cert.QkKIdeal.main_arg2) = m ((c.tc : Thread Cert.QkKIdeal.nD Cert.QkKIdeal.τ).loc Cert.QkKIdeal.main_arg2)
          ∧ r.2.mem ((c.tc : Thread Cert.QkKIdeal.nD Cert.QkKIdeal.τ).loc Cert.QkKIdeal.main_arg3) = m ((c.tc : Thread Cert.QkKIdeal.nD Cert.QkKIdeal.τ).loc Cert.QkKIdeal.main_arg3)
          ∧ r.2.mem ((c.tc : Thread Cert.QkKIdeal.nD Cert.QkKIdeal.τ).loc Cert.QkKIdeal.main_arg4) = m ((c.tc : Thread Cert.QkKIdeal.nD Cert.QkKIdeal.τ).loc Cert.QkKIdeal.main_arg4)
          ∧ r.2.mem ((c.tc : Thread Cert.QkKIdeal.nD Cert.QkKIdeal.τ).loc Cert.QkKIdeal.main_arg5) = m ((c.tc : Thread Cert.QkKIdeal.nD Cert.QkKIdeal.τ).loc Cert.QkKIdeal.main_arg5)
          ∧ r.2.mem ((c.tc : Thread Cert.QkKIdeal.nD Cert.QkKIdeal.τ).loc Cert.QkKIdeal.main_arg6) = m ((c.tc : Thread Cert.QkKIdeal.nD Cert.QkKIdeal.τ).loc Cert.QkKIdeal.main_arg6)
          ∧ r.2.mem ((c.tc : Thread Cert.QkKIdeal.nD Cert.QkKIdeal.τ).loc Cert.QkKIdeal.main_arg7) = m ((c.tc : Thread Cert.QkKIdeal.nD Cert.QkKIdeal.τ).loc Cert.QkKIdeal.main_arg7)
          ∧ r.2.mem ((c.tc : Thread Cert.QkKIdeal.nD Cert.QkKIdeal.τ).loc Cert.QkKIdeal.main_arg8) = m ((c.tc : Thread Cert.QkKIdeal.nD Cert.QkKIdeal.τ).loc Cert.QkKIdeal.main_arg8)
          ∧ r.2.mem ((c.tc : Thread Cert.QkKIdeal.nD Cert.QkKIdeal.τ).loc Cert.QkKIdeal.main_arg9) = m ((c.tc : Thread Cert.QkKIdeal.nD Cert.QkKIdeal.τ).loc Cert.QkKIdeal.main_arg9)
          ∧ r.2.mem ((c.tc : Thread Cert.QkKIdeal.nD Cert.QkKIdeal.τ).loc Cert.QkKIdeal.main_arg10) = m ((c.tc : Thread Cert.QkKIdeal.nD Cert.QkKIdeal.τ).loc Cert.QkKIdeal.main_arg10))
      ∧ θ_run (Cert.QkRIdeal.defs (F := Ideal)) (onTc (τ := Cert.QkRIdeal.τ) (Cert.QkRIdeal.main (F := Ideal))) ⟨m', fun _ => 0, g'⟩ (fun r => ∀ c : Dev Cert.QkRIdeal.nD,
          r.2.mem ((c.tc : Thread Cert.QkRIdeal.nD Cert.QkRIdeal.τ).loc Cert.QkRIdeal.main_v402) = v0 c
          ∧ r.2.mem ((c.tc : Thread Cert.QkRIdeal.nD Cert.QkRIdeal.τ).loc Cert.QkRIdeal.main_v404) = v1 c
          ∧ r.2.mem ((c.tc : Thread Cert.QkRIdeal.nD Cert.QkRIdeal.τ).loc Cert.QkRIdeal.main_arg0) = m' ((c.tc : Thread Cert.QkRIdeal.nD Cert.QkRIdeal.τ).loc Cert.QkRIdeal.main_arg0)
          ∧ r.2.mem ((c.tc : Thread Cert.QkRIdeal.nD Cert.QkRIdeal.τ).loc Cert.QkRIdeal.main_arg1) = m' ((c.tc : Thread Cert.QkRIdeal.nD Cert.QkRIdeal.τ).loc Cert.QkRIdeal.main_arg1)
          ∧ r.2.mem ((c.tc : Thread Cert.QkRIdeal.nD Cert.QkRIdeal.τ).loc Cert.QkRIdeal.main_arg2) = m' ((c.tc : Thread Cert.QkRIdeal.nD Cert.QkRIdeal.τ).loc Cert.QkRIdeal.main_arg2)
          ∧ r.2.mem ((c.tc : Thread Cert.QkRIdeal.nD Cert.QkRIdeal.τ).loc Cert.QkRIdeal.main_arg3) = m' ((c.tc : Thread Cert.QkRIdeal.nD Cert.QkRIdeal.τ).loc Cert.QkRIdeal.main_arg3)
          ∧ r.2.mem ((c.tc : Thread Cert.QkRIdeal.nD Cert.QkRIdeal.τ).loc Cert.QkRIdeal.main_arg4) = m' ((c.tc : Thread Cert.QkRIdeal.nD Cert.QkRIdeal.τ).loc Cert.QkRIdeal.main_arg4)
          ∧ r.2.mem ((c.tc : Thread Cert.QkRIdeal.nD Cert.QkRIdeal.τ).loc Cert.QkRIdeal.main_arg5) = m' ((c.tc : Thread Cert.QkRIdeal.nD Cert.QkRIdeal.τ).loc Cert.QkRIdeal.main_arg5)
          ∧ r.2.mem ((c.tc : Thread Cert.QkRIdeal.nD Cert.QkRIdeal.τ).loc Cert.QkRIdeal.main_arg6) = m' ((c.tc : Thread Cert.QkRIdeal.nD Cert.QkRIdeal.τ).loc Cert.QkRIdeal.main_arg6)
          ∧ r.2.mem ((c.tc : Thread Cert.QkRIdeal.nD Cert.QkRIdeal.τ).loc Cert.QkRIdeal.main_arg7) = m' ((c.tc : Thread Cert.QkRIdeal.nD Cert.QkRIdeal.τ).loc Cert.QkRIdeal.main_arg7)
          ∧ r.2.mem ((c.tc : Thread Cert.QkRIdeal.nD Cert.QkRIdeal.τ).loc Cert.QkRIdeal.main_arg8) = m' ((c.tc : Thread Cert.QkRIdeal.nD Cert.QkRIdeal.τ).loc Cert.QkRIdeal.main_arg8)
          ∧ r.2.mem ((c.tc : Thread Cert.QkRIdeal.nD Cert.QkRIdeal.τ).loc Cert.QkRIdeal.main_arg9) = m' ((c.tc : Thread Cert.QkRIdeal.nD Cert.QkRIdeal.τ).loc Cert.QkRIdeal.main_arg9)
          ∧ r.2.mem ((c.tc : Thread Cert.QkRIdeal.nD Cert.QkRIdeal.τ).loc Cert.QkRIdeal.main_arg10) = m' ((c.tc : Thread Cert.QkRIdeal.nD Cert.QkRIdeal.τ).loc Cert.QkRIdeal.main_arg10))

def preserves_DwK_DwKIdeal : Prop :=
  True

def algebraic_DwKIdeal_DwRIdeal [hDwKIdeal : Cert.DwKIdeal.Facts] [hDwRIdeal : Cert.DwRIdeal.Facts] : Prop :=
  ∀ (m : (ℓ : Loc Cert.DwKIdeal.nD Cert.DwKIdeal.τ Cert.DwKIdeal.sig) → Buf (Elt Ideal) ℓ) (g : Dev Cert.DwKIdeal.nD → PrngReg)
    (m' : (ℓ : Loc Cert.DwRIdeal.nD Cert.DwRIdeal.τ Cert.DwRIdeal.sig) → Buf (Elt Ideal) ℓ) (g' : Dev Cert.DwRIdeal.nD → PrngReg), Pre_DwKIdeal m →
    (∀ c : Dev Cert.DwKIdeal.nD,
      m' ((c.tc : Thread Cert.DwRIdeal.nD Cert.DwRIdeal.τ).loc Cert.DwRIdeal.main_arg0) = m ((c.tc : Thread Cert.DwKIdeal.nD Cert.DwKIdeal.τ).loc Cert.DwKIdeal.main_arg0)
      ∧ m' ((c.tc : Thread Cert.DwRIdeal.nD Cert.DwRIdeal.τ).loc Cert.DwRIdeal.main_arg1) = m ((c.tc : Thread Cert.DwKIdeal.nD Cert.DwKIdeal.τ).loc Cert.DwKIdeal.main_arg1)) →
    ∃ (v0 : (c : Dev Cert.DwKIdeal.nD) → Buf (Elt Ideal) ((c.tc : Thread Cert.DwKIdeal.nD Cert.DwKIdeal.τ).loc Cert.DwKIdeal.main_v1)),
      θ_run (Cert.DwKIdeal.defs (F := Ideal)) (onTc (τ := Cert.DwKIdeal.τ) (Cert.DwKIdeal.main (F := Ideal))) ⟨m, fun _ => 0, g⟩ (fun r => ∀ c : Dev Cert.DwKIdeal.nD,
          r.2.mem ((c.tc : Thread Cert.DwKIdeal.nD Cert.DwKIdeal.τ).loc Cert.DwKIdeal.main_v1) = v0 c
          ∧ r.2.mem ((c.tc : Thread Cert.DwKIdeal.nD Cert.DwKIdeal.τ).loc Cert.DwKIdeal.main_arg0) = m ((c.tc : Thread Cert.DwKIdeal.nD Cert.DwKIdeal.τ).loc Cert.DwKIdeal.main_arg0)
          ∧ r.2.mem ((c.tc : Thread Cert.DwKIdeal.nD Cert.DwKIdeal.τ).loc Cert.DwKIdeal.main_arg1) = m ((c.tc : Thread Cert.DwKIdeal.nD Cert.DwKIdeal.τ).loc Cert.DwKIdeal.main_arg1))
      ∧ θ_run (Cert.DwRIdeal.defs (F := Ideal)) (onTc (τ := Cert.DwRIdeal.τ) (Cert.DwRIdeal.main (F := Ideal))) ⟨m', fun _ => 0, g'⟩ (fun r => ∀ c : Dev Cert.DwRIdeal.nD,
          r.2.mem ((c.tc : Thread Cert.DwRIdeal.nD Cert.DwRIdeal.τ).loc Cert.DwRIdeal.main_v5) = v0 c
          ∧ r.2.mem ((c.tc : Thread Cert.DwRIdeal.nD Cert.DwRIdeal.τ).loc Cert.DwRIdeal.main_arg0) = m' ((c.tc : Thread Cert.DwRIdeal.nD Cert.DwRIdeal.τ).loc Cert.DwRIdeal.main_arg0)
          ∧ r.2.mem ((c.tc : Thread Cert.DwRIdeal.nD Cert.DwRIdeal.τ).loc Cert.DwRIdeal.main_arg1) = m' ((c.tc : Thread Cert.DwRIdeal.nD Cert.DwRIdeal.τ).loc Cert.DwRIdeal.main_arg1))

def Claim : Prop :=
  ∃ (hGateK : Cert.GateK.Facts) (hGateKIdeal : Cert.GateKIdeal.Facts) (hGateRIdeal : Cert.GateRIdeal.Facts) (hAttnK : Cert.AttnK.Facts) (hAttnKIdeal : Cert.AttnKIdeal.Facts) (hAttnRIdeal : Cert.AttnRIdeal.Facts) (hMergeK : Cert.MergeK.Facts) (hMergeKIdeal : Cert.MergeKIdeal.Facts) (hMergeRIdeal : Cert.MergeRIdeal.Facts) (hFwdK : Cert.FwdK.Facts) (hFwdKIdeal : Cert.FwdKIdeal.Facts) (hFwdRIdeal : Cert.FwdRIdeal.Facts) (hMlpK : Cert.MlpK.Facts) (hMlpKIdeal : Cert.MlpKIdeal.Facts) (hMlpRIdeal : Cert.MlpRIdeal.Facts) (hInbK : Cert.InbK.Facts) (hInbKIdeal : Cert.InbKIdeal.Facts) (hInbRIdeal : Cert.InbRIdeal.Facts) (hQkK : Cert.QkK.Facts) (hQkKIdeal : Cert.QkKIdeal.Facts) (hQkRIdeal : Cert.QkRIdeal.Facts) (hDwK : Cert.DwK.Facts) (hDwKIdeal : Cert.DwKIdeal.Facts) (hDwRIdeal : Cert.DwRIdeal.Facts) (hPre_gate_finite : Cert.Pre_gate_finite.Facts) (hPre_attn_finite : Cert.Pre_attn_finite.Facts) (hPre_merge_finite : Cert.Pre_merge_finite.Facts) (hPre_fwd_finite : Cert.Pre_fwd_finite.Facts) (hPre_mlp_finite : Cert.Pre_mlp_finite.Facts) (hPre_inb_finite : Cert.Pre_inb_finite.Facts) (hPre_qk_finite : Cert.Pre_qk_finite.Facts),
    quiescent_GateK (hGateK := hGateK)
    ∧ quiescent_GateKIdeal (hGateKIdeal := hGateKIdeal)
    ∧ quiescent_GateKIdeal_pre_gate_finite (hGateKIdeal := hGateKIdeal) (hPre_gate_finite := hPre_gate_finite)
    ∧ quiescent_GateRIdeal (hGateRIdeal := hGateRIdeal)
    ∧ quiescent_GateRIdeal_pre_gate_finite (hGateRIdeal := hGateRIdeal) (hPre_gate_finite := hPre_gate_finite)
    ∧ quiescent_AttnK (hAttnK := hAttnK)
    ∧ quiescent_AttnKIdeal (hAttnKIdeal := hAttnKIdeal)
    ∧ quiescent_AttnKIdeal_pre_attn_finite (hAttnKIdeal := hAttnKIdeal) (hPre_attn_finite := hPre_attn_finite)
    ∧ quiescent_AttnRIdeal (hAttnRIdeal := hAttnRIdeal)
    ∧ quiescent_AttnRIdeal_pre_attn_finite (hAttnRIdeal := hAttnRIdeal) (hPre_attn_finite := hPre_attn_finite)
    ∧ quiescent_MergeK (hMergeK := hMergeK)
    ∧ quiescent_MergeKIdeal (hMergeKIdeal := hMergeKIdeal)
    ∧ quiescent_MergeKIdeal_pre_merge_finite (hMergeKIdeal := hMergeKIdeal) (hPre_merge_finite := hPre_merge_finite)
    ∧ quiescent_MergeRIdeal (hMergeRIdeal := hMergeRIdeal)
    ∧ quiescent_MergeRIdeal_pre_merge_finite (hMergeRIdeal := hMergeRIdeal) (hPre_merge_finite := hPre_merge_finite)
    ∧ quiescent_FwdK (hFwdK := hFwdK)
    ∧ quiescent_FwdKIdeal (hFwdKIdeal := hFwdKIdeal)
    ∧ quiescent_FwdKIdeal_pre_fwd_finite (hFwdKIdeal := hFwdKIdeal) (hPre_fwd_finite := hPre_fwd_finite)
    ∧ quiescent_FwdRIdeal (hFwdRIdeal := hFwdRIdeal)
    ∧ quiescent_FwdRIdeal_pre_fwd_finite (hFwdRIdeal := hFwdRIdeal) (hPre_fwd_finite := hPre_fwd_finite)
    ∧ quiescent_MlpK (hMlpK := hMlpK)
    ∧ quiescent_MlpKIdeal (hMlpKIdeal := hMlpKIdeal)
    ∧ quiescent_MlpKIdeal_pre_mlp_finite (hMlpKIdeal := hMlpKIdeal) (hPre_mlp_finite := hPre_mlp_finite)
    ∧ quiescent_MlpRIdeal (hMlpRIdeal := hMlpRIdeal)
    ∧ quiescent_MlpRIdeal_pre_mlp_finite (hMlpRIdeal := hMlpRIdeal) (hPre_mlp_finite := hPre_mlp_finite)
    ∧ quiescent_InbK (hInbK := hInbK)
    ∧ quiescent_InbKIdeal (hInbKIdeal := hInbKIdeal)
    ∧ quiescent_InbKIdeal_pre_inb_finite (hInbKIdeal := hInbKIdeal) (hPre_inb_finite := hPre_inb_finite)
    ∧ quiescent_InbRIdeal (hInbRIdeal := hInbRIdeal)
    ∧ quiescent_InbRIdeal_pre_inb_finite (hInbRIdeal := hInbRIdeal) (hPre_inb_finite := hPre_inb_finite)
    ∧ quiescent_QkK (hQkK := hQkK)
    ∧ quiescent_QkKIdeal (hQkKIdeal := hQkKIdeal)
    ∧ quiescent_QkKIdeal_pre_qk_finite (hQkKIdeal := hQkKIdeal) (hPre_qk_finite := hPre_qk_finite)
    ∧ quiescent_QkRIdeal (hQkRIdeal := hQkRIdeal)
    ∧ quiescent_QkRIdeal_pre_qk_finite (hQkRIdeal := hQkRIdeal) (hPre_qk_finite := hPre_qk_finite)
    ∧ quiescent_DwK (hDwK := hDwK)
    ∧ quiescent_DwKIdeal (hDwKIdeal := hDwKIdeal)
    ∧ quiescent_DwRIdeal (hDwRIdeal := hDwRIdeal)
    ∧ preserves_GateK_GateKIdeal
    ∧ algebraic_GateKIdeal_GateRIdeal_pre_gate_finite (hGateKIdeal := hGateKIdeal) (hGateRIdeal := hGateRIdeal) (hPre_gate_finite := hPre_gate_finite)
    ∧ preserves_AttnK_AttnKIdeal
    ∧ algebraic_AttnKIdeal_AttnRIdeal_pre_attn_finite (hAttnKIdeal := hAttnKIdeal) (hAttnRIdeal := hAttnRIdeal) (hPre_attn_finite := hPre_attn_finite)
    ∧ preserves_MergeK_MergeKIdeal
    ∧ algebraic_MergeKIdeal_MergeRIdeal_pre_merge_finite (hMergeKIdeal := hMergeKIdeal) (hMergeRIdeal := hMergeRIdeal) (hPre_merge_finite := hPre_merge_finite)
    ∧ preserves_FwdK_FwdKIdeal
    ∧ algebraic_FwdKIdeal_FwdRIdeal_pre_fwd_finite (hFwdKIdeal := hFwdKIdeal) (hFwdRIdeal := hFwdRIdeal) (hPre_fwd_finite := hPre_fwd_finite)
    ∧ preserves_MlpK_MlpKIdeal
    ∧ algebraic_MlpKIdeal_MlpRIdeal_pre_mlp_finite (hMlpKIdeal := hMlpKIdeal) (hMlpRIdeal := hMlpRIdeal) (hPre_mlp_finite := hPre_mlp_finite)
    ∧ preserves_InbK_InbKIdeal
    ∧ algebraic_InbKIdeal_InbRIdeal_pre_inb_finite (hInbKIdeal := hInbKIdeal) (hInbRIdeal := hInbRIdeal) (hPre_inb_finite := hPre_inb_finite)
    ∧ preserves_QkK_QkKIdeal
    ∧ algebraic_QkKIdeal_QkRIdeal_pre_qk_finite (hQkKIdeal := hQkKIdeal) (hQkRIdeal := hQkRIdeal) (hPre_qk_finite := hPre_qk_finite)
    ∧ preserves_DwK_DwKIdeal
    ∧ algebraic_DwKIdeal_DwRIdeal (hDwKIdeal := hDwKIdeal) (hDwRIdeal := hDwRIdeal)
-- ==== Pre_attn_finite.lean ====
abbrev S1x8192x8x64 : Shape := ⟨4, ![1, 8192, 8, 64]⟩
abbrev S1x8192x2x64 : Shape := ⟨4, ![1, 8192, 2, 64]⟩
abbrev S1x8192x512 : Shape := ⟨3, ![1, 8192, 512]⟩
abbrev S_ : Shape := ⟨0, ![]⟩

class Facts : Prop where
  bcast_S_S1x8192x8x64 : S_.BroadcastsInDim S1x8192x8x64 (![] : Fin 0 → Fin S1x8192x8x64.rank)
  bcast_S_S1x8192x2x64 : S_.BroadcastsInDim S1x8192x2x64 (![] : Fin 0 → Fin S1x8192x2x64.rank)
  bcast_S_S1x8192x512 : S_.BroadcastsInDim S1x8192x512 (![] : Fin 0 → Fin S1x8192x512.rank)

variable [Facts]

def fn {F : FTy → Type} [FloatOps F] (main_arg0 : FVec F S1x8192x8x64 .f32) (main_arg1 : FVec F S1x8192x2x64 .f32) (main_arg2 : FVec F S1x8192x2x64 .f32) (main_arg3 : FVec F S1x8192x512 .f32) : IVec S1x8192x8x64 1 × IVec S1x8192x2x64 1 × IVec S1x8192x2x64 1 × IVec S1x8192x512 1 :=
  let main_v0 : FVec F S1x8192x8x64 .f32 := Host.absf main_arg0
  let main_cst : FVec F S_ .f32 := constant S_ .f32 0x7F800000#32
  let main_v1 : FVec F S1x8192x8x64 .f32 := broadcastInDim S1x8192x8x64 ![] bcast_S_S1x8192x8x64 main_cst
  let main_v2 : IVec S1x8192x8x64 1 := cmpf .olt main_v0 main_v1
  let main_v3 : FVec F S1x8192x2x64 .f32 := Host.absf main_arg1
  let main_cst_0 : FVec F S_ .f32 := constant S_ .f32 0x7F800000#32
  let main_v4 : FVec F S1x8192x2x64 .f32 := broadcastInDim S1x8192x2x64 ![] bcast_S_S1x8192x2x64 main_cst_0
  let main_v5 : IVec S1x8192x2x64 1 := cmpf .olt main_v3 main_v4
  let main_v6 : FVec F S1x8192x2x64 .f32 := Host.absf main_arg2
  let main_cst_1 : FVec F S_ .f32 := constant S_ .f32 0x7F800000#32
  let main_v7 : FVec F S1x8192x2x64 .f32 := broadcastInDim S1x8192x2x64 ![] bcast_S_S1x8192x2x64 main_cst_1
  let main_v8 : IVec S1x8192x2x64 1 := cmpf .olt main_v6 main_v7
  let main_v9 : FVec F S1x8192x512 .f32 := Host.absf main_arg3
  let main_cst_2 : FVec F S_ .f32 := constant S_ .f32 0x7F800000#32
  let main_v10 : FVec F S1x8192x512 .f32 := broadcastInDim S1x8192x512 ![] bcast_S_S1x8192x512 main_cst_2
  let main_v11 : IVec S1x8192x512 1 := cmpf .olt main_v9 main_v10
  (main_v2, main_v5, main_v8, main_v11)
-- ==== Pre_fwd_finite.lean ====
abbrev S1x8192x8x64 : Shape := ⟨4, ![1, 8192, 8, 64]⟩
abbrev S1x8192x2x64 : Shape := ⟨4, ![1, 8192, 2, 64]⟩
abbrev S_ : Shape := ⟨0, ![]⟩

class Facts : Prop where
  bcast_S_S1x8192x8x64 : S_.BroadcastsInDim S1x8192x8x64 (![] : Fin 0 → Fin S1x8192x8x64.rank)
  bcast_S_S1x8192x2x64 : S_.BroadcastsInDim S1x8192x2x64 (![] : Fin 0 → Fin S1x8192x2x64.rank)

variable [Facts]

def fn {F : FTy → Type} [FloatOps F] (main_arg0 : FVec F S1x8192x8x64 .f32) (main_arg1 : FVec F S1x8192x2x64 .f32) (main_arg2 : FVec F S1x8192x2x64 .f32) : IVec S1x8192x8x64 1 × IVec S1x8192x2x64 1 × IVec S1x8192x2x64 1 :=
  let main_v0 : FVec F S1x8192x8x64 .f32 := Host.absf main_arg0
  let main_cst : FVec F S_ .f32 := constant S_ .f32 0x7F800000#32
  let main_v1 : FVec F S1x8192x8x64 .f32 := broadcastInDim S1x8192x8x64 ![] bcast_S_S1x8192x8x64 main_cst
  let main_v2 : IVec S1x8192x8x64 1 := cmpf .olt main_v0 main_v1
  let main_v3 : FVec F S1x8192x2x64 .f32 := Host.absf main_arg1
  let main_cst_0 : FVec F S_ .f32 := constant S_ .f32 0x7F800000#32
  let main_v4 : FVec F S1x8192x2x64 .f32 := broadcastInDim S1x8192x2x64 ![] bcast_S_S1x8192x2x64 main_cst_0
  let main_v5 : IVec S1x8192x2x64 1 := cmpf .olt main_v3 main_v4
  let main_v6 : FVec F S1x8192x2x64 .f32 := Host.absf main_arg2
  let main_cst_1 : FVec F S_ .f32 := constant S_ .f32 0x7F800000#32
  let main_v7 : FVec F S1x8192x2x64 .f32 := broadcastInDim S1x8192x2x64 ![] bcast_S_S1x8192x2x64 main_cst_1
  let main_v8 : IVec S1x8192x2x64 1 := cmpf .olt main_v6 main_v7
  (main_v2, main_v5, main_v8)
-- ==== Pre_gate_finite.lean ====
abbrev S8192x4096 : Shape := ⟨2, ![8192, 4096]⟩
abbrev S4096x1024 : Shape := ⟨2, ![4096, 1024]⟩
abbrev S6x1024 : Shape := ⟨2, ![6, 1024]⟩
abbrev S8192x1024 : Shape := ⟨2, ![8192, 1024]⟩
abbrev S_ : Shape := ⟨0, ![]⟩

class Facts : Prop where
  bcast_S_S8192x4096 : S_.BroadcastsInDim S8192x4096 (![] : Fin 0 → Fin S8192x4096.rank)
  bcast_S_S4096x1024 : S_.BroadcastsInDim S4096x1024 (![] : Fin 0 → Fin S4096x1024.rank)
  bcast_S_S6x1024 : S_.BroadcastsInDim S6x1024 (![] : Fin 0 → Fin S6x1024.rank)
  bcast_S_S8192x1024 : S_.BroadcastsInDim S8192x1024 (![] : Fin 0 → Fin S8192x1024.rank)

variable [Facts]

def fn {F : FTy → Type} [FloatOps F] (main_arg0 : FVec F S8192x4096 .f32) (main_arg1 : FVec F S4096x1024 .f32) (main_arg2 : FVec F S6x1024 .f32) (main_arg3 : FVec F S8192x1024 .f32) : IVec S8192x4096 1 × IVec S4096x1024 1 × IVec S6x1024 1 × IVec S8192x1024 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S6x1024 .f32 := Host.absf main_arg2
  let main_cst_1 : FVec F S_ .f32 := constant S_ .f32 0x7F800000#32
  let main_v7 : FVec F S6x1024 .f32 := broadcastInDim S6x1024 ![] bcast_S_S6x1024 main_cst_1
  let main_v8 : IVec S6x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_inb_finite.lean ====
abbrev S8192x3584 : Shape := ⟨2, ![8192, 3584]⟩
abbrev S1024x3584 : Shape := ⟨2, ![1024, 3584]⟩
abbrev S8192x1024 : Shape := ⟨2, ![8192, 1024]⟩
abbrev S6x1024 : Shape := ⟨2, ![6, 1024]⟩
abbrev S1024 : Shape := ⟨1, ![1024]⟩
abbrev S_ : Shape := ⟨0, ![]⟩

class Facts : Prop where
  bcast_S_S8192x3584 : S_.BroadcastsInDim S8192x3584 (![] : Fin 0 → Fin S8192x3584.rank)
  bcast_S_S1024x3584 : S_.BroadcastsInDim S1024x3584 (![] : Fin 0 → Fin S1024x3584.rank)
  bcast_S_S8192x1024 : S_.BroadcastsInDim S8192x1024 (![] : Fin 0 → Fin S8192x1024.rank)
  bcast_S_S6x1024 : S_.BroadcastsInDim S6x1024 (![] : Fin 0 → Fin S6x1024.rank)
  bcast_S_S1024 : S_.BroadcastsInDim S1024 (![] : Fin 0 → Fin S1024.rank)

variable [Facts]

def fn {F : FTy → Type} [FloatOps F] (main_arg0 : FVec F S8192x3584 .f32) (main_arg1 : FVec F S1024x3584 .f32) (main_arg2 : FVec F S8192x1024 .f32) (main_arg3 : FVec F S8192x1024 .f32) (main_arg4 : FVec F S6x1024 .f32) (main_arg5 : FVec F S1024 .f32) : IVec S8192x3584 1 × IVec S1024x3584 1 × IVec S8192x1024 1 × IVec S6x1024 1 × IVec S1024 1 :=
  let main_v0 : FVec F S8192x3584 .f32 := Host.absf main_arg0
  let main_cst : FVec F S_ .f32 := constant S_ .f32 0x7F800000#32
  let main_v1 : FVec F S8192x3584 .f32 := broadcastInDim S8192x3584 ![] bcast_S_S8192x3584 main_cst
  let main_v2 : IVec S8192x3584 1 := cmpf .olt main_v0 main_v1
  let main_v3 : FVec F S1024x3584 .f32 := Host.absf main_arg1
  let main_cst_0 : FVec F S_ .f32 := constant S_ .f32 0x7F800000#32
  let main_v4 : FVec F S1024x3584 .f32 := broadcastInDim S1024x3584 ![] bcast_S_S1024x3584 main_cst_0
  let main_v5 : IVec S1024x3584 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S6x1024 .f32 := Host.absf main_arg4
  let main_cst_2 : FVec F S_ .f32 := constant S_ .f32 0x7F800000#32
  let main_v10 : FVec F S6x1024 .f32 := broadcastInDim S6x1024 ![] bcast_S_S6x1024 main_cst_2
  let main_v11 : IVec S6x1024 1 := cmpf .olt main_v9 main_v10
  let main_v12 : FVec F S1024 .f32 := Host.absf main_arg5
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  (main_v2, main_v5, main_v8, main_v11, main_v14)
-- ==== Pre_merge_finite.lean ====
abbrev S8192x512 : Shape := ⟨2, ![8192, 512]⟩
abbrev S8192x1024 : Shape := ⟨2, ![8192, 1024]⟩
abbrev S6x1024 : Shape := ⟨2, ![6, 1024]⟩
abbrev S2x512x1024 : Shape := ⟨3, ![2, 512, 1024]⟩
abbrev S1024x1024 : Shape := ⟨2, ![1024, 1024]⟩
abbrev S_ : Shape := ⟨0, ![]⟩

class Facts : Prop where
  bcast_S_S8192x512 : S_.BroadcastsInDim S8192x512 (![] : Fin 0 → Fin S8192x512.rank)
  bcast_S_S6x1024 : S_.BroadcastsInDim S6x1024 (![] : Fin 0 → Fin S6x1024.rank)
  bcast_S_S2x512x1024 : S_.BroadcastsInDim S2x512x1024 (![] : Fin 0 → Fin S2x512x1024.rank)
  bcast_S_S1024x1024 : S_.BroadcastsInDim S1024x1024 (![] : Fin 0 → Fin S1024x1024.rank)
  bcast_S_S8192x1024 : S_.BroadcastsInDim S8192x1024 (![] : Fin 0 → Fin S8192x1024.rank)

variable [Facts]

def fn {F : FTy → Type} [FloatOps F] (main_arg0 : FVec F S8192x512 .f32) (main_arg1 : FVec F S8192x512 .f32) (main_arg2 : FVec F S8192x1024 .f32) (main_arg3 : FVec F S8192x1024 .f32) (main_arg4 : FVec F S8192x1024 .f32) (main_arg5 : FVec F S6x1024 .f32) (main_arg6 : FVec F S2x512x1024 .f32) (main_arg7 : FVec F S1024x1024 .f32) (main_arg8 : FVec F S8192x1024 .f32) : IVec S8192x512 1 × IVec S8192x512 1 × IVec S6x1024 1 × IVec S2x512x1024 1 × IVec S1024x1024 1 × IVec S8192x1024 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S6x1024 .f32 := Host.absf main_arg5
  let main_cst_1 : FVec F S_ .f32 := constant S_ .f32 0x7F800000#32
  let main_v7 : FVec F S6x1024 .f32 := broadcastInDim S6x1024 ![] bcast_S_S6x1024 main_cst_1
  let main_v8 : IVec S6x1024 1 := cmpf .olt main_v6 main_v7
  let main_v9 : FVec F S2x512x1024 .f32 := Host.absf main_arg6
  let main_cst_2 : FVec F S_ .f32 := constant S_ .f32 0x7F800000#32
  let main_v10 : FVec F S2x512x1024 .f32 := broadcastInDim S2x512x1024 ![] bcast_S_S2x512x1024 main_cst_2
  let main_v11 : IVec S2x512x1024 1 := cmpf .olt main_v9 main_v10
  let main_v12 : FVec F S1024x1024 .f32 := Host.absf main_arg7
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S8192x1024 .f32 := Host.absf main_arg8
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_mlp_finite.lean ====
abbrev S8192x1024 : Shape := ⟨2, ![8192, 1024]⟩
abbrev S6x1024 : Shape := ⟨2, ![6, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  bcast_S_S6x1024 : S_.BroadcastsInDim S6x1024 (![] : Fin 0 → Fin S6x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn {F : FTy → Type} [FloatOps F] (main_arg0 : FVec F S8192x1024 .f32) (main_arg1 : FVec F S6x1024 .f32) (main_arg2 : FVec F S1024 .f32) (main_arg3 : FVec F S1024x4096 .f32) (main_arg4 : FVec F S4096x1024 .f32) (main_arg5 : FVec F S8192x1024 .f32) : IVec S8192x1024 1 × IVec S6x1024 1 × IVec S1024 1 × IVec S1024x4096 1 × IVec S4096x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S6x1024 .f32 := Host.absf main_arg1
  let main_cst_0 : FVec F S_ .f32 := constant S_ .f32 0x7F800000#32
  let main_v4 : FVec F S6x1024 .f32 := broadcastInDim S6x1024 ![] bcast_S_S6x1024 main_cst_0
  let main_v5 : IVec S6x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x4096 .f32 := Host.absf main_arg3
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_qk_finite.lean ====
abbrev S8192x3584 : Shape := ⟨2, ![8192, 3584]⟩
abbrev S64 : Shape := ⟨1, ![64]⟩
abbrev S8192x512 : Shape := ⟨2, ![8192, 512]⟩
abbrev S8192x128 : Shape := ⟨2, ![8192, 128]⟩
abbrev S8192x1024 : Shape := ⟨2, ![8192, 1024]⟩
abbrev S_ : Shape := ⟨0, ![]⟩

class Facts : Prop where
  bcast_S_S8192x3584 : S_.BroadcastsInDim S8192x3584 (![] : Fin 0 → Fin S8192x3584.rank)
  bcast_S_S64 : S_.BroadcastsInDim S64 (![] : Fin 0 → Fin S64.rank)
  bcast_S_S8192x512 : S_.BroadcastsInDim S8192x512 (![] : Fin 0 → Fin S8192x512.rank)
  bcast_S_S8192x128 : S_.BroadcastsInDim S8192x128 (![] : Fin 0 → Fin S8192x128.rank)

variable [Facts]

def fn {F : FTy → Type} [FloatOps F] (main_arg0 : FVec F S8192x3584 .f32) (main_arg1 : FVec F S64 .f32) (main_arg2 : FVec F S64 .f32) (main_arg3 : FVec F S8192x512 .f32) (main_arg4 : FVec F S8192x128 .f32) (main_arg5 : FVec F S8192x128 .f32) (main_arg6 : FVec F S8192x512 .f32) (main_arg7 : FVec F S8192x128 .f32) (main_arg8 : FVec F S8192x128 .f32) (main_arg9 : FVec F S8192x1024 .f32) (main_arg10 : FVec F S8192x1024 .f32) : IVec S8192x3584 1 × IVec S64 1 × IVec S64 1 × IVec S8192x512 1 × IVec S8192x128 1 :=
  let main_v0 : FVec F S8192x3584 .f32 := Host.absf main_arg0
  let main_cst : FVec F S_ .f32 := constant S_ .f32 0x7F800000#32
  let main_v1 : FVec F S8192x3584 .f32 := broadcastInDim S8192x3584 ![] bcast_S_S8192x3584 main_cst
  let main_v2 : IVec S8192x3584 1 := cmpf .olt main_v0 main_v1
  let main_v3 : FVec F S64 .f32 := Host.absf main_arg1
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S8192x128 .f32 := Host.absf main_arg4
  let main_cst_3 : FVec F S_ .f32 := constant S_ .f32 0x7F800000#32
  let main_v13 : FVec F S8192x128 .f32 := broadcastInDim S8192x128 ![] bcast_S_S8192x128 main_cst_3
  let main_v14 : IVec S8192x128 1 := cmpf .olt main_v12 main_v13
  (main_v2, main_v5, main_v8, main_v11, main_v14)
-- ==== GateK.lean ====
abbrev S8192x4096 : Shape := ⟨2, ![8192, 4096]⟩
abbrev S4096x1024 : Shape := ⟨2, ![4096, 1024]⟩
abbrev S6x1024 : Shape := ⟨2, ![6, 1024]⟩
abbrev S8192x1024 : Shape := ⟨2, ![8192, 1024]⟩
abbrev S_ : Shape := ⟨0, ![]⟩
abbrev S8x1024 : Shape := ⟨2, ![8, 1024]⟩
abbrev S512x1024 : Shape := ⟨2, ![512, 1024]⟩
abbrev S1x1024 : Shape := ⟨2, ![1, 1024]⟩
abbrev S1024 : Shape := ⟨1, ![1024]⟩

abbrev nBuf : Space → Nat
  | .hbm => 16
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S6x1024, .f32⟩
  | .hbm, ⟨3, _⟩ => ⟨S8192x1024, .f32⟩
  | .hbm, ⟨4, _⟩ => ⟨S8192x4096, .bf16⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .bf16⟩
  | .hbm, ⟨11, _⟩ => ⟨S8192x1024, .bf16⟩
  | .hbm, ⟨12, _⟩ => ⟨S4096x1024, .f32⟩
  | .hbm, ⟨13, _⟩ => ⟨S4096x1024, .bf16⟩
  | .hbm, ⟨14, _⟩ => ⟨S4096x1024, .f32⟩
  | .hbm, ⟨15, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S6x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GateRIdeal.lean ====
abbrev S8192x4096 : Shape := ⟨2, ![8192, 4096]⟩
abbrev S4096x1024 : Shape := ⟨2, ![4096, 1024]⟩
abbrev S6x1024 : Shape := ⟨2, ![6, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S1024x4096 : Shape := ⟨2, ![1024, 4096]⟩
abbrev S7x1024 : Shape := ⟨2, ![7, 1024]⟩
abbrev S8x1024 : Shape := ⟨2, ![8, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S6x1024, .f32⟩
  | .hbm, ⟨3, _⟩ => ⟨S8192x1024, .f32⟩
  | .hbm, ⟨4, _⟩ => ⟨S1x1024, .f32⟩
  | .hbm, ⟨5, _⟩ => ⟨S1024, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S1024, .f32⟩
  | .hbm, ⟨19, _⟩ => ⟨S1x1024, .f32⟩
  | .hbm, ⟨20, _⟩ => ⟨S1024x4096, .f32⟩
  | .hbm, ⟨21, _⟩ => ⟨S4096x1024, .f32⟩
  | .hbm, ⟨22, _⟩ => ⟨S_, .f32⟩
  | .hbm, ⟨23, _⟩ => ⟨S1024, .f32⟩
  | .hbm, ⟨24, _⟩ => ⟨S1x1024, .f32⟩
  | .hbm, ⟨25, _⟩ => ⟨S_, .f32⟩
  | .hbm, ⟨26, _⟩ => ⟨S7x1024, .f32⟩
  | .hbm, ⟨27, _⟩ => ⟨S8x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== AttnK.lean ====
abbrev S1x8192x8x64 : Shape := ⟨4, ![1, 8192, 8, 64]⟩
abbrev S1x8192x2x64 : Shape := ⟨4, ![1, 8192, 2, 64]⟩
abbrev S1x8192x512 : Shape := ⟨3, ![1, 8192, 512]⟩
abbrev S_ : Shape := ⟨0, ![]⟩
abbrev S8192x512 : Shape := ⟨2, ![8192, 512]⟩
abbrev S8192x128 : Shape := ⟨2, ![8192, 128]⟩
abbrev S512x8192 : Shape := ⟨2, ![512, 8192]⟩
abbrev S16x512x128 : Shape := ⟨3, ![16, 512, 128]⟩
abbrev S16x128x512 : Shape := ⟨3, ![16, 128, 512]⟩
abbrev S8192x8x64 : Shape := ⟨3, ![8192, 8, 64]⟩
abbrev S8192x2x4x64 : Shape := ⟨4, ![8192, 2, 4, 64]⟩
abbrev S8192x2x64 : Shape := ⟨3, ![8192, 2, 64]⟩
abbrev S2x4x1x8192 : Shape := ⟨4, ![2, 4, 1, 8192]⟩
abbrev S2x4x65x8192 : Shape := ⟨4, ![2, 4, 65, 8192]⟩
abbrev S2048x2x64 : Shape := ⟨3, ![2048, 2, 64]⟩
abbrev S2x8192x4x2048 : Shape := ⟨4, ![2, 8192, 4, 2048]⟩
abbrev S2x4x2048x8192 : Shape := ⟨4, ![2, 4, 2048, 8192]⟩
abbrev S1x2048x2x64 : Shape := ⟨4, ![1, 2048, 2, 64]⟩
abbrev S2048x2x1 : Shape := ⟨3, ![2048, 2, 1]⟩
abbrev S2048x2x65 : Shape := ⟨3, ![2048, 2, 65]⟩
abbrev S2x4x8192 : Shape := ⟨3, ![2, 4, 8192]⟩
abbrev S2x4x8192x65 : Shape := ⟨4, ![2, 4, 8192, 65]⟩
abbrev S2x4x64x8192 : Shape := ⟨4, ![2, 4, 64, 8192]⟩
abbrev S8x8192 : Shape := ⟨2, ![8, 8192]⟩
abbrev S8192x8 : Shape := ⟨2, ![8192, 8]⟩
abbrev S1024x512 : Shape := ⟨2, ![1024, 512]⟩
abbrev S512x1024 : Shape := ⟨2, ![512, 1024]⟩
abbrev S1024x8 : Shape := ⟨2, ![1024, 8]⟩
abbrev S2 : Shape := ⟨1, ![2]⟩
abbrev S1024x256 : Shape := ⟨2, ![1024, 256]⟩
abbrev S1024x64 : Shape := ⟨2, ![1024, 64]⟩
abbrev S64x1024 : Shape := ⟨2, ![64, 1024]⟩
abbrev S1024x1 : Shape := ⟨2, ![1024, 1]⟩
abbrev S2048x64 : Shape := ⟨2, ![2048, 64]⟩
abbrev S1x64x512 : Shape := ⟨3, ![1, 64, 512]⟩
abbrev S64x512 : Shape := ⟨2, ![64, 512]⟩
abbrev S2048x512 : Shape := ⟨2, ![2048, 512]⟩
abbrev S1 : Shape := ⟨1, ![1]⟩

abbrev nBuf : Space → Nat
  | .hbm => 171
  | .vmem => 18
  | .smem => 0
  | _ => 0

abbrev hbmTy0_0 (i : Nat) : BufTy := match i % 128 with
  | 0 => ⟨S1x8192x8x64, .f32⟩
  | 1 => ⟨S1x8192x2x64, .f32⟩
  | 2 => ⟨S1x8192x2x64, .f32⟩
  | 3 => ⟨S1x8192x512, .f32⟩
  | 4 => ⟨S_, .f32⟩
  | 5 => ⟨S_, .f32⟩
  | 6 => ⟨S_, .f32⟩
  | 7 => ⟨S_, .f32⟩
  | 8 => ⟨S8192x512, .f32⟩
  | 9 => ⟨S8192x512, .f32⟩
  | 10 => ⟨S8192x512, .f32⟩
  | 11 => ⟨S8192x128, .f32⟩
  | 12 => ⟨S8192x128, .f32⟩
  | 13 => ⟨S8192x512, .bf16⟩
  | 14 => ⟨S512x8192, .f32⟩
  | 15 => ⟨S512x8192, .bf16⟩
  | 16 => ⟨S8192x128, .bf16⟩
  | 17 => ⟨S8192x128, .bf16⟩
  | 18 => ⟨S16x512x128, .bf16⟩
  | 19 => ⟨S16x128x512, .bf16⟩
  | 20 => ⟨S8192x128, .bf16⟩
  | 21 => ⟨S16x512x128, .bf16⟩
  | 22 => ⟨S16x128x512, .bf16⟩
  | 23 => ⟨S8192x8x64, .f32⟩
  | 24 => ⟨S8192x8x64, .f32⟩
  | 25 => ⟨S8192x8x64, .f32⟩
  | 26 => ⟨S8192x2x4x64, .f32⟩
  | 27 => ⟨S8192x2x4x64, .bf16⟩
  | 28 => ⟨S8192x2x64, .f32⟩
  | 29 => ⟨S8192x2x64, .bf16⟩
  | 30 => ⟨S_, .f32⟩
  | 31 => ⟨S2x4x1x8192, .f32⟩
  | 32 => ⟨S_, .f32⟩
  | 33 => ⟨S2x4x65x8192, .f32⟩
  | 34 => ⟨S2048x2x64, .bf16⟩
  | 35 => ⟨S2x8192x4x2048, .f32⟩
  | 36 => ⟨S2x4x2048x8192, .f32⟩
  | 37 => ⟨S1x2048x2x64, .f32⟩
  | 38 => ⟨S2048x2x64, .f32⟩
  | 39 => ⟨S_, .f32⟩
  | 40 => ⟨S2048x2x1, .f32⟩
  | 41 => ⟨S2048x2x65, .f32⟩
  | 42 => ⟨S2048x2x65, .bf16⟩
  | 43 => ⟨S_, .f32⟩
  | 44 => ⟨S2x4x8192, .f32⟩
  | 45 => ⟨S2x4x1x8192, .f32⟩
  | 46 => ⟨S2x4x1x8192, .f32⟩
  | 47 => ⟨S2x4x2048x8192, .f32⟩
  | 48 => ⟨S2x4x2048x8192, .f32⟩
  | 49 => ⟨S2x4x2048x8192, .f32⟩
  | 50 => ⟨S2x4x2048x8192, .f32⟩
  | 51 => ⟨S2x4x2048x8192, .f32⟩
  | 52 => ⟨S2x4x1x8192, .f32⟩
  | 53 => ⟨S2x4x1x8192, .f32⟩
  | 54 => ⟨S2x4x1x8192, .f32⟩
  | 55 => ⟨S2x4x1x8192, .f32⟩
  | 56 => ⟨S2x4x65x8192, .f32⟩
  | 57 => ⟨S2x4x65x8192, .f32⟩
  | 58 => ⟨S2x4x2048x8192, .bf16⟩
  | 59 => ⟨S2x4x8192x65, .f32⟩
  | 60 => ⟨S2x4x65x8192, .f32⟩
  | 61 => ⟨S2x4x65x8192, .f32⟩
  | 62 => ⟨S2048x2x64, .bf16⟩
  | 63 => ⟨S2x8192x4x2048, .f32⟩
  | 64 => ⟨S2x4x2048x8192, .f32⟩
  | 65 => ⟨S1x2048x2x64, .f32⟩
  | 66 => ⟨S2048x2x64, .f32⟩
  | 67 => ⟨S_, .f32⟩
  | 68 => ⟨S2048x2x1, .f32⟩
  | 69 => ⟨S2048x2x65, .f32⟩
  | 70 => ⟨S2048x2x65, .bf16⟩
  | 71 => ⟨S_, .f32⟩
  | 72 => ⟨S2x4x8192, .f32⟩
  | 73 => ⟨S2x4x1x8192, .f32⟩
  | 74 => ⟨S2x4x1x8192, .f32⟩
  | 75 => ⟨S2x4x2048x8192, .f32⟩
  | 76 => ⟨S2x4x2048x8192, .f32⟩
  | 77 => ⟨S2x4x2048x8192, .f32⟩
  | 78 => ⟨S2x4x2048x8192, .f32⟩
  | 79 => ⟨S2x4x2048x8192, .f32⟩
  | 80 => ⟨S2x4x1x8192, .f32⟩
  | 81 => ⟨S2x4x1x8192, .f32⟩
  | 82 => ⟨S2x4x1x8192, .f32⟩
  | 83 => ⟨S2x4x1x8192, .f32⟩
  | 84 => ⟨S2x4x65x8192, .f32⟩
  | 85 => ⟨S2x4x65x8192, .f32⟩
  | 86 => ⟨S2x4x2048x8192, .bf16⟩
  | 87 => ⟨S2x4x8192x65, .f32⟩
  | 88 => ⟨S2x4x65x8192, .f32⟩
  | 89 => ⟨S2x4x65x8192, .f32⟩
  | 90 => ⟨S2048x2x64, .bf16⟩
  | 91 => ⟨S2x8192x4x2048, .f32⟩
  | 92 => ⟨S2x4x2048x8192, .f32⟩
  | 93 => ⟨S1x2048x2x64, .f32⟩
  | 94 => ⟨S2048x2x64, .f32⟩
  | 95 => ⟨S_, .f32⟩
  | 96 => ⟨S2048x2x1, .f32⟩
  | 97 => ⟨S2048x2x65, .f32⟩
  | 98 => ⟨S2048x2x65, .bf16⟩
  | 99 => ⟨S_, .f32⟩
  | 100 => ⟨S2x4x8192, .f32⟩
  | 101 => ⟨S2x4x1x8192, .f32⟩
  | 102 => ⟨S2x4x1x8192, .f32⟩
  | 103 => ⟨S2x4x2048x8192, .f32⟩
  | 104 => ⟨S2x4x2048x8192, .f32⟩
  | 105 => ⟨S2x4x2048x8192, .f32⟩
  | 106 => ⟨S2x4x2048x8192, .f32⟩
  | 107 => ⟨S2x4x2048x8192, .f32⟩
  | 108 => ⟨S2x4x1x8192, .f32⟩
  | 109 => ⟨S2x4x1x8192, .f32⟩
  | 110 => ⟨S2x4x1x8192, .f32⟩
  | 111 => ⟨S2x4x1x8192, .f32⟩
  | 112 => ⟨S2x4x65x8192, .f32⟩
  | 113 => ⟨S2x4x65x8192, .f32⟩
  | 114 => ⟨S2x4x2048x8192, .bf16⟩
  | 115 => ⟨S2x4x8192x65, .f32⟩
  | 116 => ⟨S2x4x65x8192, .f32⟩
  | 117 => ⟨S2x4x65x8192, .f32⟩
  | 118 => ⟨S2048x2x64, .bf16⟩
  | 119 => ⟨S2x8192x4x2048, .f32⟩
  | 120 => ⟨S2x4x2048x8192, .f32⟩
  | 121 => ⟨S1x2048x2x64, .f32⟩
  | 122 => ⟨S2048x2x64, .f32⟩
  | 123 => ⟨S_, .f32⟩
  | 124 => ⟨S2048x2x1, .f32⟩
  | 125 => ⟨S2048x2x65, .f32⟩
  | 126 => ⟨S2048x2x65, .bf16⟩
  | 127 => ⟨S_, .f32⟩
  | _ => ⟨S1x8192x8x64, .f32⟩

abbrev hbmTy0_1 (i : Nat) : BufTy := match i % 128 with
  | 0 => ⟨S2x4x8192, .f32⟩
  | 1 => ⟨S2x4x1x8192, .f32⟩
  | 2 => ⟨S2x4x1x8192, .f32⟩
  | 3 => ⟨S2x4x2048x8192, .f32⟩
  | 4 => ⟨S2x4x2048x8192, .f32⟩
  | 5 => ⟨S2x4x2048x8192, .f32⟩
  | 6 => ⟨S2x4x2048x8192, .f32⟩
  | 7 => ⟨S2x4x2048x8192, .f32⟩
  | 8 => ⟨S2x4x1x8192, .f32⟩
  | 9 => ⟨S2x4x1x8192, .f32⟩
  | 10 => ⟨S2x4x1x8192, .f32⟩
  | 11 => ⟨S2x4x1x8192, .f32⟩
  | 12 => ⟨S2x4x65x8192, .f32⟩
  | 13 => ⟨S2x4x65x8192, .f32⟩
  | 14 => ⟨S2x4x2048x8192, .bf16⟩
  | 15 => ⟨S2x4x8192x65, .f32⟩
  | 16 => ⟨S2x4x65x8192, .f32⟩
  | 17 => ⟨S2x4x65x8192, .f32⟩
  | 18 => ⟨S2x4x1x8192, .f32⟩
  | 19 => ⟨S2x4x64x8192, .f32⟩
  | 20 => ⟨S2x4x64x8192, .f32⟩
  | 21 => ⟨S2x4x64x8192, .f32⟩
  | 22 => ⟨S512x8192, .f32⟩
  | 23 => ⟨S8192x512, .f32⟩
  | 24 => ⟨S8192x512, .bf16⟩
  | 25 => ⟨S2x4x1x8192, .f32⟩
  | 26 => ⟨S2x4x1x8192, .f32⟩
  | 27 => ⟨S2x4x1x8192, .f32⟩
  | 28 => ⟨S2x4x1x8192, .f32⟩
  | 29 => ⟨S8x8192, .f32⟩
  | 30 => ⟨S8192x8, .f32⟩
  | 31 => ⟨S8192x512, .f32⟩
  | 32 => ⟨S8192x512, .f32⟩
  | 33 => ⟨S8192x512, .f32⟩
  | 34 => ⟨S8192x8x64, .f32⟩
  | 35 => ⟨S_, .f32⟩
  | 36 => ⟨S8192x8, .f32⟩
  | 37 => ⟨S8192x512, .bf16⟩
  | 38 => ⟨S512x8192, .f32⟩
  | 39 => ⟨S512x8192, .bf16⟩
  | 40 => ⟨S512x8192, .f32⟩
  | 41 => ⟨S16x128x512, .f32⟩
  | 42 => ⟨S16x128x512, .f32⟩
  | _ => ⟨S1x8192x8x64, .f32⟩

abbrev hbmTy (i : Nat) : BufTy := match i / 128 with
  | 0 => hbmTy0_0 i
  | 1 => hbmTy0_1 i
  | _ => ⟨S1x8192x8x64, .f32⟩

abbrev bufTy : (tb : Table) → Fin (tcTables nBuf tb) → BufTy
  | .hbm, ⟨i, _⟩ => hbmTy i
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1024x8, .f32⟩
  | .local _ .vmem, ⟨9, _⟩ => ⟨S1024x8, .f32⟩
  | .local _ .vmem, ⟨10, _⟩ => ⟨S1024x8, .f32⟩
  | .local _ .vmem, ⟨11, _⟩ => ⟨S1024x8, .f32⟩
  | .local _ .vmem, ⟨12, _⟩ => ⟨S16x128x512, .bf16⟩
  | .local _ .vmem, ⟨13, _⟩ => ⟨S16x128x512, .bf16⟩
  | .local _ .vmem, ⟨14, _⟩ => ⟨S512x1024, .f32⟩
  | .local _ .vmem, ⟨15, _⟩ => ⟨S512x1024, .f32⟩
  | .local _ .vmem, ⟨16, _⟩ => ⟨S16x128x512, .f32⟩
  | .local _ .vmem, ⟨17, _⟩ => ⟨S16x128x512, .f32⟩
  | _, _ => ⟨S1x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_5 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_6 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_cst_7 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_cst_8 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_cst_9 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_cst_10 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_cst_11 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151_0 : Ref sig .tc := ⟨.hbm, 168, rfl⟩
abbrev main_v151_1 : Ref sig .tc := ⟨.hbm, 169, rfl⟩
abbrev main_v151_2 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_30 : BitVec 32 := 0#32
  let c16_i32 : BitVec 32 := 16#32
  let v52 : BitVec 32 := Scalar.addi c0_i32_30 c16_i32
  let c1_i32 : BitVec 32 := 1#32
  ⟨c0_i32_30, v52, c1_i32⟩
def k0_off1 (k0_t1 : Fin k0_t1_loop.trips) : Fin 3 → Nat :=
  let c0_i32_30 : BitVec 32 := 0#32
  let c1_i32 : BitVec 32 := 1#32
  let arg15 : BitVec 32 := Scf.iv c0_i32_30 c1_i32 k0_t1
  let v116 : Index := Scalar.indexCast arg15
  let c0_82 : Index := 0#32
  let c0_83 : Index := 0#32
  ![v116.toNat, 0, 0]
@[reducible] def k0_t2_loop : Scf.Loop 32 :=
  let c0_i32_69 : BitVec 32 := 0#32
  let c16_i32_70 : BitVec 32 := 16#32
  let v107 : BitVec 32 := Scalar.addi c0_i32_69 c16_i32_70
  let c1_i32_71 : BitVec 32 := 1#32
  ⟨c0_i32_69, v107, c1_i32_71⟩
def k0_off2 (k0_t2 : Fin k0_t2_loop.trips) : Fin 3 → Nat :=
  let c0_i32_69 : BitVec 32 := 0#32
  let c1_i32_71 : BitVec 32 := 1#32
  let arg15 : BitVec 32 := Scf.iv c0_i32_69 c1_i32_71 k0_t2
  let v116 : Index := Scalar.indexCast arg15
  let c64_82 : Index := 64#32
  let c0_83 : Index := 0#32
  ![v116.toNat, 64, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnRIdeal.lean ====
abbrev S1x8192x8x64 : Shape := ⟨4, ![1, 8192, 8, 64]⟩
abbrev S1x8192x2x64 : Shape := ⟨4, ![1, 8192, 2, 64]⟩
abbrev S1x8192x512 : Shape := ⟨3, ![1, 8192, 512]⟩
abbrev S1x8192x2x4x64 : Shape := ⟨5, ![1, 8192, 2, 4, 64]⟩
abbrev S1x2x8192x8192x4 : Shape := ⟨5, ![1, 2, 8192, 8192, 4]⟩
abbrev S1x2x4x8192x8192 : Shape := ⟨5, ![1, 2, 4, 8192, 8192]⟩
abbrev S_ : Shape := ⟨0, ![]⟩
abbrev S1x2x4x8192 : Shape := ⟨4, ![1, 2, 4, 8192]⟩
abbrev S1x2x4x8192x1 : Shape := ⟨5, ![1, 2, 4, 8192, 1]⟩
abbrev S1x2x64x4x8192 : Shape := ⟨5, ![1, 2, 64, 4, 8192]⟩
abbrev S1x2x64x8192 : Shape := ⟨4, ![1, 2, 64, 8192]⟩
abbrev S2x4x8192 : Shape := ⟨3, ![2, 4, 8192]⟩
abbrev S1x2x8192x4x64 : Shape := ⟨5, ![1, 2, 8192, 4, 64]⟩
abbrev S1x2x8192x64 : Shape := ⟨4, ![1, 2, 8192, 64]⟩
abbrev S8192x512 : Shape := ⟨2, ![8192, 512]⟩
abbrev S512x8192 : Shape := ⟨2, ![512, 8192]⟩
abbrev S16x512x128 : Shape := ⟨3, ![16, 512, 128]⟩
abbrev S16x128x512 : Shape := ⟨3, ![16, 128, 512]⟩

abbrev nBuf : Space → Nat
  | .hbm => 93
  | .vmem => 0
  | .smem => 0
  | _ => 0

abbrev bufTy : (tb : Table) → Fin (tcTables nBuf tb) → BufTy
  | .hbm, ⟨0, _⟩ => ⟨S1x8192x8x64, .f32⟩
  | .hbm, ⟨1, _⟩ => ⟨S1x8192x2x64, .f32⟩
  | .hbm, ⟨2, _⟩ => ⟨S1x8192x2x64, .f32⟩
  | .hbm, ⟨3, _⟩ => ⟨S1x8192x512, .f32⟩
  | .hbm, ⟨4, _⟩ => ⟨S1x8192x2x4x64, .f32⟩
  | .hbm, ⟨5, _⟩ => ⟨S1x2x8192x8192x4, .f32⟩
  | .hbm, ⟨6, _⟩ => ⟨S1x2x4x8192x8192, .f32⟩
  | .hbm, ⟨7, _⟩ => ⟨S_, .f32⟩
  | .hbm, ⟨8, _⟩ => ⟨S1x2x4x8192x8192, .f32⟩
  | .hbm, ⟨9, _⟩ => ⟨S1x2x4x8192x8192, .f32⟩
  | .hbm, ⟨10, _⟩ => ⟨S_, .f32⟩
  | .hbm, ⟨11, _⟩ => ⟨S1x2x4x8192, .f32⟩
  | .hbm, ⟨12, _⟩ => ⟨S1x2x4x8192x1, .f32⟩
  | .hbm, ⟨13, _⟩ => ⟨S1x2x4x8192x8192, .f32⟩
  | .hbm, ⟨14, _⟩ => ⟨S1x2x4x8192x8192, .i1⟩
  | .hbm, ⟨15, _⟩ => ⟨S1x2x4x8192x8192, .f32⟩
  | .hbm, ⟨16, _⟩ => ⟨S_, .f32⟩
  | .hbm, ⟨17, _⟩ => ⟨S1x2x4x8192, .f32⟩
  | .hbm, ⟨18, _⟩ => ⟨S_, .f32⟩
  | .hbm, ⟨19, _⟩ => ⟨S1x2x4x8192, .f32⟩
  | .hbm, ⟨20, _⟩ => ⟨S1x2x4x8192, .f32⟩
  | .hbm, ⟨21, _⟩ => ⟨S_, .f32⟩
  | .hbm, ⟨22, _⟩ => ⟨S1x2x4x8192, .f32⟩
  | .hbm, ⟨23, _⟩ => ⟨S1x2x4x8192, .i1⟩
  | .hbm, ⟨24, _⟩ => ⟨S_, .f32⟩
  | .hbm, ⟨25, _⟩ => ⟨S1x2x4x8192, .f32⟩
  | .hbm, ⟨26, _⟩ => ⟨S1x2x4x8192, .i1⟩
  | .hbm, ⟨27, _⟩ => ⟨S_, .f32⟩
  | .hbm, ⟨28, _⟩ => ⟨S1x2x4x8192, .f32⟩
  | .hbm, ⟨29, _⟩ => ⟨S_, .f32⟩
  | .hbm, ⟨30, _⟩ => ⟨S1x2x4x8192, .f32⟩
  | .hbm, ⟨31, _⟩ => ⟨S_, .f32⟩
  | .hbm, ⟨32, _⟩ => ⟨S1x2x4x8192, .f32⟩
  | .hbm, ⟨33, _⟩ => ⟨S1x2x4x8192, .f32⟩
  | .hbm, ⟨34, _⟩ => ⟨S1x2x4x8192, .f32⟩
  | .hbm, ⟨35, _⟩ => ⟨S1x2x4x8192x1, .f32⟩
  | .hbm, ⟨36, _⟩ => ⟨S1x2x4x8192x8192, .f32⟩
  | .hbm, ⟨37, _⟩ => ⟨S1x2x4x8192x8192, .f32⟩
  | .hbm, ⟨38, _⟩ => ⟨S1x2x4x8192x8192, .f32⟩
  | .hbm, ⟨39, _⟩ => ⟨S_, .f32⟩
  | .hbm, ⟨40, _⟩ => ⟨S1x2x4x8192, .f32⟩
  | .hbm, ⟨41, _⟩ => ⟨S1x2x4x8192x1, .f32⟩
  | .hbm, ⟨42, _⟩ => ⟨S1x2x4x8192x8192, .f32⟩
  | .hbm, ⟨43, _⟩ => ⟨S1x2x4x8192x8192, .f32⟩
  | .hbm, ⟨44, _⟩ => ⟨S1x2x4x8192x1, .f32⟩
  | .hbm, ⟨45, _⟩ => ⟨S_, .f32⟩
  | .hbm, ⟨46, _⟩ => ⟨S1x2x4x8192x1, .f32⟩
  | .hbm, ⟨47, _⟩ => ⟨S1x2x4x8192x1, .f32⟩
  | .hbm, ⟨48, _⟩ => ⟨S1x2x64x4x8192, .f32⟩
  | .hbm, ⟨49, _⟩ => ⟨S1x8192x2x4x64, .f32⟩
  | .hbm, ⟨50, _⟩ => ⟨S1x8192x512, .f32⟩
  | .hbm, ⟨51, _⟩ => ⟨S1x8192x2x4x64, .f32⟩
  | .hbm, ⟨52, _⟩ => ⟨S1x2x64x4x8192, .f32⟩
  | .hbm, ⟨53, _⟩ => ⟨S1x2x4x8192x8192, .f32⟩
  | .hbm, ⟨54, _⟩ => ⟨S1x2x64x8192, .f32⟩
  | .hbm, ⟨55, _⟩ => ⟨S1x8192x2x64, .f32⟩
  | .hbm, ⟨56, _⟩ => ⟨S1x2x4x8192x8192, .f32⟩
  | .hbm, ⟨57, _⟩ => ⟨S1x2x4x8192x8192, .f32⟩
  | .hbm, ⟨58, _⟩ => ⟨S1x2x4x8192x8192, .f32⟩
  | .hbm, ⟨59, _⟩ => ⟨S_, .f32⟩
  | .hbm, ⟨60, _⟩ => ⟨S1x2x4x8192, .f32⟩
  | .hbm, ⟨61, _⟩ => ⟨S1x2x4x8192x1, .f32⟩
  | .hbm, ⟨62, _⟩ => ⟨S1x2x4x8192x1, .f32⟩
  | .hbm, ⟨63, _⟩ => ⟨S1x2x4x8192x8192, .f32⟩
  | .hbm, ⟨64, _⟩ => ⟨S1x2x4x8192x8192, .f32⟩
  | .hbm, ⟨65, _⟩ => ⟨S_, .f32⟩
  | .hbm, ⟨66, _⟩ => ⟨S2x4x8192, .f32⟩
  | .hbm, ⟨67, _⟩ => ⟨S1x2x4x8192, .f32⟩
  | .hbm, ⟨68, _⟩ => ⟨S1x2x4x8192x8192, .f32⟩
  | .hbm, ⟨69, _⟩ => ⟨S1x2x4x8192x8192, .f32⟩
  | .hbm, ⟨70, _⟩ => ⟨S1x2x4x8192x8192, .f32⟩
  | .hbm, ⟨71, _⟩ => ⟨S_, .f32⟩
  | .hbm, ⟨72, _⟩ => ⟨S1x2x4x8192x8192, .f32⟩
  | .hbm, ⟨73, _⟩ => ⟨S1x2x4x8192x8192, .f32⟩
  | .hbm, ⟨74, _⟩ => ⟨S1x2x8192x8192x4, .f32⟩
  | .hbm, ⟨75, _⟩ => ⟨S1x2x8192x4x64, .f32⟩
  | .hbm, ⟨76, _⟩ => ⟨S1x8192x2x4x64, .f32⟩
  | .hbm, ⟨77, _⟩ => ⟨S1x2x8192x64, .f32⟩
  | .hbm, ⟨78, _⟩ => ⟨S1x8192x2x64, .f32⟩
  | .hbm, ⟨79, _⟩ => ⟨S1x8192x8x64, .f32⟩
  | .hbm, ⟨80, _⟩ => ⟨S_, .f32⟩
  | .hbm, ⟨81, _⟩ => ⟨S1x8192x8x64, .f32⟩
  | .hbm, ⟨82, _⟩ => ⟨S1x8192x8x64, .f32⟩
  | .hbm, ⟨83, _⟩ => ⟨S8192x512, .f32⟩
  | .hbm, ⟨84, _⟩ => ⟨S512x8192, .f32⟩
  | .hbm, ⟨85, _⟩ => ⟨S_, .f32⟩
  | .hbm, ⟨86, _⟩ => ⟨S_, .f32⟩
  | .hbm, ⟨87, _⟩ => ⟨S1x8192x2x64, .f32⟩
  | .hbm, ⟨88, _⟩ => ⟨S1x8192x2x64, .f32⟩
  | .hbm, ⟨89, _⟩ => ⟨S16x512x128, .f32⟩
  | .hbm, ⟨90, _⟩ => ⟨S16x128x512, .f32⟩
  | .hbm, ⟨91, _⟩ => ⟨S16x512x128, .f32⟩
  | .hbm, ⟨92, _⟩ => ⟨S16x128x512, .f32⟩
  | _, _ => ⟨S1x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_13 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_14 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩

abbrev nD : Nat := 1
abbrev τ : Topo := Topo.v7x

variable {F : FTy → Type} [FloatOps F]
-- ==== MergeK.lean ====
abbrev S8192x512 : Shape := ⟨2, ![8192, 512]⟩
abbrev S8192x1024 : Shape := ⟨2, ![8192, 1024]⟩
abbrev S6x1024 : Shape := ⟨2, ![6, 1024]⟩
abbrev S2x512x1024 : Shape := ⟨3, ![2, 512, 1024]⟩
abbrev S1024x1024 : Shape := ⟨2, ![1024, 1024]⟩
abbrev S256x512 : Shape := ⟨2, ![256, 512]⟩
abbrev S256x1024 : Shape := ⟨2, ![256, 1024]⟩
abbrev S1x512x1024 : Shape := ⟨3, ![1, 512, 1024]⟩
abbrev S512x1024 : Shape := ⟨2, ![512, 1024]⟩
abbrev S1x1024 : Shape := ⟨2, ![1, 1024]⟩
abbrev S8192x8 : Shape := ⟨2, ![8192, 8]⟩
abbrev S512x8192 : Shape := ⟨2, ![512, 8192]⟩
abbrev S512x512 : Shape := ⟨2, ![512, 512]⟩
abbrev S512x8 : Shape := ⟨2, ![512, 8]⟩

abbrev nBuf : Space → Nat
  | .hbm => 28
  | .vmem => 56
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S6x1024, .f32⟩
  | .hbm, ⟨6, _⟩ => ⟨S2x512x1024, .f32⟩
  | .hbm, ⟨7, _⟩ => ⟨S1024x1024, .f32⟩
  | .hbm, ⟨8, _⟩ => ⟨S8192x1024, .f32⟩
  | .hbm, ⟨9, _⟩ => ⟨S8192x512, .bf16⟩
  | .hbm, ⟨10, _⟩ => ⟨S8192x512, .bf16⟩
  | .hbm, ⟨11, _⟩ => ⟨S8192x1024, .bf16⟩
  | .hbm, ⟨12, _⟩ => ⟨S8192x1024, .bf16⟩
  | .hbm, ⟨13, _⟩ => ⟨S2x512x1024, .bf16⟩
  | .hbm, ⟨14, _⟩ => ⟨S1024x1024, .bf16⟩
  | .hbm, ⟨15, _⟩ => ⟨S8192x1024, .f32⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S8192x1024, .bf16⟩
  | .hbm, ⟨20, _⟩ => ⟨S8192x1024, .bf16⟩
  | .hbm, ⟨21, _⟩ => ⟨S8192x1024, .bf16⟩
  | .hbm, ⟨22, _⟩ => ⟨S8192x1024, .bf16⟩
  | .hbm, ⟨23, _⟩ => ⟨S8192x512, .bf16⟩
  | .hbm, ⟨24, _⟩ => ⟨S8192x512, .bf16⟩
  | .hbm, ⟨25, _⟩ => ⟨S8192x8, .f32⟩
  | .hbm, ⟨26, _⟩ => ⟨S8192x8, .f32⟩
  | .hbm, ⟨27, _⟩ => ⟨S512x8192, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S6x1024, .f32⟩
  | .local _ .vmem, ⟨11, _⟩ => ⟨S2x512x1024, .bf16⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S512x1024, .f32⟩
  | .local _ .vmem, ⟨22, _⟩ => ⟨S512x1024, .f32⟩
  | .local _ .vmem, ⟨23, _⟩ => ⟨S6x1024, .f32⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S512x512, .bf16⟩
  | .local _ .vmem, ⟨36, _⟩ => ⟨S2x512x1024, .bf16⟩
  | .local _ .vmem, ⟨37, _⟩ => ⟨S1024x1024, .bf16⟩
  | .local _ .vmem, ⟨38, _⟩ => ⟨S512x1024, .bf16⟩
  | .local _ .vmem, ⟨39, _⟩ => ⟨S512x1024, .bf16⟩
  | .local _ .vmem, ⟨40, _⟩ => ⟨S512x1024, .bf16⟩
  | .local _ .vmem, ⟨41, _⟩ => ⟨S512x1024, .bf16⟩
  | .local _ .vmem, ⟨42, _⟩ => ⟨S512x1024, .bf16⟩
  | .local _ .vmem, ⟨43, _⟩ => ⟨S512x1024, .bf16⟩
  | .local _ .vmem, ⟨44, _⟩ => ⟨S512x1024, .bf16⟩
  | .local _ .vmem, ⟨45, _⟩ => ⟨S512x1024, .bf16⟩
  | .local _ .vmem, ⟨46, _⟩ => ⟨S512x512, .bf16⟩
  | .local _ .vmem, ⟨47, _⟩ => ⟨S512x512, .bf16⟩
  | .local _ .vmem, ⟨48, _⟩ => ⟨S512x512, .bf16⟩
  | .local _ .vmem, ⟨49, _⟩ => ⟨S512x512, .bf16⟩
  | .local _ .vmem, ⟨50, _⟩ => ⟨S512x8, .f32⟩
  | .local _ .vmem, ⟨51, _⟩ => ⟨S512x8, .f32⟩
  | .local _ .vmem, ⟨52, _⟩ => ⟨S512x8, .f32⟩
  | .local _ .vmem, ⟨53, _⟩ => ⟨S512x8, .f32⟩
  | .local _ .vmem, ⟨54, _⟩ => ⟨S512x512, .bf16⟩
  | .local _ .vmem, ⟨55, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v7_3 : Ref sig .tc := ⟨.hbm, 22, rfl⟩
abbrev main_v7_4 : Ref sig .tc := ⟨.hbm, 23, rfl⟩
abbrev main_v7_5 : Ref sig .tc := ⟨.hbm, 24, rfl⟩
abbrev main_v7_6 : Ref sig .tc := ⟨.hbm, 25, rfl⟩
abbrev main_v7_7 : Ref sig .tc := ⟨.hbm, 26, rfl⟩
abbrev main_v7_8 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg6_1 : Ref sig .tc := ⟨.vmem, 33, rfl⟩
abbrev cc1_stg7_0 : Ref sig .tc := ⟨.vmem, 34, rfl⟩
abbrev cc1_stg7_1 : Ref sig .tc := ⟨.vmem, 35, rfl⟩
abbrev cc1_stg8_0 : Ref sig .tc := ⟨.vmem, 36, rfl⟩
abbrev cc1_stg9_0 : Ref sig .tc := ⟨.vmem, 37, rfl⟩
abbrev cc1_stg10_0 : Ref sig .tc := ⟨.vmem, 38, rfl⟩
abbrev cc1_stg10_1 : Ref sig .tc := ⟨.vmem, 39, rfl⟩
abbrev cc1_stg11_0 : Ref sig .tc := ⟨.vmem, 40, rfl⟩
abbrev cc1_stg11_1 : Ref sig .tc := ⟨.vmem, 41, rfl⟩
abbrev cc1_stg12_0 : Ref sig .tc := ⟨.vmem, 42, rfl⟩
abbrev cc1_stg12_1 : Ref sig .tc := ⟨.vmem, 43, rfl⟩
abbrev cc1_stg13_0 : Ref sig .tc := ⟨.vmem, 44, rfl⟩
abbrev cc1_stg13_1 : Ref sig .tc := ⟨.vmem, 45, rfl⟩
abbrev cc1_stg14_0 : Ref sig .tc := ⟨.vmem, 46, rfl⟩
abbrev cc1_stg14_1 : Ref sig .tc := ⟨.vmem, 47, rfl⟩
abbrev cc1_stg15_0 : Ref sig .tc := ⟨.vmem, 48, rfl⟩
abbrev cc1_stg15_1 : Ref sig .tc := ⟨.vmem, 49, rfl⟩
abbrev cc1_stg16_0 : Ref sig .tc := ⟨.vmem, 50, rfl⟩
abbrev cc1_stg16_1 : Ref sig .tc := ⟨.vmem, 51, rfl⟩
abbrev cc1_stg17_0 : Ref sig .tc := ⟨.vmem, 52, rfl⟩
abbrev cc1_stg17_1 : Ref sig .tc := ⟨.vmem, 53, rfl⟩
abbrev cc1_stg18_0 : Ref sig .tc := ⟨.vmem, 54, rfl⟩
abbrev cc1_stg18_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc1_sem0_0 : DmaSem sig := 21
abbrev cc1_sem0_1 : DmaSem sig := 22
abbrev cc1_sem1_0 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc1_sem6_0 : DmaSem sig := 32
abbrev cc1_sem6_1 : DmaSem sig := 33
abbrev cc1_sem7_0 : DmaSem sig := 34
abbrev cc1_sem7_1 : DmaSem sig := 35
abbrev cc1_sem8_0 : DmaSem sig := 36
abbrev cc1_sem9_0 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc1_sem12_1 : DmaSem sig := 43
abbrev cc1_sem13_0 : DmaSem sig := 44
abbrev cc1_sem13_1 : DmaSem sig := 45
abbrev cc1_sem14_0 : DmaSem sig := 46
abbrev cc1_sem14_1 : DmaSem sig := 47
abbrev cc1_sem15_0 : DmaSem sig := 48
abbrev cc1_sem15_1 : DmaSem sig := 49
abbrev cc1_sem16_0 : DmaSem sig := 50
abbrev cc1_sem16_1 : DmaSem sig := 51
abbrev cc1_sem17_0 : DmaSem sig := 52
abbrev cc1_sem17_1 : DmaSem sig := 53
abbrev cc1_sem18_0 : DmaSem sig := 54
abbrev cc1_sem18_1 : DmaSem sig := 55

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_18 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S6x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S2x512x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x1024 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S512x512 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S512x512 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S512x8 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S512x8 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S512x512 .bf16 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]
-- ==== MergeRIdeal.lean ====
abbrev S8192x512 : Shape := ⟨2, ![8192, 512]⟩
abbrev S8192x1024 : Shape := ⟨2, ![8192, 1024]⟩
abbrev S6x1024 : Shape := ⟨2, ![6, 1024]⟩
abbrev S2x512x1024 : Shape := ⟨3, ![2, 512, 1024]⟩
abbrev S1024x1024 : Shape := ⟨2, ![1024, 1024]⟩
abbrev S1x1024 : Shape := ⟨2, ![1, 1024]⟩
abbrev S1024 : Shape := ⟨1, ![1024]⟩
abbrev S1x512x1024 : Shape := ⟨3, ![1, 512, 1024]⟩
abbrev S512x1024 : Shape := ⟨2, ![512, 1024]⟩
abbrev S_ : Shape := ⟨0, ![]⟩
abbrev S8192x8x64 : Shape := ⟨3, ![8192, 8, 64]⟩
abbrev S8192x8 : Shape := ⟨2, ![8192, 8]⟩
abbrev S512x8192 : Shape := ⟨2, ![512, 8192]⟩

abbrev nBuf : Space → Nat
  | .hbm => 105
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S6x1024, .f32⟩
  | .hbm, ⟨6, _⟩ => ⟨S2x512x1024, .f32⟩
  | .hbm, ⟨7, _⟩ => ⟨S1024x1024, .f32⟩
  | .hbm, ⟨8, _⟩ => ⟨S8192x1024, .f32⟩
  | .hbm, ⟨9, _⟩ => ⟨S1x1024, .f32⟩
  | .hbm, ⟨10, _⟩ => ⟨S1024, .f32⟩
  | .hbm, ⟨11, _⟩ => ⟨S1x512x1024, .f32⟩
  | .hbm, ⟨12, _⟩ => ⟨S512x1024, .f32⟩
  | .hbm, ⟨13, _⟩ => ⟨S8192x1024, .f32⟩
  | .hbm, ⟨14, _⟩ => ⟨S1x512x1024, .f32⟩
  | .hbm, ⟨15, _⟩ => ⟨S512x1024, .f32⟩
  | .hbm, ⟨16, _⟩ => ⟨S8192x1024, .f32⟩
  | .hbm, ⟨17, _⟩ => ⟨S1x512x1024, .f32⟩
  | .hbm, ⟨18, _⟩ => ⟨S512x1024, .f32⟩
  | .hbm, ⟨19, _⟩ => ⟨S8192x1024, .f32⟩
  | .hbm, ⟨20, _⟩ => ⟨S1x512x1024, .f32⟩
  | .hbm, ⟨21, _⟩ => ⟨S512x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x512, .f32⟩
  | .hbm, ⟨65, _⟩ => ⟨S8192x512, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x512, .f32⟩
  | .hbm, ⟨88, _⟩ => ⟨S8192x8x64, .f32⟩
  | .hbm, ⟨89, _⟩ => ⟨S_, .f32⟩
  | .hbm, ⟨90, _⟩ => ⟨S8192x8, .f32⟩
  | .hbm, ⟨91, _⟩ => ⟨S8192x512, .f32⟩
  | .hbm, ⟨92, _⟩ => ⟨S8192x8x64, .f32⟩
  | .hbm, ⟨93, _⟩ => ⟨S_, .f32⟩
  | .hbm, ⟨94, _⟩ => ⟨S8192x8, .f32⟩
  | .hbm, ⟨95, _⟩ => ⟨S8192x1024, .bf16⟩
  | .hbm, ⟨96, _⟩ => ⟨S8192x1024, .bf16⟩
  | .hbm, ⟨97, _⟩ => ⟨S8192x1024, .bf16⟩
  | .hbm, ⟨98, _⟩ => ⟨S8192x1024, .bf16⟩
  | .hbm, ⟨99, _⟩ => ⟨S8192x1024, .bf16⟩
  | .hbm, ⟨100, _⟩ => ⟨S8192x1024, .bf16⟩
  | .hbm, ⟨101, _⟩ => ⟨S8192x1024, .bf16⟩
  | .hbm, ⟨102, _⟩ => ⟨S8192x512, .bf16⟩
  | .hbm, ⟨103, _⟩ => ⟨S8192x512, .bf16⟩
  | .hbm, ⟨104, _⟩ => ⟨S512x8192, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_5 : Ref sig .tc := ⟨.hbm, 68, rfl⟩
abbrev main_v53 : Ref sig .tc := ⟨.hbm, 69, rfl⟩
abbrev main_v54 : Ref sig .tc := ⟨.hbm, 70, rfl⟩
abbrev main_cst_6 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_7 : Ref sig .tc := ⟨.hbm, 77, rfl⟩
abbrev main_v60 : Ref sig .tc := ⟨.hbm, 78, rfl⟩
abbrev main_v61 : Ref sig .tc := ⟨.hbm, 79, rfl⟩
abbrev main_cst_8 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_9 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_10 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩

abbrev nD : Nat := 1
abbrev τ : Topo := Topo.v7x

variable {F : FTy → Type} [FloatOps F]
-- ==== FwdK.lean ====
abbrev S1x8192x8x64 : Shape := ⟨4, ![1, 8192, 8, 64]⟩
abbrev S1x8192x2x64 : Shape := ⟨4, ![1, 8192, 2, 64]⟩
abbrev S_ : Shape := ⟨0, ![]⟩
abbrev S8192x512 : Shape := ⟨2, ![8192, 512]⟩
abbrev S512x8192 : Shape := ⟨2, ![512, 8192]⟩
abbrev S8192x128 : Shape := ⟨2, ![8192, 128]⟩
abbrev S16x512x128 : Shape := ⟨3, ![16, 512, 128]⟩
abbrev S16x128x512 : Shape := ⟨3, ![16, 128, 512]⟩
abbrev S8x8192 : Shape := ⟨2, ![8, 8192]⟩
abbrev S512x512 : Shape := ⟨2, ![512, 512]⟩
abbrev S8x512 : Shape := ⟨2, ![8, 512]⟩
abbrev S2x2048x512 : Shape := ⟨3, ![2, 2048, 512]⟩
abbrev S16x2048 : Shape := ⟨2, ![16, 2048]⟩
abbrev S64x512 : Shape := ⟨2, ![64, 512]⟩
abbrev S2048x128 : Shape := ⟨2, ![2048, 128]⟩
abbrev S2048x64 : Shape := ⟨2, ![2048, 64]⟩
abbrev S2048x512 : Shape := ⟨2, ![2048, 512]⟩
abbrev S1x2048x512 : Shape := ⟨3, ![1, 2048, 512]⟩
abbrev S1x512 : Shape := ⟨2, ![1, 512]⟩
abbrev S80x512 : Shape := ⟨2, ![80, 512]⟩
abbrev S1x64x512 : Shape := ⟨3, ![1, 64, 512]⟩
abbrev S64x2048 : Shape := ⟨2, ![64, 2048]⟩
abbrev S80x2048 : Shape := ⟨2, ![80, 2048]⟩
abbrev S512 : Shape := ⟨1, ![512]⟩
abbrev S512x64 : Shape := ⟨2, ![512, 64]⟩
abbrev S512x256 : Shape := ⟨2, ![512, 256]⟩

abbrev nBuf : Space → Nat
  | .hbm => 20
  | .vmem => 9
  | .smem => 0
  | _ => 0

abbrev bufTy : (tb : Table) → Fin (tcTables nBuf tb) → BufTy
  | .hbm, ⟨0, _⟩ => ⟨S1x8192x8x64, .f32⟩
  | .hbm, ⟨1, _⟩ => ⟨S1x8192x2x64, .f32⟩
  | .hbm, ⟨2, _⟩ => ⟨S1x8192x2x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S512x8192, .f32⟩
  | .hbm, ⟨11, _⟩ => ⟨S512x8192, .bf16⟩
  | .hbm, ⟨12, _⟩ => ⟨S8192x128, .f32⟩
  | .hbm, ⟨13, _⟩ => ⟨S8192x128, .bf16⟩
  | .hbm, ⟨14, _⟩ => ⟨S8192x128, .f32⟩
  | .hbm, ⟨15, _⟩ => ⟨S8192x128, .bf16⟩
  | .hbm, ⟨16, _⟩ => ⟨S16x512x128, .bf16⟩
  | .hbm, ⟨17, _⟩ => ⟨S16x128x512, .bf16⟩
  | .hbm, ⟨18, _⟩ => ⟨S8192x512, .bf16⟩
  | .hbm, ⟨19, _⟩ => ⟨S8x8192, .f32⟩
  | .local _ .vmem, ⟨0, _⟩ => ⟨S512x512, .bf16⟩
  | .local _ .vmem, ⟨1, _⟩ => ⟨S512x512, .bf16⟩
  | .local _ .vmem, ⟨2, _⟩ => ⟨S8192x128, .bf16⟩
  | .local _ .vmem, ⟨3, _⟩ => ⟨S16x128x512, .bf16⟩
  | .local _ .vmem, ⟨4, _⟩ => ⟨S512x512, .bf16⟩
  | .local _ .vmem, ⟨5, _⟩ => ⟨S512x512, .bf16⟩
  | .local _ .vmem, ⟨6, _⟩ => ⟨S8x512, .f32⟩
  | .local _ .vmem, ⟨7, _⟩ => ⟨S8x512, .f32⟩
  | .local _ .vmem, ⟨8, _⟩ => ⟨S2x2048x512, .f32⟩
  | _, _ => ⟨S1x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c3_i32 : BitVec 32 := 3#32
  let v24 : BitVec 32 := Scalar.addi c0_i32 c3_i32
  let c1_i32 : BitVec 32 := 1#32
  ⟨c0_i32, v24, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c2048_i32 : BitVec 32 := 2048#32
  let v310 : BitVec 32 := Scalar.muli arg7 c2048_i32
  v310
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c2048_i32 : BitVec 32 := 2048#32
  let v310 : BitVec 32 := Scalar.muli arg7 c2048_i32
  let v311 : BitVec 32 := v310
  let v312 : Index := Scalar.indexCast v311
  let c0_109 : Index := 0#32
  ![v312.toNat, 0]
def k0_mult2 (k0_t1 : Fin k0_t1_loop.trips) : BitVec 32 :=
  let c0_i32 : BitVec 32 := 0#32
  let c1_i32 : BitVec 32 := 1#32
  let arg7 : BitVec 32 := Scf.iv c0_i32 c1_i32 k0_t1
  let c1_i32_110 : BitVec 32 := 1#32
  let v316 : BitVec 32 := Scalar.addi arg7 c1_i32_110
  let c2048_i32_111 : BitVec 32 := 2048#32
  let v317 : BitVec 32 := Scalar.muli v316 c2048_i32_111
  v317
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c1_i32_110 : BitVec 32 := 1#32
  let v316 : BitVec 32 := Scalar.addi arg7 c1_i32_110
  let c2048_i32_111 : BitVec 32 := 2048#32
  let v317 : BitVec 32 := Scalar.muli v316 c2048_i32_111
  let v318 : BitVec 32 := v317
  let v319 : Index := Scalar.indexCast v318
  let c0_112 : Index := 0#32
  ![v319.toNat, 0]
def k0_off3 (k0_t1 : Fin k0_t1_loop.trips) (c0_i32_114 : BitVec 32) : Fin 3 → Nat :=
  let c4_i32_113 : BitVec 32 := 4#32
  let c0_i32 : BitVec 32 := 0#32
  let c1_i32 : BitVec 32 := 1#32
  let arg7 : BitVec 32 := Scf.iv c0_i32 c1_i32 k0_t1
  let v323 : BitVec 32 := Scalar.muli c4_i32_113 arg7
  let v324 : BitVec 32 := Scalar.addi v323 c0_i32_114
  let v325 : Index := Scalar.indexCast v324
  let c0_115 : Index := 0#32
  let c0_116 : Index := 0#32
  ![v325.toNat, 0, 0]
@[reducible] def k0_t2_loop : Scf.Loop 32 :=
  let c0_i32_67 : BitVec 32 := 0#32
  let c3_i32_68 : BitVec 32 := 3#32
  let v177 : BitVec 32 := Scalar.addi c0_i32_67 c3_i32_68
  let c1_i32_69 : BitVec 32 := 1#32
  ⟨c0_i32_67, v177, c1_i32_69⟩
def k0_mult3 (k0_t2 : Fin k0_t2_loop.trips) : BitVec 32 :=
  let c0_i32_67 : BitVec 32 := 0#32
  let c1_i32_69 : BitVec 32 := 1#32
  let arg7 : BitVec 32 := Scf.iv c0_i32_67 c1_i32_69 k0_t2
  let c2048_i32 : BitVec 32 := 2048#32
  let v310 : BitVec 32 := Scalar.muli arg7 c2048_i32
  v310
def k0_off4 (k0_t2 : Fin k0_t2_loop.trips) : Fin 2 → Nat :=
  let c0_i32_67 : BitVec 32 := 0#32
  let c1_i32_69 : BitVec 32 := 1#32
  let arg7 : BitVec 32 := Scf.iv c0_i32_67 c1_i32_69 k0_t2
  let c2048_i32 : BitVec 32 := 2048#32
  let v310 : BitVec 32 := Scalar.muli arg7 c2048_i32
  let v311 : BitVec 32 := v310
  let v312 : Index := Scalar.indexCast v311
  let c0_109 : Index := 0#32
  ![v312.toNat, 0]
def k0_mult4 (k0_t2 : Fin k0_t2_loop.trips) : BitVec 32 :=
  let c0_i32_67 : BitVec 32 := 0#32
  let c1_i32_69 : BitVec 32 := 1#32
  let arg7 : BitVec 32 := Scf.iv c0_i32_67 c1_i32_69 k0_t2
  let c1_i32_110 : BitVec 32 := 1#32
  let v316 : BitVec 32 := Scalar.addi arg7 c1_i32_110
  let c2048_i32_111 : BitVec 32 := 2048#32
  let v317 : BitVec 32 := Scalar.muli v316 c2048_i32_111
  v317
def k0_off5 (k0_t2 : Fin k0_t2_loop.trips) : Fin 2 → Nat :=
  let c0_i32_67 : BitVec 32 := 0#32
  let c1_i32_69 : BitVec 32 := 1#32
  let arg7 : BitVec 32 := Scf.iv c0_i32_67 c1_i32_69 k0_t2
  let c1_i32_110 : BitVec 32 := 1#32
  let v316 : BitVec 32 := Scalar.addi arg7 c1_i32_110
  let c2048_i32_111 : BitVec 32 := 2048#32
  let v317 : BitVec 32 := Scalar.muli v316 c2048_i32_111
  let v318 : BitVec 32 := v317
  let v319 : Index := Scalar.indexCast v318
  let c0_112 : Index := 0#32
  ![v319.toNat, 0]
def k0_off6 (k0_t2 : Fin k0_t2_loop.trips) (c0_i32_114 : BitVec 32) : Fin 3 → Nat :=
  let c4_i32_113 : BitVec 32 := 4#32
  let c0_i32_67 : BitVec 32 := 0#32
  let c1_i32_69 : BitVec 32 := 1#32
  let arg7 : BitVec 32 := Scf.iv c0_i32_67 c1_i32_69 k0_t2
  let v323 : BitVec 32 := Scalar.muli c4_i32_113 arg7
  let v324 : BitVec 32 := Scalar.addi v323 c0_i32_114
  let v325 : Index := Scalar.indexCast v324
  let c64_115 : Index := 64#32
  let c0_116 : Index := 0#32
  ![v325.toNat, 64, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FwdKIdeal.lean ====
variable {F : FTy → Type} [FloatOps F] [Named F]
def κ : String → Option EReal := fun
  | "log2e" => some (((Real.log 2)⁻¹ : ℝ) : EReal)
  | _ => none
-- ==== FwdRIdeal.lean ====
abbrev S1x8192x8x64 : Shape := ⟨4, ![1, 8192, 8, 64]⟩
abbrev S1x8192x2x64 : Shape := ⟨4, ![1, 8192, 2, 64]⟩
abbrev S1x8192x2x4x64 : Shape := ⟨5, ![1, 8192, 2, 4, 64]⟩
abbrev S1x2x8192x8192x4 : Shape := ⟨5, ![1, 2, 8192, 8192, 4]⟩
abbrev S1x2x4x8192x8192 : Shape := ⟨5, ![1, 2, 4, 8192, 8192]⟩
abbrev S_ : Shape := ⟨0, ![]⟩
abbrev S1x2x4x8192 : Shape := ⟨4, ![1, 2, 4, 8192]⟩
abbrev S1x2x4x8192x1 : Shape := ⟨5, ![1, 2, 4, 8192, 1]⟩
abbrev S1x2x64x4x8192 : Shape := ⟨5, ![1, 2, 64, 4, 8192]⟩
abbrev S1x8192x512 : Shape := ⟨3, ![1, 8192, 512]⟩
abbrev S8192x512 : Shape := ⟨2, ![8192, 512]⟩
abbrev S8x8192 : Shape := ⟨2, ![8, 8192]⟩

abbrev nBuf : Space → Nat
  | .hbm => 37
  | .vmem => 0
  | .smem => 0
  | _ => 0

abbrev bufTy : (tb : Table) → Fin (tcTables nBuf tb) → BufTy
  | .hbm, ⟨0, _⟩ => ⟨S1x8192x8x64, .f32⟩
  | .hbm, ⟨1, _⟩ => ⟨S1x8192x2x64, .f32⟩
  | .hbm, ⟨2, _⟩ => ⟨S1x8192x2x64, .f32⟩
  | .hbm, ⟨3, _⟩ => ⟨S1x8192x2x4x64, .f32⟩
  | .hbm, ⟨4, _⟩ => ⟨S1x2x8192x8192x4, .f32⟩
  | .hbm, ⟨5, _⟩ => ⟨S1x2x4x8192x8192, .f32⟩
  | .hbm, ⟨6, _⟩ => ⟨S_, .f32⟩
  | .hbm, ⟨7, _⟩ => ⟨S1x2x4x8192x8192, .f32⟩
  | .hbm, ⟨8, _⟩ => ⟨S1x2x4x8192x8192, .f32⟩
  | .hbm, ⟨9, _⟩ => ⟨S_, .f32⟩
  | .hbm, ⟨10, _⟩ => ⟨S1x2x4x8192, .f32⟩
  | .hbm, ⟨11, _⟩ => ⟨S_, .f32⟩
  | .hbm, ⟨12, _⟩ => ⟨S1x2x4x8192, .f32⟩
  | .hbm, ⟨13, _⟩ => ⟨S1x2x4x8192, .f32⟩
  | .hbm, ⟨14, _⟩ => ⟨S1x2x4x8192x1, .f32⟩
  | .hbm, ⟨15, _⟩ => ⟨S1x2x4x8192x8192, .f32⟩
  | .hbm, ⟨16, _⟩ => ⟨S1x2x4x8192x8192, .f32⟩
  | .hbm, ⟨17, _⟩ => ⟨S1x2x4x8192x8192, .f32⟩
  | .hbm, ⟨18, _⟩ => ⟨S_, .f32⟩
  | .hbm, ⟨19, _⟩ => ⟨S1x2x4x8192, .f32⟩
  | .hbm, ⟨20, _⟩ => ⟨S1x2x4x8192x1, .f32⟩
  | .hbm, ⟨21, _⟩ => ⟨S1x2x4x8192x8192, .f32⟩
  | .hbm, ⟨22, _⟩ => ⟨S1x2x4x8192x8192, .f32⟩
  | .hbm, ⟨23, _⟩ => ⟨S1x2x64x4x8192, .f32⟩
  | .hbm, ⟨24, _⟩ => ⟨S1x8192x2x4x64, .f32⟩
  | .hbm, ⟨25, _⟩ => ⟨S1x8192x512, .f32⟩
  | .hbm, ⟨26, _⟩ => ⟨S1x2x4x8192x8192, .f32⟩
  | .hbm, ⟨27, _⟩ => ⟨S_, .f32⟩
  | .hbm, ⟨28, _⟩ => ⟨S1x2x4x8192, .f32⟩
  | .hbm, ⟨29, _⟩ => ⟨S1x2x4x8192, .f32⟩
  | .hbm, ⟨30, _⟩ => ⟨S8192x512, .f32⟩
  | .hbm, ⟨31, _⟩ => ⟨S8192x512, .bf16⟩
  | .hbm, ⟨32, _⟩ => ⟨S8x8192, .f32⟩
  | .hbm, ⟨33, _⟩ => ⟨S_, .f32⟩
  | .hbm, ⟨34, _⟩ => ⟨S_, .f32⟩
  | .hbm, ⟨35, _⟩ => ⟨S8x8192, .f32⟩
  | .hbm, ⟨36, _⟩ => ⟨S8x8192, .f32⟩
  | _, _ => ⟨S1x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== MlpK.lean ====
abbrev S8192x1024 : Shape := ⟨2, ![8192, 1024]⟩
abbrev S6x1024 : Shape := ⟨2, ![6, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S1024x8x512 : Shape := ⟨3, ![1024, 8, 512]⟩
abbrev S8x1024x512 : Shape := ⟨3, ![8, 1024, 512]⟩
abbrev S8x512x1024 : Shape := ⟨3, ![8, 512, 1024]⟩
abbrev S8x1024 : Shape := ⟨2, ![8, 1024]⟩
abbrev S512x1024 : Shape := ⟨2, ![512, 1024]⟩
abbrev S512x2048 : Shape := ⟨2, ![512, 2048]⟩
abbrev S4x1024x512 : Shape := ⟨3, ![4, 1024, 512]⟩
abbrev S4x512x1024 : Shape := ⟨3, ![4, 512, 1024]⟩
abbrev S1x512x1024 : Shape := ⟨3, ![1, 512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 43
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S6x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .bf16⟩
  | .hbm, ⟨32, _⟩ => ⟨S1024x4096, .bf16⟩
  | .hbm, ⟨33, _⟩ => ⟨S8192x4096, .f32⟩
  | .hbm, ⟨34, _⟩ => ⟨S8192x4096, .bf16⟩
  | .hbm, ⟨35, _⟩ => ⟨S1024x4096, .bf16⟩
  | .hbm, ⟨36, _⟩ => ⟨S1024x8x512, .bf16⟩
  | .hbm, ⟨37, _⟩ => ⟨S8x1024x512, .bf16⟩
  | .hbm, ⟨38, _⟩ => ⟨S4096x1024, .bf16⟩
  | .hbm, ⟨39, _⟩ => ⟨S8x512x1024, .bf16⟩
  | .hbm, ⟨40, _⟩ => ⟨S8192x4096, .bf16⟩
  | .hbm, ⟨41, _⟩ => ⟨S8192x1024, .f32⟩
  | .hbm, ⟨42, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .bf16⟩
  | .local _ .vmem, ⟨5, _⟩ => ⟨S512x2048, .bf16⟩
  | .local _ .vmem, ⟨6, _⟩ => ⟨S6x1024, .f32⟩
  | .local _ .vmem, ⟨7, _⟩ => ⟨S1x1024, .f32⟩
  | .local _ .vmem, ⟨8, _⟩ => ⟨S4x1024x512, .bf16⟩
  | .local _ .vmem, ⟨9, _⟩ => ⟨S4x1024x512, .bf16⟩
  | .local _ .vmem, ⟨10, _⟩ => ⟨S4x512x1024, .bf16⟩
  | .local _ .vmem, ⟨11, _⟩ => ⟨S4x512x1024, .bf16⟩
  | .local _ .vmem, ⟨12, _⟩ => ⟨S512x2048, .bf16⟩
  | .local _ .vmem, ⟨13, _⟩ => ⟨S512x2048, .bf16⟩
  | .local _ .vmem, ⟨14, _⟩ => ⟨S512x1024, .f32⟩
  | .local _ .vmem, ⟨15, _⟩ => ⟨S512x1024, .f32⟩
  | .local _ .vmem, ⟨16, _⟩ => ⟨S8x1024, .f32⟩
  | .local _ .vmem, ⟨17, _⟩ => ⟨S512x1024, .bf16⟩
  | .local _ .vmem, ⟨18, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30_0 : Ref sig .tc := ⟨.hbm, 40, rfl⟩
abbrev main_v30_1 : Ref sig .tc := ⟨.hbm, 41, rfl⟩
abbrev main_v30_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c1_i32 : BitVec 32 := 1#32
  let v84 : BitVec 1 := Scalar.cmpi .eq arg1 c1_i32
  let v85 : BitVec 32 := Scalar.extui v84
  let c0_i32_64 : BitVec 32 := 0#32
  let v86 : BitVec 1 := Scalar.cmpi .ne v85 c0_i32_64
  v86

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== MlpRIdeal.lean ====
abbrev S8192x1024 : Shape := ⟨2, ![8192, 1024]⟩
abbrev S6x1024 : Shape := ⟨2, ![6, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S8x1024 : Shape := ⟨2, ![8, 1024]⟩

abbrev nBuf : Space → Nat
  | .hbm => 106
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S6x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S_, .f32⟩
  | .hbm, ⟨13, _⟩ => ⟨S8192x4096, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x4096, .f32⟩
  | .hbm, ⟨42, _⟩ => ⟨S8192x4096, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S_, .f32⟩
  | .hbm, ⟨47, _⟩ => ⟨S8192x4096, .f32⟩
  | .hbm, ⟨48, _⟩ => ⟨S8192x4096, .i1⟩
  | .hbm, ⟨49, _⟩ => ⟨S_, .f32⟩
  | .hbm, ⟨50, _⟩ => ⟨S8192x4096, .f32⟩
  | .hbm, ⟨51, _⟩ => ⟨S8192x4096, .f32⟩
  | .hbm, ⟨52, _⟩ => ⟨S_, .f32⟩
  | .hbm, ⟨53, _⟩ => ⟨S8192x4096, .f32⟩
  | .hbm, ⟨54, _⟩ => ⟨S8192x4096, .f32⟩
  | .hbm, ⟨55, _⟩ => ⟨S8192x1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x4096, .f32⟩
  | .hbm, ⟨64, _⟩ => ⟨S8192x4096, .f32⟩
  | .hbm, ⟨65, _⟩ => ⟨S_, .f32⟩
  | .hbm, ⟨66, _⟩ => ⟨S8192x4096, .f32⟩
  | .hbm, ⟨67, _⟩ => ⟨S8192x4096, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S1024, .f32⟩
  | .hbm, ⟨74, _⟩ => ⟨S8192x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S1024, .f32⟩
  | .hbm, ⟨82, _⟩ => ⟨S8192x1024, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S_, .f32⟩
  | .hbm, ⟨94, _⟩ => ⟨S8192, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x4096, .bf16⟩
  | .hbm, ⟨101, _⟩ => ⟨S1x1024, .f32⟩
  | .hbm, ⟨102, _⟩ => ⟨S1x1024, .f32⟩
  | .hbm, ⟨103, _⟩ => ⟨S_, .f32⟩
  | .hbm, ⟨104, _⟩ => ⟨S6x1024, .f32⟩
  | .hbm, ⟨105, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_cst : Ref sig .tc := ⟨.hbm, 43, rfl⟩
abbrev main_call0_v0 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_12 : Ref sig .tc := ⟨.hbm, 80, rfl⟩
abbrev main_v59 : Ref sig .tc := ⟨.hbm, 81, rfl⟩
abbrev main_v60 : Ref sig .tc := ⟨.hbm, 82, rfl⟩
abbrev main_cst_13 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_14 : Ref sig .tc := ⟨.hbm, 90, rfl⟩
abbrev main_v67 : Ref sig .tc := ⟨.hbm, 91, rfl⟩
abbrev main_v68 : Ref sig .tc := ⟨.hbm, 92, rfl⟩
abbrev main_cst_15 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_16 : Ref sig .tc := ⟨.hbm, 103, rfl⟩
abbrev main_v78 : Ref sig .tc := ⟨.hbm, 104, rfl⟩
abbrev main_v79 : Ref sig .tc := ⟨.hbm, 105, rfl⟩

abbrev nD : Nat := 1
abbrev τ : Topo := Topo.v7x

variable {F : FTy → Type} [FloatOps F]
-- ==== InbK.lean ====
abbrev S8192x3584 : Shape := ⟨2, ![8192, 3584]⟩
abbrev S1024x3584 : Shape := ⟨2, ![1024, 3584]⟩
abbrev S8192x1024 : Shape := ⟨2, ![8192, 1024]⟩
abbrev S6x1024 : Shape := ⟨2, ![6, 1024]⟩
abbrev S1024 : Shape := ⟨1, ![1024]⟩
abbrev S1x1024 : Shape := ⟨2, ![1, 1024]⟩
abbrev S8x1024 : Shape := ⟨2, ![8, 1024]⟩
abbrev S512x3584 : Shape := ⟨2, ![512, 3584]⟩
abbrev S512x1024 : Shape := ⟨2, ![512, 1024]⟩
abbrev S256x3584 : Shape := ⟨2, ![256, 3584]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 12
  | .smem => 0
  | _ => 0

abbrev bufTy : (tb : Table) → Fin (tcTables nBuf tb) → BufTy
  | .hbm, ⟨0, _⟩ => ⟨S8192x3584, .f32⟩
  | .hbm, ⟨1, _⟩ => ⟨S1024x3584, .f32⟩
  | .hbm, ⟨2, _⟩ => ⟨S8192x1024, .f32⟩
  | .hbm, ⟨3, _⟩ => ⟨S8192x1024, .f32⟩
  | .hbm, ⟨4, _⟩ => ⟨S6x1024, .f32⟩
  | .hbm, ⟨5, _⟩ => ⟨S1024, .f32⟩
  | .hbm, ⟨6, _⟩ => ⟨S8192x3584, .bf16⟩
  | .hbm, ⟨7, _⟩ => ⟨S1024x3584, .bf16⟩
  | .hbm, ⟨8, _⟩ => ⟨S1x1024, .f32⟩
  | .hbm, ⟨9, _⟩ => ⟨S8192x1024, .f32⟩
  | .hbm, ⟨10, _⟩ => ⟨S8x1024, .f32⟩
  | .local _ .vmem, ⟨0, _⟩ => ⟨S512x3584, .bf16⟩
  | .local _ .vmem, ⟨1, _⟩ => ⟨S512x3584, .bf16⟩
  | .local _ .vmem, ⟨2, _⟩ => ⟨S1024x3584, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S6x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InbRIdeal.lean ====
abbrev S8192x3584 : Shape := ⟨2, ![8192, 3584]⟩
abbrev S1024x3584 : Shape := ⟨2, ![1024, 3584]⟩
abbrev S8192x1024 : Shape := ⟨2, ![8192, 1024]⟩
abbrev S6x1024 : Shape := ⟨2, ![6, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8x1024 : Shape := ⟨2, ![8, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8192x3584, .f32⟩
  | .hbm, ⟨1, _⟩ => ⟨S1024x3584, .f32⟩
  | .hbm, ⟨2, _⟩ => ⟨S8192x1024, .f32⟩
  | .hbm, ⟨3, _⟩ => ⟨S8192x1024, .f32⟩
  | .hbm, ⟨4, _⟩ => ⟨S6x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x3584, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S_, .f32⟩
  | .hbm, ⟨43, _⟩ => ⟨S1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S6x1024, .f32⟩
  | .hbm, ⟨74, _⟩ => ⟨S8x1024, .f32⟩
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== QkK.lean ====
abbrev S8192x3584 : Shape := ⟨2, ![8192, 3584]⟩
abbrev S64 : Shape := ⟨1, ![64]⟩
abbrev S8192x512 : Shape := ⟨2, ![8192, 512]⟩
abbrev S8192x128 : Shape := ⟨2, ![8192, 128]⟩
abbrev S8192x1024 : Shape := ⟨2, ![8192, 1024]⟩
abbrev S8192 : Shape := ⟨1, ![8192]⟩
abbrev S8192x1 : Shape := ⟨2, ![8192, 1]⟩
abbrev S128 : Shape := ⟨1, ![128]⟩
abbrev S1x128 : Shape := ⟨2, ![1, 128]⟩
abbrev S_ : Shape := ⟨0, ![]⟩
abbrev S16 : Shape := ⟨1, ![16]⟩
abbrev S1x128x1 : Shape := ⟨3, ![1, 128, 1]⟩
abbrev S1x8192x128 : Shape := ⟨3, ![1, 8192, 128]⟩
abbrev S3x8192x128 : Shape := ⟨3, ![3, 8192, 128]⟩
abbrev S32 : Shape := ⟨1, ![32]⟩
abbrev S1x64 : Shape := ⟨2, ![1, 64]⟩
abbrev S1x1x1x64 : Shape := ⟨4, ![1, 1, 1, 64]⟩
abbrev S1x1x2x64 : Shape := ⟨4, ![1, 1, 2, 64]⟩
abbrev S512x8192 : Shape := ⟨2, ![512, 8192]⟩
abbrev S16x512x128 : Shape := ⟨3, ![16, 512, 128]⟩
abbrev S16x128x512 : Shape := ⟨3, ![16, 128, 512]⟩
abbrev S8x128 : Shape := ⟨2, ![8, 128]⟩
abbrev S512x256 : Shape := ⟨2, ![512, 256]⟩
abbrev S1x128x256 : Shape := ⟨3, ![1, 128, 256]⟩
abbrev S256x512 : Shape := ⟨2, ![256, 512]⟩
abbrev S256x128 : Shape := ⟨2, ![256, 128]⟩
abbrev S3x256x128 : Shape := ⟨3, ![3, 256, 128]⟩
abbrev S256x1024 : Shape := ⟨2, ![256, 1024]⟩
abbrev S256x3584 : Shape := ⟨2, ![256, 3584]⟩
abbrev S128x128 : Shape := ⟨2, ![128, 128]⟩
abbrev S128x256 : Shape := ⟨2, ![128, 256]⟩
abbrev S1x256x128 : Shape := ⟨3, ![1, 256, 128]⟩

abbrev nBuf : Space → Nat
  | .hbm => 276
  | .vmem => 29
  | .smem => 0
  | _ => 0

abbrev hbmTy0_0 (i : Nat) : BufTy := match i % 128 with
  | 0 => ⟨S8192x3584, .f32⟩
  | 1 => ⟨S64, .f32⟩
  | 2 => ⟨S64, .f32⟩
  | 3 => ⟨S8192x512, .f32⟩
  | 4 => ⟨S8192x128, .f32⟩
  | 5 => ⟨S8192x128, .f32⟩
  | 6 => ⟨S8192x512, .f32⟩
  | 7 => ⟨S8192x128, .f32⟩
  | 8 => ⟨S8192x128, .f32⟩
  | 9 => ⟨S8192x1024, .f32⟩
  | 10 => ⟨S8192x1024, .f32⟩
  | 11 => ⟨S8192, .i32⟩
  | 12 => ⟨S8192x1, .i32⟩
  | 13 => ⟨S128, .i32⟩
  | 14 => ⟨S1x128, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S1x128, .i32⟩
  | 22 => ⟨S1x128, .i32⟩
  | 23 => ⟨S_, .i32⟩
  | 24 => ⟨S1x128, .i32⟩
  | 25 => ⟨S1x128, .i1⟩
  | 26 => ⟨S_, .i32⟩
  | 27 => ⟨S1x128, .i32⟩
  | 28 => ⟨S1x128, .i1⟩
  | 29 => ⟨S_, .i32⟩
  | 30 => ⟨S_, .i1⟩
  | 31 => ⟨S1x128, .i1⟩
  | 32 => ⟨S1x128, .i1⟩
  | 33 => ⟨S1x128, .i1⟩
  | 34 => ⟨S1x128, .i32⟩
  | 35 => ⟨S1x128, .i32⟩
  | 36 => ⟨S1x128, .i32⟩
  | 37 => ⟨S16, .f32⟩
  | 38 => ⟨S_, .f32⟩
  | 39 => ⟨S16, .f32⟩
  | 40 => ⟨S16, .f32⟩
  | 41 => ⟨S_, .f32⟩
  | 42 => ⟨S16, .f32⟩
  | 43 => ⟨S16, .f32⟩
  | 44 => ⟨S16, .f32⟩
  | 45 => ⟨S_, .f32⟩
  | 46 => ⟨S16, .f32⟩
  | 47 => ⟨S16, .f32⟩
  | 48 => ⟨S_, .f32⟩
  | 49 => ⟨S16, .f32⟩
  | 50 => ⟨S16, .f32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S1x128, .i32⟩
  | 58 => ⟨S1x128, .i32⟩
  | 59 => ⟨S_, .i32⟩
  | 60 => ⟨S1x128, .i32⟩
  | 61 => ⟨S1x128, .i1⟩
  | 62 => ⟨S_, .i32⟩
  | 63 => ⟨S1x128, .i32⟩
  | 64 => ⟨S1x128, .i1⟩
  | 65 => ⟨S_, .i32⟩
  | 66 => ⟨S_, .i1⟩
  | 67 => ⟨S1x128, .i1⟩
  | 68 => ⟨S1x128, .i1⟩
  | 69 => ⟨S1x128, .i1⟩
  | 70 => ⟨S1x128, .i32⟩
  | 71 => ⟨S1x128, .i32⟩
  | 72 => ⟨S1x128, .i32⟩
  | 73 => ⟨S_, .i32⟩
  | 74 => ⟨S1x128, .i32⟩
  | 75 => ⟨S1x128, .i1⟩
  | 76 => ⟨S_, .i32⟩
  | 77 => ⟨S1x128, .i32⟩
  | 78 => ⟨S1x128, .i32⟩
  | 79 => ⟨S1x128, .i32⟩
  | 80 => ⟨S1x128x1, .i32⟩
  | 81 => ⟨S1x128, .f32⟩
  | 82 => ⟨S_, .i32⟩
  | 83 => ⟨S1x128, .i32⟩
  | 84 => ⟨S1x128, .i1⟩
  | 85 => ⟨S_, .i32⟩
  | 86 => ⟨S_, .i32⟩
  | 87 => ⟨S8192x1, .i32⟩
  | 88 => ⟨S8192x1, .i32⟩
  | 89 => ⟨S8192x1, .i32⟩
  | 90 => ⟨S_, .i32⟩
  | 91 => ⟨S8192x1, .i32⟩
  | 92 => ⟨S8192x1, .i1⟩
  | 93 => ⟨S8192x1, .i32⟩
  | 94 => ⟨S8192x1, .i32⟩
  | 95 => ⟨S_, .i32⟩
  | 96 => ⟨S8192x1, .i32⟩
  | 97 => ⟨S8192x1, .i1⟩
  | 98 => ⟨S8192x1, .i1⟩
  | 99 => ⟨S_, .i32⟩
  | 100 => ⟨S8192x1, .i32⟩
  | 101 => ⟨S8192x1, .i32⟩
  | 102 => ⟨S8192x1, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S8192x1, .i32⟩
  | 110 => ⟨S8192x1, .i32⟩
  | 111 => ⟨S_, .i32⟩
  | 112 => ⟨S8192x1, .i32⟩
  | 113 => ⟨S8192x1, .i1⟩
  | 114 => ⟨S_, .i32⟩
  | 115 => ⟨S8192x1, .i32⟩
  | 116 => ⟨S8192x1, .i1⟩
  | 117 => ⟨S_, .i32⟩
  | 118 => ⟨S_, .i1⟩
  | 119 => ⟨S8192x1, .i1⟩
  | 120 => ⟨S8192x1, .i1⟩
  | 121 => ⟨S8192x1, .i1⟩
  | 122 => ⟨S8192x1, .i32⟩
  | 123 => ⟨S8192x1, .i32⟩
  | 124 => ⟨S8192x1, .i32⟩
  | 125 => ⟨S8192x128, .i1⟩
  | 126 => ⟨S8192x128, .i32⟩
  | 127 => ⟨S8192x128, .i32⟩
  | _ => ⟨S8192x3584, .f32⟩

abbrev hbmTy0_1 (i : Nat) : BufTy := match i % 128 with
  | 0 => ⟨S8192x128, .i32⟩
  | 1 => ⟨S8192x128, .f32⟩
  | 2 => ⟨S8192x128, .f32⟩
  | 3 => ⟨S8192x128, .f32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S1x128, .i32⟩
  | 11 => ⟨S1x128, .i32⟩
  | 12 => ⟨S_, .i32⟩
  | 13 => ⟨S1x128, .i32⟩
  | 14 => ⟨S1x128, .i1⟩
  | 15 => ⟨S_, .i32⟩
  | 16 => ⟨S1x128, .i32⟩
  | 17 => ⟨S1x128, .i1⟩
  | 18 => ⟨S_, .i32⟩
  | 19 => ⟨S_, .i1⟩
  | 20 => ⟨S1x128, .i1⟩
  | 21 => ⟨S1x128, .i1⟩
  | 22 => ⟨S1x128, .i1⟩
  | 23 => ⟨S1x128, .i32⟩
  | 24 => ⟨S1x128, .i32⟩
  | 25 => ⟨S1x128, .i32⟩
  | 26 => ⟨S_, .i32⟩
  | 27 => ⟨S1x128, .i32⟩
  | 28 => ⟨S1x128, .i1⟩
  | 29 => ⟨S8192x128, .f32⟩
  | 30 => ⟨S8192x128, .f32⟩
  | 31 => ⟨S_, .f32⟩
  | 32 => ⟨S_, .f32⟩
  | 33 => ⟨S8192x128, .i1⟩
  | 34 => ⟨S8192x128, .f32⟩
  | 35 => ⟨S8192x128, .f32⟩
  | 36 => ⟨S8192x128, .f32⟩
  | 37 => ⟨S_, .f32⟩
  | 38 => ⟨S_, .f32⟩
  | 39 => ⟨S8192x128, .i1⟩
  | 40 => ⟨S8192x128, .f32⟩
  | 41 => ⟨S8192x128, .f32⟩
  | 42 => ⟨S1x8192x128, .f32⟩
  | 43 => ⟨S1x8192x128, .f32⟩
  | 44 => ⟨S1x8192x128, .f32⟩
  | 45 => ⟨S3x8192x128, .f32⟩
  | 46 => ⟨S32, .f32⟩
  | 47 => ⟨S_, .f32⟩
  | 48 => ⟨S32, .f32⟩
  | 49 => ⟨S32, .f32⟩
  | 50 => ⟨S_, .f32⟩
  | 51 => ⟨S32, .f32⟩
  | 52 => ⟨S32, .f32⟩
  | 53 => ⟨S32, .f32⟩
  | 54 => ⟨S_, .f32⟩
  | 55 => ⟨S32, .f32⟩
  | 56 => ⟨S32, .f32⟩
  | 57 => ⟨S_, .f32⟩
  | 58 => ⟨S32, .f32⟩
  | 59 => ⟨S32, .f32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S1x128, .i32⟩
  | 67 => ⟨S1x128, .i32⟩
  | 68 => ⟨S_, .i32⟩
  | 69 => ⟨S1x128, .i32⟩
  | 70 => ⟨S1x128, .i1⟩
  | 71 => ⟨S_, .i32⟩
  | 72 => ⟨S1x128, .i32⟩
  | 73 => ⟨S1x128, .i1⟩
  | 74 => ⟨S_, .i32⟩
  | 75 => ⟨S_, .i1⟩
  | 76 => ⟨S1x128, .i1⟩
  | 77 => ⟨S1x128, .i1⟩
  | 78 => ⟨S1x128, .i1⟩
  | 79 => ⟨S1x128, .i32⟩
  | 80 => ⟨S1x128, .i32⟩
  | 81 => ⟨S1x128, .i32⟩
  | 82 => ⟨S_, .i32⟩
  | 83 => ⟨S1x128, .i32⟩
  | 84 => ⟨S1x128, .i1⟩
  | 85 => ⟨S_, .i32⟩
  | 86 => ⟨S1x128, .i32⟩
  | 87 => ⟨S1x128, .i32⟩
  | 88 => ⟨S1x128, .i32⟩
  | 89 => ⟨S1x128x1, .i32⟩
  | 90 => ⟨S1x128, .f32⟩
  | 91 => ⟨S8192x1, .f32⟩
  | 92 => ⟨S8192x128, .f32⟩
  | 93 => ⟨S8192x128, .f32⟩
  | 94 => ⟨S8192x128, .f32⟩
  | 95 => ⟨S_, .i32⟩
  | 96 => ⟨S1x128, .i32⟩
  | 97 => ⟨S1x128, .i1⟩
  | 98 => ⟨S8192x128, .f32⟩
  | 99 => ⟨S8192x128, .f32⟩
  | 100 => ⟨S_, .f32⟩
  | 101 => ⟨S_, .f32⟩
  | 102 => ⟨S8192x128, .i1⟩
  | 103 => ⟨S8192x128, .f32⟩
  | 104 => ⟨S8192x128, .f32⟩
  | 105 => ⟨S8192x128, .f32⟩
  | 106 => ⟨S_, .f32⟩
  | 107 => ⟨S_, .f32⟩
  | 108 => ⟨S8192x128, .i1⟩
  | 109 => ⟨S8192x128, .f32⟩
  | 110 => ⟨S8192x128, .f32⟩
  | 111 => ⟨S1x8192x128, .f32⟩
  | 112 => ⟨S1x8192x128, .f32⟩
  | 113 => ⟨S1x8192x128, .f32⟩
  | 114 => ⟨S3x8192x128, .f32⟩
  | 115 => ⟨S1x64, .f32⟩
  | 116 => ⟨S1x1x1x64, .f32⟩
  | 117 => ⟨S1x1x2x64, .f32⟩
  | 118 => ⟨S1x128, .f32⟩
  | 119 => ⟨S1x64, .f32⟩
  | 120 => ⟨S1x1x1x64, .f32⟩
  | 121 => ⟨S1x1x2x64, .f32⟩
  | 122 => ⟨S1x128, .f32⟩
  | 123 => ⟨S8192x512, .f32⟩
  | 124 => ⟨S8192x512, .bf16⟩
  | 125 => ⟨S8192x128, .f32⟩
  | 126 => ⟨S8192x128, .bf16⟩
  | 127 => ⟨S_, .f32⟩
  | _ => ⟨S8192x3584, .f32⟩

abbrev hbmTy0_2 (i : Nat) : BufTy := match i % 128 with
  | 0 => ⟨S_, .f32⟩
  | 1 => ⟨S_, .f32⟩
  | 2 => ⟨S8192x512, .f32⟩
  | 3 => ⟨S8192x512, .f32⟩
  | 4 => ⟨S512x8192, .f32⟩
  | 5 => ⟨S8192x128, .f32⟩
  | 6 => ⟨S8192x128, .f32⟩
  | 7 => ⟨S16x512x128, .f32⟩
  | 8 => ⟨S16x128x512, .f32⟩
  | 9 => ⟨S16x512x128, .f32⟩
  | 10 => ⟨S16x128x512, .f32⟩
  | 11 => ⟨S_, .f32⟩
  | 12 => ⟨S8192x512, .f32⟩
  | 13 => ⟨S8192x512, .f32⟩
  | 14 => ⟨S8192x128, .f32⟩
  | 15 => ⟨S8192x128, .f32⟩
  | 16 => ⟨S8192x1024, .bf16⟩
  | 17 => ⟨S8192x1024, .bf16⟩
  | 18 => ⟨S8192x3584, .bf16⟩
  | 19 => ⟨S8x128, .f32⟩
  | _ => ⟨S8192x3584, .f32⟩

abbrev hbmTy (i : Nat) : BufTy := match i / 128 with
  | 0 => hbmTy0_0 i
  | 1 => hbmTy0_1 i
  | 2 => hbmTy0_2 i
  | _ => ⟨S8192x3584, .f32⟩

abbrev bufTy : (tb : Table) → Fin (tcTables nBuf tb) → BufTy
  | .hbm, ⟨i, _⟩ => hbmTy i
  | .local _ .vmem, ⟨0, _⟩ => ⟨S512x256, .f32⟩
  | .local _ .vmem, ⟨1, _⟩ => ⟨S512x256, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S256x512, .f32⟩
  | .local _ .vmem, ⟨7, _⟩ => ⟨S256x512, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x512, .bf16⟩
  | .local _ .vmem, ⟨13, _⟩ => ⟨S256x512, .bf16⟩
  | .local _ .vmem, ⟨14, _⟩ => ⟨S256x128, .bf16⟩
  | .local _ .vmem, ⟨15, _⟩ => ⟨S256x128, .bf16⟩
  | .local _ .vmem, ⟨16, _⟩ => ⟨S1x128, .f32⟩
  | .local _ .vmem, ⟨17, _⟩ => ⟨S1x128, .f32⟩
  | .local _ .vmem, ⟨18, _⟩ => ⟨S3x256x128, .f32⟩
  | .local _ .vmem, ⟨19, _⟩ => ⟨S3x256x128, .f32⟩
  | .local _ .vmem, ⟨20, _⟩ => ⟨S3x256x128, .f32⟩
  | .local _ .vmem, ⟨21, _⟩ => ⟨S3x256x128, .f32⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x3584, .bf16⟩
  | .local _ .vmem, ⟨27, _⟩ => ⟨S256x3584, .bf16⟩
  | .local _ .vmem, ⟨28, _⟩ => ⟨S8x128, .f32⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v4 : Ref sig .tc := ⟨.hbm, 36, rfl⟩
abbrev main_v5 : Ref sig .tc := ⟨.hbm, 37, rfl⟩
abbrev main_cst : Ref sig .tc := ⟨.hbm, 38, rfl⟩
abbrev main_v6 : Ref sig .tc := ⟨.hbm, 39, rfl⟩
abbrev main_v7 : Ref sig .tc := ⟨.hbm, 40, rfl⟩
abbrev main_cst_0 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_cst_1 : Ref sig .tc := ⟨.hbm, 45, rfl⟩
abbrev main_v11 : Ref sig .tc := ⟨.hbm, 46, rfl⟩
abbrev main_v12 : Ref sig .tc := ⟨.hbm, 47, rfl⟩
abbrev main_cst_2 : Ref sig .tc := ⟨.hbm, 48, rfl⟩
abbrev main_v13 : Ref sig .tc := ⟨.hbm, 49, rfl⟩
abbrev main_v14 : Ref sig .tc := ⟨.hbm, 50, rfl⟩
abbrev main_c_3 : Ref sig .tc := ⟨.hbm, 51, rfl⟩
abbrev main_call1_v0 : Ref sig .tc := ⟨.hbm, 52, rfl⟩
abbrev main_call1_c : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_c_1 : Ref sig .tc := ⟨.hbm, 59, rfl⟩
abbrev main_call1_v5 : Ref sig .tc := ⟨.hbm, 60, rfl⟩
abbrev main_call1_v6 : Ref sig .tc := ⟨.hbm, 61, rfl⟩
abbrev main_call1_c_2 : Ref sig .tc := ⟨.hbm, 62, rfl⟩
abbrev main_call1_v7 : Ref sig .tc := ⟨.hbm, 63, rfl⟩
abbrev main_call1_v8 : Ref sig .tc := ⟨.hbm, 64, rfl⟩
abbrev main_call1_c_3 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_v15 : Ref sig .tc := ⟨.hbm, 72, rfl⟩
abbrev main_c_4 : Ref sig .tc := ⟨.hbm, 73, rfl⟩
abbrev main_v16 : Ref sig .tc := ⟨.hbm, 74, rfl⟩
abbrev main_v17 : Ref sig .tc := ⟨.hbm, 75, rfl⟩
abbrev main_c_5 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_c_6 : Ref sig .tc := ⟨.hbm, 82, rfl⟩
abbrev main_v23 : Ref sig .tc := ⟨.hbm, 83, rfl⟩
abbrev main_v24 : Ref sig .tc := ⟨.hbm, 84, rfl⟩
abbrev main_c_7 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_c : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_c_0 : Ref sig .tc := ⟨.hbm, 99, rfl⟩
abbrev main_call2_v12 : Ref sig .tc := ⟨.hbm, 100, rfl⟩
abbrev main_call2_v13 : Ref sig .tc := ⟨.hbm, 101, rfl⟩
abbrev main_v25 : Ref sig .tc := ⟨.hbm, 102, rfl⟩
abbrev main_c_8 : Ref sig .tc := ⟨.hbm, 103, rfl⟩
abbrev main_call3_v0 : Ref sig .tc := ⟨.hbm, 104, rfl⟩
abbrev main_call3_c : Ref sig .tc := ⟨.hbm, 105, rfl⟩
abbrev main_call3_v1 : Ref sig .tc := ⟨.hbm, 106, rfl⟩
abbrev main_call3_c_0 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_c_1 : Ref sig .tc := ⟨.hbm, 111, rfl⟩
abbrev main_call3_v5 : Ref sig .tc := ⟨.hbm, 112, rfl⟩
abbrev main_call3_v6 : Ref sig .tc := ⟨.hbm, 113, rfl⟩
abbrev main_call3_c_2 : Ref sig .tc := ⟨.hbm, 114, rfl⟩
abbrev main_call3_v7 : Ref sig .tc := ⟨.hbm, 115, rfl⟩
abbrev main_call3_v8 : Ref sig .tc := ⟨.hbm, 116, rfl⟩
abbrev main_call3_c_3 : Ref sig .tc := ⟨.hbm, 117, rfl⟩
abbrev main_call3_v9 : Ref sig .tc := ⟨.hbm, 118, rfl⟩
abbrev main_call3_v10 : Ref sig .tc := ⟨.hbm, 119, rfl⟩
abbrev main_call3_v11 : Ref sig .tc := ⟨.hbm, 120, rfl⟩
abbrev main_call3_v12 : Ref sig .tc := ⟨.hbm, 121, rfl⟩
abbrev main_call3_v13 : Ref sig .tc := ⟨.hbm, 122, rfl⟩
abbrev main_call3_v14 : Ref sig .tc := ⟨.hbm, 123, rfl⟩
abbrev main_v26 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_v27 : Ref sig .tc := ⟨.hbm, 128, rfl⟩
abbrev main_v28 : Ref sig .tc := ⟨.hbm, 129, rfl⟩
abbrev main_v29 : Ref sig .tc := ⟨.hbm, 130, rfl⟩
abbrev main_v30 : Ref sig .tc := ⟨.hbm, 131, rfl⟩
abbrev main_c_9 : Ref sig .tc := ⟨.hbm, 132, rfl⟩
abbrev main_call5_v0 : Ref sig .tc := ⟨.hbm, 133, rfl⟩
abbrev main_call5_c : Ref sig .tc := ⟨.hbm, 134, rfl⟩
abbrev main_call5_v1 : Ref sig .tc := ⟨.hbm, 135, rfl⟩
abbrev main_call5_c_0 : Ref sig .tc := ⟨.hbm, 136, rfl⟩
abbrev main_call5_v2 : Ref sig .tc := ⟨.hbm, 137, rfl⟩
abbrev main_call5_v3 : Ref sig .tc := ⟨.hbm, 138, rfl⟩
abbrev main_call5_v4 : Ref sig .tc := ⟨.hbm, 139, rfl⟩
abbrev main_call5_c_1 : Ref sig .tc := ⟨.hbm, 140, rfl⟩
abbrev main_call5_v5 : Ref sig .tc := ⟨.hbm, 141, rfl⟩
abbrev main_call5_v6 : Ref sig .tc := ⟨.hbm, 142, rfl⟩
abbrev main_call5_c_2 : Ref sig .tc := ⟨.hbm, 143, rfl⟩
abbrev main_call5_v7 : Ref sig .tc := ⟨.hbm, 144, rfl⟩
abbrev main_call5_v8 : Ref sig .tc := ⟨.hbm, 145, rfl⟩
abbrev main_call5_c_3 : Ref sig .tc := ⟨.hbm, 146, rfl⟩
abbrev main_call5_v9 : Ref sig .tc := ⟨.hbm, 147, rfl⟩
abbrev main_call5_v10 : Ref sig .tc := ⟨.hbm, 148, rfl⟩
abbrev main_call5_v11 : Ref sig .tc := ⟨.hbm, 149, rfl⟩
abbrev main_call5_v12 : Ref sig .tc := ⟨.hbm, 150, rfl⟩
abbrev main_call5_v13 : Ref sig .tc := ⟨.hbm, 151, rfl⟩
abbrev main_call5_v14 : Ref sig .tc := ⟨.hbm, 152, rfl⟩
abbrev main_v31 : Ref sig .tc := ⟨.hbm, 153, rfl⟩
abbrev main_c_10 : Ref sig .tc := ⟨.hbm, 154, rfl⟩
abbrev main_v32 : Ref sig .tc := ⟨.hbm, 155, rfl⟩
abbrev main_v33 : Ref sig .tc := ⟨.hbm, 156, rfl⟩
abbrev main_v34 : Ref sig .tc := ⟨.hbm, 157, rfl⟩
abbrev main_v35 : Ref sig .tc := ⟨.hbm, 158, rfl⟩
abbrev main_cst_11 : Ref sig .tc := ⟨.hbm, 159, rfl⟩
abbrev main_call6_v0 : Ref sig .tc := ⟨.hbm, 160, rfl⟩
abbrev main_call6_v1 : Ref sig .tc := ⟨.hbm, 161, rfl⟩
abbrev main_call6_v2 : Ref sig .tc := ⟨.hbm, 162, rfl⟩
abbrev main_v36 : Ref sig .tc := ⟨.hbm, 163, rfl⟩
abbrev main_v37 : Ref sig .tc := ⟨.hbm, 164, rfl⟩
abbrev main_cst_12 : Ref sig .tc := ⟨.hbm, 165, rfl⟩
abbrev main_call7_v0 : Ref sig .tc := ⟨.hbm, 166, rfl⟩
abbrev main_call7_v1 : Ref sig .tc := ⟨.hbm, 167, rfl⟩
abbrev main_call7_v2 : Ref sig .tc := ⟨.hbm, 168, rfl⟩
abbrev main_v38 : Ref sig .tc := ⟨.hbm, 169, rfl⟩
abbrev main_v39 : Ref sig .tc := ⟨.hbm, 170, rfl⟩
abbrev main_v40 : Ref sig .tc := ⟨.hbm, 171, rfl⟩
abbrev main_v41 : Ref sig .tc := ⟨.hbm, 172, rfl⟩
abbrev main_v42 : Ref sig .tc := ⟨.hbm, 173, rfl⟩
abbrev main_v43 : Ref sig .tc := ⟨.hbm, 174, rfl⟩
abbrev main_cst_13 : Ref sig .tc := ⟨.hbm, 175, rfl⟩
abbrev main_v44 : Ref sig .tc := ⟨.hbm, 176, rfl⟩
abbrev main_v45 : Ref sig .tc := ⟨.hbm, 177, rfl⟩
abbrev main_cst_14 : Ref sig .tc := ⟨.hbm, 178, rfl⟩
abbrev main_v46 : Ref sig .tc := ⟨.hbm, 179, rfl⟩
abbrev main_v47 : Ref sig .tc := ⟨.hbm, 180, rfl⟩
abbrev main_v48 : Ref sig .tc := ⟨.hbm, 181, rfl⟩
abbrev main_cst_15 : Ref sig .tc := ⟨.hbm, 182, rfl⟩
abbrev main_v49 : Ref sig .tc := ⟨.hbm, 183, rfl⟩
abbrev main_v50 : Ref sig .tc := ⟨.hbm, 184, rfl⟩
abbrev main_cst_16 : Ref sig .tc := ⟨.hbm, 185, rfl⟩
abbrev main_v51 : Ref sig .tc := ⟨.hbm, 186, rfl⟩
abbrev main_v52 : Ref sig .tc := ⟨.hbm, 187, rfl⟩
abbrev main_c_17 : Ref sig .tc := ⟨.hbm, 188, rfl⟩
abbrev main_call8_v0 : Ref sig .tc := ⟨.hbm, 189, rfl⟩
abbrev main_call8_c : Ref sig .tc := ⟨.hbm, 190, rfl⟩
abbrev main_call8_v1 : Ref sig .tc := ⟨.hbm, 191, rfl⟩
abbrev main_call8_c_0 : Ref sig .tc := ⟨.hbm, 192, rfl⟩
abbrev main_call8_v2 : Ref sig .tc := ⟨.hbm, 193, rfl⟩
abbrev main_call8_v3 : Ref sig .tc := ⟨.hbm, 194, rfl⟩
abbrev main_call8_v4 : Ref sig .tc := ⟨.hbm, 195, rfl⟩
abbrev main_call8_c_1 : Ref sig .tc := ⟨.hbm, 196, rfl⟩
abbrev main_call8_v5 : Ref sig .tc := ⟨.hbm, 197, rfl⟩
abbrev main_call8_v6 : Ref sig .tc := ⟨.hbm, 198, rfl⟩
abbrev main_call8_c_2 : Ref sig .tc := ⟨.hbm, 199, rfl⟩
abbrev main_call8_v7 : Ref sig .tc := ⟨.hbm, 200, rfl⟩
abbrev main_call8_v8 : Ref sig .tc := ⟨.hbm, 201, rfl⟩
abbrev main_call8_c_3 : Ref sig .tc := ⟨.hbm, 202, rfl⟩
abbrev main_call8_v9 : Ref sig .tc := ⟨.hbm, 203, rfl⟩
abbrev main_call8_v10 : Ref sig .tc := ⟨.hbm, 204, rfl⟩
abbrev main_call8_v11 : Ref sig .tc := ⟨.hbm, 205, rfl⟩
abbrev main_call8_v12 : Ref sig .tc := ⟨.hbm, 206, rfl⟩
abbrev main_call8_v13 : Ref sig .tc := ⟨.hbm, 207, rfl⟩
abbrev main_call8_v14 : Ref sig .tc := ⟨.hbm, 208, rfl⟩
abbrev main_v53 : Ref sig .tc := ⟨.hbm, 209, rfl⟩
abbrev main_c_18 : Ref sig .tc := ⟨.hbm, 210, rfl⟩
abbrev main_v54 : Ref sig .tc := ⟨.hbm, 211, rfl⟩
abbrev main_v55 : Ref sig .tc := ⟨.hbm, 212, rfl⟩
abbrev main_c_19 : Ref sig .tc := ⟨.hbm, 213, rfl⟩
abbrev main_v56 : Ref sig .tc := ⟨.hbm, 214, rfl⟩
abbrev main_v57 : Ref sig .tc := ⟨.hbm, 215, rfl⟩
abbrev main_v58 : Ref sig .tc := ⟨.hbm, 216, rfl⟩
abbrev main_v59 : Ref sig .tc := ⟨.hbm, 217, rfl⟩
abbrev main_v60 : Ref sig .tc := ⟨.hbm, 218, rfl⟩
abbrev main_v61 : Ref sig .tc := ⟨.hbm, 219, rfl⟩
abbrev main_v62 : Ref sig .tc := ⟨.hbm, 220, rfl⟩
abbrev main_v63 : Ref sig .tc := ⟨.hbm, 221, rfl⟩
abbrev main_v64 : Ref sig .tc := ⟨.hbm, 222, rfl⟩
abbrev main_c_20 : Ref sig .tc := ⟨.hbm, 223, rfl⟩
abbrev main_v65 : Ref sig .tc := ⟨.hbm, 224, rfl⟩
abbrev main_v66 : Ref sig .tc := ⟨.hbm, 225, rfl⟩
abbrev main_v67 : Ref sig .tc := ⟨.hbm, 226, rfl⟩
abbrev main_v68 : Ref sig .tc := ⟨.hbm, 227, rfl⟩
abbrev main_cst_21 : Ref sig .tc := ⟨.hbm, 228, rfl⟩
abbrev main_call9_v0 : Ref sig .tc := ⟨.hbm, 229, rfl⟩
abbrev main_call9_v1 : Ref sig .tc := ⟨.hbm, 230, rfl⟩
abbrev main_call9_v2 : Ref sig .tc := ⟨.hbm, 231, rfl⟩
abbrev main_v69 : Ref sig .tc := ⟨.hbm, 232, rfl⟩
abbrev main_v70 : Ref sig .tc := ⟨.hbm, 233, rfl⟩
abbrev main_cst_22 : Ref sig .tc := ⟨.hbm, 234, rfl⟩
abbrev main_call10_v0 : Ref sig .tc := ⟨.hbm, 235, rfl⟩
abbrev main_call10_v1 : Ref sig .tc := ⟨.hbm, 236, rfl⟩
abbrev main_call10_v2 : Ref sig .tc := ⟨.hbm, 237, rfl⟩
abbrev main_v71 : Ref sig .tc := ⟨.hbm, 238, rfl⟩
abbrev main_v72 : Ref sig .tc := ⟨.hbm, 239, rfl⟩
abbrev main_v73 : Ref sig .tc := ⟨.hbm, 240, rfl⟩
abbrev main_v74 : Ref sig .tc := ⟨.hbm, 241, rfl⟩
abbrev main_v75 : Ref sig .tc := ⟨.hbm, 242, rfl⟩
abbrev main_v76 : Ref sig .tc := ⟨.hbm, 243, rfl⟩
abbrev main_v77 : Ref sig .tc := ⟨.hbm, 244, rfl⟩
abbrev main_v78 : Ref sig .tc := ⟨.hbm, 245, rfl⟩
abbrev main_v79 : Ref sig .tc := ⟨.hbm, 246, rfl⟩
abbrev main_v80 : Ref sig .tc := ⟨.hbm, 247, rfl⟩
abbrev main_v81 : Ref sig .tc := ⟨.hbm, 248, rfl⟩
abbrev main_v82 : Ref sig .tc := ⟨.hbm, 249, rfl⟩
abbrev main_v83 : Ref sig .tc := ⟨.hbm, 250, rfl⟩
abbrev main_v84 : Ref sig .tc := ⟨.hbm, 251, rfl⟩
abbrev main_v85 : Ref sig .tc := ⟨.hbm, 252, rfl⟩
abbrev main_v86 : Ref sig .tc := ⟨.hbm, 253, rfl⟩
abbrev main_v87 : Ref sig .tc := ⟨.hbm, 254, rfl⟩
abbrev main_cst_23 : Ref sig .tc := ⟨.hbm, 255, rfl⟩
abbrev main_v88 : Ref sig .tc := ⟨.hbm, 256, rfl⟩
abbrev main_cst_24 : Ref sig .tc := ⟨.hbm, 257, rfl⟩
abbrev main_v89 : Ref sig .tc := ⟨.hbm, 258, rfl⟩
abbrev main_v90 : Ref sig .tc := ⟨.hbm, 259, rfl⟩
abbrev main_v91 : Ref sig .tc := ⟨.hbm, 260, rfl⟩
abbrev main_v92 : Ref sig .tc := ⟨.hbm, 261, rfl⟩
abbrev main_v93 : Ref sig .tc := ⟨.hbm, 262, rfl⟩
abbrev main_v94 : Ref sig .tc := ⟨.hbm, 263, rfl⟩
abbrev main_v95 : Ref sig .tc := ⟨.hbm, 264, rfl⟩
abbrev main_v96 : Ref sig .tc := ⟨.hbm, 265, rfl⟩
abbrev main_v97 : Ref sig .tc := ⟨.hbm, 266, rfl⟩
abbrev main_cst_25 : Ref sig .tc := ⟨.hbm, 267, rfl⟩
abbrev main_v98 : Ref sig .tc := ⟨.hbm, 268, rfl⟩
abbrev main_v99 : Ref sig .tc := ⟨.hbm, 269, rfl⟩
abbrev main_v100 : Ref sig .tc := ⟨.hbm, 270, rfl⟩
abbrev main_v101 : Ref sig .tc := ⟨.hbm, 271, rfl⟩
abbrev main_v102 : Ref sig .tc := ⟨.hbm, 272, rfl⟩
abbrev main_v103 : Ref sig .tc := ⟨.hbm, 273, rfl⟩
abbrev main_v104_0 : Ref sig .tc := ⟨.hbm, 274, rfl⟩
abbrev main_v104_1 : Ref sig .tc := ⟨.hbm, 275, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S3x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x3584 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== QkKIdeal.lean ====
variable {F : FTy → Type} [FloatOps F] [Named F]
def κ : String → Option EReal := fun
  | "ln2" => some ((Real.log 2 : ℝ) : EReal)
  | _ => none
-- ==== QkRIdeal.lean ====
abbrev S8192x3584 : Shape := ⟨2, ![8192, 3584]⟩
abbrev S64 : Shape := ⟨1, ![64]⟩
abbrev S8192x512 : Shape := ⟨2, ![8192, 512]⟩
abbrev S8192x128 : Shape := ⟨2, ![8192, 128]⟩
abbrev S8192x1024 : Shape := ⟨2, ![8192, 1024]⟩
abbrev S1x8192x8x64 : Shape := ⟨4, ![1, 8192, 8, 64]⟩
abbrev S1x8192x2x64 : Shape := ⟨4, ![1, 8192, 2, 64]⟩
abbrev S1x64 : Shape := ⟨2, ![1, 64]⟩
abbrev S1x1x1x64 : Shape := ⟨4, ![1, 1, 1, 64]⟩
abbrev S8x1x1x64 : Shape := ⟨4, ![8, 1, 1, 64]⟩
abbrev S8x64 : Shape := ⟨2, ![8, 64]⟩
abbrev S2x1x1x64 : Shape := ⟨4, ![2, 1, 1, 64]⟩
abbrev S2x64 : Shape := ⟨2, ![2, 64]⟩
abbrev S8192 : Shape := ⟨1, ![8192]⟩
abbrev S_ : Shape := ⟨0, ![]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x8192x8 : Shape := ⟨3, ![1, 8192, 8]⟩
abbrev S1x8192x8x1 : Shape := ⟨4, ![1, 8192, 8, 1]⟩
abbrev S1x1x8x64 : Shape := ⟨4, ![1, 1, 8, 64]⟩
abbrev S16 : Shape := ⟨1, ![16]⟩
abbrev S1x16 : Shape := ⟨2, ![1, 16]⟩
abbrev S8192x16 : Shape := ⟨2, ![8192, 16]⟩
abbrev S1x8192x8x32 : Shape := ⟨4, ![1, 8192, 8, 32]⟩
abbrev S1x8192x8x16 : Shape := ⟨4, ![1, 8192, 8, 16]⟩
abbrev S1x8192x1x16 : Shape := ⟨4, ![1, 8192, 1, 16]⟩
abbrev S1x8192x2 : Shape := ⟨3, ![1, 8192, 2]⟩
abbrev S1x8192x2x1 : Shape := ⟨4, ![1, 8192, 2, 1]⟩
abbrev S1x1x2x64 : Shape := ⟨4, ![1, 1, 2, 64]⟩
abbrev S1x8192x2x32 : Shape := ⟨4, ![1, 8192, 2, 32]⟩
abbrev S1x8192x2x16 : Shape := ⟨4, ![1, 8192, 2, 16]⟩
abbrev S1x8192x1x32 : Shape := ⟨4, ![1, 8192, 1, 32]⟩
abbrev S1x2x64 : Shape := ⟨3, ![1, 2, 64]⟩
abbrev S8192x2 : Shape := ⟨2, ![8192, 2]⟩
abbrev S1x8x64 : Shape := ⟨3, ![1, 8, 64]⟩
abbrev S8192x8 : Shape := ⟨2, ![8192, 8]⟩
abbrev S4x128 : Shape := ⟨2, ![4, 128]⟩
abbrev S128 : Shape := ⟨1, ![128]⟩
abbrev S1x128 : Shape := ⟨2, ![1, 128]⟩
abbrev S6x128 : Shape := ⟨2, ![6, 128]⟩
abbrev S8x128 : Shape := ⟨2, ![8, 128]⟩

abbrev nBuf : Space → Nat
  | .hbm => 510
  | .vmem => 0
  | .smem => 0
  | _ => 0

abbrev hbmTy0_0 (i : Nat) : BufTy := match i % 128 with
  | 0 => ⟨S8192x3584, .f32⟩
  | 1 => ⟨S64, .f32⟩
  | 2 => ⟨S64, .f32⟩
  | 3 => ⟨S8192x512, .f32⟩
  | 4 => ⟨S8192x128, .f32⟩
  | 5 => ⟨S8192x128, .f32⟩
  | 6 => ⟨S8192x512, .f32⟩
  | 7 => ⟨S8192x128, .f32⟩
  | 8 => ⟨S8192x128, .f32⟩
  | 9 => ⟨S8192x1024, .f32⟩
  | 10 => ⟨S8192x1024, .f32⟩
  | 11 => ⟨S8192x512, .f32⟩
  | 12 => ⟨S8192x128, .f32⟩
  | 13 => ⟨S8192x128, .f32⟩
  | 14 => ⟨S8192x512, .f32⟩
  | 15 => ⟨S8192x128, .f32⟩
  | 16 => ⟨S8192x128, .f32⟩
  | 17 => ⟨S8192x1024, .f32⟩
  | 18 => ⟨S8192x1024, .f32⟩
  | 19 => ⟨S1x8192x8x64, .f32⟩
  | 20 => ⟨S1x8192x2x64, .f32⟩
  | 21 => ⟨S1x8192x8x64, .f32⟩
  | 22 => ⟨S1x8192x2x64, .f32⟩
  | 23 => ⟨S1x64, .f32⟩
  | 24 => ⟨S1x1x1x64, .f32⟩
  | 25 => ⟨S8x1x1x64, .f32⟩
  | 26 => ⟨S8x64, .f32⟩
  | 27 => ⟨S1x64, .f32⟩
  | 28 => ⟨S1x1x1x64, .f32⟩
  | 29 => ⟨S2x1x1x64, .f32⟩
  | 30 => ⟨S2x64, .f32⟩
  | 31 => ⟨S8192, .i32⟩
  | 32 => ⟨S_, .i32⟩
  | 33 => ⟨S_, .i32⟩
  | 34 => ⟨S8192, .i32⟩
  | 35 => ⟨S8192, .i32⟩
  | 36 => ⟨S8192, .i32⟩
  | 37 => ⟨S_, .i32⟩
  | 38 => ⟨S8192, .i32⟩
  | 39 => ⟨S8192, .i1⟩
  | 40 => ⟨S8192, .i32⟩
  | 41 => ⟨S8192, .i32⟩
  | 42 => ⟨S_, .i32⟩
  | 43 => ⟨S8192, .i32⟩
  | 44 => ⟨S8192, .i1⟩
  | 45 => ⟨S8192, .i1⟩
  | 46 => ⟨S_, .i32⟩
  | 47 => ⟨S8192, .i32⟩
  | 48 => ⟨S8192, .i32⟩
  | 49 => ⟨S8192, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S8192, .i32⟩
  | 57 => ⟨S8192, .i32⟩
  | 58 => ⟨S_, .i32⟩
  | 59 => ⟨S8192, .i32⟩
  | 60 => ⟨S8192, .i1⟩
  | 61 => ⟨S_, .i32⟩
  | 62 => ⟨S8192, .i32⟩
  | 63 => ⟨S8192, .i1⟩
  | 64 => ⟨S_, .i32⟩
  | 65 => ⟨S_, .i1⟩
  | 66 => ⟨S8192, .i1⟩
  | 67 => ⟨S8192, .i1⟩
  | 68 => ⟨S8192, .i1⟩
  | 69 => ⟨S8192, .i32⟩
  | 70 => ⟨S8192, .i32⟩
  | 71 => ⟨S8192, .i32⟩
  | 72 => ⟨S32, .f32⟩
  | 73 => ⟨S_, .f32⟩
  | 74 => ⟨S32, .f32⟩
  | 75 => ⟨S32, .f32⟩
  | 76 => ⟨S_, .f32⟩
  | 77 => ⟨S32, .f32⟩
  | 78 => ⟨S32, .f32⟩
  | 79 => ⟨S32, .f32⟩
  | 80 => ⟨S_, .f32⟩
  | 81 => ⟨S32, .f32⟩
  | 82 => ⟨S32, .f32⟩
  | 83 => ⟨S_, .f32⟩
  | 84 => ⟨S32, .f32⟩
  | 85 => ⟨S32, .f32⟩
  | 86 => ⟨S8192, .f32⟩
  | 87 => ⟨S8192x1, .f32⟩
  | 88 => ⟨S1x32, .f32⟩
  | 89 => ⟨S8192x32, .f32⟩
  | 90 => ⟨S8192x32, .f32⟩
  | 91 => ⟨S8192x32, .f32⟩
  | 92 => ⟨S8192x32, .f32⟩
  | 93 => ⟨S8192x32, .f32⟩
  | 94 => ⟨S1x8192x8x64, .f32⟩
  | 95 => ⟨S1x8192x8x64, .f32⟩
  | 96 => ⟨S_, .f32⟩
  | 97 => ⟨S1x8192x8, .f32⟩
  | 98 => ⟨S1x8192x8x1, .f32⟩
  | 99 => ⟨S_, .f32⟩
  | 100 => ⟨S1x8192x8x1, .f32⟩
  | 101 => ⟨S1x8192x8x1, .f32⟩
  | 102 => ⟨S_, .f32⟩
  | 103 => ⟨S1x8192x8x1, .f32⟩
  | 104 => ⟨S1x8192x8x1, .f32⟩
  | 105 => ⟨S1x8192x8x1, .f32⟩
  | 106 => ⟨S1x8192x8x1, .f32⟩
  | 107 => ⟨S_, .f32⟩
  | 108 => ⟨S1x8192x8x1, .f32⟩
  | 109 => ⟨S1x8192x8x1, .f32⟩
  | 110 => ⟨S1x8192x8x64, .f32⟩
  | 111 => ⟨S1x8192x8x64, .f32⟩
  | 112 => ⟨S1x1x8x64, .f32⟩
  | 113 => ⟨S1x8192x8x64, .f32⟩
  | 114 => ⟨S1x8192x8x64, .f32⟩
  | 115 => ⟨S16, .f32⟩
  | 116 => ⟨S_, .f32⟩
  | 117 => ⟨S16, .f32⟩
  | 118 => ⟨S16, .f32⟩
  | 119 => ⟨S_, .f32⟩
  | 120 => ⟨S16, .f32⟩
  | 121 => ⟨S16, .f32⟩
  | 122 => ⟨S16, .f32⟩
  | 123 => ⟨S_, .f32⟩
  | 124 => ⟨S16, .f32⟩
  | 125 => ⟨S16, .f32⟩
  | 126 => ⟨S_, .f32⟩
  | 127 => ⟨S16, .f32⟩
  | _ => ⟨S8192x3584, .f32⟩

abbrev hbmTy0_1 (i : Nat) : BufTy := match i % 128 with
  | 0 => ⟨S16, .f32⟩
  | 1 => ⟨S8192, .f32⟩
  | 2 => ⟨S8192x1, .f32⟩
  | 3 => ⟨S1x16, .f32⟩
  | 4 => ⟨S8192x16, .f32⟩
  | 5 => ⟨S8192x16, .f32⟩
  | 6 => ⟨S8192x16, .f32⟩
  | 7 => ⟨S8192x16, .f32⟩
  | 8 => ⟨S8192x16, .f32⟩
  | 9 => ⟨S16, .f32⟩
  | 10 => ⟨S_, .f32⟩
  | 11 => ⟨S16, .f32⟩
  | 12 => ⟨S16, .f32⟩
  | 13 => ⟨S_, .f32⟩
  | 14 => ⟨S16, .f32⟩
  | 15 => ⟨S16, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S8192, .f32⟩
  | 24 => ⟨S8192x1, .f32⟩
  | 25 => ⟨S1x16, .f32⟩
  | 26 => ⟨S8192x16, .f32⟩
  | 27 => ⟨S8192x16, .f32⟩
  | 28 => ⟨S8192x16, .f32⟩
  | 29 => ⟨S8192x16, .f32⟩
  | 30 => ⟨S8192x16, .f32⟩
  | 31 => ⟨S1x8192x8x32, .f32⟩
  | 32 => ⟨S1x8192x8x16, .f32⟩
  | 33 => ⟨S1x8192x8x16, .f32⟩
  | 34 => ⟨S1x8192x1x16, .f32⟩
  | 35 => ⟨S1x8192x1x16, .f32⟩
  | 36 => ⟨S1x8192x8x16, .f32⟩
  | 37 => ⟨S1x8192x8x16, .f32⟩
  | 38 => ⟨S1x8192x8x16, .f32⟩
  | 39 => ⟨S1x8192x8x16, .f32⟩
  | 40 => ⟨S1x8192x8x16, .f32⟩
  | 41 => ⟨S1x8192x8x16, .f32⟩
  | 42 => ⟨S1x8192x8x16, .f32⟩
  | 43 => ⟨S1x8192x8x16, .f32⟩
  | 44 => ⟨S1x8192x8x16, .f32⟩
  | 45 => ⟨S1x8192x8x16, .f32⟩
  | 46 => ⟨S1x8192x8x32, .f32⟩
  | 47 => ⟨S1x8192x8x32, .f32⟩
  | 48 => ⟨S1x8192x8x16, .f32⟩
  | 49 => ⟨S1x8192x8x16, .f32⟩
  | 50 => ⟨S1x8192x1x16, .f32⟩
  | 51 => ⟨S1x8192x1x16, .f32⟩
  | 52 => ⟨S1x8192x8x16, .f32⟩
  | 53 => ⟨S1x8192x8x16, .f32⟩
  | 54 => ⟨S1x8192x8x16, .f32⟩
  | 55 => ⟨S1x8192x8x16, .f32⟩
  | 56 => ⟨S1x8192x8x16, .f32⟩
  | 57 => ⟨S1x8192x8x16, .f32⟩
  | 58 => ⟨S1x8192x8x16, .f32⟩
  | 59 => ⟨S1x8192x8x16, .f32⟩
  | 60 => ⟨S1x8192x8x16, .f32⟩
  | 61 => ⟨S1x8192x8x16, .f32⟩
  | 62 => ⟨S1x8192x8x32, .f32⟩
  | 63 => ⟨S1x8192x8x64, .f32⟩
  | 64 => ⟨S1x8192x2x64, .f32⟩
  | 65 => ⟨S1x8192x2x64, .f32⟩
  | 66 => ⟨S_, .f32⟩
  | 67 => ⟨S1x8192x2, .f32⟩
  | 68 => ⟨S1x8192x2x1, .f32⟩
  | 69 => ⟨S_, .f32⟩
  | 70 => ⟨S1x8192x2x1, .f32⟩
  | 71 => ⟨S1x8192x2x1, .f32⟩
  | 72 => ⟨S_, .f32⟩
  | 73 => ⟨S1x8192x2x1, .f32⟩
  | 74 => ⟨S1x8192x2x1, .f32⟩
  | 75 => ⟨S1x8192x2x1, .f32⟩
  | 76 => ⟨S1x8192x2x1, .f32⟩
  | 77 => ⟨S_, .f32⟩
  | 78 => ⟨S1x8192x2x1, .f32⟩
  | 79 => ⟨S1x8192x2x1, .f32⟩
  | 80 => ⟨S1x8192x2x64, .f32⟩
  | 81 => ⟨S1x8192x2x64, .f32⟩
  | 82 => ⟨S1x1x2x64, .f32⟩
  | 83 => ⟨S1x8192x2x64, .f32⟩
  | 84 => ⟨S1x8192x2x64, .f32⟩
  | 85 => ⟨S16, .f32⟩
  | 86 => ⟨S_, .f32⟩
  | 87 => ⟨S16, .f32⟩
  | 88 => ⟨S16, .f32⟩
  | 89 => ⟨S_, .f32⟩
  | 90 => ⟨S16, .f32⟩
  | 91 => ⟨S16, .f32⟩
  | 92 => ⟨S16, .f32⟩
  | 93 => ⟨S_, .f32⟩
  | 94 => ⟨S16, .f32⟩
  | 95 => ⟨S16, .f32⟩
  | 96 => ⟨S_, .f32⟩
  | 97 => ⟨S16, .f32⟩
  | 98 => ⟨S16, .f32⟩
  | 99 => ⟨S8192, .f32⟩
  | 100 => ⟨S8192x1, .f32⟩
  | 101 => ⟨S1x16, .f32⟩
  | 102 => ⟨S8192x16, .f32⟩
  | 103 => ⟨S8192x16, .f32⟩
  | 104 => ⟨S8192x16, .f32⟩
  | 105 => ⟨S8192x16, .f32⟩
  | 106 => ⟨S8192x16, .f32⟩
  | 107 => ⟨S16, .f32⟩
  | 108 => ⟨S_, .f32⟩
  | 109 => ⟨S16, .f32⟩
  | 110 => ⟨S16, .f32⟩
  | 111 => ⟨S_, .f32⟩
  | 112 => ⟨S16, .f32⟩
  | 113 => ⟨S16, .f32⟩
  | 114 => ⟨S16, .f32⟩
  | 115 => ⟨S_, .f32⟩
  | 116 => ⟨S16, .f32⟩
  | 117 => ⟨S16, .f32⟩
  | 118 => ⟨S_, .f32⟩
  | 119 => ⟨S16, .f32⟩
  | 120 => ⟨S16, .f32⟩
  | 121 => ⟨S8192, .f32⟩
  | 122 => ⟨S8192x1, .f32⟩
  | 123 => ⟨S1x16, .f32⟩
  | 124 => ⟨S8192x16, .f32⟩
  | 125 => ⟨S8192x16, .f32⟩
  | 126 => ⟨S8192x16, .f32⟩
  | 127 => ⟨S8192x16, .f32⟩
  | _ => ⟨S8192x3584, .f32⟩

abbrev hbmTy0_2 (i : Nat) : BufTy := match i % 128 with
  | 0 => ⟨S8192x16, .f32⟩
  | 1 => ⟨S1x8192x2x32, .f32⟩
  | 2 => ⟨S1x8192x2x16, .f32⟩
  | 3 => ⟨S1x8192x2x16, .f32⟩
  | 4 => ⟨S1x8192x1x16, .f32⟩
  | 5 => ⟨S1x8192x1x16, .f32⟩
  | 6 => ⟨S1x8192x2x16, .f32⟩
  | 7 => ⟨S1x8192x2x16, .f32⟩
  | 8 => ⟨S1x8192x2x16, .f32⟩
  | 9 => ⟨S1x8192x2x16, .f32⟩
  | 10 => ⟨S1x8192x2x16, .f32⟩
  | 11 => ⟨S1x8192x2x16, .f32⟩
  | 12 => ⟨S1x8192x2x16, .f32⟩
  | 13 => ⟨S1x8192x2x16, .f32⟩
  | 14 => ⟨S1x8192x2x16, .f32⟩
  | 15 => ⟨S1x8192x2x16, .f32⟩
  | 16 => ⟨S1x8192x2x32, .f32⟩
  | 17 => ⟨S1x8192x2x32, .f32⟩
  | 18 => ⟨S1x8192x2x16, .f32⟩
  | 19 => ⟨S1x8192x2x16, .f32⟩
  | 20 => ⟨S1x8192x1x16, .f32⟩
  | 21 => ⟨S1x8192x1x16, .f32⟩
  | 22 => ⟨S1x8192x2x16, .f32⟩
  | 23 => ⟨S1x8192x2x16, .f32⟩
  | 24 => ⟨S1x8192x2x16, .f32⟩
  | 25 => ⟨S1x8192x2x16, .f32⟩
  | 26 => ⟨S1x8192x2x16, .f32⟩
  | 27 => ⟨S1x8192x2x16, .f32⟩
  | 28 => ⟨S1x8192x2x16, .f32⟩
  | 29 => ⟨S1x8192x2x16, .f32⟩
  | 30 => ⟨S1x8192x2x16, .f32⟩
  | 31 => ⟨S1x8192x2x16, .f32⟩
  | 32 => ⟨S1x8192x2x32, .f32⟩
  | 33 => ⟨S1x8192x2x64, .f32⟩
  | 34 => ⟨S1x8192x8x64, .f32⟩
  | 35 => ⟨S1x8192x8x32, .f32⟩
  | 36 => ⟨S1x8192x8x32, .f32⟩
  | 37 => ⟨S1x8192x1x32, .f32⟩
  | 38 => ⟨S1x8192x1x32, .f32⟩
  | 39 => ⟨S1x8192x8x32, .f32⟩
  | 40 => ⟨S1x8192x8x32, .f32⟩
  | 41 => ⟨S1x8192x8x32, .f32⟩
  | 42 => ⟨S1x8192x8x32, .f32⟩
  | 43 => ⟨S1x8192x8x32, .f32⟩
  | 44 => ⟨S1x8192x8x32, .f32⟩
  | 45 => ⟨S1x8192x8x32, .f32⟩
  | 46 => ⟨S1x8192x8x32, .f32⟩
  | 47 => ⟨S1x8192x8x32, .f32⟩
  | 48 => ⟨S1x8192x8x32, .f32⟩
  | 49 => ⟨S1x8192x8x64, .f32⟩
  | 50 => ⟨S1x8192x2x64, .f32⟩
  | 51 => ⟨S1x8192x2x32, .f32⟩
  | 52 => ⟨S1x8192x2x32, .f32⟩
  | 53 => ⟨S1x8192x1x32, .f32⟩
  | 54 => ⟨S1x8192x1x32, .f32⟩
  | 55 => ⟨S1x8192x2x32, .f32⟩
  | 56 => ⟨S1x8192x2x32, .f32⟩
  | 57 => ⟨S1x8192x2x32, .f32⟩
  | 58 => ⟨S1x8192x2x32, .f32⟩
  | 59 => ⟨S1x8192x2x32, .f32⟩
  | 60 => ⟨S1x8192x2x32, .f32⟩
  | 61 => ⟨S1x8192x2x32, .f32⟩
  | 62 => ⟨S1x8192x2x32, .f32⟩
  | 63 => ⟨S1x8192x2x32, .f32⟩
  | 64 => ⟨S1x8192x2x32, .f32⟩
  | 65 => ⟨S1x8192x2x64, .f32⟩
  | 66 => ⟨S1x8192x2x32, .f32⟩
  | 67 => ⟨S1x8192x2x32, .f32⟩
  | 68 => ⟨S1x8192x2x32, .f32⟩
  | 69 => ⟨S1x8192x2x32, .f32⟩
  | 70 => ⟨S1x8192x2x32, .f32⟩
  | 71 => ⟨S1x8192x2x32, .f32⟩
  | 72 => ⟨S1x8192x2x32, .f32⟩
  | 73 => ⟨S1x8192x2x32, .f32⟩
  | 74 => ⟨S1x8192x2x32, .f32⟩
  | 75 => ⟨S1x8192x2x32, .f32⟩
  | 76 => ⟨S1x8192x2x32, .f32⟩
  | 77 => ⟨S1x8192x2x32, .f32⟩
  | 78 => ⟨S1x8192x2x32, .f32⟩
  | 79 => ⟨S_, .f32⟩
  | 80 => ⟨S1x8192x2x64, .f32⟩
  | 81 => ⟨S_, .f32⟩
  | 82 => ⟨S1x8192x2x64, .f32⟩
  | 83 => ⟨S1x8192x2x64, .f32⟩
  | 84 => ⟨S8192x128, .f32⟩
  | 85 => ⟨S1x8192x8x32, .f32⟩
  | 86 => ⟨S1x8192x8x32, .f32⟩
  | 87 => ⟨S1x8192x8x32, .f32⟩
  | 88 => ⟨S1x8192x8x32, .f32⟩
  | 89 => ⟨S1x8192x8x32, .f32⟩
  | 90 => ⟨S1x8192x8x32, .f32⟩
  | 91 => ⟨S1x8192x8x32, .f32⟩
  | 92 => ⟨S1x8192x8x32, .f32⟩
  | 93 => ⟨S1x8192x8x32, .f32⟩
  | 94 => ⟨S1x8192x8x32, .f32⟩
  | 95 => ⟨S1x8192x8x32, .f32⟩
  | 96 => ⟨S1x8192x8x32, .f32⟩
  | 97 => ⟨S1x8192x8x32, .f32⟩
  | 98 => ⟨S_, .f32⟩
  | 99 => ⟨S1x8192x8x64, .f32⟩
  | 100 => ⟨S_, .f32⟩
  | 101 => ⟨S1x8192x8x64, .f32⟩
  | 102 => ⟨S1x8192x8x64, .f32⟩
  | 103 => ⟨S8192x512, .f32⟩
  | 104 => ⟨S1x8192x2x32, .f32⟩
  | 105 => ⟨S1x8192x2x32, .f32⟩
  | 106 => ⟨S1x8192x2x16, .f32⟩
  | 107 => ⟨S1x8192x2x16, .f32⟩
  | 108 => ⟨S1x8192x2x16, .f32⟩
  | 109 => ⟨S1x8192x2x16, .f32⟩
  | 110 => ⟨S1x8192x2x16, .f32⟩
  | 111 => ⟨S1x8192x2x16, .f32⟩
  | 112 => ⟨S1x8192x2x16, .f32⟩
  | 113 => ⟨S1x8192x2x16, .f32⟩
  | 114 => ⟨S1x8192x2x16, .f32⟩
  | 115 => ⟨S1x8192x2x16, .f32⟩
  | 116 => ⟨S1x8192x2x16, .f32⟩
  | 117 => ⟨S1x8192x2x16, .f32⟩
  | 118 => ⟨S1x8192x2x16, .f32⟩
  | 119 => ⟨S_, .f32⟩
  | 120 => ⟨S1x8192x2x32, .f32⟩
  | 121 => ⟨S_, .f32⟩
  | 122 => ⟨S1x8192x2x32, .f32⟩
  | 123 => ⟨S1x8192x2x32, .f32⟩
  | 124 => ⟨S_, .f32⟩
  | 125 => ⟨S1x8192x2x64, .f32⟩
  | 126 => ⟨S1x8192x2x16, .f32⟩
  | 127 => ⟨S1x8192x2x16, .f32⟩
  | _ => ⟨S8192x3584, .f32⟩

abbrev hbmTy0_3 (i : Nat) : BufTy := match i % 128 with
  | 0 => ⟨S1x8192x2x16, .f32⟩
  | 1 => ⟨S1x8192x2x16, .f32⟩
  | 2 => ⟨S1x8192x2x16, .f32⟩
  | 3 => ⟨S1x8192x2x16, .f32⟩
  | 4 => ⟨S1x8192x2x16, .f32⟩
  | 5 => ⟨S1x8192x2x16, .f32⟩
  | 6 => ⟨S1x8192x2x16, .f32⟩
  | 7 => ⟨S1x8192x2x16, .f32⟩
  | 8 => ⟨S1x8192x2x16, .f32⟩
  | 9 => ⟨S1x8192x2x16, .f32⟩
  | 10 => ⟨S1x8192x2x16, .f32⟩
  | 11 => ⟨S_, .f32⟩
  | 12 => ⟨S1x8192x2x32, .f32⟩
  | 13 => ⟨S_, .f32⟩
  | 14 => ⟨S1x8192x2x32, .f32⟩
  | 15 => ⟨S1x8192x2x32, .f32⟩
  | 16 => ⟨S_, .f32⟩
  | 17 => ⟨S1x8192x2x64, .f32⟩
  | 18 => ⟨S1x8192x2x64, .f32⟩
  | 19 => ⟨S1x8192x2x64, .f32⟩
  | 20 => ⟨S_, .f32⟩
  | 21 => ⟨S1x2x64, .f32⟩
  | 22 => ⟨S1x1x2x64, .f32⟩
  | 23 => ⟨S1x8192x2x64, .f32⟩
  | 24 => ⟨S1x8192x2x64, .f32⟩
  | 25 => ⟨S_, .f32⟩
  | 26 => ⟨S2x64, .f32⟩
  | 27 => ⟨S1x8192x2x64, .f32⟩
  | 28 => ⟨S_, .f32⟩
  | 29 => ⟨S1x8192x2, .f32⟩
  | 30 => ⟨S1x8192x2x1, .f32⟩
  | 31 => ⟨S1x8192x2x64, .f32⟩
  | 32 => ⟨S1x8192x2x64, .f32⟩
  | 33 => ⟨S1x8192x2x1, .f32⟩
  | 34 => ⟨S_, .f32⟩
  | 35 => ⟨S1x8192x2x1, .f32⟩
  | 36 => ⟨S1x8192x2x1, .f32⟩
  | 37 => ⟨S_, .f32⟩
  | 38 => ⟨S8192x2, .f32⟩
  | 39 => ⟨S1x8192x2, .f32⟩
  | 40 => ⟨S1x8192x2x64, .f32⟩
  | 41 => ⟨S1x8192x2x64, .f32⟩
  | 42 => ⟨S1x8192x2x64, .f32⟩
  | 43 => ⟨S1x8192x2x64, .f32⟩
  | 44 => ⟨S1x8192x2x64, .f32⟩
  | 45 => ⟨S8192x128, .f32⟩
  | 46 => ⟨S1x8192x8x32, .f32⟩
  | 47 => ⟨S1x8192x8x32, .f32⟩
  | 48 => ⟨S1x8192x8x16, .f32⟩
  | 49 => ⟨S1x8192x8x16, .f32⟩
  | 50 => ⟨S1x8192x8x16, .f32⟩
  | 51 => ⟨S1x8192x8x16, .f32⟩
  | 52 => ⟨S1x8192x8x16, .f32⟩
  | 53 => ⟨S1x8192x8x16, .f32⟩
  | 54 => ⟨S1x8192x8x16, .f32⟩
  | 55 => ⟨S1x8192x8x16, .f32⟩
  | 56 => ⟨S1x8192x8x16, .f32⟩
  | 57 => ⟨S1x8192x8x16, .f32⟩
  | 58 => ⟨S1x8192x8x16, .f32⟩
  | 59 => ⟨S1x8192x8x16, .f32⟩
  | 60 => ⟨S1x8192x8x16, .f32⟩
  | 61 => ⟨S_, .f32⟩
  | 62 => ⟨S1x8192x8x32, .f32⟩
  | 63 => ⟨S_, .f32⟩
  | 64 => ⟨S1x8192x8x32, .f32⟩
  | 65 => ⟨S1x8192x8x32, .f32⟩
  | 66 => ⟨S_, .f32⟩
  | 67 => ⟨S1x8192x8x64, .f32⟩
  | 68 => ⟨S1x8192x8x16, .f32⟩
  | 69 => ⟨S1x8192x8x16, .f32⟩
  | 70 => ⟨S1x8192x8x16, .f32⟩
  | 71 => ⟨S1x8192x8x16, .f32⟩
  | 72 => ⟨S1x8192x8x16, .f32⟩
  | 73 => ⟨S1x8192x8x16, .f32⟩
  | 74 => ⟨S1x8192x8x16, .f32⟩
  | 75 => ⟨S1x8192x8x16, .f32⟩
  | 76 => ⟨S1x8192x8x16, .f32⟩
  | 77 => ⟨S1x8192x8x16, .f32⟩
  | 78 => ⟨S1x8192x8x16, .f32⟩
  | 79 => ⟨S1x8192x8x16, .f32⟩
  | 80 => ⟨S1x8192x8x16, .f32⟩
  | 81 => ⟨S_, .f32⟩
  | 82 => ⟨S1x8192x8x32, .f32⟩
  | 83 => ⟨S_, .f32⟩
  | 84 => ⟨S1x8192x8x32, .f32⟩
  | 85 => ⟨S1x8192x8x32, .f32⟩
  | 86 => ⟨S_, .f32⟩
  | 87 => ⟨S1x8192x8x64, .f32⟩
  | 88 => ⟨S1x8192x8x64, .f32⟩
  | 89 => ⟨S1x8192x8x64, .f32⟩
  | 90 => ⟨S_, .f32⟩
  | 91 => ⟨S1x8x64, .f32⟩
  | 92 => ⟨S1x1x8x64, .f32⟩
  | 93 => ⟨S1x8192x8x64, .f32⟩
  | 94 => ⟨S1x8192x8x64, .f32⟩
  | 95 => ⟨S_, .f32⟩
  | 96 => ⟨S8x64, .f32⟩
  | 97 => ⟨S1x8192x8x64, .f32⟩
  | 98 => ⟨S_, .f32⟩
  | 99 => ⟨S1x8192x8, .f32⟩
  | 100 => ⟨S1x8192x8x1, .f32⟩
  | 101 => ⟨S1x8192x8x64, .f32⟩
  | 102 => ⟨S1x8192x8x64, .f32⟩
  | 103 => ⟨S1x8192x8x1, .f32⟩
  | 104 => ⟨S_, .f32⟩
  | 105 => ⟨S1x8192x8x1, .f32⟩
  | 106 => ⟨S1x8192x8x1, .f32⟩
  | 107 => ⟨S_, .f32⟩
  | 108 => ⟨S8192x8, .f32⟩
  | 109 => ⟨S1x8192x8, .f32⟩
  | 110 => ⟨S1x8192x8x64, .f32⟩
  | 111 => ⟨S1x8192x8x64, .f32⟩
  | 112 => ⟨S1x8192x8x64, .f32⟩
  | 113 => ⟨S1x8192x8x64, .f32⟩
  | 114 => ⟨S1x8192x8x64, .f32⟩
  | 115 => ⟨S8192x512, .f32⟩
  | 116 => ⟨S4x128, .f32⟩
  | 117 => ⟨S_, .f32⟩
  | 118 => ⟨S128, .f32⟩
  | 119 => ⟨S1x128, .f32⟩
  | 120 => ⟨S1x128, .f32⟩
  | 121 => ⟨S8192x3584, .f32⟩
  | 122 => ⟨S8192x3584, .bf16⟩
  | 123 => ⟨S_, .f32⟩
  | 124 => ⟨S6x128, .f32⟩
  | 125 => ⟨S8x128, .f32⟩
  | _ => ⟨S8192x3584, .f32⟩

abbrev hbmTy (i : Nat) : BufTy := match i / 128 with
  | 0 => hbmTy0_0 i
  | 1 => hbmTy0_1 i
  | 2 => hbmTy0_2 i
  | 3 => hbmTy0_3 i
  | _ => ⟨S8192x3584, .f32⟩

abbrev bufTy : (tb : Table) → Fin (tcTables nBuf tb) → BufTy
  | .hbm, ⟨i, _⟩ => hbmTy i
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_c : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_v21 : Ref sig .tc := ⟨.hbm, 49, rfl⟩
abbrev main_c_0 : Ref sig .tc := ⟨.hbm, 50, rfl⟩
abbrev main_call1_v0 : Ref sig .tc := ⟨.hbm, 51, rfl⟩
abbrev main_call1_c : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_c_1 : Ref sig .tc := ⟨.hbm, 58, rfl⟩
abbrev main_call1_v5 : Ref sig .tc := ⟨.hbm, 59, rfl⟩
abbrev main_call1_v6 : Ref sig .tc := ⟨.hbm, 60, rfl⟩
abbrev main_call1_c_2 : Ref sig .tc := ⟨.hbm, 61, rfl⟩
abbrev main_call1_v7 : Ref sig .tc := ⟨.hbm, 62, rfl⟩
abbrev main_call1_v8 : Ref sig .tc := ⟨.hbm, 63, rfl⟩
abbrev main_call1_c_3 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_v22 : Ref sig .tc := ⟨.hbm, 71, rfl⟩
abbrev main_v23 : Ref sig .tc := ⟨.hbm, 72, rfl⟩
abbrev main_cst : Ref sig .tc := ⟨.hbm, 73, rfl⟩
abbrev main_v24 : Ref sig .tc := ⟨.hbm, 74, rfl⟩
abbrev main_v25 : Ref sig .tc := ⟨.hbm, 75, rfl⟩
abbrev main_cst_1 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_2 : Ref sig .tc := ⟨.hbm, 80, rfl⟩
abbrev main_v29 : Ref sig .tc := ⟨.hbm, 81, rfl⟩
abbrev main_v30 : Ref sig .tc := ⟨.hbm, 82, rfl⟩
abbrev main_cst_3 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_cst_4 : Ref sig .tc := ⟨.hbm, 96, rfl⟩
abbrev main_v43 : Ref sig .tc := ⟨.hbm, 97, rfl⟩
abbrev main_v44 : Ref sig .tc := ⟨.hbm, 98, rfl⟩
abbrev main_cst_5 : Ref sig .tc := ⟨.hbm, 99, rfl⟩
abbrev main_v45 : Ref sig .tc := ⟨.hbm, 100, rfl⟩
abbrev main_v46 : Ref sig .tc := ⟨.hbm, 101, rfl⟩
abbrev main_cst_6 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_cst_7 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_cst_8 : Ref sig .tc := ⟨.hbm, 116, rfl⟩
abbrev main_v59 : Ref sig .tc := ⟨.hbm, 117, rfl⟩
abbrev main_v60 : Ref sig .tc := ⟨.hbm, 118, rfl⟩
abbrev main_cst_9 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_cst_10 : Ref sig .tc := ⟨.hbm, 123, rfl⟩
abbrev main_v64 : Ref sig .tc := ⟨.hbm, 124, rfl⟩
abbrev main_v65 : Ref sig .tc := ⟨.hbm, 125, rfl⟩
abbrev main_cst_11 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_cst_12 : Ref sig .tc := ⟨.hbm, 138, rfl⟩
abbrev main_v77 : Ref sig .tc := ⟨.hbm, 139, rfl⟩
abbrev main_v78 : Ref sig .tc := ⟨.hbm, 140, rfl⟩
abbrev main_cst_13 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_cst_14 : Ref sig .tc := ⟨.hbm, 145, rfl⟩
abbrev main_v82 : Ref sig .tc := ⟨.hbm, 146, rfl⟩
abbrev main_v83 : Ref sig .tc := ⟨.hbm, 147, rfl⟩
abbrev main_cst_15 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_cst_16 : Ref sig .tc := ⟨.hbm, 194, rfl⟩
abbrev main_v129 : Ref sig .tc := ⟨.hbm, 195, rfl⟩
abbrev main_v130 : Ref sig .tc := ⟨.hbm, 196, rfl⟩
abbrev main_cst_17 : Ref sig .tc := ⟨.hbm, 197, rfl⟩
abbrev main_v131 : Ref sig .tc := ⟨.hbm, 198, rfl⟩
abbrev main_v132 : Ref sig .tc := ⟨.hbm, 199, rfl⟩
abbrev main_cst_18 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_cst_19 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_cst_20 : Ref sig .tc := ⟨.hbm, 214, rfl⟩
abbrev main_v145 : Ref sig .tc := ⟨.hbm, 215, rfl⟩
abbrev main_v146 : Ref sig .tc := ⟨.hbm, 216, rfl⟩
abbrev main_cst_21 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_cst_22 : Ref sig .tc := ⟨.hbm, 221, rfl⟩
abbrev main_v150 : Ref sig .tc := ⟨.hbm, 222, rfl⟩
abbrev main_v151 : Ref sig .tc := ⟨.hbm, 223, rfl⟩
abbrev main_cst_23 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_cst_24 : Ref sig .tc := ⟨.hbm, 236, rfl⟩
abbrev main_v163 : Ref sig .tc := ⟨.hbm, 237, rfl⟩
abbrev main_v164 : Ref sig .tc := ⟨.hbm, 238, rfl⟩
abbrev main_cst_25 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_cst_26 : Ref sig .tc := ⟨.hbm, 243, rfl⟩
abbrev main_v168 : Ref sig .tc := ⟨.hbm, 244, rfl⟩
abbrev main_v169 : Ref sig .tc := ⟨.hbm, 245, rfl⟩
abbrev main_cst_27 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_v179 : Ref sig .tc := ⟨.hbm, 256, rfl⟩
abbrev main_v180 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_v216 : Ref sig .tc := ⟨.hbm, 293, rfl⟩
abbrev main_v217 : Ref sig .tc := ⟨.hbm, 294, rfl⟩
abbrev main_v218 : Ref sig .tc := ⟨.hbm, 295, rfl⟩
abbrev main_v219 : Ref sig .tc := ⟨.hbm, 296, rfl⟩
abbrev main_v220 : Ref sig .tc := ⟨.hbm, 297, rfl⟩
abbrev main_v221 : Ref sig .tc := ⟨.hbm, 298, rfl⟩
abbrev main_v222 : Ref sig .tc := ⟨.hbm, 299, rfl⟩
abbrev main_v223 : Ref sig .tc := ⟨.hbm, 300, rfl⟩
abbrev main_v224 : Ref sig .tc := ⟨.hbm, 301, rfl⟩
abbrev main_v225 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_v230 : Ref sig .tc := ⟨.hbm, 307, rfl⟩
abbrev main_v231 : Ref sig .tc := ⟨.hbm, 308, rfl⟩
abbrev main_v232 : Ref sig .tc := ⟨.hbm, 309, rfl⟩
abbrev main_v233 : Ref sig .tc := ⟨.hbm, 310, rfl⟩
abbrev main_v234 : Ref sig .tc := ⟨.hbm, 311, rfl⟩
abbrev main_v235 : Ref sig .tc := ⟨.hbm, 312, rfl⟩
abbrev main_v236 : Ref sig .tc := ⟨.hbm, 313, rfl⟩
abbrev main_v237 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_v243 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_v253 : Ref sig .tc := ⟨.hbm, 330, rfl⟩
abbrev main_v254 : Ref sig .tc := ⟨.hbm, 331, rfl⟩
abbrev main_v255 : Ref sig .tc := ⟨.hbm, 332, rfl⟩
abbrev main_v256 : Ref sig .tc := ⟨.hbm, 333, rfl⟩
abbrev main_v257 : Ref sig .tc := ⟨.hbm, 334, rfl⟩
abbrev main_cst_28 : Ref sig .tc := ⟨.hbm, 335, rfl⟩
abbrev main_v258 : Ref sig .tc := ⟨.hbm, 336, rfl⟩
abbrev main_cst_29 : Ref sig .tc := ⟨.hbm, 337, rfl⟩
abbrev main_v259 : Ref sig .tc := ⟨.hbm, 338, rfl⟩
abbrev main_v260 : Ref sig .tc := ⟨.hbm, 339, rfl⟩
abbrev main_v261 : Ref sig .tc := ⟨.hbm, 340, rfl⟩
abbrev main_v262 : Ref sig .tc := ⟨.hbm, 341, rfl⟩
abbrev main_v263 : Ref sig .tc := ⟨.hbm, 342, rfl⟩
abbrev main_v264 : Ref sig .tc := ⟨.hbm, 343, rfl⟩
abbrev main_v265 : Ref sig .tc := ⟨.hbm, 344, rfl⟩
abbrev main_v266 : Ref sig .tc := ⟨.hbm, 345, rfl⟩
abbrev main_v267 : Ref sig .tc := ⟨.hbm, 346, rfl⟩
abbrev main_v268 : Ref sig .tc := ⟨.hbm, 347, rfl⟩
abbrev main_v269 : Ref sig .tc := ⟨.hbm, 348, rfl⟩
abbrev main_v270 : Ref sig .tc := ⟨.hbm, 349, rfl⟩
abbrev main_v271 : Ref sig .tc := ⟨.hbm, 350, rfl⟩
abbrev main_v272 : Ref sig .tc := ⟨.hbm, 351, rfl⟩
abbrev main_v273 : Ref sig .tc := ⟨.hbm, 352, rfl⟩
abbrev main_v274 : Ref sig .tc := ⟨.hbm, 353, rfl⟩
abbrev main_cst_30 : Ref sig .tc := ⟨.hbm, 354, rfl⟩
abbrev main_v275 : Ref sig .tc := ⟨.hbm, 355, rfl⟩
abbrev main_cst_31 : Ref sig .tc := ⟨.hbm, 356, rfl⟩
abbrev main_v276 : Ref sig .tc := ⟨.hbm, 357, rfl⟩
abbrev main_v277 : Ref sig .tc := ⟨.hbm, 358, rfl⟩
abbrev main_v278 : Ref sig .tc := ⟨.hbm, 359, rfl⟩
abbrev main_v279 : Ref sig .tc := ⟨.hbm, 360, rfl⟩
abbrev main_v280 : Ref sig .tc := ⟨.hbm, 361, rfl⟩
abbrev main_v281 : Ref sig .tc := ⟨.hbm, 362, rfl⟩
abbrev main_v282 : Ref sig .tc := ⟨.hbm, 363, rfl⟩
abbrev main_v283 : Ref sig .tc := ⟨.hbm, 364, rfl⟩
abbrev main_v284 : Ref sig .tc := ⟨.hbm, 365, rfl⟩
abbrev main_v285 : Ref sig .tc := ⟨.hbm, 366, rfl⟩
abbrev main_v286 : Ref sig .tc := ⟨.hbm, 367, rfl⟩
abbrev main_v287 : Ref sig .tc := ⟨.hbm, 368, rfl⟩
abbrev main_v288 : Ref sig .tc := ⟨.hbm, 369, rfl⟩
abbrev main_v289 : Ref sig .tc := ⟨.hbm, 370, rfl⟩
abbrev main_v290 : Ref sig .tc := ⟨.hbm, 371, rfl⟩
abbrev main_v291 : Ref sig .tc := ⟨.hbm, 372, rfl⟩
abbrev main_v292 : Ref sig .tc := ⟨.hbm, 373, rfl⟩
abbrev main_v293 : Ref sig .tc := ⟨.hbm, 374, rfl⟩
abbrev main_cst_32 : Ref sig .tc := ⟨.hbm, 375, rfl⟩
abbrev main_v294 : Ref sig .tc := ⟨.hbm, 376, rfl⟩
abbrev main_cst_33 : Ref sig .tc := ⟨.hbm, 377, rfl⟩
abbrev main_v295 : Ref sig .tc := ⟨.hbm, 378, rfl⟩
abbrev main_v296 : Ref sig .tc := ⟨.hbm, 379, rfl⟩
abbrev main_cst_34 : Ref sig .tc := ⟨.hbm, 380, rfl⟩
abbrev main_v297 : Ref sig .tc := ⟨.hbm, 381, rfl⟩
abbrev main_v298 : Ref sig .tc := ⟨.hbm, 382, rfl⟩
abbrev main_v299 : Ref sig .tc := ⟨.hbm, 383, rfl⟩
abbrev main_v300 : Ref sig .tc := ⟨.hbm, 384, rfl⟩
abbrev main_v301 : Ref sig .tc := ⟨.hbm, 385, rfl⟩
abbrev main_v302 : Ref sig .tc := ⟨.hbm, 386, rfl⟩
abbrev main_v303 : Ref sig .tc := ⟨.hbm, 387, rfl⟩
abbrev main_v304 : Ref sig .tc := ⟨.hbm, 388, rfl⟩
abbrev main_v305 : Ref sig .tc := ⟨.hbm, 389, rfl⟩
abbrev main_v306 : Ref sig .tc := ⟨.hbm, 390, rfl⟩
abbrev main_v307 : Ref sig .tc := ⟨.hbm, 391, rfl⟩
abbrev main_v308 : Ref sig .tc := ⟨.hbm, 392, rfl⟩
abbrev main_v309 : Ref sig .tc := ⟨.hbm, 393, rfl⟩
abbrev main_v310 : Ref sig .tc := ⟨.hbm, 394, rfl⟩
abbrev main_cst_35 : Ref sig .tc := ⟨.hbm, 395, rfl⟩
abbrev main_v311 : Ref sig .tc := ⟨.hbm, 396, rfl⟩
abbrev main_cst_36 : Ref sig .tc := ⟨.hbm, 397, rfl⟩
abbrev main_v312 : Ref sig .tc := ⟨.hbm, 398, rfl⟩
abbrev main_v313 : Ref sig .tc := ⟨.hbm, 399, rfl⟩
abbrev main_cst_37 : Ref sig .tc := ⟨.hbm, 400, rfl⟩
abbrev main_v314 : Ref sig .tc := ⟨.hbm, 401, rfl⟩
abbrev main_v315 : Ref sig .tc := ⟨.hbm, 402, rfl⟩
abbrev main_v316 : Ref sig .tc := ⟨.hbm, 403, rfl⟩
abbrev main_cst_38 : Ref sig .tc := ⟨.hbm, 404, rfl⟩
abbrev main_v317 : Ref sig .tc := ⟨.hbm, 405, rfl⟩
abbrev main_v318 : Ref sig .tc := ⟨.hbm, 406, rfl⟩
abbrev main_v319 : Ref sig .tc := ⟨.hbm, 407, rfl⟩
abbrev main_v320 : Ref sig .tc := ⟨.hbm, 408, rfl⟩
abbrev main_cst_39 : Ref sig .tc := ⟨.hbm, 409, rfl⟩
abbrev main_v321 : Ref sig .tc := ⟨.hbm, 410, rfl⟩
abbrev main_v322 : Ref sig .tc := ⟨.hbm, 411, rfl⟩
abbrev main_cst_40 : Ref sig .tc := ⟨.hbm, 412, rfl⟩
abbrev main_v323 : Ref sig .tc := ⟨.hbm, 413, rfl⟩
abbrev main_v324 : Ref sig .tc := ⟨.hbm, 414, rfl⟩
abbrev main_v325 : Ref sig .tc := ⟨.hbm, 415, rfl⟩
abbrev main_v326 : Ref sig .tc := ⟨.hbm, 416, rfl⟩
abbrev main_v327 : Ref sig .tc := ⟨.hbm, 417, rfl⟩
abbrev main_cst_41 : Ref sig .tc := ⟨.hbm, 418, rfl⟩
abbrev main_v328 : Ref sig .tc := ⟨.hbm, 419, rfl⟩
abbrev main_v329 : Ref sig .tc := ⟨.hbm, 420, rfl⟩
abbrev main_cst_42 : Ref sig .tc := ⟨.hbm, 421, rfl⟩
abbrev main_v330 : Ref sig .tc := ⟨.hbm, 422, rfl⟩
abbrev main_v331 : Ref sig .tc := ⟨.hbm, 423, rfl⟩
abbrev main_v332 : Ref sig .tc := ⟨.hbm, 424, rfl⟩
abbrev main_v333 : Ref sig .tc := ⟨.hbm, 425, rfl⟩
abbrev main_v334 : Ref sig .tc := ⟨.hbm, 426, rfl⟩
abbrev main_v335 : Ref sig .tc := ⟨.hbm, 427, rfl⟩
abbrev main_v336 : Ref sig .tc := ⟨.hbm, 428, rfl⟩
abbrev main_v337 : Ref sig .tc := ⟨.hbm, 429, rfl⟩
abbrev main_v338 : Ref sig .tc := ⟨.hbm, 430, rfl⟩
abbrev main_v339 : Ref sig .tc := ⟨.hbm, 431, rfl⟩
abbrev main_v340 : Ref sig .tc := ⟨.hbm, 432, rfl⟩
abbrev main_v341 : Ref sig .tc := ⟨.hbm, 433, rfl⟩
abbrev main_v342 : Ref sig .tc := ⟨.hbm, 434, rfl⟩
abbrev main_v343 : Ref sig .tc := ⟨.hbm, 435, rfl⟩
abbrev main_v344 : Ref sig .tc := ⟨.hbm, 436, rfl⟩
abbrev main_v345 : Ref sig .tc := ⟨.hbm, 437, rfl⟩
abbrev main_v346 : Ref sig .tc := ⟨.hbm, 438, rfl⟩
abbrev main_v347 : Ref sig .tc := ⟨.hbm, 439, rfl⟩
abbrev main_v348 : Ref sig .tc := ⟨.hbm, 440, rfl⟩
abbrev main_v349 : Ref sig .tc := ⟨.hbm, 441, rfl⟩
abbrev main_v350 : Ref sig .tc := ⟨.hbm, 442, rfl⟩
abbrev main_v351 : Ref sig .tc := ⟨.hbm, 443, rfl⟩
abbrev main_v352 : Ref sig .tc := ⟨.hbm, 444, rfl⟩
abbrev main_cst_43 : Ref sig .tc := ⟨.hbm, 445, rfl⟩
abbrev main_v353 : Ref sig .tc := ⟨.hbm, 446, rfl⟩
abbrev main_cst_44 : Ref sig .tc := ⟨.hbm, 447, rfl⟩
abbrev main_v354 : Ref sig .tc := ⟨.hbm, 448, rfl⟩
abbrev main_v355 : Ref sig .tc := ⟨.hbm, 449, rfl⟩
abbrev main_cst_45 : Ref sig .tc := ⟨.hbm, 450, rfl⟩
abbrev main_v356 : Ref sig .tc := ⟨.hbm, 451, rfl⟩
abbrev main_v357 : Ref sig .tc := ⟨.hbm, 452, rfl⟩
abbrev main_v358 : Ref sig .tc := ⟨.hbm, 453, rfl⟩
abbrev main_v359 : Ref sig .tc := ⟨.hbm, 454, rfl⟩
abbrev main_v360 : Ref sig .tc := ⟨.hbm, 455, rfl⟩
abbrev main_v361 : Ref sig .tc := ⟨.hbm, 456, rfl⟩
abbrev main_v362 : Ref sig .tc := ⟨.hbm, 457, rfl⟩
abbrev main_v363 : Ref sig .tc := ⟨.hbm, 458, rfl⟩
abbrev main_v364 : Ref sig .tc := ⟨.hbm, 459, rfl⟩
abbrev main_v365 : Ref sig .tc := ⟨.hbm, 460, rfl⟩
abbrev main_v366 : Ref sig .tc := ⟨.hbm, 461, rfl⟩
abbrev main_v367 : Ref sig .tc := ⟨.hbm, 462, rfl⟩
abbrev main_v368 : Ref sig .tc := ⟨.hbm, 463, rfl⟩
abbrev main_v369 : Ref sig .tc := ⟨.hbm, 464, rfl⟩
abbrev main_cst_46 : Ref sig .tc := ⟨.hbm, 465, rfl⟩
abbrev main_v370 : Ref sig .tc := ⟨.hbm, 466, rfl⟩
abbrev main_cst_47 : Ref sig .tc := ⟨.hbm, 467, rfl⟩
abbrev main_v371 : Ref sig .tc := ⟨.hbm, 468, rfl⟩
abbrev main_v372 : Ref sig .tc := ⟨.hbm, 469, rfl⟩
abbrev main_cst_48 : Ref sig .tc := ⟨.hbm, 470, rfl⟩
abbrev main_v373 : Ref sig .tc := ⟨.hbm, 471, rfl⟩
abbrev main_v374 : Ref sig .tc := ⟨.hbm, 472, rfl⟩
abbrev main_v375 : Ref sig .tc := ⟨.hbm, 473, rfl⟩
abbrev main_cst_49 : Ref sig .tc := ⟨.hbm, 474, rfl⟩
abbrev main_v376 : Ref sig .tc := ⟨.hbm, 475, rfl⟩
abbrev main_v377 : Ref sig .tc := ⟨.hbm, 476, rfl⟩
abbrev main_v378 : Ref sig .tc := ⟨.hbm, 477, rfl⟩
abbrev main_v379 : Ref sig .tc := ⟨.hbm, 478, rfl⟩
abbrev main_cst_50 : Ref sig .tc := ⟨.hbm, 479, rfl⟩
abbrev main_v380 : Ref sig .tc := ⟨.hbm, 480, rfl⟩
abbrev main_v381 : Ref sig .tc := ⟨.hbm, 481, rfl⟩
abbrev main_cst_51 : Ref sig .tc := ⟨.hbm, 482, rfl⟩
abbrev main_v382 : Ref sig .tc := ⟨.hbm, 483, rfl⟩
abbrev main_v383 : Ref sig .tc := ⟨.hbm, 484, rfl⟩
abbrev main_v384 : Ref sig .tc := ⟨.hbm, 485, rfl⟩
abbrev main_v385 : Ref sig .tc := ⟨.hbm, 486, rfl⟩
abbrev main_v386 : Ref sig .tc := ⟨.hbm, 487, rfl⟩
abbrev main_cst_52 : Ref sig .tc := ⟨.hbm, 488, rfl⟩
abbrev main_v387 : Ref sig .tc := ⟨.hbm, 489, rfl⟩
abbrev main_v388 : Ref sig .tc := ⟨.hbm, 490, rfl⟩
abbrev main_cst_53 : Ref sig .tc := ⟨.hbm, 491, rfl⟩
abbrev main_v389 : Ref sig .tc := ⟨.hbm, 492, rfl⟩
abbrev main_v390 : Ref sig .tc := ⟨.hbm, 493, rfl⟩
abbrev main_v391 : Ref sig .tc := ⟨.hbm, 494, rfl⟩
abbrev main_v392 : Ref sig .tc := ⟨.hbm, 495, rfl⟩
abbrev main_v393 : Ref sig .tc := ⟨.hbm, 496, rfl⟩
abbrev main_v394 : Ref sig .tc := ⟨.hbm, 497, rfl⟩
abbrev main_v395 : Ref sig .tc := ⟨.hbm, 498, rfl⟩
abbrev main_v396 : Ref sig .tc := ⟨.hbm, 499, rfl⟩
abbrev main_v397 : Ref sig .tc := ⟨.hbm, 500, rfl⟩
abbrev main_cst_54 : Ref sig .tc := ⟨.hbm, 501, rfl⟩
abbrev main_v398 : Ref sig .tc := ⟨.hbm, 502, rfl⟩
abbrev main_v399 : Ref sig .tc := ⟨.hbm, 503, rfl⟩
abbrev main_v400 : Ref sig .tc := ⟨.hbm, 504, rfl⟩
abbrev main_v401 : Ref sig .tc := ⟨.hbm, 505, rfl⟩
abbrev main_v402 : Ref sig .tc := ⟨.hbm, 506, rfl⟩
abbrev main_cst_55 : Ref sig .tc := ⟨.hbm, 507, rfl⟩
abbrev main_v403 : Ref sig .tc := ⟨.hbm, 508, rfl⟩
abbrev main_v404 : Ref sig .tc := ⟨.hbm, 509, rfl⟩

abbrev nD : Nat := 1
abbrev τ : Topo := Topo.v7x

variable {F : FTy → Type} [FloatOps F]
-- ==== DwK.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4096, .bf16⟩
  | .hbm, ⟨3, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S1024x4096, .f32⟩
  | .hbm, ⟨10, _⟩ => ⟨S4096x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Proof.Real.lean ====
/- Extended reals that are real numbers: how the idealized operations act on them, and how a finiteness precondition reads;
   a list of stores read at an index, one store at a time. -/
module

public import Idealize.ShloMosaic.Lib.Pipeline.ValueKit
public import Idealize.ShloMosaic.Lib.WritesUnit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.Rl

/-- The real number under an extended real. -/
abbrev rl (x : EReal) : ℝ := x.toReal

/-- A magnitude below infinity is that of a real number. -/
theorem real_of_abs_lt {x : EReal} (h : max x (-x) < ⊤) : ((rl x : ℝ) : EReal) = x := by
  refine EReal.coe_toReal ?_ ?_
  · rintro rfl; simp at h
  · rintro rfl; simp at h

theorem inf_word : Ideal.ofBits .f32 0x7F800000#32 = ⊤ := by simp [Ideal.ofBits, Ideal.ieee]

/-- A sum of real numbers, summed as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) b := by
  rcases le_total a b with h | h
  · rw [max_eq_right h, max_eq_right (EReal.coe_le_coe_iff.mpr h)]
  · rw [max_eq_left h, max_eq_left (EReal.coe_le_coe_iff.mpr h)]

/-- Division by a real number that is not zero. -/
theorem div_real (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

theorem exp_real (a : ℝ) : Ideal.exp (a : EReal) = ((Real.exp a : ℝ) : EReal) := rfl

theorem exp2_real (a : ℝ) : Ideal.exp2 (a : EReal) = (((2 : ℝ) ^ a : ℝ) : EReal) := rfl

theorem log_real (a : ℝ) (h : 0 < a) : Ideal.log (a : EReal) = ((Real.log a : ℝ) : EReal) := by
  show (if a ≤ 0 then (⊥ : EReal) else (Real.log a : EReal)) = _
  rw [if_neg (not_le.mpr h)]

theorem rsqrt_real (a : ℝ) (h : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr h.le), if_neg h.ne']

/-- An array whose magnitudes all compare below infinity is an array of real numbers. -/
theorem real_of_finite {s : Shape} {x y : FVec Ideal s .f32} (hy : ∀ i, y i = ⊤) (h : cmpf .olt (Host.absf x) y = fun _ => 1#1) :
    ∃ X : s.Idx → ℝ, x = fun i => (X i : EReal) := by
  refine ⟨fun i => rl (x i), funext fun i => (real_of_abs_lt ?_).symm⟩
  have hi : BitVec.ofBool (decide (max (x i) (-(x i)) < y i)) = 1#1 := congrFun h i
  rw [hy i] at hi
  by_contra hn
  rw [decide_eq_false hn] at hi
  exact absurd hi (by decide)

section Stores

variable {Val : EltTy → Type} {s : Shape} {e : EltTy}

/-- Under the newest store's rectangle the contents are its payload. -/
theorem canon_mem [∀ e, Nonempty (Val e)] {off size : Fin s.rank → ℕ} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact View.canon_cons_emb _ w L x

/-- Off it on some axis they are what the earlier stores left. -/
theorem canon_not_mem [∀ e, Nonempty (Val e)] {off size : Fin s.rank → ℕ} (inb : ∀ a, off a + size a ≤ s.size a)
    (w : (Rect.unit off size inb).shape.Idx → Val e) (L : List (View.Piece Val s e)) (y : s.Idx)
    (a : Fin s.rank) (ha : (y a).val < off a ∨ off a + size a ≤ (y a).val) :
    View.canon ((⟨Rect.unit off size inb, w⟩ : View.Piece Val s e) :: L) y = View.canon L y := by
  refine View.canon_cons_of_not_mem _ L ?_
  show y ∉ (Rect.unit off size inb).set
  rw [Rect.mem_set_unit]
  intro hall
  have := hall a
  omega

/-- A load of what one store of the whole array left. -/
theorem readCov_whole [∀ e, Nonempty (Val e)] {sig : RefSig} {κ : Kind} {sp : Space} (v : View sig κ sp s e) {off : Fin s.rank → ℕ}
    (inb : ∀ a, off a + s.size a ≤ s.size a) (w : s.Idx → Val e) (h : ∀ a, off a = 0) (r : Rect s) :
    v.readCov [(⟨Rect.unit off s.size inb, w⟩ : View.Piece Val s e)] r.toLoadRect = View.ld w r := by
  rw [View.readCov_eq_canon_ld, View.canon_cons_unit_lit' inb w [] h]
  intro y
  refine ⟨_, List.mem_singleton_self _, ?_⟩
  show y ∈ (Rect.unit off s.size inb).set
  rw [Rect.mem_set_unit]
  intro a
  have := (y a).isLt
  have := h a
  omega

/-- A load through a rectangle, at an index of the array. -/
theorem ld_at {off size : Fin s.rank → ℕ} (inb : ∀ a, off a + size a ≤ s.size a) (X : s.Idx → Val e)
    (x : (Rect.unit off size inb).shape.Idx) (y : s.Idx) (hx : ∀ a, (y a).val = off a + (x a).val) :
    View.ld X (Rect.unit off size inb) x = X y := by
  show X ((Rect.unit off size inb).emb x) = X y
  congr 1
  exact funext fun a => Fin.ext (by
    show off a + 1 * (x a).val = (y a).val
    rw [hx a, Nat.one_mul])

end Stores

end Cert.Rl

end
-- ==== Proof.GateValue.lean ====
module

public import proofs.«01_k».proof.Proof.Gen.GateKIdeal.Value
public import proofs.«01_k».proof.Proof.Real

@[expose] public section

set_option maxRecDepth 16384

noncomputable section

open Idealize.ShloMosaic Idealize.ShloMosaic.TcCoe Idealize.SL.Sem
open Idealize.ShloMosaic.Pipeline (Dat)

namespace Cert.GateKIdeal.Final

open Cert.GateKIdeal Cert.GateKIdeal.Gen

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

/-- The three input blocks of a point. -/
abbrev X0 (c : Dev nD) (t : Fin cfg0.N) : FVec Ideal S512x1024 .f32 := iblk m c 0 t
abbrev X1 (c : Dev nD) (t : Fin cfg0.N) : FVec Ideal S512x1024 .bf16 := iblk m c 1 t
abbrev X2 (c : Dev nD) (t : Fin cfg0.N) : FVec Ideal S6x1024 .f32 := iblk m c 2 t

/-- What a point adds to the gate's gradient: its 512 rows' products, on row 0 alone. -/
def part (c : Dev nD) (t : Fin cfg0.N) (y : S8x1024.Idx) : EReal :=
  if (y 0).val = 0 then ∑ r : Fin 512, X0 m c t (ix2 r (y 1)) * X1 m c t (ix2 r (y 1)) else 0

theorem pay4_read (x0 : FVec Ideal S512x1024 .f32) (a : FVec Ideal S1x1024 .f32) (x1 : FVec Ideal S512x1024 .bf16) (i : Fin 1) (j : Fin 1024) :
    k0_pay4 x0 a x1 (ix2 i j) = a (ix2 i j) + ∑ r : Fin 512, x0 (ix2 r j) * x1 (ix2 r j) := by
  pointwise [k0_pay4, k0_pay2]

theorem outA4 (c : Dev nD) (t : Fin cfg0.N) (h : t.val % 8 = 0) (y : S8x1024.Idx) :
    (outsAt0 m c t.val t.isLt).2 y = 0 + part m c t y := by
  idx_vars y
  rw [outsAt0_A m c t h]; frame_out
  by_cases hi : y0.val = 0
  · rw [Rl.canon_mem _ _ _ _ (ix2 (0 : Fin 1) y1) (by intro a; fin_cases a; exacts [hi, (Nat.zero_add _).symm]), pay4_read, Rl.readCov_whole _ _ _ (by decide)]
    rw [Rl.ld_at _ _ _ (ix2 y0 y1) (by intro a; fin_cases a; exacts [hi, (Nat.zero_add _).symm])]
    pointwise [k0_pay1, part]
    rw [if_pos hi]
  · rw [Rl.canon_not_mem _ _ _ _ (0 : Fin 2) (Or.inr (by simpa using Nat.one_le_iff_ne_zero.mpr hi)), View.canon_cons_unit_lit' _ _ _ (by decide)]
    pointwise [k0_pay1, part]
    rw [if_neg hi]

theorem outB4 (c : Dev nD) (t : Fin cfg0.N) (h : ¬ t.val % 8 = 0) (y : S8x1024.Idx) :
    (outsAt0 m c t.val t.isLt).2 y = (outsAt0 m c (t.val - 1) (Nat.lt_of_le_of_lt (Nat.sub_le _ _) t.isLt)).2 y + part m c t y := by
  idx_vars y
  rw [outsAt0_B m c t h]; frame_out
  by_cases hi : y0.val = 0
  · rw [View.read_writes_cons_unit_of_mem _ _ _ _ _ _ (ix2 (0 : Fin 1) y1) rfl (by intro a; fin_cases a; exacts [hi, (Nat.zero_add _).symm])]
    rw [pay4_read]
    rw [Rl.ld_at _ _ _ (ix2 y0 y1) (by intro a; fin_cases a; exacts [hi, (Nat.zero_add _).symm])]
    pointwise [part]
    rw [if_pos hi]
  · rw [View.read_writes_cons_unit_of_not_mem _ _ _ _ _ _ rfl (0 : Fin 2) (Or.inr (by simpa using Nat.one_le_iff_ne_zero.mpr hi))]
    pointwise [part]
    rw [if_neg hi]
    erw [Memref.IsWhole.read_unread, add_zero]

theorem outA3 (c : Dev nD) (t : Fin cfg0.N) (h : t.val % 8 = 0) (y : S512x1024.Idx) :
    (outsAt0 m c t.val t.isLt).1 y = X0 m c t y * X2 m c t (ix2 5 (y 1)) := by
  idx_vars y
  rw [outsAt0_A m c t h]; frame_out
  pointwise [k0_pay3, k0_pay2]

theorem outB3 (c : Dev nD) (t : Fin cfg0.N) (h : ¬ t.val % 8 = 0) (y : S512x1024.Idx) :
    (outsAt0 m c t.val t.isLt).1 y = X0 m c t y * X2 m c t (ix2 5 (y 1)) := by
  idx_vars y
  rw [outsAt0_B m c t h]; frame_out
  pointwise [k0_pay3, k0_pay2]

/-- The product and the gate rows, as the kernel's region finds them. -/
abbrev Vm (c : Dev nD) : FVec Ideal S4096x1024 .f32 := V m c main_v7
abbrev Vw (c : Dev nD) : FVec Ideal S4096x1024 .bf16 := V m c main_v8
abbrev Vg (c : Dev nD) : FVec Ideal S6x1024 .f32 := V m c main_arg2

theorem row_lt (t : Fin cfg0.N) (r : Fin 512) : t.val * 512 + r.val < 4096 := by
  have := lt_of_lt_of_eq t.isLt N_0; omega

theorem X0_at (c : Dev nD) (t : Fin cfg0.N) (r : Fin 512) (j : Fin 1024) : X0 m c t (ix2 r j) = Vm m c (ix2 ⟨t.val * 512 + r.val, row_lt t r⟩ j) := by
  blk_ext [iblk, V, idx t]

theorem X1_at (c : Dev nD) (t : Fin cfg0.N) (r : Fin 512) (j : Fin 1024) : X1 m c t (ix2 r j) = Vw m c (ix2 ⟨t.val * 512 + r.val, row_lt t r⟩ j) := by
  blk_ext [iblk, V, idx t]

theorem X2_at (c : Dev nD) (t : Fin cfg0.N) (i : Fin 6) (j : Fin 1024) : X2 m c t (ix2 i j) = Vg m c (ix2 i j) := by
  blk_ext [iblk, V, idx t]

theorem out3 (c : Dev nD) (t : Fin cfg0.N) (y : S512x1024.Idx) :
    (outsAt0 m c t.val t.isLt).1 y = X0 m c t y * X2 m c t (ix2 5 (y 1)) := by
  by_cases h : t.val % 8 = 0
  exacts [outA3 m c t h y, outB3 m c t h y]

theorem final3 (c : Dev nD) : (show FVec Ideal S4096x1024 .f32 from (dats m 0 c).arrAt 3 cfg0.N) = fun y => Vm m c y * Vg m c (ix2 5 (y 1)) := by
  refine (dats m 0 c).arrAt_eq_of_covers 3 _ (by decide +kernel) fun t hf y => ?_
  rw [after0_3, out3 m c t]
  simp only [cast_eq]
  congr 1 <;> blk_ext [iblk, V, idx t]

/-- The eight points' parts together. -/
theorem sum_part (c : Dev nD) (y : S8x1024.Idx) : ∑ p : Fin cfg0.N, part m c p y
    = if (y 0).val = 0 then ∑ k : Fin 4096, Vm m c (ix2 k (y 1)) * Vw m c (ix2 k (y 1)) else 0 := by
  idx_vars y
  by_cases hj : y0.val = 0
  · refine Eq.trans (Finset.sum_congr rfl fun p _ => if_pos hj) (Eq.trans ?_ (if_pos hj).symm)
    refine Eq.trans (Finset.sum_congr rfl fun t _ => Finset.sum_congr rfl fun r _ => ?_) (Fin.sum_univ_tiles 8 512 rfl (fun k : Fin 4096 => Vm m c (ix2 k y1) * Vw m c (ix2 k y1))).symm
    exact congrArg₂ (· * ·) (X0_at m c t r y1) (X1_at m c t r y1)
  · exact (Finset.sum_congr rfl fun p _ => if_neg hj).trans (Finset.sum_const_zero.trans (if_neg hj).symm)

theorem final4 (c : Dev nD) : (show FVec Ideal S8x1024 .f32 from (dats m 0 c).arrAt 4 cfg0.N) = fun y => if (y 0).val = 0 then ∑ k : Fin 4096, Vm m c (ix2 k (y 1)) * Vw m c (ix2 k (y 1)) else 0 := by
  refine (dats m 0 c).arrAt_eq_of_after_last 4 t0_7 (by decide +kernel) _ fun j => ?_
  rw [after0_4, Pipeline.eq_sum_fin_of_reset_step_apply_last (fun n h => (outsAt0 m c n h).2) 8 (fun _ => 0) (part m c) (outA4 m c) (outB4 m c) (le_of_eq N_0) t0_7 rfl, zero_add]
  simp only [cast_eq]
  exact sum_part m c j

end Cert.GateKIdeal.Final

end
-- ==== Proof.GateClaims.lean ====
/- The gate's gradient: the kernel's two results and the reference's agree where the arguments are finite. -/
module

public import proofs.«01_k».proof.Defs
public import proofs.«01_k».proof.Proof.GateValue
public import proofs.«01_k».proof.Proof.Gen.GateRIdeal.Run
public import proofs.«01_k».proof.Proof.Gen.GateRIdeal.Read
public import proofs.«01_k».proof.Proof.Gen.Pre_gate_finite
public import proofs.«01_k».proof.Proof.Gen.GateK.Frame

@[expose] public section

set_option maxRecDepth 16384

noncomputable section

open Idealize.ShloMosaic Idealize.ShloMosaic.TcCoe Idealize.SL.Sem

namespace Cert.Proof.GateClaims

open Cert.GateKIdeal Cert.GateKIdeal.Gen Cert.GateKIdeal.Final

section Entry

variable (m : (ℓ : Loc nD τ sig) → Buf (Elt Ideal) ℓ) (c : Dev nD)

abbrev A0 : FVec Ideal S8192x4096 .f32 := m ((c.tc : Thread nD τ).loc main_arg0)
abbrev A1 : FVec Ideal S4096x1024 .f32 := m ((c.tc : Thread nD τ).loc main_arg1)
abbrev A2 : FVec Ideal S6x1024 .f32 := m ((c.tc : Thread nD τ).loc main_arg2)
abbrev A3 : FVec Ideal S8192x1024 .f32 := m ((c.tc : Thread nD τ).loc main_arg3)

theorem Vm_at (i : Fin 4096) (j : Fin 1024) : Vm m c (ix2 i j)
    = ∑ s : Fin 8192, max (A0 m c (ix2 s i)) 0 * max (A0 m c (ix2 s i)) 0 * A3 m c (ix2 s j) := by
  show (V m c main_v7 : FVec Ideal S4096x1024 .f32) (ix2 i j) = _
  entry_read
  pointwise

theorem Vw_at (i : Fin 4096) (j : Fin 1024) : Vw m c (ix2 i j) = A1 m c (ix2 i j) := by
  show (V m c main_v8 : FVec Ideal S4096x1024 .bf16) (ix2 i j) = _
  entry_read
  pointwise

theorem Vg_at (i : Fin 6) (j : Fin 1024) : Vg m c (ix2 i j) = A2 m c (ix2 i j) := by
  show (V m c main_arg2 : FVec Ideal S6x1024 .f32) (ix2 i j) = _
  entry_read
  rfl

end Entry

/-- Over real numbers the gate row leaves the sum over tokens. -/
theorem dw_real {ι : Type*} (s : Finset ι) (h x : ι → ℝ) (g : ℝ) :
    (∑ i ∈ s, max (h i : EReal) 0 * max (h i : EReal) 0 * (x i : EReal)) * (g : EReal)
      = ∑ i ∈ s, (g : EReal) * (x i : EReal) * (max (h i : EReal) 0 * max (h i : EReal) 0) := by
  simp only [← EReal.coe_zero, ← EReal.coe_mul, ← Rl.coe_sum, ← Rl.coe_max]
  rw [Finset.sum_mul]
  exact congrArg _ (Finset.sum_congr rfl fun i _ => by ring)

/-- Over real numbers the sum over hidden columns and the sum over tokens exchange. -/
theorem dg_real {ι κ : Type*} (s : Finset ι) (t : Finset κ) (h : ι → κ → ℝ) (x : ι → ℝ) (w : κ → ℝ) :
    ∑ k ∈ t, (∑ i ∈ s, max (h i k : EReal) 0 * max (h i k : EReal) 0 * (x i : EReal)) * (w k : EReal)
      = ∑ i ∈ s, (x i : EReal) * ∑ k ∈ t, max (h i k : EReal) 0 * max (h i k : EReal) 0 * (w k : EReal) := by
  simp only [← EReal.coe_zero, ← EReal.coe_mul, ← Rl.coe_sum, ← Rl.coe_max]
  simp only [Finset.sum_mul, Finset.mul_sum]
  rw [Finset.sum_comm]
  exact congrArg _ (Finset.sum_congr rfl fun i _ => Finset.sum_congr rfl fun k _ => by ring)

/-- The precondition: every argument is an array of real numbers. -/
theorem reals (m : (ℓ : Loc nD τ sig) → Buf (Elt Ideal) ℓ) (h : Cert.Pre_GateKIdeal_gate_finite m) (c : Dev nD) :
    (∃ X : S8192x4096.Idx → ℝ, A0 m c = fun i => (X i : EReal)) ∧ (∃ X : S4096x1024.Idx → ℝ, A1 m c = fun i => (X i : EReal))
      ∧ (∃ X : S6x1024.Idx → ℝ, A2 m c = fun i => (X i : EReal)) ∧ (∃ X : S8192x1024.Idx → ℝ, A3 m c = fun i => (X i : EReal)) := by
  obtain ⟨h0, h1, h2, h3⟩ := h c
  exact ⟨Rl.real_of_finite (fun _ => Rl.inf_word) h0, Rl.real_of_finite (fun _ => Rl.inf_word) h1,
    Rl.real_of_finite (fun _ => Rl.inf_word) h2, Rl.real_of_finite (fun _ => Rl.inf_word) h3⟩

/-- At `Ideal` the kernel's results and the reference's agree. -/
theorem algebraic : Cert.algebraic_GateKIdeal_GateRIdeal_pre_gate_finite := by
  pair_intro
  · run_from Cert.GateKIdeal.Value.run_blocks m g
  · run_from Cert.GateRIdeal.Value.run m' g'
    · obtain ⟨⟨X0, h0⟩, -, ⟨X2, h2⟩, ⟨X3, h3⟩⟩ := reals m hpre c
      refine Eq.trans ?_ (final3 m c).symm
      funext y
      idx_vars y
      refine Eq.trans ?_ (congrArg₂ (· * ·) (Vm_at m c y0 y1) (Vg_at m c 5 y1)).symm
      rw [show m (c.tc.loc main_arg0) = _ from h0, show m (c.tc.loc main_arg2) = _ from h2, show m (c.tc.loc main_arg3) = _ from h3, h0, h2, h3]
      refine Eq.trans ?_ (dw_real _ _ _ _).symm
      pointwise!
    · rw [(hagree c).2.2.2]
      obtain ⟨⟨X0, h0⟩, ⟨X1, h1⟩, -, ⟨X3, h3⟩⟩ := reals m hpre c
      refine Eq.trans ?_ (final4 m c).symm
      funext y
      idx_vars y
      rw [show m (c.tc.loc main_arg0) = _ from h0, show m (c.tc.loc main_arg1) = _ from h1, show m (c.tc.loc main_arg3) = _ from h3]
      by_cases hy : y0.val = 0
      · refine Eq.trans ?_ (if_pos hy).symm
        refine Eq.trans ?_ (Finset.sum_congr rfl fun k _ => congrArg₂ (· * ·) (Vm_at m c k y1) (Vw_at m c k y1)).symm
        rw [h0, h1, h3]
        refine Eq.trans ?_ (dg_real _ _ _ _ _).symm
        pointwise
        rw [dif_pos (by omega)]
        exact Fin.sum_univ_one _
      · refine Eq.trans ?_ (if_neg hy).symm
        pointwise
        rw [dif_neg (by omega)]

theorem frame_r : Cert.quiescent_GateRIdeal := by
  intro m g _
  run_from Cert.GateRIdeal.Value.run m g
  · exact fun c => ⟨trivial, trivial, trivial, trivial⟩
  · exact sem_eq_zero_of_no_sems rfl _

end Cert.Proof.GateClaims

end
-- ==== Proof.AttnSpec.lean ====
/- Attention's gradient in the real numbers: what both programs compute, with the equations the two sides use. -/
module

public import proofs.«01_k».proof.Proof.Real
public import Idealize.ShloMosaic.Lib.StableHlo.ReadAt
public import Idealize.ShloMosaic.Lib.Pipeline.Frame

@[expose] public section

noncomputable section

open Idealize.ShloMosaic Idealize.ShloMosaic.TcCoe

namespace Cert.Attn

/-- The arguments: queries of head `4 kv + g`, keys and values of head `kv`, the cotangent of the output. -/
structure Args where
  q : Fin 8192 → Fin 2 → Fin 4 → Fin 64 → ℝ
  k : Fin 8192 → Fin 2 → Fin 64 → ℝ
  v : Fin 8192 → Fin 2 → Fin 64 → ℝ
  ct : Fin 8192 → Fin 2 → Fin 4 → Fin 64 → ℝ

variable (a : Args)

/-- the scaled score of query row `r` and key row `x` -/
def sc (kv : Fin 2) (g : Fin 4) (r x : Fin 8192) : ℝ := (∑ d, a.q r kv g d * a.k x kv d) * (1 / 8)

/-- the softmax weights -/
def P (kv : Fin 2) (g : Fin 4) (r x : Fin 8192) : ℝ := Real.exp (sc a kv g r x) / ∑ x', Real.exp (sc a kv g r x')

/-- the gradient with respect to the weights -/
def dp (kv : Fin 2) (g : Fin 4) (r x : Fin 8192) : ℝ := ∑ d, a.ct r kv g d * a.v x kv d

/-- the gradient with respect to the scores -/
def ds (kv : Fin 2) (g : Fin 4) (r x : Fin 8192) : ℝ := P a kv g r x * (dp a kv g r x - ∑ x', P a kv g r x' * dp a kv g r x')

/-- the three gradients -/
def gq (r : Fin 8192) (kv : Fin 2) (g : Fin 4) (d : Fin 64) : ℝ := ∑ x, ds a kv g r x * a.k x kv d
def gk (x : Fin 8192) (kv : Fin 2) (d : Fin 64) : ℝ := (∑ r, ∑ g, ds a kv g r x * a.q r kv g d) * (1 / 8) / Real.log 2
def gv (x : Fin 8192) (kv : Fin 2) (d : Fin 64) : ℝ := ∑ g, ∑ r, a.ct r kv g d * P a kv g r x

/-- Softmax does not see a shift of the scores. -/
theorem softmax_shift {ι : Type*} [Fintype ι] (s : ι → ℝ) (M : ℝ) (x : ι) :
    Real.exp (s x - M) / ∑ x', Real.exp (s x' - M) = Real.exp (s x) / ∑ x', Real.exp (s x') := by
  simp only [Real.exp_sub, ← Finset.sum_div]
  rw [div_div_div_cancel_right₀ (Real.exp_ne_zero M)]

theorem sum_exp_pos {n : ℕ} (hn : 0 < n) (s : Fin n → ℝ) : 0 < ∑ x, Real.exp (s x) :=
  Finset.sum_pos (fun _ _ => Real.exp_pos _) ⟨⟨0, hn⟩, Finset.mem_univ _⟩

/-- A maximum over real numbers, taken from −∞, is a real number. -/
theorem fold_max_real {ι : Type*} (s : Finset ι) (hs : s.Nonempty) (f : ι → ℝ) :
    ∃ M : ℝ, Finset.fold max (⊥ : EReal) (fun x => (f x : EReal)) s = M := by
  classical
  induction hs using Finset.Nonempty.cons_induction with
  | singleton b => exact ⟨f b, by simp⟩
  | cons b s hb hs ih =>
    obtain ⟨M, hM⟩ := ih
    exact ⟨max (f b) M, by rw [Finset.fold_cons, hM, Rl.coe_max]⟩

theorem neg_inf_word : Ideal.ofBits .f32 0xFF800000#32 = ⊥ := by simp [Ideal.ofBits, Ideal.ieee]
theorem eighth_word : Ideal.ofBits .f32 0x3E000000#32 = ((1 / 8 : ℝ) : EReal) := by
  simp [Ideal.ofBits, Ideal.ieee]
  rw [← EReal.coe_mul, EReal.coe_eq_coe_iff]
  norm_num
theorem eight_word : Ideal.ofBits .f32 0x41000000#32 = ((8 : ℝ) : EReal) := by
  simp [Ideal.ofBits, Ideal.ieee]
  rw [← EReal.coe_mul, EReal.coe_eq_coe_iff]
  norm_num
theorem two_word : Ideal.ofBits .f32 0x40000000#32 = ((2 : ℝ) : EReal) := by
  simp [Ideal.ofBits, Ideal.ieee]
  rw [← EReal.coe_mul, EReal.coe_eq_coe_iff]
  norm_num

theorem log_two_pos : 0 < Real.log 2 := Real.log_pos (by norm_num)

/-- The contents after the first `b` operations, from those after the first `a`. -/
theorem upto_step {τ : Topo} {sig : RefSig} {Val : EltTy → Type} (l : List (HloOp τ sig Val)) (V : Idealize.ShloMosaic.Valuation τ sig Val)
    (a b : ℕ) (h : a ≤ b) : StableHlo.upto l V b = StableHlo.after ((l.take b).drop a) (StableHlo.upto l V a) := by
  unfold StableHlo.upto
  rw [← StableHlo.after_append]
  congr 1
  have := List.take_append_drop a (l.take b)
  rw [List.take_take, min_eq_left h] at this
  exact this.symm

end Cert.Attn

end
-- ==== Proof.AttnHost.lean ====
/- The kernel's host lines: the saved values of attention's forward pass (output, row log-sums, row sums), read stage by stage. -/
module

public import proofs.«01_k».proof.Proof.Gen.AttnKIdeal.Value
public import proofs.«01_k».proof.Proof.AttnSpec

@[expose] public section

set_option maxRecDepth 16384

noncomputable section

open Idealize.ShloMosaic Idealize.ShloMosaic.TcCoe Idealize.SL.Sem
open Idealize.ShloMosaic.Pipeline (Dat)

namespace Cert.AttnKIdeal.Final

open Cert.AttnKIdeal Cert.AttnKIdeal.Gen Cert.Attn

/-- the host's operations from the `i`-th up to the `j`-th -/
abbrev seg (i j : ℕ) : List (HloOp τ sig (Elt Ideal)) := ((hostOps0 (F := Ideal)).take j).drop i

/-- the running maximum after a chunk whose scores are `T` -/
def rowMax (mo : FVec Ideal S2x4x1x8192 .f32) (T : FVec Ideal S2x4x2048x8192 .f32) : FVec Ideal S2x4x1x8192 .f32 :=
  maximumf mo (broadcastInDim S2x4x1x8192 ![0, 1, 3] bcast_S2x4x8192_S2x4x1x8192_0_1_3
    (Host.reduce FloatOps.maximumf T (constant S_ .f32 0xFF800000#32) reducesTo_S2x4x2048x8192_S2x4x8192_d2 h_S_))

theorem over_keys (T : FVec Ideal S2x4x2048x8192 .f32) (v : FVec Ideal S_ .f32) (kv : Fin 2) (g : Fin 4) (r : Fin 8192) :
    (Host.reduce FloatOps.maximumf T v reducesTo_S2x4x2048x8192_S2x4x8192_d2 h_S_) (ix3 kv g r)
      = Finset.fold max (v (Shape.Idx.first h_S_)) (fun x => T (ix4 kv g x r)) Finset.univ := by
  pointwise

theorem as_row (T : FVec Ideal S2x4x8192 .f32) (kv : Fin 2) (g : Fin 4) (x : Fin 1) (r : Fin 8192) :
    (broadcastInDim S2x4x1x8192 ![0, 1, 3] bcast_S2x4x8192_S2x4x1x8192_0_1_3 T) (ix4 kv g x r) = T (ix3 kv g r) := by
  pointwise

theorem rowMax_at (mo : FVec Ideal S2x4x1x8192 .f32) (T : FVec Ideal S2x4x2048x8192 .f32) (kv : Fin 2) (g : Fin 4) (x : Fin 1) (r : Fin 8192) :
    rowMax mo T (ix4 kv g x r)
      = max (mo (ix4 kv g x r)) (Finset.fold max (Ideal.ofBits .f32 0xFF800000#32) (fun x => T (ix4 kv g x r)) Finset.univ) :=
  congrArg (max (mo (ix4 kv g x r))) ((as_row _ kv g x r).trans (over_keys T _ kv g r))

variable (a : Args)

/-- the queries' factor: the scale over log 2, since the kernel works with powers of two -/
def qs : ℝ := 1 / 8 / Real.log 2

/-- the scores to base two, by key row -/
def s2 (kv : Fin 2) (g : Fin 4) (r x : Fin 8192) : ℝ := ∑ d, a.q r kv g d * qs * a.k x kv d
def s2N (kv : Fin 2) (g : Fin 4) (r : Fin 8192) (x : ℕ) : ℝ := if h : x < 8192 then s2 a kv g r ⟨x, h⟩ else 0

/-- the values with a column of ones -/
def v1 (x : Fin 8192) (kv : Fin 2) (e : Fin 65) : ℝ := if h : e.val < 64 then a.v x kv ⟨e.val, h⟩ else 1
def v1N (x : ℕ) (kv : Fin 2) (e : Fin 65) : ℝ := if h : x < 8192 then v1 a ⟨x, h⟩ kv e else 0

/-- the weighted sum over the first `n` keys, shifted by `M` -/
def part (n : ℕ) (M : ℝ) (kv : Fin 2) (g : Fin 4) (e : Fin 65) (r : Fin 8192) : ℝ :=
  ∑ x ∈ Finset.range n, Real.exp ((s2N a kv g r x - M) * Real.log 2) * v1N a x kv e

/-- After the first `n` keys: `mo` is the shift, `acc` the weighted sum. -/
structure Inv (n : ℕ) (X : Idealize.ShloMosaic.Valuation τ sig (Elt Ideal)) (mo : FVec Ideal S2x4x1x8192 .f32) (acc : FVec Ideal S2x4x65x8192 .f32) : Prop where
  l : (show FVec Ideal S_ .f32 from X (Proc.devRef .tc main_v0)) ix0 = ((Real.log 2 : ℝ) : EReal)
  q : ∀ (r : Fin 8192) (kv : Fin 2) (g : Fin 4) (d : Fin 64),
    (show FVec Ideal S8192x2x4x64 .bf16 from X (Proc.devRef .tc main_v21)) (ix4 r kv g d) = ((a.q r kv g d * qs : ℝ) : EReal)
  k : ∀ (x : Fin 8192) (kv : Fin 2) (d : Fin 64),
    (show FVec Ideal S8192x2x64 .bf16 from X (Proc.devRef .tc main_v23)) (ix3 x kv d) = (a.k x kv d : EReal)
  v : ∀ (x : Fin 8192) (kv : Fin 2) (d : Fin 64),
    (show FVec Ideal S1x8192x2x64 .f32 from X (Proc.devRef .tc main_arg2)) (ix4 0 x kv d) = (a.v x kv d : EReal)
  run : ∃ M : Fin 2 → Fin 4 → Fin 8192 → ℝ, ∀ kv g r, mo (ix4 kv g 0 r) = (M kv g r : EReal)
    ∧ ∀ e, acc (ix4 kv g e r) = (part a n (M kv g r) kv g e r : EReal)

/-- The chunk's real arithmetic: old weights rescaled to the new shift, and the chunk's own. -/
theorem part_step (n : ℕ) (Mo Mn : ℝ) (kv : Fin 2) (g : Fin 4) (e : Fin 65) (r : Fin 8192) :
    Real.exp ((Mo - Mn) * Real.log 2) * part a n Mo kv g e r
      + ∑ x : Fin 2048, Real.exp ((s2N a kv g r (n + x.val) - Mn) * Real.log 2) * v1N a (n + x.val) kv e
    = part a (n + 2048) Mn kv g e r := by
  unfold part
  rw [Finset.sum_range_add, Finset.mul_sum, Finset.sum_range (n := 2048)]
  refine congrArg (· + _) (Finset.sum_congr rfl fun x _ => ?_)
  rw [← mul_assoc, ← Real.exp_add]
  congr 2
  ring

/-- One chunk of 2048 keys keeps the invariant. -/
theorem chunk (n : ℕ) (hn : n + 2048 ≤ 8192) (X Y : Idealize.ShloMosaic.Valuation τ sig (Elt Ideal))
    (mo mn : FVec Ideal S2x4x1x8192 .f32) (acc acc' : FVec Ideal S2x4x65x8192 .f32) (h : Inv a n X mo acc)
    (T : FVec Ideal S2x4x2048x8192 .f32) (W : FVec Ideal S2048x2x65 .bf16)
    (y0 : Y (Proc.devRef .tc main_v0) = X (Proc.devRef .tc main_v0))
    (y1 : Y (Proc.devRef .tc main_v21) = X (Proc.devRef .tc main_v21))
    (y2 : Y (Proc.devRef .tc main_v23) = X (Proc.devRef .tc main_v23))
    (y3 : Y (Proc.devRef .tc main_arg2) = X (Proc.devRef .tc main_arg2))
    (hT : ∀ kv g (x : Fin 2048) r, T (ix4 kv g x r) = ∑ d, (show FVec Ideal S8192x2x4x64 .bf16 from X (Proc.devRef .tc main_v21)) (ix4 r kv g d)
      * (show FVec Ideal S8192x2x64 .bf16 from X (Proc.devRef .tc main_v23)) (ix3 ⟨n + x.val, by omega⟩ kv d))
    (hW : ∀ (x : Fin 2048) kv (e : Fin 65), W (ix3 x kv e) = if h : e.val < 64 then
      (show FVec Ideal S1x8192x2x64 .f32 from X (Proc.devRef .tc main_arg2)) (ix4 0 ⟨n + x.val, by omega⟩ kv ⟨e.val, h⟩) else 1)
    (hm : mn = rowMax mo T)
    (ha : ∀ kv g e r, acc' (ix4 kv g e r)
      = Ideal.exp ((mo (ix4 kv g 0 r) - mn (ix4 kv g 0 r)) * (show FVec Ideal S_ .f32 from X (Proc.devRef .tc main_v0)) ix0) * acc (ix4 kv g e r)
        + ∑ x : Fin 2048, Ideal.exp ((T (ix4 kv g x r) - mn (ix4 kv g 0 r)) * (show FVec Ideal S_ .f32 from X (Proc.devRef .tc main_v0)) ix0) * W (ix3 x kv e)) :
    Inv a (n + 2048) Y mn acc' := by
  obtain ⟨M, hM⟩ := h.run
  have hT' : ∀ kv g (x : Fin 2048) r, T (ix4 kv g x r) = (s2N a kv g r (n + x.val) : EReal) := fun kv g x r => by
    rw [hT, s2N, dif_pos (show n + x.val < 8192 by omega), s2, Rl.coe_sum]
    refine Finset.sum_congr rfl fun d _ => ?_
    rw [EReal.coe_mul, ← h.q, ← h.k]
  have hW' : ∀ (x : Fin 2048) kv (e : Fin 65), W (ix3 x kv e) = (v1N a (n + x.val) kv e : EReal) := fun x kv e => by
    rw [hW, v1N, dif_pos (show n + x.val < 8192 by omega), v1]
    by_cases he : e.val < 64
    · rw [dif_pos he, dif_pos he, ← h.v]
    · rw [dif_neg he, dif_neg he, EReal.coe_one]
  have hmn : ∀ kv g r, ∃ N : ℝ, mn (ix4 kv g 0 r) = (N : EReal) := fun kv g r => by
    obtain ⟨N, hN⟩ := fold_max_real (Finset.univ : Finset (Fin 2048)) ⟨0, Finset.mem_univ _⟩ (fun x => s2N a kv g r (n + x.val))
    refine ⟨max (M kv g r) N, ?_⟩
    rw [hm, rowMax_at, neg_inf_word, (hM kv g r).1, Rl.coe_max, ← hN]
    simp only [hT']
  choose N hN using hmn
  refine ⟨by rw [y0]; exact h.l, by rw [y1]; exact h.q, by rw [y2]; exact h.k, by rw [y3]; exact h.v, N, fun kv g r => ⟨hN kv g r, fun e => ?_⟩⟩
  have hl := h.l
  dsimp only at hl ha
  rw [ha, hN, (hM kv g r).1, (hM kv g r).2, hl, ← part_step a n (M kv g r)]
  simp only [hT', hW', ← EReal.coe_sub, ← EReal.coe_mul, Rl.exp_real, ← Rl.coe_sum, ← EReal.coe_add]

variable (V : Idealize.ShloMosaic.Valuation τ sig (Elt Ideal))

/-- the contents after the first `n` host operations -/
def S (n : ℕ) : Idealize.ShloMosaic.Valuation τ sig (Elt Ideal) := StableHlo.upto (hostOps0 (F := Ideal)) V n

theorem step (i j : ℕ) (h : i ≤ j) : S V j = StableHlo.after (seg i j) (S V i) := upto_step _ _ _ _ h

/-- The arguments are the real numbers `a`. -/
structure Reals : Prop where
  q : ∀ (r : Fin 8192) (kv : Fin 2) (g : Fin 4) (d : Fin 64),
    (show FVec Ideal S1x8192x8x64 .f32 from V (Proc.devRef .tc main_arg0)) (ix4 0 r ⟨kv.val * 4 + g.val, by omega⟩ d) = (a.q r kv g d : EReal)
  k : ∀ (x : Fin 8192) (kv : Fin 2) (d : Fin 64),
    (show FVec Ideal S1x8192x2x64 .f32 from V (Proc.devRef .tc main_arg1)) (ix4 0 x kv d) = (a.k x kv d : EReal)
  v : ∀ (x : Fin 8192) (kv : Fin 2) (d : Fin 64),
    (show FVec Ideal S1x8192x2x64 .f32 from V (Proc.devRef .tc main_arg2)) (ix4 0 x kv d) = (a.v x kv d : EReal)
  ct : ∀ (r : Fin 8192) (kv : Fin 2) (g : Fin 4) (d : Fin 64),
    (show FVec Ideal S1x8192x512 .f32 from V (Proc.devRef .tc main_arg3)) (ix3 0 r ⟨kv.val * 256 + g.val * 64 + d.val, by omega⟩) = (a.ct r kv g d : EReal)

variable {V a}

theorem log_word : Ideal.log (Ideal.ofBits .f32 0x40000000#32) = ((Real.log 2 : ℝ) : EReal) :=
  (congrArg Ideal.log two_word).trans (Rl.log_real _ (by norm_num))

theorem qs_word : Ideal.div (Ideal.ofBits .f32 0x3E000000#32) (Ideal.log (Ideal.ofBits .f32 0x40000000#32)) = ((qs : ℝ) : EReal) :=
  (congrArg₂ Ideal.div eighth_word log_word).trans (Rl.div_real _ _ log_two_pos.ne')

theorem start_word : ∃ N : ℝ, Ideal.ofBits .f32 0xF149F2CA#32 = (N : EReal) :=
  ⟨-(13234890 * 2 ^ 76), by
    simp [Ideal.ofBits, Ideal.ieee]⟩

theorem S0 : S V 0 = V := StableHlo.upto_zero _ _

/-- Before the first chunk. -/
theorem start (H : Reals a V) : Inv a 0 (S V 30) (S V 30 (Proc.devRef .tc main_v24)) (S V 30 (Proc.devRef .tc main_v25)) := by
  obtain ⟨N, hN⟩ := start_word
  refine ⟨?_, fun r kv g d => ?_, fun x kv d => ?_, fun x kv d => ?_, fun _ _ _ => N, fun kv g r => ⟨?_, fun e => ?_⟩⟩
  · rw [step V 0 30 (by omega), S0]
    dsimp only
    after_reads_at
    exact log_word
  · rw [step V 0 30 (by omega), S0]
    dsimp only
    after_reads_at
    rw [EReal.coe_mul]
    exact congrArg₂ HMul.hMul (H.q r kv g d) qs_word
  · rw [step V 0 30 (by omega), S0]
    dsimp only
    after_reads_at
    exact H.k x kv d
  · rw [step V 0 30 (by omega), S0]
    dsimp only
    after_reads_at
    exact H.v x kv d
  · rw [step V 0 30 (by omega), S0]
    after_reads_at
    exact hN
  · rw [step V 0 30 (by omega), S0]
    after_reads_at
    simp only [part, Finset.range_zero, Finset.sum_empty, EReal.coe_zero]

theorem max0 (X : Idealize.ShloMosaic.Valuation τ sig (Elt Ideal)) :
    (show FVec Ideal S2x4x1x8192 .f32 from StableHlo.after (seg 33 43) X (Proc.devRef .tc main_v36))
      = rowMax (X (Proc.devRef .tc main_v24)) (X (Proc.devRef .tc main_v28)) := by
  dsimp only
  unfold rowMax
  after_reads_simp

theorem sco0 (X : Idealize.ShloMosaic.Valuation τ sig (Elt Ideal)) (kv : Fin 2) (g : Fin 4) (x : Fin 2048) (r : Fin 8192) :
    (show FVec Ideal S2x4x2048x8192 .f32 from StableHlo.after (seg 30 33) X (Proc.devRef .tc main_v28)) (ix4 kv g x r)
      = ∑ d, (show FVec Ideal S8192x2x4x64 .bf16 from X (Proc.devRef .tc main_v21)) (ix4 r kv g d)
      * (show FVec Ideal S8192x2x64 .bf16 from X (Proc.devRef .tc main_v23)) (ix3 ⟨0 + x.val, by omega⟩ kv d) := by
  dsimp only
  after_reads_at

theorem val0 (X : Idealize.ShloMosaic.Valuation τ sig (Elt Ideal)) (x : Fin 2048) (kv : Fin 2) (e : Fin 65) :
    (show FVec Ideal S2048x2x65 .bf16 from StableHlo.after (seg 33 43) X (Proc.devRef .tc main_v33)) (ix3 x kv e)
      = if h : e.val < 64 then (show FVec Ideal S1x8192x2x64 .f32 from X (Proc.devRef .tc main_arg2)) (ix4 0 ⟨0 + x.val, by omega⟩ kv ⟨e.val, h⟩) else 1 := by
  dsimp only
  after_reads_at
  after_reads_at

theorem acc0 (X : Idealize.ShloMosaic.Valuation τ sig (Elt Ideal)) (kv : Fin 2) (g : Fin 4) (e : Fin 65) (r : Fin 8192) :
    (show FVec Ideal S2x4x65x8192 .f32 from StableHlo.after (seg 43 58) X (Proc.devRef .tc main_v51)) (ix4 kv g e r)
      = Ideal.exp (((show FVec Ideal S2x4x1x8192 .f32 from X (Proc.devRef .tc main_v24)) (ix4 kv g 0 r)
          - (show FVec Ideal S2x4x1x8192 .f32 from X (Proc.devRef .tc main_v36)) (ix4 kv g 0 r))
          * (show FVec Ideal S_ .f32 from X (Proc.devRef .tc main_v0)) ix0)
          * (show FVec Ideal S2x4x65x8192 .f32 from X (Proc.devRef .tc main_v25)) (ix4 kv g e r)
        + ∑ x : Fin 2048, Ideal.exp (((show FVec Ideal S2x4x2048x8192 .f32 from X (Proc.devRef .tc main_v28)) (ix4 kv g x r)
          - (show FVec Ideal S2x4x1x8192 .f32 from X (Proc.devRef .tc main_v36)) (ix4 kv g 0 r))
          * (show FVec Ideal S_ .f32 from X (Proc.devRef .tc main_v0)) ix0)
          * (show FVec Ideal S2048x2x65 .bf16 from X (Proc.devRef .tc main_v33)) (ix3 x kv e) := by
  dsimp only
  after_reads_at

/-- What chunk 0 leaves alone. -/
theorem kept0 : S V 58 (Proc.devRef .tc main_v0) = S V 30 (Proc.devRef .tc main_v0)
    ∧ S V 58 (Proc.devRef .tc main_v21) = S V 30 (Proc.devRef .tc main_v21)
    ∧ S V 58 (Proc.devRef .tc main_v23) = S V 30 (Proc.devRef .tc main_v23)
    ∧ S V 58 (Proc.devRef .tc main_arg2) = S V 30 (Proc.devRef .tc main_arg2)
    ∧ S V 33 (Proc.devRef .tc main_arg2) = S V 30 (Proc.devRef .tc main_arg2)
    ∧ S V 33 (Proc.devRef .tc main_v24) = S V 30 (Proc.devRef .tc main_v24)
    ∧ S V 43 (Proc.devRef .tc main_v24) = S V 30 (Proc.devRef .tc main_v24)
    ∧ S V 58 (Proc.devRef .tc main_v36) = S V 43 (Proc.devRef .tc main_v36)
    ∧ S V 43 (Proc.devRef .tc main_v28) = S V 33 (Proc.devRef .tc main_v28)
    ∧ S V 43 (Proc.devRef .tc main_v0) = S V 30 (Proc.devRef .tc main_v0)
    ∧ S V 43 (Proc.devRef .tc main_v25) = S V 30 (Proc.devRef .tc main_v25) := by
  refine ⟨?_, ?_, ?_, ?_, ?_, ?_, ?_, ?_, ?_, ?_, ?_⟩
  all_goals first
    | (rw [step V 30 33 (by omega)]; after_reads_simp; done)
    | (rw [step V 30 43 (by omega)]; after_reads_simp; done)
    | (rw [step V 33 43 (by omega)]; after_reads_simp; done)
    | (rw [step V 43 58 (by omega)]; after_reads_simp; done)
    | (rw [step V 30 58 (by omega)]; after_reads_simp; done)

theorem chunk0 (h : Inv a 0 (S V 30) (S V 30 (Proc.devRef .tc main_v24)) (S V 30 (Proc.devRef .tc main_v25))) :
    Inv a 2048 (S V 58) (S V 58 (Proc.devRef .tc main_v36)) (S V 58 (Proc.devRef .tc main_v51)) := by
  obtain ⟨k0, k1, k2, k3, k4, k5, k6, k7, k8, k9, k10⟩ := kept0 (V := V)
  refine chunk a 0 (by omega) (S V 30) (S V 58) _ _ _ _ h (S V 33 (Proc.devRef .tc main_v28)) (S V 43 (Proc.devRef .tc main_v33)) k0 k1 k2 k3 ?_ ?_ ?_ ?_
  · intro kv g x r
    rw [step V 30 33 (by omega)]
    exact sco0 (S V 30) kv g x r
  · intro x kv e
    rw [← k4, step V 33 43 (by omega)]
    exact val0 (S V 33) x kv e
  · rw [k7, ← k5, step V 33 43 (by omega)]
    exact max0 (S V 33)
  · intro kv g e r
    rw [k7, ← k6, ← k8, ← k9, ← k10, step V 43 58 (by omega)]
    exact acc0 (S V 43) kv g e r

theorem max1 (X : Idealize.ShloMosaic.Valuation τ sig (Elt Ideal)) :
    (show FVec Ideal S2x4x1x8192 .f32 from StableHlo.after (seg 61 71) X (Proc.devRef .tc main_v62))
      = rowMax (X (Proc.devRef .tc main_v36)) (X (Proc.devRef .tc main_v54)) := by
  dsimp only
  unfold rowMax
  after_reads_simp

theorem sco1 (X : Idealize.ShloMosaic.Valuation τ sig (Elt Ideal)) (kv : Fin 2) (g : Fin 4) (x : Fin 2048) (r : Fin 8192) :
    (show FVec Ideal S2x4x2048x8192 .f32 from StableHlo.after (seg 58 61) X (Proc.devRef .tc main_v54)) (ix4 kv g x r)
      = ∑ d, (show FVec Ideal S8192x2x4x64 .bf16 from X (Proc.devRef .tc main_v21)) (ix4 r kv g d)
      * (show FVec Ideal S8192x2x64 .bf16 from X (Proc.devRef .tc main_v23)) (ix3 ⟨2048 + x.val, by omega⟩ kv d) := by
  dsimp only
  after_reads_at

theorem val1 (X : Idealize.ShloMosaic.Valuation τ sig (Elt Ideal)) (x : Fin 2048) (kv : Fin 2) (e : Fin 65) :
    (show FVec Ideal S2048x2x65 .bf16 from StableHlo.after (seg 61 71) X (Proc.devRef .tc main_v59)) (ix3 x kv e)
      = if h : e.val < 64 then (show FVec Ideal S1x8192x2x64 .f32 from X (Proc.devRef .tc main_arg2)) (ix4 0 ⟨2048 + x.val, by omega⟩ kv ⟨e.val, h⟩) else 1 := by
  dsimp only
  after_reads_at
  after_reads_at

theorem acc1 (X : Idealize.ShloMosaic.Valuation τ sig (Elt Ideal)) (kv : Fin 2) (g : Fin 4) (e : Fin 65) (r : Fin 8192) :
    (show FVec Ideal S2x4x65x8192 .f32 from StableHlo.after (seg 71 86) X (Proc.devRef .tc main_v77)) (ix4 kv g e r)
      = Ideal.exp (((show FVec Ideal S2x4x1x8192 .f32 from X (Proc.devRef .tc main_v36)) (ix4 kv g 0 r)
          - (show FVec Ideal S2x4x1x8192 .f32 from X (Proc.devRef .tc main_v62)) (ix4 kv g 0 r))
          * (show FVec Ideal S_ .f32 from X (Proc.devRef .tc main_v0)) ix0)
          * (show FVec Ideal S2x4x65x8192 .f32 from X (Proc.devRef .tc main_v51)) (ix4 kv g e r)
        + ∑ x : Fin 2048, Ideal.exp (((show FVec Ideal S2x4x2048x8192 .f32 from X (Proc.devRef .tc main_v54)) (ix4 kv g x r)
          - (show FVec Ideal S2x4x1x8192 .f32 from X (Proc.devRef .tc main_v62)) (ix4 kv g 0 r))
          * (show FVec Ideal S_ .f32 from X (Proc.devRef .tc main_v0)) ix0)
          * (show FVec Ideal S2048x2x65 .bf16 from X (Proc.devRef .tc main_v59)) (ix3 x kv e) := by
  dsimp only
  after_reads_at

/-- What chunk 1 leaves alone. -/
theorem kept1 : S V 86 (Proc.devRef .tc main_v0) = S V 58 (Proc.devRef .tc main_v0)
    ∧ S V 86 (Proc.devRef .tc main_v21) = S V 58 (Proc.devRef .tc main_v21)
    ∧ S V 86 (Proc.devRef .tc main_v23) = S V 58 (Proc.devRef .tc main_v23)
    ∧ S V 86 (Proc.devRef .tc main_arg2) = S V 58 (Proc.devRef .tc main_arg2)
    ∧ S V 61 (Proc.devRef .tc main_arg2) = S V 58 (Proc.devRef .tc main_arg2)
    ∧ S V 61 (Proc.devRef .tc main_v36) = S V 58 (Proc.devRef .tc main_v36)
    ∧ S V 71 (Proc.devRef .tc main_v36) = S V 58 (Proc.devRef .tc main_v36)
    ∧ S V 86 (Proc.devRef .tc main_v62) = S V 71 (Proc.devRef .tc main_v62)
    ∧ S V 71 (Proc.devRef .tc main_v54) = S V 61 (Proc.devRef .tc main_v54)
    ∧ S V 71 (Proc.devRef .tc main_v0) = S V 58 (Proc.devRef .tc main_v0)
    ∧ S V 71 (Proc.devRef .tc main_v51) = S V 58 (Proc.devRef .tc main_v51) := by
  refine ⟨?_, ?_, ?_, ?_, ?_, ?_, ?_, ?_, ?_, ?_, ?_⟩
  all_goals first
    | (rw [step V 58 61 (by omega)]; after_reads_simp; done)
    | (rw [step V 58 71 (by omega)]; after_reads_simp; done)
    | (rw [step V 61 71 (by omega)]; after_reads_simp; done)
    | (rw [step V 71 86 (by omega)]; after_reads_simp; done)
    | (rw [step V 58 86 (by omega)]; after_reads_simp; done)

theorem chunk1 (h : Inv a 2048 (S V 58) (S V 58 (Proc.devRef .tc main_v36)) (S V 58 (Proc.devRef .tc main_v51))) :
    Inv a 4096 (S V 86) (S V 86 (Proc.devRef .tc main_v62)) (S V 86 (Proc.devRef .tc main_v77)) := by
  obtain ⟨k0, k1, k2, k3, k4, k5, k6, k7, k8, k9, k10⟩ := kept1 (V := V)
  refine chunk a 2048 (by omega) (S V 58) (S V 86) _ _ _ _ h (S V 61 (Proc.devRef .tc main_v54)) (S V 71 (Proc.devRef .tc main_v59)) k0 k1 k2 k3 ?_ ?_ ?_ ?_
  · intro kv g x r
    rw [step V 58 61 (by omega)]
    exact sco1 (S V 58) kv g x r
  · intro x kv e
    rw [← k4, step V 61 71 (by omega)]
    exact val1 (S V 61) x kv e
  · rw [k7, ← k5, step V 61 71 (by omega)]
    exact max1 (S V 61)
  · intro kv g e r
    rw [k7, ← k6, ← k8, ← k9, ← k10, step V 71 86 (by omega)]
    exact acc1 (S V 71) kv g e r

theorem max2 (X : Idealize.ShloMosaic.Valuation τ sig (Elt Ideal)) :
    (show FVec Ideal S2x4x1x8192 .f32 from StableHlo.after (seg 89 99) X (Proc.devRef .tc main_v88))
      = rowMax (X (Proc.devRef .tc main_v62)) (X (Proc.devRef .tc main_v80)) := by
  dsimp only
  unfold rowMax
  after_reads_simp

theorem sco2 (X : Idealize.ShloMosaic.Valuation τ sig (Elt Ideal)) (kv : Fin 2) (g : Fin 4) (x : Fin 2048) (r : Fin 8192) :
    (show FVec Ideal S2x4x2048x8192 .f32 from StableHlo.after (seg 86 89) X (Proc.devRef .tc main_v80)) (ix4 kv g x r)
      = ∑ d, (show FVec Ideal S8192x2x4x64 .bf16 from X (Proc.devRef .tc main_v21)) (ix4 r kv g d)
      * (show FVec Ideal S8192x2x64 .bf16 from X (Proc.devRef .tc main_v23)) (ix3 ⟨4096 + x.val, by omega⟩ kv d) := by
  dsimp only
  after_reads_at

theorem val2 (X : Idealize.ShloMosaic.Valuation τ sig (Elt Ideal)) (x : Fin 2048) (kv : Fin 2) (e : Fin 65) :
    (show FVec Ideal S2048x2x65 .bf16 from StableHlo.after (seg 89 99) X (Proc.devRef .tc main_v85)) (ix3 x kv e)
      = if h : e.val < 64 then (show FVec Ideal S1x8192x2x64 .f32 from X (Proc.devRef .tc main_arg2)) (ix4 0 ⟨4096 + x.val, by omega⟩ kv ⟨e.val, h⟩) else 1 := by
  dsimp only
  after_reads_at
  after_reads_at

theorem acc2 (X : Idealize.ShloMosaic.Valuation τ sig (Elt Ideal)) (kv : Fin 2) (g : Fin 4) (e : Fin 65) (r : Fin 8192) :
    (show FVec Ideal S2x4x65x8192 .f32 from StableHlo.after (seg 99 114) X (Proc.devRef .tc main_v103)) (ix4 kv g e r)
      = Ideal.exp (((show FVec Ideal S2x4x1x8192 .f32 from X (Proc.devRef .tc main_v62)) (ix4 kv g 0 r)
          - (show FVec Ideal S2x4x1x8192 .f32 from X (Proc.devRef .tc main_v88)) (ix4 kv g 0 r))
          * (show FVec Ideal S_ .f32 from X (Proc.devRef .tc main_v0)) ix0)
          * (show FVec Ideal S2x4x65x8192 .f32 from X (Proc.devRef .tc main_v77)) (ix4 kv g e r)
        + ∑ x : Fin 2048, Ideal.exp (((show FVec Ideal S2x4x2048x8192 .f32 from X (Proc.devRef .tc main_v80)) (ix4 kv g x r)
          - (show FVec Ideal S2x4x1x8192 .f32 from X (Proc.devRef .tc main_v88)) (ix4 kv g 0 r))
          * (show FVec Ideal S_ .f32 from X (Proc.devRef .tc main_v0)) ix0)
          * (show FVec Ideal S2048x2x65 .bf16 from X (Proc.devRef .tc main_v85)) (ix3 x kv e) := by
  dsimp only
  after_reads_at

/-- What chunk 2 leaves alone. -/
theorem kept2 : S V 114 (Proc.devRef .tc main_v0) = S V 86 (Proc.devRef .tc main_v0)
    ∧ S V 114 (Proc.devRef .tc main_v21) = S V 86 (Proc.devRef .tc main_v21)
    ∧ S V 114 (Proc.devRef .tc main_v23) = S V 86 (Proc.devRef .tc main_v23)
    ∧ S V 114 (Proc.devRef .tc main_arg2) = S V 86 (Proc.devRef .tc main_arg2)
    ∧ S V 89 (Proc.devRef .tc main_arg2) = S V 86 (Proc.devRef .tc main_arg2)
    ∧ S V 89 (Proc.devRef .tc main_v62) = S V 86 (Proc.devRef .tc main_v62)
    ∧ S V 99 (Proc.devRef .tc main_v62) = S V 86 (Proc.devRef .tc main_v62)
    ∧ S V 114 (Proc.devRef .tc main_v88) = S V 99 (Proc.devRef .tc main_v88)
    ∧ S V 99 (Proc.devRef .tc main_v80) = S V 89 (Proc.devRef .tc main_v80)
    ∧ S V 99 (Proc.devRef .tc main_v0) = S V 86 (Proc.devRef .tc main_v0)
    ∧ S V 99 (Proc.devRef .tc main_v77) = S V 86 (Proc.devRef .tc main_v77) := by
  refine ⟨?_, ?_, ?_, ?_, ?_, ?_, ?_, ?_, ?_, ?_, ?_⟩
  all_goals first
    | (rw [step V 86 89 (by omega)]; after_reads_simp; done)
    | (rw [step V 86 99 (by omega)]; after_reads_simp; done)
    | (rw [step V 89 99 (by omega)]; after_reads_simp; done)
    | (rw [step V 99 114 (by omega)]; after_reads_simp; done)
    | (rw [step V 86 114 (by omega)]; after_reads_simp; done)

theorem chunk2 (h : Inv a 4096 (S V 86) (S V 86 (Proc.devRef .tc main_v62)) (S V 86 (Proc.devRef .tc main_v77))) :
    Inv a 6144 (S V 114) (S V 114 (Proc.devRef .tc main_v88)) (S V 114 (Proc.devRef .tc main_v103)) := by
  obtain ⟨k0, k1, k2, k3, k4, k5, k6, k7, k8, k9, k10⟩ := kept2 (V := V)
  refine chunk a 4096 (by omega) (S V 86) (S V 114) _ _ _ _ h (S V 89 (Proc.devRef .tc main_v80)) (S V 99 (Proc.devRef .tc main_v85)) k0 k1 k2 k3 ?_ ?_ ?_ ?_
  · intro kv g x r
    rw [step V 86 89 (by omega)]
    exact sco2 (S V 86) kv g x r
  · intro x kv e
    rw [← k4, step V 89 99 (by omega)]
    exact val2 (S V 89) x kv e
  · rw [k7, ← k5, step V 89 99 (by omega)]
    exact max2 (S V 89)
  · intro kv g e r
    rw [k7, ← k6, ← k8, ← k9, ← k10, step V 99 114 (by omega)]
    exact acc2 (S V 99) kv g e r

theorem max3 (X : Idealize.ShloMosaic.Valuation τ sig (Elt Ideal)) :
    (show FVec Ideal S2x4x1x8192 .f32 from StableHlo.after (seg 117 127) X (Proc.devRef .tc main_v114))
      = rowMax (X (Proc.devRef .tc main_v88)) (X (Proc.devRef .tc main_v106)) := by
  dsimp only
  unfold rowMax
  after_reads_simp

theorem sco3 (X : Idealize.ShloMosaic.Valuation τ sig (Elt Ideal)) (kv : Fin 2) (g : Fin 4) (x : Fin 2048) (r : Fin 8192) :
    (show FVec Ideal S2x4x2048x8192 .f32 from StableHlo.after (seg 114 117) X (Proc.devRef .tc main_v106)) (ix4 kv g x r)
      = ∑ d, (show FVec Ideal S8192x2x4x64 .bf16 from X (Proc.devRef .tc main_v21)) (ix4 r kv g d)
      * (show FVec Ideal S8192x2x64 .bf16 from X (Proc.devRef .tc main_v23)) (ix3 ⟨6144 + x.val, by omega⟩ kv d) := by
  dsimp only
  after_reads_at

theorem val3 (X : Idealize.ShloMosaic.Valuation τ sig (Elt Ideal)) (x : Fin 2048) (kv : Fin 2) (e : Fin 65) :
    (show FVec Ideal S2048x2x65 .bf16 from StableHlo.after (seg 117 127) X (Proc.devRef .tc main_v111)) (ix3 x kv e)
      = if h : e.val < 64 then (show FVec Ideal S1x8192x2x64 .f32 from X (Proc.devRef .tc main_arg2)) (ix4 0 ⟨6144 + x.val, by omega⟩ kv ⟨e.val, h⟩) else 1 := by
  dsimp only
  after_reads_at
  after_reads_at

theorem acc3 (X : Idealize.ShloMosaic.Valuation τ sig (Elt Ideal)) (kv : Fin 2) (g : Fin 4) (e : Fin 65) (r : Fin 8192) :
    (show FVec Ideal S2x4x65x8192 .f32 from StableHlo.after (seg 127 142) X (Proc.devRef .tc main_v129)) (ix4 kv g e r)
      = Ideal.exp (((show FVec Ideal S2x4x1x8192 .f32 from X (Proc.devRef .tc main_v88)) (ix4 kv g 0 r)
          - (show FVec Ideal S2x4x1x8192 .f32 from X (Proc.devRef .tc main_v114)) (ix4 kv g 0 r))
          * (show FVec Ideal S_ .f32 from X (Proc.devRef .tc main_v0)) ix0)
          * (show FVec Ideal S2x4x65x8192 .f32 from X (Proc.devRef .tc main_v103)) (ix4 kv g e r)
        + ∑ x : Fin 2048, Ideal.exp (((show FVec Ideal S2x4x2048x8192 .f32 from X (Proc.devRef .tc main_v106)) (ix4 kv g x r)
          - (show FVec Ideal S2x4x1x8192 .f32 from X (Proc.devRef .tc main_v114)) (ix4 kv g 0 r))
          * (show FVec Ideal S_ .f32 from X (Proc.devRef .tc main_v0)) ix0)
          * (show FVec Ideal S2048x2x65 .bf16 from X (Proc.devRef .tc main_v111)) (ix3 x kv e) := by
  dsimp only
  after_reads_at

/-- What chunk 3 leaves alone. -/
theorem kept3 : S V 142 (Proc.devRef .tc main_v0) = S V 114 (Proc.devRef .tc main_v0)
    ∧ S V 142 (Proc.devRef .tc main_v21) = S V 114 (Proc.devRef .tc main_v21)
    ∧ S V 142 (Proc.devRef .tc main_v23) = S V 114 (Proc.devRef .tc main_v23)
    ∧ S V 142 (Proc.devRef .tc main_arg2) = S V 114 (Proc.devRef .tc main_arg2)
    ∧ S V 117 (Proc.devRef .tc main_arg2) = S V 114 (Proc.devRef .tc main_arg2)
    ∧ S V 117 (Proc.devRef .tc main_v88) = S V 114 (Proc.devRef .tc main_v88)
    ∧ S V 127 (Proc.devRef .tc main_v88) = S V 114 (Proc.devRef .tc main_v88)
    ∧ S V 142 (Proc.devRef .tc main_v114) = S V 127 (Proc.devRef .tc main_v114)
    ∧ S V 127 (Proc.devRef .tc main_v106) = S V 117 (Proc.devRef .tc main_v106)
    ∧ S V 127 (Proc.devRef .tc main_v0) = S V 114 (Proc.devRef .tc main_v0)
    ∧ S V 127 (Proc.devRef .tc main_v103) = S V 114 (Proc.devRef .tc main_v103) := by
  refine ⟨?_, ?_, ?_, ?_, ?_, ?_, ?_, ?_, ?_, ?_, ?_⟩
  all_goals first
    | (rw [step V 114 117 (by omega)]; after_reads_simp; done)
    | (rw [step V 114 127 (by omega)]; after_reads_simp; done)
    | (rw [step V 117 127 (by omega)]; after_reads_simp; done)
    | (rw [step V 127 142 (by omega)]; after_reads_simp; done)
    | (rw [step V 114 142 (by omega)]; after_reads_simp; done)

theorem chunk3 (h : Inv a 6144 (S V 114) (S V 114 (Proc.devRef .tc main_v88)) (S V 114 (Proc.devRef .tc main_v103))) :
    Inv a 8192 (S V 142) (S V 142 (Proc.devRef .tc main_v114)) (S V 142 (Proc.devRef .tc main_v129)) := by
  obtain ⟨k0, k1, k2, k3, k4, k5, k6, k7, k8, k9, k10⟩ := kept3 (V := V)
  refine chunk a 6144 (by omega) (S V 114) (S V 142) _ _ _ _ h (S V 117 (Proc.devRef .tc main_v106)) (S V 127 (Proc.devRef .tc main_v111)) k0 k1 k2 k3 ?_ ?_ ?_ ?_
  · intro kv g x r
    rw [step V 114 117 (by omega)]
    exact sco3 (S V 114) kv g x r
  · intro x kv e
    rw [← k4, step V 117 127 (by omega)]
    exact val3 (S V 117) x kv e
  · rw [k7, ← k5, step V 117 127 (by omega)]
    exact max3 (S V 117)
  · intro kv g e r
    rw [k7, ← k6, ← k8, ← k9, ← k10, step V 127 142 (by omega)]
    exact acc3 (S V 127) kv g e r

/-- After the last chunk. -/
theorem finish (H : Reals a V) : Inv a 8192 (S V 142) (S V 142 (Proc.devRef .tc main_v114)) (S V 142 (Proc.devRef .tc main_v129)) :=
  chunk3 (chunk2 (chunk1 (chunk0 (start H))))

end Cert.AttnKIdeal.Final

end
-- ==== Proof.AttnLoop.lean ====
module

public import proofs.«01_k».proof.Proof.Gen.AttnKIdeal.Value
public import proofs.«01_k».proof.Proof.Real

@[expose] public section

set_option maxRecDepth 16384

noncomputable section

open Idealize.ShloMosaic Idealize.ShloMosaic.TcCoe Idealize.SL.Sem
open Idealize.ShloMosaic.Pipeline (Dat)

namespace Cert.AttnKIdeal.Final

open Cert.AttnKIdeal Cert.AttnKIdeal.Gen

variable (m : (ℓ : Loc nD τ sig) → Buf (Elt Ideal) ℓ)

/-- The point's input blocks: scaled queries and their transpose, the cotangent and its transpose, the row log-sums, the row
    sums, the keys and the values. -/
abbrev X0 (c : Dev nD) (t : Fin cfg0.N) : FVec Ideal S1024x512 .bf16 := iblk m c 0 t
abbrev X1 (c : Dev nD) (t : Fin cfg0.N) : FVec Ideal S512x1024 .bf16 := iblk m c 1 t
abbrev X2 (c : Dev nD) (t : Fin cfg0.N) : FVec Ideal S1024x512 .bf16 := iblk m c 2 t
abbrev X3 (c : Dev nD) (t : Fin cfg0.N) : FVec Ideal S512x1024 .bf16 := iblk m c 3 t
abbrev X4 (c : Dev nD) (t : Fin cfg0.N) : FVec Ideal S1024x8 .f32 := iblk m c 4 t
abbrev X5 (c : Dev nD) (t : Fin cfg0.N) : FVec Ideal S1024x8 .f32 := iblk m c 5 t
abbrev X6 (c : Dev nD) (t : Fin cfg0.N) : FVec Ideal S16x128x512 .bf16 := iblk m c 6 t
abbrev X7 (c : Dev nD) (t : Fin cfg0.N) : FVec Ideal S16x128x512 .bf16 := iblk m c 7 t

/-- Head `g` of the four that share key head `kv`; the row of head `h`'s feature `d`; the row of key head `kv`'s. -/
def hd (kv : Fin 2) (g : Fin 4) : Fin 8 := ⟨4 * kv.val + g.val, by omega⟩
def row (h : Fin 8) (d : Fin 64) : Fin 512 := ⟨64 * h.val + d.val, by omega⟩
def krow (kv : Fin 2) (d : Fin 64) : Fin 128 := ⟨64 * kv.val + d.val, by omega⟩

/-- Scores, weights, the cotangent's products with the values, and the scores' gradient: head `h`, row `r` of the point, key `x` of
    key block `k`. -/
def Sc (c : Dev nD) (t : Fin cfg0.N) (h : Fin 8) (kv : Fin 2) (r : Fin 1024) (k : Fin 16) (x : Fin 512) : EReal :=
  ∑ d : Fin 64, X0 m c t (ix2 r (row h d)) * X6 m c t (ix3 k (krow kv d) x)
def Dp (c : Dev nD) (t : Fin cfg0.N) (h : Fin 8) (kv : Fin 2) (r : Fin 1024) (k : Fin 16) (x : Fin 512) : EReal :=
  ∑ d : Fin 64, X2 m c t (ix2 r (row h d)) * X7 m c t (ix3 k (krow kv d) x)
def Pm (c : Dev nD) (t : Fin cfg0.N) (h : Fin 8) (kv : Fin 2) (r : Fin 1024) (k : Fin 16) (x : Fin 512) : EReal :=
  FloatOps.exp2 (F := Ideal) (φ := .f32) (Sc m c t h kv r k x - X4 m c t (ix2 r h))
def Ds (c : Dev nD) (t : Fin cfg0.N) (h : Fin 8) (kv : Fin 2) (r : Fin 1024) (k : Fin 16) (x : Fin 512) : EReal :=
  Pm m c t h kv r k x * (Dp m c t h kv r k x - X5 m c t (ix2 r h))

/-- What a trip adds to the keys' and the values' gradients. -/
def dkp (c : Dev nD) (t : Fin cfg0.N) (kv : Fin 2) (k : Fin 16) (d : Fin 64) (x : Fin 512) : EReal :=
  ∑ g : Fin 4, ∑ r : Fin 1024, X1 m c t (ix2 (row (hd kv g) d) r) * Ds m c t (hd kv g) kv r k x
def dvp (c : Dev nD) (t : Fin cfg0.N) (kv : Fin 2) (k : Fin 16) (d : Fin 64) (x : Fin 512) : EReal :=
  ∑ g : Fin 4, ∑ r : Fin 1024, X3 m c t (ix2 (row (hd kv g) d) r) * Pm m c t (hd kv g) kv r k x

/-- The four values a loop carries, by number. -/
def comp (a : FVec Ideal S64x1024 .f32 × FVec Ideal S64x1024 .f32 × FVec Ideal S64x1024 .f32 × FVec Ideal S64x1024 .f32) (g : Fin 4) : FVec Ideal S64x1024 .f32 :=
  ![a.1, a.2.1, a.2.2.1, a.2.2.2] g

theorem row_00 (d : Fin 64) : row (hd 0 0) d = ⟨d.val, by omega⟩ := Fin.ext (Nat.zero_add _)
theorem row_01 (d : Fin 64) : row (hd 0 1) d = ⟨64 + d.val, by omega⟩ := Fin.ext rfl
theorem row_02 (d : Fin 64) : row (hd 0 2) d = ⟨128 + d.val, by omega⟩ := Fin.ext rfl
theorem row_03 (d : Fin 64) : row (hd 0 3) d = ⟨192 + d.val, by omega⟩ := Fin.ext rfl
theorem row_10 (d : Fin 64) : row (hd 1 0) d = ⟨256 + d.val, by omega⟩ := Fin.ext rfl
theorem row_11 (d : Fin 64) : row (hd 1 1) d = ⟨320 + d.val, by omega⟩ := Fin.ext rfl
theorem row_12 (d : Fin 64) : row (hd 1 2) d = ⟨384 + d.val, by omega⟩ := Fin.ext rfl
theorem row_13 (d : Fin 64) : row (hd 1 3) d = ⟨448 + d.val, by omega⟩ := Fin.ext rfl
theorem hd_00 : hd 0 0 = 0 := rfl
theorem hd_01 : hd 0 1 = 1 := rfl
theorem hd_02 : hd 0 2 = 2 := rfl
theorem hd_03 : hd 0 3 = 3 := rfl
theorem hd_10 : hd 1 0 = 4 := rfl
theorem hd_11 : hd 1 1 = 5 := rfl
theorem hd_12 : hd 1 2 = 6 := rfl
theorem hd_13 : hd 1 3 = 7 := rfl

theorem off1 : ∀ k : Fin k0_t1_loop.trips, k0_off1 k = ![k.val, 0, 0] := by decide +kernel
theorem off2 : ∀ k : Fin k0_t2_loop.trips, k0_off2 k = ![k.val, 64, 0] := by decide +kernel

theorem readAt_at {sp : Space} {s : Shape} {e : EltTy} (M : Memref sig .tc sp s e) {off off' size : Fin s.rank → ℕ} (h : off = off')
    (inb : ∀ a, off a + size a ≤ s.size a) (f : BufTy.Contents (Elt Ideal) M.view.ty)
    (x : (Rect.unit off size inb).shape.Idx) (y : s.Idx) (hx : ∀ a, (y a).val = off' a + (x a).val) :
    View.readAt (Elt Ideal) M.view (Rect.unit off size inb).toLoadRect f x = M.view.read (Elt Ideal) f y := by
  subst h
  rw [View.readAt_eq_ld]
  exact Rl.ld_at _ _ _ _ hx

theorem slab1_6 (c : Dev nD) (t : Fin cfg0.N) (k : Fin k0_t1_loop.trips) (d : Fin 64) (x : Fin 512) :
    View.readAt (Elt Ideal) (ms0_6 t).view (Rect.unit (s := S16x128x512) (k0_off1 k) S1x64x512.size (k0_off1_inb k)).toLoadRect
      ((hs0_6 t).unread (iblk m c 6 t)) (ix3 (0 : Fin 1) d x) = X6 m c t (ix3 k (krow 0 d) x) := by
  refine (readAt_at (ms0_6 t) (off1 k) (k0_off1_inb k) _ _ (ix3 k (krow 0 d) x) ?_).trans (congrFun ((hs0_6 t).read_unread _) _)
  intro a; fin_cases a
  exacts [rfl, rfl, (Nat.zero_add _).symm]
theorem slab1_7 (c : Dev nD) (t : Fin cfg0.N) (k : Fin k0_t1_loop.trips) (d : Fin 64) (x : Fin 512) :
    View.readAt (Elt Ideal) (ms0_7 t).view (Rect.unit (s := S16x128x512) (k0_off1 k) S1x64x512.size (k0_off1_inb k)).toLoadRect
      ((hs0_7 t).unread (iblk m c 7 t)) (ix3 (0 : Fin 1) d x) = X7 m c t (ix3 k (krow 0 d) x) := by
  refine (readAt_at (ms0_7 t) (off1 k) (k0_off1_inb k) _ _ (ix3 k (krow 0 d) x) ?_).trans (congrFun ((hs0_7 t).read_unread _) _)
  intro a; fin_cases a
  exacts [rfl, rfl, (Nat.zero_add _).symm]
theorem slab1_12 (k : Fin k0_t1_loop.trips) (f : BufTy.Contents (Elt Ideal) scM0_0.view.ty) (d : Fin 64) (x : Fin 512) :
    View.readAt (Elt Ideal) scM0_0.view (Rect.unit (s := S16x128x512) (k0_off1 k) S1x64x512.size (k0_off1_inb k)).toLoadRect
      f (ix3 (0 : Fin 1) d x) = scM0_0.view.read (Elt Ideal) f (ix3 k (krow 0 d) x) := by
  refine (readAt_at scM0_0 (off1 k) (k0_off1_inb k) _ _ (ix3 k (krow 0 d) x) ?_)
  intro a; fin_cases a
  exacts [rfl, rfl, (Nat.zero_add _).symm]
theorem slab1_13 (k : Fin k0_t1_loop.trips) (f : BufTy.Contents (Elt Ideal) scM0_1.view.ty) (d : Fin 64) (x : Fin 512) :
    View.readAt (Elt Ideal) scM0_1.view (Rect.unit (s := S16x128x512) (k0_off1 k) S1x64x512.size (k0_off1_inb k)).toLoadRect
      f (ix3 (0 : Fin 1) d x) = scM0_1.view.read (Elt Ideal) f (ix3 k (krow 0 d) x) := by
  refine (readAt_at scM0_1 (off1 k) (k0_off1_inb k) _ _ (ix3 k (krow 0 d) x) ?_)
  intro a; fin_cases a
  exacts [rfl, rfl, (Nat.zero_add _).symm]
theorem slab2_6 (c : Dev nD) (t : Fin cfg0.N) (k : Fin k0_t2_loop.trips) (d : Fin 64) (x : Fin 512) :
    View.readAt (Elt Ideal) (ms0_6 t).view (Rect.unit (s := S16x128x512) (k0_off2 k) S1x64x512.size (k0_off2_inb k)).toLoadRect
      ((hs0_6 t).unread (iblk m c 6 t)) (ix3 (0 : Fin 1) d x) = X6 m c t (ix3 k (krow 1 d) x) := by
  refine (readAt_at (ms0_6 t) (off2 k) (k0_off2_inb k) _ _ (ix3 k (krow 1 d) x) ?_).trans (congrFun ((hs0_6 t).read_unread _) _)
  intro a; fin_cases a
  exacts [rfl, rfl, (Nat.zero_add _).symm]
theorem slab2_7 (c : Dev nD) (t : Fin cfg0.N) (k : Fin k0_t2_loop.trips) (d : Fin 64) (x : Fin 512) :
    View.readAt (Elt Ideal) (ms0_7 t).view (Rect.unit (s := S16x128x512) (k0_off2 k) S1x64x512.size (k0_off2_inb k)).toLoadRect
      ((hs0_7 t).unread (iblk m c 7 t)) (ix3 (0 : Fin 1) d x) = X7 m c t (ix3 k (krow 1 d) x) := by
  refine (readAt_at (ms0_7 t) (off2 k) (k0_off2_inb k) _ _ (ix3 k (krow 1 d) x) ?_).trans (congrFun ((hs0_7 t).read_unread _) _)
  intro a; fin_cases a
  exacts [rfl, rfl, (Nat.zero_add _).symm]
theorem slab2_12 (k : Fin k0_t2_loop.trips) (f : BufTy.Contents (Elt Ideal) scM0_0.view.ty) (d : Fin 64) (x : Fin 512) :
    View.readAt (Elt Ideal) scM0_0.view (Rect.unit (s := S16x128x512) (k0_off2 k) S1x64x512.size (k0_off2_inb k)).toLoadRect
      f (ix3 (0 : Fin 1) d x) = scM0_0.view.read (Elt Ideal) f (ix3 k (krow 1 d) x) := by
  refine (readAt_at scM0_0 (off2 k) (k0_off2_inb k) _ _ (ix3 k (krow 1 d) x) ?_)
  intro a; fin_cases a
  exacts [rfl, rfl, (Nat.zero_add _).symm]
theorem slab2_13 (k : Fin k0_t2_loop.trips) (f : BufTy.Contents (Elt Ideal) scM0_1.view.ty) (d : Fin 64) (x : Fin 512) :
    View.readAt (Elt Ideal) scM0_1.view (Rect.unit (s := S16x128x512) (k0_off2 k) S1x64x512.size (k0_off2_inb k)).toLoadRect
      f (ix3 (0 : Fin 1) d x) = scM0_1.view.read (Elt Ideal) f (ix3 k (krow 1 d) x) := by
  refine (readAt_at scM0_1 (off2 k) (k0_off2_inb k) _ _ (ix3 k (krow 1 d) x) ?_)
  intro a; fin_cases a
  exacts [rfl, rfl, (Nat.zero_add _).symm]

/-- One trip of loop 1 at a point, and the loop's state, over the point's blocks. -/
abbrev trip1 (c : Dev nD) (t : Fin cfg0.N) (k : Fin k0_t1_loop.trips) :=
  trip_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (Memref.whole main_v151_1) (Memref.isWhole_whole _) (Memref.whole main_v151_2) (Memref.isWhole_whole _)
    scM0_0 (Memref.isWhole_whole _) scM0_1 (Memref.isWhole_whole _) cc0_scratch2
    (k0_pay59 (View.ld (iblk m c 0 t) (Rect.unit ![0, 0] ![1024, 256] inb_S1024x512_S1024x256_0_0))) (k0_pay60 (View.ld (iblk m c 2 t) (Rect.unit ![0, 0] ![1024, 256] inb_S1024x512_S1024x256_0_0)))
    (k0_pay61 (View.ld (iblk m c 0 t) (Rect.unit ![0, 0] ![1024, 256] inb_S1024x512_S1024x256_0_0))) (k0_pay62 (View.ld (iblk m c 2 t) (Rect.unit ![0, 0] ![1024, 256] inb_S1024x512_S1024x256_0_0)))
    (k0_pay63 (View.ld (iblk m c 1 t) (Rect.unit ![0, 0] ![64, 1024] inb_S512x1024_S64x1024_0_0))) (k0_pay64 (View.ld (iblk m c 3 t) (Rect.unit ![0, 0] ![64, 1024] inb_S512x1024_S64x1024_0_0)))
    (k0_pay65 (View.ld (iblk m c 4 t) (Rect.unit ![0, 0] ![1024, 1] inb_S1024x8_S1024x1_0_0))) (k0_pay66 (View.ld (iblk m c 5 t) (Rect.unit ![0, 0] ![1024, 1] inb_S1024x8_S1024x1_0_0)))
    (k0_pay67 (View.ld (iblk m c 0 t) (Rect.unit ![0, 0] ![1024, 256] inb_S1024x512_S1024x256_0_0))) (k0_pay68 (View.ld (iblk m c 2 t) (Rect.unit ![0, 0] ![1024, 256] inb_S1024x512_S1024x256_0_0)))
    (k0_pay69 (View.ld (iblk m c 1 t) (Rect.unit ![64, 0] ![64, 1024] inb_S512x1024_S64x1024_64_0))) (k0_pay70 (View.ld (iblk m c 3 t) (Rect.unit ![64, 0] ![64, 1024] inb_S512x1024_S64x1024_64_0)))
    (k0_pay71 (View.ld (iblk m c 4 t) (Rect.unit ![0, 1] ![1024, 1] inb_S1024x8_S1024x1_0_1))) (k0_pay72 (View.ld (iblk m c 5 t) (Rect.unit ![0, 1] ![1024, 1] inb_S1024x8_S1024x1_0_1)))
    (k0_pay73 (View.ld (iblk m c 0 t) (Rect.unit ![0, 0] ![1024, 256] inb_S1024x512_S1024x256_0_0))) (k0_pay74 (View.ld (iblk m c 2 t) (Rect.unit ![0, 0] ![1024, 256] inb_S1024x512_S1024x256_0_0)))
    (k0_pay75 (View.ld (iblk m c 1 t) (Rect.unit ![128, 0] ![64, 1024] inb_S512x1024_S64x1024_128_0))) (View.ld (iblk m c 3 t) (Rect.unit ![128, 0] ![64, 1024] inb_S512x1024_S64x1024_128_0))
    (View.ld (iblk m c 4 t) (Rect.unit ![0, 2] ![1024, 1] inb_S1024x8_S1024x1_0_2)) (View.ld (iblk m c 5 t) (Rect.unit ![0, 2] ![1024, 1] inb_S1024x8_S1024x1_0_2))
    (View.ld (iblk m c 1 t) (Rect.unit ![192, 0] ![64, 1024] inb_S512x1024_S64x1024_192_0)) (View.ld (iblk m c 3 t) (Rect.unit ![192, 0] ![64, 1024] inb_S512x1024_S64x1024_192_0))
    (View.ld (iblk m c 4 t) (Rect.unit ![0, 3] ![1024, 1] inb_S1024x8_S1024x1_0_3)) (View.ld (iblk m c 5 t) (Rect.unit ![0, 3] ![1024, 1] inb_S1024x8_S1024x1_0_3))
    ((hs0_6 t).unread (iblk m c 6 t)) ((hs0_7 t).unread (iblk m c 7 t)) k

abbrev st1 (c : Dev nD) (t : Fin cfg0.N) (G12 : BufTy.Contents (Elt Ideal) scM0_0.view.ty) (G13 : BufTy.Contents (Elt Ideal) scM0_1.view.ty) :=
  st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (Memref.whole main_v151_1) (Memref.isWhole_whole _) (Memref.whole main_v151_2) (Memref.isWhole_whole _)
    scM0_0 (Memref.isWhole_whole _) scM0_1 (Memref.isWhole_whole _) cc0_scratch2
    (k0_pay59 (View.ld (iblk m c 0 t) (Rect.unit ![0, 0] ![1024, 256] inb_S1024x512_S1024x256_0_0))) (k0_pay60 (View.ld (iblk m c 2 t) (Rect.unit ![0, 0] ![1024, 256] inb_S1024x512_S1024x256_0_0)))
    (k0_pay61 (View.ld (iblk m c 0 t) (Rect.unit ![0, 0] ![1024, 256] inb_S1024x512_S1024x256_0_0))) (k0_pay62 (View.ld (iblk m c 2 t) (Rect.unit ![0, 0] ![1024, 256] inb_S1024x512_S1024x256_0_0)))
    (k0_pay63 (View.ld (iblk m c 1 t) (Rect.unit ![0, 0] ![64, 1024] inb_S512x1024_S64x1024_0_0))) (k0_pay64 (View.ld (iblk m c 3 t) (Rect.unit ![0, 0] ![64, 1024] inb_S512x1024_S64x1024_0_0)))
    (k0_pay65 (View.ld (iblk m c 4 t) (Rect.unit ![0, 0] ![1024, 1] inb_S1024x8_S1024x1_0_0))) (k0_pay66 (View.ld (iblk m c 5 t) (Rect.unit ![0, 0] ![1024, 1] inb_S1024x8_S1024x1_0_0)))
    (k0_pay67 (View.ld (iblk m c 0 t) (Rect.unit ![0, 0] ![1024, 256] inb_S1024x512_S1024x256_0_0))) (k0_pay68 (View.ld (iblk m c 2 t) (Rect.unit ![0, 0] ![1024, 256] inb_S1024x512_S1024x256_0_0)))
    (k0_pay69 (View.ld (iblk m c 1 t) (Rect.unit ![64, 0] ![64, 1024] inb_S512x1024_S64x1024_64_0))) (k0_pay70 (View.ld (iblk m c 3 t) (Rect.unit ![64, 0] ![64, 1024] inb_S512x1024_S64x1024_64_0)))
    (k0_pay71 (View.ld (iblk m c 4 t) (Rect.unit ![0, 1] ![1024, 1] inb_S1024x8_S1024x1_0_1))) (k0_pay72 (View.ld (iblk m c 5 t) (Rect.unit ![0, 1] ![1024, 1] inb_S1024x8_S1024x1_0_1)))
    (k0_pay73 (View.ld (iblk m c 0 t) (Rect.unit ![0, 0] ![1024, 256] inb_S1024x512_S1024x256_0_0))) (k0_pay74 (View.ld (iblk m c 2 t) (Rect.unit ![0, 0] ![1024, 256] inb_S1024x512_S1024x256_0_0)))
    (k0_pay75 (View.ld (iblk m c 1 t) (Rect.unit ![128, 0] ![64, 1024] inb_S512x1024_S64x1024_128_0))) (View.ld (iblk m c 3 t) (Rect.unit ![128, 0] ![64, 1024] inb_S512x1024_S64x1024_128_0))
    (View.ld (iblk m c 4 t) (Rect.unit ![0, 2] ![1024, 1] inb_S1024x8_S1024x1_0_2)) (View.ld (iblk m c 5 t) (Rect.unit ![0, 2] ![1024, 1] inb_S1024x8_S1024x1_0_2))
    (View.ld (iblk m c 1 t) (Rect.unit ![192, 0] ![64, 1024] inb_S512x1024_S64x1024_192_0)) (View.ld (iblk m c 3 t) (Rect.unit ![192, 0] ![64, 1024] inb_S512x1024_S64x1024_192_0))
    (View.ld (iblk m c 4 t) (Rect.unit ![0, 3] ![1024, 1] inb_S1024x8_S1024x1_0_3)) (View.ld (iblk m c 5 t) (Rect.unit ![0, 3] ![1024, 1] inb_S1024x8_S1024x1_0_3))
    ((hs0_6 t).unread (iblk m c 6 t)) ((hs0_7 t).unread (iblk m c 7 t)) G12 G13 (k0_pay87, k0_pay87, k0_pay87, k0_pay87)

theorem trip1_R (c : Dev nD) (t : Fin cfg0.N) (k : Fin k0_t1_loop.trips) (acc f12 f13) (g : Fin 4) (y : S64x1024.Idx) :
    comp ((trip1 m c t k).1 acc f12 f13) g y
      = comp acc g y + ∑ x : Fin 512, X6 m c t (ix3 k (krow 0 (y 0)) x) * Ds m c t (hd 0 g) 0 (y 1) k x := by
  idx_vars y
  unfold trip1 trip_k0_t1; dsimp only
  fin_cases g <;>
  · pointwise [comp, Ds, Pm, Sc, Dp, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r]
    simp only [row_00, row_01, row_02, row_03]
    simp only [hd_00, hd_01, hd_02, hd_03]
    exact congrArg₂ HAdd.hAdd rfl (Finset.sum_congr rfl fun x _ => congrArg₂ HMul.hMul (slab1_6 m c t k _ _)
      (congrArg₂ HMul.hMul (congrArg FloatOps.exp2 (congrArg₂ HSub.hSub (Finset.sum_congr rfl fun d _ => congrArg₂ HMul.hMul rfl (slab1_6 m c t k d _)) rfl)) (congrArg₂ HSub.hSub (Finset.sum_congr rfl fun d _ => congrArg₂ HMul.hMul rfl (slab1_7 m c t k d _)) rfl)))

theorem trip1_L12 (c : Dev nD) (t : Fin cfg0.N) (k : Fin k0_t1_loop.trips) (acc f12 f13) :
    (trip1 m c t k).2.1 acc f12 f13
      = [⟨Rect.unit (k0_off1 k) S1x64x512.size (k0_off1_inb k), fun x => scM0_0.view.read (Elt Ideal) f12 (ix3 k (krow 0 (x 1)) (x 2)) + dkp m c t 0 k (x 1) (x 2)⟩] := by
  unfold trip1 trip_k0_t1; dsimp only
  refine congrArg (fun w => [(⟨Rect.unit (k0_off1 k) S1x64x512.size (k0_off1_inb k), w⟩ : View.Piece (Elt Ideal) S16x128x512 .f32)]) ?_
  funext y
  idx_vars y
  pointwise [dkp, Ds, Pm, Sc, Dp, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r]
  simp only [Fin.sum_univ_four, row_00, row_01, row_02, row_03]
  simp only [hd_00, hd_01, hd_02, hd_03]
  refine congrArg₂ HAdd.hAdd (slab1_12 k _ _ _) (congrArg₂ HAdd.hAdd (congrArg₂ HAdd.hAdd (congrArg₂ HAdd.hAdd ?_ ?_) ?_) ?_)
  all_goals exact Finset.sum_congr rfl fun r _ => congrArg₂ HMul.hMul rfl (congrArg₂ HMul.hMul (congrArg FloatOps.exp2 (congrArg₂ HSub.hSub (Finset.sum_congr rfl fun d _ => congrArg₂ HMul.hMul rfl (slab1_6 m c t k d _)) rfl)) (congrArg₂ HSub.hSub (Finset.sum_congr rfl fun d _ => congrArg₂ HMul.hMul rfl (slab1_7 m c t k d _)) rfl))

theorem trip1_L13 (c : Dev nD) (t : Fin cfg0.N) (k : Fin k0_t1_loop.trips) (acc f12 f13) :
    (trip1 m c t k).2.2.1 acc f12 f13
      = [⟨Rect.unit (k0_off1 k) S1x64x512.size (k0_off1_inb k), fun x => scM0_1.view.read (Elt Ideal) f13 (ix3 k (krow 0 (x 1)) (x 2)) + dvp m c t 0 k (x 1) (x 2)⟩] := by
  unfold trip1 trip_k0_t1; dsimp only
  refine congrArg (fun w => [(⟨Rect.unit (k0_off1 k) S1x64x512.size (k0_off1_inb k), w⟩ : View.Piece (Elt Ideal) S16x128x512 .f32)]) ?_
  funext y
  idx_vars y
  pointwise [dvp, Pm, Sc, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r]
  simp only [Fin.sum_univ_four, row_00, row_01, row_02, row_03]
  simp only [hd_00, hd_01, hd_02, hd_03]
  refine congrArg₂ HAdd.hAdd (slab1_13 k _ _ _) (congrArg₂ HAdd.hAdd (congrArg₂ HAdd.hAdd (congrArg₂ HAdd.hAdd ?_ ?_) ?_) ?_)
  all_goals exact Finset.sum_congr rfl fun r _ => congrArg₂ HMul.hMul rfl (congrArg FloatOps.exp2 (congrArg₂ HSub.hSub (Finset.sum_congr rfl fun d _ => congrArg₂ HMul.hMul rfl (slab1_6 m c t k d _)) rfl))

/-- One trip of loop 2 at a point, and the loop's state, over the point's blocks. -/
abbrev trip2 (c : Dev nD) (t : Fin cfg0.N) (k : Fin k0_t2_loop.trips) :=
  trip_k0_t2 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (Memref.whole main_v151_1) (Memref.isWhole_whole _) (Memref.whole main_v151_2) (Memref.isWhole_whole _)
    scM0_0 (Memref.isWhole_whole _) scM0_1 (Memref.isWhole_whole _) cc0_scratch2
    (k0_pay91 (k0_pay89 (View.ld (iblk m c 0 t) (Rect.unit ![0, 256] ![1024, 256] inb_S1024x512_S1024x256_0_256)))) (k0_pay92 (View.ld (iblk m c 2 t) (Rect.unit ![0, 256] ![1024, 256] inb_S1024x512_S1024x256_0_256)))
    (k0_pay93 (View.ld (iblk m c 1 t) (Rect.unit ![256, 0] ![64, 1024] inb_S512x1024_S64x1024_256_0))) (k0_pay94 (View.ld (iblk m c 3 t) (Rect.unit ![256, 0] ![64, 1024] inb_S512x1024_S64x1024_256_0)))
    (k0_pay95 (View.ld (iblk m c 4 t) (Rect.unit ![0, 4] ![1024, 1] inb_S1024x8_S1024x1_0_4))) (k0_pay96 (View.ld (iblk m c 5 t) (Rect.unit ![0, 4] ![1024, 1] inb_S1024x8_S1024x1_0_4)))
    (k0_pay97 (k0_pay89 (View.ld (iblk m c 0 t) (Rect.unit ![0, 256] ![1024, 256] inb_S1024x512_S1024x256_0_256)))) (k0_pay98 (View.ld (iblk m c 2 t) (Rect.unit ![0, 256] ![1024, 256] inb_S1024x512_S1024x256_0_256)))
    (k0_pay99 (View.ld (iblk m c 1 t) (Rect.unit ![320, 0] ![64, 1024] inb_S512x1024_S64x1024_320_0))) (k0_pay100 (View.ld (iblk m c 3 t) (Rect.unit ![320, 0] ![64, 1024] inb_S512x1024_S64x1024_320_0)))
    (k0_pay101 (View.ld (iblk m c 4 t) (Rect.unit ![0, 5] ![1024, 1] inb_S1024x8_S1024x1_0_5))) (k0_pay102 (View.ld (iblk m c 5 t) (Rect.unit ![0, 5] ![1024, 1] inb_S1024x8_S1024x1_0_5)))
    (k0_pay103 (k0_pay89 (View.ld (iblk m c 0 t) (Rect.unit ![0, 256] ![1024, 256] inb_S1024x512_S1024x256_0_256)))) (k0_pay104 (View.ld (iblk m c 2 t) (Rect.unit ![0, 256] ![1024, 256] inb_S1024x512_S1024x256_0_256)))
    (k0_pay105 (View.ld (iblk m c 1 t) (Rect.unit ![384, 0] ![64, 1024] inb_S512x1024_S64x1024_384_0))) (k0_pay106 (View.ld (iblk m c 3 t) (Rect.unit ![384, 0] ![64, 1024] inb_S512x1024_S64x1024_384_0)))
    (k0_pay107 (View.ld (iblk m c 4 t) (Rect.unit ![0, 6] ![1024, 1] inb_S1024x8_S1024x1_0_6))) (k0_pay108 (View.ld (iblk m c 5 t) (Rect.unit ![0, 6] ![1024, 1] inb_S1024x8_S1024x1_0_6)))
    (k0_pay109 (k0_pay89 (View.ld (iblk m c 0 t) (Rect.unit ![0, 256] ![1024, 256] inb_S1024x512_S1024x256_0_256)))) (k0_pay110 (View.ld (iblk m c 2 t) (Rect.unit ![0, 256] ![1024, 256] inb_S1024x512_S1024x256_0_256)))
    (View.ld (iblk m c 1 t) (Rect.unit ![448, 0] ![64, 1024] inb_S512x1024_S64x1024_448_0)) (View.ld (iblk m c 3 t) (Rect.unit ![448, 0] ![64, 1024] inb_S512x1024_S64x1024_448_0))
    (View.ld (iblk m c 4 t) (Rect.unit ![0, 7] ![1024, 1] inb_S1024x8_S1024x1_0_7)) (View.ld (iblk m c 5 t) (Rect.unit ![0, 7] ![1024, 1] inb_S1024x8_S1024x1_0_7))
    ((hs0_6 t).unread (iblk m c 6 t)) ((hs0_7 t).unread (iblk m c 7 t)) k

abbrev st2 (c : Dev nD) (t : Fin cfg0.N) (G12 : BufTy.Contents (Elt Ideal) scM0_0.view.ty) (G13 : BufTy.Contents (Elt Ideal) scM0_1.view.ty) :=
  st_k0_t2 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (Memref.whole main_v151_1) (Memref.isWhole_whole _) (Memref.whole main_v151_2) (Memref.isWhole_whole _)
    scM0_0 (Memref.isWhole_whole _) scM0_1 (Memref.isWhole_whole _) cc0_scratch2
    (k0_pay91 (k0_pay89 (View.ld (iblk m c 0 t) (Rect.unit ![0, 256] ![1024, 256] inb_S1024x512_S1024x256_0_256)))) (k0_pay92 (View.ld (iblk m c 2 t) (Rect.unit ![0, 256] ![1024, 256] inb_S1024x512_S1024x256_0_256)))
    (k0_pay93 (View.ld (iblk m c 1 t) (Rect.unit ![256, 0] ![64, 1024] inb_S512x1024_S64x1024_256_0))) (k0_pay94 (View.ld (iblk m c 3 t) (Rect.unit ![256, 0] ![64, 1024] inb_S512x1024_S64x1024_256_0)))
    (k0_pay95 (View.ld (iblk m c 4 t) (Rect.unit ![0, 4] ![1024, 1] inb_S1024x8_S1024x1_0_4))) (k0_pay96 (View.ld (iblk m c 5 t) (Rect.unit ![0, 4] ![1024, 1] inb_S1024x8_S1024x1_0_4)))
    (k0_pay97 (k0_pay89 (View.ld (iblk m c 0 t) (Rect.unit ![0, 256] ![1024, 256] inb_S1024x512_S1024x256_0_256)))) (k0_pay98 (View.ld (iblk m c 2 t) (Rect.unit ![0, 256] ![1024, 256] inb_S1024x512_S1024x256_0_256)))
    (k0_pay99 (View.ld (iblk m c 1 t) (Rect.unit ![320, 0] ![64, 1024] inb_S512x1024_S64x1024_320_0))) (k0_pay100 (View.ld (iblk m c 3 t) (Rect.unit ![320, 0] ![64, 1024] inb_S512x1024_S64x1024_320_0)))
    (k0_pay101 (View.ld (iblk m c 4 t) (Rect.unit ![0, 5] ![1024, 1] inb_S1024x8_S1024x1_0_5))) (k0_pay102 (View.ld (iblk m c 5 t) (Rect.unit ![0, 5] ![1024, 1] inb_S1024x8_S1024x1_0_5)))
    (k0_pay103 (k0_pay89 (View.ld (iblk m c 0 t) (Rect.unit ![0, 256] ![1024, 256] inb_S1024x512_S1024x256_0_256)))) (k0_pay104 (View.ld (iblk m c 2 t) (Rect.unit ![0, 256] ![1024, 256] inb_S1024x512_S1024x256_0_256)))
    (k0_pay105 (View.ld (iblk m c 1 t) (Rect.unit ![384, 0] ![64, 1024] inb_S512x1024_S64x1024_384_0))) (k0_pay106 (View.ld (iblk m c 3 t) (Rect.unit ![384, 0] ![64, 1024] inb_S512x1024_S64x1024_384_0)))
    (k0_pay107 (View.ld (iblk m c 4 t) (Rect.unit ![0, 6] ![1024, 1] inb_S1024x8_S1024x1_0_6))) (k0_pay108 (View.ld (iblk m c 5 t) (Rect.unit ![0, 6] ![1024, 1] inb_S1024x8_S1024x1_0_6)))
    (k0_pay109 (k0_pay89 (View.ld (iblk m c 0 t) (Rect.unit ![0, 256] ![1024, 256] inb_S1024x512_S1024x256_0_256)))) (k0_pay110 (View.ld (iblk m c 2 t) (Rect.unit ![0, 256] ![1024, 256] inb_S1024x512_S1024x256_0_256)))
    (View.ld (iblk m c 1 t) (Rect.unit ![448, 0] ![64, 1024] inb_S512x1024_S64x1024_448_0)) (View.ld (iblk m c 3 t) (Rect.unit ![448, 0] ![64, 1024] inb_S512x1024_S64x1024_448_0))
    (View.ld (iblk m c 4 t) (Rect.unit ![0, 7] ![1024, 1] inb_S1024x8_S1024x1_0_7)) (View.ld (iblk m c 5 t) (Rect.unit ![0, 7] ![1024, 1] inb_S1024x8_S1024x1_0_7))
    ((hs0_6 t).unread (iblk m c 6 t)) ((hs0_7 t).unread (iblk m c 7 t)) G12 G13 (k0_pay9, k0_pay9, k0_pay9, k0_pay9)

theorem trip2_R (c : Dev nD) (t : Fin cfg0.N) (k : Fin k0_t2_loop.trips) (acc f12 f13) (g : Fin 4) (y : S64x1024.Idx) :
    comp ((trip2 m c t k).1 acc f12 f13) g y
      = comp acc g y + ∑ x : Fin 512, X6 m c t (ix3 k (krow 1 (y 0)) x) * Ds m c t (hd 1 g) 1 (y 1) k x := by
  idx_vars y
  unfold trip2 trip_k0_t2; dsimp only
  fin_cases g <;>
  · pointwise [comp, Ds, Pm, Sc, Dp, k0_pay9, k0_pay10, k0_pay1, k0_pay2, k0_pay3, k0_pay4, k0_pay5, k0_pay6, k0_pay7, k0_pay8, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r]
    simp only [row_10, row_11, row_12, row_13]
    simp only [hd_10, hd_11, hd_12, hd_13]
    exact congrArg₂ HAdd.hAdd rfl (Finset.sum_congr rfl fun x _ => congrArg₂ HMul.hMul (slab2_6 m c t k _ _)
      (congrArg₂ HMul.hMul (congrArg FloatOps.exp2 (congrArg₂ HSub.hSub (Finset.sum_congr rfl fun d _ => congrArg₂ HMul.hMul (congrArg (fun b => X0 m c t (ix2 _ b)) (Fin.ext (by dsimp only <;> omega))) (slab2_6 m c t k d _)) rfl)) (congrArg₂ HSub.hSub (Finset.sum_congr rfl fun d _ => congrArg₂ HMul.hMul (congrArg (fun b => X2 m c t (ix2 _ b)) (Fin.ext (by dsimp only <;> omega))) (slab2_7 m c t k d _)) rfl)))

theorem trip2_L12 (c : Dev nD) (t : Fin cfg0.N) (k : Fin k0_t2_loop.trips) (acc f12 f13) :
    (trip2 m c t k).2.1 acc f12 f13
      = [⟨Rect.unit (k0_off2 k) S1x64x512.size (k0_off2_inb k), fun x => scM0_0.view.read (Elt Ideal) f12 (ix3 k (krow 1 (x 1)) (x 2)) + dkp m c t 1 k (x 1) (x 2)⟩] := by
  unfold trip2 trip_k0_t2; dsimp only
  refine congrArg (fun w => [(⟨Rect.unit (k0_off2 k) S1x64x512.size (k0_off2_inb k), w⟩ : View.Piece (Elt Ideal) S16x128x512 .f32)]) ?_
  funext y
  idx_vars y
  pointwise [dkp, Ds, Pm, Sc, Dp, k0_pay9, k0_pay10, k0_pay1, k0_pay2, k0_pay3, k0_pay4, k0_pay5, k0_pay6, k0_pay7, k0_pay8, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r]
  simp only [Fin.sum_univ_four, row_10, row_11, row_12, row_13]
  simp only [hd_10, hd_11, hd_12, hd_13]
  refine congrArg₂ HAdd.hAdd (slab2_12 k _ _ _) (congrArg₂ HAdd.hAdd (congrArg₂ HAdd.hAdd (congrArg₂ HAdd.hAdd ?_ ?_) ?_) ?_)
  all_goals exact Finset.sum_congr rfl fun r _ => congrArg₂ HMul.hMul rfl (congrArg₂ HMul.hMul (congrArg FloatOps.exp2 (congrArg₂ HSub.hSub (Finset.sum_congr rfl fun d _ => congrArg₂ HMul.hMul (congrArg (fun b => X0 m c t (ix2 _ b)) (Fin.ext (by dsimp only <;> omega))) (slab2_6 m c t k d _)) rfl)) (congrArg₂ HSub.hSub (Finset.sum_congr rfl fun d _ => congrArg₂ HMul.hMul (congrArg (fun b => X2 m c t (ix2 _ b)) (Fin.ext (by dsimp only <;> omega))) (slab2_7 m c t k d _)) rfl))

theorem trip2_L13 (c : Dev nD) (t : Fin cfg0.N) (k : Fin k0_t2_loop.trips) (acc f12 f13) :
    (trip2 m c t k).2.2.1 acc f12 f13
      = [⟨Rect.unit (k0_off2 k) S1x64x512.size (k0_off2_inb k), fun x => scM0_1.view.read (Elt Ideal) f13 (ix3 k (krow 1 (x 1)) (x 2)) + dvp m c t 1 k (x 1) (x 2)⟩] := by
  unfold trip2 trip_k0_t2; dsimp only
  refine congrArg (fun w => [(⟨Rect.unit (k0_off2 k) S1x64x512.size (k0_off2_inb k), w⟩ : View.Piece (Elt Ideal) S16x128x512 .f32)]) ?_
  funext y
  idx_vars y
  pointwise [dvp, Pm, Sc, k0_pay9, k0_pay10, k0_pay1, k0_pay2, k0_pay3, k0_pay4, k0_pay5, k0_pay6, k0_pay7, k0_pay8, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r]
  simp only [Fin.sum_univ_four, row_10, row_11, row_12, row_13]
  simp only [hd_10, hd_11, hd_12, hd_13]
  refine congrArg₂ HAdd.hAdd (slab2_13 k _ _ _) (congrArg₂ HAdd.hAdd (congrArg₂ HAdd.hAdd (congrArg₂ HAdd.hAdd ?_ ?_) ?_) ?_)
  all_goals exact Finset.sum_congr rfl fun r _ => congrArg₂ HMul.hMul rfl (congrArg FloatOps.exp2 (congrArg₂ HSub.hSub (Finset.sum_congr rfl fun d _ => congrArg₂ HMul.hMul (congrArg (fun b => X0 m c t (ix2 _ b)) (Fin.ext (by dsimp only <;> omega))) (slab2_6 m c t k d _)) rfl))

theorem st1_succ (c : Dev nD) (t : Fin cfg0.N) (G12 G13) (k : Fin k0_t1_loop.trips) :
    st1 m c t G12 G13 (k.val + 1)
      = ((trip1 m c t k).1 (st1 m c t G12 G13 k.val).1 (scM0_0.view.writes (Elt Ideal) G12 (st1 m c t G12 G13 k.val).2.1) (scM0_1.view.writes (Elt Ideal) G13 (st1 m c t G12 G13 k.val).2.2),
        (trip1 m c t k).2.1 (st1 m c t G12 G13 k.val).1 (scM0_0.view.writes (Elt Ideal) G12 (st1 m c t G12 G13 k.val).2.1) (scM0_1.view.writes (Elt Ideal) G13 (st1 m c t G12 G13 k.val).2.2) ++ (st1 m c t G12 G13 k.val).2.1,
        (trip1 m c t k).2.2.1 (st1 m c t G12 G13 k.val).1 (scM0_0.view.writes (Elt Ideal) G12 (st1 m c t G12 G13 k.val).2.1) (scM0_1.view.writes (Elt Ideal) G13 (st1 m c t G12 G13 k.val).2.2) ++ (st1 m c t G12 G13 k.val).2.2) :=
  st_k0_t1_succ (F := Ideal) ..

theorem st1_R (c : Dev nD) (t : Fin cfg0.N) (G12 G13) (i : ℕ) (hi : i ≤ 16) (g : Fin 4) (y : S64x1024.Idx) :
    comp (st1 m c t G12 G13 i).1 g y
      = ∑ j : Fin i, ∑ x : Fin 512, X6 m c t (ix3 (Fin.castLE hi j) (krow 0 (y 0)) x) * Ds m c t (hd 0 g) 0 (y 1) (Fin.castLE hi j) x := by
  induction i with
  | zero =>
    rw [Fin.sum_univ_zero]
    fin_cases g <;> exact Ideal.ofBits_zero_f32
  | succ i ih =>
    have e := congrArg (fun p => comp p.1 g y) (st1_succ m c t G12 G13 ⟨i, Nat.lt_of_succ_le hi⟩)
    refine e.trans ((trip1_R m c t ⟨i, Nat.lt_of_succ_le hi⟩ _ _ _ g y).trans ?_)
    refine Eq.trans ?_ (Fin.sum_univ_castSucc _).symm
    exact congrArg₂ HAdd.hAdd (ih (Nat.le_of_succ_le hi)) rfl

theorem st1_12 (c : Dev nD) (t : Fin cfg0.N) (G12 G13) (i : ℕ) (hi : i ≤ 16) (kv : Fin 2) (k : Fin 16) (d : Fin 64) (x : Fin 512) :
    scM0_0.view.read (Elt Ideal) (scM0_0.view.writes (Elt Ideal) G12 (st1 m c t G12 G13 i).2.1) (ix3 k (krow kv d) x)
      = scM0_0.view.read (Elt Ideal) G12 (ix3 k (krow kv d) x) + if k.val < i ∧ kv = 0 then dkp m c t 0 k d x else 0 := by
  induction i with
  | zero =>
    rw [if_neg (fun h => absurd h.1 (Nat.not_lt_zero _)), add_zero]
    rfl
  | succ i ih =>
    have hk : i < k0_t1_loop.trips := Nat.lt_of_succ_le hi
    have ih := ih (Nat.le_of_succ_le hi)
    have e := congrArg (fun p => p.2.1) (st1_succ m c t G12 G13 ⟨i, hk⟩)
    refine (congrArg (fun L => scM0_0.view.read (Elt Ideal) (scM0_0.view.writes (Elt Ideal) G12 L) (ix3 k (krow kv d) x)) (e.trans (congrArg (· ++ _) (trip1_L12 m c t ⟨i, hk⟩ _ _ _)))).trans ?_
    dsimp only [List.cons_append, List.nil_append]
    by_cases hm : k.val = i ∧ kv = 0
    · obtain ⟨rfl, rfl⟩ := hm
      rw [if_neg (fun h => absurd h.1 (lt_irrefl _)), add_zero] at ih
      rw [if_pos ⟨Nat.lt_succ_self _, rfl⟩, ← ih]
      refine View.read_writes_cons_unit_of_mem (off' := ![k.val, 0, 0]) scM0_0.view _ (k0_off1_inb k) _ _ _ (ix3 (0 : Fin 1) d x) (off1 k) ?_
      intro a
      fin_cases a
      exacts [rfl, rfl, (Nat.zero_add _).symm]
    · rw [if_congr (show (k.val < i + 1 ∧ kv = 0) ↔ (k.val < i ∧ kv = 0) from by omega) rfl rfl, ← ih]
      by_cases hki : k.val = i
      · refine View.read_writes_cons_unit_of_not_mem _ _ _ _ _ _ (off1 ⟨i, hk⟩) 1 ?_
        have hv : kv ≠ 0 := fun h => hm ⟨hki, h⟩
        show 64 * kv.val + d.val < 0 ∨ 0 + 64 ≤ 64 * kv.val + d.val
        have : kv.val ≠ 0 := fun h => hv (Fin.ext h)
        omega
      · refine View.read_writes_cons_unit_of_not_mem _ _ _ _ _ _ (off1 ⟨i, hk⟩) 0 ?_
        show k.val < i ∨ i + 1 ≤ k.val
        omega

theorem st1_13 (c : Dev nD) (t : Fin cfg0.N) (G12 G13) (i : ℕ) (hi : i ≤ 16) (kv : Fin 2) (k : Fin 16) (d : Fin 64) (x : Fin 512) :
    scM0_1.view.read (Elt Ideal) (scM0_1.view.writes (Elt Ideal) G13 (st1 m c t G12 G13 i).2.2) (ix3 k (krow kv d) x)
      = scM0_1.view.read (Elt Ideal) G13 (ix3 k (krow kv d) x) + if k.val < i ∧ kv = 0 then dvp m c t 0 k d x else 0 := by
  induction i with
  | zero =>
    rw [if_neg (fun h => absurd h.1 (Nat.not_lt_zero _)), add_zero]
    rfl
  | succ i ih =>
    have hk : i < k0_t1_loop.trips := Nat.lt_of_succ_le hi
    have ih := ih (Nat.le_of_succ_le hi)
    have e := congrArg (fun p => p.2.2) (st1_succ m c t G12 G13 ⟨i, hk⟩)
    refine (congrArg (fun L => scM0_1.view.read (Elt Ideal) (scM0_1.view.writes (Elt Ideal) G13 L) (ix3 k (krow kv d) x)) (e.trans (congrArg (· ++ _) (trip1_L13 m c t ⟨i, hk⟩ _ _ _)))).trans ?_
    dsimp only [List.cons_append, List.nil_append]
    by_cases hm : k.val = i ∧ kv = 0
    · obtain ⟨rfl, rfl⟩ := hm
      rw [if_neg (fun h => absurd h.1 (lt_irrefl _)), add_zero] at ih
      rw [if_pos ⟨Nat.lt_succ_self _, rfl⟩, ← ih]
      refine View.read_writes_cons_unit_of_mem (off' := ![k.val, 0, 0]) scM0_1.view _ (k0_off1_inb k) _ _ _ (ix3 (0 : Fin 1) d x) (off1 k) ?_
      intro a
      fin_cases a
      exacts [rfl, rfl, (Nat.zero_add _).symm]
    · rw [if_congr (show (k.val < i + 1 ∧ kv = 0) ↔ (k.val < i ∧ kv = 0) from by omega) rfl rfl, ← ih]
      by_cases hki : k.val = i
      · refine View.read_writes_cons_unit_of_not_mem _ _ _ _ _ _ (off1 ⟨i, hk⟩) 1 ?_
        have hv : kv ≠ 0 := fun h => hm ⟨hki, h⟩
        show 64 * kv.val + d.val < 0 ∨ 0 + 64 ≤ 64 * kv.val + d.val
        have : kv.val ≠ 0 := fun h => hv (Fin.ext h)
        omega
      · refine View.read_writes_cons_unit_of_not_mem _ _ _ _ _ _ (off1 ⟨i, hk⟩) 0 ?_
        show k.val < i ∨ i + 1 ≤ k.val
        omega

theorem st2_succ (c : Dev nD) (t : Fin cfg0.N) (G12 G13) (k : Fin k0_t2_loop.trips) :
    st2 m c t G12 G13 (k.val + 1)
      = ((trip2 m c t k).1 (st2 m c t G12 G13 k.val).1 (scM0_0.view.writes (Elt Ideal) G12 (st2 m c t G12 G13 k.val).2.1) (scM0_1.view.writes (Elt Ideal) G13 (st2 m c t G12 G13 k.val).2.2),
        (trip2 m c t k).2.1 (st2 m c t G12 G13 k.val).1 (scM0_0.view.writes (Elt Ideal) G12 (st2 m c t G12 G13 k.val).2.1) (scM0_1.view.writes (Elt Ideal) G13 (st2 m c t G12 G13 k.val).2.2) ++ (st2 m c t G12 G13 k.val).2.1,
        (trip2 m c t k).2.2.1 (st2 m c t G12 G13 k.val).1 (scM0_0.view.writes (Elt Ideal) G12 (st2 m c t G12 G13 k.val).2.1) (scM0_1.view.writes (Elt Ideal) G13 (st2 m c t G12 G13 k.val).2.2) ++ (st2 m c t G12 G13 k.val).2.2) :=
  st_k0_t2_succ (F := Ideal) ..

theorem st2_R (c : Dev nD) (t : Fin cfg0.N) (G12 G13) (i : ℕ) (hi : i ≤ 16) (g : Fin 4) (y : S64x1024.Idx) :
    comp (st2 m c t G12 G13 i).1 g y
      = ∑ j : Fin i, ∑ x : Fin 512, X6 m c t (ix3 (Fin.castLE hi j) (krow 1 (y 0)) x) * Ds m c t (hd 1 g) 1 (y 1) (Fin.castLE hi j) x := by
  induction i with
  | zero =>
    rw [Fin.sum_univ_zero]
    fin_cases g <;> exact Ideal.ofBits_zero_f32
  | succ i ih =>
    have e := congrArg (fun p => comp p.1 g y) (st2_succ m c t G12 G13 ⟨i, Nat.lt_of_succ_le hi⟩)
    refine e.trans ((trip2_R m c t ⟨i, Nat.lt_of_succ_le hi⟩ _ _ _ g y).trans ?_)
    refine Eq.trans ?_ (Fin.sum_univ_castSucc _).symm
    exact congrArg₂ HAdd.hAdd (ih (Nat.le_of_succ_le hi)) rfl

theorem st2_12 (c : Dev nD) (t : Fin cfg0.N) (G12 G13) (i : ℕ) (hi : i ≤ 16) (kv : Fin 2) (k : Fin 16) (d : Fin 64) (x : Fin 512) :
    scM0_0.view.read (Elt Ideal) (scM0_0.view.writes (Elt Ideal) G12 (st2 m c t G12 G13 i).2.1) (ix3 k (krow kv d) x)
      = scM0_0.view.read (Elt Ideal) G12 (ix3 k (krow kv d) x) + if k.val < i ∧ kv = 1 then dkp m c t 1 k d x else 0 := by
  induction i with
  | zero =>
    rw [if_neg (fun h => absurd h.1 (Nat.not_lt_zero _)), add_zero]
    rfl
  | succ i ih =>
    have hk : i < k0_t2_loop.trips := Nat.lt_of_succ_le hi
    have ih := ih (Nat.le_of_succ_le hi)
    have e := congrArg (fun p => p.2.1) (st2_succ m c t G12 G13 ⟨i, hk⟩)
    refine (congrArg (fun L => scM0_0.view.read (Elt Ideal) (scM0_0.view.writes (Elt Ideal) G12 L) (ix3 k (krow kv d) x)) (e.trans (congrArg (· ++ _) (trip2_L12 m c t ⟨i, hk⟩ _ _ _)))).trans ?_
    dsimp only [List.cons_append, List.nil_append]
    by_cases hm : k.val = i ∧ kv = 1
    · obtain ⟨rfl, rfl⟩ := hm
      rw [if_neg (fun h => absurd h.1 (lt_irrefl _)), add_zero] at ih
      rw [if_pos ⟨Nat.lt_succ_self _, rfl⟩, ← ih]
      refine View.read_writes_cons_unit_of_mem (off' := ![k.val, 64, 0]) scM0_0.view _ (k0_off2_inb k) _ _ _ (ix3 (0 : Fin 1) d x) (off2 k) ?_
      intro a
      fin_cases a
      exacts [rfl, rfl, (Nat.zero_add _).symm]
    · rw [if_congr (show (k.val < i + 1 ∧ kv = 1) ↔ (k.val < i ∧ kv = 1) from by omega) rfl rfl, ← ih]
      by_cases hki : k.val = i
      · refine View.read_writes_cons_unit_of_not_mem _ _ _ _ _ _ (off2 ⟨i, hk⟩) 1 ?_
        have hv : kv ≠ 1 := fun h => hm ⟨hki, h⟩
        show 64 * kv.val + d.val < 64 ∨ 64 + 64 ≤ 64 * kv.val + d.val
        have : kv.val ≠ 1 := fun h => hv (Fin.ext h)
        omega
      · refine View.read_writes_cons_unit_of_not_mem _ _ _ _ _ _ (off2 ⟨i, hk⟩) 0 ?_
        show k.val < i ∨ i + 1 ≤ k.val
        omega

theorem st2_13 (c : Dev nD) (t : Fin cfg0.N) (G12 G13) (i : ℕ) (hi : i ≤ 16) (kv : Fin 2) (k : Fin 16) (d : Fin 64) (x : Fin 512) :
    scM0_1.view.read (Elt Ideal) (scM0_1.view.writes (Elt Ideal) G13 (st2 m c t G12 G13 i).2.2) (ix3 k (krow kv d) x)
      = scM0_1.view.read (Elt Ideal) G13 (ix3 k (krow kv d) x) + if k.val < i ∧ kv = 1 then dvp m c t 1 k d x else 0 := by
  induction i with
  | zero =>
    rw [if_neg (fun h => absurd h.1 (Nat.not_lt_zero _)), add_zero]
    rfl
  | succ i ih =>
    have hk : i < k0_t2_loop.trips := Nat.lt_of_succ_le hi
    have ih := ih (Nat.le_of_succ_le hi)
    have e := congrArg (fun p => p.2.2) (st2_succ m c t G12 G13 ⟨i, hk⟩)
    refine (congrArg (fun L => scM0_1.view.read (Elt Ideal) (scM0_1.view.writes (Elt Ideal) G13 L) (ix3 k (krow kv d) x)) (e.trans (congrArg (· ++ _) (trip2_L13 m c t ⟨i, hk⟩ _ _ _)))).trans ?_
    dsimp only [List.cons_append, List.nil_append]
    by_cases hm : k.val = i ∧ kv = 1
    · obtain ⟨rfl, rfl⟩ := hm
      rw [if_neg (fun h => absurd h.1 (lt_irrefl _)), add_zero] at ih
      rw [if_pos ⟨Nat.lt_succ_self _, rfl⟩, ← ih]
      refine View.read_writes_cons_unit_of_mem (off' := ![k.val, 64, 0]) scM0_1.view _ (k0_off2_inb k) _ _ _ (ix3 (0 : Fin 1) d x) (off2 k) ?_
      intro a
      fin_cases a
      exacts [rfl, rfl, (Nat.zero_add _).symm]
    · rw [if_congr (show (k.val < i + 1 ∧ kv = 1) ↔ (k.val < i ∧ kv = 1) from by omega) rfl rfl, ← ih]
      by_cases hki : k.val = i
      · refine View.read_writes_cons_unit_of_not_mem _ _ _ _ _ _ (off2 ⟨i, hk⟩) 1 ?_
        have hv : kv ≠ 1 := fun h => hm ⟨hki, h⟩
        show 64 * kv.val + d.val < 64 ∨ 64 + 64 ≤ 64 * kv.val + d.val
        have : kv.val ≠ 1 := fun h => hv (Fin.ext h)
        omega
      · refine View.read_writes_cons_unit_of_not_mem _ _ _ _ _ _ (off2 ⟨i, hk⟩) 0 ?_
        show k.val < i ∨ i + 1 ≤ k.val
        omega

end Cert.AttnKIdeal.Final
-- ==== Proof.AttnPoint.lean ====
module

public import proofs.«01_k».proof.Proof.AttnLoop

@[expose] public section

set_option maxRecDepth 16384

noncomputable section

open Idealize.ShloMosaic Idealize.ShloMosaic.TcCoe Idealize.SL.Sem
open Idealize.ShloMosaic.Pipeline (Dat)

namespace Cert.AttnKIdeal.Final

open Cert.AttnKIdeal Cert.AttnKIdeal.Gen

variable (m : (ℓ : Loc nD τ sig) → Buf (Elt Ideal) ℓ)

/-- The key head of a query head. -/
def kvOf (h : Fin 8) : Fin 2 := ⟨h.val / 4, by omega⟩

/-- What a point's block of the queries' gradient holds. -/
def dqp (c : Dev nD) (t : Fin cfg0.N) (h : Fin 8) (d : Fin 64) (r : Fin 1024) : EReal :=
  ∑ k : Fin 16, ∑ x : Fin 512, X6 m c t (ix3 k (krow (kvOf h) d) x) * Ds m c t h (kvOf h) r k x

theorem can1_12 (c : Dev nD) (t : Fin cfg0.N) (G12 G13) (R : List (View.Piece (Elt Ideal) S16x128x512 .f32)) (i : ℕ) (hi : i ≤ 16) (kv : Fin 2) (k : Fin 16) (d : Fin 64) (x : Fin 512) :
    View.canon ((st1 m c t G12 G13 i).2.1 ++ R) (ix3 k (krow kv d) x)
      = if k.val < i ∧ kv = 0 then scM0_0.view.read (Elt Ideal) G12 (ix3 k (krow kv d) x) + dkp m c t 0 k d x else View.canon R (ix3 k (krow kv d) x) := by
  induction i with
  | zero =>
    rw [if_neg (fun h => absurd h.1 (Nat.not_lt_zero _))]
    rfl
  | succ i ih =>
    have hk : i < k0_t1_loop.trips := Nat.lt_of_succ_le hi
    have ih := ih (Nat.le_of_succ_le hi)
    have e := congrArg (fun p => p.2.1) (st1_succ m c t G12 G13 ⟨i, hk⟩)
    refine (congrArg (fun L => View.canon (L ++ R) (ix3 k (krow kv d) x)) (e.trans (congrArg (· ++ _) (trip1_L12 m c t ⟨i, hk⟩ _ _ _)))).trans ?_
    dsimp only [List.cons_append, List.nil_append]
    by_cases hm : k.val = i ∧ kv = 0
    · obtain ⟨rfl, rfl⟩ := hm
      rw [if_pos ⟨Nat.lt_succ_self _, rfl⟩]
      have e := st1_12 m c t G12 G13 k.val (Nat.le_of_succ_le hi) 0 k d x
      rw [if_neg (fun h => absurd h.1 (lt_irrefl _)), add_zero] at e
      rw [← e]
      refine Rl.canon_mem (s := S16x128x512) (off := k0_off1 k) (size := S1x64x512.size) (k0_off1_inb k) _ _ _ (ix3 (0 : Fin 1) d x) ?_
      intro a
      refine Eq.trans ?_ (congrArg (· + _) (congrFun (off1 k) a).symm)
      fin_cases a
      exacts [rfl, rfl, (Nat.zero_add _).symm]
    · rw [if_congr (show (k.val < i + 1 ∧ kv = 0) ↔ (k.val < i ∧ kv = 0) from by omega) rfl rfl, ← ih]
      by_cases hki : k.val = i
      · refine Rl.canon_not_mem (k0_off1_inb ⟨i, hk⟩) _ _ _ 1 ?_
        rw [off1]
        have hv : kv ≠ 0 := fun h => hm ⟨hki, h⟩
        show 64 * kv.val + d.val < 0 ∨ 0 + 64 ≤ 64 * kv.val + d.val
        have : kv.val ≠ 0 := fun h => hv (Fin.ext h)
        omega
      · refine Rl.canon_not_mem (k0_off1_inb ⟨i, hk⟩) _ _ _ 0 ?_
        rw [off1]
        show k.val < i ∨ i + 1 ≤ k.val
        omega

theorem can1_13 (c : Dev nD) (t : Fin cfg0.N) (G12 G13) (R : List (View.Piece (Elt Ideal) S16x128x512 .f32)) (i : ℕ) (hi : i ≤ 16) (kv : Fin 2) (k : Fin 16) (d : Fin 64) (x : Fin 512) :
    View.canon ((st1 m c t G12 G13 i).2.2 ++ R) (ix3 k (krow kv d) x)
      = if k.val < i ∧ kv = 0 then scM0_1.view.read (Elt Ideal) G13 (ix3 k (krow kv d) x) + dvp m c t 0 k d x else View.canon R (ix3 k (krow kv d) x) := by
  induction i with
  | zero =>
    rw [if_neg (fun h => absurd h.1 (Nat.not_lt_zero _))]
    rfl
  | succ i ih =>
    have hk : i < k0_t1_loop.trips := Nat.lt_of_succ_le hi
    have ih := ih (Nat.le_of_succ_le hi)
    have e := congrArg (fun p => p.2.2) (st1_succ m c t G12 G13 ⟨i, hk⟩)
    refine (congrArg (fun L => View.canon (L ++ R) (ix3 k (krow kv d) x)) (e.trans (congrArg (· ++ _) (trip1_L13 m c t ⟨i, hk⟩ _ _ _)))).trans ?_
    dsimp only [List.cons_append, List.nil_append]
    by_cases hm : k.val = i ∧ kv = 0
    · obtain ⟨rfl, rfl⟩ := hm
      rw [if_pos ⟨Nat.lt_succ_self _, rfl⟩]
      have e := st1_13 m c t G12 G13 k.val (Nat.le_of_succ_le hi) 0 k d x
      rw [if_neg (fun h => absurd h.1 (lt_irrefl _)), add_zero] at e
      rw [← e]
      refine Rl.canon_mem (s := S16x128x512) (off := k0_off1 k) (size := S1x64x512.size) (k0_off1_inb k) _ _ _ (ix3 (0 : Fin 1) d x) ?_
      intro a
      refine Eq.trans ?_ (congrArg (· + _) (congrFun (off1 k) a).symm)
      fin_cases a
      exacts [rfl, rfl, (Nat.zero_add _).symm]
    · rw [if_congr (show (k.val < i + 1 ∧ kv = 0) ↔ (k.val < i ∧ kv = 0) from by omega) rfl rfl, ← ih]
      by_cases hki : k.val = i
      · refine Rl.canon_not_mem (k0_off1_inb ⟨i, hk⟩) _ _ _ 1 ?_
        rw [off1]
        have hv : kv ≠ 0 := fun h => hm ⟨hki, h⟩
        show 64 * kv.val + d.val < 0 ∨ 0 + 64 ≤ 64 * kv.val + d.val
        have : kv.val ≠ 0 := fun h => hv (Fin.ext h)
        omega
      · refine Rl.canon_not_mem (k0_off1_inb ⟨i, hk⟩) _ _ _ 0 ?_
        rw [off1]
        show k.val < i ∨ i + 1 ≤ k.val
        omega

theorem can2_12 (c : Dev nD) (t : Fin cfg0.N) (G12 G13) (R : List (View.Piece (Elt Ideal) S16x128x512 .f32)) (i : ℕ) (hi : i ≤ 16) (kv : Fin 2) (k : Fin 16) (d : Fin 64) (x : Fin 512) :
    View.canon ((st2 m c t G12 G13 i).2.1 ++ R) (ix3 k (krow kv d) x)
      = if k.val < i ∧ kv = 1 then scM0_0.view.read (Elt Ideal) G12 (ix3 k (krow kv d) x) + dkp m c t 1 k d x else View.canon R (ix3 k (krow kv d) x) := by
  induction i with
  | zero =>
    rw [if_neg (fun h => absurd h.1 (Nat.not_lt_zero _))]
    rfl
  | succ i ih =>
    have hk : i < k0_t2_loop.trips := Nat.lt_of_succ_le hi
    have ih := ih (Nat.le_of_succ_le hi)
    have e := congrArg (fun p => p.2.1) (st2_succ m c t G12 G13 ⟨i, hk⟩)
    refine (congrArg (fun L => View.canon (L ++ R) (ix3 k (krow kv d) x)) (e.trans (congrArg (· ++ _) (trip2_L12 m c t ⟨i, hk⟩ _ _ _)))).trans ?_
    dsimp only [List.cons_append, List.nil_append]
    by_cases hm : k.val = i ∧ kv = 1
    · obtain ⟨rfl, rfl⟩ := hm
      rw [if_pos ⟨Nat.lt_succ_self _, rfl⟩]
      have e := st2_12 m c t G12 G13 k.val (Nat.le_of_succ_le hi) 1 k d x
      rw [if_neg (fun h => absurd h.1 (lt_irrefl _)), add_zero] at e
      rw [← e]
      refine Rl.canon_mem (s := S16x128x512) (off := k0_off2 k) (size := S1x64x512.size) (k0_off2_inb k) _ _ _ (ix3 (0 : Fin 1) d x) ?_
      intro a
      refine Eq.trans ?_ (congrArg (· + _) (congrFun (off2 k) a).symm)
      fin_cases a
      exacts [rfl, rfl, (Nat.zero_add _).symm]
    · rw [if_congr (show (k.val < i + 1 ∧ kv = 1) ↔ (k.val < i ∧ kv = 1) from by omega) rfl rfl, ← ih]
      by_cases hki : k.val = i
      · refine Rl.canon_not_mem (k0_off2_inb ⟨i, hk⟩) _ _ _ 1 ?_
        rw [off2]
        have hv : kv ≠ 1 := fun h => hm ⟨hki, h⟩
        show 64 * kv.val + d.val < 64 ∨ 64 + 64 ≤ 64 * kv.val + d.val
        have : kv.val ≠ 1 := fun h => hv (Fin.ext h)
        omega
      · refine Rl.canon_not_mem (k0_off2_inb ⟨i, hk⟩) _ _ _ 0 ?_
        rw [off2]
        show k.val < i ∨ i + 1 ≤ k.val
        omega

theorem can2_13 (c : Dev nD) (t : Fin cfg0.N) (G12 G13) (R : List (View.Piece (Elt Ideal) S16x128x512 .f32)) (i : ℕ) (hi : i ≤ 16) (kv : Fin 2) (k : Fin 16) (d : Fin 64) (x : Fin 512) :
    View.canon ((st2 m c t G12 G13 i).2.2 ++ R) (ix3 k (krow kv d) x)
      = if k.val < i ∧ kv = 1 then scM0_1.view.read (Elt Ideal) G13 (ix3 k (krow kv d) x) + dvp m c t 1 k d x else View.canon R (ix3 k (krow kv d) x) := by
  induction i with
  | zero =>
    rw [if_neg (fun h => absurd h.1 (Nat.not_lt_zero _))]
    rfl
  | succ i ih =>
    have hk : i < k0_t2_loop.trips := Nat.lt_of_succ_le hi
    have ih := ih (Nat.le_of_succ_le hi)
    have e := congrArg (fun p => p.2.2) (st2_succ m c t G12 G13 ⟨i, hk⟩)
    refine (congrArg (fun L => View.canon (L ++ R) (ix3 k (krow kv d) x)) (e.trans (congrArg (· ++ _) (trip2_L13 m c t ⟨i, hk⟩ _ _ _)))).trans ?_
    dsimp only [List.cons_append, List.nil_append]
    by_cases hm : k.val = i ∧ kv = 1
    · obtain ⟨rfl, rfl⟩ := hm
      rw [if_pos ⟨Nat.lt_succ_self _, rfl⟩]
      have e := st2_13 m c t G12 G13 k.val (Nat.le_of_succ_le hi) 1 k d x
      rw [if_neg (fun h => absurd h.1 (lt_irrefl _)), add_zero] at e
      rw [← e]
      refine Rl.canon_mem (s := S16x128x512) (off := k0_off2 k) (size := S1x64x512.size) (k0_off2_inb k) _ _ _ (ix3 (0 : Fin 1) d x) ?_
      intro a
      refine Eq.trans ?_ (congrArg (· + _) (congrFun (off2 k) a).symm)
      fin_cases a
      exacts [rfl, rfl, (Nat.zero_add _).symm]
    · rw [if_congr (show (k.val < i + 1 ∧ kv = 1) ↔ (k.val < i ∧ kv = 1) from by omega) rfl rfl, ← ih]
      by_cases hki : k.val = i
      · refine Rl.canon_not_mem (k0_off2_inb ⟨i, hk⟩) _ _ _ 1 ?_
        rw [off2]
        have hv : kv ≠ 1 := fun h => hm ⟨hki, h⟩
        show 64 * kv.val + d.val < 64 ∨ 64 + 64 ≤ 64 * kv.val + d.val
        have : kv.val ≠ 1 := fun h => hv (Fin.ext h)
        omega
      · refine Rl.canon_not_mem (k0_off2_inb ⟨i, hk⟩) _ _ _ 0 ?_
        rw [off2]
        show k.val < i ∨ i + 1 ≤ k.val
        omega

/-- Both loops: the slab of key block `k` holds what it held before them plus the point's part. -/
theorem both_12 (c : Dev nD) (t : Fin cfg0.N) (G12 G13 H12 H13) (hH : H12 = scM0_0.view.writes (Elt Ideal) G12 (st1 m c t G12 G13 16).2.1)
    (R : List (View.Piece (Elt Ideal) S16x128x512 .f32)) (kv : Fin 2) (k : Fin 16) (d : Fin 64) (x : Fin 512) :
    View.canon ((st2 m c t H12 H13 16).2.1 ++ ((st1 m c t G12 G13 16).2.1 ++ R)) (ix3 k (krow kv d) x)
      = scM0_0.view.read (Elt Ideal) G12 (ix3 k (krow kv d) x) + dkp m c t kv k d x := by
  rw [can2_12 m c t _ _ _ 16 le_rfl, can1_12 m c t _ _ _ 16 le_rfl, hH, st1_12 m c t _ _ 16 le_rfl]
  have hk := k.isLt
  fin_cases kv
  · rw [if_neg (fun h => absurd h.2 (by decide)), if_pos ⟨hk, rfl⟩]
    rfl
  · rw [if_pos ⟨hk, rfl⟩, if_neg (fun h => absurd h.2 (by decide)), add_zero]
    rfl

/-- Both loops: the slab of key block `k` holds what it held before them plus the point's part. -/
theorem both_13 (c : Dev nD) (t : Fin cfg0.N) (G12 G13 H12 H13) (hH : H13 = scM0_1.view.writes (Elt Ideal) G13 (st1 m c t G12 G13 16).2.2)
    (R : List (View.Piece (Elt Ideal) S16x128x512 .f32)) (kv : Fin 2) (k : Fin 16) (d : Fin 64) (x : Fin 512) :
    View.canon ((st2 m c t H12 H13 16).2.2 ++ ((st1 m c t G12 G13 16).2.2 ++ R)) (ix3 k (krow kv d) x)
      = scM0_1.view.read (Elt Ideal) G13 (ix3 k (krow kv d) x) + dvp m c t kv k d x := by
  rw [can2_13 m c t _ _ _ 16 le_rfl, can1_13 m c t _ _ _ 16 le_rfl, hH, st1_13 m c t _ _ 16 le_rfl]
  have hk := k.isLt
  fin_cases kv
  · rw [if_neg (fun h => absurd h.2 (by decide)), if_pos ⟨hk, rfl⟩]
    rfl
  · rw [if_pos ⟨hk, rfl⟩, if_neg (fun h => absurd h.2 (by decide)), add_zero]
    rfl

/-- A key row names its head and its feature. -/
theorem krow_surj (r : Fin 128) : ∃ (kv : Fin 2) (d : Fin 64), r = krow kv d :=
  ⟨⟨r.val / 64, by omega⟩, ⟨r.val % 64, by omega⟩, Fin.ext (by show r.val = 64 * (r.val / 64) + r.val % 64; omega)⟩

theorem scA_12 (c : Dev nD) (t : Fin cfg0.N) (h0 : t.val % 8 = 0) (h1 : ¬t.val % 8 = 7) (kv : Fin 2) (k : Fin 16) (d : Fin 64) (x : Fin 512) :
    (outsAt0 m c t.val t.isLt).2.1 (ix3 k (krow kv d) x) = 0 + dkp m c t kv k d x := by
  rw [outsAt0_A m c t h0 h1]
  frame_out
  refine (both_12 m c t _ _ _ _ (View.writes_append ..) _ kv k d x).trans (congrArg (· + _) ?_)
  refine (View.read_writes_cons_unit_of_mem (off' := ![0, 0, 0]) scM0_0.view _ inb_S16x128x512_S16x128x512_0_0_0 _ _ _ (ix3 k (krow kv d) x) rfl (fun a => by fin_cases a <;> exact (Nat.zero_add _).symm)).trans ?_
  exact Ideal.ofBits_zero_f32

theorem scA_13 (c : Dev nD) (t : Fin cfg0.N) (h0 : t.val % 8 = 0) (h1 : ¬t.val % 8 = 7) (kv : Fin 2) (k : Fin 16) (d : Fin 64) (x : Fin 512) :
    (outsAt0 m c t.val t.isLt).2.2.1 (ix3 k (krow kv d) x) = 0 + dvp m c t kv k d x := by
  rw [outsAt0_A m c t h0 h1]
  frame_out
  refine (both_13 m c t _ _ _ _ (View.writes_append ..) _ kv k d x).trans (congrArg (· + _) ?_)
  refine (View.read_writes_cons_unit_of_mem (off' := ![0, 0, 0]) scM0_1.view _ inb_S16x128x512_S16x128x512_0_0_0 _ _ _ (ix3 k (krow kv d) x) rfl (fun a => by fin_cases a <;> exact (Nat.zero_add _).symm)).trans ?_
  exact Ideal.ofBits_zero_f32

theorem dqA (c : Dev nD) (t : Fin cfg0.N) (h0 : t.val % 8 = 0) (h1 : ¬t.val % 8 = 7) (h : Fin 8) (d : Fin 64) (r : Fin 1024) :
    (outsAt0 m c t.val t.isLt).1 (ix2 (row h d) r) = dqp m c t h d r := by
  rw [outsAt0_A m c t h0 h1]
  frame_out
  fin_cases h
  · refine (Rl.canon_not_mem inb_S512x1024_S64x1024_448_0 _ _ _ 0 (Or.inl (by show 64 * 0 + d.val < 448; omega))).trans ?_
    refine (Rl.canon_not_mem inb_S512x1024_S64x1024_384_0 _ _ _ 0 (Or.inl (by show 64 * 0 + d.val < 384; omega))).trans ?_
    refine (Rl.canon_not_mem inb_S512x1024_S64x1024_320_0 _ _ _ 0 (Or.inl (by show 64 * 0 + d.val < 320; omega))).trans ?_
    refine (Rl.canon_not_mem inb_S512x1024_S64x1024_256_0 _ _ _ 0 (Or.inl (by show 64 * 0 + d.val < 256; omega))).trans ?_
    refine (Rl.canon_not_mem inb_S512x1024_S64x1024_192_0 _ _ _ 0 (Or.inl (by show 64 * 0 + d.val < 192; omega))).trans ?_
    refine (Rl.canon_not_mem inb_S512x1024_S64x1024_128_0 _ _ _ 0 (Or.inl (by show 64 * 0 + d.val < 128; omega))).trans ?_
    refine (Rl.canon_not_mem inb_S512x1024_S64x1024_64_0 _ _ _ 0 (Or.inl (by show 64 * 0 + d.val < 64; omega))).trans ?_
    refine (Rl.canon_mem inb_S512x1024_S64x1024_0_0 _ _ _ (ix2 d r) (fun a => by fin_cases a; exacts [rfl, (Nat.zero_add _).symm])).trans ?_
    exact st1_R m c t _ _ 16 le_rfl 0 (ix2 d r)
  · refine (Rl.canon_not_mem inb_S512x1024_S64x1024_448_0 _ _ _ 0 (Or.inl (by show 64 * 1 + d.val < 448; omega))).trans ?_
    refine (Rl.canon_not_mem inb_S512x1024_S64x1024_384_0 _ _ _ 0 (Or.inl (by show 64 * 1 + d.val < 384; omega))).trans ?_
    refine (Rl.canon_not_mem inb_S512x1024_S64x1024_320_0 _ _ _ 0 (Or.inl (by show 64 * 1 + d.val < 320; omega))).trans ?_
    refine (Rl.canon_not_mem inb_S512x1024_S64x1024_256_0 _ _ _ 0 (Or.inl (by show 64 * 1 + d.val < 256; omega))).trans ?_
    refine (Rl.canon_not_mem inb_S512x1024_S64x1024_192_0 _ _ _ 0 (Or.inl (by show 64 * 1 + d.val < 192; omega))).trans ?_
    refine (Rl.canon_not_mem inb_S512x1024_S64x1024_128_0 _ _ _ 0 (Or.inl (by show 64 * 1 + d.val < 128; omega))).trans ?_
    refine (Rl.canon_mem inb_S512x1024_S64x1024_64_0 _ _ _ (ix2 d r) (fun a => by fin_cases a; exacts [rfl, (Nat.zero_add _).symm])).trans ?_
    exact st1_R m c t _ _ 16 le_rfl 1 (ix2 d r)
  · refine (Rl.canon_not_mem inb_S512x1024_S64x1024_448_0 _ _ _ 0 (Or.inl (by show 64 * 2 + d.val < 448; omega))).trans ?_
    refine (Rl.canon_not_mem inb_S512x1024_S64x1024_384_0 _ _ _ 0 (Or.inl (by show 64 * 2 + d.val < 384; omega))).trans ?_
    refine (Rl.canon_not_mem inb_S512x1024_S64x1024_320_0 _ _ _ 0 (Or.inl (by show 64 * 2 + d.val < 320; omega))).trans ?_
    refine (Rl.canon_not_mem inb_S512x1024_S64x1024_256_0 _ _ _ 0 (Or.inl (by show 64 * 2 + d.val < 256; omega))).trans ?_
    refine (Rl.canon_not_mem inb_S512x1024_S64x1024_192_0 _ _ _ 0 (Or.inl (by show 64 * 2 + d.val < 192; omega))).trans ?_
    refine (Rl.canon_mem inb_S512x1024_S64x1024_128_0 _ _ _ (ix2 d r) (fun a => by fin_cases a; exacts [rfl, (Nat.zero_add _).symm])).trans ?_
    exact st1_R m c t _ _ 16 le_rfl 2 (ix2 d r)
  · refine (Rl.canon_not_mem inb_S512x1024_S64x1024_448_0 _ _ _ 0 (Or.inl (by show 64 * 3 + d.val < 448; omega))).trans ?_
    refine (Rl.canon_not_mem inb_S512x1024_S64x1024_384_0 _ _ _ 0 (Or.inl (by show 64 * 3 + d.val < 384; omega))).trans ?_
    refine (Rl.canon_not_mem inb_S512x1024_S64x1024_320_0 _ _ _ 0 (Or.inl (by show 64 * 3 + d.val < 320; omega))).trans ?_
    refine (Rl.canon_not_mem inb_S512x1024_S64x1024_256_0 _ _ _ 0 (Or.inl (by show 64 * 3 + d.val < 256; omega))).trans ?_
    refine (Rl.canon_mem inb_S512x1024_S64x1024_192_0 _ _ _ (ix2 d r) (fun a => by fin_cases a; exacts [rfl, (Nat.zero_add _).symm])).trans ?_
    exact st1_R m c t _ _ 16 le_rfl 3 (ix2 d r)
  · refine (Rl.canon_not_mem inb_S512x1024_S64x1024_448_0 _ _ _ 0 (Or.inl (by show 64 * 4 + d.val < 448; omega))).trans ?_
    refine (Rl.canon_not_mem inb_S512x1024_S64x1024_384_0 _ _ _ 0 (Or.inl (by show 64 * 4 + d.val < 384; omega))).trans ?_
    refine (Rl.canon_not_mem inb_S512x1024_S64x1024_320_0 _ _ _ 0 (Or.inl (by show 64 * 4 + d.val < 320; omega))).trans ?_
    refine (Rl.canon_mem inb_S512x1024_S64x1024_256_0 _ _ _ (ix2 d r) (fun a => by fin_cases a; exacts [rfl, (Nat.zero_add _).symm])).trans ?_
    exact st2_R m c t _ _ 16 le_rfl 0 (ix2 d r)
  · refine (Rl.canon_not_mem inb_S512x1024_S64x1024_448_0 _ _ _ 0 (Or.inl (by show 64 * 5 + d.val < 448; omega))).trans ?_
    refine (Rl.canon_not_mem inb_S512x1024_S64x1024_384_0 _ _ _ 0 (Or.inl (by show 64 * 5 + d.val < 384; omega))).trans ?_
    refine (Rl.canon_mem inb_S512x1024_S64x1024_320_0 _ _ _ (ix2 d r) (fun a => by fin_cases a; exacts [rfl, (Nat.zero_add _).symm])).trans ?_
    exact st2_R m c t _ _ 16 le_rfl 1 (ix2 d r)
  · refine (Rl.canon_not_mem inb_S512x1024_S64x1024_448_0 _ _ _ 0 (Or.inl (by show 64 * 6 + d.val < 448; omega))).trans ?_
    refine (Rl.canon_mem inb_S512x1024_S64x1024_384_0 _ _ _ (ix2 d r) (fun a => by fin_cases a; exacts [rfl, (Nat.zero_add _).symm])).trans ?_
    exact st2_R m c t _ _ 16 le_rfl 2 (ix2 d r)
  · refine (Rl.canon_mem inb_S512x1024_S64x1024_448_0 _ _ _ (ix2 d r) (fun a => by fin_cases a; exacts [rfl, (Nat.zero_add _).symm])).trans ?_
    exact st2_R m c t _ _ 16 le_rfl 3 (ix2 d r)

theorem scB_12 (c : Dev nD) (t : Fin cfg0.N) (h0 : ¬t.val % 8 = 0) (h1 : ¬t.val % 8 = 7) (kv : Fin 2) (k : Fin 16) (d : Fin 64) (x : Fin 512) :
    (outsAt0 m c t.val t.isLt).2.1 (ix3 k (krow kv d) x) = (outsAt0 m c (t.val - 1) (Nat.lt_of_le_of_lt (Nat.sub_le ..) t.isLt)).2.1 (ix3 k (krow kv d) x) + dkp m c t kv k d x := by
  rw [outsAt0_B m c t h0 h1]
  frame_out
  refine (congrArg (fun L => View.canon (_ ++ L) (ix3 k (krow kv d) x)) (List.append_nil _).symm).trans ((both_12 m c t _ _ _ _ rfl [] kv k d x).trans (congrArg (· + _) ?_))
  exact congrFun ((Memref.isWhole_whole _).read_unread _) _

theorem scB_13 (c : Dev nD) (t : Fin cfg0.N) (h0 : ¬t.val % 8 = 0) (h1 : ¬t.val % 8 = 7) (kv : Fin 2) (k : Fin 16) (d : Fin 64) (x : Fin 512) :
    (outsAt0 m c t.val t.isLt).2.2.1 (ix3 k (krow kv d) x) = (outsAt0 m c (t.val - 1) (Nat.lt_of_le_of_lt (Nat.sub_le ..) t.isLt)).2.2.1 (ix3 k (krow kv d) x) + dvp m c t kv k d x := by
  rw [outsAt0_B m c t h0 h1]
  frame_out
  refine (congrArg (fun L => View.canon (_ ++ L) (ix3 k (krow kv d) x)) (List.append_nil _).symm).trans ((both_13 m c t _ _ _ _ rfl [] kv k d x).trans (congrArg (· + _) ?_))
  exact congrFun ((Memref.isWhole_whole _).read_unread _) _

theorem dqB (c : Dev nD) (t : Fin cfg0.N) (h0 : ¬t.val % 8 = 0) (h1 : ¬t.val % 8 = 7) (h : Fin 8) (d : Fin 64) (r : Fin 1024) :
    (outsAt0 m c t.val t.isLt).1 (ix2 (row h d) r) = dqp m c t h d r := by
  rw [outsAt0_B m c t h0 h1]
  frame_out
  fin_cases h
  · refine (Rl.canon_not_mem inb_S512x1024_S64x1024_448_0 _ _ _ 0 (Or.inl (by show 64 * 0 + d.val < 448; omega))).trans ?_
    refine (Rl.canon_not_mem inb_S512x1024_S64x1024_384_0 _ _ _ 0 (Or.inl (by show 64 * 0 + d.val < 384; omega))).trans ?_
    refine (Rl.canon_not_mem inb_S512x1024_S64x1024_320_0 _ _ _ 0 (Or.inl (by show 64 * 0 + d.val < 320; omega))).trans ?_
    refine (Rl.canon_not_mem inb_S512x1024_S64x1024_256_0 _ _ _ 0 (Or.inl (by show 64 * 0 + d.val < 256; omega))).trans ?_
    refine (Rl.canon_not_mem inb_S512x1024_S64x1024_192_0 _ _ _ 0 (Or.inl (by show 64 * 0 + d.val < 192; omega))).trans ?_
    refine (Rl.canon_not_mem inb_S512x1024_S64x1024_128_0 _ _ _ 0 (Or.inl (by show 64 * 0 + d.val < 128; omega))).trans ?_
    refine (Rl.canon_not_mem inb_S512x1024_S64x1024_64_0 _ _ _ 0 (Or.inl (by show 64 * 0 + d.val < 64; omega))).trans ?_
    refine (Rl.canon_mem inb_S512x1024_S64x1024_0_0 _ _ _ (ix2 d r) (fun a => by fin_cases a; exacts [rfl, (Nat.zero_add _).symm])).trans ?_
    exact st1_R m c t _ _ 16 le_rfl 0 (ix2 d r)
  · refine (Rl.canon_not_mem inb_S512x1024_S64x1024_448_0 _ _ _ 0 (Or.inl (by show 64 * 1 + d.val < 448; omega))).trans ?_
    refine (Rl.canon_not_mem inb_S512x1024_S64x1024_384_0 _ _ _ 0 (Or.inl (by show 64 * 1 + d.val < 384; omega))).trans ?_
    refine (Rl.canon_not_mem inb_S512x1024_S64x1024_320_0 _ _ _ 0 (Or.inl (by show 64 * 1 + d.val < 320; omega))).trans ?_
    refine (Rl.canon_not_mem inb_S512x1024_S64x1024_256_0 _ _ _ 0 (Or.inl (by show 64 * 1 + d.val < 256; omega))).trans ?_
    refine (Rl.canon_not_mem inb_S512x1024_S64x1024_192_0 _ _ _ 0 (Or.inl (by show 64 * 1 + d.val < 192; omega))).trans ?_
    refine (Rl.canon_not_mem inb_S512x1024_S64x1024_128_0 _ _ _ 0 (Or.inl (by show 64 * 1 + d.val < 128; omega))).trans ?_
    refine (Rl.canon_mem inb_S512x1024_S64x1024_64_0 _ _ _ (ix2 d r) (fun a => by fin_cases a; exacts [rfl, (Nat.zero_add _).symm])).trans ?_
    exact st1_R m c t _ _ 16 le_rfl 1 (ix2 d r)
  · refine (Rl.canon_not_mem inb_S512x1024_S64x1024_448_0 _ _ _ 0 (Or.inl (by show 64 * 2 + d.val < 448; omega))).trans ?_
    refine (Rl.canon_not_mem inb_S512x1024_S64x1024_384_0 _ _ _ 0 (Or.inl (by show 64 * 2 + d.val < 384; omega))).trans ?_
    refine (Rl.canon_not_mem inb_S512x1024_S64x1024_320_0 _ _ _ 0 (Or.inl (by show 64 * 2 + d.val < 320; omega))).trans ?_
    refine (Rl.canon_not_mem inb_S512x1024_S64x1024_256_0 _ _ _ 0 (Or.inl (by show 64 * 2 + d.val < 256; omega))).trans ?_
    refine (Rl.canon_not_mem inb_S512x1024_S64x1024_192_0 _ _ _ 0 (Or.inl (by show 64 * 2 + d.val < 192; omega))).trans ?_
    refine (Rl.canon_mem inb_S512x1024_S64x1024_128_0 _ _ _ (ix2 d r) (fun a => by fin_cases a; exacts [rfl, (Nat.zero_add _).symm])).trans ?_
    exact st1_R m c t _ _ 16 le_rfl 2 (ix2 d r)
  · refine (Rl.canon_not_mem inb_S512x1024_S64x1024_448_0 _ _ _ 0 (Or.inl (by show 64 * 3 + d.val < 448; omega))).trans ?_
    refine (Rl.canon_not_mem inb_S512x1024_S64x1024_384_0 _ _ _ 0 (Or.inl (by show 64 * 3 + d.val < 384; omega))).trans ?_
    refine (Rl.canon_not_mem inb_S512x1024_S64x1024_320_0 _ _ _ 0 (Or.inl (by show 64 * 3 + d.val < 320; omega))).trans ?_
    refine (Rl.canon_not_mem inb_S512x1024_S64x1024_256_0 _ _ _ 0 (Or.inl (by show 64 * 3 + d.val < 256; omega))).trans ?_
    refine (Rl.canon_mem inb_S512x1024_S64x1024_192_0 _ _ _ (ix2 d r) (fun a => by fin_cases a; exacts [rfl, (Nat.zero_add _).symm])).trans ?_
    exact st1_R m c t _ _ 16 le_rfl 3 (ix2 d r)
  · refine (Rl.canon_not_mem inb_S512x1024_S64x1024_448_0 _ _ _ 0 (Or.inl (by show 64 * 4 + d.val < 448; omega))).trans ?_
    refine (Rl.canon_not_mem inb_S512x1024_S64x1024_384_0 _ _ _ 0 (Or.inl (by show 64 * 4 + d.val < 384; omega))).trans ?_
    refine (Rl.canon_not_mem inb_S512x1024_S64x1024_320_0 _ _ _ 0 (Or.inl (by show 64 * 4 + d.val < 320; omega))).trans ?_
    refine (Rl.canon_mem inb_S512x1024_S64x1024_256_0 _ _ _ (ix2 d r) (fun a => by fin_cases a; exacts [rfl, (Nat.zero_add _).symm])).trans ?_
    exact st2_R m c t _ _ 16 le_rfl 0 (ix2 d r)
  · refine (Rl.canon_not_mem inb_S512x1024_S64x1024_448_0 _ _ _ 0 (Or.inl (by show 64 * 5 + d.val < 448; omega))).trans ?_
    refine (Rl.canon_not_mem inb_S512x1024_S64x1024_384_0 _ _ _ 0 (Or.inl (by show 64 * 5 + d.val < 384; omega))).trans ?_
    refine (Rl.canon_mem inb_S512x1024_S64x1024_320_0 _ _ _ (ix2 d r) (fun a => by fin_cases a; exacts [rfl, (Nat.zero_add _).symm])).trans ?_
    exact st2_R m c t _ _ 16 le_rfl 1 (ix2 d r)
  · refine (Rl.canon_not_mem inb_S512x1024_S64x1024_448_0 _ _ _ 0 (Or.inl (by show 64 * 6 + d.val < 448; omega))).trans ?_
    refine (Rl.canon_mem inb_S512x1024_S64x1024_384_0 _ _ _ (ix2 d r) (fun a => by fin_cases a; exacts [rfl, (Nat.zero_add _).symm])).trans ?_
    exact st2_R m c t _ _ 16 le_rfl 2 (ix2 d r)
  · refine (Rl.canon_mem inb_S512x1024_S64x1024_448_0 _ _ _ (ix2 d r) (fun a => by fin_cases a; exacts [rfl, (Nat.zero_add _).symm])).trans ?_
    exact st2_R m c t _ _ 16 le_rfl 3 (ix2 d r)

theorem scC_12 (c : Dev nD) (t : Fin cfg0.N) (h0 : ¬t.val % 8 = 0) (h1 : t.val % 8 = 7) (kv : Fin 2) (k : Fin 16) (d : Fin 64) (x : Fin 512) :
    (outsAt0 m c t.val t.isLt).2.1 (ix3 k (krow kv d) x) = (outsAt0 m c (t.val - 1) (Nat.lt_of_le_of_lt (Nat.sub_le ..) t.isLt)).2.1 (ix3 k (krow kv d) x) + dkp m c t kv k d x := by
  rw [outsAt0_C m c t h0 h1]
  frame_out
  refine (congrArg (fun L => View.canon (_ ++ L) (ix3 k (krow kv d) x)) (List.append_nil _).symm).trans ((both_12 m c t _ _ _ _ rfl [] kv k d x).trans (congrArg (· + _) ?_))
  exact congrFun ((Memref.isWhole_whole _).read_unread _) _

theorem scC_13 (c : Dev nD) (t : Fin cfg0.N) (h0 : ¬t.val % 8 = 0) (h1 : t.val % 8 = 7) (kv : Fin 2) (k : Fin 16) (d : Fin 64) (x : Fin 512) :
    (outsAt0 m c t.val t.isLt).2.2.1 (ix3 k (krow kv d) x) = (outsAt0 m c (t.val - 1) (Nat.lt_of_le_of_lt (Nat.sub_le ..) t.isLt)).2.2.1 (ix3 k (krow kv d) x) + dvp m c t kv k d x := by
  rw [outsAt0_C m c t h0 h1]
  frame_out
  refine (congrArg (fun L => View.canon (_ ++ L) (ix3 k (krow kv d) x)) (List.append_nil _).symm).trans ((both_13 m c t _ _ _ _ rfl [] kv k d x).trans (congrArg (· + _) ?_))
  exact congrFun ((Memref.isWhole_whole _).read_unread _) _

theorem dqC (c : Dev nD) (t : Fin cfg0.N) (h0 : ¬t.val % 8 = 0) (h1 : t.val % 8 = 7) (h : Fin 8) (d : Fin 64) (r : Fin 1024) :
    (outsAt0 m c t.val t.isLt).1 (ix2 (row h d) r) = dqp m c t h d r := by
  rw [outsAt0_C m c t h0 h1]
  frame_out
  fin_cases h
  · refine (Rl.canon_not_mem inb_S512x1024_S64x1024_448_0 _ _ _ 0 (Or.inl (by show 64 * 0 + d.val < 448; omega))).trans ?_
    refine (Rl.canon_not_mem inb_S512x1024_S64x1024_384_0 _ _ _ 0 (Or.inl (by show 64 * 0 + d.val < 384; omega))).trans ?_
    refine (Rl.canon_not_mem inb_S512x1024_S64x1024_320_0 _ _ _ 0 (Or.inl (by show 64 * 0 + d.val < 320; omega))).trans ?_
    refine (Rl.canon_not_mem inb_S512x1024_S64x1024_256_0 _ _ _ 0 (Or.inl (by show 64 * 0 + d.val < 256; omega))).trans ?_
    refine (Rl.canon_not_mem inb_S512x1024_S64x1024_192_0 _ _ _ 0 (Or.inl (by show 64 * 0 + d.val < 192; omega))).trans ?_
    refine (Rl.canon_not_mem inb_S512x1024_S64x1024_128_0 _ _ _ 0 (Or.inl (by show 64 * 0 + d.val < 128; omega))).trans ?_
    refine (Rl.canon_not_mem inb_S512x1024_S64x1024_64_0 _ _ _ 0 (Or.inl (by show 64 * 0 + d.val < 64; omega))).trans ?_
    refine (Rl.canon_mem inb_S512x1024_S64x1024_0_0 _ _ _ (ix2 d r) (fun a => by fin_cases a; exacts [rfl, (Nat.zero_add _).symm])).trans ?_
    exact st1_R m c t _ _ 16 le_rfl 0 (ix2 d r)
  · refine (Rl.canon_not_mem inb_S512x1024_S64x1024_448_0 _ _ _ 0 (Or.inl (by show 64 * 1 + d.val < 448; omega))).trans ?_
    refine (Rl.canon_not_mem inb_S512x1024_S64x1024_384_0 _ _ _ 0 (Or.inl (by show 64 * 1 + d.val < 384; omega))).trans ?_
    refine (Rl.canon_not_mem inb_S512x1024_S64x1024_320_0 _ _ _ 0 (Or.inl (by show 64 * 1 + d.val < 320; omega))).trans ?_
    refine (Rl.canon_not_mem inb_S512x1024_S64x1024_256_0 _ _ _ 0 (Or.inl (by show 64 * 1 + d.val < 256; omega))).trans ?_
    refine (Rl.canon_not_mem inb_S512x1024_S64x1024_192_0 _ _ _ 0 (Or.inl (by show 64 * 1 + d.val < 192; omega))).trans ?_
    refine (Rl.canon_not_mem inb_S512x1024_S64x1024_128_0 _ _ _ 0 (Or.inl (by show 64 * 1 + d.val < 128; omega))).trans ?_
    refine (Rl.canon_mem inb_S512x1024_S64x1024_64_0 _ _ _ (ix2 d r) (fun a => by fin_cases a; exacts [rfl, (Nat.zero_add _).symm])).trans ?_
    exact st1_R m c t _ _ 16 le_rfl 1 (ix2 d r)
  · refine (Rl.canon_not_mem inb_S512x1024_S64x1024_448_0 _ _ _ 0 (Or.inl (by show 64 * 2 + d.val < 448; omega))).trans ?_
    refine (Rl.canon_not_mem inb_S512x1024_S64x1024_384_0 _ _ _ 0 (Or.inl (by show 64 * 2 + d.val < 384; omega))).trans ?_
    refine (Rl.canon_not_mem inb_S512x1024_S64x1024_320_0 _ _ _ 0 (Or.inl (by show 64 * 2 + d.val < 320; omega))).trans ?_
    refine (Rl.canon_not_mem inb_S512x1024_S64x1024_256_0 _ _ _ 0 (Or.inl (by show 64 * 2 + d.val < 256; omega))).trans ?_
    refine (Rl.canon_not_mem inb_S512x1024_S64x1024_192_0 _ _ _ 0 (Or.inl (by show 64 * 2 + d.val < 192; omega))).trans ?_
    refine (Rl.canon_mem inb_S512x1024_S64x1024_128_0 _ _ _ (ix2 d r) (fun a => by fin_cases a; exacts [rfl, (Nat.zero_add _).symm])).trans ?_
    exact st1_R m c t _ _ 16 le_rfl 2 (ix2 d r)
  · refine (Rl.canon_not_mem inb_S512x1024_S64x1024_448_0 _ _ _ 0 (Or.inl (by show 64 * 3 + d.val < 448; omega))).trans ?_
    refine (Rl.canon_not_mem inb_S512x1024_S64x1024_384_0 _ _ _ 0 (Or.inl (by show 64 * 3 + d.val < 384; omega))).trans ?_
    refine (Rl.canon_not_mem inb_S512x1024_S64x1024_320_0 _ _ _ 0 (Or.inl (by show 64 * 3 + d.val < 320; omega))).trans ?_
    refine (Rl.canon_not_mem inb_S512x1024_S64x1024_256_0 _ _ _ 0 (Or.inl (by show 64 * 3 + d.val < 256; omega))).trans ?_
    refine (Rl.canon_mem inb_S512x1024_S64x1024_192_0 _ _ _ (ix2 d r) (fun a => by fin_cases a; exacts [rfl, (Nat.zero_add _).symm])).trans ?_
    exact st1_R m c t _ _ 16 le_rfl 3 (ix2 d r)
  · refine (Rl.canon_not_mem inb_S512x1024_S64x1024_448_0 _ _ _ 0 (Or.inl (by show 64 * 4 + d.val < 448; omega))).trans ?_
    refine (Rl.canon_not_mem inb_S512x1024_S64x1024_384_0 _ _ _ 0 (Or.inl (by show 64 * 4 + d.val < 384; omega))).trans ?_
    refine (Rl.canon_not_mem inb_S512x1024_S64x1024_320_0 _ _ _ 0 (Or.inl (by show 64 * 4 + d.val < 320; omega))).trans ?_
    refine (Rl.canon_mem inb_S512x1024_S64x1024_256_0 _ _ _ (ix2 d r) (fun a => by fin_cases a; exacts [rfl, (Nat.zero_add _).symm])).trans ?_
    exact st2_R m c t _ _ 16 le_rfl 0 (ix2 d r)
  · refine (Rl.canon_not_mem inb_S512x1024_S64x1024_448_0 _ _ _ 0 (Or.inl (by show 64 * 5 + d.val < 448; omega))).trans ?_
    refine (Rl.canon_not_mem inb_S512x1024_S64x1024_384_0 _ _ _ 0 (Or.inl (by show 64 * 5 + d.val < 384; omega))).trans ?_
    refine (Rl.canon_mem inb_S512x1024_S64x1024_320_0 _ _ _ (ix2 d r) (fun a => by fin_cases a; exacts [rfl, (Nat.zero_add _).symm])).trans ?_
    exact st2_R m c t _ _ 16 le_rfl 1 (ix2 d r)
  · refine (Rl.canon_not_mem inb_S512x1024_S64x1024_448_0 _ _ _ 0 (Or.inl (by show 64 * 6 + d.val < 448; omega))).trans ?_
    refine (Rl.canon_mem inb_S512x1024_S64x1024_384_0 _ _ _ (ix2 d r) (fun a => by fin_cases a; exacts [rfl, (Nat.zero_add _).symm])).trans ?_
    exact st2_R m c t _ _ 16 le_rfl 2 (ix2 d r)
  · refine (Rl.canon_mem inb_S512x1024_S64x1024_448_0 _ _ _ (ix2 d r) (fun a => by fin_cases a; exacts [rfl, (Nat.zero_add _).symm])).trans ?_
    exact st2_R m c t _ _ 16 le_rfl 3 (ix2 d r)

end Cert.AttnKIdeal.Final
-- ==== Proof.AttnSaved.lean ====
/- What the kernel call is launched on: queries, keys, values and cotangent as real numbers, and the saved row values of the
   forward pass, whose use gives the softmax weights and the row sums of the gradient. -/
module

public import proofs.«01_k».proof.Proof.AttnHost
public import proofs.«01_k».proof.Proof.AttnPoint

@[expose] public section

set_option maxRecDepth 16384

noncomputable section

open Idealize.ShloMosaic Idealize.ShloMosaic.TcCoe Idealize.SL.Sem
open Idealize.ShloMosaic.Pipeline (Dat)

namespace Cert.AttnKIdeal.Final

open Cert.AttnKIdeal Cert.AttnKIdeal.Gen Cert.Attn

/-- the place of head `h` among the four that share a key head -/
def gOf (h : Fin 8) : Fin 4 := ⟨h.val % 4, by omega⟩

theorem kvOf_hd (kv : Fin 2) (g : Fin 4) : kvOf (hd kv g) = kv := Fin.ext (by show (4 * kv.val + g.val) / 4 = kv.val; omega)
theorem gOf_hd (kv : Fin 2) (g : Fin 4) : gOf (hd kv g) = g := Fin.ext (by show (4 * kv.val + g.val) % 4 = g.val; omega)

variable {V : Idealize.ShloMosaic.Valuation τ sig (Elt Ideal)} {a : Args}

theorem Reals.qh (H : Reals a V) (r : Fin 8192) (h : Fin 8) (d : Fin 64) :
    (show FVec Ideal S1x8192x8x64 .f32 from V (Proc.devRef .tc main_arg0)) (ix4 0 r h d) = (a.q r (kvOf h) (gOf h) d : EReal) :=
  Eq.trans (congrArg (fun b : Fin 8 => (show FVec Ideal S1x8192x8x64 .f32 from V (Proc.devRef .tc main_arg0)) (ix4 0 r b d))
    (Fin.ext (by show h.val = h.val / 4 * 4 + h.val % 4; omega))) (H.q r (kvOf h) (gOf h) d)

theorem Reals.cth (H : Reals a V) (r : Fin 8192) (h : Fin 8) (d : Fin 64) :
    (show FVec Ideal S1x8192x512 .f32 from V (Proc.devRef .tc main_arg3)) (ix3 0 r (row h d)) = (a.ct r (kvOf h) (gOf h) d : EReal) :=
  Eq.trans (congrArg (fun b : Fin 512 => (show FVec Ideal S1x8192x512 .f32 from V (Proc.devRef .tc main_arg3)) (ix3 0 r b))
    (Fin.ext (by show 64 * h.val + d.val = h.val / 4 * 256 + h.val % 4 * 64 + d.val; omega))) (H.ct r (kvOf h) (gOf h) d)

section Reads

variable (X : Idealize.ShloMosaic.Valuation τ sig (Elt Ideal))

/-- the host's lines after the chunks -/
abbrev rest : List (HloOp τ sig (Elt Ideal)) := (hostOps0 (F := Ideal)).drop 142

theorem e7 (r : Fin 8192) (j : Fin 512) : (show FVec Ideal S8192x512 .bf16 from StableHlo.after (seg 0 30) X (Proc.devRef .tc main_v7)) (ix2 r j)
    = (show FVec Ideal S1x8192x8x64 .f32 from X (Proc.devRef .tc main_arg0)) (ix4 0 r ⟨j.val / 64, by omega⟩ ⟨j.val % 64, by omega⟩)
      * Ideal.div (Ideal.ofBits .f32 0x3E000000#32) (Ideal.log (Ideal.ofBits .f32 0x40000000#32)) := by
  dsimp only
  after_reads_at

theorem e9 (j : Fin 512) (r : Fin 8192) : (show FVec Ideal S512x8192 .bf16 from StableHlo.after (seg 0 30) X (Proc.devRef .tc main_v9)) (ix2 j r)
    = (show FVec Ideal S1x8192x8x64 .f32 from X (Proc.devRef .tc main_arg0)) (ix4 0 r ⟨j.val / 64, by omega⟩ ⟨j.val % 64, by omega⟩)
      * Ideal.div (Ideal.ofBits .f32 0x3E000000#32) (Ideal.log (Ideal.ofBits .f32 0x40000000#32)) := by
  dsimp only
  after_reads_at

theorem e13 (i : Fin 16) (j : Fin 128) (x : Fin 512) : (show FVec Ideal S16x128x512 .bf16 from StableHlo.after (seg 0 30) X (Proc.devRef .tc main_v13)) (ix3 i j x)
    = (show FVec Ideal S1x8192x2x64 .f32 from X (Proc.devRef .tc main_arg1)) (ix4 0 ⟨i.val * 512 + x.val, by omega⟩ ⟨j.val / 64, by omega⟩ ⟨j.val % 64, by omega⟩) := by
  dsimp only
  after_reads_at

theorem e16 (i : Fin 16) (j : Fin 128) (x : Fin 512) : (show FVec Ideal S16x128x512 .bf16 from StableHlo.after (seg 0 30) X (Proc.devRef .tc main_v16)) (ix3 i j x)
    = (show FVec Ideal S1x8192x2x64 .f32 from X (Proc.devRef .tc main_arg2)) (ix4 0 ⟨i.val * 512 + x.val, by omega⟩ ⟨j.val / 64, by omega⟩ ⟨j.val % 64, by omega⟩) := by
  dsimp only
  after_reads_at

theorem e148 (r : Fin 8192) (j : Fin 512) : (show FVec Ideal S8192x512 .bf16 from StableHlo.after rest X (Proc.devRef .tc main_v148)) (ix2 r j)
    = (show FVec Ideal S1x8192x512 .f32 from X (Proc.devRef .tc main_arg3)) (ix3 0 r j) := by
  dsimp only
  after_reads_at

theorem e150 (j : Fin 512) (r : Fin 8192) : (show FVec Ideal S512x8192 .bf16 from StableHlo.after rest X (Proc.devRef .tc main_v150)) (ix2 j r)
    = (show FVec Ideal S1x8192x512 .f32 from X (Proc.devRef .tc main_arg3)) (ix3 0 r j) := by
  dsimp only
  after_reads_at

theorem e142 (r : Fin 8192) (h : Fin 8) (A B L : EReal)
    (hA : (show FVec Ideal S2x4x1x8192 .f32 from X (Proc.devRef .tc main_v114)) (ix4 ⟨h.val / 4, by omega⟩ ⟨h.val % 4, by omega⟩ 0 r) = A)
    (hB : (show FVec Ideal S2x4x65x8192 .f32 from X (Proc.devRef .tc main_v129)) (ix4 ⟨h.val / 4, by omega⟩ ⟨h.val % 4, by omega⟩ 64 r) = B)
    (hL : (show FVec Ideal S_ .f32 from X (Proc.devRef .tc main_v0)) ix0 = L) :
    (show FVec Ideal S8192x8 .f32 from StableHlo.after rest X (Proc.devRef .tc main_v142)) (ix2 r h) = A + Ideal.div (Ideal.log B) L := by
  rw [← hA, ← hB, ← hL]
  dsimp only
  after_reads_at

theorem e147 (r : Fin 8192) (h : Fin 8) (A B : Fin 64 → EReal)
    (hA : ∀ d : Fin 64, (show FVec Ideal S1x8192x512 .f32 from X (Proc.devRef .tc main_arg3)) (ix3 0 r ⟨h.val * 64 + d.val, by omega⟩) = A d)
    (hB : ∀ d : Fin 64, Ideal.div ((show FVec Ideal S2x4x65x8192 .f32 from X (Proc.devRef .tc main_v129))
        (ix4 ⟨(h.val * 64 + d.val) / 256, by omega⟩ ⟨(h.val * 64 + d.val) / 64 % 4, by omega⟩ ⟨(h.val * 64 + d.val) % 64, by omega⟩ r))
      ((show FVec Ideal S2x4x65x8192 .f32 from X (Proc.devRef .tc main_v129))
        (ix4 ⟨(h.val * 64 + d.val) / 256, by omega⟩ ⟨(h.val * 64 + d.val) / 64 % 4, by omega⟩ 64 r)) = B d) :
    (show FVec Ideal S8192x8 .f32 from StableHlo.after rest X (Proc.devRef .tc main_v147)) (ix2 r h) = ∑ d, A d * B d := by
  simp only [← hA, ← hB]
  after_reads_at

end Reads

/-! ## The real arithmetic -/

theorem s2_log (kv : Fin 2) (g : Fin 4) (r x : Fin 8192) : s2 a kv g r x * Real.log 2 = sc a kv g r x := by
  unfold s2 sc qs
  rw [Finset.sum_mul, Finset.sum_mul]
  refine Finset.sum_congr rfl fun d _ => ?_
  have := log_two_pos.ne'
  field_simp

theorem part_eq (M : ℝ) (kv : Fin 2) (g : Fin 4) (e : Fin 65) (r : Fin 8192) :
    part a 8192 M kv g e r = ∑ x : Fin 8192, Real.exp (sc a kv g r x - M * Real.log 2) * v1 a x kv e := by
  unfold part
  rw [Finset.sum_range]
  refine Finset.sum_congr rfl fun x _ => ?_
  rw [s2N, v1N, dif_pos x.isLt, dif_pos x.isLt, sub_mul, s2_log]

theorem part_l (M : ℝ) (kv : Fin 2) (g : Fin 4) (r : Fin 8192) :
    part a 8192 M kv g 64 r = ∑ x : Fin 8192, Real.exp (sc a kv g r x - M * Real.log 2) := by
  rw [part_eq]
  refine Finset.sum_congr rfl fun x _ => ?_
  rw [v1, dif_neg (by decide), mul_one]

theorem part_l_pos (M : ℝ) (kv : Fin 2) (g : Fin 4) (r : Fin 8192) : 0 < part a 8192 M kv g 64 r := by
  rw [part_l]; exact sum_exp_pos (by omega) _

/-- The rescaled weighted sum is the output of attention. -/
theorem part_div (M : ℝ) (kv : Fin 2) (g : Fin 4) (e : Fin 65) (d : Fin 64) (hd : e.val = d.val) (r : Fin 8192) :
    part a 8192 M kv g e r / part a 8192 M kv g 64 r = ∑ x, P a kv g r x * a.v x kv d := by
  rw [part_eq, part_l, Finset.sum_div]
  refine Finset.sum_congr rfl fun x _ => ?_
  rw [v1, dif_pos (by omega), P, ← softmax_shift (sc a kv g r) (M * Real.log 2) x, div_mul_eq_mul_div]
  congr 3
  exact Fin.ext hd

/-- A power of two less the saved row value is the softmax weight. -/
theorem weight (M : ℝ) (kv : Fin 2) (g : Fin 4) (r x : Fin 8192) :
    (2 : ℝ) ^ (s2 a kv g r x - (M + Real.log (part a 8192 M kv g 64 r) / Real.log 2)) = P a kv g r x := by
  have hp := part_l_pos (a := a) M kv g r
  have hl := log_two_pos.ne'
  have he : Real.log 2 * (s2 a kv g r x - (M + Real.log (part a 8192 M kv g 64 r) / Real.log 2))
      = (sc a kv g r x - M * Real.log 2) - Real.log (part a 8192 M kv g 64 r) := by
    rw [← s2_log]; field_simp; ring
  rw [Real.rpow_def_of_pos (by norm_num), he, Real.exp_sub, Real.exp_log hp, part_l, softmax_shift]
  rfl

/-- The row sum of the cotangent times the output. -/
theorem row_sum (kv : Fin 2) (g : Fin 4) (r : Fin 8192) :
    (∑ d, a.ct r kv g d * ∑ x, P a kv g r x * a.v x kv d) = ∑ x, P a kv g r x * dp a kv g r x := by
  simp only [dp, Finset.mul_sum]
  rw [Finset.sum_comm]
  refine Finset.sum_congr rfl fun x _ => Finset.sum_congr rfl fun d _ => ?_
  ring

/-! ## The arrays the call is launched on -/

variable (m : (ℓ : Loc nD τ sig) → Buf (Elt Ideal) ℓ) (c : Dev nD)

/-- The launch memory's arguments are the real numbers `a`. -/
abbrev Real' (a : Args) : Prop := Reals a (StableHlo.launchContents m c)

theorem V_early (b : Ref sig .tc) (h : StableHlo.after ((hostOps0 (F := Ideal)).drop 30) (S (StableHlo.launchContents m c) 30) (Proc.devRef .tc b)
      = S (StableHlo.launchContents m c) 30 (Proc.devRef .tc b)) :
    Gen.V m c b = StableHlo.after (seg 0 30) (StableHlo.launchContents m c) (Proc.devRef .tc b) := by
  refine Eq.trans ?_ h
  unfold Gen.V S StableHlo.upto
  rw [← StableHlo.after_append, List.take_append_drop]

theorem V_late (b : Ref sig .tc) : Gen.V m c b = StableHlo.after rest (S (StableHlo.launchContents m c) 142) (Proc.devRef .tc b) := by
  unfold Gen.V S StableHlo.upto
  rw [← StableHlo.after_append, List.take_append_drop]

variable {m c} (H : Reals a (StableHlo.launchContents m c))

include H

theorem V7 (r : Fin 8192) (h : Fin 8) (d : Fin 64) :
    (show FVec Ideal S8192x512 .bf16 from Gen.V m c main_v7) (ix2 r (row h d)) = ((a.q r (kvOf h) (gOf h) d * qs : ℝ) : EReal) := by
  rw [V_early m c main_v7 (by after_reads_simp)]
  refine (e7 _ r (row h d)).trans ?_
  rw [EReal.coe_mul]
  refine congrArg₂ HMul.hMul (Eq.trans ?_ (H.qh r h d)) qs_word
  exact congrArg₂ (fun x y => (show FVec Ideal S1x8192x8x64 .f32 from StableHlo.launchContents m c (Proc.devRef .tc main_arg0)) (ix4 0 r x y))
    (Fin.ext (by show (64 * h.val + d.val) / 64 = h.val; omega)) (Fin.ext (by show (64 * h.val + d.val) % 64 = d.val; omega))

theorem V9 (r : Fin 8192) (h : Fin 8) (d : Fin 64) :
    (show FVec Ideal S512x8192 .bf16 from Gen.V m c main_v9) (ix2 (row h d) r) = ((a.q r (kvOf h) (gOf h) d * qs : ℝ) : EReal) := by
  rw [V_early m c main_v9 (by after_reads_simp)]
  refine (e9 _ (row h d) r).trans ?_
  rw [EReal.coe_mul]
  refine congrArg₂ HMul.hMul (Eq.trans ?_ (H.qh r h d)) qs_word
  exact congrArg₂ (fun x y => (show FVec Ideal S1x8192x8x64 .f32 from StableHlo.launchContents m c (Proc.devRef .tc main_arg0)) (ix4 0 r x y))
    (Fin.ext (by show (64 * h.val + d.val) / 64 = h.val; omega)) (Fin.ext (by show (64 * h.val + d.val) % 64 = d.val; omega))

/-- key row `x` of block `i` -/
def key (i : Fin 16) (x : Fin 512) : Fin 8192 := ⟨i.val * 512 + x.val, by omega⟩

theorem V13 (i : Fin 16) (kv : Fin 2) (d : Fin 64) (x : Fin 512) :
    (show FVec Ideal S16x128x512 .bf16 from Gen.V m c main_v13) (ix3 i (krow kv d) x) = (a.k (key i x) kv d : EReal) := by
  rw [V_early m c main_v13 (by after_reads_simp)]
  refine (e13 _ i (krow kv d) x).trans (Eq.trans ?_ (H.k (key i x) kv d))
  exact congrArg₂ (fun y z => (show FVec Ideal S1x8192x2x64 .f32 from StableHlo.launchContents m c (Proc.devRef .tc main_arg1)) (ix4 0 (key i x) y z))
    (Fin.ext (by show (64 * kv.val + d.val) / 64 = kv.val; omega)) (Fin.ext (by show (64 * kv.val + d.val) % 64 = d.val; omega))

theorem V16 (i : Fin 16) (kv : Fin 2) (d : Fin 64) (x : Fin 512) :
    (show FVec Ideal S16x128x512 .bf16 from Gen.V m c main_v16) (ix3 i (krow kv d) x) = (a.v (key i x) kv d : EReal) := by
  rw [V_early m c main_v16 (by after_reads_simp)]
  refine (e16 _ i (krow kv d) x).trans (Eq.trans ?_ (H.v (key i x) kv d))
  exact congrArg₂ (fun y z => (show FVec Ideal S1x8192x2x64 .f32 from StableHlo.launchContents m c (Proc.devRef .tc main_arg2)) (ix4 0 (key i x) y z))
    (Fin.ext (by show (64 * kv.val + d.val) / 64 = kv.val; omega)) (Fin.ext (by show (64 * kv.val + d.val) % 64 = d.val; omega))

omit H in
theorem arg3_kept (V : Idealize.ShloMosaic.Valuation τ sig (Elt Ideal)) : S V 142 (Proc.devRef .tc main_arg3) = V (Proc.devRef .tc main_arg3) := by
  rw [step V 0 142 (by omega), S0]; after_reads_simp

theorem V148 (r : Fin 8192) (h : Fin 8) (d : Fin 64) :
    (show FVec Ideal S8192x512 .bf16 from Gen.V m c main_v148) (ix2 r (row h d)) = (a.ct r (kvOf h) (gOf h) d : EReal) := by
  rw [V_late m c main_v148]
  refine (e148 _ r (row h d)).trans ?_
  rw [arg3_kept]
  exact H.cth r h d

theorem V150 (r : Fin 8192) (h : Fin 8) (d : Fin 64) :
    (show FVec Ideal S512x8192 .bf16 from Gen.V m c main_v150) (ix2 (row h d) r) = (a.ct r (kvOf h) (gOf h) d : EReal) := by
  rw [V_late m c main_v150]
  refine (e150 _ (row h d) r).trans ?_
  rw [arg3_kept]
  exact H.cth r h d

/-- The saved row value turns the scores into the softmax weights. -/
theorem V142 (r : Fin 8192) (h : Fin 8) : ∃ L : ℝ, (show FVec Ideal S8192x8 .f32 from Gen.V m c main_v142) (ix2 r h) = (L : EReal)
    ∧ ∀ x, (2 : ℝ) ^ (s2 a (kvOf h) (gOf h) r x - L) = P a (kvOf h) (gOf h) r x := by
  obtain ⟨M, hM⟩ := (finish H).run
  refine ⟨M (kvOf h) (gOf h) r + Real.log (part a 8192 (M (kvOf h) (gOf h) r) (kvOf h) (gOf h) 64 r) / Real.log 2, ?_, fun x => weight _ _ _ _ _⟩
  rw [V_late m c main_v142]
  refine (e142 _ r h _ _ _ (hM (kvOf h) (gOf h) r).1 ((hM (kvOf h) (gOf h) r).2 64) (finish H).l).trans ?_
  rw [Rl.log_real _ (part_l_pos _ _ _ _), Rl.div_real _ _ log_two_pos.ne', EReal.coe_add]

/-- The saved row sums. -/
theorem V147 (r : Fin 8192) (h : Fin 8) : (show FVec Ideal S8192x8 .f32 from Gen.V m c main_v147) (ix2 r h)
    = ((∑ x, P a (kvOf h) (gOf h) r x * dp a (kvOf h) (gOf h) r x : ℝ) : EReal) := by
  obtain ⟨M, hM⟩ := (finish H).run
  rw [V_late m c main_v147]
  refine (e147 _ r h (fun d => (a.ct r (kvOf h) (gOf h) d : EReal)) (fun d => ((∑ x, P a (kvOf h) (gOf h) r x * a.v x (kvOf h) d : ℝ) : EReal))
    (fun d => ?_) (fun d => ?_)).trans ?_
  · rw [arg3_kept]
    exact Eq.trans (congrArg (fun b : Fin 512 => (show FVec Ideal S1x8192x512 .f32 from StableHlo.launchContents m c (Proc.devRef .tc main_arg3)) (ix3 0 r b))
      (Fin.ext (by show h.val * 64 + d.val = 64 * h.val + d.val; omega))) (H.cth r h d)
  · have e1 : (⟨(h.val * 64 + d.val) / 256, by omega⟩ : Fin 2) = kvOf h := Fin.ext (by show (h.val * 64 + d.val) / 256 = h.val / 4; omega)
    have e2 : (⟨(h.val * 64 + d.val) / 64 % 4, by omega⟩ : Fin 4) = gOf h := Fin.ext (by show (h.val * 64 + d.val) / 64 % 4 = h.val % 4; omega)
    rw [e1, e2]
    refine (congrArg₂ Ideal.div ((hM (kvOf h) (gOf h) r).2 ⟨(h.val * 64 + d.val) % 64, by omega⟩) ((hM (kvOf h) (gOf h) r).2 64)).trans ?_
    rw [Rl.div_real _ _ (part_l_pos _ _ _ _).ne', part_div _ _ _ _ d (by show (h.val * 64 + d.val) % 64 = d.val; omega)]
  · simp only [← EReal.coe_mul, ← Rl.coe_sum, row_sum]

end Cert.AttnKIdeal.Final

end
-- ==== Proof.AttnFinal.lean ====
/- The kernel's three result arrays are the three gradients. -/
module

public import proofs.«01_k».proof.Proof.AttnSaved

@[expose] public section

set_option maxRecDepth 16384

noncomputable section

open Idealize.ShloMosaic Idealize.ShloMosaic.TcCoe Idealize.SL.Sem
open Idealize.ShloMosaic.Pipeline (Dat)

namespace Cert.AttnKIdeal.Final

open Cert.AttnKIdeal Cert.AttnKIdeal.Gen Cert.Attn

theorem idx : ∀ t : Fin cfg0.N, win0_0.index t = ![t.val, 0] ∧ win0_1.index t = ![0, t.val] ∧ win0_2.index t = ![t.val, 0]
    ∧ win0_3.index t = ![0, t.val] ∧ win0_4.index t = ![t.val, 0] ∧ win0_5.index t = ![t.val, 0] ∧ win0_6.index t = ![0, 0, 0]
    ∧ win0_7.index t = ![0, 0, 0] ∧ win0_8.index t = ![0, t.val] :=
  (by decide +kernel : ∀ t : Fin grid0.N, _)

/-- query row `r` of point `t` -/
def qrow (t : Fin cfg0.N) (r : Fin 1024) : Fin 8192 := ⟨t.val * 1024 + r.val, by have := lt_of_lt_of_eq t.isLt N_0; omega⟩

variable {m : (ℓ : Loc nD τ sig) → Buf (Elt Ideal) ℓ} {c : Dev nD} {a : Args}

section Blocks

variable (t : Fin cfg0.N) (r : Fin 1024) (j : Fin 512)

theorem b0 : X0 m c t (ix2 r j) = (show FVec Ideal S8192x512 .bf16 from Gen.V m c main_v7) (ix2 (qrow t r) j) := by blk_ext [iblk, qrow, idx t]
theorem b1 : X1 m c t (ix2 j r) = (show FVec Ideal S512x8192 .bf16 from Gen.V m c main_v9) (ix2 j (qrow t r)) := by blk_ext [iblk, qrow, idx t]
theorem b2 : X2 m c t (ix2 r j) = (show FVec Ideal S8192x512 .bf16 from Gen.V m c main_v148) (ix2 (qrow t r) j) := by blk_ext [iblk, qrow, idx t]
theorem b3 : X3 m c t (ix2 j r) = (show FVec Ideal S512x8192 .bf16 from Gen.V m c main_v150) (ix2 j (qrow t r)) := by blk_ext [iblk, qrow, idx t]
theorem emb4 (h : Fin 8) : (win0_4.blk t).view.emb (ix2 r h) = (ix2 (qrow t r) h : S8192x8.Idx) := by blk_ext [qrow, idx t]
theorem read4 (h : Fin 8) (A : Buf (Elt Ideal) ((c.tc : Thread nD τ).loc main_v142)) :
    View.read (Elt Ideal) ((cfg0.win 4).blk t).view A (ix2 r h) = A (ix2 (qrow t r) h) :=
  congrArg (show FVec Ideal S8192x8 .f32 from A) (emb4 t r h)
theorem b4 (h : Fin 8) : X4 m c t (ix2 r h) = (show FVec Ideal S8192x8 .f32 from Gen.V m c main_v142) (ix2 (qrow t r) h) := by
  unfold X4 iblk
  exact read4 t r h _
theorem b5 (h : Fin 8) : X5 m c t (ix2 r h) = (show FVec Ideal S8192x8 .f32 from Gen.V m c main_v147) (ix2 (qrow t r) h) := by blk_ext [iblk, qrow, idx t]
theorem b6 (i : Fin 16) (k : Fin 128) (x : Fin 512) : X6 m c t (ix3 i k x) = (show FVec Ideal S16x128x512 .bf16 from Gen.V m c main_v13) (ix3 i k x) := by
  blk_ext [iblk, idx t]
theorem b7 (i : Fin 16) (k : Fin 128) (x : Fin 512) : X7 m c t (ix3 i k x) = (show FVec Ideal S16x128x512 .bf16 from Gen.V m c main_v16) (ix3 i k x) := by
  blk_ext [iblk, idx t]

end Blocks

/-! ## A point's terms -/

section Point

variable (H : Reals a (StableHlo.launchContents m c)) (t : Fin cfg0.N) (r : Fin 1024) (k : Fin 16) (x : Fin 512)

include H

theorem Sc_at (h : Fin 8) : Sc m c t h (kvOf h) r k x = (s2 a (kvOf h) (gOf h) (qrow t r) (key k x) : EReal) := by
  unfold Sc s2
  rw [Rl.coe_sum]
  refine Finset.sum_congr rfl fun d _ => ?_
  rw [b0, b6, V7 H, V13 H, ← EReal.coe_mul]

theorem Dp_at (h : Fin 8) : Dp m c t h (kvOf h) r k x = (dp a (kvOf h) (gOf h) (qrow t r) (key k x) : EReal) := by
  unfold Dp dp
  rw [Rl.coe_sum]
  refine Finset.sum_congr rfl fun d _ => ?_
  rw [b2, b7, V148 H, V16 H, ← EReal.coe_mul]

theorem Pm_at (h : Fin 8) : Pm m c t h (kvOf h) r k x = (P a (kvOf h) (gOf h) (qrow t r) (key k x) : EReal) := by
  obtain ⟨L, hL, hP⟩ := V142 H (qrow t r) h
  unfold Pm
  rw [Sc_at H, b4, hL, ← EReal.coe_sub, ← hP]
  exact Rl.exp2_real _

theorem Ds_at (h : Fin 8) : Ds m c t h (kvOf h) r k x = (ds a (kvOf h) (gOf h) (qrow t r) (key k x) : EReal) := by
  unfold Ds ds
  rw [Pm_at H, Dp_at H, b5, V147 H, ← EReal.coe_sub, ← EReal.coe_mul]

/-- What a point gives the gradient of the queries. -/
theorem dqp_at (h : Fin 8) (d : Fin 64) : dqp m c t h d r = (gq a (qrow t r) (kvOf h) (gOf h) d : EReal) := by
  unfold dqp gq
  rw [Rl.coe_sum]
  refine Eq.trans ?_ (Fin.sum_univ_tiles 16 512 rfl (fun x : Fin 8192 => ((ds a (kvOf h) (gOf h) (qrow t r) x * a.k x (kvOf h) d : ℝ) : EReal))).symm
  refine Finset.sum_congr rfl fun k _ => Finset.sum_congr rfl fun x _ => ?_
  rw [b6, V13 H, Ds_at H, ← EReal.coe_mul, mul_comm]
  rfl

theorem dkp_at (kv : Fin 2) (d : Fin 64) : dkp m c t kv k d x
    = ∑ r : Fin 1024, ((∑ g, a.q (qrow t r) kv g d * qs * ds a kv g (qrow t r) (key k x) : ℝ) : EReal) := by
  unfold dkp
  rw [Finset.sum_comm]
  refine Finset.sum_congr rfl fun r _ => ?_
  rw [Rl.coe_sum]
  refine Finset.sum_congr rfl fun g _ => ?_
  have e := Ds_at H t r k x (hd kv g)
  rw [kvOf_hd, gOf_hd] at e
  rw [e, b1, V9 H, kvOf_hd, gOf_hd, ← EReal.coe_mul]

theorem dvp_at (kv : Fin 2) (d : Fin 64) : dvp m c t kv k d x
    = ∑ r : Fin 1024, ((∑ g, a.ct (qrow t r) kv g d * P a kv g (qrow t r) (key k x) : ℝ) : EReal) := by
  unfold dvp
  rw [Finset.sum_comm]
  refine Finset.sum_congr rfl fun r _ => ?_
  rw [Rl.coe_sum]
  refine Finset.sum_congr rfl fun g _ => ?_
  have e := Pm_at H t r k x (hd kv g)
  rw [kvOf_hd, gOf_hd] at e
  rw [e, b3, V150 H, kvOf_hd, gOf_hd, ← EReal.coe_mul]

end Point

/-! ## The three arrays -/

variable (m c)

theorem krow_cases (j : Fin 128) : ∃ kv d, j = krow kv d :=
  ⟨⟨j.val / 64, by omega⟩, ⟨j.val % 64, by omega⟩, Fin.ext (by show j.val = 64 * (j.val / 64) + j.val % 64; omega)⟩

theorem row_cases (j : Fin 512) : ∃ h d, j = row h d :=
  ⟨⟨j.val / 64, by omega⟩, ⟨j.val % 64, by omega⟩, Fin.ext (by show j.val = 64 * (j.val / 64) + j.val % 64; omega)⟩

theorem sc12_last (kv : Fin 2) (k : Fin 16) (d : Fin 64) (x : Fin 512) :
    (outsAt0 m c t0_7.val t0_7.isLt).2.1 (ix3 k (krow kv d) x) = ∑ t : Fin cfg0.N, dkp m c t kv k d x := by
  refine (Pipeline.eq_sum_fin_of_reset_step_apply_last (ι := Unit) (fun n h _ => (outsAt0 m c n h).2.1 (ix3 k (krow kv d) x)) 8 (fun _ => 0)
    (fun t _ => dkp m c t kv k d x) (fun t h _ => scA_12 m c t h (by omega) kv k d x) (fun t h _ => ?_) (le_of_eq N_0) t0_7 rfl ()).trans (zero_add _)
  by_cases h7 : t.val % 8 = 7
  exacts [scC_12 m c t h h7 kv k d x, scB_12 m c t h h7 kv k d x]

theorem sc13_last (kv : Fin 2) (k : Fin 16) (d : Fin 64) (x : Fin 512) :
    (outsAt0 m c t0_7.val t0_7.isLt).2.2.1 (ix3 k (krow kv d) x) = ∑ t : Fin cfg0.N, dvp m c t kv k d x := by
  refine (Pipeline.eq_sum_fin_of_reset_step_apply_last (ι := Unit) (fun n h _ => (outsAt0 m c n h).2.2.1 (ix3 k (krow kv d) x)) 8 (fun _ => 0)
    (fun t _ => dvp m c t kv k d x) (fun t h _ => scA_13 m c t h (by omega) kv k d x) (fun t h _ => ?_) (le_of_eq N_0) t0_7 rfl ()).trans (zero_add _)
  by_cases h7 : t.val % 8 = 7
  exacts [scC_13 m c t h h7 kv k d x, scB_13 m c t h h7 kv k d x]

/-- The last point copies the two sums out. -/
theorem hbm12 (c : Dev nD) (t : Fin cfg0.N) (h0 : ¬t.val % 8 = 0) (h1 : t.val % 8 = 7) (y : S16x128x512.Idx) :
    (show FVec Ideal S16x128x512 .f32 from (outsAt0 m c t.val t.isLt).2.2.2.1) y = (outsAt0 m c t.val t.isLt).2.1 y := by
  rw [outsAt0_C m c t h0 h1]
  dsimp only
  unfold hbw0_C_0 kernelRun0_C
  dsimp only
  unfold kernelRun0_C.sl.dma8
  exact (congrFun (View.write_whole_univ main_v151_1 _ _) y).trans ((View.read_writes_apply_eq_canon scM0_0.view _ y _ (scover0_C_0 _ _ _ _ _ _ _ _ _ _ _ _ _ _ _ _ _ _ _ _ _ _ _ _ _ _ _ _ _ _ _ _ _ _ _ _ _ _ y)).trans
    (View.read_writes_junk_apply_eq_canon VS0_0 y _).symm)

theorem hbm13 (c : Dev nD) (t : Fin cfg0.N) (h0 : ¬t.val % 8 = 0) (h1 : t.val % 8 = 7) (y : S16x128x512.Idx) :
    (show FVec Ideal S16x128x512 .f32 from (outsAt0 m c t.val t.isLt).2.2.2.2) y = (outsAt0 m c t.val t.isLt).2.2.1 y := by
  rw [outsAt0_C m c t h0 h1]
  dsimp only
  unfold hbw0_C_1 kernelRun0_C
  dsimp only
  unfold kernelRun0_C.sl.dma8_1
  exact (congrFun (View.write_whole_univ main_v151_2 _ _) y).trans ((View.read_writes_apply_eq_canon scM0_1.view _ y _ (scover0_C_1 _ _ _ _ _ _ _ _ _ _ _ _ _ _ _ _ _ _ _ _ _ _ _ _ _ _ _ _ _ _ _ _ _ _ _ _ _ _ y)).trans
    (View.read_writes_junk_apply_eq_canon VS0_1 y _).symm)

/-- The three gradients in the kernel's layouts. -/
def G8 (a : Args) : FVec Ideal S512x8192 .f32 := fun y =>
  (gq a (y 1) ⟨(y 0).val / 64 / 4, by idx_bounds y; omega⟩ ⟨(y 0).val / 64 % 4, by omega⟩ ⟨(y 0).val % 64, by omega⟩ : EReal)
def G9 (a : Args) : FVec Ideal S16x128x512 .f32 := fun y =>
  (gk a (key (y 0) (y 2)) ⟨(y 1).val / 64, by idx_bounds y; omega⟩ ⟨(y 1).val % 64, by omega⟩ : EReal)
def G10 (a : Args) : FVec Ideal S16x128x512 .f32 := fun y =>
  (gv a (key (y 0) (y 2)) ⟨(y 1).val / 64, by idx_bounds y; omega⟩ ⟨(y 1).val % 64, by omega⟩ : EReal)

variable {m c} (H : Reals a (StableHlo.launchContents m c))

include H

/-- The keys' gradient. -/
theorem sum_dk (kv : Fin 2) (k : Fin 16) (d : Fin 64) (x : Fin 512) : ∑ t : Fin cfg0.N, dkp m c t kv k d x = (gk a (key k x) kv d : EReal) := by
  refine Eq.trans (Finset.sum_congr rfl fun t _ => dkp_at H t k x kv d) ?_
  refine Eq.trans (Fin.sum_univ_tiles 8 1024 rfl (fun r : Fin 8192 => ((∑ g, a.q r kv g d * qs * ds a kv g r (key k x) : ℝ) : EReal))).symm ?_
  rw [← Rl.coe_sum, EReal.coe_eq_coe_iff, gk, Finset.sum_mul, Finset.sum_div]
  refine Finset.sum_congr rfl fun r _ => ?_
  rw [Finset.sum_mul, Finset.sum_div]
  refine Finset.sum_congr rfl fun g _ => ?_
  unfold qs; ring

/-- The values' gradient. -/
theorem sum_dv (kv : Fin 2) (k : Fin 16) (d : Fin 64) (x : Fin 512) : ∑ t : Fin cfg0.N, dvp m c t kv k d x = (gv a (key k x) kv d : EReal) := by
  refine Eq.trans (Finset.sum_congr rfl fun t _ => dvp_at H t k x kv d) ?_
  refine Eq.trans (Fin.sum_univ_tiles 8 1024 rfl (fun r : Fin 8192 => ((∑ g, a.ct r kv g d * P a kv g r (key k x) : ℝ) : EReal))).symm ?_
  rw [← Rl.coe_sum, EReal.coe_eq_coe_iff, gv, Finset.sum_comm]

omit H in
theorem emb8 (t : Fin cfg0.N) (i : Fin 512) (r : Fin 1024) : (win0_8.blk t).view.emb (ix2 i r) = (ix2 i (qrow t r) : S512x8192.Idx) := by
  blk_ext [qrow, idx t]

/-- What a point leaves in its block of the queries' gradient, features before rows. -/
theorem out8 (t : Fin cfg0.N) (i : Fin 512) (r : Fin 1024) : (outsAt0 m c t.val t.isLt).1 (ix2 i r) = G8 a (ix2 i (qrow t r)) := by
  obtain ⟨h, d, rfl⟩ := row_cases i
  have e : (outsAt0 m c t.val t.isLt).1 (ix2 (row h d) r) = dqp m c t h d r := by
    by_cases h0 : t.val % 8 = 0
    · exact dqA m c t h0 (by omega) h d r
    · by_cases h7 : t.val % 8 = 7
      exacts [dqC m c t h0 h7 h d r, dqB m c t h0 h7 h d r]
  refine (e.trans (dqp_at H t r h d)).trans (congrArg Real.toEReal ?_)
  have e1 : kvOf h = ⟨(row h d).val / 64 / 4, by omega⟩ := Fin.ext (by show h.val / 4 = (64 * h.val + d.val) / 64 / 4; omega)
  have e2 : gOf h = ⟨(row h d).val / 64 % 4, by omega⟩ := Fin.ext (by show h.val % 4 = (64 * h.val + d.val) / 64 % 4; omega)
  have e3 : d = ⟨(row h d).val % 64, by omega⟩ := Fin.ext (by show d.val = (64 * h.val + d.val) % 64; omega)
  rw [e1, e2]
  exact congrArg (gq a (qrow t r) _ _) e3

theorem out8_blk (t : Fin cfg0.N) (y : S512x1024.Idx) : (outsAt0 m c t.val t.isLt).1 y = G8 a ((win0_8.blk t).view.emb y) := by
  idx_vars y
  exact (out8 H t y0 y1).trans (congrArg (G8 a) (emb8 t y0 y1).symm)

theorem final8 : (show FVec Ideal S512x8192 .f32 from (dats m 0 c).arrAt 8 cfg0.N) = G8 a := by
  refine (dats m 0 c).arrAt_eq_of_covers 8 (G8 a) (by decide +kernel) fun t hf y => ?_
  rw [after0_8]
  simp only [cast_eq]
  exact out8_blk H t y

theorem final9 : (show FVec Ideal S16x128x512 .f32 from (outsAt0 m c t0_7.val t0_7.isLt).2.2.2.1)
    = G9 a := by
  funext y
  refine (hbm12 m c t0_7 (by decide) (by decide) y).trans ?_
  idx_vars y
  obtain ⟨kv, d, rfl⟩ := krow_cases y1
  refine (sc12_last m c kv y0 d y2).trans ((sum_dk H kv y0 d y2).trans (congrArg Real.toEReal ?_))
  exact congrArg₂ (gk a (key y0 y2)) (Fin.ext (by show kv.val = (64 * kv.val + d.val) / 64; omega)) (Fin.ext (by show d.val = (64 * kv.val + d.val) % 64; omega))

theorem final10 : (show FVec Ideal S16x128x512 .f32 from (outsAt0 m c t0_7.val t0_7.isLt).2.2.2.2)
    = G10 a := by
  funext y
  refine (hbm13 m c t0_7 (by decide) (by decide) y).trans ?_
  idx_vars y
  obtain ⟨kv, d, rfl⟩ := krow_cases y1
  refine (sc13_last m c kv y0 d y2).trans ((sum_dv H kv y0 d y2).trans (congrArg Real.toEReal ?_))
  exact congrArg₂ (gv a (key y0 y2)) (Fin.ext (by show kv.val = (64 * kv.val + d.val) / 64; omega)) (Fin.ext (by show d.val = (64 * kv.val + d.val) % 64; omega))

end Cert.AttnKIdeal.Final

end
-- ==== Proof.AttnRef.lean ====
/- The reference's attention gradient, read stage by stage: with real arguments its results are the real gradients. -/
module

public import proofs.«01_k».proof.Proof.Gen.AttnRIdeal.Run
public import proofs.«01_k».proof.Proof.AttnSpec

@[expose] public section

set_option maxRecDepth 16384

noncomputable section

open Idealize.ShloMosaic Idealize.ShloMosaic.TcCoe Idealize.SL.Sem

namespace Cert.AttnRIdeal.Final

open Cert.AttnRIdeal Cert.AttnRIdeal.Value Cert.Attn

/-- the operations from the `i`-th up to the `j`-th -/
abbrev seg (i j : ℕ) : List (HloOp τ sig (Elt Ideal)) := ((ops (F := Ideal)).take j).drop i

variable (V : Idealize.ShloMosaic.Valuation τ sig (Elt Ideal)) (a : Args)

/-- the contents after the first `n` operations -/
def S (n : ℕ) : Idealize.ShloMosaic.Valuation τ sig (Elt Ideal) := StableHlo.upto (ops (F := Ideal)) V n

theorem step (i j : ℕ) (h : i ≤ j) : S V j = StableHlo.after (seg i j) (S V i) := upto_step _ _ _ _ h

/-- The arguments are the real numbers `a`. -/
structure Reals : Prop where
  q : ∀ (r : Fin 8192) (kv : Fin 2) (g : Fin 4) (d : Fin 64),
    (show FVec Ideal S1x8192x8x64 .f32 from V (Proc.devRef .tc main_arg0)) (ix4 0 r ⟨kv.val * 4 + g.val, by omega⟩ d) = (a.q r kv g d : EReal)
  k : ∀ (x : Fin 8192) (kv : Fin 2) (d : Fin 64),
    (show FVec Ideal S1x8192x2x64 .f32 from V (Proc.devRef .tc main_arg1)) (ix4 0 x kv d) = (a.k x kv d : EReal)
  v : ∀ (x : Fin 8192) (kv : Fin 2) (d : Fin 64),
    (show FVec Ideal S1x8192x2x64 .f32 from V (Proc.devRef .tc main_arg2)) (ix4 0 x kv d) = (a.v x kv d : EReal)
  ct : ∀ (r : Fin 8192) (kv : Fin 2) (g : Fin 4) (d : Fin 64),
    (show FVec Ideal S1x8192x512 .f32 from V (Proc.devRef .tc main_arg3)) (ix3 0 r ⟨kv.val * 256 + g.val * 64 + d.val, by omega⟩) = (a.ct r kv g d : EReal)

variable {V a} (H : Reals V a)

include H

/-- The scaled scores. -/
theorem r4 (b : Fin 1) (kv : Fin 2) (g : Fin 4) (r x : Fin 8192) :
    (show FVec Ideal S1x2x4x8192x8192 .f32 from S V 6 (Proc.devRef .tc main_v4)) (ix5 b kv g r x) = (sc a kv g r x : EReal) := by
  rw [step V 0 6 (by omega)]
  dsimp only
  after_reads_at
  refine Eq.trans (congrArg₂ HMul.hMul (Finset.sum_congr rfl fun d _ => congrArg₂ HMul.hMul (H.k x kv d) (H.q r kv g d)) eighth_word) ?_
  simp only [← EReal.coe_mul, ← Rl.coe_sum, sc, mul_comm (a.k x kv _)]

omit H in
theorem over_keys (T : FVec Ideal S1x2x4x8192x8192 .f32) (v : FVec Ideal S_ .f32) (b : Fin 1) (kv : Fin 2) (g : Fin 4) (r : Fin 8192) :
    (Host.reduce FloatOps.maximumf T v Gen.reducesTo_S1x2x4x8192x8192_S1x2x4x8192_d4 Gen.h_S_) (ix4 b kv g r)
      = Finset.fold max (v (Shape.Idx.first Gen.h_S_)) (fun x => T (ix5 b kv g r x)) Finset.univ := by
  obtain rfl : b = 0 := Subsingleton.elim _ _
  pointwise

omit H in
theorem r5_eq (X : Idealize.ShloMosaic.Valuation τ sig (Elt Ideal)) :
    (show FVec Ideal S1x2x4x8192 .f32 from StableHlo.after (seg 6 8) X (Proc.devRef .tc main_v5))
      = Host.reduce FloatOps.maximumf (show FVec Ideal S1x2x4x8192x8192 .f32 from X (Proc.devRef .tc main_v4)) (constant S_ .f32 0xFF800000#32)
          Gen.reducesTo_S1x2x4x8192x8192_S1x2x4x8192_d4 Gen.h_S_ := by
  dsimp only
  after_reads_simp

/-- The largest score of a row is a real number. -/
theorem r5 (kv : Fin 2) (g : Fin 4) (r : Fin 8192) :
    ∃ M : ℝ, (show FVec Ideal S1x2x4x8192 .f32 from S V 8 (Proc.devRef .tc main_v5)) (ix4 0 kv g r) = (M : EReal) := by
  obtain ⟨M, hM⟩ := fold_max_real (Finset.univ : Finset (Fin 8192)) ⟨0, Finset.mem_univ _⟩ (sc a kv g r)
  refine ⟨M, ?_⟩
  rw [step V 6 8 (by omega)]
  refine (congrFun (r5_eq (S V 6)) (ix4 0 kv g r)).trans ((over_keys _ _ 0 kv g r).trans (Eq.trans ?_ hM))
  exact congrArg₂ (fun c f => Finset.fold max c f Finset.univ) neg_inf_word (funext fun x => r4 H 0 kv g r x)

/-- it, as a function -/
def M (kv : Fin 2) (g : Fin 4) (r : Fin 8192) : ℝ := (r5 H kv g r).choose

theorem r5' (kv : Fin 2) (g : Fin 4) (r : Fin 8192) :
    (show FVec Ideal S1x2x4x8192 .f32 from S V 8 (Proc.devRef .tc main_v5)) (ix4 0 kv g r) = (M H kv g r : EReal) := (r5 H kv g r).choose_spec

/-- the exponentials and their sum -/
def e (kv : Fin 2) (g : Fin 4) (r x : Fin 8192) : ℝ := Real.exp (sc a kv g r x - M H kv g r)
def den (kv : Fin 2) (g : Fin 4) (r : Fin 8192) : ℝ := ∑ x, e H kv g r x

theorem den_pos (kv : Fin 2) (g : Fin 4) (r : Fin 8192) : 0 < den H kv g r := sum_exp_pos (by omega) _

theorem e_div (kv : Fin 2) (g : Fin 4) (r x : Fin 8192) : e H kv g r x / den H kv g r = P a kv g r x := softmax_shift _ _ _

omit H in
theorem k4 : S V 8 (Proc.devRef .tc main_v4) = S V 6 (Proc.devRef .tc main_v4) := by
  rw [step V 6 8 (by omega)]; after_reads_simp

omit H in
theorem r25_eq (X : Idealize.ShloMosaic.Valuation τ sig (Elt Ideal)) (b : Fin 1) (kv : Fin 2) (g : Fin 4) (r x : Fin 8192) (A B : EReal)
    (h4 : (show FVec Ideal S1x2x4x8192x8192 .f32 from X (Proc.devRef .tc main_v4)) (ix5 b kv g r x) = A)
    (h5 : (show FVec Ideal S1x2x4x8192 .f32 from X (Proc.devRef .tc main_v5)) (ix4 0 kv g r) = B) :
    (show FVec Ideal S1x2x4x8192x8192 .f32 from StableHlo.after (seg 8 35) X (Proc.devRef .tc main_v25)) (ix5 b kv g r x)
      = Ideal.exp (A - max (Ideal.ofBits .f32 0xFF800000#32) B) := by
  rw [← h4, ← h5]
  dsimp only
  after_reads_at

theorem r25 (b : Fin 1) (kv : Fin 2) (g : Fin 4) (r x : Fin 8192) :
    (show FVec Ideal S1x2x4x8192x8192 .f32 from S V 35 (Proc.devRef .tc main_v25)) (ix5 b kv g r x) = (e H kv g r x : EReal) := by
  rw [step V 8 35 (by omega)]
  refine (r25_eq (S V 8) b kv g r x _ _ ((congrFun k4 (ix5 b kv g r x)).trans (r4 H b kv g r x)) (r5' H kv g r)).trans ?_
  rw [neg_inf_word, max_eq_right bot_le, ← EReal.coe_sub, Rl.exp_real, e]

theorem r26 (b : Fin 1) (kv : Fin 2) (g : Fin 4) (r : Fin 8192) :
    (show FVec Ideal S1x2x4x8192 .f32 from S V 37 (Proc.devRef .tc main_v26)) (ix4 b kv g r) = (den H kv g r : EReal) := by
  rw [step V 35 37 (by omega)]
  dsimp only
  after_reads_at
  exact (Finset.sum_congr rfl fun x _ => r25 H 0 kv g r x).trans (Rl.coe_sum _ _).symm

omit H in
theorem k25 : S V 37 (Proc.devRef .tc main_v25) = S V 35 (Proc.devRef .tc main_v25) := by
  rw [step V 35 37 (by omega)]; after_reads_simp

theorem r29 (b : Fin 1) (kv : Fin 2) (g : Fin 4) (r x : Fin 8192) :
    (show FVec Ideal S1x2x4x8192x8192 .f32 from S V 44 (Proc.devRef .tc main_v29)) (ix5 b kv g r x) = (P a kv g r x : EReal) := by
  rw [step V 37 44 (by omega)]
  dsimp only
  after_reads_at
  refine Eq.trans (congrArg₂ Ideal.div ((congrFun k25 (ix5 b kv g r x)).trans (r25 H b kv g r x)) (r26 H 0 kv g r)) ?_
  rw [Rl.div_real _ _ (den_pos H kv g r).ne', e_div]

theorem r27 (b : Fin 1) (kv : Fin 2) (g : Fin 4) (r : Fin 8192) (o : Fin 1) :
    (show FVec Ideal S1x2x4x8192x1 .f32 from S V 44 (Proc.devRef .tc main_v27)) (ix5 b kv g r o) = (den H kv g r : EReal) := by
  rw [step V 37 44 (by omega)]
  dsimp only
  after_reads_at
  exact r26 H 0 kv g r

theorem r32 (b : Fin 1) (kv : Fin 2) (g : Fin 4) (r : Fin 8192) (o : Fin 1) :
    (show FVec Ideal S1x2x4x8192x1 .f32 from S V 44 (Proc.devRef .tc main_v32)) (ix5 b kv g r o) = ((1 / (den H kv g r * den H kv g r) : ℝ) : EReal) := by
  rw [step V 37 44 (by omega)]
  dsimp only
  after_reads_at
  refine Eq.trans (congrArg₂ Ideal.div rfl (congrArg₂ HMul.hMul (r26 H 0 kv g r) (r26 H 0 kv g r))) ?_
  rw [← EReal.coe_mul, ← EReal.coe_one, Rl.div_real _ _ (mul_pos (den_pos H kv g r) (den_pos H kv g r)).ne']

omit H in
theorem k3 : S V 44 (Proc.devRef .tc main_arg3) = V (Proc.devRef .tc main_arg3) := by
  rw [step V 0 44 (by omega)]; after_reads_simp; rfl

theorem r37 (b : Fin 1) (kv : Fin 2) (d : Fin 64) (g : Fin 4) (r : Fin 8192) :
    (show FVec Ideal S1x2x64x4x8192 .f32 from S V 49 (Proc.devRef .tc main_v37)) (ix5 b kv d g r) = (a.ct r kv g d : EReal) := by
  rw [step V 44 49 (by omega)]
  dsimp only
  after_reads_at
  exact (congrFun k3 _).trans (H.ct r kv g d)

omit H in
theorem k2 : S V 49 (Proc.devRef .tc main_arg2) = V (Proc.devRef .tc main_arg2) := by
  rw [step V 0 49 (by omega)]; after_reads_simp; rfl

omit H in
theorem k29 : S V 49 (Proc.devRef .tc main_v29) = S V 44 (Proc.devRef .tc main_v29) := by
  rw [step V 44 49 (by omega)]; after_reads_simp

theorem r38 (b : Fin 1) (kv : Fin 2) (g : Fin 4) (r x : Fin 8192) :
    (show FVec Ideal S1x2x4x8192x8192 .f32 from S V 52 (Proc.devRef .tc main_v38)) (ix5 b kv g r x) = (dp a kv g r x : EReal) := by
  rw [step V 49 52 (by omega)]
  dsimp only
  after_reads_at
  obtain rfl : b = 0 := Subsingleton.elim _ _
  refine Eq.trans (Finset.sum_congr rfl fun d _ => congrArg₂ HMul.hMul (r37 H 0 kv d g r) ((congrFun k2 _).trans (H.v x kv d))) ?_
  simp only [← EReal.coe_mul, ← Rl.coe_sum, dp]

theorem r40 (b : Fin 1) (x : Fin 8192) (kv : Fin 2) (d : Fin 64) :
    (show FVec Ideal S1x8192x2x64 .f32 from S V 52 (Proc.devRef .tc main_v40)) (ix4 b x kv d) = (gv a x kv d : EReal) := by
  rw [step V 49 52 (by omega)]
  dsimp only
  after_reads_at
  refine Eq.trans (Finset.sum_congr rfl fun g _ => Finset.sum_congr rfl fun r _ => congrArg₂ HMul.hMul (r37 H 0 kv d g r)
    ((congrFun k29 _).trans (r29 H 0 kv g r x))) ?_
  simp only [← EReal.coe_mul, ← Rl.coe_sum, gv]

omit H in
theorem k25' : S V 52 (Proc.devRef .tc main_v25) = S V 35 (Proc.devRef .tc main_v25) := by
  rw [step V 35 52 (by omega)]; after_reads_simp
omit H in
theorem k32 : S V 52 (Proc.devRef .tc main_v32) = S V 44 (Proc.devRef .tc main_v32) := by
  rw [step V 44 52 (by omega)]; after_reads_simp

theorem r43 (b : Fin 1) (kv : Fin 2) (g : Fin 4) (r x : Fin 8192) :
    (show FVec Ideal S1x2x4x8192x8192 .f32 from S V 55 (Proc.devRef .tc main_v43)) (ix5 b kv g r x)
      = ((dp a kv g r x * (1 / (den H kv g r * den H kv g r)) * e H kv g r x : ℝ) : EReal) := by
  rw [step V 52 55 (by omega)]
  dsimp only
  after_reads_at
  refine Eq.trans (congrArg₂ HMul.hMul (congrArg₂ HMul.hMul (r38 H b kv g r x) ((congrFun k32 _).trans (r32 H 0 kv g r 0)))
    ((congrFun k25' _).trans (r25 H b kv g r x))) ?_
  simp only [← EReal.coe_mul]

omit H in
/-- A sum over the axes of extent one. -/
theorem over_ones (Y : FVec Ideal S1x2x4x8192x1 .f32) (kv : Fin 2) (g : Fin 4) (r : Fin 8192) :
    Ideal.hostReduceAdd Gen.reducesTo_S1x2x4x8192x1_S2x4x8192_d0_4 Y 0 (ix3 kv g r) = Y (ix5 0 kv g r 0) := by
  unfold Ideal.hostReduceAdd
  rw [zero_add, Finset.sum_eq_single (ix5 0 kv g r 0)]
  · intro i hi hn
    have h := (Finset.mem_filter.mp hi).2
    refine absurd ?_ hn
    have h0 : i 1 = kv := congrFun h 0
    have h1 : i 2 = g := congrFun h 1
    have h2 : i 3 = r := congrFun h 2
    idx_vars i
    subst h0 h1 h2
    refine congrArg₂ (fun p q => ix5 p _ _ _ q) (Subsingleton.elim _ _) (Subsingleton.elim _ _)
  · intro hn
    refine absurd (Finset.mem_filter.mpr ⟨Finset.mem_univ _, ?_⟩) hn
    funext b
    fin_cases b <;> rfl

theorem r50 (b : Fin 1) (kv : Fin 2) (g : Fin 4) (r : Fin 8192) :
    (show FVec Ideal S1x2x4x8192 .f32 from S V 64 (Proc.devRef .tc main_v50)) (ix4 b kv g r)
      = ((-∑ x, dp a kv g r x * (1 / (den H kv g r * den H kv g r)) * e H kv g r x : ℝ) : EReal) := by
  rw [step V 55 64 (by omega)]
  dsimp only
  after_reads_at
  refine (over_ones _ kv g r).trans ?_
  rw [EReal.coe_neg, Rl.coe_sum]
  exact congrArg Neg.neg (Finset.sum_congr rfl fun x _ => r43 H 0 kv g r x)

omit H in
theorem k38 : S V 55 (Proc.devRef .tc main_v38) = S V 52 (Proc.devRef .tc main_v38) := by
  rw [step V 52 55 (by omega)]; after_reads_simp
omit H in
theorem k27 : S V 55 (Proc.devRef .tc main_v27) = S V 44 (Proc.devRef .tc main_v27) := by
  rw [step V 44 55 (by omega)]; after_reads_simp

theorem r48 (b : Fin 1) (kv : Fin 2) (g : Fin 4) (r x : Fin 8192) :
    (show FVec Ideal S1x2x4x8192x8192 .f32 from S V 64 (Proc.devRef .tc main_v48)) (ix5 b kv g r x)
      = ((dp a kv g r x / den H kv g r : ℝ) : EReal) := by
  rw [step V 55 64 (by omega)]
  dsimp only
  after_reads_at
  refine Eq.trans (congrArg₂ Ideal.div ((congrFun k38 _).trans (r38 H b kv g r x)) ((congrFun k27 _).trans (r27 H 0 kv g r 0))) ?_
  rw [Rl.div_real _ _ (den_pos H kv g r).ne']

omit H in
theorem k25'' : S V 64 (Proc.devRef .tc main_v25) = S V 35 (Proc.devRef .tc main_v25) := by
  rw [step V 35 64 (by omega)]; after_reads_simp

/-- The gradient with respect to the unscaled scores. -/
theorem r55 (b : Fin 1) (kv : Fin 2) (g : Fin 4) (r x : Fin 8192) :
    (show FVec Ideal S1x2x4x8192x8192 .f32 from S V 70 (Proc.devRef .tc main_v55)) (ix5 b kv g r x)
      = ((ds a kv g r x * (1 / 8) : ℝ) : EReal) := by
  rw [step V 64 70 (by omega)]
  dsimp only
  after_reads_at
  refine Eq.trans (congrArg₂ HMul.hMul (congrArg₂ HMul.hMul (congrArg₂ HAdd.hAdd (r48 H b kv g r x) (r50 H 0 kv g r))
    ((congrFun k25'' _).trans (r25 H b kv g r x))) eighth_word) ?_
  simp only [← EReal.coe_mul, ← EReal.coe_add, EReal.coe_eq_coe_iff]
  congr 1
  have hd := (den_pos H kv g r).ne'
  have hs : (∑ x, dp a kv g r x * (1 / (den H kv g r * den H kv g r)) * e H kv g r x)
      = (∑ x, P a kv g r x * dp a kv g r x) / den H kv g r := by
    rw [Finset.sum_div]
    refine Finset.sum_congr rfl fun x _ => ?_
    rw [← e_div H]
    field_simp
  rw [hs, ds, ← e_div H]
  field_simp
  ring

omit H in
theorem k1 : S V 70 (Proc.devRef .tc main_arg1) = V (Proc.devRef .tc main_arg1) := by
  rw [step V 0 70 (by omega)]; after_reads_simp; rfl

theorem r0 (b : Fin 1) (r : Fin 8192) (kv : Fin 2) (g : Fin 4) (d : Fin 64) :
    (show FVec Ideal S1x8192x2x4x64 .f32 from S V 70 (Proc.devRef .tc main_v0)) (ix5 b r kv g d) = (a.q r kv g d : EReal) := by
  rw [step V 0 70 (by omega)]
  dsimp only
  after_reads_at
  exact H.q r kv g d

omit H in
theorem k40 : S V 70 (Proc.devRef .tc main_v40) = S V 52 (Proc.devRef .tc main_v40) := by
  rw [step V 52 70 (by omega)]; after_reads_simp

/-- The first result: the gradient of the queries. -/
theorem r65 (j : Fin 512) (r : Fin 8192) :
    (show FVec Ideal S512x8192 .f32 from S V 89 (Proc.devRef .tc main_v65)) (ix2 j r)
      = (gq a r ⟨j.val / 64 / 4, by omega⟩ ⟨j.val / 64 % 4, by omega⟩ ⟨j.val % 64, by omega⟩ : EReal) := by
  rw [step V 70 89 (by omega)]
  dsimp only
  after_reads_at
  refine Eq.trans (congrArg₂ HMul.hMul (Finset.sum_congr rfl fun x _ => congrArg₂ HMul.hMul (r55 H 0 _ _ r x) ((congrFun k1 _).trans (H.k x _ _))) eight_word) ?_
  simp only [← EReal.coe_mul, ← Rl.coe_sum, EReal.coe_eq_coe_iff, gq, Finset.sum_mul]
  refine Finset.sum_congr rfl fun x _ => ?_
  ring

omit H in
theorem r70_eq (X : Idealize.ShloMosaic.Valuation τ sig (Elt Ideal)) (i : Fin 16) (j : Fin 128) (x : Fin 512) (A B : Fin 8192 → Fin 4 → EReal)
    (hA : ∀ r g, (show FVec Ideal S1x2x4x8192x8192 .f32 from X (Proc.devRef .tc main_v55))
      (ix5 0 ⟨j.val / 64, by omega⟩ g r ⟨i.val * 512 + x.val, by omega⟩) = A r g)
    (hB : ∀ r g, (show FVec Ideal S1x8192x2x4x64 .f32 from X (Proc.devRef .tc main_v0)) (ix5 0 r ⟨j.val / 64, by omega⟩ g ⟨j.val % 64, by omega⟩) = B r g) :
    (show FVec Ideal S16x128x512 .f32 from StableHlo.after (seg 70 89) X (Proc.devRef .tc main_v70)) (ix3 i j x)
      = Ideal.div (∑ r, ∑ g, A r g * B r g) (Ideal.log (Ideal.ofBits .f32 0x40000000#32)) := by
  simp only [← hA, ← hB]
  after_reads_at

/-- The second: the gradient of the keys. -/
theorem r70 (i : Fin 16) (j : Fin 128) (x : Fin 512) :
    (show FVec Ideal S16x128x512 .f32 from S V 89 (Proc.devRef .tc main_v70)) (ix3 i j x)
      = (gk a ⟨i.val * 512 + x.val, by omega⟩ ⟨j.val / 64, by omega⟩ ⟨j.val % 64, by omega⟩ : EReal) := by
  rw [step V 70 89 (by omega)]
  refine (r70_eq (S V 70) i j x _ _ (fun r g => r55 H 0 _ g r _) (fun r g => r0 H 0 r _ g _)).trans ?_
  rw [two_word, Rl.log_real _ (by norm_num)]
  simp only [← EReal.coe_mul, ← Rl.coe_sum]
  rw [Rl.div_real _ _ log_two_pos.ne']
  refine congrArg Real.toEReal (congrArg (· / Real.log 2) ?_)
  rw [Finset.sum_mul]
  refine Finset.sum_congr rfl fun r _ => ?_
  rw [Finset.sum_mul]
  refine Finset.sum_congr rfl fun g _ => ?_
  ring

/-- The third: the gradient of the values. -/
theorem r72 (i : Fin 16) (j : Fin 128) (x : Fin 512) :
    (show FVec Ideal S16x128x512 .f32 from S V 89 (Proc.devRef .tc main_v72)) (ix3 i j x)
      = (gv a ⟨i.val * 512 + x.val, by omega⟩ ⟨j.val / 64, by omega⟩ ⟨j.val % 64, by omega⟩ : EReal) := by
  rw [step V 70 89 (by omega)]
  dsimp only
  after_reads_at
  exact (congrFun k40 _).trans (r40 H 0 _ _ _)

omit H in
/-- Every fair run of the reference ends with its results at the operations' last contents and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = S (StableHlo.launchContents m c) 89 (Proc.devRef .tc main_v65)
      ∧ r.2.mem ((c.tc : Thread nD τ).loc main_v70) = S (StableHlo.launchContents m c) 89 (Proc.devRef .tc main_v70)
      ∧ r.2.mem ((c.tc : Thread nD τ).loc main_v72) = S (StableHlo.launchContents m c) 89 (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨h c main_v65, h c main_v70, h c main_v72,
      (h c main_arg0).trans (by after_reads_simp), (h c main_arg1).trans (by after_reads_simp),
      (h c main_arg2).trans (by after_reads_simp), (h c main_arg3).trans (by after_reads_simp)⟩)
    (StableHlo.run_seq scopedRefs_eq scopedSems_eq defs main (fun _ => ops) main_eq (fun _ => ops_sub) m ρ)

end Cert.AttnRIdeal.Final

end
-- ==== Proof.AttnClaims.lean ====
/- Attention's gradient: the kernel's three results and the reference's agree where the arguments are finite. -/
module

public import proofs.«01_k».proof.Defs
public import proofs.«01_k».proof.Proof.AttnFinal
public import proofs.«01_k».proof.Proof.AttnRef
public import proofs.«01_k».proof.Proof.Gen.Pre_attn_finite
public import proofs.«01_k».proof.Proof.Gen.AttnK.Frame

@[expose] public section

set_option maxRecDepth 16384

noncomputable section

open Idealize.ShloMosaic Idealize.ShloMosaic.TcCoe Idealize.SL.Sem

namespace Cert.Proof.AttnClaims

open Cert.AttnKIdeal Cert.AttnKIdeal.Gen Cert.AttnKIdeal.Final Cert.Attn

/-- Under the precondition the arguments are real numbers. -/
theorem reals (m : (ℓ : Loc nD τ sig) → Buf (Elt Ideal) ℓ) (h : Cert.Pre_AttnKIdeal_attn_finite m) (c : Dev nD) :
    ∃ a : Args, Reals a (StableHlo.launchContents m c) := by
  obtain ⟨h0, h1, h2, h3⟩ := h c
  obtain ⟨q, hq⟩ := Rl.real_of_finite (fun _ => Rl.inf_word) h0
  obtain ⟨k, hk⟩ := Rl.real_of_finite (fun _ => Rl.inf_word) h1
  obtain ⟨v, hv⟩ := Rl.real_of_finite (fun _ => Rl.inf_word) h2
  obtain ⟨d, hd⟩ := Rl.real_of_finite (fun _ => Rl.inf_word) h3
  exact ⟨⟨fun r kv g e => q (ix4 0 r ⟨kv.val * 4 + g.val, by omega⟩ e), fun x kv e => k (ix4 0 x kv e), fun x kv e => v (ix4 0 x kv e),
      fun r kv g e => d (ix3 0 r ⟨kv.val * 256 + g.val * 64 + e.val, by omega⟩)⟩,
    ⟨fun r kv g e => congrFun hq _, fun x kv e => congrFun hk _, fun x kv e => congrFun hv _, fun r kv g e => congrFun hd _⟩⟩

section Arrays

variable {V : Idealize.ShloMosaic.Valuation Cert.AttnRIdeal.τ Cert.AttnRIdeal.sig (Elt Ideal)} {a : Args} (H : Cert.AttnRIdeal.Final.Reals V a)

include H

theorem ref65 : (show FVec Ideal S512x8192 .f32 from Cert.AttnRIdeal.Final.S V 89 (Proc.devRef .tc Cert.AttnRIdeal.main_v65)) = G8 a := by
  funext y
  idx_vars y
  exact Cert.AttnRIdeal.Final.r65 H y0 y1

theorem ref70 : (show FVec Ideal S16x128x512 .f32 from Cert.AttnRIdeal.Final.S V 89 (Proc.devRef .tc Cert.AttnRIdeal.main_v70)) = G9 a := by
  funext y
  idx_vars y
  exact Cert.AttnRIdeal.Final.r70 H y0 y1 y2

theorem ref72 : (show FVec Ideal S16x128x512 .f32 from Cert.AttnRIdeal.Final.S V 89 (Proc.devRef .tc Cert.AttnRIdeal.main_v72)) = G10 a := by
  funext y
  idx_vars y
  exact Cert.AttnRIdeal.Final.r72 H y0 y1 y2

end Arrays

section Last

variable {m : (ℓ : Loc nD τ sig) → Buf (Elt Ideal) ℓ} {c : Dev nD} {a : Args} (H : Reals a (StableHlo.launchContents m c))

theorem last_eq : (Fin.last cfg0.N).val - 1 = t0_7.val := by
  have : cfg0.N = 8 := N_0
  show cfg0.N - 1 = 7
  omega

include H

theorem last9 (n : ℕ) (h : n < cfg0.N) (e : n = t0_7.val) : (show FVec Ideal S16x128x512 .f32 from (outsAt0 m c n h).2.2.2.1) = G9 a := by
  have ht : t0_7 = (⟨n, h⟩ : Fin cfg0.N) := Fin.ext e.symm
  have := final9 H
  rw [ht] at this
  exact this

theorem last10 (n : ℕ) (h : n < cfg0.N) (e : n = t0_7.val) : (show FVec Ideal S16x128x512 .f32 from (outsAt0 m c n h).2.2.2.2) = G10 a := by
  have ht : t0_7 = (⟨n, h⟩ : Fin cfg0.N) := Fin.ext e.symm
  have := final10 H
  rw [ht] at this
  exact this

end Last

/-- At `Ideal` the kernel's results and the reference's agree. -/
theorem algebraic : Cert.algebraic_AttnKIdeal_AttnRIdeal_pre_attn_finite := by
  pair_intro
  · run_from Cert.AttnKIdeal.Value.run_blocks m g
  · refine (θ_run _ _ _).mono (fun r h c => ?_) (Cert.AttnRIdeal.Final.run m' g')
    obtain ⟨e0, e1, e2, -⟩ := h c
    obtain ⟨a, H⟩ := reals m hpre c
    have H' : Cert.AttnRIdeal.Final.Reals (StableHlo.launchContents m' c) a :=
      ⟨fun r kv g e => (congrFun (hagree c).1 _).trans (H.q r kv g e), fun x kv e => (congrFun (hagree c).2.1 _).trans (H.k x kv e),
        fun x kv e => (congrFun (hagree c).2.2.1 _).trans (H.v x kv e), fun r kv g e => (congrFun (hagree c).2.2.2 _).trans (H.ct r kv g e)⟩
    exact ⟨(e0.trans (ref65 H')).trans (final8 H).symm, (e1.trans (ref70 H')).trans (last9 H _ _ last_eq).symm,
      (e2.trans (ref72 H')).trans (last10 H _ _ last_eq).symm, (h c).2.2.2⟩

theorem frame_r : Cert.quiescent_AttnRIdeal := by
  intro m g _
  refine (θ_run _ _ _).mono (fun r h => ⟨fun c => (h c).2.2.2, ?_⟩) (Cert.AttnRIdeal.Final.run m g)
  exact sem_eq_zero_of_no_sems (sig := Cert.AttnRIdeal.sig) rfl _

end Cert.Proof.AttnClaims

end
-- ==== Proof.MergeValue.lean ====
/- The merge of the two branches, forward and backward: what the two kernels leave, as functions of the arguments. -/
module

public import proofs.«01_k».proof.Proof.Gen.MergeKIdeal.Frame
public import proofs.«01_k».proof.Proof.Real
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.MergeKIdeal.Final

open Cert.MergeKIdeal Cert.MergeKIdeal.Gen

/-- A branch times its matrix. -/
def U (y : FVec Ideal S8192x512 .f32) (wb : FVec Ideal S2x512x1024 .f32) (b : Fin 2) (s : Fin 8192) (j : Fin 1024) : EReal :=
  ∑ k : Fin 512, y (ix2 s k) * wb (ix3 b k j)

/-- The gated sum of the two branches. -/
def Mg (ya yb : FVec Ideal S8192x512 .f32) (ga gb : FVec Ideal S8192x1024 .f32) (wb : FVec Ideal S2x512x1024 .f32) (s : Fin 8192) (j : Fin 1024) : EReal :=
  Ideal.logistic (ga (ix2 s j)) * U ya wb 0 s j + Ideal.logistic (gb (ix2 s j)) * U yb wb 1 s j

/-- The residual row: the input plus the gate row times the product with the output matrix. -/
def X1 (ya yb : FVec Ideal S8192x512 .f32) (ga gb x : FVec Ideal S8192x1024 .f32) (mod : FVec Ideal S6x1024 .f32)
    (wb : FVec Ideal S2x512x1024 .f32) (wo : FVec Ideal S1024x1024 .f32) (s : Fin 8192) (j : Fin 1024) : EReal :=
  x (ix2 s j) + mod (ix2 2 j) * ∑ k : Fin 1024, Mg ya yb ga gb wb s k * wo (ix2 k j)

/-- The gradient of the gated sum. -/
def DM (mod : FVec Ideal S6x1024 .f32) (wo : FVec Ideal S1024x1024 .f32) (d : FVec Ideal S8192x1024 .f32) (s : Fin 8192) (j : Fin 1024) : EReal :=
  ∑ k : Fin 1024, mod (ix2 2 k) * d (ix2 s k) * wo (ix2 j k)

/-- The gradient of a branch's product. -/
def DU (g : FVec Ideal S8192x1024 .f32) (mod : FVec Ideal S6x1024 .f32) (wo : FVec Ideal S1024x1024 .f32) (d : FVec Ideal S8192x1024 .f32)
    (s : Fin 8192) (j : Fin 1024) : EReal := DM mod wo d s j * Ideal.logistic (g (ix2 s j))

/-- The gradient of a branch's gate, from the branch's product. -/
def DG (u : Fin 8192 → Fin 1024 → EReal) (g : FVec Ideal S8192x1024 .f32) (mod : FVec Ideal S6x1024 .f32)
    (wo : FVec Ideal S1024x1024 .f32) (d : FVec Ideal S8192x1024 .f32) (s : Fin 8192) (j : Fin 1024) : EReal :=
  DM mod wo d s j * u s j * Ideal.logistic (g (ix2 s j)) * (1 - Ideal.logistic (g (ix2 s j)))

/-- The gradient of a branch. -/
def DY (g : FVec Ideal S8192x1024 .f32) (mod : FVec Ideal S6x1024 .f32) (wb : FVec Ideal S2x512x1024 .f32)
    (wo : FVec Ideal S1024x1024 .f32) (d : FVec Ideal S8192x1024 .f32) (b : Fin 2) (s : Fin 8192) (k : Fin 512) : EReal :=
  ∑ j : Fin 1024, DU g mod wo d s j * wb (ix3 b k j)

/-- One where the column belongs to the head, else zero. -/
def hd (k : Fin 512) (h : Fin 8) : EReal := if k.val / 64 = h.val then 1 else 0

/-- A head's sum of a row of two arrays' products, and of what rounding left of them. -/
def DL (dy : Fin 8192 → Fin 512 → EReal) (y : FVec Ideal S8192x512 .f32) (s : Fin 8192) (h : Fin 8) : EReal :=
  (∑ k : Fin 512, dy s k * y (ix2 s k) * hd k h) + ∑ k : Fin 512, (dy s k * y (ix2 s k) - dy s k * y (ix2 s k)) * hd k h

section Blocks

variable (x0 x1 : FVec Ideal S256x512 .bf16) (x2 x3 : FVec Ideal S256x1024 .bf16) (x4 : FVec Ideal S256x1024 .f32)
  (x5 : FVec Ideal S6x1024 .f32) (x6 : FVec Ideal S2x512x1024 .bf16) (x7 : FVec Ideal S1024x1024 .bf16)

theorem b10 (i : Fin 256) (j : Fin 1024) : (out0_10 (F := Ideal) x0 x1 x2 x3 x4 x5 x6 x7 : FVec Ideal S256x1024 .bf16) (ix2 i j) = ∑ k : Fin 512, x0 (ix2 i k) * x6 (ix3 0 k j) := by
  unfold out0_10
  rw [View.canon_cons_unit_lit' _ _ _ (by decide)]
  pointwise [k0_pay5, k0_pay2]

theorem b11 (i : Fin 256) (j : Fin 1024) : (out0_11 (F := Ideal) x0 x1 x2 x3 x4 x5 x6 x7 : FVec Ideal S256x1024 .bf16) (ix2 i j) = ∑ k : Fin 512, x1 (ix2 i k) * x6 (ix3 1 k j) := by
  unfold out0_11
  rw [View.canon_cons_unit_lit' _ _ _ (by decide)]
  pointwise [k0_pay6, k0_pay3]

theorem b9 (i : Fin 256) (j : Fin 1024) : (out0_9 (F := Ideal) x0 x1 x2 x3 x4 x5 x6 x7 : FVec Ideal S256x1024 .bf16) (ix2 i j)
    = Ideal.logistic (x2 (ix2 i j)) * (∑ k : Fin 512, x0 (ix2 i k) * x6 (ix3 0 k j)) + Ideal.logistic (x3 (ix2 i j)) * ∑ k : Fin 512, x1 (ix2 i k) * x6 (ix3 1 k j) := by
  unfold out0_9
  rw [View.canon_cons_unit_lit' _ _ _ (by decide)]
  pointwise [k0_pay4, k0_pay2, k0_pay3]

theorem b8 (i : Fin 256) (j : Fin 1024) : (out0_8 (F := Ideal) x0 x1 x2 x3 x4 x5 x6 x7 : FVec Ideal S256x1024 .f32) (ix2 i j)
    = x4 (ix2 i j) + x5 (ix2 2 j) * ∑ n : Fin 1024, (Ideal.logistic (x2 (ix2 i n)) * (∑ k : Fin 512, x0 (ix2 i k) * x6 (ix3 0 k n)) + Ideal.logistic (x3 (ix2 i n)) * ∑ k : Fin 512, x1 (ix2 i k) * x6 (ix3 1 k n)) * x7 (ix2 n j) := by
  unfold out0_8
  rw [View.canon_cons_unit_lit' _ _ _ (by decide)]
  pointwise [k0_pay1, k0_pay4, k0_pay2, k0_pay3]

end Blocks

section Back

variable (x0 : FVec Ideal S512x1024 .f32) (x1 : FVec Ideal S6x1024 .f32) (x2 x3 x4 x5 : FVec Ideal S512x1024 .bf16)
  (x6 x7 : FVec Ideal S512x512 .bf16) (x8 : FVec Ideal S2x512x1024 .bf16) (x9 : FVec Ideal S1024x1024 .bf16)

/-- A row of the gradient of the gated sum, from a point's blocks. -/
def bm (i : Fin 512) (j : Fin 1024) : EReal := ∑ n : Fin 1024, x1 (ix2 2 n) * x0 (ix2 i n) * x9 (ix2 j n)

/-- A row of a branch's gradient, from a point's blocks. -/
def bd (g : FVec Ideal S512x1024 .bf16) (b : Fin 2) (i : Fin 512) (k : Fin 512) : EReal :=
  ∑ j : Fin 1024, bm x0 x1 x9 i j * Ideal.logistic (g (ix2 i j)) * x8 (ix3 b k j)

theorem pay16 (i : Fin 512) (j : Fin 1024) : (k1_pay16 x0 x1 x2 x3 x4 x5 x6 x7 x8 x9 : FVec Ideal S512x1024 .f32) (ix2 i j) = bm x0 x1 x9 i j := by
  unfold k1_pay16 bm
  pointwise [k1_pay1]

theorem pay18 (i : Fin 512) (j : Fin 1024) : (k1_pay18 x0 x1 x2 x3 x4 x5 x6 x7 x8 x9 : FVec Ideal S512x1024 .f32) (ix2 i j)
    = bm x0 x1 x9 i j * Ideal.logistic (x2 (ix2 i j)) := by
  unfold k1_pay18 bm
  pointwise [k1_pay4, k1_pay1, k1_pay3]

theorem b1_10 (i : Fin 512) (j : Fin 1024) : (out1_10 (F := Ideal) x0 x1 x2 x3 x4 x5 x6 x7 x8 x9 : FVec Ideal S512x1024 .bf16) (ix2 i j)
    = bm x0 x1 x9 i j * Ideal.logistic (x2 (ix2 i j)) := by
  unfold out1_10
  rw [View.canon_cons_unit_lit' _ _ _ (by decide)]
  pointwise [k1_pay5, pay18]

theorem b1_11 (i : Fin 512) (j : Fin 1024) : (out1_11 (F := Ideal) x0 x1 x2 x3 x4 x5 x6 x7 x8 x9 : FVec Ideal S512x1024 .bf16) (ix2 i j)
    = bm x0 x1 x9 i j * Ideal.logistic (x3 (ix2 i j)) := by
  unfold out1_11
  rw [View.canon_cons_unit_lit' _ _ _ (by decide)]
  pointwise [k1_pay12, k1_pay11, pay16]

theorem b1_12 (i : Fin 512) (j : Fin 1024) : (out1_12 (F := Ideal) x0 x1 x2 x3 x4 x5 x6 x7 x8 x9 : FVec Ideal S512x1024 .bf16) (ix2 i j)
    = bm x0 x1 x9 i j * x4 (ix2 i j) * Ideal.logistic (x2 (ix2 i j)) * (1 - Ideal.logistic (x2 (ix2 i j))) := by
  unfold out1_12
  rw [View.canon_cons_unit_lit' _ _ _ (by decide)]
  pointwise [k1_pay6, k1_pay3, pay16]

theorem b1_13 (i : Fin 512) (j : Fin 1024) : (out1_13 (F := Ideal) x0 x1 x2 x3 x4 x5 x6 x7 x8 x9 : FVec Ideal S512x1024 .bf16) (ix2 i j)
    = bm x0 x1 x9 i j * x5 (ix2 i j) * Ideal.logistic (x3 (ix2 i j)) * (1 - Ideal.logistic (x3 (ix2 i j))) := by
  unfold out1_13
  rw [View.canon_cons_unit_lit' _ _ _ (by decide)]
  pointwise [k1_pay13, k1_pay11, pay16]

theorem b1_14 (i : Fin 512) (k : Fin 512) : (out1_14 (F := Ideal) x0 x1 x2 x3 x4 x5 x6 x7 x8 x9 : FVec Ideal S512x512 .bf16) (ix2 i k)
    = bd x0 x1 x8 x9 x2 0 i k := by
  unfold out1_14 bd
  rw [View.canon_cons_unit_lit' _ _ _ (by decide)]
  pointwise [k1_pay8, k1_pay7, k1_pay5, pay18]

theorem b1_15 (i : Fin 512) (k : Fin 512) : (out1_15 (F := Ideal) x0 x1 x2 x3 x4 x5 x6 x7 x8 x9 : FVec Ideal S512x512 .bf16) (ix2 i k)
    = bd x0 x1 x8 x9 x3 1 i k := by
  unfold out1_15 bd
  rw [View.canon_cons_unit_lit' _ _ _ (by decide)]
  pointwise [k1_pay14, k1_pay12, k1_pay11, pay16]

theorem b1_18 (k : Fin 512) (i : Fin 512) : (out1_18 (F := Ideal) x0 x1 x2 x3 x4 x5 x6 x7 x8 x9 : FVec Ideal S512x512 .bf16) (ix2 k i)
    = bd x0 x1 x8 x9 x2 0 i k := by
  unfold out1_18 bd
  rw [View.canon_cons_unit_lit' _ _ _ (by decide)]
  pointwise [k1_pay9, k1_pay7, k1_pay5, pay18]

/-- The words the head table compares. -/
theorem hd_word : ∀ k : Fin 512, (Scalar.select
            (IntOp.andi
              (IntOp.cmpi CmpIPredicate.ne
                (IntOp.subi (BitVec.setWidth 32 (IntOp.cmpi CmpIPredicate.sgt (BitVec.ofNat 32 k.val) 0#32))
                  (BitVec.setWidth 32 (IntOp.cmpi CmpIPredicate.slt (BitVec.ofNat 32 k.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 k.val) 64#32) 0#32))
            (IntOp.subi (IntOp.divsi ArithUnit.vector (BitVec.ofNat 32 k.val) 64#32) 1#32)
            (IntOp.divsi ArithUnit.vector (BitVec.ofNat 32 k.val) 64#32)) = BitVec.ofNat 32 (k.val / 64) := by decide +kernel

theorem hd_at (k : Fin 512) (h : Fin 8) : (k1_pay2 (F := Ideal)) (ix2 k h) = hd k h := by
  pointwise [k1_pay2]
  rw [hd_word k, hd]
  by_cases e : k.val / 64 = h.val
  · rw [if_pos e, e]
    simp [IntOp.cmpi]
    exact show (((1#32).toInt : ℝ) : EReal) = 1 by norm_num
  · rw [if_neg e]
    have : BitVec.ofNat 32 (k.val / 64) ≠ BitVec.ofNat 32 h.val := by
      intro hh
      have := congrArg BitVec.toNat hh
      simp only [BitVec.toNat_ofNat] at this
      omega
    unfold IntOp.cmpi; simp only []
    rw [show (BitVec.ofNat 32 (k.val / 64) == BitVec.ofNat 32 h.val) = false from beq_eq_false_iff_ne.mpr this]
    exact show (((0#32).toInt : ℝ) : EReal) = 0 by norm_num

theorem b1_16 (i : Fin 512) (h : Fin 8) : (out1_16 (F := Ideal) x0 x1 x2 x3 x4 x5 x6 x7 x8 x9 : FVec Ideal S512x8 .f32) (ix2 i h)
    = (∑ k : Fin 512, bd x0 x1 x8 x9 x2 0 i k * x6 (ix2 i k) * hd k h)
      + ∑ k : Fin 512, (bd x0 x1 x8 x9 x2 0 i k * x6 (ix2 i k) - bd x0 x1 x8 x9 x2 0 i k * x6 (ix2 i k)) * hd k h := by
  unfold out1_16 bd k1_pay17
  rw [View.canon_cons_unit_lit' _ _ _ (by decide)]
  pointwise [k1_pay10, k1_pay8, k1_pay7, k1_pay5, pay18, hd_at]

theorem b1_17 (i : Fin 512) (h : Fin 8) : (out1_17 (F := Ideal) x0 x1 x2 x3 x4 x5 x6 x7 x8 x9 : FVec Ideal S512x8 .f32) (ix2 i h)
    = (∑ k : Fin 512, bd x0 x1 x8 x9 x3 1 i k * x7 (ix2 i k) * hd k h)
      + ∑ k : Fin 512, (bd x0 x1 x8 x9 x3 1 i k * x7 (ix2 i k) - bd x0 x1 x8 x9 x3 1 i k * x7 (ix2 i k)) * hd k h := by
  unfold out1_17 bd k1_pay17
  rw [View.canon_cons_unit_lit' _ _ _ (by decide)]
  pointwise [k1_pay15, k1_pay14, k1_pay12, k1_pay11, pay16, hd_at]

end Back

end Cert.MergeKIdeal.Final

end
-- ==== Proof.MergeArrays.lean ====
/- The arrays the two kernels of the merge leave, as functions of the arguments. -/
module

public import proofs.«01_k».proof.Proof.MergeValue

@[expose] public section

set_option maxRecDepth 16384

noncomputable section

open Idealize.ShloMosaic Idealize.ShloMosaic.TcCoe Idealize.SL.Sem
open Idealize.ShloMosaic.Pipeline (Dat)

namespace Cert.MergeKIdeal.Final

open Cert.MergeKIdeal Cert.MergeKIdeal.Gen

theorem idx0 : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0, 0] ∧ win0_7.index t = ![0, 0] ∧ win0_8.index t = ![t.val, 0] ∧ win0_9.index t = ![t.val, 0] ∧ win0_10.index t = ![t.val, 0] ∧ win0_11.index t = ![t.val, 0] :=
  (by decide +kernel : ∀ t : Fin grid0.N, _)

theorem idx1 : ∀ t : Fin cfg1.N, win1_0.index t = ![t.val, 0] ∧ win1_1.index t = ![0, 0] ∧ win1_2.index t = ![t.val, 0] ∧ win1_3.index t = ![t.val, 0] ∧ win1_4.index t = ![t.val, 0] ∧ win1_5.index t = ![t.val, 0] ∧ win1_6.index t = ![t.val, 0] ∧ win1_7.index t = ![t.val, 0] ∧ win1_8.index t = ![0, 0, 0] ∧ win1_9.index t = ![0, 0] ∧ win1_10.index t = ![t.val, 0] ∧ win1_11.index t = ![t.val, 0] ∧ win1_12.index t = ![t.val, 0] ∧ win1_13.index t = ![t.val, 0] ∧ win1_14.index t = ![t.val, 0] ∧ win1_15.index t = ![t.val, 0] ∧ win1_16.index t = ![t.val, 0] ∧ win1_17.index t = ![t.val, 0] ∧ win1_18.index t = ![0, t.val] :=
  (by decide +kernel : ∀ t : Fin grid1.N, _)

theorem row0_lt (t : Fin cfg0.N) (i : Fin 256) : t.val * 256 + i.val < 8192 := by
  have := lt_of_lt_of_eq t.isLt N_0; omega

/-- A token's row, from its point and its row in the block. -/
def row0 (t : Fin cfg0.N) (i : Fin 256) : Fin 8192 := ⟨t.val * 256 + i.val, row0_lt t i⟩

theorem row1_lt (t : Fin cfg1.N) (i : Fin 512) : t.val * 512 + i.val < 8192 := by
  have := lt_of_lt_of_eq t.isLt N_1; omega

/-- A token's row, from its point and its row in the block. -/
def row1 (t : Fin cfg1.N) (i : Fin 512) : Fin 8192 := ⟨t.val * 512 + i.val, row1_lt t i⟩

section Read

variable (V : (c : Dev nD) → (b : Ref sig .tc) → Buf (Elt Ideal) ((c : Thread nD τ).loc b)) (c : Dev nD)

theorem r0_0_at (t : Fin cfg0.N) (i : Fin 256) (j : Fin 512) : (iblk0 V c 0 t : FVec Ideal S256x512 .bf16) (ix2 i j)
    = (V c main_v0 : FVec Ideal S8192x512 .bf16) (ix2 (row0 t i) j) := by
  blk_ext [iblk0, idx0 t, row0]

theorem r0_1_at (t : Fin cfg0.N) (i : Fin 256) (j : Fin 512) : (iblk0 V c 1 t : FVec Ideal S256x512 .bf16) (ix2 i j)
    = (V c main_v1 : FVec Ideal S8192x512 .bf16) (ix2 (row0 t i) j) := by
  blk_ext [iblk0, idx0 t, row0]

theorem r0_2_at (t : Fin cfg0.N) (i : Fin 256) (j : Fin 1024) : (iblk0 V c 2 t : FVec Ideal S256x1024 .bf16) (ix2 i j)
    = (V c main_v2 : FVec Ideal S8192x1024 .bf16) (ix2 (row0 t i) j) := by
  blk_ext [iblk0, idx0 t, row0]

theorem r0_3_at (t : Fin cfg0.N) (i : Fin 256) (j : Fin 1024) : (iblk0 V c 3 t : FVec Ideal S256x1024 .bf16) (ix2 i j)
    = (V c main_v3 : FVec Ideal S8192x1024 .bf16) (ix2 (row0 t i) j) := by
  blk_ext [iblk0, idx0 t, row0]

theorem r0_4_at (t : Fin cfg0.N) (i : Fin 256) (j : Fin 1024) : (iblk0 V c 4 t : FVec Ideal S256x1024 .f32) (ix2 i j)
    = (V c main_arg4 : FVec Ideal S8192x1024 .f32) (ix2 (row0 t i) j) := by
  blk_ext [iblk0, idx0 t, row0]

theorem r1_0_at (t : Fin cfg1.N) (i : Fin 512) (j : Fin 1024) : (iblk1 V c 0 t : FVec Ideal S512x1024 .f32) (ix2 i j)
    = (V c main_arg8 : FVec Ideal S8192x1024 .f32) (ix2 (row1 t i) j) := by
  blk_ext [iblk1, idx1 t, row1]

theorem r1_2_at (t : Fin cfg1.N) (i : Fin 512) (j : Fin 1024) : (iblk1 V c 2 t : FVec Ideal S512x1024 .bf16) (ix2 i j)
    = (V c main_v2 : FVec Ideal S8192x1024 .bf16) (ix2 (row1 t i) j) := by
  blk_ext [iblk1, idx1 t, row1]

theorem r1_3_at (t : Fin cfg1.N) (i : Fin 512) (j : Fin 1024) : (iblk1 V c 3 t : FVec Ideal S512x1024 .bf16) (ix2 i j)
    = (V c main_v3 : FVec Ideal S8192x1024 .bf16) (ix2 (row1 t i) j) := by
  blk_ext [iblk1, idx1 t, row1]

theorem r1_4_at (t : Fin cfg1.N) (i : Fin 512) (j : Fin 1024) : (iblk1 V c 4 t : FVec Ideal S512x1024 .bf16) (ix2 i j)
    = (V c main_v6_2 : FVec Ideal S8192x1024 .bf16) (ix2 (row1 t i) j) := by
  blk_ext [iblk1, idx1 t, row1]

theorem r1_5_at (t : Fin cfg1.N) (i : Fin 512) (j : Fin 1024) : (iblk1 V c 5 t : FVec Ideal S512x1024 .bf16) (ix2 i j)
    = (V c main_v6_3 : FVec Ideal S8192x1024 .bf16) (ix2 (row1 t i) j) := by
  blk_ext [iblk1, idx1 t, row1]

theorem r1_6_at (t : Fin cfg1.N) (i : Fin 512) (j : Fin 512) : (iblk1 V c 6 t : FVec Ideal S512x512 .bf16) (ix2 i j)
    = (V c main_v0 : FVec Ideal S8192x512 .bf16) (ix2 (row1 t i) j) := by
  blk_ext [iblk1, idx1 t, row1]

theorem r1_7_at (t : Fin cfg1.N) (i : Fin 512) (j : Fin 512) : (iblk1 V c 7 t : FVec Ideal S512x512 .bf16) (ix2 i j)
    = (V c main_v1 : FVec Ideal S8192x512 .bf16) (ix2 (row1 t i) j) := by
  blk_ext [iblk1, idx1 t, row1]

theorem r0_5_at (t : Fin cfg0.N) (y : S6x1024.Idx) : (iblk0 V c 5 t : FVec Ideal S6x1024 .f32) y = (V c main_arg5 : FVec Ideal S6x1024 .f32) y := by
  idx_vars y
  blk_ext [iblk0, idx0 t]

theorem r0_6_at (t : Fin cfg0.N) (y : S2x512x1024.Idx) : (iblk0 V c 6 t : FVec Ideal S2x512x1024 .bf16) y = (V c main_v4 : FVec Ideal S2x512x1024 .bf16) y := by
  idx_vars y
  blk_ext [iblk0, idx0 t]

theorem r0_7_at (t : Fin cfg0.N) (y : S1024x1024.Idx) : (iblk0 V c 7 t : FVec Ideal S1024x1024 .bf16) y = (V c main_v5 : FVec Ideal S1024x1024 .bf16) y := by
  idx_vars y
  blk_ext [iblk0, idx0 t]

theorem r1_1_at (t : Fin cfg1.N) (y : S6x1024.Idx) : (iblk1 V c 1 t : FVec Ideal S6x1024 .f32) y = (V c main_arg5 : FVec Ideal S6x1024 .f32) y := by
  idx_vars y
  blk_ext [iblk1, idx1 t]

theorem r1_8_at (t : Fin cfg1.N) (y : S2x512x1024.Idx) : (iblk1 V c 8 t : FVec Ideal S2x512x1024 .bf16) y = (V c main_v4 : FVec Ideal S2x512x1024 .bf16) y := by
  idx_vars y
  blk_ext [iblk1, idx1 t]

theorem r1_9_at (t : Fin cfg1.N) (y : S1024x1024.Idx) : (iblk1 V c 9 t : FVec Ideal S1024x1024 .bf16) y = (V c main_v5 : FVec Ideal S1024x1024 .bf16) y := by
  idx_vars y
  blk_ext [iblk1, idx1 t]

theorem fin0_8 : (show FVec Ideal S8192x1024 .f32 from (dat0 V c).arrAt 8 cfg0.N) = fun y => X1 (V c main_v0) (V c main_v1) (V c main_v2) (V c main_v3) (V c main_arg4) (V c main_arg5) (V c main_v4) (V c main_v5) (y 0) (y 1) := by
  refine (dat0 V c).arrAt_eq_of_covers 8 _ (by decide +kernel) fun t hf y => ?_
  rw [after0_8]
  simp only [cast_eq]
  have emb : ∀ (i : Fin 256) (j : Fin 1024), (win0_8.blk t).view.emb (ix2 i j) = (ix2 (row0 t i) j : S8192x1024.Idx) := fun i j => by
    blk_ext [idx0 t, row0]
  have blk : ∀ y : S256x1024.Idx, (out0_8 (F := Ideal) (iblk0 V c 0 t) (iblk0 V c 1 t) (iblk0 V c 2 t) (iblk0 V c 3 t) (iblk0 V c 4 t) (iblk0 V c 5 t) (iblk0 V c 6 t) (iblk0 V c 7 t) : FVec Ideal S256x1024 .f32) y
      = (fun y : S8192x1024.Idx => X1 (V c main_v0) (V c main_v1) (V c main_v2) (V c main_v3) (V c main_arg4) (V c main_arg5) (V c main_v4) (V c main_v5) (y 0) (y 1)) ((win0_8.blk t).view.emb y) := fun y => by
    idx_vars y
    rw [b8, emb]
    simp only [r0_0_at, r0_1_at, r0_2_at, r0_3_at, r0_4_at, r0_5_at, r0_6_at, r0_7_at]
    rfl
  exact blk y

theorem fin0_9 : (show FVec Ideal S8192x1024 .bf16 from (dat0 V c).arrAt 9 cfg0.N) = fun y => Mg (V c main_v0) (V c main_v1) (V c main_v2) (V c main_v3) (V c main_v4) (y 0) (y 1) := by
  refine (dat0 V c).arrAt_eq_of_covers 9 _ (by decide +kernel) fun t hf y => ?_
  rw [after0_9]
  simp only [cast_eq]
  have emb : ∀ (i : Fin 256) (j : Fin 1024), (win0_9.blk t).view.emb (ix2 i j) = (ix2 (row0 t i) j : S8192x1024.Idx) := fun i j => by
    blk_ext [idx0 t, row0]
  have blk : ∀ y : S256x1024.Idx, (out0_9 (F := Ideal) (iblk0 V c 0 t) (iblk0 V c 1 t) (iblk0 V c 2 t) (iblk0 V c 3 t) (iblk0 V c 4 t) (iblk0 V c 5 t) (iblk0 V c 6 t) (iblk0 V c 7 t) : FVec Ideal S256x1024 .bf16) y
      = (fun y : S8192x1024.Idx => Mg (V c main_v0) (V c main_v1) (V c main_v2) (V c main_v3) (V c main_v4) (y 0) (y 1)) ((win0_9.blk t).view.emb y) := fun y => by
    idx_vars y
    rw [b9, emb]
    simp only [r0_0_at, r0_1_at, r0_2_at, r0_3_at, r0_4_at, r0_5_at, r0_6_at, r0_7_at]
    rfl
  exact blk y

theorem fin0_10 : (show FVec Ideal S8192x1024 .bf16 from (dat0 V c).arrAt 10 cfg0.N) = fun y => U (V c main_v0) (V c main_v4) 0 (y 0) (y 1) := by
  refine (dat0 V c).arrAt_eq_of_covers 10 _ (by decide +kernel) fun t hf y => ?_
  rw [after0_10]
  simp only [cast_eq]
  have emb : ∀ (i : Fin 256) (j : Fin 1024), (win0_10.blk t).view.emb (ix2 i j) = (ix2 (row0 t i) j : S8192x1024.Idx) := fun i j => by
    blk_ext [idx0 t, row0]
  have blk : ∀ y : S256x1024.Idx, (out0_10 (F := Ideal) (iblk0 V c 0 t) (iblk0 V c 1 t) (iblk0 V c 2 t) (iblk0 V c 3 t) (iblk0 V c 4 t) (iblk0 V c 5 t) (iblk0 V c 6 t) (iblk0 V c 7 t) : FVec Ideal S256x1024 .bf16) y
      = (fun y : S8192x1024.Idx => U (V c main_v0) (V c main_v4) 0 (y 0) (y 1)) ((win0_10.blk t).view.emb y) := fun y => by
    idx_vars y
    rw [b10, emb]
    simp only [r0_0_at, r0_1_at, r0_2_at, r0_3_at, r0_4_at, r0_5_at, r0_6_at, r0_7_at]
    rfl
  exact blk y

theorem fin0_11 : (show FVec Ideal S8192x1024 .bf16 from (dat0 V c).arrAt 11 cfg0.N) = fun y => U (V c main_v1) (V c main_v4) 1 (y 0) (y 1) := by
  refine (dat0 V c).arrAt_eq_of_covers 11 _ (by decide +kernel) fun t hf y => ?_
  rw [after0_11]
  simp only [cast_eq]
  have emb : ∀ (i : Fin 256) (j : Fin 1024), (win0_11.blk t).view.emb (ix2 i j) = (ix2 (row0 t i) j : S8192x1024.Idx) := fun i j => by
    blk_ext [idx0 t, row0]
  have blk : ∀ y : S256x1024.Idx, (out0_11 (F := Ideal) (iblk0 V c 0 t) (iblk0 V c 1 t) (iblk0 V c 2 t) (iblk0 V c 3 t) (iblk0 V c 4 t) (iblk0 V c 5 t) (iblk0 V c 6 t) (iblk0 V c 7 t) : FVec Ideal S256x1024 .bf16) y
      = (fun y : S8192x1024.Idx => U (V c main_v1) (V c main_v4) 1 (y 0) (y 1)) ((win0_11.blk t).view.emb y) := fun y => by
    idx_vars y
    rw [b11, emb]
    simp only [r0_0_at, r0_1_at, r0_2_at, r0_3_at, r0_4_at, r0_5_at, r0_6_at, r0_7_at]
    rfl
  exact blk y

theorem fin1_10 : (show FVec Ideal S8192x1024 .bf16 from (dat1 V c).arrAt 10 cfg1.N) = fun y => DU (V c main_v2) (V c main_arg5) (V c main_v5) (V c main_arg8) (y 0) (y 1) := by
  refine (dat1 V c).arrAt_eq_of_covers 10 _ (by decide +kernel) fun t hf y => ?_
  rw [after1_10]
  simp only [cast_eq]
  have emb : ∀ (i : Fin 512) (j : Fin 1024), (win1_10.blk t).view.emb (ix2 i j) = (ix2 (row1 t i) j : S8192x1024.Idx) := fun i j => by
    blk_ext [idx1 t, row1]
  have blk : ∀ y : S512x1024.Idx, (out1_10 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) : FVec Ideal S512x1024 .bf16) y
      = (fun y : S8192x1024.Idx => DU (V c main_v2) (V c main_arg5) (V c main_v5) (V c main_arg8) (y 0) (y 1)) ((win1_10.blk t).view.emb y) := fun y => by
    idx_vars y
    rw [b1_10, emb]
    simp only [bm, bd, r1_0_at, r1_1_at, r1_2_at, r1_3_at, r1_4_at, r1_5_at, r1_6_at, r1_7_at, r1_8_at, r1_9_at]
    rfl
  exact blk y

theorem fin1_11 : (show FVec Ideal S8192x1024 .bf16 from (dat1 V c).arrAt 11 cfg1.N) = fun y => DU (V c main_v3) (V c main_arg5) (V c main_v5) (V c main_arg8) (y 0) (y 1) := by
  refine (dat1 V c).arrAt_eq_of_covers 11 _ (by decide +kernel) fun t hf y => ?_
  rw [after1_11]
  simp only [cast_eq]
  have emb : ∀ (i : Fin 512) (j : Fin 1024), (win1_11.blk t).view.emb (ix2 i j) = (ix2 (row1 t i) j : S8192x1024.Idx) := fun i j => by
    blk_ext [idx1 t, row1]
  have blk : ∀ y : S512x1024.Idx, (out1_11 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) : FVec Ideal S512x1024 .bf16) y
      = (fun y : S8192x1024.Idx => DU (V c main_v3) (V c main_arg5) (V c main_v5) (V c main_arg8) (y 0) (y 1)) ((win1_11.blk t).view.emb y) := fun y => by
    idx_vars y
    rw [b1_11, emb]
    simp only [bm, bd, r1_0_at, r1_1_at, r1_2_at, r1_3_at, r1_4_at, r1_5_at, r1_6_at, r1_7_at, r1_8_at, r1_9_at]
    rfl
  exact blk y

theorem fin1_12 : (show FVec Ideal S8192x1024 .bf16 from (dat1 V c).arrAt 12 cfg1.N) = fun y => DG (fun s j => (V c main_v6_2 : FVec Ideal S8192x1024 .bf16) (ix2 s j)) (V c main_v2) (V c main_arg5) (V c main_v5) (V c main_arg8) (y 0) (y 1) := by
  refine (dat1 V c).arrAt_eq_of_covers 12 _ (by decide +kernel) fun t hf y => ?_
  rw [after1_12]
  simp only [cast_eq]
  have emb : ∀ (i : Fin 512) (j : Fin 1024), (win1_12.blk t).view.emb (ix2 i j) = (ix2 (row1 t i) j : S8192x1024.Idx) := fun i j => by
    blk_ext [idx1 t, row1]
  have blk : ∀ y : S512x1024.Idx, (out1_12 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) : FVec Ideal S512x1024 .bf16) y
      = (fun y : S8192x1024.Idx => DG (fun s j => (V c main_v6_2 : FVec Ideal S8192x1024 .bf16) (ix2 s j)) (V c main_v2) (V c main_arg5) (V c main_v5) (V c main_arg8) (y 0) (y 1)) ((win1_12.blk t).view.emb y) := fun y => by
    idx_vars y
    rw [b1_12, emb]
    simp only [bm, bd, r1_0_at, r1_1_at, r1_2_at, r1_3_at, r1_4_at, r1_5_at, r1_6_at, r1_7_at, r1_8_at, r1_9_at]
    rfl
  exact blk y

theorem fin1_13 : (show FVec Ideal S8192x1024 .bf16 from (dat1 V c).arrAt 13 cfg1.N) = fun y => DG (fun s j => (V c main_v6_3 : FVec Ideal S8192x1024 .bf16) (ix2 s j)) (V c main_v3) (V c main_arg5) (V c main_v5) (V c main_arg8) (y 0) (y 1) := by
  refine (dat1 V c).arrAt_eq_of_covers 13 _ (by decide +kernel) fun t hf y => ?_
  rw [after1_13]
  simp only [cast_eq]
  have emb : ∀ (i : Fin 512) (j : Fin 1024), (win1_13.blk t).view.emb (ix2 i j) = (ix2 (row1 t i) j : S8192x1024.Idx) := fun i j => by
    blk_ext [idx1 t, row1]
  have blk : ∀ y : S512x1024.Idx, (out1_13 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) : FVec Ideal S512x1024 .bf16) y
      = (fun y : S8192x1024.Idx => DG (fun s j => (V c main_v6_3 : FVec Ideal S8192x1024 .bf16) (ix2 s j)) (V c main_v3) (V c main_arg5) (V c main_v5) (V c main_arg8) (y 0) (y 1)) ((win1_13.blk t).view.emb y) := fun y => by
    idx_vars y
    rw [b1_13, emb]
    simp only [bm, bd, r1_0_at, r1_1_at, r1_2_at, r1_3_at, r1_4_at, r1_5_at, r1_6_at, r1_7_at, r1_8_at, r1_9_at]
    rfl
  exact blk y

theorem fin1_14 : (show FVec Ideal S8192x512 .bf16 from (dat1 V c).arrAt 14 cfg1.N) = fun y => DY (V c main_v2) (V c main_arg5) (V c main_v4) (V c main_v5) (V c main_arg8) 0 (y 0) (y 1) := by
  refine (dat1 V c).arrAt_eq_of_covers 14 _ (by decide +kernel) fun t hf y => ?_
  rw [after1_14]
  simp only [cast_eq]
  have emb : ∀ (i : Fin 512) (j : Fin 512), (win1_14.blk t).view.emb (ix2 i j) = (ix2 (row1 t i) j : S8192x512.Idx) := fun i j => by
    blk_ext [idx1 t, row1]
  have blk : ∀ y : S512x512.Idx, (out1_14 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) : FVec Ideal S512x512 .bf16) y
      = (fun y : S8192x512.Idx => DY (V c main_v2) (V c main_arg5) (V c main_v4) (V c main_v5) (V c main_arg8) 0 (y 0) (y 1)) ((win1_14.blk t).view.emb y) := fun y => by
    idx_vars y
    rw [b1_14, emb]
    simp only [bm, bd, r1_0_at, r1_1_at, r1_2_at, r1_3_at, r1_4_at, r1_5_at, r1_6_at, r1_7_at, r1_8_at, r1_9_at]
    rfl
  exact blk y

theorem fin1_15 : (show FVec Ideal S8192x512 .bf16 from (dat1 V c).arrAt 15 cfg1.N) = fun y => DY (V c main_v3) (V c main_arg5) (V c main_v4) (V c main_v5) (V c main_arg8) 1 (y 0) (y 1) := by
  refine (dat1 V c).arrAt_eq_of_covers 15 _ (by decide +kernel) fun t hf y => ?_
  rw [after1_15]
  simp only [cast_eq]
  have emb : ∀ (i : Fin 512) (j : Fin 512), (win1_15.blk t).view.emb (ix2 i j) = (ix2 (row1 t i) j : S8192x512.Idx) := fun i j => by
    blk_ext [idx1 t, row1]
  have blk : ∀ y : S512x512.Idx, (out1_15 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) : FVec Ideal S512x512 .bf16) y
      = (fun y : S8192x512.Idx => DY (V c main_v3) (V c main_arg5) (V c main_v4) (V c main_v5) (V c main_arg8) 1 (y 0) (y 1)) ((win1_15.blk t).view.emb y) := fun y => by
    idx_vars y
    rw [b1_15, emb]
    simp only [bm, bd, r1_0_at, r1_1_at, r1_2_at, r1_3_at, r1_4_at, r1_5_at, r1_6_at, r1_7_at, r1_8_at, r1_9_at]
    rfl
  exact blk y

theorem fin1_16 : (show FVec Ideal S8192x8 .f32 from (dat1 V c).arrAt 16 cfg1.N) = fun y => DL (DY (V c main_v2) (V c main_arg5) (V c main_v4) (V c main_v5) (V c main_arg8) 0) (V c main_v0) (y 0) (y 1) := by
  refine (dat1 V c).arrAt_eq_of_covers 16 _ (by decide +kernel) fun t hf y => ?_
  rw [after1_16]
  simp only [cast_eq]
  have emb : ∀ (i : Fin 512) (j : Fin 8), (win1_16.blk t).view.emb (ix2 i j) = (ix2 (row1 t i) j : S8192x8.Idx) := fun i j => by
    blk_ext [idx1 t, row1]
  have blk : ∀ y : S512x8.Idx, (out1_16 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) : FVec Ideal S512x8 .f32) y
      = (fun y : S8192x8.Idx => DL (DY (V c main_v2) (V c main_arg5) (V c main_v4) (V c main_v5) (V c main_arg8) 0) (V c main_v0) (y 0) (y 1)) ((win1_16.blk t).view.emb y) := fun y => by
    idx_vars y
    rw [b1_16, emb]
    simp only [bm, bd, r1_0_at, r1_1_at, r1_2_at, r1_3_at, r1_4_at, r1_5_at, r1_6_at, r1_7_at, r1_8_at, r1_9_at]
    rfl
  exact blk y

theorem fin1_17 : (show FVec Ideal S8192x8 .f32 from (dat1 V c).arrAt 17 cfg1.N) = fun y => DL (DY (V c main_v3) (V c main_arg5) (V c main_v4) (V c main_v5) (V c main_arg8) 1) (V c main_v1) (y 0) (y 1) := by
  refine (dat1 V c).arrAt_eq_of_covers 17 _ (by decide +kernel) fun t hf y => ?_
  rw [after1_17]
  simp only [cast_eq]
  have emb : ∀ (i : Fin 512) (j : Fin 8), (win1_17.blk t).view.emb (ix2 i j) = (ix2 (row1 t i) j : S8192x8.Idx) := fun i j => by
    blk_ext [idx1 t, row1]
  have blk : ∀ y : S512x8.Idx, (out1_17 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) : FVec Ideal S512x8 .f32) y
      = (fun y : S8192x8.Idx => DL (DY (V c main_v3) (V c main_arg5) (V c main_v4) (V c main_v5) (V c main_arg8) 1) (V c main_v1) (y 0) (y 1)) ((win1_17.blk t).view.emb y) := fun y => by
    idx_vars y
    rw [b1_17, emb]
    simp only [bm, bd, r1_0_at, r1_1_at, r1_2_at, r1_3_at, r1_4_at, r1_5_at, r1_6_at, r1_7_at, r1_8_at, r1_9_at]
    rfl
  exact blk y

theorem fin1_18 : (show FVec Ideal S512x8192 .bf16 from (dat1 V c).arrAt 18 cfg1.N) = fun y => DY (V c main_v2) (V c main_arg5) (V c main_v4) (V c main_v5) (V c main_arg8) 0 (y 1) (y 0) := by
  refine (dat1 V c).arrAt_eq_of_covers 18 _ (by decide +kernel) fun t hf y => ?_
  rw [after1_18]
  simp only [cast_eq]
  have emb : ∀ (i : Fin 512) (j : Fin 512), (win1_18.blk t).view.emb (ix2 i j) = (ix2 i (row1 t j) : S512x8192.Idx) := fun i j => by
    blk_ext [idx1 t, row1]
  have blk : ∀ y : S512x512.Idx, (out1_18 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) : FVec Ideal S512x512 .bf16) y
      = (fun y : S512x8192.Idx => DY (V c main_v2) (V c main_arg5) (V c main_v4) (V c main_v5) (V c main_arg8) 0 (y 1) (y 0)) ((win1_18.blk t).view.emb y) := fun y => by
    idx_vars y
    rw [b1_18, emb]
    simp only [bm, bd, r1_0_at, r1_1_at, r1_2_at, r1_3_at, r1_4_at, r1_5_at, r1_6_at, r1_7_at, r1_8_at, r1_9_at]
    rfl
  exact blk y

end Read

end Cert.MergeKIdeal.Final

end
-- ==== Proof.MergeRun.lean ====
/- The run of the merge: from any launch, every array ends at what the two kernels leave, as functions of the arguments. -/
module

public import proofs.«01_k».proof.Proof.MergeArrays

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.MergeKIdeal.Final

open Cert.MergeKIdeal Cert.MergeKIdeal.Gen

variable {F : FTy → Type} [FloatOps F]

local notation "𝕄" => MT nD τ sig Unit (Elt F) ℕ (UR sig nD τ) ℕ

section Run

variable (m : (ℓ : Loc nD τ sig) → Buf (Elt F) ℓ) (ρ : Dev nD → PrngReg)

set_option backward.isDefEq.respectTransparency.types false in
/-- Every array ends at the last boundary's contents. -/
theorem run_all : θ_run defs (onTc (τ := τ) (main (F := F))) ⟨m, fun _ => 0, ρ⟩ (fun r => ∀ c : Dev nD, ∀ b ∈ Pipeline.ucRefs τ sig,
      r.2.mem ((c : Thread nD τ).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

end Run

section Values

variable (m : (ℓ : Loc nD τ sig) → Buf (Elt Ideal) ℓ) (ρ : Dev nD → PrngReg) (c : Dev nD)

abbrev Ya : FVec Ideal S8192x512 .f32 := m ((c.tc : Thread nD τ).loc main_arg0)
abbrev Yb : FVec Ideal S8192x512 .f32 := m ((c.tc : Thread nD τ).loc main_arg1)
abbrev Ga : FVec Ideal S8192x1024 .f32 := m ((c.tc : Thread nD τ).loc main_arg2)
abbrev Gb : FVec Ideal S8192x1024 .f32 := m ((c.tc : Thread nD τ).loc main_arg3)
abbrev Xx : FVec Ideal S8192x1024 .f32 := m ((c.tc : Thread nD τ).loc main_arg4)
abbrev Md : FVec Ideal S6x1024 .f32 := m ((c.tc : Thread nD τ).loc main_arg5)
abbrev Wb : FVec Ideal S2x512x1024 .f32 := m ((c.tc : Thread nD τ).loc main_arg6)
abbrev Wo : FVec Ideal S1024x1024 .f32 := m ((c.tc : Thread nD τ).loc main_arg7)
abbrev Dx : FVec Ideal S8192x1024 .f32 := m ((c.tc : Thread nD τ).loc main_arg8)

theorem V1_0 : (V1 m ρ c main_v0 : FVec Ideal S8192x512 .bf16) = Ya m c := by
  funext y; dsimp only [V1, W1]; after_reads_at
theorem V1_1 : (V1 m ρ c main_v1 : FVec Ideal S8192x512 .bf16) = Yb m c := by
  funext y; dsimp only [V1, W1]; after_reads_at
theorem V1_2 : (V1 m ρ c main_v2 : FVec Ideal S8192x1024 .bf16) = Ga m c := by
  funext y; dsimp only [V1, W1]; after_reads_at
theorem V1_3 : (V1 m ρ c main_v3 : FVec Ideal S8192x1024 .bf16) = Gb m c := by
  funext y; dsimp only [V1, W1]; after_reads_at
theorem V1_4 : (V1 m ρ c main_v4 : FVec Ideal S2x512x1024 .bf16) = Wb m c := by
  funext y; dsimp only [V1, W1]; after_reads_at
theorem V1_5 : (V1 m ρ c main_v5 : FVec Ideal S1024x1024 .bf16) = Wo m c := by
  funext y; dsimp only [V1, W1]; after_reads_at

theorem V1_arg4 : (V1 m ρ c main_arg4 : FVec Ideal S8192x1024 .f32) = Xx m c := W1_args m ρ c main_arg4 (by decide)
theorem V1_arg5 : (V1 m ρ c main_arg5 : FVec Ideal S6x1024 .f32) = Md m c := W1_args m ρ c main_arg5 (by decide)

theorem V2_0 : (V2 m ρ c main_v0 : FVec Ideal S8192x512 .bf16) = Ya m c := (W2_of m ρ c main_v0 (by decide +kernel)).trans (V1_0 m ρ c)
theorem V2_1 : (V2 m ρ c main_v1 : FVec Ideal S8192x512 .bf16) = Yb m c := (W2_of m ρ c main_v1 (by decide +kernel)).trans (V1_1 m ρ c)
theorem V2_2 : (V2 m ρ c main_v2 : FVec Ideal S8192x1024 .bf16) = Ga m c := (W2_of m ρ c main_v2 (by decide +kernel)).trans (V1_2 m ρ c)
theorem V2_3 : (V2 m ρ c main_v3 : FVec Ideal S8192x1024 .bf16) = Gb m c := (W2_of m ρ c main_v3 (by decide +kernel)).trans (V1_3 m ρ c)
theorem V2_4 : (V2 m ρ c main_v4 : FVec Ideal S2x512x1024 .bf16) = Wb m c := (W2_of m ρ c main_v4 (by decide +kernel)).trans (V1_4 m ρ c)
theorem V2_5 : (V2 m ρ c main_v5 : FVec Ideal S1024x1024 .bf16) = Wo m c := (W2_of m ρ c main_v5 (by decide +kernel)).trans (V1_5 m ρ c)
theorem V2_arg5 : (V2 m ρ c main_arg5 : FVec Ideal S6x1024 .f32) = Md m c := W2_args m ρ c main_arg5 (by decide)
theorem V2_arg8 : (V2 m ρ c main_arg8 : FVec Ideal S8192x1024 .f32) = Dx m c := W2_args m ρ c main_arg8 (by decide)

theorem V2_out0 : (V2 m ρ c main_v6_0 : FVec Ideal S8192x1024 .f32) = fun y => X1 (Ya m c) (Yb m c) (Ga m c) (Gb m c) (Xx m c) (Md m c) (Wb m c) (Wo m c) (y 0) (y 1) := by
  refine (W2_arr m ρ c 8).trans ((fin0_8 (V1 m ρ) c).trans ?_)
  rw [V1_0, V1_1, V1_2, V1_3, V1_4, V1_5, V1_arg4, V1_arg5]
  rfl

theorem V2_out1 : (V2 m ρ c main_v6_1 : FVec Ideal S8192x1024 .bf16) = fun y => Mg (Ya m c) (Yb m c) (Ga m c) (Gb m c) (Wb m c) (y 0) (y 1) := by
  refine (W2_arr m ρ c 9).trans ((fin0_9 (V1 m ρ) c).trans ?_)
  rw [V1_0, V1_1, V1_2, V1_3, V1_4]
  rfl

theorem V2_out2 : (V2 m ρ c main_v6_2 : FVec Ideal S8192x1024 .bf16) = fun y => U (Ya m c) (Wb m c) 0 (y 0) (y 1) := by
  refine (W2_arr m ρ c 10).trans ((fin0_10 (V1 m ρ) c).trans ?_)
  rw [V1_0, V1_4]
  rfl

theorem V2_out3 : (V2 m ρ c main_v6_3 : FVec Ideal S8192x1024 .bf16) = fun y => U (Yb m c) (Wb m c) 1 (y 0) (y 1) := by
  refine (W2_arr m ρ c 11).trans ((fin0_11 (V1 m ρ) c).trans ?_)
  rw [V1_1, V1_4]
  rfl

theorem V3_out0 : (V3 m ρ c main_v7_0 : FVec Ideal S8192x1024 .bf16) = fun y => DU (Ga m c) (Md m c) (Wo m c) (Dx m c) (y 0) (y 1) := by
  refine (W3_arr m ρ c 10).trans ((fin1_10 (V2 m ρ) c).trans ?_)
  rw [V2_2, V2_5, V2_arg5, V2_arg8]
  rfl

theorem V3_out1 : (V3 m ρ c main_v7_1 : FVec Ideal S8192x1024 .bf16) = fun y => DU (Gb m c) (Md m c) (Wo m c) (Dx m c) (y 0) (y 1) := by
  refine (W3_arr m ρ c 11).trans ((fin1_11 (V2 m ρ) c).trans ?_)
  rw [V2_3, V2_5, V2_arg5, V2_arg8]
  rfl

theorem V3_out2 : (V3 m ρ c main_v7_2 : FVec Ideal S8192x1024 .bf16) = fun y => DG (U (Ya m c) (Wb m c) 0) (Ga m c) (Md m c) (Wo m c) (Dx m c) (y 0) (y 1) := by
  refine (W3_arr m ρ c 12).trans ((fin1_12 (V2 m ρ) c).trans ?_)
  rw [V2_2, V2_5, V2_arg5, V2_arg8, V2_out2]
  rfl

theorem V3_out3 : (V3 m ρ c main_v7_3 : FVec Ideal S8192x1024 .bf16) = fun y => DG (U (Yb m c) (Wb m c) 1) (Gb m c) (Md m c) (Wo m c) (Dx m c) (y 0) (y 1) := by
  refine (W3_arr m ρ c 13).trans ((fin1_13 (V2 m ρ) c).trans ?_)
  rw [V2_3, V2_5, V2_arg5, V2_arg8, V2_out3]
  rfl

theorem V3_out4 : (V3 m ρ c main_v7_4 : FVec Ideal S8192x512 .bf16) = fun y => DY (Ga m c) (Md m c) (Wb m c) (Wo m c) (Dx m c) 0 (y 0) (y 1) := by
  refine (W3_arr m ρ c 14).trans ((fin1_14 (V2 m ρ) c).trans ?_)
  rw [V2_2, V2_4, V2_5, V2_arg5, V2_arg8]
  rfl

theorem V3_out5 : (V3 m ρ c main_v7_5 : FVec Ideal S8192x512 .bf16) = fun y => DY (Gb m c) (Md m c) (Wb m c) (Wo m c) (Dx m c) 1 (y 0) (y 1) := by
  refine (W3_arr m ρ c 15).trans ((fin1_15 (V2 m ρ) c).trans ?_)
  rw [V2_3, V2_4, V2_5, V2_arg5, V2_arg8]
  rfl

theorem V3_out6 : (V3 m ρ c main_v7_6 : FVec Ideal S8192x8 .f32) = fun y => DL (DY (Ga m c) (Md m c) (Wb m c) (Wo m c) (Dx m c) 0) (Ya m c) (y 0) (y 1) := by
  refine (W3_arr m ρ c 16).trans ((fin1_16 (V2 m ρ) c).trans ?_)
  rw [V2_2, V2_4, V2_5, V2_arg5, V2_arg8, V2_0]
  rfl

theorem V3_out7 : (V3 m ρ c main_v7_7 : FVec Ideal S8192x8 .f32) = fun y => DL (DY (Gb m c) (Md m c) (Wb m c) (Wo m c) (Dx m c) 1) (Yb m c) (y 0) (y 1) := by
  refine (W3_arr m ρ c 17).trans ((fin1_17 (V2 m ρ) c).trans ?_)
  rw [V2_3, V2_4, V2_5, V2_arg5, V2_arg8, V2_1]
  rfl

theorem V3_out8 : (V3 m ρ c main_v7_8 : FVec Ideal S512x8192 .bf16) = fun y => DY (Ga m c) (Md m c) (Wb m c) (Wo m c) (Dx m c) 0 (y 1) (y 0) := by
  refine (W3_arr m ρ c 18).trans ((fin1_18 (V2 m ρ) c).trans ?_)
  rw [V2_2, V2_4, V2_5, V2_arg5, V2_arg8]
  rfl

end Values

/-- The run, every result an array of the arguments. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v6_0) = (fun y => X1 (Ya m c) (Yb m c) (Ga m c) (Gb m c) (Xx m c) (Md m c) (Wb m c) (Wo m c) (y 0) (y 1) : FVec Ideal S8192x1024 .f32)
      ∧ r.2.mem ((c.tc : Thread nD τ).loc main_v6_1) = (fun y => Mg (Ya m c) (Yb m c) (Ga m c) (Gb m c) (Wb m c) (y 0) (y 1) : FVec Ideal S8192x1024 .bf16)
      ∧ r.2.mem ((c.tc : Thread nD τ).loc main_v6_2) = (fun y => U (Ya m c) (Wb m c) 0 (y 0) (y 1) : FVec Ideal S8192x1024 .bf16)
      ∧ r.2.mem ((c.tc : Thread nD τ).loc main_v6_3) = (fun y => U (Yb m c) (Wb m c) 1 (y 0) (y 1) : FVec Ideal S8192x1024 .bf16)
      ∧ r.2.mem ((c.tc : Thread nD τ).loc main_v7_0) = (fun y => DU (Ga m c) (Md m c) (Wo m c) (Dx m c) (y 0) (y 1) : FVec Ideal S8192x1024 .bf16)
      ∧ r.2.mem ((c.tc : Thread nD τ).loc main_v7_1) = (fun y => DU (Gb m c) (Md m c) (Wo m c) (Dx m c) (y 0) (y 1) : FVec Ideal S8192x1024 .bf16)
      ∧ r.2.mem ((c.tc : Thread nD τ).loc main_v7_2) = (fun y => DG (U (Ya m c) (Wb m c) 0) (Ga m c) (Md m c) (Wo m c) (Dx m c) (y 0) (y 1) : FVec Ideal S8192x1024 .bf16)
      ∧ r.2.mem ((c.tc : Thread nD τ).loc main_v7_3) = (fun y => DG (U (Yb m c) (Wb m c) 1) (Gb m c) (Md m c) (Wo m c) (Dx m c) (y 0) (y 1) : FVec Ideal S8192x1024 .bf16)
      ∧ r.2.mem ((c.tc : Thread nD τ).loc main_v7_4) = (fun y => DY (Ga m c) (Md m c) (Wb m c) (Wo m c) (Dx m c) 0 (y 0) (y 1) : FVec Ideal S8192x512 .bf16)
      ∧ r.2.mem ((c.tc : Thread nD τ).loc main_v7_5) = (fun y => DY (Gb m c) (Md m c) (Wb m c) (Wo m c) (Dx m c) 1 (y 0) (y 1) : FVec Ideal S8192x512 .bf16)
      ∧ r.2.mem ((c.tc : Thread nD τ).loc main_v7_6) = (fun y => DL (DY (Ga m c) (Md m c) (Wb m c) (Wo m c) (Dx m c) 0) (Ya m c) (y 0) (y 1) : FVec Ideal S8192x8 .f32)
      ∧ r.2.mem ((c.tc : Thread nD τ).loc main_v7_7) = (fun y => DL (DY (Gb m c) (Md m c) (Wb m c) (Wo m c) (Dx m c) 1) (Yb m c) (y 0) (y 1) : FVec Ideal S8192x8 .f32)
      ∧ r.2.mem ((c.tc : Thread nD τ).loc main_v7_8) = (fun y => DY (Ga m c) (Md m c) (Wb m c) (Wo m c) (Dx m c) 0 (y 1) (y 0) : FVec Ideal S512x8192 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v6_0 (by decide))).trans ((W3_of m ρ c main_v6_0 (by decide +kernel)).trans (V2_out0 m ρ c)),
     (h c _ (mem_uc main_v6_1 (by decide))).trans ((W3_of m ρ c main_v6_1 (by decide +kernel)).trans (V2_out1 m ρ c)),
     (h c _ (mem_uc main_v6_2 (by decide))).trans ((W3_of m ρ c main_v6_2 (by decide +kernel)).trans (V2_out2 m ρ c)),
     (h c _ (mem_uc main_v6_3 (by decide))).trans ((W3_of m ρ c main_v6_3 (by decide +kernel)).trans (V2_out3 m ρ c)),
     (h c _ (mem_uc main_v7_0 (by decide))).trans (V3_out0 m ρ c),
     (h c _ (mem_uc main_v7_1 (by decide))).trans (V3_out1 m ρ c),
     (h c _ (mem_uc main_v7_2 (by decide))).trans (V3_out2 m ρ c),
     (h c _ (mem_uc main_v7_3 (by decide))).trans (V3_out3 m ρ c),
     (h c _ (mem_uc main_v7_4 (by decide))).trans (V3_out4 m ρ c),
     (h c _ (mem_uc main_v7_5 (by decide))).trans (V3_out5 m ρ c),
     (h c _ (mem_uc main_v7_6 (by decide))).trans (V3_out6 m ρ c),
     (h c _ (mem_uc main_v7_7 (by decide))).trans (V3_out7 m ρ c),
     (h c _ (mem_uc main_v7_8 (by decide))).trans (V3_out8 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c)⟩) (run_all m ρ)

end Cert.MergeKIdeal.Final

end
-- ==== Proof.MergeRef.lean ====
/- The merge of the two branches: the kernels' thirteen results and the reference's agree where the arguments are finite. -/
module

public import proofs.«01_k».proof.Defs
public import proofs.«01_k».proof.Proof.Gen.MergeRIdeal.Run
public import proofs.«01_k».proof.Proof.Gen.MergeRIdeal.Read
public import proofs.«01_k».proof.Proof.Gen.Pre_merge_finite
public import proofs.«01_k».proof.Proof.Gen.MergeK.Frame
public import proofs.«01_k».proof.Proof.MergeRun

@[expose] public section

set_option maxRecDepth 16384

noncomputable section

open Idealize.ShloMosaic Idealize.ShloMosaic.TcCoe Idealize.SL.Sem
open Cert.MergeRIdeal.Read

namespace Cert.Proof.MergeClaims

open Cert.MergeKIdeal.Final

/-! ## Real numbers -/

/-- An extended real that is a real number. -/
def Re (x : EReal) : Prop := ∃ r : ℝ, x = (r : EReal)

theorem Re.mul {x y : EReal} : Re x → Re y → Re (x * y) := fun ⟨a, ha⟩ ⟨b, hb⟩ => ⟨a * b, by rw [ha, hb, EReal.coe_mul]⟩

theorem Re.sum {ι : Type*} {s : Finset ι} {f : ι → EReal} (h : ∀ i, Re (f i)) : Re (∑ i ∈ s, f i) := by
  choose g hg using h
  exact ⟨∑ i ∈ s, g i, by rw [Rl.coe_sum]; exact Finset.sum_congr rfl fun i _ => hg i⟩

theorem Re.sub_self {x : EReal} : Re x → x - x = 0 := fun ⟨a, ha⟩ => by rw [ha, ← EReal.coe_sub, _root_.sub_self, EReal.coe_zero]

/-- The logistic function is a real number everywhere. -/
theorem Re.logistic (x : EReal) : Re (Ideal.logistic x) := by
  show Re (Ideal.div 1 (1 + Ideal.exp (-x)))
  induction x with
  | bot =>
    refine ⟨0, ?_⟩
    rw [EReal.neg_bot, show Ideal.exp ⊤ = ⊤ from rfl, EReal.add_top_of_ne_bot (by decide)]
    simp [Ideal.div]
  | top =>
    refine ⟨1, ?_⟩
    rw [EReal.neg_top, show Ideal.exp ⊥ = 0 from rfl, add_zero]
    simp [Ideal.div]
  | coe a =>
    refine ⟨1 / (1 + Real.exp (-a)), ?_⟩
    rw [← EReal.coe_neg, Rl.exp_real, ← EReal.coe_one, ← EReal.coe_add]
    exact Rl.div_real _ _ (by positivity)

/-- A head's sum of products: the head's own columns. -/
theorem DL_sum (dy : Fin 8192 → Fin 512 → EReal) (y : FVec Ideal Cert.MergeKIdeal.S8192x512 .f32) (s : Fin 8192) (h : Fin 8)
    (hr : ∀ k, Re (dy s k * y (ix2 s k))) :
    DL dy y s h = ∑ x : Fin 64, dy s ⟨h.val * 64 + x.val, by omega⟩ * y (ix2 s ⟨h.val * 64 + x.val, by omega⟩) := by
  unfold DL
  rw [Finset.sum_eq_zero (s := Finset.univ) (f := fun k => (dy s k * y (ix2 s k) - dy s k * y (ix2 s k)) * hd k h) (fun k _ => by rw [(hr k).sub_self, zero_mul]), add_zero]
  rw [Fin.sum_univ_tiles 8 64 rfl (fun k : Fin 512 => dy s k * y (ix2 s k) * hd k h)]
  rw [Finset.sum_eq_single h]
  · refine Finset.sum_congr rfl fun x _ => ?_
    refine (congrArg (_ * ·) (if_pos ?_)).trans (mul_one _)
    show (h.val * 64 + x.val) / 64 = h.val
    omega
  · intro b _ hb
    refine Finset.sum_eq_zero fun x _ => ?_
    refine (congrArg (_ * ·) (if_neg ?_)).trans (mul_zero _)
    show ¬ (b.val * 64 + x.val) / 64 = h.val
    have : b.val ≠ h.val := fun e => hb (Fin.ext e)
    omega
  · exact fun hn => absurd (Finset.mem_univ _) hn

/-! ## The reference's results -/

section Reference

variable (x0 x1 : FVec Ideal Cert.MergeKIdeal.S8192x512 .f32) (x2 x3 x4 : FVec Ideal Cert.MergeKIdeal.S8192x1024 .f32) (x5 : FVec Ideal Cert.MergeKIdeal.S6x1024 .f32)
  (x6 : FVec Ideal Cert.MergeKIdeal.S2x512x1024 .f32) (x7 : FVec Ideal Cert.MergeKIdeal.S1024x1024 .f32) (x8 : FVec Ideal Cert.MergeKIdeal.S8192x1024 .f32)

theorem ref39 : (val_main_v39 (F := Ideal) x0 x1 x2 x3 x4 x5 x6 x7 : FVec Ideal Cert.MergeKIdeal.S8192x1024 .f32) = fun y => X1 x0 x1 x2 x3 x4 x5 x6 x7 (y 0) (y 1) := by
  funext y
  idx_vars y
  pointwise [val_main_v39, val_main_v38, val_main_v37, val_main_v35, val_main_v1, val_main_v0, val_main_v36, val_main_v34, val_main_v23, val_main_v19, val_main_v18, val_main_cst_0, val_main_v17, val_main_v16, val_main_cst, val_main_v15, val_main_v14, val_main_v10, val_main_v9, val_main_v8, val_main_v33, val_main_v29, val_main_v28, val_main_cst_3, val_main_v27, val_main_v26, val_main_cst_2, val_main_v25, val_main_v24, val_main_v13, val_main_v12, val_main_v11]
  rfl

theorem ref74 : (val_main_v74 (F := Ideal) x0 x1 x2 x3 x6 : FVec Ideal Cert.MergeKIdeal.S8192x1024 .bf16) = fun y => Mg x0 x1 x2 x3 x6 (y 0) (y 1) := by
  funext y
  idx_vars y
  pointwise [val_main_v74, val_main_v34, val_main_v23, val_main_v19, val_main_v18, val_main_cst_0, val_main_v17, val_main_v16, val_main_cst, val_main_v15, val_main_v14, val_main_v10, val_main_v9, val_main_v8, val_main_v33, val_main_v29, val_main_v28, val_main_cst_3, val_main_v27, val_main_v26, val_main_cst_2, val_main_v25, val_main_v24, val_main_v13, val_main_v12, val_main_v11]
  rfl

theorem ref75 : (val_main_v75 (F := Ideal) x0 x6 : FVec Ideal Cert.MergeKIdeal.S8192x1024 .bf16) = fun y => U x0 x6 0 (y 0) (y 1) := by
  funext y
  idx_vars y
  pointwise [val_main_v75, val_main_v4, val_main_v3, val_main_v2]
  rfl

theorem ref76 : (val_main_v76 (F := Ideal) x1 x6 : FVec Ideal Cert.MergeKIdeal.S8192x1024 .bf16) = fun y => U x1 x6 1 (y 0) (y 1) := by
  funext y
  idx_vars y
  pointwise [val_main_v76, val_main_v7, val_main_v6, val_main_v5]
  rfl

theorem ref77 : (val_main_v77 (F := Ideal) x2 x5 x7 x8 : FVec Ideal Cert.MergeKIdeal.S8192x1024 .bf16) = fun y => DU x2 x5 x7 x8 (y 0) (y 1) := by
  funext y
  idx_vars y
  pointwise [val_main_v77, val_main_v67, val_main_v56, val_main_v55, val_main_cst_6, val_main_v54, val_main_v53, val_main_cst_5, val_main_v52, val_main_v51, val_main_v42, val_main_v41, val_main_v40, val_main_v35, val_main_v1, val_main_v0]
  exact mul_comm _ _

theorem ref78 : (val_main_v78 (F := Ideal) x3 x5 x7 x8 : FVec Ideal Cert.MergeKIdeal.S8192x1024 .bf16) = fun y => DU x3 x5 x7 x8 (y 0) (y 1) := by
  funext y
  idx_vars y
  pointwise [val_main_v78, val_main_v66, val_main_v63, val_main_v62, val_main_cst_8, val_main_v61, val_main_v60, val_main_cst_7, val_main_v59, val_main_v58, val_main_v42, val_main_v41, val_main_v40, val_main_v35, val_main_v1, val_main_v0]
  exact mul_comm _ _

theorem ref79 : (val_main_v79 (F := Ideal) x0 x2 x5 x6 x7 x8 : FVec Ideal Cert.MergeKIdeal.S8192x1024 .bf16) = fun y => DG (U x0 x6 0) x2 x5 x7 x8 (y 0) (y 1) := by
  funext y
  idx_vars y
  pointwise [val_main_v79, val_main_v48, val_main_v47, val_main_v42, val_main_v41, val_main_v40, val_main_v35, val_main_v1, val_main_v0, val_main_v10, val_main_v9, val_main_v8, val_main_v22, val_main_v19, val_main_v18, val_main_cst_0, val_main_v17, val_main_v16, val_main_cst, val_main_v15, val_main_v14, val_main_v21, val_main_v20, val_main_cst_1]
  exact (mul_assoc _ _ _).symm

theorem ref80 : (val_main_v80 (F := Ideal) x1 x3 x5 x6 x7 x8 : FVec Ideal Cert.MergeKIdeal.S8192x1024 .bf16) = fun y => DG (U x1 x6 1) x3 x5 x7 x8 (y 0) (y 1) := by
  funext y
  idx_vars y
  pointwise [val_main_v80, val_main_v45, val_main_v44, val_main_v42, val_main_v41, val_main_v40, val_main_v35, val_main_v1, val_main_v0, val_main_v13, val_main_v12, val_main_v11, val_main_v32, val_main_v29, val_main_v28, val_main_cst_3, val_main_v27, val_main_v26, val_main_cst_2, val_main_v25, val_main_v24, val_main_v31, val_main_v30, val_main_cst_4]
  exact (mul_assoc _ _ _).symm

theorem ref81 : (val_main_v81 (F := Ideal) x2 x5 x6 x7 x8 : FVec Ideal Cert.MergeKIdeal.S8192x512 .bf16) = fun y => DY x2 x5 x6 x7 x8 0 (y 0) (y 1) := by
  funext y
  idx_vars y
  pointwise [val_main_v81, val_main_v50, val_main_v46, val_main_v19, val_main_v18, val_main_cst_0, val_main_v17, val_main_v16, val_main_cst, val_main_v15, val_main_v14, val_main_v42, val_main_v41, val_main_v40, val_main_v35, val_main_v1, val_main_v0, val_main_v9, val_main_v8]
  exact Finset.sum_congr rfl fun k _ => congrArg (· * _) (mul_comm _ _)

theorem ref82 : (val_main_v82 (F := Ideal) x3 x5 x6 x7 x8 : FVec Ideal Cert.MergeKIdeal.S8192x512 .bf16) = fun y => DY x3 x5 x6 x7 x8 1 (y 0) (y 1) := by
  funext y
  idx_vars y
  pointwise [val_main_v82, val_main_v49, val_main_v43, val_main_v29, val_main_v28, val_main_cst_3, val_main_v27, val_main_v26, val_main_cst_2, val_main_v25, val_main_v24, val_main_v42, val_main_v41, val_main_v40, val_main_v35, val_main_v1, val_main_v0, val_main_v12, val_main_v11]
  exact Finset.sum_congr rfl fun k _ => congrArg (· * _) (mul_comm _ _)

theorem ref70 (hr : ∀ s k, Re (DY x2 x5 x6 x7 x8 0 s k * x0 (ix2 s k))) : (val_main_v70 (F := Ideal) x0 x2 x5 x6 x7 x8 : FVec Ideal Cert.MergeKIdeal.S8192x8 .f32) = fun y => DL (DY x2 x5 x6 x7 x8 0) x0 (y 0) (y 1) := by
  funext y
  idx_vars y
  refine Eq.trans ?_ (DL_sum _ _ y0 y1 fun k => hr y0 k).symm
  pointwise [val_main_v70, val_main_v69, val_main_v68, val_main_v50, val_main_v46, val_main_v19, val_main_v18, val_main_cst_0, val_main_v17, val_main_v16, val_main_cst, val_main_v15, val_main_v14, val_main_v42, val_main_v41, val_main_v40, val_main_v35, val_main_v1, val_main_v0, val_main_v9, val_main_v8, val_main_cst_9]
  exact Finset.sum_congr rfl fun x _ => congrArg (· * _) (Finset.sum_congr rfl fun k _ => congrArg (· * _) (mul_comm _ _))

theorem ref73 (hr : ∀ s k, Re (DY x3 x5 x6 x7 x8 1 s k * x1 (ix2 s k))) : (val_main_v73 (F := Ideal) x1 x3 x5 x6 x7 x8 : FVec Ideal Cert.MergeKIdeal.S8192x8 .f32) = fun y => DL (DY x3 x5 x6 x7 x8 1) x1 (y 0) (y 1) := by
  funext y
  idx_vars y
  refine Eq.trans ?_ (DL_sum _ _ y0 y1 fun k => hr y0 k).symm
  pointwise [val_main_v73, val_main_v72, val_main_v71, val_main_v49, val_main_v43, val_main_v29, val_main_v28, val_main_cst_3, val_main_v27, val_main_v26, val_main_cst_2, val_main_v25, val_main_v24, val_main_v42, val_main_v41, val_main_v40, val_main_v35, val_main_v1, val_main_v0, val_main_v12, val_main_v11, val_main_cst_10]
  exact Finset.sum_congr rfl fun x _ => congrArg (· * _) (Finset.sum_congr rfl fun k _ => congrArg (· * _) (mul_comm _ _))

theorem ref83 : (val_main_v83 (F := Ideal) x2 x5 x6 x7 x8 : FVec Ideal Cert.MergeKIdeal.S512x8192 .bf16) = fun y => DY x2 x5 x6 x7 x8 0 (y 1) (y 0) := by
  funext y
  idx_vars y
  pointwise [val_main_v83, val_main_v81, val_main_v50, val_main_v46, val_main_v19, val_main_v18, val_main_cst_0, val_main_v17, val_main_v16, val_main_cst, val_main_v15, val_main_v14, val_main_v42, val_main_v41, val_main_v40, val_main_v35, val_main_v1, val_main_v0, val_main_v9, val_main_v8]
  exact Finset.sum_congr rfl fun k _ => congrArg (· * _) (mul_comm _ _)

end Reference

end Cert.Proof.MergeClaims

end
-- ==== Proof.MergeClaims.lean ====
/- The merge's claims. -/
module

public import proofs.«01_k».proof.Proof.MergeRef

@[expose] public section

set_option maxRecDepth 16384

noncomputable section

open Idealize.ShloMosaic Idealize.ShloMosaic.TcCoe Idealize.SL.Sem

namespace Cert.Proof.MergeClaims

open Cert.MergeKIdeal Cert.MergeKIdeal.Gen Cert.MergeKIdeal.Final

theorem re_of_finite {s : Shape} {x y : FVec Ideal s .f32} (hy : ∀ i, y i = ⊤) (h : cmpf .olt (Host.absf x) y = fun _ => 1#1) (i : s.Idx) : Re (x i) := by
  obtain ⟨X, hX⟩ := Rl.real_of_finite hy h
  exact ⟨X i, congrFun hX i⟩

/-- A branch's gradient times the branch is a real number where the precondition holds. -/
theorem re_dy (m : (ℓ : Loc nD τ sig) → Buf (Elt Ideal) ℓ) (h : Cert.Pre_MergeKIdeal_merge_finite m) (c : Dev nD) (g : FVec Ideal S8192x1024 .f32) (b : Fin 2) (s : Fin 8192) (k : Fin 512) :
    Re (DY g (Md m c) (Wb m c) (Wo m c) (Dx m c) b s k * Ya m c (ix2 s k)) ∧ Re (DY g (Md m c) (Wb m c) (Wo m c) (Dx m c) b s k * Yb m c (ix2 s k)) := by
  obtain ⟨h0, h1, h2, h3, h4, h5⟩ := h c
  have hy : Re (DY g (Md m c) (Wb m c) (Wo m c) (Dx m c) b s k) :=
    Re.sum fun j => ((Re.sum fun n => ((re_of_finite (fun _ => Rl.inf_word) h2 _).mul (re_of_finite (fun _ => Rl.inf_word) h5 _)).mul
      (re_of_finite (fun _ => Rl.inf_word) h4 _)).mul (Re.logistic _)).mul (re_of_finite (fun _ => Rl.inf_word) h3 _)
  exact ⟨hy.mul (re_of_finite (fun _ => Rl.inf_word) h0 _), hy.mul (re_of_finite (fun _ => Rl.inf_word) h1 _)⟩

/-- At `Ideal` the kernels' results and the reference's agree. -/
theorem algebraic : Cert.algebraic_MergeKIdeal_MergeRIdeal_pre_merge_finite := by
  pair_intro
  · run_from Cert.MergeKIdeal.Final.run m g
  · refine (θ_run _ _ _).mono (fun r h c => ?_) (Cert.MergeRIdeal.Value.run m' g')
    obtain ⟨a0, a1, a2, a3, a4, a5, a6, a7, a8⟩ := hagree c
    have H := h c
    simp only [a0, a1, a2, a3, a4, a5, a6, a7, a8] at H
    obtain ⟨e0, e1, e2, e3, e4, e5, e6, e7, e8, e9, e10, e11, e12, -⟩ := H
    exact ⟨e0.trans (ref39 (Ya m c) (Yb m c) (Ga m c) (Gb m c) (Xx m c) (Md m c) (Wb m c) (Wo m c)), e1.trans (ref74 (Ya m c) (Yb m c) (Ga m c) (Gb m c) (Wb m c)), e2.trans (ref75 (Ya m c) (Wb m c)), e3.trans (ref76 (Yb m c) (Wb m c)), e4.trans (ref77 (Ga m c) (Md m c) (Wo m c) (Dx m c)), e5.trans (ref78 (Gb m c) (Md m c) (Wo m c) (Dx m c)), e6.trans (ref79 (Ya m c) (Ga m c) (Md m c) (Wb m c) (Wo m c) (Dx m c)), e7.trans (ref80 (Yb m c) (Gb m c) (Md m c) (Wb m c) (Wo m c) (Dx m c)), e8.trans (ref81 (Ga m c) (Md m c) (Wb m c) (Wo m c) (Dx m c)), e9.trans (ref82 (Gb m c) (Md m c) (Wb m c) (Wo m c) (Dx m c)), e10.trans (ref70 (Ya m c) (Ga m c) (Md m c) (Wb m c) (Wo m c) (Dx m c) (fun s k => (re_dy m hpre c _ 0 s k).1)), e11.trans (ref73 (Yb m c) (Gb m c) (Md m c) (Wb m c) (Wo m c) (Dx m c) (fun s k => (re_dy m hpre c _ 1 s k).2)), e12.trans (ref83 (Ga m c) (Md m c) (Wb m c) (Wo m c) (Dx m c)), (h c).2.2.2.2.2.2.2.2.2.2.2.2.2⟩

theorem frame_r : Cert.quiescent_MergeRIdeal := by
  intro m g _
  refine (θ_run _ _ _).mono (fun r h => ⟨fun c => (h c).2.2.2.2.2.2.2.2.2.2.2.2.2, ?_⟩) (Cert.MergeRIdeal.Value.run m g)
  exact sem_eq_zero_of_no_sems (sig := Cert.MergeRIdeal.sig) rfl _

end Cert.Proof.MergeClaims

end
-- ==== Proof.FwdStep.lean ====
/- Global attention forward: one head's step over a block of 2048 keys, and what it does to real numbers. -/
module

public import proofs.«01_k».proof.Proof.Gen.FwdKIdeal.Value
public import proofs.«01_k».proof.Proof.AttnSpec

@[expose] public section

set_option maxRecDepth 16384

noncomputable section

open Idealize.ShloMosaic Idealize.ShloMosaic.TcCoe Idealize.SL.Sem
open Idealize.ShloMosaic.Pipeline (Dat)

namespace Cert.FwdKIdeal.Final

open Cert.FwdKIdeal Cert.FwdKIdeal.Gen Cert.Attn

/-- The largest score of each query in a block. -/
def top (T : FVec Ideal S2048x512 .f32) : FVec Ideal S1x512 .f32 :=
  shapeCast S1x512 (multiReduction .maximumf [0] S512 T 0xFF800000#32 reduces_S2048x512_S512 (.inl rfl) rfl) shapeCasts_S512_S1x512

/-- The running maximum after a block. -/
def newM (mo : FVec Ideal S1x512 .f32) (T : FVec Ideal S2048x512 .f32) : FVec Ideal S1x512 .f32 := maximumf mo (top T)

/-- The weighted sums after a block whose values (with rows of ones) are `W`. -/
def newA (mo : FVec Ideal S1x512 .f32) (acc : FVec Ideal S80x512 .f32) (T : FVec Ideal S2048x512 .f32) (W : FVec Ideal S80x2048 .bf16) : FVec Ideal S80x512 .f32 :=
  addf (mulf (broadcastTo S80x512 (exp2 (subf mo (newM mo T))) broadcasts_S1x512_S80x512) acc)
    (matmul dot_S80x2048_S2048x512_S80x512_1_0_0_1_n_n none W (truncf .bf16 (exp2 (subf T (broadcastTo S2048x512 (newM mo T) broadcasts_S1x512_S2048x512))) bitsLt_bf16_f32) (constant S80x512 .f32 0x00000000#32))

/-- The scores of a block. -/
def scores (K : FVec Ideal S2048x64 .bf16) (Q : FVec Ideal S64x512 .bf16) : FVec Ideal S2048x512 .f32 :=
  matmul dot_S2048x64_S64x512_S2048x512_1_0_0_1_n_n none K Q (constant S2048x512 .f32 0x00000000#32)

theorem scores_at (K : FVec Ideal S2048x64 .bf16) (Q : FVec Ideal S64x512 .bf16) (x : Fin 2048) (r : Fin 512) :
    scores K Q (ix2 x r) = ∑ d : Fin 64, K (ix2 x d) * Q (ix2 d r) := by
  pointwise [scores]

theorem top_at (T : FVec Ideal S2048x512 .f32) (z : Fin 1) (r : Fin 512) :
    top T (ix2 z r) = Finset.fold max (Ideal.ofBits .f32 0xFF800000#32) (fun x : Fin 2048 => T (ix2 x r)) Finset.univ := by
  pointwise [top]

theorem newM_at (mo : FVec Ideal S1x512 .f32) (T : FVec Ideal S2048x512 .f32) (z : Fin 1) (r : Fin 512) :
    newM mo T (ix2 z r) = max (mo (ix2 z r)) (Finset.fold max (Ideal.ofBits .f32 0xFF800000#32) (fun x : Fin 2048 => T (ix2 x r)) Finset.univ) :=
  congrArg (max (mo (ix2 z r))) (top_at T z r)

theorem newA_of (mo mn : FVec Ideal S1x512 .f32) (acc : FVec Ideal S80x512 .f32) (T : FVec Ideal S2048x512 .f32) (W : FVec Ideal S80x2048 .bf16) (e : Fin 80) (r : Fin 512) :
    (addf (mulf (broadcastTo S80x512 (exp2 (subf mo mn)) broadcasts_S1x512_S80x512) acc)
      (matmul dot_S80x2048_S2048x512_S80x512_1_0_0_1_n_n none W (truncf .bf16 (exp2 (subf T (broadcastTo S2048x512 mn broadcasts_S1x512_S2048x512))) bitsLt_bf16_f32) (constant S80x512 .f32 0x00000000#32))
        : FVec Ideal S80x512 .f32) (ix2 e r)
      = Ideal.exp2 (mo (ix2 0 r) - mn (ix2 0 r)) * acc (ix2 e r) + ∑ x : Fin 2048, W (ix2 e x) * Ideal.exp2 (T (ix2 x r) - mn (ix2 0 r)) := by
  pointwise
  rfl

/-- Four value slabs side by side, above sixteen rows of `o`. -/
def vals (o : FVec Ideal S16x2048 .bf16) (v0 v1 v2 v3 : FVec Ideal S64x512 .bf16) : FVec Ideal S80x2048 .bf16 :=
  concatenate S80x2048 0 [⟨S64x2048, concatenate S64x2048 1 [⟨S64x512, v0⟩, ⟨S64x512, v1⟩, ⟨S64x512, v2⟩, ⟨S64x512, v3⟩] concatenates_S64x512_S64x512_S64x512_S64x512_S64x2048_d1⟩, ⟨S16x2048, o⟩] concatenates_S64x2048_S16x2048_S80x2048_d0

theorem vals_at (o : FVec Ideal S16x2048 .bf16) (v0 v1 v2 v3 : FVec Ideal S64x512 .bf16) (f : Fin 64 → ℕ → EReal)
    (h0 : ∀ d (x : Fin 512), v0 (ix2 d x) = f d x.val) (h1 : ∀ d (x : Fin 512), v1 (ix2 d x) = f d (512 + x.val))
    (h2 : ∀ d (x : Fin 512), v2 (ix2 d x) = f d (1024 + x.val)) (h3 : ∀ d (x : Fin 512), v3 (ix2 d x) = f d (1536 + x.val))
    (ho : ∀ e x, o (ix2 e x) = 1) (e : Fin 80) (x : Fin 2048) :
    vals o v0 v1 v2 v3 (ix2 e x) = if h : e.val < 64 then f ⟨e.val, h⟩ x.val else 1 := by
  pointwise [vals]
  by_cases he : e.val < 64
  · rw [dif_pos he, dif_pos he]
    by_cases a : x.val < 512
    · rw [dif_pos a]; exact h0 _ _
    rw [dif_neg a]
    by_cases b : x.val - 512 < 512
    · rw [dif_pos b]; exact (h1 _ _).trans (congrArg (f _) (by dsimp only; omega))
    rw [dif_neg b]
    by_cases c : x.val - 512 - 512 < 512
    · rw [dif_pos c]; exact (h2 _ _).trans (congrArg (f _) (by dsimp only; omega))
    rw [dif_neg c]; exact (h3 _ _).trans (congrArg (f _) (by dsimp only; omega))
  · rw [dif_neg he, dif_neg he]; exact ho _ _

/-- After the first `n` keys, with scores `s` to base two and weighted rows `w`: `mo` is the shift, `acc` the weighted sum. -/
def Inv (n : ℕ) (s : Fin 512 → ℕ → ℝ) (w : Fin 80 → ℕ → ℝ) (mo : FVec Ideal S1x512 .f32) (acc : FVec Ideal S80x512 .f32) : Prop :=
  ∃ M : Fin 512 → ℝ, ∀ r, mo (ix2 0 r) = (M r : EReal)
    ∧ ∀ e, acc (ix2 e r) = ((∑ x ∈ Finset.range n, w e x * (2 : ℝ) ^ (s r x - M r) : ℝ) : EReal)

theorem sum_step (n : ℕ) (Mo Mn : ℝ) (s w : ℕ → ℝ) :
    (2 : ℝ) ^ (Mo - Mn) * (∑ x ∈ Finset.range n, w x * (2 : ℝ) ^ (s x - Mo)) + ∑ x : Fin 2048, w (n + x.val) * (2 : ℝ) ^ (s (n + x.val) - Mn)
      = ∑ x ∈ Finset.range (n + 2048), w x * (2 : ℝ) ^ (s x - Mn) := by
  rw [Finset.sum_range_add, Finset.mul_sum, Finset.sum_range (n := 2048)]
  refine congrArg (· + _) (Finset.sum_congr rfl fun x _ => ?_)
  rw [mul_left_comm, ← Real.rpow_add (by norm_num)]
  congr 2
  ring

/-- One block of 2048 keys keeps the invariant. -/
theorem head_step (n : ℕ) (s : Fin 512 → ℕ → ℝ) (w : Fin 80 → ℕ → ℝ) (mo : FVec Ideal S1x512 .f32) (acc : FVec Ideal S80x512 .f32)
    (T : FVec Ideal S2048x512 .f32) (W : FVec Ideal S80x2048 .bf16) (h : Inv n s w mo acc)
    (hT : ∀ (x : Fin 2048) r, T (ix2 x r) = (s r (n + x.val) : EReal)) (hW : ∀ e (x : Fin 2048), W (ix2 e x) = (w e (n + x.val) : EReal)) :
    Inv (n + 2048) s w (newM mo T) (newA mo acc T W) := by
  obtain ⟨M, hM⟩ := h
  have hmn : ∀ r, ∃ N : ℝ, newM mo T (ix2 0 r) = (N : EReal) := fun r => by
    obtain ⟨N, hN⟩ := fold_max_real (Finset.univ : Finset (Fin 2048)) ⟨0, Finset.mem_univ _⟩ (fun x => s r (n + x.val))
    refine ⟨max (M r) N, ?_⟩
    rw [newM_at, neg_inf_word, (hM r).1, Rl.coe_max, ← hN]
    simp only [hT]
  choose N hN using hmn
  refine ⟨N, fun r => ⟨hN r, fun e => ?_⟩⟩
  rw [newA, newA_of, hN, (hM r).1, (hM r).2, ← sum_step n (M r)]
  simp only [hT, hW, ← EReal.coe_sub, ← EReal.coe_mul, Rl.exp2_real, ← Rl.coe_sum, ← EReal.coe_add]

/-- Before the first key: any real shift, sums of zero. -/
theorem inv_zero (s : Fin 512 → ℕ → ℝ) (w : Fin 80 → ℕ → ℝ) (mo : FVec Ideal S1x512 .f32) (acc : FVec Ideal S80x512 .f32)
    (M : ℝ) (hm : ∀ r, mo (ix2 0 r) = (M : EReal)) (ha : ∀ e r, acc (ix2 e r) = 0) : Inv 0 s w mo acc :=
  ⟨fun _ => M, fun r => ⟨hm r, fun e => by rw [ha]; simp⟩⟩

end Cert.FwdKIdeal.Final

end
-- ==== Proof.FwdLoop.lean ====
/- Global attention forward: the two loops over key blocks, four heads each, and the last block after each. -/
module

public import proofs.«01_k».proof.Proof.FwdStep

@[expose] public section

set_option maxRecDepth 16384

noncomputable section

open Idealize.ShloMosaic Idealize.ShloMosaic.TcCoe Idealize.SL.Sem
open Idealize.ShloMosaic.Pipeline (Dat)

namespace Cert.FwdKIdeal.Final

open Cert.FwdKIdeal Cert.FwdKIdeal.Gen Cert.Attn

variable (m : (ℓ : Loc nD τ sig) → Buf (Elt Ideal) ℓ)

/-- The point's input blocks: transposed scaled queries, keys, values by block of 512 keys. -/
abbrev X0 (c : Dev nD) (t : Fin cfg0.N) : FVec Ideal S512x512 .bf16 := iblk m c 0 t
abbrev X1 (c : Dev nD) (t : Fin cfg0.N) : FVec Ideal S8192x128 .bf16 := iblk m c 1 t
abbrev X2 (c : Dev nD) (t : Fin cfg0.N) : FVec Ideal S16x128x512 .bf16 := iblk m c 2 t

/-- What a loop carries: shift and weighted sums of four heads. -/
abbrev Carry : Type := FVec Ideal S1x512 .f32 × FVec Ideal S80x512 .f32 × FVec Ideal S1x512 .f32 × FVec Ideal S80x512 .f32 × FVec Ideal S1x512 .f32 × FVec Ideal S80x512 .f32 × FVec Ideal S1x512 .f32 × FVec Ideal S80x512 .f32

/-- One block for four heads. -/
def step4 (T0 T1 T2 T3 : FVec Ideal S2048x512 .f32) (W : FVec Ideal S80x2048 .bf16) (a : Carry) : Carry :=
  (newM a.1 T0, newA a.1 a.2.1 T0 W, newM a.2.2.1 T1, newA a.2.2.1 a.2.2.2.1 T1 W,
    newM a.2.2.2.2.1 T2, newA a.2.2.2.2.1 a.2.2.2.2.2.1 T2 W, newM a.2.2.2.2.2.2.1 T3, newA a.2.2.2.2.2.2.1 a.2.2.2.2.2.2.2 T3 W)

/-- The four heads' invariants. -/
def Inv4 (n : ℕ) (s : Fin 4 → Fin 512 → ℕ → ℝ) (w : Fin 80 → ℕ → ℝ) (a : Carry) : Prop :=
  Inv n (s 0) w a.1 a.2.1 ∧ Inv n (s 1) w a.2.2.1 a.2.2.2.1 ∧ Inv n (s 2) w a.2.2.2.2.1 a.2.2.2.2.2.1 ∧ Inv n (s 3) w a.2.2.2.2.2.2.1 a.2.2.2.2.2.2.2

theorem step4_inv (n : ℕ) (s : Fin 4 → Fin 512 → ℕ → ℝ) (w : Fin 80 → ℕ → ℝ) (a : Carry) (h : Inv4 n s w a)
    (T0 T1 T2 T3 : FVec Ideal S2048x512 .f32) (W : FVec Ideal S80x2048 .bf16)
    (h0 : ∀ (x : Fin 2048) r, T0 (ix2 x r) = (s 0 r (n + x.val) : EReal)) (h1 : ∀ (x : Fin 2048) r, T1 (ix2 x r) = (s 1 r (n + x.val) : EReal))
    (h2 : ∀ (x : Fin 2048) r, T2 (ix2 x r) = (s 2 r (n + x.val) : EReal)) (h3 : ∀ (x : Fin 2048) r, T3 (ix2 x r) = (s 3 r (n + x.val) : EReal))
    (hW : ∀ e (x : Fin 2048), W (ix2 e x) = (w e (n + x.val) : EReal)) : Inv4 (n + 2048) s w (step4 T0 T1 T2 T3 W a) :=
  ⟨head_step n _ w _ _ _ W h.1 h0 hW, head_step n _ w _ _ _ W h.2.1 h1 hW, head_step n _ w _ _ _ W h.2.2.1 h2 hW, head_step n _ w _ _ _ W h.2.2.2 h3 hW⟩

/-- A buffer of two slabs holds the scores `s0`, `s1` of the keys from `n`. -/
def Slabs (n : ℕ) (s0 s1 : Fin 512 → ℕ → ℝ) (f : BufTy.Contents (Elt Ideal) scM0_0.view.ty) : Prop :=
  (∀ (x : Fin 2048) (r : Fin 512), scM0_0.view.read (Elt Ideal) f (ix3 (0 : Fin 2) x r) = (s0 r (n + x.val) : EReal))
    ∧ ∀ (x : Fin 2048) (r : Fin 512), scM0_0.view.read (Elt Ideal) f (ix3 (1 : Fin 2) x r) = (s1 r (n + x.val) : EReal)

theorem slabs_of (n : ℕ) (s0 s1 : Fin 512 → ℕ → ℝ) (f : BufTy.Contents (Elt Ideal) scM0_0.view.ty) (P0 P1 : FVec Ideal S1x2048x512 .f32) (L : List (View.Piece (Elt Ideal) S2x2048x512 .f32))
    (h0 : ∀ (x : Fin 2048) (r : Fin 512), P0 (ix3 (0 : Fin 1) x r) = (s0 r (n + x.val) : EReal)) (h1 : ∀ (x : Fin 2048) (r : Fin 512), P1 (ix3 (0 : Fin 1) x r) = (s1 r (n + x.val) : EReal)) :
    Slabs n s0 s1 (scM0_0.view.writes (Elt Ideal) f
      (⟨Rect.unit ![1, 0, 0] S1x2048x512.size inb_S2x2048x512_S1x2048x512_1_0_0, P1⟩ :: ⟨Rect.unit ![0, 0, 0] S1x2048x512.size inb_S2x2048x512_S1x2048x512_0_0_0, P0⟩ :: L)) := by
  refine ⟨fun x r => Eq.trans ?_ (h0 x r), fun x r => Eq.trans ?_ (h1 x r)⟩
  · refine (View.read_writes_cons_unit_of_not_mem _ _ _ _ _ _ rfl 0 (.inl Nat.zero_lt_one)).trans ?_
    refine View.read_writes_cons_unit_of_mem (off' := ![0, 0, 0]) scM0_0.view _ inb_S2x2048x512_S1x2048x512_0_0_0 _ _ _ (ix3 (0 : Fin 1) x r) rfl ?_
    intro a; fin_cases a
    exacts [rfl, (Nat.zero_add _).symm, (Nat.zero_add _).symm]
  · refine View.read_writes_cons_unit_of_mem (off' := ![1, 0, 0]) scM0_0.view _ inb_S2x2048x512_S1x2048x512_1_0_0 _ _ _ (ix3 (0 : Fin 1) x r) rfl ?_
    intro a; fin_cases a
    exacts [rfl, (Nat.zero_add _).symm, (Nat.zero_add _).symm]

theorem readAt_at {sp : Space} {s : Shape} {e : EltTy} (M : Memref sig .tc sp s e) {off off' size : Fin s.rank → ℕ} (h : off = off')
    (inb : ∀ a, off a + size a ≤ s.size a) (f : BufTy.Contents (Elt Ideal) M.view.ty)
    (x : (Rect.unit off size inb).shape.Idx) (y : s.Idx) (hx : ∀ a, (y a).val = off' a + (x a).val) :
    View.readAt (Elt Ideal) M.view (Rect.unit off size inb).toLoadRect f x = M.view.read (Elt Ideal) f y := by
  subst h
  rw [View.readAt_eq_ld]
  exact Rl.ld_at _ _ _ _ hx

/-- The slabs, read. -/
def slab0 (f : BufTy.Contents (Elt Ideal) scM0_0.view.ty) : FVec Ideal S2048x512 .f32 :=
  shapeCast S2048x512 (show FVec Ideal S1x2048x512 .f32 from View.readAt (Elt Ideal) scM0_0.view (Rect.unit (s := S2x2048x512) ![0, 0, 0] S1x2048x512.size inb_S2x2048x512_S1x2048x512_0_0_0).toLoadRect f) shapeCasts_S1x2048x512_S2048x512
def slab1 (f : BufTy.Contents (Elt Ideal) scM0_0.view.ty) : FVec Ideal S2048x512 .f32 :=
  shapeCast S2048x512 (show FVec Ideal S1x2048x512 .f32 from View.readAt (Elt Ideal) scM0_0.view (Rect.unit (s := S2x2048x512) ![1, 0, 0] S1x2048x512.size inb_S2x2048x512_S1x2048x512_1_0_0).toLoadRect f) shapeCasts_S1x2048x512_S2048x512

theorem as_slab (T : FVec Ideal S1x2048x512 .f32) (x : Fin 2048) (r : Fin 512) :
    shapeCast S2048x512 T shapeCasts_S1x2048x512_S2048x512 (ix2 x r) = T (ix3 0 x r) := by
  pointwise

theorem slab0_at (f : BufTy.Contents (Elt Ideal) scM0_0.view.ty) (x : Fin 2048) (r : Fin 512) : slab0 f (ix2 x r) = scM0_0.view.read (Elt Ideal) f (ix3 (0 : Fin 2) x r) := by
  refine (as_slab _ x r).trans (readAt_at scM0_0 rfl _ _ _ _ ?_)
  intro a; fin_cases a
  exacts [rfl, (Nat.zero_add _).symm, (Nat.zero_add _).symm]
theorem slab1_at (f : BufTy.Contents (Elt Ideal) scM0_0.view.ty) (x : Fin 2048) (r : Fin 512) : slab1 f (ix2 x r) = scM0_0.view.read (Elt Ideal) f (ix3 (1 : Fin 2) x r) := by
  refine (as_slab _ x r).trans (readAt_at scM0_0 rfl _ _ _ _ ?_)
  intro a; fin_cases a
  exacts [rfl, (Nat.zero_add _).symm, (Nat.zero_add _).symm]

variable (v3 v5 v7 v9 : FVec Ideal S64x512 .bf16)

/-- One trip of loop 1 at a point, and the loop's state, over the point's blocks. -/
abbrev trip1 (c : Dev nD) (t : Fin cfg0.N) (k : Fin k0_t1_loop.trips) :=
  trip_k0_t1 (F := Ideal) Variants.none c none (grid0.coords t) (ms0_0 t) (hs0_0 t) (ms0_1 t) (hs0_1 t) (ms0_2 t) (hs0_2 t) (ms0_3 t) (hs0_3 t) (ms0_4 t) (hs0_4 t) scM0_0 (Memref.isWhole_whole _)
    v3 v5 v7 v9 ((hs0_1 t).unread (iblk m c 1 t)) ((hs0_2 t).unread (iblk m c 2 t)) k
abbrev st1 (c : Dev nD) (t : Fin cfg0.N) (G : BufTy.Contents (Elt Ideal) scM0_0.view.ty) (a : Carry) :=
  st_k0_t1 (F := Ideal) Variants.none c none (grid0.coords t) (ms0_0 t) (hs0_0 t) (ms0_1 t) (hs0_1 t) (ms0_2 t) (hs0_2 t) (ms0_3 t) (hs0_3 t) (ms0_4 t) (hs0_4 t) scM0_0 (Memref.isWhole_whole _)
    v3 v5 v7 v9 ((hs0_1 t).unread (iblk m c 1 t)) ((hs0_2 t).unread (iblk m c 2 t)) G a

/-- One trip of loop 2 at a point, and the loop's state. -/
abbrev trip2 (c : Dev nD) (t : Fin cfg0.N) (k : Fin k0_t2_loop.trips) :=
  trip_k0_t2 (F := Ideal) Variants.none c none (grid0.coords t) (ms0_0 t) (hs0_0 t) (ms0_1 t) (hs0_1 t) (ms0_2 t) (hs0_2 t) (ms0_3 t) (hs0_3 t) (ms0_4 t) (hs0_4 t) scM0_0 (Memref.isWhole_whole _)
    (k0_pay35 (F := Ideal)) v3 v5 v7 v9 ((hs0_1 t).unread (iblk m c 1 t)) ((hs0_2 t).unread (iblk m c 2 t)) k
abbrev st2 (c : Dev nD) (t : Fin cfg0.N) (G : BufTy.Contents (Elt Ideal) scM0_0.view.ty) (a : Carry) :=
  st_k0_t2 (F := Ideal) Variants.none c none (grid0.coords t) (ms0_0 t) (hs0_0 t) (ms0_1 t) (hs0_1 t) (ms0_2 t) (hs0_2 t) (ms0_3 t) (hs0_3 t) (ms0_4 t) (hs0_4 t) scM0_0 (Memref.isWhole_whole _)
    (k0_pay35 (F := Ideal)) v3 v5 v7 v9 ((hs0_1 t).unread (iblk m c 1 t)) ((hs0_2 t).unread (iblk m c 2 t)) G a

/-- The key slices and values a trip reads. -/
abbrev kb1 (c : Dev nD) (t : Fin cfg0.N) (k : Fin k0_t1_loop.trips) : FVec Ideal S2048x64 .bf16 :=
  k0_pay4 (F := Ideal) (View.readAt (Elt Ideal) (ms0_1 t).view (Rect.unit (s := S8192x128) (k0_off1 k) S2048x128.size (k0_off1_inb k)).toLoadRect ((hs0_1 t).unread (iblk m c 1 t)))
abbrev kn1 (c : Dev nD) (t : Fin cfg0.N) (k : Fin k0_t1_loop.trips) : FVec Ideal S2048x64 .bf16 :=
  k0_pay5 (F := Ideal) (View.readAt (Elt Ideal) (ms0_1 t).view (Rect.unit (s := S8192x128) (k0_off2 k) S2048x128.size (k0_off2_inb k)).toLoadRect ((hs0_1 t).unread (iblk m c 1 t)))
abbrev vb1 (c : Dev nD) (t : Fin cfg0.N) (k : Fin k0_t1_loop.trips) (u : Fin 4) : FVec Ideal S64x512 .bf16 :=
  shapeCast S64x512 (show FVec Ideal S1x64x512 .bf16 from View.readAt (Elt Ideal) (ms0_2 t).view (Rect.unit (s := S16x128x512) (k0_off3 k (BitVec.ofNat 32 u.val)) S1x64x512.size (k0_off3_inb k u)).toLoadRect ((hs0_2 t).unread (iblk m c 2 t))) shapeCasts_S1x64x512_S64x512
abbrev kb2 (c : Dev nD) (t : Fin cfg0.N) (k : Fin k0_t2_loop.trips) : FVec Ideal S2048x64 .bf16 :=
  k0_pay19 (F := Ideal) (View.readAt (Elt Ideal) (ms0_1 t).view (Rect.unit (s := S8192x128) (k0_off4 k) S2048x128.size (k0_off4_inb k)).toLoadRect ((hs0_1 t).unread (iblk m c 1 t)))
abbrev kn2 (c : Dev nD) (t : Fin cfg0.N) (k : Fin k0_t2_loop.trips) : FVec Ideal S2048x64 .bf16 :=
  k0_pay20 (F := Ideal) (View.readAt (Elt Ideal) (ms0_1 t).view (Rect.unit (s := S8192x128) (k0_off5 k) S2048x128.size (k0_off5_inb k)).toLoadRect ((hs0_1 t).unread (iblk m c 1 t)))
abbrev vb2 (c : Dev nD) (t : Fin cfg0.N) (k : Fin k0_t2_loop.trips) (u : Fin 4) : FVec Ideal S64x512 .bf16 :=
  shapeCast S64x512 (show FVec Ideal S1x64x512 .bf16 from View.readAt (Elt Ideal) (ms0_2 t).view (Rect.unit (s := S16x128x512) (k0_off6 k (BitVec.ofNat 32 u.val)) S1x64x512.size (k0_off6_inb k u)).toLoadRect ((hs0_2 t).unread (iblk m c 2 t))) shapeCasts_S1x64x512_S64x512

theorem trip1_R (c : Dev nD) (t : Fin cfg0.N) (k : Fin k0_t1_loop.trips) (a : Carry) (f) :
    (trip1 m v3 v5 v7 v9 c t k).1 a f = step4 (slab0 f) (slab1 f) (scores (kb1 m c t k) (shapeCast S64x512 v7 shapeCasts_S64x512_S64x512)) (scores (kb1 m c t k) (shapeCast S64x512 v9 shapeCasts_S64x512_S64x512))
      (vals (k0_pay35 (F := Ideal)) (vb1 m c t k 0) (vb1 m c t k 1) (vb1 m c t k 2) (vb1 m c t k 3)) a := by
  unfold trip1 trip_k0_t1; rfl

theorem trip1_L (c : Dev nD) (t : Fin cfg0.N) (k : Fin k0_t1_loop.trips) (a : Carry) (f) :
    (trip1 m v3 v5 v7 v9 c t k).2.1 a f
      = [⟨Rect.unit ![1, 0, 0] S1x2048x512.size inb_S2x2048x512_S1x2048x512_1_0_0, shapeCast S1x2048x512 (scores (kn1 m c t k) (shapeCast S64x512 v5 shapeCasts_S64x512_S64x512)) shapeCasts_S2048x512_S1x2048x512⟩,
         ⟨Rect.unit ![0, 0, 0] S1x2048x512.size inb_S2x2048x512_S1x2048x512_0_0_0, shapeCast S1x2048x512 (scores (kn1 m c t k) (shapeCast S64x512 v3 shapeCasts_S64x512_S64x512)) shapeCasts_S2048x512_S1x2048x512⟩] := by
  unfold trip1 trip_k0_t1; rfl

theorem trip2_R (c : Dev nD) (t : Fin cfg0.N) (k : Fin k0_t2_loop.trips) (a : Carry) (f) :
    (trip2 m v3 v5 v7 v9 c t k).1 a f = step4 (slab0 f) (slab1 f) (scores (kb2 m c t k) v7) (scores (kb2 m c t k) (shapeCast S64x512 v9 shapeCasts_S64x512_S64x512))
      (vals (k0_pay35 (F := Ideal)) (vb2 m c t k 0) (vb2 m c t k 1) (vb2 m c t k 2) (vb2 m c t k 3)) a := by
  unfold trip2 trip_k0_t2; rfl

theorem trip2_L (c : Dev nD) (t : Fin cfg0.N) (k : Fin k0_t2_loop.trips) (a : Carry) (f) :
    (trip2 m v3 v5 v7 v9 c t k).2.1 a f
      = [⟨Rect.unit ![1, 0, 0] S1x2048x512.size inb_S2x2048x512_S1x2048x512_1_0_0, shapeCast S1x2048x512 (scores (kn2 m c t k) v5) shapeCasts_S2048x512_S1x2048x512⟩,
         ⟨Rect.unit ![0, 0, 0] S1x2048x512.size inb_S2x2048x512_S1x2048x512_0_0_0, shapeCast S1x2048x512 (scores (kn2 m c t k) v3) shapeCasts_S2048x512_S1x2048x512⟩] := by
  unfold trip2 trip_k0_t2; rfl

theorem off1 : ∀ k : Fin k0_t1_loop.trips, k0_off1 k = ![2048 * k.val, 0] := by decide +kernel
theorem off2 : ∀ k : Fin k0_t1_loop.trips, k0_off2 k = ![2048 * k.val + 2048, 0] := by decide +kernel
theorem off3 : ∀ (k : Fin k0_t1_loop.trips) (u : Fin 4), k0_off3 k (BitVec.ofNat 32 u.val) = ![4 * k.val + u.val, 0, 0] := by decide +kernel
theorem off4 : ∀ k : Fin k0_t2_loop.trips, k0_off4 k = ![2048 * k.val, 0] := by decide +kernel
theorem off5 : ∀ k : Fin k0_t2_loop.trips, k0_off5 k = ![2048 * k.val + 2048, 0] := by decide +kernel
theorem off6 : ∀ (k : Fin k0_t2_loop.trips) (u : Fin 4), k0_off6 k (BitVec.ofNat 32 u.val) = ![4 * k.val + u.val, 64, 0] := by decide +kernel

/-- The left or right half of a block of key rows. -/
theorem half0_at (T : FVec Ideal S2048x128 .bf16) (x : Fin 2048) (d : Fin 64) : k0_pay4 (F := Ideal) T (ix2 x d) = T (ix2 x ⟨d.val, by omega⟩) := by
  pointwise [k0_pay4]
theorem half1_at (T : FVec Ideal S2048x128 .bf16) (x : Fin 2048) (d : Fin 64) : k0_pay19 (F := Ideal) T (ix2 x d) = T (ix2 x ⟨64 + d.val, by omega⟩) := by
  pointwise [k0_pay19]
theorem one_slab (T : FVec Ideal S1x64x512 .bf16) (d : Fin 64) (x : Fin 512) : shapeCast S64x512 T shapeCasts_S1x64x512_S64x512 (ix2 d x) = T (ix3 0 d x) := by
  pointwise
theorem same_at (T : FVec Ideal S64x512 .bf16) (d : Fin 64) (x : Fin 512) : shapeCast S64x512 T shapeCasts_S64x512_S64x512 (ix2 d x) = T (ix2 d x) := by
  pointwise
theorem slab_of (T : FVec Ideal S2048x512 .f32) (x : Fin 2048) (r : Fin 512) : shapeCast S1x2048x512 T shapeCasts_S2048x512_S1x2048x512 (ix3 0 x r) = T (ix2 x r) := by
  pointwise
theorem ones_at (e : Fin 16) (x : Fin 2048) : k0_pay35 (F := Ideal) (ix2 e x) = 1 := by
  pointwise [k0_pay35]

theorem keys_at (c : Dev nD) (t : Fin cfg0.N) {off off' : Fin S8192x128.rank → ℕ} (n : ℕ) (h : off = off') (hn : off' = ![n, 0]) (inb : ∀ a, off a + S2048x128.size a ≤ S8192x128.size a) (x : Fin 2048) (b : Fin 128) (hx : n + x.val < 8192) :
    View.readAt (Elt Ideal) (ms0_1 t).view (Rect.unit (s := S8192x128) off S2048x128.size inb).toLoadRect ((hs0_1 t).unread (iblk m c 1 t)) (ix2 x b) = X1 m c t (ix2 ⟨n + x.val, hx⟩ b) := by
  subst hn
  refine (readAt_at (ms0_1 t) h inb _ _ (ix2 ⟨n + x.val, hx⟩ b) ?_).trans (congrFun ((hs0_1 t).read_unread _) _)
  intro a; fin_cases a
  exacts [rfl, (Nat.zero_add _).symm]

theorem vals_read (c : Dev nD) (t : Fin cfg0.N) {off : Fin S16x128x512.rank → ℕ} (j : Fin 16) (o : ℕ) (ho : o + 64 ≤ 128) (h : off = ![j.val, o, 0]) (inb : ∀ a, off a + S1x64x512.size a ≤ S16x128x512.size a) (d : Fin 64) (x : Fin 512) :
    View.readAt (Elt Ideal) (ms0_2 t).view (Rect.unit (s := S16x128x512) off S1x64x512.size inb).toLoadRect ((hs0_2 t).unread (iblk m c 2 t)) (ix3 (0 : Fin 1) d x) = X2 m c t (ix3 j ⟨o + d.val, by omega⟩ x) := by
  refine (readAt_at (ms0_2 t) h inb _ _ (ix3 j ⟨o + d.val, by omega⟩ x) ?_).trans (congrFun ((hs0_2 t).read_unread _) _)
  intro a; fin_cases a
  exacts [rfl, rfl, (Nat.zero_add _).symm]

end Cert.FwdKIdeal.Final

end
-- ==== Proof.FwdPoint.lean ====
/- Global attention forward at a grid point over real numbers: after each loop and its last block the carried sums run over all keys. -/
module

public import proofs.«01_k».proof.Proof.FwdLoop

@[expose] public section

set_option maxRecDepth 16384

noncomputable section

open Idealize.ShloMosaic Idealize.ShloMosaic.TcCoe Idealize.SL.Sem
open Idealize.ShloMosaic.Pipeline (Dat)

namespace Cert.FwdKIdeal.Final

open Cert.FwdKIdeal Cert.FwdKIdeal.Gen Cert.Attn

/-- Head `g` of the four that share key head `kv`; the row of head `h`'s feature `d`; the row of key head `kv`'s. -/
def hd (kv : Fin 2) (g : Fin 4) : Fin 8 := ⟨4 * kv.val + g.val, by omega⟩
def row (h : Fin 8) (d : Fin 64) : Fin 512 := ⟨64 * h.val + d.val, by omega⟩
def krow (kv : Fin 2) (d : Fin 64) : Fin 128 := ⟨64 * kv.val + d.val, by omega⟩

/-- A point's queries (by row and column), keys and values as real numbers. -/
structure Nums where
  q : Fin 512 → Fin 512 → ℝ
  k : Fin 8192 → Fin 128 → ℝ
  v : Fin 128 → Fin 8192 → ℝ

variable (D : Nums)

/-- Head `g`'s scores by key, and the values of key head `kv` above a row of ones. -/
def sN (kv : Fin 2) (g : Fin 4) (r : Fin 512) (x : ℕ) : ℝ := if hx : x < 8192 then ∑ d, D.k ⟨x, hx⟩ (krow kv d) * D.q (row (hd kv g) d) r else 0
def wN (kv : Fin 2) (e : Fin 80) (x : ℕ) : ℝ := if hx : x < 8192 then if he : e.val < 64 then D.v (krow kv ⟨e.val, he⟩) ⟨x, hx⟩ else 1 else 0

theorem scores_real (n : ℕ) (hn : n + 2048 ≤ 8192) (kv : Fin 2) (g : Fin 4) (K : FVec Ideal S2048x64 .bf16) (Q : FVec Ideal S64x512 .bf16)
    (hK : ∀ (x : Fin 2048) d, K (ix2 x d) = (D.k ⟨n + x.val, by omega⟩ (krow kv d) : EReal)) (hQ : ∀ d r, Q (ix2 d r) = (D.q (row (hd kv g) d) r : EReal))
    (x : Fin 2048) (r : Fin 512) : scores K Q (ix2 x r) = (sN D kv g r (n + x.val) : EReal) := by
  rw [scores_at, sN, dif_pos (by omega), Rl.coe_sum]
  refine Finset.sum_congr rfl fun d _ => ?_
  rw [EReal.coe_mul, hK, hQ]

theorem vals_real (n : ℕ) (hn : n + 2048 ≤ 8192) (kv : Fin 2) (u : Fin 4 → FVec Ideal S64x512 .bf16)
    (h : ∀ (i : Fin 4) d (x : Fin 512), u i (ix2 d x) = (D.v (krow kv d) ⟨n + (512 * i.val + x.val), by omega⟩ : EReal)) (e : Fin 80) (x : Fin 2048) :
    vals (k0_pay35 (F := Ideal)) (u 0) (u 1) (u 2) (u 3) (ix2 e x) = (wN D kv e (n + x.val) : EReal) := by
  have hw : ∀ (i : Fin 4) d (y : Fin 512) (z : ℕ), z = 512 * i.val + y.val → u i (ix2 d y) = (wN D kv ⟨d.val, by omega⟩ (n + z) : EReal) := fun i d y z hz => by
    subst hz
    rw [h, wN, dif_pos (by omega), dif_pos d.isLt]
  rw [vals_at (k0_pay35 (F := Ideal)) (u 0) (u 1) (u 2) (u 3) (fun d y => (wN D kv ⟨d.val, by omega⟩ (n + y) : EReal))
    (fun d y => hw 0 d y _ (Nat.zero_add _).symm) (fun d y => hw 1 d y _ rfl) (fun d y => hw 2 d y _ rfl) (fun d y => hw 3 d y _ rfl) ones_at]
  by_cases he : e.val < 64
  · rw [dif_pos he]
  · rw [dif_neg he, wN, dif_pos (by omega), dif_neg he, EReal.coe_one]

variable (m : (ℓ : Loc nD τ sig) → Buf (Elt Ideal) ℓ)

/-- The point's blocks hold the numbers `D`. -/
structure Holds (c : Dev nD) (t : Fin cfg0.N) : Prop where
  q : ∀ a r, X0 m c t (ix2 a r) = (D.q a r : EReal)
  k : ∀ x b, X1 m c t (ix2 x b) = (D.k x b : EReal)
  v : ∀ (j : Fin 16) b (y : Fin 512), X2 m c t (ix3 j b y) = (D.v b ⟨512 * j.val + y.val, by omega⟩ : EReal)

variable {m} {c : Dev nD} {t : Fin cfg0.N} (H : Holds D m c t) (v3 v5 v7 v9 : FVec Ideal S64x512 .bf16)
include H

theorem kb1_real (k : Fin k0_t1_loop.trips) (hk : k.val < 3) (x : Fin 2048) (d : Fin 64) :
    kb1 m c t k (ix2 x d) = (D.k ⟨2048 * k.val + x.val, by omega⟩ (krow 0 d) : EReal) :=
  (half0_at _ x d).trans ((keys_at m c t _ (off1 k) rfl _ x _ (by omega)).trans ((H.k _ _).trans (congrArg (fun b => (D.k _ b : EReal)) (Fin.ext (Nat.zero_add _).symm))))
theorem kn1_real (k : Fin k0_t1_loop.trips) (hk : k.val < 3) (x : Fin 2048) (d : Fin 64) :
    kn1 m c t k (ix2 x d) = (D.k ⟨2048 * k.val + 2048 + x.val, by omega⟩ (krow 0 d) : EReal) :=
  (half0_at _ x d).trans ((keys_at m c t _ (off2 k) rfl _ x _ (by omega)).trans ((H.k _ _).trans (congrArg (fun b => (D.k _ b : EReal)) (Fin.ext (Nat.zero_add _).symm))))
theorem kb2_real (k : Fin k0_t2_loop.trips) (hk : k.val < 3) (x : Fin 2048) (d : Fin 64) :
    kb2 m c t k (ix2 x d) = (D.k ⟨2048 * k.val + x.val, by omega⟩ (krow 1 d) : EReal) :=
  (half1_at _ x d).trans ((keys_at m c t _ (off4 k) rfl _ x _ (by omega)).trans (H.k _ _))
theorem kn2_real (k : Fin k0_t2_loop.trips) (hk : k.val < 3) (x : Fin 2048) (d : Fin 64) :
    kn2 m c t k (ix2 x d) = (D.k ⟨2048 * k.val + 2048 + x.val, by omega⟩ (krow 1 d) : EReal) :=
  (half1_at _ x d).trans ((keys_at m c t _ (off5 k) rfl _ x _ (by omega)).trans (H.k _ _))

theorem slab_real (j : Fin 16) (kv : Fin 2) (n : ℕ) (i : Fin 4) (hn : n + 2048 ≤ 8192) (hj : 512 * j.val = n + 512 * i.val) (T : FVec Ideal S1x64x512 .bf16)
    (hT : ∀ (d : Fin 64) (x : Fin 512), T (ix3 0 d x) = X2 m c t (ix3 j (krow kv d) x)) (d : Fin 64) (x : Fin 512) :
    shapeCast S64x512 T shapeCasts_S1x64x512_S64x512 (ix2 d x) = (D.v (krow kv d) ⟨n + (512 * i.val + x.val), by omega⟩ : EReal) :=
  (one_slab T d x).trans ((hT d x).trans ((H.v j _ x).trans (congrArg (fun y => (D.v (krow kv d) y : EReal)) (Fin.ext (by show 512 * j.val + x.val = n + (512 * i.val + x.val); omega)))))

theorem vb1_real (k : Fin k0_t1_loop.trips) (hk : k.val < 3) (i : Fin 4) (d : Fin 64) (x : Fin 512) :
    vb1 m c t k i (ix2 d x) = (D.v (krow 0 d) ⟨2048 * k.val + (512 * i.val + x.val), by omega⟩ : EReal) :=
  slab_real D H ⟨4 * k.val + i.val, by omega⟩ 0 (2048 * k.val) i (by omega) (by dsimp only; omega) _ (fun d x => vals_read m c t _ 0 (by decide) (off3 k i) _ d x) d x
theorem vb2_real (k : Fin k0_t2_loop.trips) (hk : k.val < 3) (i : Fin 4) (d : Fin 64) (x : Fin 512) :
    vb2 m c t k i (ix2 d x) = (D.v (krow 1 d) ⟨2048 * k.val + (512 * i.val + x.val), by omega⟩ : EReal) :=
  slab_real D H ⟨4 * k.val + i.val, by omega⟩ 1 (2048 * k.val) i (by omega) (by dsimp only; omega) _ (fun d x => vals_read m c t _ 64 (by decide) (off6 k i) _ d x) d x

/-- Loop 1: before trip `i` the sums run over the first `i` key blocks, and the scratch holds block `i`'s scores of heads 0 and 1. -/
theorem loop1 (G : BufTy.Contents (Elt Ideal) scM0_0.view.ty) (a : Carry)
    (h3 : ∀ d r, v3 (ix2 d r) = (D.q (row (hd 0 0) d) r : EReal)) (h5 : ∀ d r, v5 (ix2 d r) = (D.q (row (hd 0 1) d) r : EReal))
    (h7 : ∀ d r, v7 (ix2 d r) = (D.q (row (hd 0 2) d) r : EReal)) (h9 : ∀ d r, v9 (ix2 d r) = (D.q (row (hd 0 3) d) r : EReal))
    (hG : Slabs 0 (sN D 0 0) (sN D 0 1) G) (ha : Inv4 0 (sN D 0) (wN D 0) a) (i : ℕ) (hi : i ≤ 3) :
    Inv4 (2048 * i) (sN D 0) (wN D 0) (st1 m v3 v5 v7 v9 c t G a i).1
      ∧ Slabs (2048 * i) (sN D 0 0) (sN D 0 1) (scM0_0.view.writes (Elt Ideal) G (st1 m v3 v5 v7 v9 c t G a i).2) := by
  induction i with
  | zero => exact ⟨ha, hG⟩
  | succ i ih =>
    obtain ⟨hI, hS⟩ := ih (by omega)
    have e := st_k0_t1_succ (F := Ideal) Variants.none c none (grid0.coords t) (ms0_0 t) (hs0_0 t) (ms0_1 t) (hs0_1 t) (ms0_2 t) (hs0_2 t) (ms0_3 t) (hs0_3 t) (ms0_4 t) (hs0_4 t) scM0_0 (Memref.isWhole_whole _)
      v3 v5 v7 v9 ((hs0_1 t).unread (iblk m c 1 t)) ((hs0_2 t).unread (iblk m c 2 t)) G a ⟨i, by exact hi⟩
    have eR := congrArg Prod.fst e
    have eL := congrArg Prod.snd e
    refine ⟨?_, ?_⟩
    · refine Eq.mpr (congrArg _ (eR.trans (trip1_R m v3 v5 v7 v9 c t ⟨i, hi⟩ _ _))) ?_
      exact step4_inv (2048 * i) _ _ _ hI _ _ _ _ _ (fun x r => (slab0_at _ x r).trans (hS.1 x r)) (fun x r => (slab1_at _ x r).trans (hS.2 x r))
        (scores_real D _ (by omega) 0 2 _ _ (kb1_real D H ⟨i, hi⟩ hi) (fun d r => (same_at _ d r).trans (h7 d r)))
        (scores_real D _ (by omega) 0 3 _ _ (kb1_real D H ⟨i, hi⟩ hi) (fun d r => (same_at _ d r).trans (h9 d r)))
        (vals_real D _ (by omega) 0 (vb1 m c t ⟨i, hi⟩) (vb1_real D H ⟨i, hi⟩ hi))
    · refine Eq.mpr (congrArg (fun L => Slabs _ _ _ (scM0_0.view.writes (Elt Ideal) G L)) (eL.trans (congrArg (· ++ _) (trip1_L m v3 v5 v7 v9 c t ⟨i, hi⟩ _ _)))) ?_
      exact slabs_of (2048 * i + 2048) _ _ _ _ _ _
        (fun x r => (slab_of _ x r).trans (scores_real D (2048 * i + 2048) (by omega) 0 0 _ _ (kn1_real D H ⟨i, hi⟩ hi) (fun d r => (same_at _ d r).trans (h3 d r)) x r))
        (fun x r => (slab_of _ x r).trans (scores_real D (2048 * i + 2048) (by omega) 0 1 _ _ (kn1_real D H ⟨i, hi⟩ hi) (fun d r => (same_at _ d r).trans (h5 d r)) x r))

/-- Loop 2, likewise, for heads 4 to 7. -/
theorem loop2 (G : BufTy.Contents (Elt Ideal) scM0_0.view.ty) (a : Carry)
    (h3 : ∀ d r, v3 (ix2 d r) = (D.q (row (hd 1 0) d) r : EReal)) (h5 : ∀ d r, v5 (ix2 d r) = (D.q (row (hd 1 1) d) r : EReal))
    (h7 : ∀ d r, v7 (ix2 d r) = (D.q (row (hd 1 2) d) r : EReal)) (h9 : ∀ d r, v9 (ix2 d r) = (D.q (row (hd 1 3) d) r : EReal))
    (hG : Slabs 0 (sN D 1 0) (sN D 1 1) G) (ha : Inv4 0 (sN D 1) (wN D 1) a) (i : ℕ) (hi : i ≤ 3) :
    Inv4 (2048 * i) (sN D 1) (wN D 1) (st2 m v3 v5 v7 v9 c t G a i).1
      ∧ Slabs (2048 * i) (sN D 1 0) (sN D 1 1) (scM0_0.view.writes (Elt Ideal) G (st2 m v3 v5 v7 v9 c t G a i).2) := by
  induction i with
  | zero => exact ⟨ha, hG⟩
  | succ i ih =>
    obtain ⟨hI, hS⟩ := ih (by omega)
    have e := st_k0_t2_succ (F := Ideal) Variants.none c none (grid0.coords t) (ms0_0 t) (hs0_0 t) (ms0_1 t) (hs0_1 t) (ms0_2 t) (hs0_2 t) (ms0_3 t) (hs0_3 t) (ms0_4 t) (hs0_4 t) scM0_0 (Memref.isWhole_whole _)
      (k0_pay35 (F := Ideal)) v3 v5 v7 v9 ((hs0_1 t).unread (iblk m c 1 t)) ((hs0_2 t).unread (iblk m c 2 t)) G a ⟨i, by exact hi⟩
    have eR := congrArg Prod.fst e
    have eL := congrArg Prod.snd e
    refine ⟨?_, ?_⟩
    · refine Eq.mpr (congrArg _ (eR.trans (trip2_R m v3 v5 v7 v9 c t ⟨i, hi⟩ _ _))) ?_
      exact step4_inv (2048 * i) _ _ _ hI _ _ _ _ _ (fun x r => (slab0_at _ x r).trans (hS.1 x r)) (fun x r => (slab1_at _ x r).trans (hS.2 x r))
        (scores_real D _ (by omega) 1 2 _ _ (kb2_real D H ⟨i, hi⟩ hi) h7)
        (scores_real D _ (by omega) 1 3 _ _ (kb2_real D H ⟨i, hi⟩ hi) (fun d r => (same_at _ d r).trans (h9 d r)))
        (vals_real D _ (by omega) 1 (vb2 m c t ⟨i, hi⟩) (vb2_real D H ⟨i, hi⟩ hi))
    · refine Eq.mpr (congrArg (fun L => Slabs _ _ _ (scM0_0.view.writes (Elt Ideal) G L)) (eL.trans (congrArg (· ++ _) (trip2_L m v3 v5 v7 v9 c t ⟨i, hi⟩ _ _)))) ?_
      exact slabs_of (2048 * i + 2048) _ _ _ _ _ _
        (fun x r => (slab_of _ x r).trans (scores_real D (2048 * i + 2048) (by omega) 1 0 _ _ (kn2_real D H ⟨i, hi⟩ hi) h3 x r))
        (fun x r => (slab_of _ x r).trans (scores_real D (2048 * i + 2048) (by omega) 1 1 _ _ (kn2_real D H ⟨i, hi⟩ hi) h5 x r))

end Cert.FwdKIdeal.Final

end
-- ==== Proof.FwdOut.lean ====
/- Global attention forward at a grid point: the two output blocks from the heads' final sums. -/
module

public import proofs.«01_k».proof.Proof.FwdPoint

@[expose] public section

set_option maxRecDepth 16384

noncomputable section

open Idealize.ShloMosaic Idealize.ShloMosaic.TcCoe Idealize.SL.Sem
open Idealize.ShloMosaic.Pipeline (Dat)

namespace Cert.FwdKIdeal.Final

open Cert.FwdKIdeal Cert.FwdKIdeal.Gen Cert.Attn

/-- The row of sums of weights. -/
def wsum (A : FVec Ideal S80x512 .f32) : FVec Ideal S1x512 .f32 := extractStridedSlice S1x512 ![64, 0] A slices_S80x512_o64_0_S1x512

/-- A head's output rows: the weighted sums over the sum of weights. -/
def rowsOf (A : FVec Ideal S80x512 .f32) : FVec Ideal S512x64 .f32 :=
  transpose S512x64 [1, 0] (divf (extractStridedSlice S64x512 ![0, 0] A slices_S80x512_o0_0_S64x512) (broadcastTo S64x512 (wsum A) broadcasts_S1x512_S64x512)) transposes_S64x512_p1_0_S512x64

/-- Four heads' output rows side by side. -/
def rows4 (a : Carry) : FVec Ideal S512x256 .bf16 :=
  truncf .bf16 (concatenate S512x256 1 [⟨S512x64, rowsOf a.2.1⟩, ⟨S512x64, rowsOf a.2.2.2.1⟩, ⟨S512x64, rowsOf a.2.2.2.2.2.1⟩, ⟨S512x64, rowsOf a.2.2.2.2.2.2.2⟩] concatenates_S512x64_S512x64_S512x64_S512x64_S512x256_d1) bitsLt_bf16_f32

/-- A head's log-sums to base two. -/
def lsOf (M : FVec Ideal S1x512 .f32) (A : FVec Ideal S80x512 .f32) : FVec Ideal S1x512 .f32 :=
  addf M (mulf (log (wsum A)) (broadcast S1x512 (Named.named (F := Ideal) κ "log2e" 0x3FB8AA3B#32)))

/-- Row `h` of a block of eight replaced. -/
def put (h : BitVec 32) (L : FVec Ideal S1x512 .f32) (B : FVec Ideal S8x512 .f32) : FVec Ideal S8x512 .f32 :=
  select (cmpi .eq (iota .tc S8x512 32 [0] iota_S8x512_d0_w32) (broadcast S8x512 h)) (broadcastTo S8x512 (shapeCast S1x512 L shapeCasts_S1x512_S1x512) broadcasts_S1x512_S8x512) B

/-- The eight heads' log-sums, one row each. -/
def ls8 (a b : Carry) : FVec Ideal S8x512 .f32 :=
  put 7#32 (lsOf b.2.2.2.2.2.2.1 b.2.2.2.2.2.2.2) (put 6#32 (lsOf b.2.2.2.2.1 b.2.2.2.2.2.1) (put 5#32 (lsOf b.2.2.1 b.2.2.2.1) (put 4#32 (lsOf b.1 b.2.1)
    (put 3#32 (lsOf a.2.2.2.2.2.2.1 a.2.2.2.2.2.2.2) (put 2#32 (lsOf a.2.2.2.2.1 a.2.2.2.2.2.1) (put 1#32 (lsOf a.2.2.1 a.2.2.2.1) (put 0#32 (lsOf a.1 a.2.1) (k0_pay34 (F := Ideal)))))))))

theorem rowsOf_at (A : FVec Ideal S80x512 .f32) (r : Fin 512) (d : Fin 64) :
    rowsOf A (ix2 r d) = Ideal.div (A (ix2 ⟨d.val, by omega⟩ r)) (A (ix2 64 r)) := by
  pointwise [rowsOf, wsum]

theorem lsOf_at (M : FVec Ideal S1x512 .f32) (A : FVec Ideal S80x512 .f32) (r : Fin 512) :
    lsOf M A (ix2 0 r) = M (ix2 0 r) + Ideal.log (A (ix2 64 r)) * (((Real.log 2)⁻¹ : ℝ) : EReal) := by
  pointwise [lsOf, wsum]
  rfl

theorem same_word : ∀ a b : Fin 8, (BitVec.ofBool (BitVec.ofNat 32 a.val == BitVec.ofNat 32 b.val) = 1) ↔ a.val = b.val := by
  decide +kernel

theorem put_at (n : ℕ) (hn : n < 8) (L : FVec Ideal S1x512 .f32) (B : FVec Ideal S8x512 .f32) (h : Fin 8) (r : Fin 512) :
    put (BitVec.ofNat 32 n) L B (ix2 h r) = if h.val = n then L (ix2 0 r) else B (ix2 h r) := by
  pointwise [put]
  simp only [IntOp.cmpi, Scalar.select]
  exact if_congr (same_word h ⟨n, hn⟩) rfl rfl

theorem rows4_at (a : Carry) (r : Fin 512) (g : Fin 4) (d : Fin 64) :
    rows4 a (ix2 r ⟨64 * g.val + d.val, by omega⟩) = rowsOf (![a.2.1, a.2.2.2.1, a.2.2.2.2.2.1, a.2.2.2.2.2.2.2] g) (ix2 r d) := by
  fin_cases g <;> pointwise [rows4]
  · rw [dif_neg (by omega), dif_neg (by omega), dif_pos (by omega)]
    exact congrArg (fun y => rowsOf _ (ix2 r y)) (Fin.ext (by dsimp only; omega))
  · rw [dif_neg (by omega), dif_neg (by omega), dif_neg (by omega)]
    exact congrArg (fun y => rowsOf _ (ix2 r y)) (Fin.ext (by dsimp only; omega))

variable (m : (ℓ : Loc nD τ sig) → Buf (Elt Ideal) ℓ)

/-- Head `h`'s queries at a point, and the first and last key blocks. -/
abbrev qr (c : Dev nD) (t : Fin cfg0.N) (o : ℕ) (inb : ∀ a, (![o, 0] : Fin 2 → ℕ) a + S64x512.size a ≤ S512x512.size a) : FVec Ideal S64x512 .bf16 :=
  View.ld (iblk m c 0 t) (Rect.unit (s := S512x512) ![o, 0] S64x512.size inb)
abbrev q0 (c : Dev nD) (t : Fin cfg0.N) := qr m c t 0 inb_S512x512_S64x512_0_0
abbrev q1 (c : Dev nD) (t : Fin cfg0.N) := qr m c t 64 inb_S512x512_S64x512_64_0
abbrev q2 (c : Dev nD) (t : Fin cfg0.N) := qr m c t 128 inb_S512x512_S64x512_128_0
abbrev q3 (c : Dev nD) (t : Fin cfg0.N) := qr m c t 192 inb_S512x512_S64x512_192_0
abbrev q4 (c : Dev nD) (t : Fin cfg0.N) := shapeCast S64x512 (qr m c t 256 inb_S512x512_S64x512_256_0) shapeCasts_S64x512_S64x512
abbrev q5 (c : Dev nD) (t : Fin cfg0.N) := shapeCast S64x512 (qr m c t 320 inb_S512x512_S64x512_320_0) shapeCasts_S64x512_S64x512
abbrev q6 (c : Dev nD) (t : Fin cfg0.N) := shapeCast S64x512 (qr m c t 384 inb_S512x512_S64x512_384_0) shapeCasts_S64x512_S64x512
abbrev q7 (c : Dev nD) (t : Fin cfg0.N) := qr m c t 448 inb_S512x512_S64x512_448_0
abbrev kf (c : Dev nD) (t : Fin cfg0.N) : FVec Ideal S2048x128 .bf16 := View.ld (iblk m c 1 t) (Rect.unit (s := S8192x128) ![0, 0] S2048x128.size inb_S8192x128_S2048x128_0_0)
abbrev kl (c : Dev nD) (t : Fin cfg0.N) : FVec Ideal S2048x128 .bf16 := View.ld (iblk m c 1 t) (Rect.unit (s := S8192x128) ![6144, 0] S2048x128.size inb_S8192x128_S2048x128_6144_0)
abbrev vl (c : Dev nD) (t : Fin cfg0.N) (j o : ℕ) (inb : ∀ a, (![j, o, 0] : Fin 3 → ℕ) a + S1x64x512.size a ≤ S16x128x512.size a) : FVec Ideal S64x512 .bf16 :=
  shapeCast S64x512 (show FVec Ideal S1x64x512 .bf16 from View.ld (iblk m c 2 t) (Rect.unit (s := S16x128x512) ![j, o, 0] S1x64x512.size inb)) shapeCasts_S1x64x512_S64x512

/-- The scores of the first key block, written before the loops; what the loops leave in the scratch buffer. -/
def pre1 (c : Dev nD) (t : Fin cfg0.N) : List (View.Piece (Elt Ideal) S2x2048x512 .f32) :=
  [⟨Rect.unit ![1, 0, 0] S1x2048x512.size inb_S2x2048x512_S1x2048x512_1_0_0, shapeCast S1x2048x512 (scores (k0_pay4 (F := Ideal) (kf m c t)) (shapeCast S64x512 (q1 m c t) shapeCasts_S64x512_S64x512)) shapeCasts_S2048x512_S1x2048x512⟩,
   ⟨Rect.unit ![0, 0, 0] S1x2048x512.size inb_S2x2048x512_S1x2048x512_0_0_0, shapeCast S1x2048x512 (scores (k0_pay4 (F := Ideal) (kf m c t)) (shapeCast S64x512 (q0 m c t) shapeCasts_S64x512_S64x512)) shapeCasts_S2048x512_S1x2048x512⟩]
/-- What the loops start from. -/
def zero4 : Carry := (k0_pay43 (F := Ideal), k0_pay44 (F := Ideal), k0_pay43 (F := Ideal), k0_pay44 (F := Ideal), k0_pay43 (F := Ideal), k0_pay44 (F := Ideal), k0_pay43 (F := Ideal), k0_pay44 (F := Ideal))
def G1 (c : Dev nD) (t : Fin cfg0.N) : BufTy.Contents (Elt Ideal) scM0_0.view.ty := scM0_0.view.writes (Elt Ideal) scM0_0.view.junk (pre1 m c t)
def mid1 (c : Dev nD) (t : Fin cfg0.N) := st1 m (q0 m c t) (q1 m c t) (q2 m c t) (q3 m c t) c t (G1 m c t) zero4 (Scf.trips (0#32) (Scalar.addi 0#32 3#32) 1#32)
def post1 (c : Dev nD) (t : Fin cfg0.N) : List (View.Piece (Elt Ideal) S2x2048x512 .f32) := (mid1 m c t).2 ++ pre1 m c t
def F1 (c : Dev nD) (t : Fin cfg0.N) : BufTy.Contents (Elt Ideal) scM0_0.view.ty := scM0_0.view.writes (Elt Ideal) scM0_0.view.junk (post1 m c t)
def fin1 (c : Dev nD) (t : Fin cfg0.N) : Carry :=
  step4 (slab0 (F1 m c t)) (slab1 (F1 m c t)) (scores (k0_pay4 (F := Ideal) (kl m c t)) (shapeCast S64x512 (q2 m c t) shapeCasts_S64x512_S64x512)) (scores (k0_pay4 (F := Ideal) (kl m c t)) (shapeCast S64x512 (q3 m c t) shapeCasts_S64x512_S64x512))
    (vals (k0_pay35 (F := Ideal)) (vl m c t 12 0 inb_S16x128x512_S1x64x512_12_0_0) (vl m c t 13 0 inb_S16x128x512_S1x64x512_13_0_0) (vl m c t 14 0 inb_S16x128x512_S1x64x512_14_0_0) (vl m c t 15 0 inb_S16x128x512_S1x64x512_15_0_0)) (mid1 m c t).1

def pre2 (c : Dev nD) (t : Fin cfg0.N) : List (View.Piece (Elt Ideal) S2x2048x512 .f32) :=
  ⟨Rect.unit ![1, 0, 0] S1x2048x512.size inb_S2x2048x512_S1x2048x512_1_0_0, shapeCast S1x2048x512 (scores (k0_pay19 (F := Ideal) (kf m c t)) (q5 m c t)) shapeCasts_S2048x512_S1x2048x512⟩ ::
   ⟨Rect.unit ![0, 0, 0] S1x2048x512.size inb_S2x2048x512_S1x2048x512_0_0_0, shapeCast S1x2048x512 (scores (k0_pay19 (F := Ideal) (kf m c t)) (q4 m c t)) shapeCasts_S2048x512_S1x2048x512⟩ :: post1 m c t
def G2 (c : Dev nD) (t : Fin cfg0.N) : BufTy.Contents (Elt Ideal) scM0_0.view.ty := scM0_0.view.writes (Elt Ideal) scM0_0.view.junk (pre2 m c t)
def mid2 (c : Dev nD) (t : Fin cfg0.N) := st2 m (q4 m c t) (q5 m c t) (q6 m c t) (q7 m c t) c t (G2 m c t) zero4 (Scf.trips (0#32) (Scalar.addi 0#32 3#32) 1#32)
def F2 (c : Dev nD) (t : Fin cfg0.N) : BufTy.Contents (Elt Ideal) scM0_0.view.ty := scM0_0.view.writes (Elt Ideal) scM0_0.view.junk ((mid2 m c t).2 ++ pre2 m c t)
def fin2 (c : Dev nD) (t : Fin cfg0.N) : Carry :=
  step4 (slab0 (F2 m c t)) (slab1 (F2 m c t)) (scores (k0_pay19 (F := Ideal) (kl m c t)) (q6 m c t)) (scores (k0_pay19 (F := Ideal) (kl m c t)) (shapeCast S64x512 (q7 m c t) shapeCasts_S64x512_S64x512))
    (vals (k0_pay35 (F := Ideal)) (vl m c t 12 64 inb_S16x128x512_S1x64x512_12_64_0) (vl m c t 13 64 inb_S16x128x512_S1x64x512_13_64_0) (vl m c t 14 64 inb_S16x128x512_S1x64x512_14_64_0) (vl m c t 15 64 inb_S16x128x512_S1x64x512_15_64_0)) (mid2 m c t).1

theorem out3 (c : Dev nD) (t : Fin cfg0.N) : (outsAt0 m c t).1 = View.canon
    [(⟨Rect.unit (s := S512x512) ![0, 256] S512x256.size inb_S512x512_S512x256_0_256, rows4 (fin2 m c t)⟩ : View.Piece (Elt Ideal) S512x512 .bf16),
     ⟨Rect.unit (s := S512x512) ![0, 0] S512x256.size inb_S512x512_S512x256_0_0, rows4 (fin1 m c t)⟩] := by
  unfold outsAt0
  frame_out
  rfl

theorem out4 (c : Dev nD) (t : Fin cfg0.N) : (outsAt0 m c t).2 = ls8 (fin1 m c t) (fin2 m c t) := by
  unfold outsAt0
  frame_out
  rfl

end Cert.FwdKIdeal.Final

end
-- ==== Proof.FwdSums.lean ====
/- Global attention forward at a grid point: the two output blocks are the softmax-weighted values and the log-sums of the scores. -/
module

public import proofs.«01_k».proof.Proof.FwdOut

@[expose] public section

set_option maxRecDepth 16384

noncomputable section

open Idealize.ShloMosaic Idealize.ShloMosaic.TcCoe Idealize.SL.Sem
open Idealize.ShloMosaic.Pipeline (Dat)

namespace Cert.FwdKIdeal.Final

open Cert.FwdKIdeal Cert.FwdKIdeal.Gen Cert.Attn

theorem low_word : ∃ M : ℝ, Ideal.ofBits .f32 0xF149F2CA#32 = (M : EReal) := by
  simp [Ideal.ofBits, Ideal.ieee]
  exact ⟨-(13234890 * 2 ^ 76), by rw [EReal.coe_neg, EReal.coe_mul, EReal.coe_pow]⟩

theorem zero4_inv (s : Fin 4 → Fin 512 → ℕ → ℝ) (w : Fin 80 → ℕ → ℝ) : Inv4 0 s w zero4 := by
  obtain ⟨M, hM⟩ := low_word
  have hm : ∀ r, k0_pay43 (F := Ideal) (ix2 0 r) = (M : EReal) := fun r => hM
  have ha : ∀ (e : Fin 80) (r : Fin 512), k0_pay44 (F := Ideal) (ix2 e r) = 0 := fun e r => by pointwise [k0_pay44]
  exact ⟨inv_zero _ w _ _ M hm ha, inv_zero _ w _ _ M hm ha, inv_zero _ w _ _ M hm ha, inv_zero _ w _ _ M hm ha⟩

/-- Slices of the three input blocks. -/
theorem ld_q (X : FVec Ideal S512x512 .bf16) (h : Fin 8) (o : ℕ) (ho : o = 64 * h.val) (inb : ∀ a, (![o, 0] : Fin 2 → ℕ) a + S64x512.size a ≤ S512x512.size a) (d : Fin 64) (r : Fin 512) :
    (show FVec Ideal S64x512 .bf16 from View.ld (Val := Elt Ideal) (e' := .bf16) X (Rect.unit (s := S512x512) ![o, 0] S64x512.size inb)) (ix2 d r) = X (ix2 (row h d) r) := by
  subst ho
  refine Rl.ld_at (Val := Elt Ideal) (e := .bf16) inb X (ix2 d r) (ix2 (row h d) r) ?_
  intro a; fin_cases a
  exacts [rfl, (Nat.zero_add _).symm]

theorem ld_k (X : FVec Ideal S8192x128 .bf16) (n : ℕ) (hn : n + 2048 ≤ 8192) (inb : ∀ a, (![n, 0] : Fin 2 → ℕ) a + S2048x128.size a ≤ S8192x128.size a) (x : Fin 2048) (b : Fin 128) :
    (show FVec Ideal S2048x128 .bf16 from View.ld (Val := Elt Ideal) (e' := .bf16) X (Rect.unit (s := S8192x128) ![n, 0] S2048x128.size inb)) (ix2 x b) = X (ix2 ⟨n + x.val, by omega⟩ b) := by
  refine Rl.ld_at (Val := Elt Ideal) (e := .bf16) inb X (ix2 x b) (ix2 (⟨n + x.val, by omega⟩ : Fin 8192) b) ?_
  intro a; fin_cases a
  exacts [rfl, (Nat.zero_add _).symm]

theorem ld_v (X : FVec Ideal S16x128x512 .bf16) (j : Fin 16) (kv : Fin 2) (o : ℕ) (ho : o = 64 * kv.val) (inb : ∀ a, (![j.val, o, 0] : Fin 3 → ℕ) a + S1x64x512.size a ≤ S16x128x512.size a) (d : Fin 64) (x : Fin 512) :
    (show FVec Ideal S1x64x512 .bf16 from View.ld (Val := Elt Ideal) (e' := .bf16) X (Rect.unit (s := S16x128x512) ![j.val, o, 0] S1x64x512.size inb)) (ix3 (0 : Fin 1) d x) = X (ix3 j (krow kv d) x) := by
  subst ho
  refine Rl.ld_at (Val := Elt Ideal) (e := .bf16) inb X (ix3 (0 : Fin 1) d x) (ix3 j (krow kv d) x) ?_
  intro a; fin_cases a
  exacts [rfl, rfl, (Nat.zero_add _).symm]

variable {D : Nums} {m : (ℓ : Loc nD τ sig) → Buf (Elt Ideal) ℓ} {c : Dev nD} {t : Fin cfg0.N} (H : Holds D m c t)
include H

theorem qr_real (h : Fin 8) (o : ℕ) (ho : o = 64 * h.val) (inb : ∀ a, (![o, 0] : Fin 2 → ℕ) a + S64x512.size a ≤ S512x512.size a) (d : Fin 64) (r : Fin 512) :
    qr m c t o inb (ix2 d r) = (D.q (row h d) r : EReal) :=
  (ld_q (X0 m c t) h o ho inb d r).trans (H.q _ _)

theorem keys_real (n : ℕ) (hn : n + 2048 ≤ 8192) (inb : ∀ a, (![n, 0] : Fin 2 → ℕ) a + S2048x128.size a ≤ S8192x128.size a) (x : Fin 2048) (b : Fin 128) :
    (show FVec Ideal S2048x128 .bf16 from View.ld (iblk m c 1 t) (Rect.unit (s := S8192x128) ![n, 0] S2048x128.size inb)) (ix2 x b) = (D.k ⟨n + x.val, by omega⟩ b : EReal) :=
  (ld_k (X1 m c t) n hn inb x b).trans (H.k _ _)

theorem keys0 (n : ℕ) (hn : n + 2048 ≤ 8192) (inb : ∀ a, (![n, 0] : Fin 2 → ℕ) a + S2048x128.size a ≤ S8192x128.size a) (x : Fin 2048) (d : Fin 64) :
    k0_pay4 (F := Ideal) (View.ld (iblk m c 1 t) (Rect.unit (s := S8192x128) ![n, 0] S2048x128.size inb)) (ix2 x d) = (D.k ⟨n + x.val, by omega⟩ (krow 0 d) : EReal) :=
  (half0_at _ x d).trans ((keys_real H n hn inb x _).trans (congrArg (fun b => (D.k _ b : EReal)) (Fin.ext (Nat.zero_add _).symm)))
theorem keys1 (n : ℕ) (hn : n + 2048 ≤ 8192) (inb : ∀ a, (![n, 0] : Fin 2 → ℕ) a + S2048x128.size a ≤ S8192x128.size a) (x : Fin 2048) (d : Fin 64) :
    k0_pay19 (F := Ideal) (View.ld (iblk m c 1 t) (Rect.unit (s := S8192x128) ![n, 0] S2048x128.size inb)) (ix2 x d) = (D.k ⟨n + x.val, by omega⟩ (krow 1 d) : EReal) :=
  (half1_at _ x d).trans (keys_real H n hn inb x _)

theorem vl_real (kv : Fin 2) (i : Fin 4) (j o : ℕ) (hj : j = 12 + i.val) (ho : o = 64 * kv.val) (inb : ∀ a, (![j, o, 0] : Fin 3 → ℕ) a + S1x64x512.size a ≤ S16x128x512.size a) (d : Fin 64) (x : Fin 512) :
    vl m c t j o inb (ix2 d x) = (D.v (krow kv d) ⟨6144 + (512 * i.val + x.val), by omega⟩ : EReal) := by
  subst hj
  exact slab_real D H ⟨12 + i.val, by omega⟩ kv 6144 i (by omega) (by dsimp only; omega) _ (fun d x => ld_v (X2 m c t) ⟨12 + i.val, by omega⟩ kv o ho inb d x) d x

/-- The last block's values. -/
theorem last_vals (kv : Fin 2) (o : ℕ) (ho : o = 64 * kv.val) (i0 i1 i2 i3) (e : Fin 80) (x : Fin 2048) :
    vals (k0_pay35 (F := Ideal)) (vl m c t 12 o i0) (vl m c t 13 o i1) (vl m c t 14 o i2) (vl m c t 15 o i3) (ix2 e x) = (wN D kv e (6144 + x.val) : EReal) := by
  refine vals_real D 6144 (by omega) kv ![vl m c t 12 o i0, vl m c t 13 o i1, vl m c t 14 o i2, vl m c t 15 o i3] (fun i d x => ?_) e x
  fin_cases i
  exacts [vl_real H kv 0 12 o rfl ho i0 d x, vl_real H kv 1 13 o rfl ho i1 d x, vl_real H kv 2 14 o rfl ho i2 d x, vl_real H kv 3 15 o rfl ho i3 d x]

theorem q_real0 (g : Fin 4) (o : ℕ) (ho : o = 64 * g.val) (inb) (d : Fin 64) (r : Fin 512) : qr m c t o inb (ix2 d r) = (D.q (row (hd 0 g) d) r : EReal) :=
  qr_real H (hd 0 g) o (by rw [ho]; show 64 * g.val = 64 * (4 * 0 + g.val); omega) inb d r
theorem q_real1 (g : Fin 4) (o : ℕ) (ho : o = 256 + 64 * g.val) (inb) (d : Fin 64) (r : Fin 512) : qr m c t o inb (ix2 d r) = (D.q (row (hd 1 g) d) r : EReal) :=
  qr_real H (hd 1 g) o (by rw [ho]; show 256 + 64 * g.val = 64 * (4 * 1 + g.val); omega) inb d r

/-- After the first loop. -/
theorem mid1_real : Inv4 6144 (sN D 0) (wN D 0) (mid1 m c t).1 ∧ Slabs 6144 (sN D 0 0) (sN D 0 1) (F1 m c t) := by
  have hG : Slabs 0 (sN D 0 0) (sN D 0 1) (G1 m c t) :=
    slabs_of 0 _ _ _ _ _ _
      (fun x r => (slab_of _ x r).trans (scores_real D 0 (by omega) 0 0 _ _ (keys0 H 0 (by omega) _) (fun d r => (same_at _ d r).trans (q_real0 H 0 0 rfl _ d r)) x r))
      (fun x r => (slab_of _ x r).trans (scores_real D 0 (by omega) 0 1 _ _ (keys0 H 0 (by omega) _) (fun d r => (same_at _ d r).trans (q_real0 H 1 64 rfl _ d r)) x r))
  obtain ⟨h1, h2⟩ := loop1 D H (q0 m c t) (q1 m c t) (q2 m c t) (q3 m c t) (G1 m c t) zero4 (q_real0 H 0 0 rfl _) (q_real0 H 1 64 rfl _) (q_real0 H 2 128 rfl _) (q_real0 H 3 192 rfl _)
    hG (zero4_inv _ _) 3 le_rfl
  refine ⟨h1, ?_⟩
  have e : F1 m c t = scM0_0.view.writes (Elt Ideal) (G1 m c t) (mid1 m c t).2 := View.writes_append _ _ _ _
  rw [e]
  exact h2

theorem fin1_real : Inv4 8192 (sN D 0) (wN D 0) (fin1 m c t) := by
  obtain ⟨hI, hS⟩ := mid1_real H
  exact step4_inv 6144 _ _ _ hI _ _ _ _ _ (fun x r => (slab0_at _ x r).trans (hS.1 x r)) (fun x r => (slab1_at _ x r).trans (hS.2 x r))
    (scores_real D 6144 (by omega) 0 2 _ _ (keys0 H 6144 (by omega) _) (fun d r => (same_at _ d r).trans (q_real0 H 2 128 rfl _ d r)))
    (scores_real D 6144 (by omega) 0 3 _ _ (keys0 H 6144 (by omega) _) (fun d r => (same_at _ d r).trans (q_real0 H 3 192 rfl _ d r)))
    (last_vals H 0 0 rfl _ _ _ _)

/-- After the second loop. -/
theorem mid2_real : Inv4 6144 (sN D 1) (wN D 1) (mid2 m c t).1 ∧ Slabs 6144 (sN D 1 0) (sN D 1 1) (F2 m c t) := by
  have hG : Slabs 0 (sN D 1 0) (sN D 1 1) (G2 m c t) :=
    slabs_of 0 _ _ _ _ _ _
      (fun x r => (slab_of _ x r).trans (scores_real D 0 (by omega) 1 0 _ _ (keys1 H 0 (by omega) _) (fun d r => (same_at _ d r).trans (q_real1 H 0 256 rfl _ d r)) x r))
      (fun x r => (slab_of _ x r).trans (scores_real D 0 (by omega) 1 1 _ _ (keys1 H 0 (by omega) _) (fun d r => (same_at _ d r).trans (q_real1 H 1 320 rfl _ d r)) x r))
  obtain ⟨h1, h2⟩ := loop2 D H (q4 m c t) (q5 m c t) (q6 m c t) (q7 m c t) (G2 m c t) zero4 (fun d r => (same_at _ d r).trans (q_real1 H 0 256 rfl _ d r)) (fun d r => (same_at _ d r).trans (q_real1 H 1 320 rfl _ d r))
    (fun d r => (same_at _ d r).trans (q_real1 H 2 384 rfl _ d r)) (q_real1 H 3 448 rfl _) hG (zero4_inv _ _) 3 le_rfl
  refine ⟨h1, ?_⟩
  have e : F2 m c t = scM0_0.view.writes (Elt Ideal) (G2 m c t) (mid2 m c t).2 := View.writes_append _ _ _ _
  rw [e]
  exact h2

theorem fin2_real : Inv4 8192 (sN D 1) (wN D 1) (fin2 m c t) := by
  obtain ⟨hI, hS⟩ := mid2_real H
  exact step4_inv 6144 _ _ _ hI _ _ _ _ _ (fun x r => (slab0_at _ x r).trans (hS.1 x r)) (fun x r => (slab1_at _ x r).trans (hS.2 x r))
    (scores_real D 6144 (by omega) 1 2 _ _ (keys1 H 6144 (by omega) _) (fun d r => (same_at _ d r).trans (q_real1 H 2 384 rfl _ d r)))
    (scores_real D 6144 (by omega) 1 3 _ _ (keys1 H 6144 (by omega) _) (fun d r => (same_at _ d r).trans (q_real1 H 3 448 rfl _ d r)))
    (last_vals H 1 64 rfl _ _ _ _)

omit H

/-- A head's output and log-sum, from its scores to base two. -/
def oN (D : Nums) (kv : Fin 2) (g : Fin 4) (r : Fin 512) (d : Fin 64) : ℝ :=
  (∑ x : Fin 8192, D.v (krow kv d) x * (2 : ℝ) ^ (sN D kv g r x.val)) / ∑ x : Fin 8192, (2 : ℝ) ^ (sN D kv g r x.val)
def lN (D : Nums) (kv : Fin 2) (g : Fin 4) (r : Fin 512) : ℝ := Real.log (∑ x : Fin 8192, (2 : ℝ) ^ (sN D kv g r x.val)) * (Real.log 2)⁻¹

section Head

variable {kv : Fin 2} {g : Fin 4} {mo : FVec Ideal S1x512 .f32} {acc : FVec Ideal S80x512 .f32}

/-- The sums of a head, with the running maximum taken out. -/
theorem head_sums (h : Inv 8192 (sN D kv g) (wN D kv) mo acc) (r : Fin 512) : ∃ M : ℝ, mo (ix2 0 r) = (M : EReal)
    ∧ acc (ix2 64 r) = (((2 : ℝ) ^ (-M) * ∑ x : Fin 8192, (2 : ℝ) ^ (sN D kv g r x.val) : ℝ) : EReal)
    ∧ ∀ d : Fin 64, acc (ix2 ⟨d.val, by omega⟩ r) = (((2 : ℝ) ^ (-M) * ∑ x : Fin 8192, D.v (krow kv d) x * (2 : ℝ) ^ (sN D kv g r x.val) : ℝ) : EReal) := by
  obtain ⟨M, hM⟩ := h
  refine ⟨M r, (hM r).1, ((hM r).2 64).trans (congrArg Real.toEReal ?_), fun d => ((hM r).2 _).trans (congrArg Real.toEReal ?_)⟩
  · rw [Finset.sum_range, Finset.mul_sum]
    refine Finset.sum_congr rfl fun x _ => ?_
    rw [wN, dif_pos x.isLt, dif_neg (by decide), one_mul, sub_eq_neg_add, Real.rpow_add (by norm_num)]
  · rw [Finset.sum_range, Finset.mul_sum]
    refine Finset.sum_congr rfl fun x _ => ?_
    rw [wN, dif_pos x.isLt, dif_pos d.isLt, sub_eq_neg_add, Real.rpow_add (by norm_num)]
    exact mul_left_comm _ _ _

theorem sum_pos (r : Fin 512) : 0 < ∑ x : Fin 8192, (2 : ℝ) ^ (sN D kv g r x.val) :=
  Finset.sum_pos (fun _ _ => Real.rpow_pos_of_pos (by norm_num) _) ⟨0, Finset.mem_univ _⟩

theorem head_out (h : Inv 8192 (sN D kv g) (wN D kv) mo acc) (r : Fin 512) (d : Fin 64) : rowsOf acc (ix2 r d) = (oN D kv g r d : EReal) := by
  obtain ⟨M, h0, h1, h2⟩ := head_sums h r
  have hp : (0 : ℝ) < (2 : ℝ) ^ (-M) := Real.rpow_pos_of_pos (by norm_num) _
  rw [rowsOf_at, h1, h2, Rl.div_real _ _ (mul_pos hp (sum_pos r)).ne', mul_div_mul_left _ _ hp.ne', oN]

theorem head_log (h : Inv 8192 (sN D kv g) (wN D kv) mo acc) (r : Fin 512) : lsOf mo acc (ix2 0 r) = (lN D kv g r : EReal) := by
  obtain ⟨M, h0, h1, h2⟩ := head_sums h r
  have hp : (0 : ℝ) < (2 : ℝ) ^ (-M) := Real.rpow_pos_of_pos (by norm_num) _
  rw [lsOf_at, h0, h1, Rl.log_real _ (mul_pos hp (sum_pos r)), ← EReal.coe_mul, ← EReal.coe_add, EReal.coe_eq_coe_iff,
    Real.log_mul hp.ne' (sum_pos r).ne', Real.log_rpow (by norm_num), lN]
  have := log_two_pos.ne'
  field_simp
  ring

end Head

theorem four_rows (kv : Fin 2) (a : Carry) (h : Inv4 8192 (sN D kv) (wN D kv) a) (r : Fin 512) (g : Fin 4) (d : Fin 64) :
    rows4 a (ix2 r ⟨64 * g.val + d.val, by omega⟩) = (oN D kv g r d : EReal) := by
  rw [rows4_at]
  fin_cases g
  exacts [head_out h.1 r d, head_out h.2.1 r d, head_out h.2.2.1 r d, head_out h.2.2.2 r d]

include H

/-- The first output block. -/
theorem out3_real (kv : Fin 2) (g : Fin 4) (r : Fin 512) (d : Fin 64) : (outsAt0 m c t).1 (ix2 r (row (hd kv g) d)) = (oN D kv g r d : EReal) := by
  rw [out3]
  fin_cases kv
  · refine (Rl.canon_not_mem _ _ _ _ 1 (.inl (by show 64 * (4 * 0 + g.val) + d.val < 256; omega))).trans
      ((Rl.canon_mem _ _ _ _ (ix2 r (⟨64 * g.val + d.val, by omega⟩ : Fin 256)) ?_).trans (four_rows 0 _ (fin1_real H) r g d))
    intro a; fin_cases a
    exacts [(Nat.zero_add _).symm, by show 64 * (4 * 0 + g.val) + d.val = 0 + (64 * g.val + d.val); omega]
  · refine (Rl.canon_mem _ _ _ _ (ix2 r (⟨64 * g.val + d.val, by omega⟩ : Fin 256)) ?_).trans (four_rows 1 _ (fin2_real H) r g d)
    intro a; fin_cases a
    exacts [(Nat.zero_add _).symm, by show 64 * (4 * 1 + g.val) + d.val = 256 + (64 * g.val + d.val); omega]

/-- The second. -/
theorem out4_real (kv : Fin 2) (g : Fin 4) (r : Fin 512) : (outsAt0 m c t).2 (ix2 (hd kv g) r) = (lN D kv g r : EReal) := by
  obtain ⟨a0, a1, a2, a3⟩ := fin1_real H
  obtain ⟨b0, b1, b2, b3⟩ := fin2_real H
  rw [out4, ls8]
  have e := fun (n : ℕ) (hn : n < 8) L B => put_at n hn L B (hd kv g) r
  rw [e 7 (by decide), e 6 (by decide), e 5 (by decide), e 4 (by decide), e 3 (by decide), e 2 (by decide), e 1 (by decide), e 0 (by decide)]
  fin_cases kv <;> fin_cases g
  exacts [head_log a0 r, head_log a1 r, head_log a2 r, head_log a3 r, head_log b0 r, head_log b1 r, head_log b2 r, head_log b3 r]

end Cert.FwdKIdeal.Final

end
-- ==== Proof.FwdRef.lean ====
/- Global attention's forward lines, read at an index: with real arguments the results are the softmax-weighted values and the log-sums of the scores. -/
module

public import proofs.«01_k».proof.Proof.Gen.FwdRIdeal.Run
public import proofs.«01_k».proof.Proof.Gen.FwdRIdeal.Read
public import proofs.«01_k».proof.Proof.AttnSpec

@[expose] public section

set_option maxRecDepth 16384

noncomputable section

open Idealize.ShloMosaic Idealize.ShloMosaic.TcCoe Idealize.SL.Sem

namespace Cert.FwdRIdeal.Final

open Cert.FwdRIdeal Cert.FwdRIdeal.Gen Cert.FwdRIdeal.Read Cert.Attn

/-- The two results over real numbers. -/
def o (a : Args) (r : Fin 8192) (kv : Fin 2) (g : Fin 4) (d : Fin 64) : ℝ := ∑ x, a.v x kv d * P a kv g r x
def ls (a : Args) (r : Fin 8192) (kv : Fin 2) (g : Fin 4) : ℝ := Real.log (∑ x, Real.exp (sc a kv g r x)) / Real.log 2

variable {x0 : FVec Ideal S1x8192x8x64 .f32} {x1 x2 : FVec Ideal S1x8192x2x64 .f32} {a : Args}

/-- The arguments are the real numbers `a`. -/
structure Reals (x0 : FVec Ideal S1x8192x8x64 .f32) (x1 x2 : FVec Ideal S1x8192x2x64 .f32) (a : Args) : Prop where
  q : ∀ r kv g d, x0 (ix4 0 r ⟨kv.val * 4 + g.val, by omega⟩ d) = (a.q r kv g d : EReal)
  k : ∀ x kv d, x1 (ix4 0 x kv d) = (a.k x kv d : EReal)
  v : ∀ x kv d, x2 (ix4 0 x kv d) = (a.v x kv d : EReal)

theorem over_keys (T : FVec Ideal S1x2x4x8192x8192 .f32) (v : FVec Ideal S_ .f32) (b : Fin 1) (kv : Fin 2) (g : Fin 4) (r : Fin 8192) :
    (Host.reduce FloatOps.maximumf T v reducesTo_S1x2x4x8192x8192_S1x2x4x8192_d4 h_S_) (ix4 b kv g r)
      = Finset.fold max (v (Shape.Idx.first h_S_)) (fun x => T (ix5 b kv g r x)) Finset.univ := by
  obtain rfl : b = 0 := Subsingleton.elim _ _
  pointwise

variable (H : Reals x0 x1 x2 a)
include H

theorem v4 (b : Fin 1) (kv : Fin 2) (g : Fin 4) (r x : Fin 8192) : val_main_v4 (F := Ideal) x0 x1 (ix5 b kv g r x) = (sc a kv g r x : EReal) := by
  refine Eq.trans (b := (∑ d, x1 (ix4 0 x kv d) * x0 (ix4 0 r ⟨kv.val * 4 + g.val, by omega⟩ d)) * Ideal.ofBits .f32 0x3E000000#32) ?_ ?_
  · pointwise [val_main_v4, val_main_v2, val_main_v1, val_main_v0, val_main_v3, val_main_cst]
  · simp only [H.q, H.k, eighth_word, ← EReal.coe_mul, ← Rl.coe_sum, sc, mul_comm (a.k x kv _)]

/-- The largest score of a row is a real number. -/
theorem v5 (kv : Fin 2) (g : Fin 4) (r : Fin 8192) : ∃ M : ℝ, val_main_v5 (F := Ideal) x0 x1 (ix4 0 kv g r) = (M : EReal) := by
  obtain ⟨M, hM⟩ := fold_max_real (Finset.univ : Finset (Fin 8192)) ⟨0, Finset.mem_univ _⟩ (sc a kv g r)
  refine ⟨M, (over_keys _ _ 0 kv g r).trans (Eq.trans ?_ hM)⟩
  exact congrArg₂ (fun c f => Finset.fold max c f Finset.univ) neg_inf_word (funext fun x => v4 H 0 kv g r x)

omit H in
theorem v11_eq (b : Fin 1) (kv : Fin 2) (g : Fin 4) (r x : Fin 8192) : val_main_v11 (F := Ideal) x0 x1 (ix5 b kv g r x)
    = Ideal.exp (val_main_v4 (F := Ideal) x0 x1 (ix5 b kv g r x) - max (Ideal.ofBits .f32 0xFF800000#32) (val_main_v5 (F := Ideal) x0 x1 (ix4 0 kv g r))) := by
  have e : idx_main_v8 (idx_main_v9 (ix5 b kv g r x)) = ix4 0 kv g r := by
    funext a
    fin_cases a <;> first | rfl | exact Subsingleton.elim (α := Fin 1) _ _
  rw [val_main_v11_apply, val_main_v10_apply, val_main_v9_apply, val_main_v8_apply, val_main_v7_apply, val_main_v6_apply, val_main_cst_1_apply, e]
  generalize val_main_v4 (F := Ideal) x0 x1 (ix5 b kv g r x) = A
  generalize val_main_v5 (F := Ideal) x0 x1 (ix4 0 kv g r) = B
  rfl

theorem v11 (kv : Fin 2) (g : Fin 4) (r : Fin 8192) : ∃ M : ℝ, ∀ b x, val_main_v11 (F := Ideal) x0 x1 (ix5 b kv g r x) = (Real.exp (sc a kv g r x - M) : EReal) := by
  obtain ⟨M, hM⟩ := v5 H kv g r
  refine ⟨M, fun b x => ?_⟩
  rw [v11_eq, v4 H, hM, neg_inf_word, max_eq_right bot_le, ← EReal.coe_sub, Rl.exp_real]

omit H in
theorem v15_eq (b : Fin 1) (kv : Fin 2) (g : Fin 4) (r x : Fin 8192) : val_main_v15 (F := Ideal) x0 x1 (ix5 b kv g r x)
    = Ideal.div (val_main_v11 (F := Ideal) x0 x1 (ix5 b kv g r x)) (∑ x, val_main_v11 (F := Ideal) x0 x1 (ix5 0 kv g r x)) := by
  generalize e : val_main_v11 (F := Ideal) x0 x1 = A
  pointwise [val_main_v15, val_main_v14, val_main_v13, val_main_v12, val_main_cst_2, e]

theorem v15 (b : Fin 1) (kv : Fin 2) (g : Fin 4) (r x : Fin 8192) : val_main_v15 (F := Ideal) x0 x1 (ix5 b kv g r x) = (P a kv g r x : EReal) := by
  obtain ⟨M, hM⟩ := v11 H kv g r
  rw [v15_eq]
  simp only [hM]
  rw [← Rl.coe_sum, Rl.div_real _ _ (sum_exp_pos (by omega) _).ne', P, softmax_shift]

/-- The first result. -/
theorem v23 (r : Fin 8192) (j : Fin 512) :
    val_main_v23 (F := Ideal) x0 x1 x2 (ix2 r j) = (o a r ⟨j.val / 64 / 4, by omega⟩ ⟨j.val / 64 % 4, by omega⟩ ⟨j.val % 64, by omega⟩ : EReal) := by
  refine Eq.trans (b := ∑ x : Fin 8192, x2 (ix4 0 x ⟨j.val / 64 / 4, by omega⟩ ⟨j.val % 64, by omega⟩)
    * val_main_v15 (F := Ideal) x0 x1 (ix5 0 ⟨j.val / 64 / 4, by omega⟩ ⟨j.val / 64 % 4, by omega⟩ r x)) ?_ ?_
  · generalize e : val_main_v15 (F := Ideal) x0 x1 = A
    pointwise [val_main_v23, val_main_v22, val_main_v18, val_main_v17, val_main_v16, e]
    simp only [Nat.div_div_eq_div_mul]
  · simp only [H.v, v15 H, ← EReal.coe_mul, ← Rl.coe_sum, o]

/-- The second. -/
theorem v27 (h : Fin 8) (r : Fin 8192) :
    val_main_v27 (F := Ideal) x0 x1 (ix2 h r) = (ls a r ⟨h.val / 4, by omega⟩ ⟨h.val % 4, by omega⟩ : EReal) := by
  refine Eq.trans (b := Ideal.div (Ideal.log (∑ x : Fin 8192, Ideal.exp (val_main_v4 (F := Ideal) x0 x1 (ix5 0 ⟨h.val / 4, by omega⟩ ⟨h.val % 4, by omega⟩ r x))))
    (Ideal.log (Ideal.ofBits .f32 0x40000000#32))) ?_ ?_
  · generalize e : val_main_v4 (F := Ideal) x0 x1 = A
    pointwise [val_main_v27, val_main_v26, val_main_v25, val_main_cst_4, val_main_v24, val_main_v21, val_main_v20, val_main_v19, val_main_cst_3, e]
  · simp only [v4 H, Rl.exp_real, ← Rl.coe_sum]
    rw [two_word, Rl.log_real (2 : ℝ) (by norm_num), Rl.log_real _ (sum_exp_pos (by omega) _), Rl.div_real _ _ log_two_pos.ne', ls]

end Cert.FwdRIdeal.Final

end
-- ==== Proof.FwdFinal.lean ====
/- Global attention forward: the kernel's two result arrays are the reference's results. -/
module

public import proofs.«01_k».proof.Proof.FwdSums
public import proofs.«01_k».proof.Proof.FwdRef

@[expose] public section

set_option maxRecDepth 16384

noncomputable section

open Idealize.ShloMosaic Idealize.ShloMosaic.TcCoe Idealize.SL.Sem
open Idealize.ShloMosaic.Pipeline (Dat)

namespace Cert.FwdKIdeal.Final

open Cert.FwdKIdeal Cert.FwdKIdeal.Gen Cert.Attn
open Cert.FwdRIdeal.Final (o ls Reals)

theorem idx : ∀ t : Fin cfg0.N, win0_0.index t = ![0, t.val] ∧ win0_1.index t = ![0, 0] ∧ win0_2.index t = ![0, 0, 0] ∧ win0_3.index t = ![t.val, 0] ∧ win0_4.index t = ![0, t.val] :=
  (by decide +kernel : ∀ t : Fin grid0.N, _)

/-- query row `r` of point `t` -/
def qrow (t : Fin cfg0.N) (r : Fin 512) : Fin 8192 := ⟨t.val * 512 + r.val, by have := lt_of_lt_of_eq t.isLt N_0; omega⟩

variable {m : (ℓ : Loc nD τ sig) → Buf (Elt Ideal) ℓ} {c : Dev nD} {t : Fin cfg0.N} {a : Args}

theorem b0 (i r : Fin 512) : X0 m c t (ix2 i r) = (show FVec Ideal S512x8192 .bf16 from Gen.V m c main_v6) (ix2 i (qrow t r)) := by blk_ext [iblk, qrow, idx t]
theorem b1 (x : Fin 8192) (b : Fin 128) : X1 m c t (ix2 x b) = (show FVec Ideal S8192x128 .bf16 from Gen.V m c main_v8) (ix2 x b) := by blk_ext [iblk, idx t]
theorem b2 (j : Fin 16) (b : Fin 128) (x : Fin 512) : X2 m c t (ix3 j b x) = (show FVec Ideal S16x128x512 .bf16 from Gen.V m c main_v12) (ix3 j b x) := by blk_ext [iblk, idx t]

/-- The scale of the queries: one eighth, to base two. -/
def qscale : ℝ := 1 / 8 / Real.log 2

variable (m c) in
abbrev Hyp (a : Args) : Prop := Reals (StableHlo.launchContents m c (Proc.devRef .tc main_arg0)) (StableHlo.launchContents m c (Proc.devRef .tc main_arg1)) (StableHlo.launchContents m c (Proc.devRef .tc main_arg2)) a

variable (H : Hyp m c a)
include H

theorem h6 (i : Fin 512) (r : Fin 8192) : (show FVec Ideal S512x8192 .bf16 from Gen.V m c main_v6) (ix2 i r)
    = ((a.q r ⟨i.val / 64 / 4, by omega⟩ ⟨i.val / 64 % 4, by omega⟩ ⟨i.val % 64, by omega⟩ * qscale : ℝ) : EReal) := by
  refine Eq.trans (b := (show FVec Ideal S1x8192x8x64 .f32 from StableHlo.launchContents m c (Proc.devRef .tc main_arg0)) (ix4 0 r ⟨i.val / 64 / 4 * 4 + i.val / 64 % 4, by omega⟩ ⟨i.val % 64, by omega⟩)
    * Ideal.div (Ideal.ofBits .f32 0x3E000000#32) (Ideal.log (Ideal.ofBits .f32 0x40000000#32))) ?_ ?_
  · dsimp only [Gen.V]
    after_reads_at
    exact congrArg (fun z => (show FVec Ideal S1x8192x8x64 .f32 from StableHlo.launchContents m c (Proc.devRef .tc main_arg0)) (ix4 0 r z ⟨i.val % 64, by omega⟩) * _) (Fin.ext (by dsimp only; omega))
  · rw [eighth_word, two_word, Rl.log_real _ (by norm_num), Rl.div_real _ _ log_two_pos.ne', EReal.coe_mul, qscale]
    exact congrArg (fun z : EReal => z * _) (H.q r ⟨i.val / 64 / 4, by omega⟩ ⟨i.val / 64 % 4, by omega⟩ ⟨i.val % 64, by omega⟩)

theorem h8 (x : Fin 8192) (b : Fin 128) : (show FVec Ideal S8192x128 .bf16 from Gen.V m c main_v8) (ix2 x b) = (a.k x ⟨b.val / 64, by omega⟩ ⟨b.val % 64, by omega⟩ : EReal) := by
  refine Eq.trans ?_ (H.k _ _ _)
  dsimp only [Gen.V]
  after_reads_at

theorem h12 (j : Fin 16) (b : Fin 128) (x : Fin 512) : (show FVec Ideal S16x128x512 .bf16 from Gen.V m c main_v12) (ix3 j b x)
    = (a.v ⟨512 * j.val + x.val, by omega⟩ ⟨b.val / 64, by omega⟩ ⟨b.val % 64, by omega⟩ : EReal) := by
  refine Eq.trans ?_ (H.v _ _ _)
  dsimp only [Gen.V]
  after_reads_at
  exact congrArg (fun z => (show FVec Ideal S1x8192x2x64 .f32 from StableHlo.launchContents m c (Proc.devRef .tc main_arg2)) (ix4 0 z ⟨b.val / 64, by omega⟩ ⟨b.val % 64, by omega⟩)) (Fin.ext (by dsimp only; omega))

omit H in
/-- A point's numbers. -/
def nums (a : Args) (t : Fin cfg0.N) : Nums where
  q := fun i r => a.q (qrow t r) ⟨i.val / 64 / 4, by omega⟩ ⟨i.val / 64 % 4, by omega⟩ ⟨i.val % 64, by omega⟩ * qscale
  k := fun x b => a.k x ⟨b.val / 64, by omega⟩ ⟨b.val % 64, by omega⟩
  v := fun b x => a.v x ⟨b.val / 64, by omega⟩ ⟨b.val % 64, by omega⟩

theorem holds : Holds (nums a t) m c t :=
  ⟨fun i r => (b0 i r).trans (h6 H i _), fun x b => (b1 x b).trans (h8 H x b), fun j b x => (b2 j b x).trans (h12 H j b x)⟩

omit H

theorem sN_eq (kv : Fin 2) (g : Fin 4) (r : Fin 512) (x : Fin 8192) : (2 : ℝ) ^ (sN (nums a t) kv g r x.val) = Real.exp (sc a kv g (qrow t r) x) := by
  have e : sN (nums a t) kv g r x.val = sc a kv g (qrow t r) x / Real.log 2 := by
    rw [sN, dif_pos x.isLt, sc, mul_div_assoc, Finset.sum_mul]
    refine Finset.sum_congr rfl fun d _ => ?_
    have e1 : (⟨(krow kv d).val / 64, by omega⟩ : Fin 2) = kv := Fin.ext (by show (64 * kv.val + d.val) / 64 = kv.val; omega)
    have e2 : (⟨(krow kv d).val % 64, by omega⟩ : Fin 64) = d := Fin.ext (by show (64 * kv.val + d.val) % 64 = d.val; omega)
    have e3 : (⟨(row (hd kv g) d).val / 64 / 4, by omega⟩ : Fin 2) = kv := Fin.ext (by show (64 * (4 * kv.val + g.val) + d.val) / 64 / 4 = kv.val; omega)
    have e4 : (⟨(row (hd kv g) d).val / 64 % 4, by omega⟩ : Fin 4) = g := Fin.ext (by show (64 * (4 * kv.val + g.val) + d.val) / 64 % 4 = g.val; omega)
    have e5 : (⟨(row (hd kv g) d).val % 64, by omega⟩ : Fin 64) = d := Fin.ext (by show (64 * (4 * kv.val + g.val) + d.val) % 64 = d.val; omega)
    show a.k x ⟨(krow kv d).val / 64, _⟩ ⟨(krow kv d).val % 64, _⟩ * (a.q (qrow t r) ⟨(row (hd kv g) d).val / 64 / 4, _⟩ ⟨(row (hd kv g) d).val / 64 % 4, _⟩ ⟨(row (hd kv g) d).val % 64, _⟩ * qscale) = _
    rw [e1, e2, e3, e4, e5, qscale]
    ring
  rw [e, Real.rpow_def_of_pos (by norm_num), mul_div_cancel₀ _ log_two_pos.ne']

theorem oN_eq (kv : Fin 2) (g : Fin 4) (r : Fin 512) (d : Fin 64) : oN (nums a t) kv g r d = o a (qrow t r) kv g d := by
  simp only [oN, o, sN_eq, Finset.sum_div, P]
  refine Finset.sum_congr rfl fun x _ => ?_
  have e1 : (⟨(krow kv d).val / 64, by omega⟩ : Fin 2) = kv := Fin.ext (by show (64 * kv.val + d.val) / 64 = kv.val; omega)
  have e2 : (⟨(krow kv d).val % 64, by omega⟩ : Fin 64) = d := Fin.ext (by show (64 * kv.val + d.val) % 64 = d.val; omega)
  show a.v x ⟨(krow kv d).val / 64, _⟩ ⟨(krow kv d).val % 64, _⟩ * _ / _ = _
  rw [e1, e2, mul_div_assoc]

theorem lN_eq (kv : Fin 2) (g : Fin 4) (r : Fin 512) : lN (nums a t) kv g r = ls a (qrow t r) kv g := by
  simp only [lN, ls, sN_eq, div_eq_mul_inv]

/-- The two results in the kernel's layouts. -/
def G3 (a : Args) : FVec Ideal S8192x512 .bf16 := fun y =>
  (o a (y 0) ⟨(y 1).val / 64 / 4, by idx_bounds y; omega⟩ ⟨(y 1).val / 64 % 4, by omega⟩ ⟨(y 1).val % 64, by omega⟩ : EReal)
def G4 (a : Args) : FVec Ideal S8x8192 .f32 := fun y => (ls a (y 1) ⟨(y 0).val / 4, by idx_bounds y; omega⟩ ⟨(y 0).val % 4, by omega⟩ : EReal)

theorem emb3 (t : Fin cfg0.N) (r i : Fin 512) : (win0_3.blk t).view.emb (ix2 r i) = (ix2 (qrow t r) i : S8192x512.Idx) := by blk_ext [qrow, idx t]
theorem emb4 (t : Fin cfg0.N) (h : Fin 8) (r : Fin 512) : (win0_4.blk t).view.emb (ix2 h r) = (ix2 h (qrow t r) : S8x8192.Idx) := by blk_ext [qrow, idx t]

include H

theorem blk3 (t : Fin cfg0.N) (y : S512x512.Idx) : (outsAt0 m c t).1 y = G3 a ((win0_3.blk t).view.emb y) := by
  idx_vars y
  rw [emb3]
  have e : y1 = row (hd ⟨y1.val / 64 / 4, by omega⟩ ⟨y1.val / 64 % 4, by omega⟩) ⟨y1.val % 64, by omega⟩ :=
    Fin.ext (by show y1.val = 64 * (4 * (y1.val / 64 / 4) + y1.val / 64 % 4) + y1.val % 64; omega)
  exact (congrArg (fun z => (outsAt0 m c t).1 (ix2 y0 z)) e).trans ((out3_real (holds H) _ _ y0 _).trans (congrArg Real.toEReal (oN_eq _ _ y0 _)))

theorem blk4 (t : Fin cfg0.N) (y : S8x512.Idx) : (outsAt0 m c t).2 y = G4 a ((win0_4.blk t).view.emb y) := by
  idx_vars y
  rw [emb4]
  have e : y0 = hd ⟨y0.val / 4, by omega⟩ ⟨y0.val % 4, by omega⟩ := Fin.ext (by show y0.val = 4 * (y0.val / 4) + y0.val % 4; omega)
  exact (congrArg (fun z => (outsAt0 m c t).2 (ix2 z y1)) e).trans ((out4_real (holds H) _ _ y1).trans (congrArg Real.toEReal (lN_eq _ _ y1)))

theorem final3 : (show FVec Ideal S8192x512 .bf16 from (dats m 0 c).arrAt 3 cfg0.N) = G3 a := by
  refine (dats m 0 c).arrAt_eq_of_covers 3 (G3 a) (by decide +kernel) fun t hf y => ?_
  rw [after0_3]
  simp only [cast_eq]
  exact blk3 H t y

theorem final4 : (show FVec Ideal S8x8192 .f32 from (dats m 0 c).arrAt 4 cfg0.N) = G4 a := by
  refine (dats m 0 c).arrAt_eq_of_covers 4 (G4 a) (by decide +kernel) fun t hf y => ?_
  rw [after0_4]
  simp only [cast_eq]
  exact blk4 H t y

end Cert.FwdKIdeal.Final

end
-- ==== Proof.FwdClaims.lean ====
/- Global attention forward: the kernel's two results and the reference's agree where the arguments are finite. -/
module

public import proofs.«01_k».proof.Defs
public import proofs.«01_k».proof.Proof.FwdFinal
public import proofs.«01_k».proof.Proof.Gen.Pre_fwd_finite
public import proofs.«01_k».proof.Proof.Gen.FwdK.Frame
public import proofs.«01_k».proof.Proof.Gen.FwdKIdeal.Value

@[expose] public section

set_option maxRecDepth 16384

noncomputable section

open Idealize.ShloMosaic Idealize.ShloMosaic.TcCoe Idealize.SL.Sem

namespace Cert.Proof.FwdClaims

open Cert.FwdKIdeal Cert.FwdKIdeal.Gen Cert.FwdKIdeal.Final Cert.Attn

/-- Under the precondition the arguments are real numbers. -/
theorem reals (m : (ℓ : Loc nD τ sig) → Buf (Elt Ideal) ℓ) (h : Cert.Pre_FwdKIdeal_fwd_finite m) (c : Dev nD) : ∃ a : Args, Hyp m c a := by
  obtain ⟨h0, h1, h2⟩ := h c
  obtain ⟨q, hq⟩ := Rl.real_of_finite (fun _ => Rl.inf_word) h0
  obtain ⟨k, hk⟩ := Rl.real_of_finite (fun _ => Rl.inf_word) h1
  obtain ⟨v, hv⟩ := Rl.real_of_finite (fun _ => Rl.inf_word) h2
  exact ⟨⟨fun r kv g e => q (ix4 0 r ⟨kv.val * 4 + g.val, by omega⟩ e), fun x kv e => k (ix4 0 x kv e), fun x kv e => v (ix4 0 x kv e), fun _ _ _ _ => 0⟩,
    ⟨fun r kv g e => congrFun hq _, fun x kv e => congrFun hk _, fun x kv e => congrFun hv _⟩⟩

theorem ref3 {x0 : FVec Ideal Cert.FwdRIdeal.S1x8192x8x64 .f32} {x1 x2 : FVec Ideal Cert.FwdRIdeal.S1x8192x2x64 .f32} {a : Args} (H : Cert.FwdRIdeal.Final.Reals x0 x1 x2 a) :
    (Cert.FwdRIdeal.Read.val_main_v23 (F := Ideal) x0 x1 x2 : FVec Ideal S8192x512 .bf16) = G3 a := by
  funext y
  idx_vars y
  exact Cert.FwdRIdeal.Final.v23 H y0 y1

theorem ref4 {x0 : FVec Ideal Cert.FwdRIdeal.S1x8192x8x64 .f32} {x1 x2 : FVec Ideal Cert.FwdRIdeal.S1x8192x2x64 .f32} {a : Args} (H : Cert.FwdRIdeal.Final.Reals x0 x1 x2 a) :
    (Cert.FwdRIdeal.Read.val_main_v27 (F := Ideal) x0 x1 : FVec Ideal S8x8192 .f32) = G4 a := by
  funext y
  idx_vars y
  exact Cert.FwdRIdeal.Final.v27 H y0 y1

/-- At `Ideal` the kernel's results and the reference's agree. -/
theorem algebraic : Cert.algebraic_FwdKIdeal_FwdRIdeal_pre_fwd_finite := by
  pair_intro
  · run_from Cert.FwdKIdeal.Value.run_blocks m g
  · refine (θ_run _ _ _).mono (fun r h c => ?_) (Cert.FwdRIdeal.Value.run m' g')
    obtain ⟨a, A⟩ := reals m hpre c
    obtain ⟨a0, a1, a2⟩ := hagree c
    have H := h c
    simp only [a0, a1, a2] at H
    obtain ⟨e0, e1, -⟩ := H
    exact ⟨(e0.trans (ref3 A)).trans (final3 A).symm, (e1.trans (ref4 A)).trans (final4 A).symm, (h c).2.2⟩

theorem frame_r : Cert.quiescent_FwdRIdeal := by
  intro m g _
  refine (θ_run _ _ _).mono (fun r h => ⟨fun c => (h c).2.2, ?_⟩) (Cert.FwdRIdeal.Value.run m g)
  exact sem_eq_zero_of_no_sems (sig := Cert.FwdRIdeal.sig) rfl _

/-- The named constant is the one it stands for. -/
theorem preserves : Cert.preserves_FwdK_FwdKIdeal :=
  IdealRules.named_const.statement Cert.FwdKIdeal.κ "log2e" _ _ _ rfl

end Cert.Proof.FwdClaims

end
-- ==== Proof.MlpPoint.lean ====
module

public import proofs.«01_k».proof.Proof.Gen.MlpKIdeal.Value
public import proofs.«01_k».proof.Proof.Real

@[expose] public section

set_option maxRecDepth 16384

noncomputable section

open Idealize.ShloMosaic Idealize.ShloMosaic.TcCoe Idealize.SL.Sem
open Idealize.ShloMosaic.Pipeline (Dat)

namespace Cert.MlpKIdeal.Final

open Cert.MlpKIdeal Cert.MlpKIdeal.Gen

variable (m : (ℓ : Loc nD τ sig) → Buf (Elt Ideal) ℓ)

theorem idx : ∀ t : Fin cfg0.N, win0_0.index t = ![t.val / 2, 0] ∧ win0_1.index t = ![t.val / 2, 0] ∧ win0_2.index t = ![t.val / 2, t.val % 2]
    ∧ win0_3.index t = ![0, 0] ∧ win0_4.index t = ![0, 0] ∧ win0_5.index t = ![t.val % 2, 0, 0] ∧ win0_6.index t = ![t.val % 2, 0, 0]
    ∧ win0_7.index t = ![t.val / 2, t.val % 2] ∧ win0_8.index t = ![t.val / 2, 0] ∧ win0_9.index t = ![0, 0] :=
  (by decide +kernel : ∀ t : Fin grid0.N, _)

/-- The seven input blocks of a point. -/
abbrev X0 (c : Dev nD) (t : Fin cfg0.N) : FVec Ideal S512x1024 .f32 := iblk m c 0 t
abbrev X1 (c : Dev nD) (t : Fin cfg0.N) : FVec Ideal S512x1024 .f32 := iblk m c 1 t
abbrev X2 (c : Dev nD) (t : Fin cfg0.N) : FVec Ideal S512x2048 .bf16 := iblk m c 2 t
abbrev X3 (c : Dev nD) (t : Fin cfg0.N) : FVec Ideal S6x1024 .f32 := iblk m c 3 t
abbrev X4 (c : Dev nD) (t : Fin cfg0.N) : FVec Ideal S1x1024 .f32 := iblk m c 4 t
abbrev X5 (c : Dev nD) (t : Fin cfg0.N) : FVec Ideal S4x1024x512 .bf16 := iblk m c 5 t
abbrev X6 (c : Dev nD) (t : Fin cfg0.N) : FVec Ideal S4x512x1024 .bf16 := iblk m c 6 t

/-- A hidden column, from its shard and its place in it. -/
def col (u : Fin 4) (k : Fin 512) : Fin 2048 := ⟨512 * u.val + k.val, by have := u.isLt; have := k.isLt; omega⟩

/-- The kernel's two. -/
abbrev two : EReal := Ideal.ofBits .f32 0x40000000#32
/-- The length of a row, as the kernel divides by it. -/
abbrev N1 : EReal := Ideal.ofBits .f32 0x44800000#32

section Body

variable (d : FVec Ideal S512x1024 .bf16) (x2 : FVec Ideal S512x2048 .bf16) (x5 : FVec Ideal S4x1024x512 .bf16) (x6 : FVec Ideal S4x512x1024 .bf16)

/-- The gradient before the squared ReLU, from the scaled cotangent and a point's blocks. -/
def DH (i : Fin 512) (u : Fin 4) (k : Fin 512) : EReal :=
  (∑ n : Fin 1024, d (ix2 i n) * x6 (ix3 u k n)) * (two * max (x2 (ix2 i (col u k))) 0)

theorem ld_2 (o : ℕ) (u : Fin 4) (ho : o = 512 * u.val) (inb : ∀ a, (![0, o] : Fin 2 → ℕ) a + S512x512.size a ≤ S512x2048.size a) (i k : Fin 512) :
    View.ld (Val := Elt Ideal) (e' := .bf16) x2 (Rect.unit ![0, o] S512x512.size inb) (ix2 i k) = x2 (ix2 i (col u k)) := by
  refine Rl.ld_at (Val := Elt Ideal) (e := .bf16) inb x2 _ _ ?_
  intro a
  fin_cases a
  · exact (Nat.zero_add _).symm
  · show 512 * u.val + k.val = o + k.val
    rw [ho]

theorem ld_5 (u : Fin 4) (inb : ∀ a, (![u.val, 0, 0] : Fin 3 → ℕ) a + S1x1024x512.size a ≤ S4x1024x512.size a) (j : Fin 1024) (k : Fin 512) :
    View.ld (Val := Elt Ideal) (e' := .bf16) x5 (Rect.unit ![u.val, 0, 0] S1x1024x512.size inb) (ix3 0 j k) = x5 (ix3 u j k) := by
  refine Rl.ld_at (Val := Elt Ideal) (e := .bf16) inb x5 _ _ ?_
  intro a
  fin_cases a
  exacts [rfl, (Nat.zero_add _).symm, (Nat.zero_add _).symm]

theorem ld_6 (u : Fin 4) (inb : ∀ a, (![u.val, 0, 0] : Fin 3 → ℕ) a + S1x512x1024.size a ≤ S4x512x1024.size a) (k : Fin 512) (n : Fin 1024) :
    View.ld (Val := Elt Ideal) (e' := .bf16) x6 (Rect.unit ![u.val, 0, 0] S1x512x1024.size inb) (ix3 0 k n) = x6 (ix3 u k n) := by
  refine Rl.ld_at (Val := Elt Ideal) (e := .bf16) inb x6 _ _ ?_
  intro a
  fin_cases a
  exacts [rfl, (Nat.zero_add _).symm, (Nat.zero_add _).symm]

abbrev l2 (o : ℕ) (inb : ∀ a, (![0, o] : Fin 2 → ℕ) a + S512x512.size a ≤ S512x2048.size a) : Vec Ideal S512x512 .bf16 :=
  View.ld (Val := Elt Ideal) (e' := .bf16) x2 (Rect.unit ![0, o] S512x512.size inb)
abbrev l5 (u : ℕ) (inb : ∀ a, (![u, 0, 0] : Fin 3 → ℕ) a + S1x1024x512.size a ≤ S4x1024x512.size a) : Vec Ideal S1x1024x512 .bf16 :=
  View.ld (Val := Elt Ideal) (e' := .bf16) x5 (Rect.unit ![u, 0, 0] S1x1024x512.size inb)
abbrev l6 (u : ℕ) (inb : ∀ a, (![u, 0, 0] : Fin 3 → ℕ) a + S1x512x1024.size a ≤ S4x512x1024.size a) : Vec Ideal S1x512x1024 .bf16 :=
  View.ld (Val := Elt Ideal) (e' := .bf16) x6 (Rect.unit ![u, 0, 0] S1x512x1024.size inb)

/-- A shard's gradient before the squared ReLU, as the body computes it. -/
theorem pay13 (w6 : Vec Ideal S1x512x1024 .bf16) (w2 : Vec Ideal S512x512 .bf16) (i k : Fin 512) :
    k0_pay13 d w6 w2 (ix2 i k) = (∑ n : Fin 1024, d (ix2 i n) * w6 (ix3 0 k n)) * (two * max (w2 (ix2 i k)) 0) := by
  pointwise [k0_pay13]

theorem pay15 (w6 : Vec Ideal S1x512x1024 .bf16) (w2 : Vec Ideal S512x512 .bf16) (i k : Fin 512) :
    k0_pay15 (k0_pay12 d w6) w2 (ix2 i k) = (∑ n : Fin 1024, d (ix2 i n) * w6 (ix3 0 k n)) * (two * max (w2 (ix2 i k)) 0) := by
  pointwise [k0_pay15, k0_pay12]

theorem pay18 (w6 : Vec Ideal S1x512x1024 .bf16) (w2 : Vec Ideal S512x512 .bf16) (i k : Fin 512) :
    k0_pay18 d w6 w2 (ix2 i k) = (∑ n : Fin 1024, d (ix2 i n) * w6 (ix3 0 k n)) * (two * max (w2 (ix2 i k)) 0) := by
  pointwise [k0_pay18]

theorem pay1 (w6 : Vec Ideal S1x512x1024 .bf16) (w2 : Vec Ideal S512x512 .bf16) (i k : Fin 512) :
    k0_pay1 (k0_pay17 d w6) w2 (ix2 i k) = (∑ n : Fin 1024, d (ix2 i n) * w6 (ix3 0 k n)) * (two * max (w2 (ix2 i k)) 0) := by
  pointwise [k0_pay1, k0_pay17]

/-- A shard's gradient, from what the body loads of it. -/
theorem dh_of (u : Fin 4) (w6 : Vec Ideal S1x512x1024 .bf16) (w2 : Vec Ideal S512x512 .bf16)
    (h6 : ∀ k n, w6 (ix3 0 k n) = x6 (ix3 u k n)) (h2 : ∀ i k, w2 (ix2 i k) = x2 (ix2 i (col u k))) (i k : Fin 512) :
    (∑ n : Fin 1024, d (ix2 i n) * w6 (ix3 0 k n)) * (two * max (w2 (ix2 i k)) 0) = DH d x2 x6 i u k := by
  unfold DH
  rw [h2 i k]
  exact congrArg (· * _) (Finset.sum_congr rfl fun n _ => congrArg (d (ix2 i n) * ·) (h6 k n))

variable (a : FVec Ideal S512x1024 .f32)

/-- What the accumulator holds after the body, as the body computes it. -/
def acc : FVec Ideal S512x1024 .f32 :=
  k0_pay2
    (k0_pay16 (k0_pay12 d (l6 x6 1 inb_S4x512x1024_S1x512x1024_1_0_0))
      (k0_pay13 d (l6 x6 0 inb_S4x512x1024_S1x512x1024_0_0_0) (l2 x2 0 inb_S512x2048_S512x512_0_0))
      (k0_pay14 (l5 x5 0 inb_S4x1024x512_S1x1024x512_0_0_0)) (constant S512x1024 .f32 0#32)
      (l2 x2 512 inb_S512x2048_S512x512_0_512) (l5 x5 1 inb_S4x1024x512_S1x1024x512_1_0_0))
    (k0_pay17 d (l6 x6 3 inb_S4x512x1024_S1x512x1024_3_0_0))
    (k0_pay18 d (l6 x6 2 inb_S4x512x1024_S1x512x1024_2_0_0) (l2 x2 1024 inb_S512x2048_S512x512_0_1024))
    (l5 x5 2 inb_S4x1024x512_S1x1024x512_2_0_0) (l2 x2 1536 inb_S512x2048_S512x512_0_1536) (l5 x5 3 inb_S4x1024x512_S1x1024x512_3_0_0) a

/-- A shard's part of the gradient of the normed row. -/
def PT (i : Fin 512) (j : Fin 1024) (u : Fin 4) : EReal := ∑ k : Fin 512, DH d x2 x6 i u k * x5 (ix3 u j k)

theorem pt_of (u : Fin 4) (z : Fin 512 → EReal) (w5 : Vec Ideal S1x1024x512 .bf16) (i : Fin 512) (j : Fin 1024)
    (hz : ∀ k, z k = DH d x2 x6 i u k) (h5 : ∀ k, w5 (ix3 0 j k) = x5 (ix3 u j k)) :
    ∑ k : Fin 512, z k * w5 (ix3 0 j k) = PT d x2 x5 x6 i j u :=
  Finset.sum_congr rfl fun k _ => congrArg₂ (· * ·) (hz k) (h5 k)

theorem pay16 (p : FVec Ideal S512x512 .f32) (q : FVec Ideal S512x512 .bf16) (w5 w5' : Vec Ideal S1x1024x512 .bf16) (w2 : Vec Ideal S512x512 .bf16)
    (i : Fin 512) (j : Fin 1024) :
    k0_pay16 p q (k0_pay14 w5) (constant S512x1024 .f32 0#32) w2 w5' (ix2 i j)
      = (∑ k : Fin 512, q (ix2 i k) * w5 (ix3 0 j k)) + ∑ k : Fin 512, k0_pay15 p w2 (ix2 i k) * w5' (ix3 0 j k) := by
  pointwise [k0_pay16, k0_pay14]

theorem pay2 (s : FVec Ideal S512x1024 .f32) (p : FVec Ideal S512x512 .f32) (q : FVec Ideal S512x512 .bf16) (w5 w5' : Vec Ideal S1x1024x512 .bf16) (w2 : Vec Ideal S512x512 .bf16)
    (i : Fin 512) (j : Fin 1024) :
    k0_pay2 s p q w5 w2 w5' a (ix2 i j)
      = a (ix2 i j) + (s (ix2 i j) + (∑ k : Fin 512, q (ix2 i k) * w5 (ix3 0 j k)) + ∑ k : Fin 512, k0_pay1 p w2 (ix2 i k) * w5' (ix3 0 j k)) := by
  pointwise [k0_pay2]

theorem acc_at (i : Fin 512) (j : Fin 1024) : acc d x2 x5 x6 a (ix2 i j) = a (ix2 i j) + ∑ u : Fin 4, PT d x2 x5 x6 i j u := by
  unfold acc
  rw [pay2, pay16, Fin.sum_univ_four]
  refine congrArg (a (ix2 i j) + ·) (congrArg₂ (· + ·) (congrArg₂ (· + ·) (congrArg₂ (· + ·) ?_ ?_) ?_) ?_)
  · exact pt_of d x2 x5 x6 0 _ _ i j (fun k => (pay13 d _ _ i k).trans (dh_of d x2 x6 0 _ _ (ld_6 x6 0 _) (ld_2 x2 0 0 rfl _) i k)) (ld_5 x5 0 _ j)
  · exact pt_of d x2 x5 x6 1 _ _ i j (fun k => (pay15 d _ _ i k).trans (dh_of d x2 x6 1 _ _ (ld_6 x6 1 _) (ld_2 x2 512 1 rfl _) i k)) (ld_5 x5 1 _ j)
  · exact pt_of d x2 x5 x6 2 _ _ i j (fun k => (pay18 d _ _ i k).trans (dh_of d x2 x6 2 _ _ (ld_6 x6 2 _) (ld_2 x2 1024 2 rfl _) i k)) (ld_5 x5 2 _ j)
  · exact pt_of d x2 x5 x6 3 _ _ i j (fun k => (pay1 d _ _ i k).trans (dh_of d x2 x6 3 _ _ (ld_6 x6 3 _) (ld_2 x2 1536 3 rfl _) i k)) (ld_5 x5 3 _ j)

/-- The gradient before the squared ReLU that the body leaves in its output block. -/
def hid : FVec Ideal S512x2048 .bf16 :=
  View.canon (Val := Elt Ideal) (e := .bf16)
    [⟨Rect.unit ![0, 1536] S512x512.size inb_S512x2048_S512x512_0_1536, k0_pay1 (k0_pay17 d (l6 x6 3 inb_S4x512x1024_S1x512x1024_3_0_0)) (l2 x2 1536 inb_S512x2048_S512x512_0_1536)⟩,
      ⟨Rect.unit ![0, 1024] S512x512.size inb_S512x2048_S512x512_0_1024, k0_pay18 d (l6 x6 2 inb_S4x512x1024_S1x512x1024_2_0_0) (l2 x2 1024 inb_S512x2048_S512x512_0_1024)⟩,
      ⟨Rect.unit ![0, 512] S512x512.size inb_S512x2048_S512x512_0_512, k0_pay15 (k0_pay12 d (l6 x6 1 inb_S4x512x1024_S1x512x1024_1_0_0)) (l2 x2 512 inb_S512x2048_S512x512_0_512)⟩,
      ⟨Rect.unit ![0, 0] S512x512.size inb_S512x2048_S512x512_0_0, k0_pay13 d (l6 x6 0 inb_S4x512x1024_S1x512x1024_0_0_0) (l2 x2 0 inb_S512x2048_S512x512_0_0)⟩]

theorem hid_at (i : Fin 512) (u : Fin 4) (k : Fin 512) : hid d x2 x6 (ix2 i (col u k)) = DH d x2 x6 i u k := by
  have hk := k.isLt
  have here : ∀ (o : ℕ), o = 512 * u.val → ∀ a : Fin 2, ((ix2 i (col u k) : S512x2048.Idx) a).val = (![0, o] : Fin 2 → ℕ) a + ((ix2 i k : S512x512.Idx) a).val := by
    intro o ho a
    fin_cases a
    · exact (Nat.zero_add _).symm
    · show 512 * u.val + k.val = o + k.val
      rw [ho]
  have off : ∀ (o : ℕ), 512 * u.val + 512 ≤ o → ((ix2 i (col u k) : S512x2048.Idx) 1).val < (![0, o] : Fin 2 → ℕ) 1 ∨ (![0, o] : Fin 2 → ℕ) 1 + S512x512.size 1 ≤ ((ix2 i (col u k) : S512x2048.Idx) 1).val := by
    intro o ho
    left
    show 512 * u.val + k.val < o
    omega
  unfold hid
  fin_cases u
  · rw [Rl.canon_not_mem _ _ _ _ (1 : Fin 2) (off 1536 (by decide)), Rl.canon_not_mem _ _ _ _ (1 : Fin 2) (off 1024 (by decide)), Rl.canon_not_mem _ _ _ _ (1 : Fin 2) (off 512 (by decide)),
      Rl.canon_mem _ _ _ _ (ix2 i k) (here 0 rfl)]
    exact (pay13 d _ _ i k).trans (dh_of d x2 x6 0 _ _ (ld_6 x6 0 _) (ld_2 x2 0 0 rfl _) i k)
  · rw [Rl.canon_not_mem _ _ _ _ (1 : Fin 2) (off 1536 (by decide)), Rl.canon_not_mem _ _ _ _ (1 : Fin 2) (off 1024 (by decide)),
      Rl.canon_mem _ _ _ _ (ix2 i k) (here 512 rfl)]
    exact (pay15 d _ _ i k).trans (dh_of d x2 x6 1 _ _ (ld_6 x6 1 _) (ld_2 x2 512 1 rfl _) i k)
  · rw [Rl.canon_not_mem _ _ _ _ (1 : Fin 2) (off 1536 (by decide)),
      Rl.canon_mem _ _ _ _ (ix2 i k) (here 1024 rfl)]
    exact (pay18 d _ _ i k).trans (dh_of d x2 x6 2 _ _ (ld_6 x6 2 _) (ld_2 x2 1024 2 rfl _) i k)
  · rw [Rl.canon_mem _ _ _ _ (ix2 i k) (here 1536 rfl)]
    exact (pay1 d _ _ i k).trans (dh_of d x2 x6 3 _ _ (ld_6 x6 3 _) (ld_2 x2 1536 3 rfl _) i k)

end Body

section Norm

variable (x0 x1 : FVec Ideal S512x1024 .f32) (x3 : FVec Ideal S6x1024 .f32) (x4 : FVec Ideal S1x1024 .f32) (h : FVec Ideal S512x1024 .f32)

/-- The scale of a row's norm. -/
def RR (i : Fin 512) : EReal := Ideal.rsqrt (Ideal.div (∑ n : Fin 1024, x1 (ix2 i n) * x1 (ix2 i n)) N1 + Ideal.ofBits .f32 0x358637BD#32)

/-- The gradient at the normed row. -/
def DN (i : Fin 512) (j : Fin 1024) : EReal := h (ix2 i j) * (x4 (ix2 0 j) * (1 + x3 (ix2 4 j)))

/-- The gradient of the residual row, as the body computes it. -/
def DX (i : Fin 512) (j : Fin 1024) : EReal :=
  x0 (ix2 i j) + RR x1 i * (DN x3 x4 h i j - x1 (ix2 i j) * RR x1 i * Ideal.div (∑ n : Fin 1024, DN x3 x4 h i n * (x1 (ix2 i n) * RR x1 i)) N1)

theorem ld_4 (inb : ∀ a, (![4, 0] : Fin 2 → ℕ) a + S1x1024.size a ≤ S6x1024.size a) (j : Fin 1024) :
    View.ld (Val := Elt Ideal) (e' := .f32) x3 (Rect.unit ![4, 0] S1x1024.size inb) (ix2 0 j) = x3 (ix2 4 j) := by
  refine Rl.ld_at (Val := Elt Ideal) (e := .f32) inb x3 _ _ ?_
  intro a
  fin_cases a
  exacts [rfl, (Nat.zero_add _).symm]

theorem pay4 (i : Fin 512) : k0_pay4 (F := Ideal) x1 (ix2 i 0) = RR x1 i := by
  unfold RR
  pointwise [k0_pay4]

theorem pay5 (i : Fin 512) (j : Fin 1024) : k0_pay5 x1 (ix2 i j) = x1 (ix2 i j) * RR x1 i := by
  pointwise [k0_pay5]
  exact congrArg _ (pay4 x1 i)

theorem pay8 (w : Vec Ideal S1x1024 .f32) (i : Fin 512) (j : Fin 1024) : k0_pay8 h x4 w (ix2 i j) = h (ix2 i j) * (x4 (ix2 0 j) * (1 + w (ix2 0 j))) := by
  pointwise [k0_pay8]

theorem pay3 (r : FVec Ideal S512x1 .f32) (z g : FVec Ideal S512x1024 .f32) (i : Fin 512) (j : Fin 1024) :
    k0_pay3 r z g x0 (ix2 i j) = x0 (ix2 i j) + r (ix2 i 0) * (g (ix2 i j) - z (ix2 i j) * Ideal.div (∑ n : Fin 1024, g (ix2 i n) * z (ix2 i n)) N1) := by
  pointwise [k0_pay3]

theorem pay6 (w : Vec Ideal S1x1024 .f32) (j : Fin 1024) : k0_pay6 h w (ix2 0 j) = w (ix2 0 j) + ∑ i : Fin 512, h (ix2 i j) := by
  pointwise [k0_pay6]

theorem pay7 (w : Vec Ideal S1x1024 .f32) (j : Fin 1024) : k0_pay7 h x1 w (ix2 0 j) = w (ix2 0 j) + ∑ i : Fin 512, h (ix2 i j) * (x1 (ix2 i j) * RR x1 i) := by
  pointwise [k0_pay7]
  exact congrArg _ (Finset.sum_congr rfl fun i _ => congrArg _ (pay5 x1 i j))

end Norm

end Cert.MlpKIdeal.Final

end
-- ==== Proof.MlpOuts.lean ====
module

public import proofs.«01_k».proof.Proof.MlpPoint

@[expose] public section

set_option maxRecDepth 16384

noncomputable section

open Idealize.ShloMosaic Idealize.ShloMosaic.TcCoe Idealize.SL.Sem
open Idealize.ShloMosaic.Pipeline (Dat)

namespace Cert.MlpKIdeal.Final

open Cert.MlpKIdeal Cert.MlpKIdeal.Gen

variable (m : (ℓ : Loc nD τ sig) → Buf (Elt Ideal) ℓ)

/-- The cotangent under the gate's scale, as a row block's first point leaves it in the scratch. -/
def dmo (c : Dev nD) (t : Fin cfg0.N) : FVec Ideal S512x1024 .bf16 :=
  k0_pay9 (View.ld (Val := Elt Ideal) (e' := .f32) (X3 m c t) (Rect.unit ![5, 0] S1x1024.size inb_S6x1024_S1x1024_5_0)) (X0 m c t)

theorem dmo_at (c : Dev nD) (t : Fin cfg0.N) (i : Fin 512) (j : Fin 1024) : dmo m c t (ix2 i j) = X3 m c t (ix2 5 j) * X0 m c t (ix2 i j) := by
  have e : View.ld (Val := Elt Ideal) (e' := .f32) (X3 m c t) (Rect.unit ![5, 0] S1x1024.size inb_S6x1024_S1x1024_5_0) (ix2 0 j) = X3 m c t (ix2 5 j) := by
    refine Rl.ld_at (Val := Elt Ideal) (e := .f32) inb_S6x1024_S1x1024_5_0 (X3 m c t) _ _ ?_
    intro a
    fin_cases a
    exacts [rfl, (Nat.zero_add _).symm]
  unfold dmo
  refine Eq.trans ?_ (congrArg (· * X0 m c t (ix2 i j)) e)
  pointwise [k0_pay9]

/-- The accumulator's start. -/
abbrev z0 : FVec Ideal S512x1024 .f32 := k0_pay10

theorem z0_at (y : S512x1024.Idx) : z0 y = 0 := by pointwise [k0_pay10]

theorem sA0 (c : Dev nD) (t : Fin cfg0.N) (h0 : t.val % 2 = 0) (h1 : t.val % 32 = 0) : (outsAt0 m c t.val t.isLt).2.2.2.1 = dmo m c t := by
  rw [outsAt0_A m c t h0 h1 (by omega)]; frame_out; rfl
theorem sC0 (c : Dev nD) (t : Fin cfg0.N) (h0 : t.val % 2 = 0) (h1 : ¬ t.val % 32 = 0) : (outsAt0 m c t.val t.isLt).2.2.2.1 = dmo m c t := by
  rw [outsAt0_C m c t h0 h1 (by omega)]; frame_out; rfl
theorem sA1 (c : Dev nD) (t : Fin cfg0.N) (h0 : t.val % 2 = 0) (h1 : t.val % 32 = 0) :
    (outsAt0 m c t.val t.isLt).2.2.2.2 = acc (dmo m c t) (X2 m c t) (X5 m c t) (X6 m c t) z0 := by
  rw [outsAt0_A m c t h0 h1 (by omega)]; frame_out; rfl
theorem sC1 (c : Dev nD) (t : Fin cfg0.N) (h0 : t.val % 2 = 0) (h1 : ¬ t.val % 32 = 0) :
    (outsAt0 m c t.val t.isLt).2.2.2.2 = acc (dmo m c t) (X2 m c t) (X5 m c t) (X6 m c t) z0 := by
  rw [outsAt0_C m c t h0 h1 (by omega)]; frame_out; rfl
theorem rd0 (x : FVec Ideal S512x1024 .bf16) :
    View.read (Elt Ideal) (View.whole cc0_scratch0) ((Memref.isWhole_whole cc0_scratch0).unread (Val := Elt Ideal) x) = x :=
  (Memref.isWhole_whole cc0_scratch0).read_unread (Val := Elt Ideal) x
theorem rd1 (x : FVec Ideal S512x1024 .f32) :
    View.read (Elt Ideal) (View.whole cc0_scratch1) ((Memref.isWhole_whole cc0_scratch1).unread (Val := Elt Ideal) x) = x :=
  (Memref.isWhole_whole cc0_scratch1).read_unread (Val := Elt Ideal) x
theorem sB1 (c : Dev nD) (t : Fin cfg0.N) (h0 : ¬ t.val % 2 = 0) :
    (outsAt0 m c t.val t.isLt).2.2.2.2 = acc (outsAt0 m c (t.val - 1) (by omega)).2.2.2.1 (X2 m c t) (X5 m c t) (X6 m c t) (outsAt0 m c (t.val - 1) (by omega)).2.2.2.2 := by
  rw [outsAt0_B m c t h0 (by omega) (by omega)]; frame_out
  erw [rd0, rd1]
  rfl
theorem oA7 (c : Dev nD) (t : Fin cfg0.N) (h0 : t.val % 2 = 0) (h1 : t.val % 32 = 0) :
    (outsAt0 m c t.val t.isLt).1 = hid (dmo m c t) (X2 m c t) (X6 m c t) := by
  rw [outsAt0_A m c t h0 h1 (by omega)]; frame_out; rfl
theorem oC7 (c : Dev nD) (t : Fin cfg0.N) (h0 : t.val % 2 = 0) (h1 : ¬ t.val % 32 = 0) :
    (outsAt0 m c t.val t.isLt).1 = hid (dmo m c t) (X2 m c t) (X6 m c t) := by
  rw [outsAt0_C m c t h0 h1 (by omega)]; frame_out; rfl
theorem oB7 (c : Dev nD) (t : Fin cfg0.N) (h0 : ¬ t.val % 2 = 0) :
    (outsAt0 m c t.val t.isLt).1 = hid (outsAt0 m c (t.val - 1) (by omega)).2.2.2.1 (X2 m c t) (X6 m c t) := by
  rw [outsAt0_B m c t h0 (by omega) (by omega)]; frame_out
  erw [rd0]
theorem oB8 (c : Dev nD) (t : Fin cfg0.N) (h0 : ¬ t.val % 2 = 0) :
    (outsAt0 m c t.val t.isLt).2.1 = k0_pay3 (k0_pay4 (X1 m c t)) (k0_pay5 (X1 m c t)) (k0_pay8 (outsAt0 m c t.val t.isLt).2.2.2.2 (X4 m c t)
      (View.ld (Val := Elt Ideal) (e' := .f32) (X3 m c t) (Rect.unit ![4, 0] S1x1024.size inb_S6x1024_S1x1024_4_0))) (X0 m c t) := by
  rw [sB1 m c t h0, outsAt0_B m c t h0 (by omega) (by omega)]; frame_out
  erw [rd0, rd1]
  rfl
theorem oA9 (c : Dev nD) (t : Fin cfg0.N) (h0 : t.val % 2 = 0) (h1 : t.val % 32 = 0) (y : S8x1024.Idx) :
    (outsAt0 m c t.val t.isLt).2.2.1 y = 0 := by
  rw [outsAt0_A m c t h0 h1 (by omega)]; frame_out
  pointwise [k0_pay11]
theorem oC9 (c : Dev nD) (t : Fin cfg0.N) (h0 : t.val % 2 = 0) (h1 : ¬ t.val % 32 = 0) :
    (outsAt0 m c t.val t.isLt).2.2.1 = (outsAt0 m c (t.val - 1) (by omega)).2.2.1 := by
  rw [outsAt0_C m c t h0 h1 (by omega)]
  rfl

/-- The accumulator's rows at their place in the sums, once a row block's second point has run. -/
def inc (c : Dev nD) (t : Fin cfg0.N) (y : S8x1024.Idx) : EReal :=
  if (y 0).val = 0 then ∑ i : Fin 512, (outsAt0 m c t.val t.isLt).2.2.2.2 (ix2 i (y 1))
  else if (y 0).val = 1 then ∑ i : Fin 512, (outsAt0 m c t.val t.isLt).2.2.2.2 (ix2 i (y 1)) * (X1 m c t (ix2 i (y 1)) * RR (X1 m c t) i)
  else 0

theorem ld_row (p : FVec Ideal S8x1024 .f32) (o : ℕ) (r : Fin 8) (ho : o = r.val) (inb : ∀ a, (![o, 0] : Fin 2 → ℕ) a + S1x1024.size a ≤ S8x1024.size a) (j : Fin 1024) :
    View.ld (Val := Elt Ideal) (e' := .f32) p (Rect.unit ![o, 0] S1x1024.size inb) (ix2 0 j) = p (ix2 r j) := by
  refine Rl.ld_at (Val := Elt Ideal) (e := .f32) inb p _ _ ?_
  intro a
  fin_cases a
  exacts [ho.symm, (Nat.zero_add _).symm]

theorem oB9 (c : Dev nD) (t : Fin cfg0.N) (h0 : ¬ t.val % 2 = 0) (y : S8x1024.Idx) :
    (outsAt0 m c t.val t.isLt).2.2.1 y = (outsAt0 m c (t.val - 1) (by omega)).2.2.1 y + inc m c t y := by
  unfold inc
  rw [sB1 m c t h0]
  idx_vars y
  rw [outsAt0_B m c t h0 (by omega) (by omega)]; frame_out
  erw [rd0, rd1]
  by_cases h1 : y0.val = 1
  · rw [View.read_writes_cons_unit_of_mem _ _ _ _ _ _ (ix2 (0 : Fin 1) y1) rfl (by intro a; fin_cases a; exacts [h1, (Nat.zero_add _).symm])]
    refine Eq.trans ((pay7 _ _ _ y1).trans (congrArg₂ (· + ·) (ld_row _ 1 y0 h1.symm _ y1) rfl)) ?_
    exact congrArg (_ + ·) ((if_neg (h1.trans_ne Nat.one_ne_zero)).trans (if_pos h1)).symm
  rw [View.read_writes_cons_unit_of_not_mem _ _ _ _ _ _ rfl (0 : Fin 2) (show y0.val < 1 ∨ 1 + 1 ≤ y0.val by omega)]
  by_cases h2 : y0.val = 0
  · rw [View.read_writes_cons_unit_of_mem _ _ _ _ _ _ (ix2 (0 : Fin 1) y1) rfl (by intro a; fin_cases a; exacts [h2, (Nat.zero_add _).symm])]
    refine Eq.trans ((pay6 _ _ y1).trans (congrArg₂ (· + ·) (ld_row _ 0 y0 h2.symm _ y1) rfl)) ?_
    exact congrArg (_ + ·) (if_pos h2).symm
  · rw [View.read_writes_cons_unit_of_not_mem _ _ _ _ _ _ rfl (0 : Fin 2) (show y0.val < 0 ∨ 0 + 1 ≤ y0.val by omega)]
    erw [Memref.IsWhole.read_unread]
    exact ((congrArg (_ + ·) ((if_neg h2).trans (if_neg h1))).trans (add_zero _)).symm

end Cert.MlpKIdeal.Final

end
-- ==== Proof.MlpFinal.lean ====
module

public import proofs.«01_k».proof.Proof.MlpOuts

@[expose] public section

set_option maxRecDepth 16384

noncomputable section

open Idealize.ShloMosaic Idealize.ShloMosaic.TcCoe Idealize.SL.Sem
open Idealize.ShloMosaic.Pipeline (Dat)

namespace Cert.MlpKIdeal.Final

open Cert.MlpKIdeal Cert.MlpKIdeal.Gen

variable (m : (ℓ : Loc nD τ sig) → Buf (Elt Ideal) ℓ)

/-- The arrays the kernel's region reads. -/
abbrev G0 (c : Dev nD) : FVec Ideal S8192x1024 .f32 := V m c main_arg5
abbrev G1 (c : Dev nD) : FVec Ideal S8192x1024 .f32 := V m c main_arg0
abbrev G2 (c : Dev nD) : FVec Ideal S8192x4096 .bf16 := V m c main_v24
abbrev G3 (c : Dev nD) : FVec Ideal S6x1024 .f32 := V m c main_arg1
abbrev G4 (c : Dev nD) : FVec Ideal S1x1024 .f32 := V m c main_v8
abbrev G5 (c : Dev nD) : FVec Ideal S8x1024x512 .bf16 := V m c main_v27
abbrev G6 (c : Dev nD) : FVec Ideal S8x512x1024 .bf16 := V m c main_v29

theorem lt32 (t : Fin cfg0.N) : t.val < 32 := lt_of_lt_of_eq t.isLt N_0

/-- A row of the whole array, from its block and its place in it. -/
def row (p : Fin 16) (i : Fin 512) : Fin 8192 := ⟨p.val * 512 + i.val, by have := p.isLt; have := i.isLt; omega⟩
/-- A hidden column of the whole array, from its slice and its place in it. -/
def hcol (s : Fin 8) (k : Fin 512) : Fin 4096 := ⟨s.val * 512 + k.val, by have := s.isLt; have := k.isLt; omega⟩
/-- A point's row block, and a slice of its half of the hidden columns. -/
def pb (t : Fin cfg0.N) : Fin 16 := ⟨t.val / 2, by have := lt32 t; omega⟩
def sl (t : Fin cfg0.N) (u : Fin 4) : Fin 8 := ⟨t.val % 2 * 4 + u.val, by have := u.isLt; omega⟩

theorem X0_at (c : Dev nD) (t : Fin cfg0.N) (i : Fin 512) (j : Fin 1024) : X0 m c t (ix2 i j) = G0 m c (ix2 (row (pb t) i) j) := by
  blk_ext [iblk, V, idx t, row, pb]
theorem X1_at (c : Dev nD) (t : Fin cfg0.N) (i : Fin 512) (j : Fin 1024) : X1 m c t (ix2 i j) = G1 m c (ix2 (row (pb t) i) j) := by
  blk_ext [iblk, V, idx t, row, pb]
theorem X2_at (c : Dev nD) (t : Fin cfg0.N) (i : Fin 512) (u : Fin 4) (k : Fin 512) : X2 m c t (ix2 i (col u k)) = G2 m c (ix2 (row (pb t) i) (hcol (sl t u) k)) := by
  blk_ext [iblk, V, idx t, row, pb, col, hcol, sl]
theorem X3_at (c : Dev nD) (t : Fin cfg0.N) (i : Fin 6) (j : Fin 1024) : X3 m c t (ix2 i j) = G3 m c (ix2 i j) := by
  blk_ext [iblk, V, idx t]
theorem X4_at (c : Dev nD) (t : Fin cfg0.N) (i : Fin 1) (j : Fin 1024) : X4 m c t (ix2 i j) = G4 m c (ix2 i j) := by
  blk_ext [iblk, V, idx t]
theorem X5_at (c : Dev nD) (t : Fin cfg0.N) (u : Fin 4) (j : Fin 1024) (k : Fin 512) : X5 m c t (ix3 u j k) = G5 m c (ix3 (sl t u) j k) := by
  blk_ext [iblk, V, idx t, sl]
theorem X6_at (c : Dev nD) (t : Fin cfg0.N) (u : Fin 4) (k : Fin 512) (n : Fin 1024) : X6 m c t (ix3 u k n) = G6 m c (ix3 (sl t u) k n) := by
  blk_ext [iblk, V, idx t, sl]

/-- The slice a hidden column lies in, and its place in it. -/
def hs (q : Fin 4096) : Fin 8 := ⟨q.val / 512, by have := q.isLt; omega⟩
def hk (q : Fin 4096) : Fin 512 := ⟨q.val % 512, by omega⟩
theorem hs_hcol (s : Fin 8) (k : Fin 512) : hs (hcol s k) = s := Fin.ext (show (s.val * 512 + k.val) / 512 = s.val by have := k.isLt; omega)
theorem hk_hcol (s : Fin 8) (k : Fin 512) : hk (hcol s k) = k := Fin.ext (show (s.val * 512 + k.val) % 512 = k.val by have := k.isLt; omega)

/-- The gradient before the squared ReLU, over the whole arrays. -/
def DHQ (c : Dev nD) (r : Fin 8192) (q : Fin 4096) : EReal :=
  (∑ n : Fin 1024, G3 m c (ix2 5 n) * G0 m c (ix2 r n) * G6 m c (ix3 (hs q) (hk q) n)) * (two * max (G2 m c (ix2 r q)) 0)

/-- The gradient of the normed row, over the whole arrays. -/
def HG (c : Dev nD) (r : Fin 8192) (j : Fin 1024) : EReal := ∑ q : Fin 4096, DHQ m c r q * G5 m c (ix3 (hs q) j (hk q))

/-- A block of it at a point, over whatever the scratch holds of the scaled cotangent. -/
theorem dh_at (c : Dev nD) (t : Fin cfg0.N) (d : FVec Ideal S512x1024 .bf16) (hd : ∀ i n, d (ix2 i n) = G3 m c (ix2 5 n) * G0 m c (ix2 (row (pb t) i) n))
    (i : Fin 512) (u : Fin 4) (k : Fin 512) : DH d (X2 m c t) (X6 m c t) i u k = DHQ m c (row (pb t) i) (hcol (sl t u) k) := by
  unfold DH DHQ
  rw [X2_at, hs_hcol, hk_hcol]
  exact congrArg (· * _) (Finset.sum_congr rfl fun n _ => congrArg₂ (· * ·) (hd i n) (X6_at m c t u k n))

theorem pt_at (c : Dev nD) (t : Fin cfg0.N) (d : FVec Ideal S512x1024 .bf16) (hd : ∀ i n, d (ix2 i n) = G3 m c (ix2 5 n) * G0 m c (ix2 (row (pb t) i) n))
    (i : Fin 512) (j : Fin 1024) (u : Fin 4) : PT d (X2 m c t) (X5 m c t) (X6 m c t) i j u
      = ∑ k : Fin 512, DHQ m c (row (pb t) i) (hcol (sl t u) k) * G5 m c (ix3 (hs (hcol (sl t u) k)) j (hk (hcol (sl t u) k))) := by
  unfold PT
  refine Finset.sum_congr rfl fun k _ => ?_
  rw [dh_at m c t d hd, X5_at, hs_hcol, hk_hcol]

theorem dmo_row (c : Dev nD) (t : Fin cfg0.N) (i : Fin 512) (n : Fin 1024) : dmo m c t (ix2 i n) = G3 m c (ix2 5 n) * G0 m c (ix2 (row (pb t) i) n) :=
  (dmo_at m c t i n).trans (congrArg₂ (· * ·) (X3_at m c t 5 n) (X0_at m c t i n))

theorem even0 (c : Dev nD) (t : Fin cfg0.N) (h0 : t.val % 2 = 0) : (outsAt0 m c t.val t.isLt).2.2.2.1 = dmo m c t := by
  by_cases h1 : t.val % 32 = 0
  exacts [sA0 m c t h0 h1, sC0 m c t h0 h1]
theorem even1 (c : Dev nD) (t : Fin cfg0.N) (h0 : t.val % 2 = 0) : (outsAt0 m c t.val t.isLt).2.2.2.2 = acc (dmo m c t) (X2 m c t) (X5 m c t) (X6 m c t) z0 := by
  by_cases h1 : t.val % 32 = 0
  exacts [sA1 m c t h0 h1, sC1 m c t h0 h1]
theorem even7 (c : Dev nD) (t : Fin cfg0.N) (h0 : t.val % 2 = 0) : (outsAt0 m c t.val t.isLt).1 = hid (dmo m c t) (X2 m c t) (X6 m c t) := by
  by_cases h1 : t.val % 32 = 0
  exacts [oA7 m c t h0 h1, oC7 m c t h0 h1]

/-- The point before an odd one. -/
def pr (t : Fin cfg0.N) : Fin cfg0.N := ⟨t.val - 1, Nat.lt_of_le_of_lt (Nat.sub_le _ _) t.isLt⟩
theorem pb_pr (t : Fin cfg0.N) (h0 : ¬ t.val % 2 = 0) : pb (pr t) = pb t := Fin.ext (show (t.val - 1) / 2 = t.val / 2 by omega)

theorem odd0 (c : Dev nD) (t : Fin cfg0.N) (h0 : ¬ t.val % 2 = 0) (i : Fin 512) (n : Fin 1024) :
    (outsAt0 m c (t.val - 1) (Nat.lt_of_le_of_lt (Nat.sub_le _ _) t.isLt)).2.2.2.1 (ix2 i n) = G3 m c (ix2 5 n) * G0 m c (ix2 (row (pb t) i) n) := by
  rw [← pb_pr t h0]
  exact (congrFun (even0 m c (pr t) (show (t.val - 1) % 2 = 0 by omega)) _).trans (dmo_row m c (pr t) i n)

/-- The accumulator once a row block's second point has run: the whole sum over the hidden columns. -/
theorem odd1 (c : Dev nD) (t : Fin cfg0.N) (h0 : ¬ t.val % 2 = 0) (i : Fin 512) (j : Fin 1024) :
    (outsAt0 m c t.val t.isLt).2.2.2.2 (ix2 i j) = HG m c (row (pb t) i) j := by
  rw [sB1 m c t h0, acc_at]
  have e := (congrFun (even1 m c (pr t) (show (t.val - 1) % 2 = 0 by omega)) (ix2 i j)).trans (acc_at _ _ _ _ _ i j)
  rw [z0_at, zero_add] at e
  refine (congrArg₂ (· + ·) e rfl).trans ?_
  unfold HG
  refine Eq.trans ?_ (Fin.sum_univ_tiles 8 512 rfl (fun q : Fin 4096 => DHQ m c (row (pb t) i) q * G5 m c (ix3 (hs q) j (hk q)))).symm
  refine Eq.trans ?_ (Fin.sum_univ_tiles 2 4 rfl (fun s : Fin 8 => ∑ k : Fin 512, DHQ m c (row (pb t) i) (hcol s k) * G5 m c (ix3 (hs (hcol s k)) j (hk (hcol s k))))).symm
  rw [Fin.sum_univ_two]
  refine congrArg₂ (· + ·) (Finset.sum_congr rfl fun u _ => ?_) (Finset.sum_congr rfl fun u _ => ?_)
  · rw [pt_at m c (pr t) _ (dmo_row m c (pr t)), pb_pr t h0]
    have es : sl (pr t) u = ⟨0 * 4 + u.val, by have := u.isLt; omega⟩ := Fin.ext (show (t.val - 1) % 2 * 4 + u.val = 0 * 4 + u.val by omega)
    rw [es]
    rfl
  · rw [pt_at m c t _ (odd0 m c t h0)]
    have es : sl t u = ⟨1 * 4 + u.val, by have := u.isLt; omega⟩ := Fin.ext (show t.val % 2 * 4 + u.val = 1 * 4 + u.val by omega)
    rw [es]
    rfl

/-- A point's hidden block. -/
theorem out7 (c : Dev nD) (t : Fin cfg0.N) (i : Fin 512) (u : Fin 4) (k : Fin 512) :
    (outsAt0 m c t.val t.isLt).1 (ix2 i (col u k)) = DHQ m c (row (pb t) i) (hcol (sl t u) k) := by
  by_cases h0 : t.val % 2 = 0
  · rw [even7 m c t h0, hid_at]
    exact dh_at m c t _ (dmo_row m c t) i u k
  · rw [oB7 m c t h0, hid_at]
    exact dh_at m c t _ (odd0 m c t h0) i u k

theorem final7 (c : Dev nD) : (show FVec Ideal S8192x4096 .bf16 from (dats m 0 c).arrAt 7 cfg0.N) = fun y => DHQ m c (y 0) (y 1) := by
  refine (dats m 0 c).arrAt_eq_of_covers 7 _ (by decide +kernel) fun t hf y => ?_
  rw [after0_7]
  simp only [cast_eq]
  have emb : ∀ (i : Fin 512) (u : Fin 4) (k : Fin 512), (win0_7.blk t).view.emb (ix2 i (col u k)) = (ix2 (row (pb t) i) (hcol (sl t u) k) : S8192x4096.Idx) := fun i u k => by
    blk_ext [idx t, row, pb, col, hcol, sl]
  have blk : ∀ y : S512x2048.Idx, (outsAt0 m c t.val t.isLt).1 y = (fun y : S8192x4096.Idx => DHQ m c (y 0) (y 1)) ((win0_7.blk t).view.emb y) := fun y => by
    idx_vars y
    have hq : y1 = col ⟨y1.val / 512, by have := y1.isLt; omega⟩ ⟨y1.val % 512, by omega⟩ := Fin.ext (show y1.val = 512 * (y1.val / 512) + y1.val % 512 by omega)
    rw [hq, out7, emb]
    rfl
  exact blk y

/-- The scale of a row's norm, and the gradients of the row, over the whole arrays. -/
def RG (c : Dev nD) (r : Fin 8192) : EReal := Ideal.rsqrt (Ideal.div (∑ n : Fin 1024, G1 m c (ix2 r n) * G1 m c (ix2 r n)) N1 + Ideal.ofBits .f32 0x358637BD#32)
def NG (c : Dev nD) (r : Fin 8192) (j : Fin 1024) : EReal := HG m c r j * (G4 m c (ix2 0 j) * (1 + G3 m c (ix2 4 j)))
def XG (c : Dev nD) (r : Fin 8192) (j : Fin 1024) : EReal :=
  G0 m c (ix2 r j) + RG m c r * (NG m c r j - G1 m c (ix2 r j) * RG m c r * Ideal.div (∑ n : Fin 1024, NG m c r n * (G1 m c (ix2 r n) * RG m c r)) N1)

theorem rr_at (c : Dev nD) (t : Fin cfg0.N) (i : Fin 512) : RR (X1 m c t) i = RG m c (row (pb t) i) := by
  unfold RR RG
  simp only [X1_at]

theorem out8 (c : Dev nD) (t : Fin cfg0.N) (h0 : ¬ t.val % 2 = 0) (i : Fin 512) (j : Fin 1024) :
    (outsAt0 m c t.val t.isLt).2.1 (ix2 i j) = XG m c (row (pb t) i) j := by
  have en : ∀ n : Fin 1024, k0_pay8 (outsAt0 m c t.val t.isLt).2.2.2.2 (X4 m c t)
      (View.ld (Val := Elt Ideal) (e' := .f32) (X3 m c t) (Rect.unit ![4, 0] S1x1024.size inb_S6x1024_S1x1024_4_0)) (ix2 i n) = NG m c (row (pb t) i) n := fun n => by
    rw [pay8, odd1 m c t h0, X4_at, ld_4, X3_at]
    rfl
  have ex : ∀ n : Fin 1024, k0_pay5 (X1 m c t) (ix2 i n) = G1 m c (ix2 (row (pb t) i) n) * RG m c (row (pb t) i) := fun n => by
    rw [pay5, rr_at, X1_at]
  rw [oB8 m c t h0, pay3]
  unfold XG
  refine congrArg₂ (· + ·) (X0_at m c t i j) (congrArg₂ (· * ·) ((pay4 _ i).trans (rr_at m c t i)) (congrArg₂ (· - ·) (en j) (congrArg₂ (· * ·) (ex j) (congrArg (Ideal.div · N1) ?_))))
  exact Finset.sum_congr rfl fun n _ => congrArg₂ (· * ·) (en n) (ex n)

theorem final8 (c : Dev nD) : (show FVec Ideal S8192x1024 .f32 from (dats m 0 c).arrAt 8 cfg0.N) = fun y => XG m c (y 0) (y 1) := by
  refine (dats m 0 c).arrAt_eq_of_covers 8 _ (by decide +kernel) fun t hf y => ?_
  rw [after0_8]
  simp only [cast_eq]
  have h0 : ¬ t.val % 2 = 0 := by have := (flush0_8 t).mp hf; omega
  have emb : ∀ (i : Fin 512) (j : Fin 1024), (win0_8.blk t).view.emb (ix2 i j) = (ix2 (row (pb t) i) j : S8192x1024.Idx) := fun i j => by
    blk_ext [idx t, row, pb]
  have blk : ∀ y : S512x1024.Idx, (outsAt0 m c t.val t.isLt).2.1 y = (fun y : S8192x1024.Idx => XG m c (y 0) (y 1)) ((win0_8.blk t).view.emb y) := fun y => by
    idx_vars y
    rw [out8 m c t h0, emb]
    rfl
  exact blk y

/-- What a point adds to the sums: nothing at a row block's first point, its rows' sums at the second. -/
def part (c : Dev nD) (t : Fin cfg0.N) (y : S8x1024.Idx) : EReal := if t.val % 2 = 0 then 0 else inc m c t y

theorem stepA (c : Dev nD) (t : Fin cfg0.N) (h : t.val % 32 = 0) (y : S8x1024.Idx) : (outsAt0 m c t.val t.isLt).2.2.1 y = 0 + part m c t y := by
  have h0 : t.val % 2 = 0 := by omega
  rw [oA9 m c t h0 h]
  exact ((congrArg (0 + ·) (if_pos h0)).trans (add_zero 0)).symm

theorem stepB (c : Dev nD) (t : Fin cfg0.N) (h : ¬ t.val % 32 = 0) (y : S8x1024.Idx) :
    (outsAt0 m c t.val t.isLt).2.2.1 y = (outsAt0 m c (t.val - 1) (Nat.lt_of_le_of_lt (Nat.sub_le _ _) t.isLt)).2.2.1 y + part m c t y := by
  by_cases h0 : t.val % 2 = 0
  · rw [oC9 m c t h0 h]
    exact ((congrArg (_ + ·) (if_pos h0)).trans (add_zero _)).symm
  · rw [oB9 m c t h0 y]
    exact congrArg (_ + ·) (if_neg h0).symm

/-- A row of the sums, from the whole arrays. -/
def SG (c : Dev nD) (i : Fin 8) (j : Fin 1024) : EReal :=
  if i.val = 0 then ∑ r : Fin 8192, HG m c r j else if i.val = 1 then ∑ r : Fin 8192, HG m c r j * (G1 m c (ix2 r j) * RG m c r) else 0

theorem inc_at (c : Dev nD) (t : Fin cfg0.N) (h0 : ¬ t.val % 2 = 0) (i : Fin 8) (j : Fin 1024) : inc m c t (ix2 i j)
    = if i.val = 0 then ∑ r : Fin 512, HG m c (row (pb t) r) j
      else if i.val = 1 then ∑ r : Fin 512, HG m c (row (pb t) r) j * (G1 m c (ix2 (row (pb t) r) j) * RG m c (row (pb t) r)) else 0 := by
  unfold inc
  refine congrArg₂ (ite (i.val = 0)) (Finset.sum_congr rfl fun r _ => odd1 m c t h0 r j) (congrArg (ite (i.val = 1) · 0) (Finset.sum_congr rfl fun r _ => ?_))
  exact congrArg₂ (· * ·) (odd1 m c t h0 r j) (congrArg₂ (· * ·) (X1_at m c t r j) (rr_at m c t r))

/-- All points' parts together. -/
theorem sum_part (c : Dev nD) (i : Fin 8) (j : Fin 1024) : ∑ p : Fin cfg0.N, part m c p (ix2 i j) = SG m c i j := by
  refine (Fin.sum_univ_tiles 16 2 rfl (fun p : Fin 32 => part m c p (ix2 i j))).trans ?_
  have e : ∀ p : Fin 16, ∑ r : Fin 2, part m c ⟨p.val * 2 + r.val, by have := p.isLt; have := r.isLt; show _ < 32; omega⟩ (ix2 i j)
      = if i.val = 0 then ∑ r : Fin 512, HG m c (row p r) j
        else if i.val = 1 then ∑ r : Fin 512, HG m c (row p r) j * (G1 m c (ix2 (row p r) j) * RG m c (row p r)) else 0 := fun p => by
    rw [Fin.sum_univ_two]
    refine (congrArg₂ (· + ·) (if_pos (show (p.val * 2 + 0) % 2 = 0 by omega)) ((if_neg (show ¬ (p.val * 2 + 1) % 2 = 0 by omega)).trans (inc_at m c _ (show ¬ (p.val * 2 + 1) % 2 = 0 by omega) i j))).trans ((zero_add _).trans ?_)
    have ep : pb ⟨p.val * 2 + 1, by have := p.isLt; show _ < 32; omega⟩ = p := Fin.ext (show (p.val * 2 + 1) / 2 = p.val by omega)
    exact congrArg (fun p : Fin 16 => if i.val = 0 then ∑ r : Fin 512, HG m c (row p r) j
        else if i.val = 1 then ∑ r : Fin 512, HG m c (row p r) j * (G1 m c (ix2 (row p r) j) * RG m c (row p r)) else 0) ep
  refine (Finset.sum_congr rfl fun p _ => e p).trans ?_
  unfold SG
  by_cases h0 : i.val = 0
  · simp only [if_pos h0]
    exact (Fin.sum_univ_tiles 16 512 rfl (fun r : Fin 8192 => HG m c r j)).symm
  by_cases h1 : i.val = 1
  · simp only [if_neg h0, if_pos h1]
    exact (Fin.sum_univ_tiles 16 512 rfl (fun r : Fin 8192 => HG m c r j * (G1 m c (ix2 r j) * RG m c r))).symm
  · simp only [if_neg h0, if_neg h1]
    exact Finset.sum_const_zero

/-- The last point. -/
def tl : Fin cfg0.N := ⟨31, lt_of_lt_of_eq (by decide) N_0.symm⟩

theorem final9 (c : Dev nD) : (show FVec Ideal S8x1024 .f32 from (dats m 0 c).arrAt 9 cfg0.N) = fun y => SG m c (y 0) (y 1) := by
  refine (dats m 0 c).arrAt_eq_of_after_last 9 tl (by decide +kernel) _ fun y => ?_
  rw [after0_9, Pipeline.eq_sum_fin_of_reset_step_apply_last (fun n h => (outsAt0 m c n h).2.2.1) 32 (fun _ => 0) (part m c) (stepA m c) (stepB m c) (le_of_eq N_0) tl rfl, zero_add]
  simp only [cast_eq]
  idx_vars y
  exact sum_part m c y0 y1

end Cert.MlpKIdeal.Final

end
-- ==== Proof.MlpSpec.lean ====
/- The gradient of the gated MLP and of the norm before it, as formulas over the six arguments: residual rows `x0`, modulation rows `x1`, the norm's gain `x2`,
   the two weight matrices `x3` and `x4`, and the cotangent `x5`. -/
module

public import proofs.«01_k».proof.MlpRIdeal
public import proofs.«01_k».proof.Proof.Real

@[expose] public section

noncomputable section

open Idealize.ShloMosaic Idealize.ShloMosaic.TcCoe Idealize.SL.Sem

namespace Cert.Mlp

open Cert.MlpRIdeal

variable (x0 : FVec Ideal S8192x1024 .f32) (x1 : FVec Ideal S6x1024 .f32) (x2 : FVec Ideal S1024 .f32) (x3 : FVec Ideal S1024x4096 .f32) (x4 : FVec Ideal S4096x1024 .f32) (x5 : FVec Ideal S8192x1024 .f32)

/-- The words for two, for the row's length and for the norm's constant. -/
abbrev two : EReal := Ideal.ofBits .f32 0x40000000#32
abbrev len : EReal := Ideal.ofBits .f32 0x44800000#32
abbrev eps : EReal := Ideal.ofBits .f32 0x358637BD#32

/-- A row's mean square and constant, and its scale. -/
def S (r : Fin 8192) : EReal := Ideal.div (∑ n : Fin 1024, x0 (ix2 r n) * x0 (ix2 r n)) len + eps
def R (r : Fin 8192) : EReal := Ideal.rsqrt (S x0 r)
/-- The norm's gain under the modulation. -/
def gain (n : Fin 1024) : EReal := x2 (ix1 n) * (1 + x1 (ix2 4 n))
/-- The hidden layer before its squared ReLU. -/
def HP (r : Fin 8192) (q : Fin 4096) : EReal := ∑ n : Fin 1024, (x0 (ix2 r n) * R x0 r * gain x1 x2 n + x1 (ix2 3 n)) * x3 (ix2 n q)
/-- The gradients there, at the normed row, and at the row under its gain. -/
def DH (r : Fin 8192) (q : Fin 4096) : EReal := (∑ n : Fin 1024, x1 (ix2 5 n) * x5 (ix2 r n) * x4 (ix2 q n)) * (two * max (HP x0 x1 x2 x3 r q) 0)
def H (r : Fin 8192) (j : Fin 1024) : EReal := ∑ q : Fin 4096, DH x0 x1 x2 x3 x4 x5 r q * x3 (ix2 j q)
def N (r : Fin 8192) (j : Fin 1024) : EReal := H x0 x1 x2 x3 x4 x5 r j * gain x1 x2 j
/-- The gradient of the residual row. -/
def X (r : Fin 8192) (j : Fin 1024) : EReal :=
  x5 (ix2 r j) + R x0 r * (N x0 x1 x2 x3 x4 x5 r j - x0 (ix2 r j) * R x0 r * Ideal.div (∑ n : Fin 1024, N x0 x1 x2 x3 x4 x5 r n * (x0 (ix2 r n) * R x0 r)) len)
/-- The gradients of the shift and of the gain, on rows 0 and 1. -/
def T (i : Fin 8) (j : Fin 1024) : EReal :=
  if i.val = 0 then ∑ r : Fin 8192, H x0 x1 x2 x3 x4 x5 r j
  else if i.val = 1 then ∑ r : Fin 8192, H x0 x1 x2 x3 x4 x5 r j * (x0 (ix2 r j) * R x0 r) else 0

end Cert.Mlp

end
-- ==== Proof.MlpHost.lean ====
module

public import proofs.«01_k».proof.Proof.MlpFinal
public import proofs.«01_k».proof.Proof.MlpSpec
public import Idealize.ShloMosaic.Lib.StableHlo.ReadAt

@[expose] public section

set_option maxRecDepth 16384

noncomputable section

open Idealize.ShloMosaic Idealize.ShloMosaic.TcCoe Idealize.SL.Sem

namespace Cert.MlpKIdeal.Final

open Cert.MlpKIdeal Cert.MlpKIdeal.Gen

variable (m : (ℓ : Loc nD τ sig) → Buf (Elt Ideal) ℓ) (c : Dev nD)

/-- The six arguments. -/
abbrev A0 : FVec Ideal S8192x1024 .f32 := m ((c.tc : Thread nD τ).loc main_arg0)
abbrev A1 : FVec Ideal S6x1024 .f32 := m ((c.tc : Thread nD τ).loc main_arg1)
abbrev A2 : FVec Ideal S1024 .f32 := m ((c.tc : Thread nD τ).loc main_arg2)
abbrev A3 : FVec Ideal S1024x4096 .f32 := m ((c.tc : Thread nD τ).loc main_arg3)
abbrev A4 : FVec Ideal S4096x1024 .f32 := m ((c.tc : Thread nD τ).loc main_arg4)
abbrev A5 : FVec Ideal S8192x1024 .f32 := m ((c.tc : Thread nD τ).loc main_arg5)

theorem G0_at (r : Fin 8192) (j : Fin 1024) : G0 m c (ix2 r j) = A5 m c (ix2 r j) := by
  show (show FVec Ideal S8192x1024 .f32 from Gen.V m c main_arg5) (ix2 r j) = _
  dsimp only [Gen.V]; after_reads_at
theorem G1_at (r : Fin 8192) (j : Fin 1024) : G1 m c (ix2 r j) = A0 m c (ix2 r j) := by
  show (show FVec Ideal S8192x1024 .f32 from Gen.V m c main_arg0) (ix2 r j) = _
  dsimp only [Gen.V]; after_reads_at
theorem G3_at (r : Fin 6) (j : Fin 1024) : G3 m c (ix2 r j) = A1 m c (ix2 r j) := by
  show (show FVec Ideal S6x1024 .f32 from Gen.V m c main_arg1) (ix2 r j) = _
  dsimp only [Gen.V]; after_reads_at
theorem G4_at (j : Fin 1024) : G4 m c (ix2 0 j) = A2 m c (ix1 j) := by
  show (show FVec Ideal S1x1024 .f32 from Gen.V m c main_v8) (ix2 0 j) = _
  dsimp only [Gen.V]; after_reads_at
theorem G5_at (s : Fin 8) (j : Fin 1024) (k : Fin 512) : G5 m c (ix3 s j k) = A3 m c (ix2 j (hcol s k)) := by
  show (show FVec Ideal S8x1024x512 .bf16 from Gen.V m c main_v27) (ix3 s j k) = _
  dsimp only [Gen.V]; after_reads_at
  rfl
theorem G6_at (s : Fin 8) (k : Fin 512) (n : Fin 1024) : G6 m c (ix3 s k n) = A4 m c (ix2 (hcol s k) n) := by
  show (show FVec Ideal S8x512x1024 .bf16 from Gen.V m c main_v29) (ix3 s k n) = _
  dsimp only [Gen.V]; after_reads_at
  rfl
theorem G2_at (r : Fin 8192) (q : Fin 4096) : G2 m c (ix2 r q) = Mlp.HP (A0 m c) (A1 m c) (A2 m c) (A3 m c) r q := by
  show (show FVec Ideal S8192x4096 .bf16 from Gen.V m c main_v24) (ix2 r q) = _
  dsimp only [Gen.V]; after_reads_at
  exact Finset.sum_congr rfl fun n _ => congrArg (fun z : EReal => (z + A1 m c (ix2 3 n)) * A3 m c (ix2 n q)) (mul_assoc _ _ _)

theorem G0_eq : G0 m c = A5 m c := by
  funext y
  idx_vars y
  exact G0_at m c y0 y1
theorem G1_eq : G1 m c = A0 m c := by
  funext y
  idx_vars y
  exact G1_at m c y0 y1

/-- The kernel's arrays are the formulas over the arguments. -/
theorem gain_at (n : Fin 1024) : G4 m c (ix2 0 n) * (1 + G3 m c (ix2 4 n)) = Mlp.gain (A1 m c) (A2 m c) n := by
  rw [G4_at, G3_at]
  rfl
theorem DHQ_at (r : Fin 8192) (q : Fin 4096) : DHQ m c r q = Mlp.DH (A0 m c) (A1 m c) (A2 m c) (A3 m c) (A4 m c) (A5 m c) r q := by
  have e : hcol (hs q) (hk q) = q := Fin.ext (show q.val / 512 * 512 + q.val % 512 = q.val by omega)
  unfold DHQ Mlp.DH
  rw [G2_at]
  rw [G0_eq]
  exact congrArg (· * (two * max (Mlp.HP (A0 m c) (A1 m c) (A2 m c) (A3 m c) r q) 0)) (Finset.sum_congr rfl fun n _ => by rw [G3_at, G6_at, e])
theorem HG_at (r : Fin 8192) (j : Fin 1024) : HG m c r j = Mlp.H (A0 m c) (A1 m c) (A2 m c) (A3 m c) (A4 m c) (A5 m c) r j := by
  have e : ∀ q, hcol (hs q) (hk q) = q := fun q => Fin.ext (show q.val / 512 * 512 + q.val % 512 = q.val by omega)
  unfold HG Mlp.H
  exact Finset.sum_congr rfl fun q _ => by rw [DHQ_at, G5_at, e]
theorem RG_at (r : Fin 8192) : RG m c r = Mlp.R (A0 m c) r := by
  unfold RG Mlp.R Mlp.S
  rw [G1_eq]
theorem NG_at (r : Fin 8192) (j : Fin 1024) : NG m c r j = Mlp.N (A0 m c) (A1 m c) (A2 m c) (A3 m c) (A4 m c) (A5 m c) r j :=
  congrArg₂ (· * ·) (HG_at m c r j) (gain_at m c j)
theorem XG_at (r : Fin 8192) (j : Fin 1024) : XG m c r j = Mlp.X (A0 m c) (A1 m c) (A2 m c) (A3 m c) (A4 m c) (A5 m c) r j := by
  unfold XG Mlp.X
  rw [G0_eq, G1_eq]
  simp only [RG_at, NG_at]
theorem SG_at (i : Fin 8) (j : Fin 1024) : SG m c i j = Mlp.T (A0 m c) (A1 m c) (A2 m c) (A3 m c) (A4 m c) (A5 m c) i j := by
  unfold SG Mlp.T
  rw [G1_eq]
  simp only [RG_at, HG_at]

end Cert.MlpKIdeal.Final

end
-- ==== Proof.NormRow.lean ====
/- The gradient of a row under its root-mean-square norm: the reference's form, which differentiates the root, is the closed one where the row is real. -/
module

public import proofs.«01_k».proof.Proof.Real

@[expose] public section

noncomputable section

open Idealize.ShloMosaic Idealize.ShloMosaic.TcCoe Idealize.SL.Sem

namespace Cert.NormRow

/-- The words for the row's length and for the norm's constant. -/
abbrev len : EReal := Ideal.ofBits .f32 0x44800000#32
abbrev eps : EReal := Ideal.ofBits .f32 0x358637BD#32

theorem len_word : len = ((1024 : ℝ) : EReal) := by
  simp [Ideal.ofBits, Ideal.ieee]
  rw [← EReal.coe_mul, EReal.coe_eq_coe_iff]
  norm_num
theorem half_word : Ideal.ofBits .f32 0xBF000000#32 = ((-(1 / 2) : ℝ) : EReal) := by
  simp [Ideal.ofBits, Ideal.ieee]
  rw [← EReal.coe_mul, EReal.coe_eq_coe_iff]
  norm_num
theorem eps_word : ∃ e : ℝ, 0 < e ∧ eps = ((e : ℝ) : EReal) := by
  refine ⟨8796093 / 2 ^ 43, by norm_num, ?_⟩
  simp [Ideal.ofBits, Ideal.ieee]
  rw [← EReal.coe_mul, EReal.coe_eq_coe_iff]
  norm_num

/-- The derivative of a root, once: what the row's scale sends back meets the row twice. -/
theorem norm_back (L s ρ x a ν : ℝ) (hs : 0 < s) (hρ : ρ = (Real.sqrt s)⁻¹) :
    ν * ρ + x * (a * (-(1 / 2) * (ρ / s)) / L) + a * (-(1 / 2) * (ρ / s)) / L * x = ρ * (ν - x * ρ * (ρ * a / L)) := by
  have e : ρ / s = ρ * ρ * ρ := by
    have hs' : s⁻¹ = ρ * ρ := by rw [hρ, ← mul_inv, Real.mul_self_sqrt hs.le]
    rw [div_eq_mul_inv, hs']
    ring
  rw [e]
  ring

section Any

variable {N : ℕ} (L : ℝ) (w : EReal) (x n : Fin N → EReal) (X ν : Fin N → ℝ)

/-- A real row's mean square and constant are a positive real. -/
theorem mean_of (hL : 0 < L) (hw : w = (L : EReal)) (hx : ∀ k, x k = (X k : EReal)) : ∃ s : ℝ, 0 < s ∧ Ideal.div (∑ k : Fin N, x k * x k) w + eps = (s : EReal) := by
  obtain ⟨e, he, ew⟩ := eps_word
  refine ⟨(∑ k : Fin N, X k * X k) / L + e, ?_, ?_⟩
  · have : 0 ≤ ∑ k : Fin N, X k * X k := Finset.sum_nonneg fun k _ => mul_self_nonneg _
    positivity
  · rw [hw, ew, EReal.coe_add, ← Rl.div_real _ _ hL.ne']
    simp only [hx, Rl.coe_sum, EReal.coe_mul]

/-- The derivative of a row's scale, as it is carried down the row, from the mean square `s`. -/
def CL (s : EReal) : EReal := Ideal.div ((∑ k : Fin N, x k * n k) * (Ideal.ofBits .f32 0xBF000000#32 * Ideal.div (Ideal.rsqrt s) s)) w

/-- A row's gradient, with the row and the gradient at its normed form real numbers. -/
theorem row_back_of (hL : 0 < L) (hw : w = (L : EReal)) (s : ℝ) (hs : 0 < s) (hx : ∀ k, x k = (X k : EReal)) (hn : ∀ k, n k = (ν k : EReal)) (d : EReal) (j : Fin N) :
    d + n j * Ideal.rsqrt (s : EReal) + x j * CL w x n s + CL w x n s * x j
      = d + Ideal.rsqrt (s : EReal) * (n j - x j * Ideal.rsqrt (s : EReal) * Ideal.div (∑ k : Fin N, n k * (x k * Ideal.rsqrt (s : EReal))) w) := by
  obtain ⟨ρ, hρ⟩ : ∃ ρ : ℝ, ρ = (Real.sqrt s)⁻¹ := ⟨_, rfl⟩
  have ec : CL w x n s = (((∑ k : Fin N, X k * ν k) * (-(1 / 2) * (ρ / s)) / L : ℝ) : EReal) := by
    unfold CL
    rw [Rl.rsqrt_real s hs, ← hρ, half_word, hw, Rl.div_real _ _ (ne_of_gt hs), ← Rl.div_real _ L hL.ne']
    simp only [hn, hx, ← EReal.coe_mul, ← Rl.coe_sum]
  rw [ec, Rl.rsqrt_real s hs, ← hρ]
  have ed : Ideal.div (∑ k : Fin N, n k * (x k * (ρ : EReal))) w = ((ρ * (∑ k : Fin N, X k * ν k) / L : ℝ) : EReal) := by
    rw [hw, ← Rl.div_real _ _ hL.ne', Finset.mul_sum]
    simp only [hn, hx, ← EReal.coe_mul, ← Rl.coe_sum]
    exact congrArg (fun z : ℝ => Ideal.div (z : EReal) _) (Finset.sum_congr rfl fun k _ => by ring)
  rw [ed, hn, hx, add_assoc, add_assoc, ← add_assoc (((ν j : ℝ) : EReal) * _)]
  simp only [← EReal.coe_mul, ← EReal.coe_add, ← EReal.coe_sub]
  exact congrArg (fun z : ℝ => d + (z : EReal)) (norm_back L s ρ _ _ _ hs hρ)

end Any

/-! The rows of the residual stream. -/

variable (x n : Fin 1024 → EReal) (X ν : Fin 1024 → ℝ)

theorem mean_real (hx : ∀ k, x k = (X k : EReal)) : ∃ s : ℝ, 0 < s ∧ Ideal.div (∑ k : Fin 1024, x k * x k) len + eps = (s : EReal) :=
  mean_of 1024 len x X (by norm_num) len_word hx

abbrev C (s : EReal) : EReal := CL len x n s

theorem row_back (s : ℝ) (hs : 0 < s) (hx : ∀ k, x k = (X k : EReal)) (hn : ∀ k, n k = (ν k : EReal)) (d : EReal) (j : Fin 1024) :
    d + n j * Ideal.rsqrt (s : EReal) + x j * C x n s + C x n s * x j
      = d + Ideal.rsqrt (s : EReal) * (n j - x j * Ideal.rsqrt (s : EReal) * Ideal.div (∑ k : Fin 1024, n k * (x k * Ideal.rsqrt (s : EReal))) len) :=
  row_back_of 1024 len x n X ν (by norm_num) len_word s hs hx hn d j

end Cert.NormRow

end
-- ==== Proof.MlpRef.lean ====
/- The MLP's gradient, read from the reference at an index. -/
module

public import proofs.«01_k».proof.Proof.Gen.MlpRIdeal.Run
public import proofs.«01_k».proof.Proof.Gen.MlpRIdeal.Read
public import proofs.«01_k».proof.Proof.MlpSpec
public import proofs.«01_k».proof.Proof.NormRow

@[expose] public section

set_option maxRecDepth 16384

noncomputable section

open Idealize.ShloMosaic Idealize.ShloMosaic.TcCoe Idealize.SL.Sem

namespace Cert.MlpRIdeal.Final

open Cert.MlpRIdeal Cert.MlpRIdeal.Gen Cert.MlpRIdeal.Read Cert.Mlp

variable (x0 : FVec Ideal S8192x1024 .f32) (x1 : FVec Ideal S6x1024 .f32) (x2 : FVec Ideal S1024 .f32) (x3 : FVec Ideal S1024x4096 .f32) (x4 : FVec Ideal S4096x1024 .f32) (x5 : FVec Ideal S8192x1024 .f32)

theorem v16 (r : Fin 8192) (u : Fin 1) : val_main_v16 (F := Ideal) x0 (ix2 r u) = S x0 r := by
  unfold S
  pointwise [val_main_v16, val_main_v15, val_main_cst_3, val_main_v14, val_main_v13, val_main_cst_2, val_main_v12, val_main_v11, val_main_cst_1, val_main_v10]

theorem v17 (r : Fin 8192) (u : Fin 1) : val_main_v17 (F := Ideal) x0 (ix2 r u) = R x0 r :=
  congrArg Ideal.rsqrt (v16 x0 r u)

theorem v9 (n : Fin 1024) : val_main_v9 (F := Ideal) x1 x2 (ix1 n) = gain x1 x2 n := by
  unfold gain
  pointwise [val_main_v9, val_main_v8, val_main_v7, val_main_cst_0, val_main_v3, val_main_v2]

theorem v22 (r : Fin 8192) (n : Fin 1024) : val_main_v22 (F := Ideal) x0 (ix2 r n) = x0 (ix2 r n) * R x0 r := by
  refine Eq.trans ?_ (congrArg (x0 (ix2 r n) * ·) (v17 x0 r 0))
  generalize hh : val_main_v17 (F := Ideal) x0 = y
  pointwise [val_main_v22, val_main_v21, hh]

theorem v28 (r : Fin 8192) (n : Fin 1024) : val_main_v28 (F := Ideal) x0 x1 x2 (ix2 r n) = x0 (ix2 r n) * R x0 r * gain x1 x2 n + x1 (ix2 3 n) := by
  rw [← v22, ← v9]
  generalize hh : val_main_v22 (F := Ideal) x0 = y
  generalize hg : val_main_v9 (F := Ideal) x1 x2 = z
  pointwise [val_main_v28, val_main_v27, val_main_v26, val_main_v25, val_main_v24, val_main_v23, val_main_v1, val_main_v0, hh, hg]

theorem v30 (r : Fin 8192) (q : Fin 4096) : val_main_v30 (F := Ideal) x0 x1 x2 x3 (ix2 r q) = HP x0 x1 x2 x3 r q := by
  unfold HP
  simp only [← v28]
  generalize hh : val_main_v28 (F := Ideal) x0 x1 x2 = y
  pointwise [val_main_v30, val_main_v29, val_main_v6, val_main_cst, hh]

theorem v47 (r : Fin 8192) (q : Fin 4096) : val_main_v47 (F := Ideal) x0 x1 x2 x3 x4 x5 (ix2 r q) = DH x0 x1 x2 x3 x4 x5 r q := by
  unfold DH
  rw [← v30]
  generalize hh : val_main_v30 (F := Ideal) x0 x1 x2 x3 = y
  pointwise [val_main_v47, val_main_v46, val_main_v45, val_main_v44, val_main_v43, val_main_v39, val_main_v5, val_main_v4, val_main_v37, val_main_v36, val_main_cst_7, val_main_v31, val_main_call0_v0, val_main_call0_cst, hh]

theorem v49 (r : Fin 8192) (q : Fin 4096) : val_main_v49 (F := Ideal) x0 x1 x2 x3 x4 x5 (ix2 r q) = DH x0 x1 x2 x3 x4 x5 r q := by
  have e : val_main_v49 (F := Ideal) x0 x1 x2 x3 x4 x5 (ix2 r q) = if 0 < val_main_v30 (F := Ideal) x0 x1 x2 x3 (ix2 r q) then val_main_v47 (F := Ideal) x0 x1 x2 x3 x4 x5 (ix2 r q) else 0 := by
    generalize hh : val_main_v30 (F := Ideal) x0 x1 x2 x3 = y
    generalize hg : val_main_v47 (F := Ideal) x0 x1 x2 x3 x4 x5 = z
    pointwise [val_main_v49, val_main_v33, val_main_v32, val_main_cst_5, val_main_v48, val_main_cst_8, hh, hg]
  rw [e, v30, v47]
  split_ifs with h
  · rfl
  · unfold DH
    rw [max_eq_right (not_lt.mp h), mul_zero, mul_zero]

theorem v50 (r : Fin 8192) (j : Fin 1024) : val_main_v50 (F := Ideal) x0 x1 x2 x3 x4 x5 (ix2 r j) = H x0 x1 x2 x3 x4 x5 r j := by
  unfold H
  simp only [← v49]
  generalize hh : val_main_v49 (F := Ideal) x0 x1 x2 x3 x4 x5 = y
  pointwise [val_main_v50, hh]

theorem v75 (r : Fin 8192) (q : Fin 4096) : val_main_v75 (F := Ideal) x0 x1 x2 x3 x4 x5 (ix2 r q) = DH x0 x1 x2 x3 x4 x5 r q := by
  rw [← v49]
  generalize hh : val_main_v49 (F := Ideal) x0 x1 x2 x3 x4 x5 = y
  pointwise [val_main_v75, hh]

theorem v58 (r : Fin 8192) (j : Fin 1024) : val_main_v58 (F := Ideal) x0 x1 x2 x3 x4 x5 (ix2 r j) = N x0 x1 x2 x3 x4 x5 r j := by
  unfold N
  rw [← v50, ← v9]
  generalize hh : val_main_v50 (F := Ideal) x0 x1 x2 x3 x4 x5 = y
  generalize hg : val_main_v9 (F := Ideal) x1 x2 = z
  pointwise [val_main_v58, val_main_v57, val_main_v23, hh, hg]

theorem v53 (j : Fin 1024) : val_main_v53 (F := Ideal) x0 x1 x2 x3 x4 x5 (ix1 j) = ∑ r : Fin 8192, H x0 x1 x2 x3 x4 x5 r j := by
  simp only [← v50]
  generalize hh : val_main_v50 (F := Ideal) x0 x1 x2 x3 x4 x5 = y
  pointwise [val_main_v53, val_main_cst_10, val_main_v52, val_main_v51, val_main_cst_9, hh]
  exact Fin.sum_univ_one _

theorem v59 (j : Fin 1024) : val_main_v59 (F := Ideal) x0 x1 x2 x3 x4 x5 (ix1 j) = ∑ r : Fin 8192, H x0 x1 x2 x3 x4 x5 r j * (x0 (ix2 r j) * R x0 r) := by
  simp only [← v50, ← v22, mul_comm (val_main_v50 (F := Ideal) x0 x1 x2 x3 x4 x5 (ix2 _ j))]
  generalize hh : val_main_v50 (F := Ideal) x0 x1 x2 x3 x4 x5 = y
  generalize hg : val_main_v22 (F := Ideal) x0 = z
  pointwise [val_main_v59, val_main_cst_12, val_main_v56, val_main_v55, val_main_cst_11, val_main_v54, hh, hg]
  exact Fin.sum_univ_one _

theorem v79 (i : Fin 8) (j : Fin 1024) : val_main_v79 (F := Ideal) x0 x1 x2 x3 x4 x5 (ix2 i j) = T x0 x1 x2 x3 x4 x5 i j := by
  have e : val_main_v79 (F := Ideal) x0 x1 x2 x3 x4 x5 (ix2 i j) = if i.val = 0 then val_main_v53 (F := Ideal) x0 x1 x2 x3 x4 x5 (ix1 j)
      else if i.val = 1 then val_main_v59 (F := Ideal) x0 x1 x2 x3 x4 x5 (ix1 j) else 0 := by
    generalize hh : val_main_v53 (F := Ideal) x0 x1 x2 x3 x4 x5 = y
    generalize hg : val_main_v59 (F := Ideal) x0 x1 x2 x3 x4 x5 = z
    pointwise [val_main_v79, val_main_v76, val_main_v77, val_main_v78, val_main_cst_16, hh, hg]
    by_cases h0 : i.val = 0
    · rw [dif_pos (by omega), if_pos h0]
    rw [dif_neg (by omega), if_neg h0]
    by_cases h1 : i.val = 1
    · rw [dif_pos (by omega), if_pos h1]
    · rw [dif_neg (by omega), if_neg h1]
  rw [e, v53, v59]
  rfl

/-- The derivative of a row's scale, as the reference carries it down a row. -/
abbrev C (r : Fin 8192) : EReal := NormRow.C (fun n => x0 (ix2 r n)) (fun n => N x0 x1 x2 x3 x4 x5 r n) (S x0 r)

theorem v70 (r : Fin 8192) (j : Fin 1024) : val_main_v70 (F := Ideal) x0 x1 x2 x3 x4 x5 (ix2 r j) = C x0 x1 x2 x3 x4 x5 r := by
  have e : C x0 x1 x2 x3 x4 x5 r = Ideal.div ((∑ n : Fin 1024, x0 (ix2 r n) * N x0 x1 x2 x3 x4 x5 r n) * (Ideal.ofBits .f32 0xBF000000#32 * Ideal.div (R x0 r) (S x0 r))) len := rfl
  rw [e]
  simp only [← v58, ← v16 x0 r 0, ← v17 x0 r 0]
  generalize hh : val_main_v58 (F := Ideal) x0 x1 x2 x3 x4 x5 = y
  generalize hg : val_main_v17 (F := Ideal) x0 = z
  generalize hs : val_main_v16 (F := Ideal) x0 = w
  pointwise [val_main_v70, val_main_v69, val_main_cst_15, val_main_v68, val_main_v67, val_main_cst_14, val_main_v66, val_main_v62, val_main_v61, val_main_cst_13, val_main_v60, val_main_v20, val_main_v19, val_main_cst_4, val_main_v18, hh, hg, hs]
  exact Fin.sum_univ_one _

theorem v74 (r : Fin 8192) (j : Fin 1024) : val_main_v74 (F := Ideal) x0 x1 x2 x3 x4 x5 (ix2 r j)
    = x5 (ix2 r j) + N x0 x1 x2 x3 x4 x5 r j * R x0 r + x0 (ix2 r j) * C x0 x1 x2 x3 x4 x5 r + C x0 x1 x2 x3 x4 x5 r * x0 (ix2 r j) := by
  rw [← v58, ← v70 x0 x1 x2 x3 x4 x5 r j, ← v17 x0 r 0]
  generalize hh : val_main_v58 (F := Ideal) x0 x1 x2 x3 x4 x5 = y
  generalize hg : val_main_v17 (F := Ideal) x0 = z
  generalize hs : val_main_v70 (F := Ideal) x0 x1 x2 x3 x4 x5 = w
  pointwise [val_main_v74, val_main_v73, val_main_v72, val_main_v71, val_main_v65, val_main_v64, val_main_v63, hh, hg, hs]

theorem two_word : two = ((2 : ℝ) : EReal) := by
  simp [Ideal.ofBits, Ideal.ieee]
  rw [← EReal.coe_mul, EReal.coe_eq_coe_iff]
  norm_num
/-- With the arguments real numbers the gradient of the normed row under its gain is one too. -/
theorem N_real (X0 : S8192x1024.Idx → ℝ) (X1 : S6x1024.Idx → ℝ) (X2 : S1024.Idx → ℝ) (X3 : S1024x4096.Idx → ℝ) (X4 : S4096x1024.Idx → ℝ) (X5 : S8192x1024.Idx → ℝ)
    (h0 : x0 = fun i => (X0 i : EReal)) (h1 : x1 = fun i => (X1 i : EReal)) (h2 : x2 = fun i => (X2 i : EReal)) (h3 : x3 = fun i => (X3 i : EReal))
    (h4 : x4 = fun i => (X4 i : EReal)) (h5 : x5 = fun i => (X5 i : EReal)) (r : Fin 8192) (ρ : ℝ) (hρ : R x0 r = (ρ : EReal)) :
    ∃ ν : Fin 1024 → ℝ, ∀ n, N x0 x1 x2 x3 x4 x5 r n = (ν n : EReal) := by
  have f0 : ∀ i, x0 i = (X0 i : EReal) := fun i => congrFun h0 i
  have f1 : ∀ i, x1 i = (X1 i : EReal) := fun i => congrFun h1 i
  have f2 : ∀ i, x2 i = (X2 i : EReal) := fun i => congrFun h2 i
  have f3 : ∀ i, x3 i = (X3 i : EReal) := fun i => congrFun h3 i
  have f4 : ∀ i, x4 i = (X4 i : EReal) := fun i => congrFun h4 i
  have f5 : ∀ i, x5 i = (X5 i : EReal) := fun i => congrFun h5 i
  have eg : ∀ n, gain x1 x2 n = ((X2 (ix1 n) * (1 + X1 (ix2 4 n)) : ℝ) : EReal) := fun n => by
    unfold gain
    rw [f1, f2, EReal.coe_mul, EReal.coe_add, EReal.coe_one]
  have eh : ∀ q, ∃ z : ℝ, HP x0 x1 x2 x3 r q = (z : EReal) := fun q => by
    refine ⟨∑ n : Fin 1024, (X0 (ix2 r n) * ρ * (X2 (ix1 n) * (1 + X1 (ix2 4 n))) + X1 (ix2 3 n)) * X3 (ix2 n q), ?_⟩
    unfold HP
    simp only [eg, hρ, f0, f1, f3, ← EReal.coe_mul, ← EReal.coe_add, ← Rl.coe_sum]
  choose hp ehp using eh
  refine ⟨fun j => (∑ q : Fin 4096, (∑ n : Fin 1024, X1 (ix2 5 n) * X5 (ix2 r n) * X4 (ix2 q n)) * (2 * max (hp q) 0) * X3 (ix2 j q)) * (X2 (ix1 j) * (1 + X1 (ix2 4 j))), fun j => ?_⟩
  unfold N H DH
  simp only [eg, ehp, f1, f3, f4, f5, two_word, ← EReal.coe_zero, ← Rl.coe_max, ← EReal.coe_mul, ← Rl.coe_sum]

/-- The residual row's gradient, with the arguments real numbers. -/
theorem v74_X (X0 : S8192x1024.Idx → ℝ) (X1 : S6x1024.Idx → ℝ) (X2 : S1024.Idx → ℝ) (X3 : S1024x4096.Idx → ℝ) (X4 : S4096x1024.Idx → ℝ) (X5 : S8192x1024.Idx → ℝ)
    (h0 : x0 = fun i => (X0 i : EReal)) (h1 : x1 = fun i => (X1 i : EReal)) (h2 : x2 = fun i => (X2 i : EReal)) (h3 : x3 = fun i => (X3 i : EReal))
    (h4 : x4 = fun i => (X4 i : EReal)) (h5 : x5 = fun i => (X5 i : EReal)) (r : Fin 8192) (j : Fin 1024) :
    val_main_v74 (F := Ideal) x0 x1 x2 x3 x4 x5 (ix2 r j) = X x0 x1 x2 x3 x4 x5 r j := by
  have hx : ∀ n, x0 (ix2 r n) = ((X0 (ix2 r n) : ℝ) : EReal) := fun n => congrFun h0 _
  obtain ⟨s, hs, es⟩ := NormRow.mean_real (fun n => x0 (ix2 r n)) (fun n => X0 (ix2 r n)) hx
  have e : S x0 r = (s : EReal) := es
  have er : R x0 r = (((Real.sqrt s)⁻¹ : ℝ) : EReal) := by
    unfold R
    rw [e, Rl.rsqrt_real s hs]
  obtain ⟨ν, hν⟩ := N_real x0 x1 x2 x3 x4 x5 X0 X1 X2 X3 X4 X5 h0 h1 h2 h3 h4 h5 r _ er
  have eR : R x0 r = Ideal.rsqrt (s : EReal) := congrArg Ideal.rsqrt e
  rw [v74]
  unfold X C
  rw [eR, e]
  exact NormRow.row_back _ (fun n => N x0 x1 x2 x3 x4 x5 r n) _ ν s hs hx hν (x5 (ix2 r j)) j

end Cert.MlpRIdeal.Final

end
-- ==== Proof.MlpClaims.lean ====
/- The MLP's gradient: the kernel's three results and the reference's agree where the arguments are finite. -/
module

public import proofs.«01_k».proof.Defs
public import proofs.«01_k».proof.Proof.MlpHost
public import proofs.«01_k».proof.Proof.MlpRef
public import proofs.«01_k».proof.Proof.Gen.Pre_mlp_finite
public import proofs.«01_k».proof.Proof.Gen.MlpK.Frame

@[expose] public section

set_option maxRecDepth 16384

noncomputable section

open Idealize.ShloMosaic Idealize.ShloMosaic.TcCoe Idealize.SL.Sem

namespace Cert.Proof.MlpClaims

open Cert.MlpKIdeal Cert.MlpKIdeal.Gen Cert.MlpKIdeal.Final

section Results

variable (m : (ℓ : Loc nD τ sig) → Buf (Elt Ideal) ℓ) (c : Dev nD)

theorem res7 : (Cert.MlpRIdeal.Read.val_main_v75 (F := Ideal) (A0 m c) (A1 m c) (A2 m c) (A3 m c) (A4 m c) (A5 m c) : FVec Ideal S8192x4096 .bf16)
    = (show FVec Ideal S8192x4096 .bf16 from (dats m 0 c).arrAt 7 cfg0.N) := by
  rw [final7]
  funext y
  idx_vars y
  exact (Cert.MlpRIdeal.Final.v75 _ _ _ _ _ _ y0 y1).trans (DHQ_at m c y0 y1).symm

theorem res8 (h : Cert.Pre_MlpKIdeal_mlp_finite m) : (Cert.MlpRIdeal.Read.val_main_v74 (F := Ideal) (A0 m c) (A1 m c) (A2 m c) (A3 m c) (A4 m c) (A5 m c) : FVec Ideal S8192x1024 .f32)
    = (show FVec Ideal S8192x1024 .f32 from (dats m 0 c).arrAt 8 cfg0.N) := by
  obtain ⟨h0, h1, h2, h3, h4, h5⟩ := h c
  obtain ⟨X0, e0⟩ := Rl.real_of_finite (fun _ => Rl.inf_word) h0
  obtain ⟨X1, e1⟩ := Rl.real_of_finite (fun _ => Rl.inf_word) h1
  obtain ⟨X2, e2⟩ := Rl.real_of_finite (fun _ => Rl.inf_word) h2
  obtain ⟨X3, e3⟩ := Rl.real_of_finite (fun _ => Rl.inf_word) h3
  obtain ⟨X4, e4⟩ := Rl.real_of_finite (fun _ => Rl.inf_word) h4
  obtain ⟨X5, e5⟩ := Rl.real_of_finite (fun _ => Rl.inf_word) h5
  rw [final8]
  funext y
  idx_vars y
  exact (Cert.MlpRIdeal.Final.v74_X _ _ _ _ _ _ X0 X1 X2 X3 X4 X5 e0 e1 e2 e3 e4 e5 y0 y1).trans (XG_at m c y0 y1).symm

theorem res9 : (Cert.MlpRIdeal.Read.val_main_v79 (F := Ideal) (A0 m c) (A1 m c) (A2 m c) (A3 m c) (A4 m c) (A5 m c) : FVec Ideal S8x1024 .f32)
    = (show FVec Ideal S8x1024 .f32 from (dats m 0 c).arrAt 9 cfg0.N) := by
  rw [final9]
  funext y
  idx_vars y
  exact (Cert.MlpRIdeal.Final.v79 _ _ _ _ _ _ y0 y1).trans (SG_at m c y0 y1).symm

end Results

/-- At `Ideal` the kernel's results and the reference's agree. -/
theorem algebraic : Cert.algebraic_MlpKIdeal_MlpRIdeal_pre_mlp_finite := by
  pair_intro
  · run_from Cert.MlpKIdeal.Value.run_blocks m g
  · refine (θ_run _ _ _).mono (fun r h c => ?_) (Cert.MlpRIdeal.Value.run m' g')
    obtain ⟨a0, a1, a2, a3, a4, a5⟩ := hagree c
    have H := h c
    simp only [Cert.MlpRIdeal.Read.val_main_v74_eq, Cert.MlpRIdeal.Read.val_main_v79_eq, a0, a1, a2, a3, a4, a5] at H
    obtain ⟨e0, e1, e2, -⟩ := H
    exact ⟨e0.trans (res7 m c), e1.trans (res8 m c hpre), e2.trans (res9 m c), (h c).2.2.2⟩

theorem frame_r : Cert.quiescent_MlpRIdeal := by
  intro m g _
  refine (θ_run _ _ _).mono (fun r h => ⟨fun c => (h c).2.2.2, ?_⟩) (Cert.MlpRIdeal.Value.run m g)
  exact sem_eq_zero_of_no_sems (sig := Cert.MlpRIdeal.sig) rfl _

end Cert.Proof.MlpClaims

end
-- ==== Proof.InbPoint.lean ====
module

public import proofs.«01_k».proof.Proof.Gen.InbKIdeal.Value
public import proofs.«01_k».proof.Proof.Real
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InbKIdeal.Final

open Cert.InbKIdeal Cert.InbKIdeal.Gen

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0]
    ∧ win0_6.index t = ![t.val, 0] ∧ win0_7.index t = ![0, 0] :=
  (by decide +kernel : ∀ t : Fin grid0.N, _)

/-- The six input blocks of a point. -/
abbrev X0 (c : Dev nD) (t : Fin cfg0.N) : FVec Ideal S512x3584 .bf16 := iblk m c 0 t
abbrev X1 (c : Dev nD) (t : Fin cfg0.N) : FVec Ideal S1024x3584 .bf16 := iblk m c 1 t
abbrev X2 (c : Dev nD) (t : Fin cfg0.N) : FVec Ideal S512x1024 .f32 := iblk m c 2 t
abbrev X3 (c : Dev nD) (t : Fin cfg0.N) : FVec Ideal S512x1024 .f32 := iblk m c 3 t
abbrev X4 (c : Dev nD) (t : Fin cfg0.N) : FVec Ideal S6x1024 .f32 := iblk m c 4 t
abbrev X5 (c : Dev nD) (t : Fin cfg0.N) : FVec Ideal S1x1024 .f32 := iblk m c 5 t

/-- A row of a block, from its half and its place there. -/
def hr (u : Fin 2) (i : Fin 256) : Fin 512 := ⟨u.val * 256 + i.val, by have := u.isLt; have := i.isLt; omega⟩

/-- The length of a row, as the kernel divides by it. -/
abbrev N1 : EReal := Ideal.ofBits .f32 0x44800000#32

section Loads

variable (a0 : FVec Ideal S512x3584 .bf16) (a2 : FVec Ideal S512x1024 .f32) (a4 : FVec Ideal S6x1024 .f32)

theorem ld_0 (o : ℕ) (u : Fin 2) (ho : o = u.val * 256) (inb : ∀ a, (![o, 0] : Fin 2 → ℕ) a + S256x3584.size a ≤ S512x3584.size a) (i : Fin 256) (k : Fin 3584) :
    View.ld (Val := Elt Ideal) (e' := .bf16) a0 (Rect.unit ![o, 0] S256x3584.size inb) (ix2 i k) = a0 (ix2 (hr u i) k) := by
  refine Rl.ld_at (Val := Elt Ideal) (e := .bf16) inb a0 _ _ ?_
  intro a
  fin_cases a
  · show u.val * 256 + i.val = o + i.val
    rw [ho]
  · exact (Nat.zero_add _).symm

theorem ld_2 (o : ℕ) (u : Fin 2) (ho : o = u.val * 256) (inb : ∀ a, (![o, 0] : Fin 2 → ℕ) a + S256x1024.size a ≤ S512x1024.size a) (i : Fin 256) (k : Fin 1024) :
    View.ld (Val := Elt Ideal) (e' := .f32) a2 (Rect.unit ![o, 0] S256x1024.size inb) (ix2 i k) = a2 (ix2 (hr u i) k) := by
  refine Rl.ld_at (Val := Elt Ideal) (e := .f32) inb a2 _ _ ?_
  intro a
  fin_cases a
  · show u.val * 256 + i.val = o + i.val
    rw [ho]
  · exact (Nat.zero_add _).symm

theorem ld_4 (inb : ∀ a, (![1, 0] : Fin 2 → ℕ) a + S1x1024.size a ≤ S6x1024.size a) (j : Fin 1024) :
    View.ld (Val := Elt Ideal) (e' := .f32) a4 (Rect.unit ![1, 0] S1x1024.size inb) (ix2 0 j) = a4 (ix2 1 j) := by
  refine Rl.ld_at (Val := Elt Ideal) (e := .f32) inb a4 _ _ ?_
  intro a
  fin_cases a
  exacts [rfl, (Nat.zero_add _).symm]

theorem ld_row (p : FVec Ideal S8x1024 .f32) (o : ℕ) (r : Fin 8) (ho : o = r.val) (inb : ∀ a, (![o, 0] : Fin 2 → ℕ) a + S1x1024.size a ≤ S8x1024.size a) (j : Fin 1024) :
    View.ld (Val := Elt Ideal) (e' := .f32) p (Rect.unit ![o, 0] S1x1024.size inb) (ix2 0 j) = p (ix2 r j) := by
  refine Rl.ld_at (Val := Elt Ideal) (e := .f32) inb p _ _ ?_
  intro a
  fin_cases a
  exacts [ho.symm, (Nat.zero_add _).symm]

end Loads

section Half

variable (w : Vec Ideal S256x3584 .bf16) (x1 : Vec Ideal S1024x3584 .bf16) (x : Vec Ideal S256x1024 .f32)

/-- The gradient at the modulated row, and the scale of a row's norm, over half a block. -/
def DP (i : Fin 256) (j : Fin 1024) : EReal := ∑ k : Fin 3584, w (ix2 i k) * x1 (ix2 j k)
def RP (i : Fin 256) : EReal := Ideal.rsqrt (Ideal.div (∑ n : Fin 1024, x (ix2 i n) * x (ix2 i n)) N1 + Ideal.ofBits .f32 0x358637BD#32)

theorem pay5 (i : Fin 256) (j : Fin 1024) : k0_pay5 w x1 (ix2 i j) = DP w x1 i j := by
  unfold DP
  pointwise [k0_pay5]
theorem pay6 (i : Fin 256) (j : Fin 1024) : k0_pay6 w x1 (ix2 i j) = DP w x1 i j := by
  unfold DP
  pointwise [k0_pay6]
theorem pay7 (i : Fin 256) : k0_pay7 (F := Ideal) x (ix2 i 0) = RP x i := by
  unfold RP
  pointwise [k0_pay7]
theorem pay14 (i : Fin 256) : k0_pay14 (F := Ideal) x (ix2 i 0) = RP x i := by
  unfold RP
  pointwise [k0_pay14]
theorem pay8 (i : Fin 256) (j : Fin 1024) : k0_pay8 x (ix2 i j) = x (ix2 i j) * RP x i := by
  pointwise [k0_pay8]
  exact congrArg _ (pay7 x i)
theorem pay15 (i : Fin 256) (j : Fin 1024) : k0_pay15 x (ix2 i j) = x (ix2 i j) * RP x i := by
  pointwise [k0_pay15]
  exact congrArg _ (pay14 x i)

theorem pay13 (h : FVec Ideal S256x1024 .f32) (r : FVec Ideal S256x1 .f32) (z : FVec Ideal S256x1024 .f32) (g s : Vec Ideal S1x1024 .f32) (d : Vec Ideal S256x1024 .f32) (i : Fin 256) (j : Fin 1024) :
    k0_pay13 h r z g s d (ix2 i j) = d (ix2 i j) + r (ix2 i 0) * (h (ix2 i j) * (g (ix2 0 j) * (1 + s (ix2 0 j)))
      - z (ix2 i j) * Ideal.div (∑ n : Fin 1024, h (ix2 i n) * (g (ix2 0 n) * (1 + s (ix2 0 n))) * z (ix2 i n)) N1) := by
  pointwise [k0_pay13]
theorem pay3 (h : FVec Ideal S256x1024 .f32) (r : FVec Ideal S256x1 .f32) (z : FVec Ideal S256x1024 .f32) (g s : Vec Ideal S1x1024 .f32) (d : Vec Ideal S256x1024 .f32) (i : Fin 256) (j : Fin 1024) :
    k0_pay3 h r z g s d (ix2 i j) = d (ix2 i j) + r (ix2 i 0) * (h (ix2 i j) * (g (ix2 0 j) * (1 + s (ix2 0 j)))
      - z (ix2 i j) * Ideal.div (∑ n : Fin 1024, h (ix2 i n) * (g (ix2 0 n) * (1 + s (ix2 0 n))) * z (ix2 i n)) N1) := by
  pointwise [k0_pay3]

theorem pay9 (p : Vec Ideal S1x1024 .f32) (j : Fin 1024) : k0_pay9 w x1 p (ix2 0 j) = p (ix2 0 j) + ∑ i : Fin 256, DP w x1 i j := by
  unfold DP
  pointwise [k0_pay9, k0_pay5]
theorem pay1 (p : Vec Ideal S1x1024 .f32) (j : Fin 1024) : k0_pay1 (k0_pay6 w x1) p (ix2 0 j) = p (ix2 0 j) + ∑ i : Fin 256, DP w x1 i j := by
  unfold DP
  pointwise [k0_pay1, k0_pay6]
theorem pay12 (p : Vec Ideal S1x1024 .f32) (j : Fin 1024) :
    k0_pay12 (k0_pay10 p) (k0_pay11 w x1 x) (ix2 0 j) = p (ix2 0 j) + ∑ i : Fin 256, DP w x1 i j * (x (ix2 i j) * RP x i) := by
  simp only [← pay5, ← pay8 x]
  generalize hg : k0_pay5 w x1 = g
  generalize hh : k0_pay8 x = h
  pointwise [k0_pay12, k0_pay10, k0_pay11, hg, hh]
theorem pay2 (p : Vec Ideal S1x1024 .f32) (j : Fin 1024) :
    k0_pay2 (k0_pay6 w x1) (k0_pay15 x) p (ix2 0 j) = p (ix2 0 j) + ∑ i : Fin 256, DP w x1 i j * (x (ix2 i j) * RP x i) := by
  simp only [← pay6, ← pay15 x]
  generalize hg : k0_pay6 w x1 = g
  generalize hh : k0_pay15 x = h
  pointwise [k0_pay2]
theorem pay4 (y : S8x1024.Idx) : k0_pay4 (F := Ideal) y = 0 := by pointwise [k0_pay4]

end Half

section Block

variable (a0 : FVec Ideal S512x3584 .bf16) (a1 : FVec Ideal S1024x3584 .bf16) (a2 a3 : FVec Ideal S512x1024 .f32) (a4 : FVec Ideal S6x1024 .f32) (a5 : FVec Ideal S1x1024 .f32)

abbrev l0 (o : ℕ) (inb : ∀ a, (![o, 0] : Fin 2 → ℕ) a + S256x3584.size a ≤ S512x3584.size a) : Vec Ideal S256x3584 .bf16 :=
  View.ld (Val := Elt Ideal) (e' := .bf16) a0 (Rect.unit ![o, 0] S256x3584.size inb)
abbrev l2 (o : ℕ) (inb : ∀ a, (![o, 0] : Fin 2 → ℕ) a + S256x1024.size a ≤ S512x1024.size a) : Vec Ideal S256x1024 .f32 :=
  View.ld (Val := Elt Ideal) (e' := .f32) a2 (Rect.unit ![o, 0] S256x1024.size inb)

/-- The gradient at the modulated row, the scale of a row's norm, the gradient at the normed row, and the row's gradient, over a block. -/
def DB (r : Fin 512) (j : Fin 1024) : EReal := ∑ k : Fin 3584, a0 (ix2 r k) * a1 (ix2 j k)
def RB (r : Fin 512) : EReal := Ideal.rsqrt (Ideal.div (∑ n : Fin 1024, a2 (ix2 r n) * a2 (ix2 r n)) N1 + Ideal.ofBits .f32 0x358637BD#32)
def NB (r : Fin 512) (j : Fin 1024) : EReal := DB a0 a1 r j * (a5 (ix2 0 j) * (1 + a4 (ix2 1 j)))
def GB (r : Fin 512) (j : Fin 1024) : EReal :=
  a3 (ix2 r j) + RB a2 r * (NB a0 a1 a4 a5 r j - a2 (ix2 r j) * RB a2 r * Ideal.div (∑ n : Fin 1024, NB a0 a1 a4 a5 r n * (a2 (ix2 r n) * RB a2 r)) N1)
/-- What a point adds to the two sums. -/
def inc (y : S8x1024.Idx) : EReal :=
  if (y 0).val = 0 then ∑ r : Fin 512, DB a0 a1 r (y 1)
  else if (y 0).val = 1 then ∑ r : Fin 512, DB a0 a1 r (y 1) * (a2 (ix2 r (y 1)) * RB a2 r) else 0

theorem dp_half (o : ℕ) (u : Fin 2) (ho : o = u.val * 256) (inb) (i : Fin 256) (j : Fin 1024) : DP (l0 a0 o inb) a1 i j = DB a0 a1 (hr u i) j :=
  Finset.sum_congr rfl fun k _ => congrArg (· * a1 (ix2 j k)) (ld_0 a0 o u ho inb i k)

theorem rp_half (o : ℕ) (u : Fin 2) (ho : o = u.val * 256) (inb) (i : Fin 256) : RP (l2 a2 o inb) i = RB a2 (hr u i) := by
  unfold RP RB
  simp only [ld_2 a2 o u ho inb]

/-- A sum over a block's rows, half by half. -/
theorem halves (f : Fin 512 → EReal) (p : EReal) : p + ∑ i : Fin 256, f (hr 0 i) + ∑ i : Fin 256, f (hr 1 i) = p + ∑ r : Fin 512, f r := by
  have e := Fin.sum_univ_tiles 2 256 rfl f
  rw [Fin.sum_univ_two] at e
  rw [add_assoc]
  exact congrArg (p + ·) e.symm

theorem row0 (i0 i1) (p : Vec Ideal S1x1024 .f32) (j : Fin 1024) :
    k0_pay1 (k0_pay6 (l0 a0 256 i1) a1) (k0_pay9 (l0 a0 0 i0) a1 p) (ix2 0 j) = p (ix2 0 j) + ∑ r : Fin 512, DB a0 a1 r j := by
  rw [pay1, pay9, ← halves]
  simp only [dp_half a0 a1 0 0 rfl, dp_half a0 a1 256 1 rfl]

theorem row1 (i0 i1 k0 k1) (p : Vec Ideal S1x1024 .f32) (j : Fin 1024) :
    k0_pay2 (k0_pay6 (l0 a0 256 i1) a1) (k0_pay15 (l2 a2 256 k1)) (k0_pay12 (k0_pay10 p) (k0_pay11 (l0 a0 0 i0) a1 (l2 a2 0 k0))) (ix2 0 j)
      = p (ix2 0 j) + ∑ r : Fin 512, DB a0 a1 r j * (a2 (ix2 r j) * RB a2 r) := by
  rw [pay2, pay12, ← halves]
  simp only [dp_half a0 a1 0 0 rfl, dp_half a0 a1 256 1 rfl, rp_half a2 0 0 rfl, rp_half a2 256 1 rfl, ld_2 a2 0 0 rfl, ld_2 a2 256 1 rfl]

/-- The block of row gradients the body leaves. -/
def gxb : FVec Ideal S512x1024 .f32 :=
  View.canon (Val := Elt Ideal) (e := .f32)
    [⟨Rect.unit ![256, 0] S256x1024.size inb_S512x1024_S256x1024_256_0,
        k0_pay3 (k0_pay6 (l0 a0 256 inb_S512x3584_S256x3584_256_0) a1) (k0_pay14 (l2 a2 256 inb_S512x1024_S256x1024_256_0)) (k0_pay15 (l2 a2 256 inb_S512x1024_S256x1024_256_0))
          a5 (View.ld (Val := Elt Ideal) (e' := .f32) a4 (Rect.unit ![1, 0] S1x1024.size inb_S6x1024_S1x1024_1_0)) (l2 a3 256 inb_S512x1024_S256x1024_256_0)⟩,
      ⟨Rect.unit ![0, 0] S256x1024.size inb_S512x1024_S256x1024_0_0,
        k0_pay13 (k0_pay5 (l0 a0 0 inb_S512x3584_S256x3584_0_0) a1) (k0_pay7 (l2 a2 0 inb_S512x1024_S256x1024_0_0)) (k0_pay8 (l2 a2 0 inb_S512x1024_S256x1024_0_0))
          a5 (View.ld (Val := Elt Ideal) (e' := .f32) a4 (Rect.unit ![1, 0] S1x1024.size inb_S6x1024_S1x1024_1_0)) (l2 a3 0 inb_S512x1024_S256x1024_0_0)⟩]

theorem gxb_at (u : Fin 2) (i : Fin 256) (j : Fin 1024) : gxb a0 a1 a2 a3 a4 a5 (ix2 (hr u i) j) = GB a0 a1 a2 a3 a4 a5 (hr u i) j := by
  have hi := i.isLt
  have here : ∀ (o : ℕ), o = u.val * 256 → ∀ a : Fin 2, ((ix2 (hr u i) j : S512x1024.Idx) a).val = (![o, 0] : Fin 2 → ℕ) a + ((ix2 i j : S256x1024.Idx) a).val := by
    intro o ho a
    fin_cases a
    · show u.val * 256 + i.val = o + i.val
      rw [ho]
    · exact (Nat.zero_add _).symm
  unfold gxb GB NB
  fin_cases u
  · rw [Rl.canon_not_mem _ _ _ _ (0 : Fin 2) (Or.inl (show 0 * 256 + i.val < 256 by omega)), Rl.canon_mem _ _ _ _ (ix2 i j) (here 0 rfl), pay13]
    simp only [pay5, pay7, pay8, dp_half a0 a1 0 0 rfl, rp_half a2 0 0 rfl, ld_2 a2 0 0 rfl, ld_2 a3 0 0 rfl, ld_4 a4]
    rfl
  · rw [Rl.canon_mem _ _ _ _ (ix2 i j) (here 256 rfl), pay3]
    simp only [pay6, pay14, pay15, dp_half a0 a1 256 1 rfl, rp_half a2 256 1 rfl, ld_2 a2 256 1 rfl, ld_2 a3 256 1 rfl, ld_4 a4]
    rfl

end Block

theorem o6 (c : Dev nD) (t : Fin cfg0.N) :
    (outsAt0 m c t.val t.isLt).1 = gxb (X0 m c t) (X1 m c t) (X2 m c t) (X3 m c t) (X4 m c t) (X5 m c t) := by
  by_cases h0 : t.val % 16 = 0
  · rw [outsAt0_A m c t h0]; frame_out
  · rw [outsAt0_B m c t h0]; frame_out

theorem oA7 (c : Dev nD) (t : Fin cfg0.N) (h0 : t.val % 16 = 0) (y : S8x1024.Idx) :
    (outsAt0 m c t.val t.isLt).2 y = 0 + inc (X0 m c t) (X1 m c t) (X2 m c t) y := by
  unfold inc
  idx_vars y
  rw [outsAt0_A m c t h0]; frame_out
  simp (disch := decide) only [↓View.readCov_skip, View.readCov_cons_toLoadRect, View.readCov_fill]
  by_cases h1 : y0.val = 1
  · rw [Rl.canon_mem _ _ _ _ (ix2 (0 : Fin 1) y1) (by intro a; fin_cases a; exacts [h1, (Nat.zero_add _).symm])]
    refine Eq.trans ((row1 _ _ _ _ _ _ _ _ y1).trans (congrArg₂ (· + ·) ((ld_row _ 1 y0 h1.symm _ y1).trans (pay4 _)) rfl)) ?_
    exact congrArg (_ + ·) ((if_neg (h1.trans_ne Nat.one_ne_zero)).trans (if_pos h1)).symm
  rw [Rl.canon_not_mem _ _ _ _ (0 : Fin 2) (show y0.val < 1 ∨ 1 + 1 ≤ y0.val by omega)]
  by_cases h2 : y0.val = 0
  · rw [Rl.canon_mem _ _ _ _ (ix2 (0 : Fin 1) y1) (by intro a; fin_cases a; exacts [h2, (Nat.zero_add _).symm])]
    refine Eq.trans ((row0 _ _ _ _ _ y1).trans (congrArg₂ (· + ·) ((ld_row _ 0 y0 h2.symm _ y1).trans (pay4 _)) rfl)) ?_
    exact congrArg (_ + ·) (if_pos h2).symm
  · rw [Rl.canon_not_mem _ _ _ _ (0 : Fin 2) (show y0.val < 0 ∨ 0 + 1 ≤ y0.val by omega), Rl.canon_not_mem _ _ _ _ (0 : Fin 2) (show y0.val < 1 ∨ 1 + 1 ≤ y0.val by omega),
      Rl.canon_not_mem _ _ _ _ (0 : Fin 2) (show y0.val < 0 ∨ 0 + 1 ≤ y0.val by omega),
      Rl.canon_mem _ _ _ _ (ix2 y0 y1) (by intro a; fin_cases a; exacts [(Nat.zero_add _).symm, (Nat.zero_add _).symm]), pay4]
    exact ((congrArg (_ + ·) ((if_neg h2).trans (if_neg h1))).trans (add_zero _)).symm

theorem oB7 (c : Dev nD) (t : Fin cfg0.N) (h0 : ¬ t.val % 16 = 0) (y : S8x1024.Idx) :
    (outsAt0 m c t.val t.isLt).2 y = (outsAt0 m c (t.val - 1) (Nat.lt_of_le_of_lt (Nat.sub_le _ _) t.isLt)).2 y + inc (X0 m c t) (X1 m c t) (X2 m c t) y := by
  unfold inc
  idx_vars y
  rw [outsAt0_B m c t h0]; frame_out
  simp (disch := decide) only [↓View.readCov_skip, View.readCov_cons_toLoadRect]
  by_cases h1 : y0.val = 1
  · rw [View.read_writes_cons_unit_of_mem _ _ _ _ _ _ (ix2 (0 : Fin 1) y1) rfl (by intro a; fin_cases a; exacts [h1, (Nat.zero_add _).symm])]
    refine Eq.trans ((row1 _ _ _ _ _ _ _ _ y1).trans (congrArg₂ (· + ·) (ld_row _ 1 y0 h1.symm _ y1) rfl)) ?_
    exact congrArg (_ + ·) ((if_neg (h1.trans_ne Nat.one_ne_zero)).trans (if_pos h1)).symm
  rw [View.read_writes_cons_unit_of_not_mem _ _ _ _ _ _ rfl (0 : Fin 2) (show y0.val < 1 ∨ 1 + 1 ≤ y0.val by omega)]
  by_cases h2 : y0.val = 0
  · rw [View.read_writes_cons_unit_of_mem _ _ _ _ _ _ (ix2 (0 : Fin 1) y1) rfl (by intro a; fin_cases a; exacts [h2, (Nat.zero_add _).symm])]
    refine Eq.trans ((row0 _ _ _ _ _ y1).trans (congrArg₂ (· + ·) (ld_row _ 0 y0 h2.symm _ y1) rfl)) ?_
    exact congrArg (_ + ·) (if_pos h2).symm
  · rw [View.read_writes_cons_unit_of_not_mem _ _ _ _ _ _ rfl (0 : Fin 2) (show y0.val < 0 ∨ 0 + 1 ≤ y0.val by omega),
      View.read_writes_cons_unit_of_not_mem _ _ _ _ _ _ rfl (0 : Fin 2) (show y0.val < 1 ∨ 1 + 1 ≤ y0.val by omega),
      View.read_writes_cons_unit_of_not_mem _ _ _ _ _ _ rfl (0 : Fin 2) (show y0.val < 0 ∨ 0 + 1 ≤ y0.val by omega)]
    erw [Memref.IsWhole.read_unread]
    exact ((congrArg (_ + ·) ((if_neg h2).trans (if_neg h1))).trans (add_zero _)).symm

end Cert.InbKIdeal.Final

end
-- ==== Proof.InbSpec.lean ====
/- The gradient of the input projection and of the norm before it, as formulas over the six arguments: the cotangent `x0` of the projection, its weights `x1`, the
   residual rows `x2` and their cotangent `x3`, the modulation rows `x4` and the norm's gain `x5`. -/
module

public import proofs.«01_k».proof.InbRIdeal
public import proofs.«01_k».proof.Proof.NormRow

@[expose] public section

set_option maxRecDepth 16384

noncomputable section

open Idealize.ShloMosaic Idealize.ShloMosaic.TcCoe Idealize.SL.Sem

namespace Cert.Inb

open Cert.InbRIdeal
open Cert.NormRow (len eps)

variable (x0 : FVec Ideal S8192x3584 .f32) (x1 : FVec Ideal S1024x3584 .f32) (x2 x3 : FVec Ideal S8192x1024 .f32) (x4 : FVec Ideal S6x1024 .f32) (x5 : FVec Ideal S1024 .f32)

/-- A row's mean square and constant, and its scale. -/
def S (r : Fin 8192) : EReal := Ideal.div (∑ n : Fin 1024, x2 (ix2 r n) * x2 (ix2 r n)) len + eps
def R (r : Fin 8192) : EReal := Ideal.rsqrt (S x2 r)
/-- The norm's gain under the modulation. -/
def gain (n : Fin 1024) : EReal := x5 (ix1 n) * (1 + x4 (ix2 1 n))
/-- The gradients at the normed row, before and under its gain. -/
def H (r : Fin 8192) (j : Fin 1024) : EReal := ∑ k : Fin 3584, x0 (ix2 r k) * x1 (ix2 j k)
def N (r : Fin 8192) (j : Fin 1024) : EReal := H x0 x1 r j * gain x4 x5 j
/-- The gradient of the residual row. -/
def X (r : Fin 8192) (j : Fin 1024) : EReal :=
  x3 (ix2 r j) + R x2 r * (N x0 x1 x4 x5 r j - x2 (ix2 r j) * R x2 r * Ideal.div (∑ n : Fin 1024, N x0 x1 x4 x5 r n * (x2 (ix2 r n) * R x2 r)) len)
/-- The gradients of the shift and of the gain, on rows 0 and 1. -/
def T (i : Fin 8) (j : Fin 1024) : EReal :=
  if i.val = 0 then ∑ r : Fin 8192, H x0 x1 r j
  else if i.val = 1 then ∑ r : Fin 8192, H x0 x1 r j * (x2 (ix2 r j) * R x2 r) else 0

end Cert.Inb

end
-- ==== Proof.InbFinal.lean ====
module

public import proofs.«01_k».proof.Proof.InbPoint
public import proofs.«01_k».proof.Proof.InbSpec
public import Idealize.ShloMosaic.Lib.StableHlo.ReadAt

@[expose] public section

set_option maxRecDepth 16384

noncomputable section

open Idealize.ShloMosaic Idealize.ShloMosaic.TcCoe Idealize.SL.Sem

open Idealize.ShloMosaic.Pipeline (Dat)

namespace Cert.InbKIdeal.Final

open Cert.InbKIdeal Cert.InbKIdeal.Gen

variable (m : (ℓ : Loc nD τ sig) → Buf (Elt Ideal) ℓ) (c : Dev nD)

/-- The six arguments. -/
abbrev A0 : FVec Ideal S8192x3584 .f32 := m ((c.tc : Thread nD τ).loc main_arg0)
abbrev A1 : FVec Ideal S1024x3584 .f32 := m ((c.tc : Thread nD τ).loc main_arg1)
abbrev A2 : FVec Ideal S8192x1024 .f32 := m ((c.tc : Thread nD τ).loc main_arg2)
abbrev A3 : FVec Ideal S8192x1024 .f32 := m ((c.tc : Thread nD τ).loc main_arg3)
abbrev A4 : FVec Ideal S6x1024 .f32 := m ((c.tc : Thread nD τ).loc main_arg4)
abbrev A5 : FVec Ideal S1024 .f32 := m ((c.tc : Thread nD τ).loc main_arg5)

/-- The arrays the kernel's region reads, from the arguments. -/
abbrev G0 : FVec Ideal S8192x3584 .bf16 := V m c main_v0
abbrev G1 : FVec Ideal S1024x3584 .bf16 := V m c main_v1
abbrev G2 : FVec Ideal S8192x1024 .f32 := V m c main_arg2
abbrev G3 : FVec Ideal S8192x1024 .f32 := V m c main_arg3
abbrev G4 : FVec Ideal S6x1024 .f32 := V m c main_arg4
abbrev G5 : FVec Ideal S1x1024 .f32 := V m c main_v2

theorem G0_at (r : Fin 8192) (k : Fin 3584) : G0 m c (ix2 r k) = A0 m c (ix2 r k) := by
  show (show FVec Ideal S8192x3584 .bf16 from Gen.V m c main_v0) (ix2 r k) = _
  dsimp only [Gen.V]; after_reads_at
theorem G1_at (j : Fin 1024) (k : Fin 3584) : G1 m c (ix2 j k) = A1 m c (ix2 j k) := by
  show (show FVec Ideal S1024x3584 .bf16 from Gen.V m c main_v1) (ix2 j k) = _
  dsimp only [Gen.V]; after_reads_at
theorem G2_at (r : Fin 8192) (j : Fin 1024) : G2 m c (ix2 r j) = A2 m c (ix2 r j) := by
  show (show FVec Ideal S8192x1024 .f32 from Gen.V m c main_arg2) (ix2 r j) = _
  dsimp only [Gen.V]; after_reads_at
theorem G3_at (r : Fin 8192) (j : Fin 1024) : G3 m c (ix2 r j) = A3 m c (ix2 r j) := by
  show (show FVec Ideal S8192x1024 .f32 from Gen.V m c main_arg3) (ix2 r j) = _
  dsimp only [Gen.V]; after_reads_at
theorem G4_at (r : Fin 6) (j : Fin 1024) : G4 m c (ix2 r j) = A4 m c (ix2 r j) := by
  show (show FVec Ideal S6x1024 .f32 from Gen.V m c main_arg4) (ix2 r j) = _
  dsimp only [Gen.V]; after_reads_at
theorem G5_at (j : Fin 1024) : G5 m c (ix2 0 j) = A5 m c (ix1 j) := by
  show (show FVec Ideal S1x1024 .f32 from Gen.V m c main_v2) (ix2 0 j) = _
  dsimp only [Gen.V]; after_reads_at

theorem lt16 (t : Fin cfg0.N) : t.val < 16 := lt_of_lt_of_eq t.isLt N_0

/-- A row of the whole array, from its block and its place in it. -/
def row (p : Fin 16) (i : Fin 512) : Fin 8192 := ⟨p.val * 512 + i.val, by have := p.isLt; have := i.isLt; omega⟩
/-- A point's row block. -/
def pb (t : Fin cfg0.N) : Fin 16 := ⟨t.val, lt16 t⟩

variable (t : Fin cfg0.N)

theorem X0_at (i : Fin 512) (k : Fin 3584) : X0 m c t (ix2 i k) = A0 m c (ix2 (row (pb t) i) k) := by
  rw [← G0_at]; blk_ext [iblk, V, idx t, row, pb]
theorem X1_at (j : Fin 1024) (k : Fin 3584) : X1 m c t (ix2 j k) = A1 m c (ix2 j k) := by
  rw [← G1_at]; blk_ext [iblk, V, idx t]
theorem X2_at (i : Fin 512) (j : Fin 1024) : X2 m c t (ix2 i j) = A2 m c (ix2 (row (pb t) i) j) := by
  rw [← G2_at]; blk_ext [iblk, V, idx t, row, pb]
theorem X3_at (i : Fin 512) (j : Fin 1024) : X3 m c t (ix2 i j) = A3 m c (ix2 (row (pb t) i) j) := by
  rw [← G3_at]; blk_ext [iblk, V, idx t, row, pb]
theorem X4_at (i : Fin 6) (j : Fin 1024) : X4 m c t (ix2 i j) = A4 m c (ix2 i j) := by
  rw [← G4_at]; blk_ext [iblk, V, idx t]
theorem X5_at (j : Fin 1024) : X5 m c t (ix2 0 j) = A5 m c (ix1 j) := by
  rw [← G5_at]; blk_ext [iblk, V, idx t]

/-- A point's blocks of the gradients are the formulas over the arguments. -/
theorem db_at (i : Fin 512) (j : Fin 1024) : DB (X0 m c t) (X1 m c t) i j = Inb.H (A0 m c) (A1 m c) (row (pb t) i) j :=
  Finset.sum_congr rfl fun k _ => congrArg₂ (· * ·) (X0_at m c t i k) (X1_at m c t j k)
theorem rb_at (i : Fin 512) : RB (X2 m c t) i = Inb.R (A2 m c) (row (pb t) i) := by
  unfold RB Inb.R Inb.S
  simp only [X2_at]
theorem nb_at (i : Fin 512) (j : Fin 1024) : NB (X0 m c t) (X1 m c t) (X4 m c t) (X5 m c t) i j = Inb.N (A0 m c) (A1 m c) (A4 m c) (A5 m c) (row (pb t) i) j :=
  congrArg₂ (· * ·) (db_at m c t i j) (congrArg₂ (· * ·) (X5_at m c t j) (congrArg (1 + ·) (X4_at m c t 1 j)))
theorem gb_at (i : Fin 512) (j : Fin 1024) : GB (X0 m c t) (X1 m c t) (X2 m c t) (X3 m c t) (X4 m c t) (X5 m c t) i j
    = Inb.X (A0 m c) (A1 m c) (A2 m c) (A3 m c) (A4 m c) (A5 m c) (row (pb t) i) j := by
  unfold GB Inb.X
  simp only [nb_at, rb_at, X2_at, X3_at]

theorem out6 (i : Fin 512) (j : Fin 1024) : (outsAt0 m c t.val t.isLt).1 (ix2 i j) = Inb.X (A0 m c) (A1 m c) (A2 m c) (A3 m c) (A4 m c) (A5 m c) (row (pb t) i) j := by
  have hi : i = hr ⟨i.val / 256, by have := i.isLt; omega⟩ ⟨i.val % 256, by omega⟩ := Fin.ext (show i.val = i.val / 256 * 256 + i.val % 256 by omega)
  rw [o6, ← gb_at, hi]
  exact gxb_at _ _ _ _ _ _ _ _ j

theorem final6 : (show FVec Ideal S8192x1024 .f32 from (dats m 0 c).arrAt 6 cfg0.N)
    = fun y => Inb.X (A0 m c) (A1 m c) (A2 m c) (A3 m c) (A4 m c) (A5 m c) (y 0) (y 1) := by
  refine (dats m 0 c).arrAt_eq_of_covers 6 _ (by decide +kernel) fun t hf y => ?_
  rw [after0_6]
  simp only [cast_eq]
  have emb : ∀ (i : Fin 512) (j : Fin 1024), (win0_6.blk t).view.emb (ix2 i j) = (ix2 (row (pb t) i) j : S8192x1024.Idx) := fun i j => by
    blk_ext [idx t, row, pb]
  have blk : ∀ y : S512x1024.Idx, (outsAt0 m c t.val t.isLt).1 y
      = (fun y : S8192x1024.Idx => Inb.X (A0 m c) (A1 m c) (A2 m c) (A3 m c) (A4 m c) (A5 m c) (y 0) (y 1)) ((win0_6.blk t).view.emb y) := fun y => by
    idx_vars y
    rw [out6, emb]
    rfl
  exact blk y

/-- What a point adds to the two sums. -/
def part (t : Fin cfg0.N) (y : S8x1024.Idx) : EReal := inc (X0 m c t) (X1 m c t) (X2 m c t) y

theorem part_at (i : Fin 8) (j : Fin 1024) : part m c t (ix2 i j)
    = if i.val = 0 then ∑ r : Fin 512, Inb.H (A0 m c) (A1 m c) (row (pb t) r) j
      else if i.val = 1 then ∑ r : Fin 512, Inb.H (A0 m c) (A1 m c) (row (pb t) r) j * (A2 m c (ix2 (row (pb t) r) j) * Inb.R (A2 m c) (row (pb t) r)) else 0 := by
  unfold part inc
  refine congrArg₂ (ite (i.val = 0)) (Finset.sum_congr rfl fun r _ => db_at m c t r j) (congrArg (ite (i.val = 1) · 0) (Finset.sum_congr rfl fun r _ => ?_))
  exact congrArg₂ (· * ·) (db_at m c t r j) (congrArg₂ (· * ·) (X2_at m c t r j) (rb_at m c t r))

/-- All points' parts together. -/
theorem sum_part (i : Fin 8) (j : Fin 1024) : ∑ p : Fin cfg0.N, part m c p (ix2 i j) = Inb.T (A0 m c) (A1 m c) (A2 m c) i j := by
  refine (Finset.sum_congr rfl fun p _ => part_at m c p i j).trans ?_
  unfold Inb.T
  by_cases h0 : i.val = 0
  · simp only [if_pos h0]
    exact (Fin.sum_univ_tiles 16 512 rfl (fun r : Fin 8192 => Inb.H (A0 m c) (A1 m c) r j)).symm
  by_cases h1 : i.val = 1
  · simp only [if_neg h0, if_pos h1]
    exact (Fin.sum_univ_tiles 16 512 rfl (fun r : Fin 8192 => Inb.H (A0 m c) (A1 m c) r j * (A2 m c (ix2 r j) * Inb.R (A2 m c) r))).symm
  · simp only [if_neg h0, if_neg h1]
    exact Finset.sum_const_zero

/-- The last point. -/
def tl : Fin cfg0.N := ⟨15, lt_of_lt_of_eq (by decide) N_0.symm⟩

theorem final7 : (show FVec Ideal S8x1024 .f32 from (dats m 0 c).arrAt 7 cfg0.N) = fun y => Inb.T (A0 m c) (A1 m c) (A2 m c) (y 0) (y 1) := by
  refine (dats m 0 c).arrAt_eq_of_after_last 7 tl (by decide +kernel) _ fun y => ?_
  rw [after0_7, Pipeline.eq_sum_fin_of_reset_step_apply_last (fun n h => (outsAt0 m c n h).2) 16 (fun _ => 0) (part m c) (oA7 m c) (oB7 m c) (le_of_eq N_0) tl rfl, zero_add]
  simp only [cast_eq]
  idx_vars y
  exact sum_part m c y0 y1

end Cert.InbKIdeal.Final

end
-- ==== Proof.InbRef.lean ====
/- The gradient of the input projection and its norm, read from the reference at an index. -/
module

public import proofs.«01_k».proof.Proof.Gen.InbRIdeal.Run
public import proofs.«01_k».proof.Proof.Gen.InbRIdeal.Read
public import proofs.«01_k».proof.Proof.InbSpec

@[expose] public section

set_option maxRecDepth 16384

noncomputable section

open Idealize.ShloMosaic Idealize.ShloMosaic.TcCoe Idealize.SL.Sem

namespace Cert.InbRIdeal.Final

open Cert.InbRIdeal Cert.InbRIdeal.Gen Cert.InbRIdeal.Read Cert.Inb

variable (x0 : FVec Ideal S8192x3584 .f32) (x1 : FVec Ideal S1024x3584 .f32) (x2 x3 : FVec Ideal S8192x1024 .f32) (x4 : FVec Ideal S6x1024 .f32) (x5 : FVec Ideal S1024 .f32)

theorem v13 (r : Fin 8192) (u : Fin 1) : val_main_v13 (F := Ideal) x2 (ix2 r u) = S x2 r := by
  unfold S
  pointwise [val_main_v13, val_main_v12, val_main_cst_2, val_main_v11, val_main_v10, val_main_cst_1, val_main_v9, val_main_v8, val_main_cst_0, val_main_v7]

theorem v14 (r : Fin 8192) (u : Fin 1) : val_main_v14 (F := Ideal) x2 (ix2 r u) = R x2 r :=
  congrArg Ideal.rsqrt (v13 x2 r u)

theorem v6 (n : Fin 1024) : val_main_v6 (F := Ideal) x4 x5 (ix1 n) = gain x4 x5 n := by
  unfold gain
  pointwise [val_main_v6, val_main_v5, val_main_v4, val_main_cst, val_main_v3, val_main_v2]

theorem v19 (r : Fin 8192) (n : Fin 1024) : val_main_v19 (F := Ideal) x2 (ix2 r n) = x2 (ix2 r n) * R x2 r := by
  refine Eq.trans ?_ (congrArg (x2 (ix2 r n) * ·) (v14 x2 r 0))
  generalize hh : val_main_v14 (F := Ideal) x2 = y
  pointwise [val_main_v19, val_main_v18, hh]

theorem v27 (r : Fin 8192) (j : Fin 1024) : val_main_v27 (F := Ideal) x0 x1 (ix2 r j) = H x0 x1 r j := by
  unfold H
  pointwise [val_main_v27]

theorem v35 (r : Fin 8192) (j : Fin 1024) : val_main_v35 (F := Ideal) x0 x1 x4 x5 (ix2 r j) = N x0 x1 x4 x5 r j := by
  unfold N
  rw [← v27, ← v6]
  generalize hh : val_main_v27 (F := Ideal) x0 x1 = y
  generalize hg : val_main_v6 (F := Ideal) x4 x5 = z
  pointwise [val_main_v35, val_main_v34, val_main_v20, hh, hg]

theorem v30 (j : Fin 1024) : val_main_v30 (F := Ideal) x0 x1 (ix1 j) = ∑ r : Fin 8192, H x0 x1 r j := by
  simp only [← v27]
  generalize hh : val_main_v27 (F := Ideal) x0 x1 = y
  pointwise [val_main_v30, val_main_cst_5, val_main_v29, val_main_v28, val_main_cst_4, hh]
  exact Fin.sum_univ_one _

theorem v36 (j : Fin 1024) : val_main_v36 (F := Ideal) x0 x1 x2 (ix1 j) = ∑ r : Fin 8192, H x0 x1 r j * (x2 (ix2 r j) * R x2 r) := by
  simp only [← v27, ← v19, mul_comm (val_main_v27 (F := Ideal) x0 x1 (ix2 _ j))]
  generalize hh : val_main_v27 (F := Ideal) x0 x1 = y
  generalize hg : val_main_v19 (F := Ideal) x2 = z
  pointwise [val_main_v36, val_main_cst_7, val_main_v33, val_main_v32, val_main_cst_6, val_main_v31, hh, hg]
  exact Fin.sum_univ_one _

theorem v55 (i : Fin 8) (j : Fin 1024) : val_main_v55 (F := Ideal) x0 x1 x2 (ix2 i j) = T x0 x1 x2 i j := by
  have e : val_main_v55 (F := Ideal) x0 x1 x2 (ix2 i j) = if i.val = 0 then val_main_v30 (F := Ideal) x0 x1 (ix1 j)
      else if i.val = 1 then val_main_v36 (F := Ideal) x0 x1 x2 (ix1 j) else 0 := by
    generalize hh : val_main_v30 (F := Ideal) x0 x1 = y
    generalize hg : val_main_v36 (F := Ideal) x0 x1 x2 = z
    pointwise [val_main_v55, val_main_v52, val_main_v53, val_main_v54, val_main_cst_11, hh, hg]
    by_cases h0 : i.val = 0
    · rw [dif_pos (by omega), if_pos h0]
    rw [dif_neg (by omega), if_neg h0]
    by_cases h1 : i.val = 1
    · rw [dif_pos (by omega), if_pos h1]
    · rw [dif_neg (by omega), if_neg h1]
  rw [e, v30, v36]
  rfl

/-- The derivative of a row's scale, as the reference carries it down a row. -/
abbrev C (r : Fin 8192) : EReal := NormRow.C (fun n => x2 (ix2 r n)) (fun n => N x0 x1 x4 x5 r n) (S x2 r)

theorem v47 (r : Fin 8192) (j : Fin 1024) : val_main_v47 (F := Ideal) x0 x1 x2 x4 x5 (ix2 r j) = C x0 x1 x2 x4 x5 r := by
  have e : C x0 x1 x2 x4 x5 r = Ideal.div ((∑ n : Fin 1024, x2 (ix2 r n) * N x0 x1 x4 x5 r n) * (Ideal.ofBits .f32 0xBF000000#32 * Ideal.div (R x2 r) (S x2 r))) NormRow.len := rfl
  rw [e]
  simp only [← v35, ← v13 x2 r 0, ← v14 x2 r 0]
  generalize hh : val_main_v35 (F := Ideal) x0 x1 x4 x5 = y
  generalize hg : val_main_v14 (F := Ideal) x2 = z
  generalize hs : val_main_v13 (F := Ideal) x2 = w
  pointwise [val_main_v47, val_main_v46, val_main_cst_10, val_main_v45, val_main_v44, val_main_cst_9, val_main_v43, val_main_v39, val_main_v38, val_main_cst_8, val_main_v37, val_main_v17, val_main_v16, val_main_cst_3, val_main_v15, hh, hg, hs]
  exact Fin.sum_univ_one _

theorem v51 (r : Fin 8192) (j : Fin 1024) : val_main_v51 (F := Ideal) x0 x1 x2 x3 x4 x5 (ix2 r j)
    = x3 (ix2 r j) + N x0 x1 x4 x5 r j * R x2 r + x2 (ix2 r j) * C x0 x1 x2 x4 x5 r + C x0 x1 x2 x4 x5 r * x2 (ix2 r j) := by
  rw [← v35, ← v47 x0 x1 x2 x4 x5 r j, ← v14 x2 r 0]
  generalize hh : val_main_v35 (F := Ideal) x0 x1 x4 x5 = y
  generalize hg : val_main_v14 (F := Ideal) x2 = z
  generalize hs : val_main_v47 (F := Ideal) x0 x1 x2 x4 x5 = w
  pointwise [val_main_v51, val_main_v50, val_main_v49, val_main_v48, val_main_v42, val_main_v41, val_main_v40, hh, hg, hs]

/-- The residual row's gradient, with every argument but its own cotangent real numbers. -/
theorem v51_X (X0 : S8192x3584.Idx → ℝ) (X1 : S1024x3584.Idx → ℝ) (X2 : S8192x1024.Idx → ℝ) (X4 : S6x1024.Idx → ℝ) (X5 : S1024.Idx → ℝ)
    (h0 : x0 = fun i => (X0 i : EReal)) (h1 : x1 = fun i => (X1 i : EReal)) (h2 : x2 = fun i => (X2 i : EReal)) (h4 : x4 = fun i => (X4 i : EReal))
    (h5 : x5 = fun i => (X5 i : EReal)) (r : Fin 8192) (j : Fin 1024) : val_main_v51 (F := Ideal) x0 x1 x2 x3 x4 x5 (ix2 r j) = X x0 x1 x2 x3 x4 x5 r j := by
  have f0 : ∀ i, x0 i = (X0 i : EReal) := fun i => congrFun h0 i
  have f1 : ∀ i, x1 i = (X1 i : EReal) := fun i => congrFun h1 i
  have f4 : ∀ i, x4 i = (X4 i : EReal) := fun i => congrFun h4 i
  have f5 : ∀ i, x5 i = (X5 i : EReal) := fun i => congrFun h5 i
  have hx : ∀ n, x2 (ix2 r n) = ((X2 (ix2 r n) : ℝ) : EReal) := fun n => congrFun h2 _
  have hn : ∀ n, N x0 x1 x4 x5 r n = (((∑ k : Fin 3584, X0 (ix2 r k) * X1 (ix2 n k)) * (X5 (ix1 n) * (1 + X4 (ix2 1 n))) : ℝ) : EReal) := fun n => by
    unfold N H gain
    simp only [f0, f1, f4, f5, Rl.coe_sum, EReal.coe_mul, EReal.coe_add, EReal.coe_one]
  obtain ⟨s, hs, es⟩ := NormRow.mean_real (fun n => x2 (ix2 r n)) (fun n => X2 (ix2 r n)) hx
  have e : S x2 r = (s : EReal) := es
  rw [v51]
  unfold X R C
  rw [e]
  exact NormRow.row_back _ (fun n => N x0 x1 x4 x5 r n) _ _ s hs hx hn (x3 (ix2 r j)) j

end Cert.InbRIdeal.Final

end
-- ==== Proof.InbClaims.lean ====
/- The input projection's gradient: the kernel's two results and the reference's agree where the arguments that enter products are finite. -/
module

public import proofs.«01_k».proof.Defs
public import proofs.«01_k».proof.Proof.InbFinal
public import proofs.«01_k».proof.Proof.InbRef
public import proofs.«01_k».proof.Proof.Gen.Pre_inb_finite
public import proofs.«01_k».proof.Proof.Gen.InbK.Frame

@[expose] public section

set_option maxRecDepth 16384

noncomputable section

open Idealize.ShloMosaic Idealize.ShloMosaic.TcCoe Idealize.SL.Sem

namespace Cert.Proof.InbClaims

open Cert.InbKIdeal Cert.InbKIdeal.Gen Cert.InbKIdeal.Final

section Results

variable (m : (ℓ : Loc nD τ sig) → Buf (Elt Ideal) ℓ) (c : Dev nD)

theorem res6 (h : Cert.Pre_InbKIdeal_inb_finite m) : (Cert.InbRIdeal.Read.val_main_v51 (F := Ideal) (A0 m c) (A1 m c) (A2 m c) (A3 m c) (A4 m c) (A5 m c) : FVec Ideal S8192x1024 .f32)
    = (show FVec Ideal S8192x1024 .f32 from (dats m 0 c).arrAt 6 cfg0.N) := by
  obtain ⟨h0, h1, h2, h4, h5⟩ := h c
  obtain ⟨X0, e0⟩ := Rl.real_of_finite (fun _ => Rl.inf_word) h0
  obtain ⟨X1, e1⟩ := Rl.real_of_finite (fun _ => Rl.inf_word) h1
  obtain ⟨X2, e2⟩ := Rl.real_of_finite (fun _ => Rl.inf_word) h2
  obtain ⟨X4, e4⟩ := Rl.real_of_finite (fun _ => Rl.inf_word) h4
  obtain ⟨X5, e5⟩ := Rl.real_of_finite (fun _ => Rl.inf_word) h5
  rw [final6]
  funext y
  idx_vars y
  exact Cert.InbRIdeal.Final.v51_X _ _ _ _ _ _ X0 X1 X2 X4 X5 e0 e1 e2 e4 e5 y0 y1

theorem res7 : (Cert.InbRIdeal.Read.val_main_v55 (F := Ideal) (A0 m c) (A1 m c) (A2 m c) : FVec Ideal S8x1024 .f32)
    = (show FVec Ideal S8x1024 .f32 from (dats m 0 c).arrAt 7 cfg0.N) := by
  rw [final7]
  funext y
  idx_vars y
  exact Cert.InbRIdeal.Final.v55 _ _ _ y0 y1

end Results

/-- At `Ideal` the kernel's results and the reference's agree. -/
theorem algebraic : Cert.algebraic_InbKIdeal_InbRIdeal_pre_inb_finite := by
  pair_intro
  · run_from Cert.InbKIdeal.Value.run_blocks m g
  · refine (θ_run _ _ _).mono (fun r h c => ?_) (Cert.InbRIdeal.Value.run m' g')
    obtain ⟨a0, a1, a2, a3, a4, a5⟩ := hagree c
    have e0 := (h c).1
    simp only [Cert.InbRIdeal.Read.val_main_v51_eq, a0, a1, a2, a3, a4, a5] at e0
    have e1 := Cert.InbRIdeal.Read.val_main_v55_eq (F := Ideal) (m' ((c.tc : Thread _ _).loc Cert.InbRIdeal.main_arg0)) (m' ((c.tc : Thread _ _).loc Cert.InbRIdeal.main_arg1)) (m' ((c.tc : Thread _ _).loc Cert.InbRIdeal.main_arg2))
    rw [a0, a1, a2] at e1
    have e2 := (h c).2.1
    rw [a0, a1, a2] at e2
    exact ⟨e0.trans (res6 m c hpre), e2.trans (e1.trans (res7 m c)), (h c).2.2⟩

theorem frame_r : Cert.quiescent_InbRIdeal := by
  intro m g _
  refine (θ_run _ _ _).mono (fun r h => ⟨fun c => (h c).2.2, ?_⟩) (Cert.InbRIdeal.Value.run m g)
  exact sem_eq_zero_of_no_sems (sig := Cert.InbRIdeal.sig) rfl _

end Cert.Proof.InbClaims

end
-- ==== Proof.QkSpec.lean ====
/- The gradient behind the two attentions' queries and keys: turns undone, the heads' norms differentiated, as a function of the arguments. -/
module

public import proofs.«01_k».proof.Proof.NormRow

@[expose] public section

set_option maxRecDepth 16384

noncomputable section

open Idealize.ShloMosaic Idealize.ShloMosaic.TcCoe Idealize.SL.Sem
open Cert.NormRow (eps)

namespace Cert.Qk

/-- The powers of the two tables of angles, from the constant and a lane. -/
def inv16 (k : Fin 16) : EReal :=
  Ideal.pow (Ideal.ofBits .f32 0x461C4000#32) (Ideal.div (-(Ideal.ofBits .f32 0x40000000#32 * FloatOps.sitofp (F := Ideal) .f32 (BitVec.ofNat 32 k.val))) (Ideal.ofBits .f32 0x42000000#32))
def inv32 (k : Fin 32) : EReal :=
  Ideal.pow (Ideal.ofBits .f32 0x461C4000#32) (Ideal.div (-(Ideal.ofBits .f32 0x40000000#32 * FloatOps.sitofp (F := Ideal) .f32 (BitVec.ofNat 32 k.val))) (Ideal.ofBits .f32 0x42800000#32))

/-- The floor of a 64th of a place and what is left of it, as the host computes them. -/
def fd (a : BitVec 32) : BitVec 32 :=
  Scalar.select
    (IntOp.andi
      (IntOp.cmpi CmpIPredicate.ne (if a = 0 then (0 : BitVec 32) else if a.msb = true then -1 else 1) (if (64#32 : BitVec 32) = 0 then (0 : BitVec 32) else if BitVec.msb 64#32 = true then -1 else 1))
      (IntOp.cmpi CmpIPredicate.ne (IntOp.remsi ArithUnit.host a 64#32) 0#32))
    (IntOp.subi (IntOp.divsi ArithUnit.host a 64#32) 1#32) (IntOp.divsi ArithUnit.host a 64#32)
def dv : BitVec 32 := Scalar.select (IntOp.cmpi CmpIPredicate.eq 64#32 0#32) 1#32 64#32
def rm (a : BitVec 32) : BitVec 32 :=
  Scalar.select
    (IntOp.andi (IntOp.cmpi CmpIPredicate.ne (IntOp.cmpi CmpIPredicate.slt (IntOp.remsi ArithUnit.host a dv) 0#32) (IntOp.cmpi CmpIPredicate.slt dv 0#32))
      (IntOp.cmpi CmpIPredicate.ne (IntOp.remsi ArithUnit.host a dv) 0#32))
    (IntOp.addi (IntOp.remsi ArithUnit.host a dv) dv) (IntOp.remsi ArithUnit.host a dv)

def l16 (l : Fin 128) : Fin 16 := ⟨l.val % 16, Nat.mod_lt _ (by decide)⟩
def l32 (l : Fin 128) : Fin 32 := ⟨l.val % 32, Nat.mod_lt _ (by decide)⟩

/-- The angles of a place: by its row and column for the axial turn, by the place itself for the other. -/
def angA (t : Fin 8192) (j : Fin 64) : EReal :=
  (FloatOps.sitofp (F := Ideal) .f32 (if j.val < 32 then fd (BitVec.ofNat 32 t.val) else rm (BitVec.ofNat 32 t.val)) : EReal) * inv16 ⟨j.val % 16, Nat.mod_lt _ (by decide)⟩
def angB (t : Fin 8192) (j : Fin 64) : EReal :=
  (FloatOps.sitofp (F := Ideal) .f32 (BitVec.ofNat 32 t.val) : EReal) * inv32 ⟨j.val % 32, Nat.mod_lt _ (by decide)⟩

theorem word_real (b : BitVec 32) (h : Ideal.ofBits .f32 b ≠ ⊤) (h' : Ideal.ofBits .f32 b ≠ ⊥) : ∃ r : ℝ, Ideal.ofBits .f32 b = (r : EReal) :=
  ⟨_, (EReal.coe_toReal h h').symm⟩
theorem base_word : Ideal.ofBits .f32 0x461C4000#32 = ((10000 : ℝ) : EReal) := by
  simp [Ideal.ofBits, Ideal.ieee]
  rw [← EReal.coe_mul, EReal.coe_eq_coe_iff]
  norm_num
theorem two_word : Ideal.ofBits .f32 0x40000000#32 = ((2 : ℝ) : EReal) := by
  simp [Ideal.ofBits, Ideal.ieee]
  rw [← EReal.coe_mul, EReal.coe_eq_coe_iff]
  norm_num
theorem w32_word : Ideal.ofBits .f32 0x42000000#32 = ((32 : ℝ) : EReal) := by
  simp [Ideal.ofBits, Ideal.ieee]
  rw [← EReal.coe_mul, EReal.coe_eq_coe_iff]
  norm_num
/-- The word for a head's length. -/
abbrev len : EReal := Ideal.ofBits .f32 0x42800000#32
theorem len_word : len = ((64 : ℝ) : EReal) := by
  simp [Ideal.ofBits, Ideal.ieee]
  rw [← EReal.coe_mul, EReal.coe_eq_coe_iff]
  norm_num

theorem inv16_real (k : Fin 16) : ∃ r : ℝ, inv16 k = (r : EReal) := by
  unfold inv16
  rw [base_word, two_word, w32_word]
  show ∃ r : ℝ, Ideal.pow _ (Ideal.div (-((2 : ℝ) * (((BitVec.ofNat 32 k.val).toInt : ℝ) : EReal))) _) = _
  rw [← EReal.coe_mul, ← EReal.coe_neg, Rl.div_real _ _ (by norm_num)]
  exact ⟨_, rfl⟩
theorem inv32_real (k : Fin 32) : ∃ r : ℝ, inv32 k = (r : EReal) := by
  unfold inv32
  rw [base_word, two_word, show Ideal.ofBits .f32 0x42800000#32 = _ from len_word]
  show ∃ r : ℝ, Ideal.pow _ (Ideal.div (-((2 : ℝ) * (((BitVec.ofNat 32 k.val).toInt : ℝ) : EReal))) _) = _
  rw [← EReal.coe_mul, ← EReal.coe_neg, Rl.div_real _ _ (by norm_num)]
  exact ⟨_, rfl⟩
theorem angA_real (t : Fin 8192) (j : Fin 64) : ∃ r : ℝ, angA t j = (r : EReal) := by
  unfold angA
  obtain ⟨r, hr⟩ := inv16_real ⟨j.val % 16, Nat.mod_lt _ (by decide)⟩
  rw [hr]
  exact ⟨_, (EReal.coe_mul _ _).symm⟩

/-- Cosines and sines of a place's angles. -/
def ca (t : Fin 8192) (j : Fin 64) : EReal := Ideal.cos (angA t j)
def sa (t : Fin 8192) (j : Fin 64) : EReal := Ideal.sin (angA t j)
def cb (t : Fin 8192) (j : Fin 64) : EReal := Ideal.cos (angB t j)
def sb (t : Fin 8192) (j : Fin 64) : EReal := Ideal.sin (angB t j)

/-- A head's lanes turned back: each lane takes from its partner, `s` lanes away. -/
def up (s : ℕ) (j : Fin 64) : Fin 64 := ⟨(j.val + s) % 64, Nat.mod_lt _ (by decide)⟩
def dn (s : ℕ) (j : Fin 64) : Fin 64 := ⟨(j.val + 64 - s) % 64, Nat.mod_lt _ (by decide)⟩
def RB (s : ℕ) (cs sn z : Fin 64 → EReal) (j : Fin 64) : EReal :=
  if j.val % (2 * s) < s then z (up s j) * sn j + z j * cs j else z j * cs j + -z (dn s j) * sn j

/-- A head's lane among an array's columns. -/
def hc {n : ℕ} (h : Fin n) (j : Fin 64) : Fin (n * 64) := ⟨h.val * 64 + j.val, by have := h.isLt; have := j.isLt; omega⟩

/-- A head's row: its scale, and the gradient through its norm from the gradient `dz` after it. -/
def S (x : Fin 64 → EReal) : EReal := Ideal.div (∑ k : Fin 64, x k * x k) len + eps
def R (x : Fin 64 → EReal) : EReal := Ideal.rsqrt (S x)
def G (dz g x : Fin 64 → EReal) (j : Fin 64) : EReal :=
  R x * (dz j * g j - x j * R x * Ideal.div (∑ k : Fin 64, dz k * g k * (x k * R x)) len)

/-- The gradient after a norm, of the axial attention's queries and keys. -/
def DZ {n : ℕ} (y : Fin 8192 → Fin (n * 64) → EReal) (r : Fin 8192) (h : Fin n) : Fin 64 → EReal := RB 16 (ca r) (sa r) fun j => y r (hc h j)
def DB {n : ℕ} (y : Fin 8192 → Fin (n * 64) → EReal) (r : Fin 8192) (h : Fin n) : Fin 64 → EReal := RB 32 (cb r) (sb r) fun j => y r (hc h j)

theorem RB_real (s : ℕ) (t : Fin 8192) (z : Fin 64 → EReal) (Z : Fin 64 → ℝ) (hz : ∀ j, z j = (Z j : EReal)) (j : Fin 64) :
    ∃ r : ℝ, RB s (ca t) (sa t) z j = (r : EReal) := by
  obtain ⟨a, ha⟩ := angA_real t j
  have e1 : ca t j = ((Real.cos a : ℝ) : EReal) := by unfold ca; rw [ha]; rfl
  have e2 : sa t j = ((Real.sin a : ℝ) : EReal) := by unfold sa; rw [ha]; rfl
  unfold RB
  rw [e1, e2]
  simp only [hz, ← EReal.coe_mul, ← EReal.coe_add, ← EReal.coe_neg]
  split_ifs
  exacts [⟨_, rfl⟩, ⟨_, rfl⟩]

/-- A column among the 3584, from where its group of columns starts. -/
def cl (o n : ℕ) (h : o + n ≤ 3584) (l : Fin n) : Fin 3584 := ⟨o + l.val, by have := l.isLt; omega⟩
/-- The two heads of a pair of the eight, and a head's lane among the 128 of a pair. -/
def pr (p : Fin 4) (b : Fin 2) : Fin 8 := ⟨p.val * 2 + b.val, by have := p.isLt; have := b.isLt; omega⟩

/-- The projected rows of a query's and a key's head. -/
def QX (x0 : Fin 8192 → Fin 3584 → EReal) (r : Fin 8192) (h : Fin 8) (k : Fin 64) : EReal := x0 r (cl 0 512 (by decide) (hc h k))
def KX (x0 : Fin 8192 → Fin 3584 → EReal) (r : Fin 8192) (h : Fin 2) (k : Fin 64) : EReal := x0 r (cl 512 128 (by decide) (hc h k))

/-- What the projection's gradient is, group of columns by group of columns. -/
structure IsDP (x0 : Fin 8192 → Fin 3584 → EReal) (x1 x2 : Fin 64 → EReal) (x3 : Fin 8192 → Fin 512 → EReal) (x4 x5 : Fin 8192 → Fin 128 → EReal)
    (x6 : Fin 8192 → Fin 512 → EReal) (x7 x8 : Fin 8192 → Fin 128 → EReal) (x9 x10 : Fin 8192 → Fin 1024 → EReal) (W : Fin 8192 → Fin 3584 → EReal) : Prop where
  q : ∀ r (h : Fin 8) j, W r (cl 0 512 (by decide) (hc h j)) = G (DZ (n := 8) x3 r h) x1 (QX x0 r h) j
  k : ∀ r (h : Fin 2) j, W r (cl 512 128 (by decide) (hc h j)) = G (DZ (n := 2) x4 r h) x2 (KX x0 r h) j
  va : ∀ r l, W r (cl 640 128 (by decide) l) = x5 r l
  qb : ∀ r (h : Fin 8) j, W r (cl 768 512 (by decide) (hc h j)) = DB (n := 8) x6 r h j
  kb : ∀ r (h : Fin 2) j, W r (cl 1280 128 (by decide) (hc h j)) = DB (n := 2) x7 r h j
  vb : ∀ r l, W r (cl 1408 128 (by decide) l) = x8 r l
  ga : ∀ r l, W r (cl 1536 1024 (by decide) l) = x9 r l
  gb : ∀ r l, W r (cl 2560 1024 (by decide) l) = x10 r l

/-- What the two gains' gradients are: summed over the rows, and over the pairs of heads for the queries. -/
structure IsDG (x0 : Fin 8192 → Fin 3584 → EReal) (x3 : Fin 8192 → Fin 512 → EReal) (x4 : Fin 8192 → Fin 128 → EReal) (W : Fin 8 → Fin 128 → EReal) : Prop where
  q : ∀ (b : Fin 2) j, W 0 (hc b j) = ∑ p : Fin 4, ∑ r : Fin 8192, DZ (n := 8) x3 r (pr p b) j * (QX x0 r (pr p b) j * R (QX x0 r (pr p b)))
  k : ∀ (b : Fin 2) j, W 1 (hc b j) = ∑ r : Fin 8192, DZ (n := 2) x4 r b j * (KX x0 r b j * R (KX x0 r b))
  z : ∀ i l, 2 ≤ i.val → W i l = 0

/-- Every column lies in one of the groups, every lane in a head. -/
theorem cols (P : Fin 3584 → Prop) (q : ∀ (h : Fin 8) j, P (cl 0 512 (by decide) (hc h j))) (k : ∀ (h : Fin 2) j, P (cl 512 128 (by decide) (hc h j)))
    (va : ∀ l, P (cl 640 128 (by decide) l)) (qb : ∀ (h : Fin 8) j, P (cl 768 512 (by decide) (hc h j))) (kb : ∀ (h : Fin 2) j, P (cl 1280 128 (by decide) (hc h j)))
    (vb : ∀ l, P (cl 1408 128 (by decide) l)) (ga : ∀ l, P (cl 1536 1024 (by decide) l)) (gb : ∀ l, P (cl 2560 1024 (by decide) l)) (n : Fin 3584) : P n := by
  have hn := n.isLt
  have go : ∀ n', n' = n → P n' → P n := fun _ e h => e ▸ h
  by_cases h1 : n.val < 512
  · exact go _ (Fin.ext (by show 0 + (n.val / 64 * 64 + n.val % 64) = n.val; omega)) (q ⟨n.val / 64, by omega⟩ ⟨n.val % 64, by omega⟩)
  by_cases h2 : n.val < 640
  · exact go _ (Fin.ext (by show 512 + ((n.val - 512) / 64 * 64 + (n.val - 512) % 64) = n.val; omega)) (k ⟨(n.val - 512) / 64, by omega⟩ ⟨(n.val - 512) % 64, by omega⟩)
  by_cases h3 : n.val < 768
  · exact go _ (Fin.ext (by show 640 + (n.val - 640) = n.val; omega)) (va ⟨n.val - 640, by omega⟩)
  by_cases h4 : n.val < 1280
  · exact go _ (Fin.ext (by show 768 + ((n.val - 768) / 64 * 64 + (n.val - 768) % 64) = n.val; omega)) (qb ⟨(n.val - 768) / 64, by omega⟩ ⟨(n.val - 768) % 64, by omega⟩)
  by_cases h5 : n.val < 1408
  · exact go _ (Fin.ext (by show 1280 + ((n.val - 1280) / 64 * 64 + (n.val - 1280) % 64) = n.val; omega)) (kb ⟨(n.val - 1280) / 64, by omega⟩ ⟨(n.val - 1280) % 64, by omega⟩)
  by_cases h6 : n.val < 1536
  · exact go _ (Fin.ext (by show 1408 + (n.val - 1408) = n.val; omega)) (vb ⟨n.val - 1408, by omega⟩)
  by_cases h7 : n.val < 2560
  · exact go _ (Fin.ext (by show 1536 + (n.val - 1536) = n.val; omega)) (ga ⟨n.val - 1536, by omega⟩)
  · exact go _ (Fin.ext (by show 2560 + (n.val - 2560) = n.val; omega)) (gb ⟨n.val - 2560, by omega⟩)
theorem lanes (P : Fin 128 → Prop) (h : ∀ (b : Fin 2) j, P (hc b j)) (l : Fin 128) : P l := by
  have hl := l.isLt
  have e : (hc (⟨l.val / 64, by omega⟩ : Fin 2) ⟨l.val % 64, by omega⟩ : Fin 128) = l := Fin.ext (by show l.val / 64 * 64 + l.val % 64 = l.val; omega)
  exact e ▸ h _ _

/-- A head's angles repeat where its lanes turn together. -/
theorem sa_up (t : Fin 8192) (j : Fin 64) (h : j.val % 32 < 16) : sa t (up 16 j) = sa t j := by
  have e1 : ((up 16 j).val < 32) = (j.val < 32) := propext (by show (j.val + 16) % 64 < 32 ↔ _; have := j.isLt; omega)
  have e2 : (⟨(up 16 j).val % 16, Nat.mod_lt _ (by decide)⟩ : Fin 16) = ⟨j.val % 16, Nat.mod_lt _ (by decide)⟩ := Fin.ext (by show (j.val + 16) % 64 % 16 = j.val % 16; omega)
  unfold sa angA
  simp only [e1, e2]
theorem sa_dn (t : Fin 8192) (j : Fin 64) (h : ¬ j.val % 32 < 16) : sa t (dn 16 j) = sa t j := by
  have e1 : ((dn 16 j).val < 32) = (j.val < 32) := propext (by show (j.val + 64 - 16) % 64 < 32 ↔ _; have := j.isLt; omega)
  have e2 : (⟨(dn 16 j).val % 16, Nat.mod_lt _ (by decide)⟩ : Fin 16) = ⟨j.val % 16, Nat.mod_lt _ (by decide)⟩ := Fin.ext (by show (j.val + 64 - 16) % 64 % 16 = j.val % 16; omega)
  unfold sa angA
  simp only [e1, e2]
theorem sb_up (t : Fin 8192) (j : Fin 64) : sb t (up 32 j) = sb t j := by
  have e2 : (⟨(up 32 j).val % 32, Nat.mod_lt _ (by decide)⟩ : Fin 32) = ⟨j.val % 32, Nat.mod_lt _ (by decide)⟩ := Fin.ext (by show (j.val + 32) % 64 % 32 = j.val % 32; omega)
  unfold sb angB
  rw [e2]
theorem sb_dn (t : Fin 8192) (j : Fin 64) : sb t (dn 32 j) = sb t j := by
  have e2 : (⟨(dn 32 j).val % 32, Nat.mod_lt _ (by decide)⟩ : Fin 32) = ⟨j.val % 32, Nat.mod_lt _ (by decide)⟩ := Fin.ext (by show (j.val + 64 - 32) % 64 % 32 = j.val % 32; omega)
  unfold sb angB
  rw [e2]

end Cert.Qk

end
-- ==== Proof.QkPoint.lean ====
/- One grid point of the kernel: the blocks it leaves, as a function of the blocks it reads. -/
module

public import proofs.«01_k».proof.Proof.Gen.QkKIdeal.Value
public import proofs.«01_k».proof.Proof.Real
public import proofs.«01_k».proof.Proof.QkSpec
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.QkKIdeal.Final

open Cert.QkKIdeal Cert.QkKIdeal.Gen
open Cert.Qk (cl)

variable (m : (ℓ : Loc nD τ sig) → Buf (Elt Ideal) ℓ)

/-- The words for one 64th and for the norm's constant. -/
abbrev w64 : EReal := Ideal.ofBits .f32 0x3C800000#32
abbrev eps : EReal := Ideal.ofBits .f32 0x358637BD#32

/-- The logarithm of two, as the body multiplies by it. -/
abbrev ln2 : EReal := (Named.named (F := Ideal) κ "ln2" (0x3F317218#32 : BitVec (FTy.bits .f32)) : Ideal .f32)

/-- The mask of the lanes that belong to one head, as the body builds it. -/
abbrev M : FVec Ideal S128x128 .bf16 :=
  k0_pay9 k0_pay5 (iota Kind.tc S128x128 32 [1] iota_S128x128_d1_w32) 64#32 k0_pay6 k0_pay7 k0_pay8

/-- The lane a turn by `s` brings to `l`. -/
def rot (s : ℕ) (l : Fin 128) : Fin 128 := ⟨(l.val + 128 - s) % 128, Nat.mod_lt _ (by decide)⟩

section Row

variable (dz g raw : Fin 128 → EReal) (f z : Fin 128 → EReal) (T : Fin 3 → Fin 128 → EReal)

/-- The sum over a head's lanes, as two products with the mask. -/
def SS (l : Fin 128) : EReal := (∑ k : Fin 128, f k * M (ix2 k l)) + ∑ k : Fin 128, (f k - f k) * M (ix2 k l)
/-- The scale of a head's norm, the normed row, and the gradient at the row. -/
def RS (l : Fin 128) : EReal := Ideal.rsqrt (SS (fun k => raw k * raw k) l * w64 + eps)
def ZH (l : Fin 128) : EReal := raw l * RS raw l
def NV (l : Fin 128) : EReal := RS raw l * (dz l * g l - ZH raw l * (SS (fun k => dz k * g k * ZH raw k) l * w64))
/-- A row turned back, with its table of cosines and sines. -/
def RT (s : ℕ) (l : Fin 128) : EReal := z l * T 0 l + z (rot (128 - s) l) * T 1 (rot (128 - s) l) + z (rot s l) * T 2 (rot s l)

end Row

section Payloads

variable (dz : FVec Ideal S256x128 .f32) (g p : Vec Ideal S1x128 .f32) (raw : Vec Ideal S256x128 .bf16) (v : Vec Ideal S128x256 .f32)
  (t0 t1 t2 : Vec Ideal S1x256x128 .f32) (w : Vec Ideal S256x128 .f32) (u : Vec Ideal S1x128x256 .f32) (b : Vec Ideal S256x1024 .bf16)

/-- The body's own terms: the gradient through a head's norm, what it adds to the gain's, the two turns. -/
abbrev ng : FVec Ideal S256x128 .bf16 := k0_pay19 M (k0_pay11 g) dz (k0_pay13 raw) (k0_pay14 raw) (k0_pay15 raw)
abbrev gs (p : FVec Ideal S1x128 .f32) : FVec Ideal S1x128 .f32 := k0_pay18 M p dz (k0_pay13 raw) (k0_pay14 raw) (k0_pay15 raw)
abbrev dq (v : Vec Ideal S128x256 .f32) (t0 t1 t2 : Vec Ideal S1x256x128 .f32) : FVec Ideal S256x128 .f32 := k0_pay12 v t0 t1 t2
abbrev dk (u : Vec Ideal S1x128x256 .f32) (t0 t1 t2 : Vec Ideal S1x256x128 .f32) : FVec Ideal S256x128 .f32 := k0_pay64 (k0_pay59 u) (k0_pay62 u t0) (k0_pay63 u t1) t2
abbrev bq (w : Vec Ideal S256x128 .f32) (t0 t1 t2 : Vec Ideal S1x256x128 .f32) : FVec Ideal S256x128 .bf16 := k0_pay58 (k0_pay57 w) t0 t1 t2

theorem g1 : k0_pay30 M (k0_pay23 raw) (k0_pay24 g) (k0_pay25 v t0 t1 t2) = ng (dq v t0 t1 t2) g raw := rfl
theorem g2 : k0_pay44 M (k0_pay35 raw) (k0_pay36 g) (k0_pay37 v t0 t1) (k0_pay38 v t2) = ng (dq v t0 t1 t2) g raw := rfl
theorem g3 : k0_pay56 M (k0_pay47 v) (k0_pay48 raw) (k0_pay49 g) (k0_pay50 v t0 t1) t2 = ng (dq v t0 t1 t2) g raw := rfl
theorem g4 : k0_pay69 M (k0_pay59 u) (k0_pay60 raw) (k0_pay61 g) (k0_pay62 u t0) (k0_pay63 u t1) t2 = ng (dk u t0 t1 t2) g raw := rfl
theorem b0 : k0_pay22 (k0_pay20 w) (k0_pay21 w t0) t1 t2 = bq w t0 t1 t2 := rfl
theorem b1 : k0_pay33 (k0_pay31 w) (k0_pay32 w t0) t1 t2 = bq w t0 t1 t2 := rfl
theorem b2 : k0_pay46 (k0_pay45 w) t0 t1 t2 = bq w t0 t1 t2 := rfl

theorem pay16 (i : Fin 256) (l : Fin 128) :
    k0_pay16 M (k0_pay14 raw) (k0_pay15 raw) (ix2 i l) = RS (fun k => raw (ix2 i k)) l := by
  unfold RS SS
  generalize M = mm
  pointwise [k0_pay16, k0_pay14, k0_pay15, k0_pay13]

theorem pay17 (i : Fin 256) (l : Fin 128) :
    k0_pay17 M (k0_pay13 raw) (k0_pay14 raw) (k0_pay15 raw) (ix2 i l) = ZH (fun k => raw (ix2 i k)) l := by
  unfold ZH
  rw [← pay16]
  generalize hh : k0_pay16 M (k0_pay14 raw) (k0_pay15 raw) = h
  pointwise [k0_pay17, k0_pay13, hh]

theorem ng_at (i : Fin 256) (l : Fin 128) :
    ng dz g raw (ix2 i l) = NV (fun k => dz (ix2 i k)) (fun k => g (ix2 0 k)) (fun k => raw (ix2 i k)) l := by
  unfold NV SS
  simp only [← pay16 raw, ← pay17 raw]
  pointwise [k0_pay19, k0_pay11]

theorem gs_at (p : FVec Ideal S1x128 .f32) (l : Fin 128) :
    gs dz raw p (ix2 0 l) = p (ix2 0 l) + ∑ i : Fin 256, dz (ix2 i l) * ZH (fun k => raw (ix2 i k)) l := by
  simp only [← pay17 raw]
  generalize hq : k0_pay17 M (k0_pay13 raw) (k0_pay14 raw) (k0_pay15 raw) = q
  pointwise [k0_pay18, hq]

theorem s1 (x : FVec Ideal S1x128 .f32) : k0_pay29 M x (k0_pay23 raw) (k0_pay25 v t0 t1 t2) = gs (dq v t0 t1 t2) raw x := rfl
theorem s2 (x : FVec Ideal S1x128 .f32) : k0_pay43 M x (k0_pay35 raw) (k0_pay37 v t0 t1) (k0_pay38 v t2) = gs (dq v t0 t1 t2) raw x := rfl
theorem s3 (x : FVec Ideal S1x128 .f32) : k0_pay55 M x (k0_pay47 v) (k0_pay48 raw) (k0_pay50 v t0 t1) t2 = gs (dq v t0 t1 t2) raw x := rfl
theorem s4 : k0_pay67 M (k0_pay60 raw) = k0_pay17 M (k0_pay13 raw) (k0_pay14 raw) (k0_pay15 raw) := rfl
theorem gk_at (l : Fin 128) : k0_pay68 M (k0_pay59 u) (k0_pay60 raw) (k0_pay62 u t0) (k0_pay63 u t1) t2 (ix2 0 l)
    = ∑ i : Fin 256, dk u t0 t1 t2 (ix2 i l) * ZH (fun k => raw (ix2 i k)) l := by
  simp only [← pay17 raw, ← s4]
  generalize hq : k0_pay67 M (k0_pay60 raw) = q
  generalize hd : k0_pay64 (k0_pay59 u) (k0_pay62 u t0) (k0_pay63 u t1) t2 = d
  pointwise [k0_pay68, hq, hd]

/-- A place in a table's rows, as the three loads see it. -/
abbrev tab (t0 t1 t2 : Vec Ideal S1x256x128 .f32) (i : Fin 256) : Fin 3 → Fin 128 → EReal :=
  ![fun k => t0 (ix3 0 i k), fun k => t1 (ix3 0 i k), fun k => t2 (ix3 0 i k)]

theorem dq_at (i : Fin 256) (l : Fin 128) :
    dq v t0 t1 t2 (ix2 i l) = RT (fun k => v (ix2 k i) * Ideal.ofBits .f32 0x3E000000#32) (tab t0 t1 t2 i) 16 l := by
  unfold RT
  pointwise [k0_pay12]
  rfl
theorem dk_at (i : Fin 256) (l : Fin 128) :
    dk u t0 t1 t2 (ix2 i l) = RT (fun k => u (ix3 0 k i) * ln2) (tab t0 t1 t2 i) 16 l := by
  unfold RT
  pointwise [k0_pay64, k0_pay59, k0_pay62, k0_pay63]
  rfl
theorem bq_at (i : Fin 256) (l : Fin 128) :
    bq w t0 t1 t2 (ix2 i l) = RT (fun k => w (ix2 i k) * Ideal.ofBits .f32 0x3E000000#32) (tab t0 t1 t2 i) 32 l := by
  unfold RT
  pointwise [k0_pay58, k0_pay57]
  rfl
theorem bk_at (i : Fin 256) (l : Fin 128) :
    k0_pay71 w t0 t1 t2 (ix2 i l) = RT (fun k => w (ix2 i k) * ln2) (tab t0 t1 t2 i) 32 l := by
  unfold RT
  pointwise [k0_pay71]
  rfl
theorem va_at (i : Fin 256) (l : Fin 128) : k0_pay70 u (ix2 i l) = u (ix3 0 l i) := by pointwise [k0_pay70]
theorem vb_at (i : Fin 256) (l : Fin 128) : k0_pay72 w (ix2 i l) = w (ix2 i l) := by pointwise [k0_pay72]
theorem ga_at (i : Fin 256) (l : Fin 1024) : k0_pay73 b (ix2 i l) = b (ix2 i l) := by pointwise [k0_pay73]
theorem gb_at (i : Fin 256) (l : Fin 1024) : k0_pay1 b (ix2 i l) = b (ix2 i l) := by pointwise [k0_pay1]
theorem pay2 (x p : FVec Ideal S1x128 .f32) (l : Fin 128) : k0_pay2 x p (ix2 0 l) = p (ix2 0 l) + x (ix2 0 l) := by pointwise [k0_pay2]
theorem pay3 (x p : FVec Ideal S1x128 .f32) (l : Fin 128) : k0_pay3 x p (ix2 0 l) = p (ix2 0 l) + x (ix2 0 l) := by pointwise [k0_pay3]
theorem pay4 (y : S8x128.Idx) : k0_pay4 (F := Ideal) y = 0 := by pointwise [k0_pay4]
theorem pay10 (l : Fin 128) : k0_pay10 (F := Ideal) (ix2 0 l) = 0 := by pointwise [k0_pay10]

end Payloads

section Blocks

variable (a0 : FVec Ideal S512x256 .f32) (a1 a2 : FVec Ideal S1x128x256 .f32) (a3 : FVec Ideal S256x512 .f32) (a4 a5 : FVec Ideal S256x128 .f32)
  (a6 : FVec Ideal S256x512 .bf16) (a7 : FVec Ideal S256x128 .bf16) (a8 a9 : FVec Ideal S1x128 .f32) (a10 a11 : FVec Ideal S3x256x128 .f32)
  (a12 a13 : FVec Ideal S256x1024 .bf16)

/-- A head pair's lane among the 512. -/
def hq (p : Fin 4) (l : Fin 128) : Fin 512 := ⟨p.val * 128 + l.val, by have := p.isLt; have := l.isLt; omega⟩

abbrev l0 (o : ℕ) (inb : ∀ a, (![o, 0] : Fin 2 → ℕ) a + S128x256.size a ≤ S512x256.size a) : Vec Ideal S128x256 .f32 :=
  View.ld (Val := Elt Ideal) (e' := .f32) a0 (Rect.unit ![o, 0] S128x256.size inb)
abbrev l3 (o : ℕ) (inb : ∀ a, (![0, o] : Fin 2 → ℕ) a + S256x128.size a ≤ S256x512.size a) : Vec Ideal S256x128 .f32 :=
  View.ld (Val := Elt Ideal) (e' := .f32) a3 (Rect.unit ![0, o] S256x128.size inb)
abbrev l6 (o : ℕ) (inb : ∀ a, (![0, o] : Fin 2 → ℕ) a + S256x128.size a ≤ S256x512.size a) : Vec Ideal S256x128 .bf16 :=
  View.ld (Val := Elt Ideal) (e' := .bf16) a6 (Rect.unit ![0, o] S256x128.size inb)
abbrev lt (o : ℕ) (inb : ∀ a, (![o, 0, 0] : Fin 3 → ℕ) a + S1x256x128.size a ≤ S3x256x128.size a) : Vec Ideal S1x256x128 .f32 :=
  View.ld (Val := Elt Ideal) (e' := .f32) a10 (Rect.unit ![o, 0, 0] S1x256x128.size inb)

abbrev dqb (o : ℕ) (inb : ∀ a, (![o, 0] : Fin 2 → ℕ) a + S128x256.size a ≤ S512x256.size a) : FVec Ideal S256x128 .f32 :=
  dq (l0 a0 o inb) (lt a10 0 inb_S3x256x128_S1x256x128_0_0_0) (lt a10 1 inb_S3x256x128_S1x256x128_1_0_0) (lt a10 2 inb_S3x256x128_S1x256x128_2_0_0)
abbrev dkb : FVec Ideal S256x128 .f32 :=
  dk a1 (lt a10 0 inb_S3x256x128_S1x256x128_0_0_0) (lt a10 1 inb_S3x256x128_S1x256x128_1_0_0) (lt a10 2 inb_S3x256x128_S1x256x128_2_0_0)
abbrev bqb (o : ℕ) (inb : ∀ a, (![0, o] : Fin 2 → ℕ) a + S256x128.size a ≤ S256x512.size a) : FVec Ideal S256x128 .bf16 :=
  bq (l3 a3 o inb) (lt a11 0 inb_S3x256x128_S1x256x128_0_0_0) (lt a11 1 inb_S3x256x128_S1x256x128_1_0_0) (lt a11 2 inb_S3x256x128_S1x256x128_2_0_0)

/-- The block of the projection's gradient the body leaves. -/
def dpb : FVec Ideal S256x3584 .bf16 :=
  View.canon (Val := Elt Ideal) (e := .bf16)
    [⟨Rect.unit ![0, 2560] S256x1024.size inb_S256x3584_S256x1024_0_2560, (k0_pay1 a13 : FVec Ideal S256x1024 .bf16)⟩,
      ⟨Rect.unit ![0, 1536] S256x1024.size inb_S256x3584_S256x1024_0_1536, (k0_pay73 a12 : FVec Ideal S256x1024 .bf16)⟩,
      ⟨Rect.unit ![0, 1408] S256x128.size inb_S256x3584_S256x128_0_1408, (k0_pay72 a5 : FVec Ideal S256x128 .bf16)⟩,
      ⟨Rect.unit ![0, 1280] S256x128.size inb_S256x3584_S256x128_0_1280, (k0_pay71 a4 (lt a11 0 inb_S3x256x128_S1x256x128_0_0_0) (lt a11 1 inb_S3x256x128_S1x256x128_1_0_0) (lt a11 2 inb_S3x256x128_S1x256x128_2_0_0) : FVec Ideal S256x128 .bf16)⟩,
      ⟨Rect.unit ![0, 640] S256x128.size inb_S256x3584_S256x128_0_640, (k0_pay70 a2 : FVec Ideal S256x128 .bf16)⟩,
      ⟨Rect.unit ![0, 512] S256x128.size inb_S256x3584_S256x128_0_512, ng (dkb a1 a10) a9 a7⟩,
      ⟨Rect.unit ![0, 1152] S256x128.size inb_S256x3584_S256x128_0_1152, bqb a3 a11 384 inb_S256x512_S256x128_0_384⟩,
      ⟨Rect.unit ![0, 384] S256x128.size inb_S256x3584_S256x128_0_384, ng (dqb a0 a10 384 inb_S512x256_S128x256_384_0) a8 (l6 a6 384 inb_S256x512_S256x128_0_384)⟩,
      ⟨Rect.unit ![0, 1024] S256x128.size inb_S256x3584_S256x128_0_1024, bqb a3 a11 256 inb_S256x512_S256x128_0_256⟩,
      ⟨Rect.unit ![0, 256] S256x128.size inb_S256x3584_S256x128_0_256, ng (dqb a0 a10 256 inb_S512x256_S128x256_256_0) a8 (l6 a6 256 inb_S256x512_S256x128_0_256)⟩,
      ⟨Rect.unit ![0, 896] S256x128.size inb_S256x3584_S256x128_0_896, bqb a3 a11 128 inb_S256x512_S256x128_0_128⟩,
      ⟨Rect.unit ![0, 128] S256x128.size inb_S256x3584_S256x128_0_128, ng (dqb a0 a10 128 inb_S512x256_S128x256_128_0) a8 (l6 a6 128 inb_S256x512_S256x128_0_128)⟩,
      ⟨Rect.unit ![0, 768] S256x128.size inb_S256x3584_S256x128_0_768, bqb a3 a11 0 inb_S256x512_S256x128_0_0⟩,
      ⟨Rect.unit ![0, 0] S256x128.size inb_S256x3584_S256x128_0_0, ng (dqb a0 a10 0 inb_S512x256_S128x256_0_0) a8 (l6 a6 0 inb_S256x512_S256x128_0_0)⟩]

/-- A column is read from the piece it lies in, past the others. -/
theorem past {sz : Fin 2 → ℕ} (o n : ℕ) (h : o + n ≤ 3584) (oo : ℕ) (inb : ∀ a, (![0, oo] : Fin 2 → ℕ) a + sz a ≤ S256x3584.size a) (x) (L : List (View.Piece (Elt Ideal) S256x3584 .bf16)) (i : Fin 256) (l : Fin n)
    (hd : o + n ≤ oo ∨ oo + sz 1 ≤ o) :
    View.canon ((⟨Rect.unit ![0, oo] sz inb, x⟩ : View.Piece (Elt Ideal) S256x3584 .bf16) :: L) (ix2 i (cl o n h l)) = View.canon L (ix2 i (cl o n h l)) := by
  refine Rl.canon_not_mem (s := S256x3584) (Val := Elt Ideal) (e := .bf16) inb x L _ (1 : Fin 2) ?_
  have := l.isLt
  show o + l.val < oo ∨ oo + sz 1 ≤ o + l.val
  omega
theorem here (o : ℕ) (h : o + 128 ≤ 3584) (inb : ∀ a, (![0, o] : Fin 2 → ℕ) a + S256x128.size a ≤ S256x3584.size a) (x : FVec Ideal S256x128 .bf16) (L : List (View.Piece (Elt Ideal) S256x3584 .bf16)) (i : Fin 256) (l : Fin 128) :
    View.canon ((⟨Rect.unit ![0, o] S256x128.size inb, x⟩ : View.Piece (Elt Ideal) S256x3584 .bf16) :: L) (ix2 i (cl o 128 h l)) = x (ix2 i l) :=
  Rl.canon_mem (s := S256x3584) (Val := Elt Ideal) (e := .bf16) inb x L _ (ix2 i l) (by intro a; fin_cases a; exacts [(Nat.zero_add _).symm, rfl])
theorem here' (o : ℕ) (h : o + 1024 ≤ 3584) (inb : ∀ a, (![0, o] : Fin 2 → ℕ) a + S256x1024.size a ≤ S256x3584.size a) (x : FVec Ideal S256x1024 .bf16) (L : List (View.Piece (Elt Ideal) S256x3584 .bf16)) (i : Fin 256) (l : Fin 1024) :
    View.canon ((⟨Rect.unit ![0, o] S256x1024.size inb, x⟩ : View.Piece (Elt Ideal) S256x3584 .bf16) :: L) (ix2 i (cl o 1024 h l)) = x (ix2 i l) :=
  Rl.canon_mem (s := S256x3584) (Val := Elt Ideal) (e := .bf16) inb x L _ (ix2 i l) (by intro a; fin_cases a; exacts [(Nat.zero_add _).symm, rfl])

theorem dp_gb (i : Fin 256) (l : Fin 1024) : dpb a0 a1 a2 a3 a4 a5 a6 a7 a8 a9 a10 a11 a12 a13 (ix2 i (cl 2560 1024 (by decide) l)) = a13 (ix2 i l) :=
  (here' _ _ _ _ _ _ _).trans (gb_at a13 i l)
theorem dp_ga (i : Fin 256) (l : Fin 1024) : dpb a0 a1 a2 a3 a4 a5 a6 a7 a8 a9 a10 a11 a12 a13 (ix2 i (cl 1536 1024 (by decide) l)) = a12 (ix2 i l) := by
  unfold dpb
  rw [past _ _ _ _ _ _ _ _ _ (by decide)]
  exact (here' _ _ _ _ _ _ _).trans (ga_at a12 i l)
theorem dp_vb (i : Fin 256) (l : Fin 128) : dpb a0 a1 a2 a3 a4 a5 a6 a7 a8 a9 a10 a11 a12 a13 (ix2 i (cl 1408 128 (by decide) l)) = a5 (ix2 i l) := by
  unfold dpb
  simp (disch := decide) only [past]
  exact (here _ _ _ _ _ _ _).trans (vb_at a5 i l)

/-- The table's rows at one place, the gradients before the norm, at a block's place. -/
def TB (T : FVec Ideal S3x256x128 .f32) (i : Fin 256) (r : Fin 3) (l : Fin 128) : EReal := T (ix3 r i l)
def DQ (p : Fin 4) (i : Fin 256) : Fin 128 → EReal := RT (fun k => a0 (ix2 (hq p k) i) * Ideal.ofBits .f32 0x3E000000#32) (TB a10 i) 16
def DK (i : Fin 256) : Fin 128 → EReal := RT (fun k => a1 (ix3 0 k i) * ln2) (TB a10 i) 16

theorem tab_at (i : Fin 256) : tab (lt a10 0 inb_S3x256x128_S1x256x128_0_0_0) (lt a10 1 inb_S3x256x128_S1x256x128_1_0_0) (lt a10 2 inb_S3x256x128_S1x256x128_2_0_0) i = TB a10 i := by
  funext r k
  fin_cases r
  all_goals
    refine Rl.ld_at (Val := Elt Ideal) (e := .f32) _ a10 _ _ ?_
    intro a
    fin_cases a
    exacts [rfl, (Nat.zero_add _).symm, (Nat.zero_add _).symm]
theorem l0_at (o : ℕ) (p : Fin 4) (ho : o = p.val * 128) (inb) (k : Fin 128) (i : Fin 256) : l0 a0 o inb (ix2 k i) = a0 (ix2 (hq p k) i) := by
  subst ho
  refine Rl.ld_at (Val := Elt Ideal) (e := .f32) inb a0 _ _ ?_
  intro a
  fin_cases a
  exacts [rfl, (Nat.zero_add _).symm]
theorem l3_at (o : ℕ) (p : Fin 4) (ho : o = p.val * 128) (inb) (k : Fin 128) (i : Fin 256) : l3 a3 o inb (ix2 i k) = a3 (ix2 i (hq p k)) := by
  subst ho
  refine Rl.ld_at (Val := Elt Ideal) (e := .f32) inb a3 _ _ ?_
  intro a
  fin_cases a
  exacts [(Nat.zero_add _).symm, rfl]
theorem l6_at (o : ℕ) (p : Fin 4) (ho : o = p.val * 128) (inb) (k : Fin 128) (i : Fin 256) : l6 a6 o inb (ix2 i k) = a6 (ix2 i (hq p k)) := by
  subst ho
  refine Rl.ld_at (Val := Elt Ideal) (e := .bf16) inb a6 _ _ ?_
  intro a
  fin_cases a
  exacts [(Nat.zero_add _).symm, rfl]

theorem dqb_at (o : ℕ) (p : Fin 4) (ho : o = p.val * 128) (inb) (i : Fin 256) : (fun l => dqb a0 a10 o inb (ix2 i l)) = DQ a0 a10 p i := by
  funext l
  unfold DQ
  refine (dq_at _ _ _ _ i l).trans ?_
  rw [tab_at]
  simp only [l0_at a0 o p ho]
theorem dkb_at (i : Fin 256) : (fun l => dkb a1 a10 (ix2 i l)) = DK a1 a10 i := by
  funext l
  unfold DK
  refine (dk_at _ _ _ _ i l).trans ?_
  rw [tab_at]
theorem ngq (o : ℕ) (p : Fin 4) (ho : o = p.val * 128) (inb inb') (i : Fin 256) (l : Fin 128) :
    ng (dqb a0 a10 o inb) a8 (l6 a6 o inb') (ix2 i l) = NV (DQ a0 a10 p i) (fun k => a8 (ix2 0 k)) (fun k => a6 (ix2 i (hq p k))) l := by
  rw [ng_at, dqb_at a0 a10 o p ho]
  simp only [l6_at a6 o p ho]
theorem gsq (o : ℕ) (p : Fin 4) (ho : o = p.val * 128) (inb inb') (x : FVec Ideal S1x128 .f32) (l : Fin 128) :
    gs (dqb a0 a10 o inb) (l6 a6 o inb') x (ix2 0 l) = x (ix2 0 l) + ∑ i : Fin 256, DQ a0 a10 p i l * ZH (fun k => a6 (ix2 i (hq p k))) l := by
  rw [gs_at]
  simp only [l6_at a6 o p ho, ← dqb_at a0 a10 o p ho inb]
theorem bqq (o : ℕ) (p : Fin 4) (ho : o = p.val * 128) (inb) (i : Fin 256) (l : Fin 128) :
    bqb a3 a11 o inb (ix2 i l) = RT (fun k => a3 (ix2 i (hq p k)) * Ideal.ofBits .f32 0x3E000000#32) (TB a11 i) 32 l := by
  refine (bq_at _ _ _ _ i l).trans ?_
  rw [tab_at]
  simp only [l3_at a3 o p ho]

theorem dp_kb (i : Fin 256) (l : Fin 128) : dpb a0 a1 a2 a3 a4 a5 a6 a7 a8 a9 a10 a11 a12 a13 (ix2 i (cl 1280 128 (by decide) l)) = RT (fun k => a4 (ix2 i k) * ln2) (TB a11 i) 32 l := by
  unfold dpb
  simp (disch := decide) only [past]
  refine (here _ _ _ _ _ _ _).trans ?_
  rw [bk_at, tab_at]
theorem dp_va (i : Fin 256) (l : Fin 128) : dpb a0 a1 a2 a3 a4 a5 a6 a7 a8 a9 a10 a11 a12 a13 (ix2 i (cl 640 128 (by decide) l)) = a2 (ix3 0 l i) := by
  unfold dpb
  simp (disch := decide) only [past]
  exact (here _ _ _ _ _ _ _).trans (va_at a2 i l)
theorem dp_k (i : Fin 256) (l : Fin 128) : dpb a0 a1 a2 a3 a4 a5 a6 a7 a8 a9 a10 a11 a12 a13 (ix2 i (cl 512 128 (by decide) l))
    = NV (DK a1 a10 i) (fun k => a9 (ix2 0 k)) (fun k => a7 (ix2 i k)) l := by
  unfold dpb
  simp (disch := decide) only [past]
  refine (here _ _ _ _ _ _ _).trans ?_
  rw [ng_at, dkb_at]
theorem dp_q (p : Fin 4) (o : ℕ) (ho : o = p.val * 128) (h : o + 128 ≤ 3584) (i : Fin 256) (l : Fin 128) : dpb a0 a1 a2 a3 a4 a5 a6 a7 a8 a9 a10 a11 a12 a13 (ix2 i (cl o 128 h l))
    = NV (DQ a0 a10 p i) (fun k => a8 (ix2 0 k)) (fun k => a6 (ix2 i (hq p k))) l := by
  unfold dpb
  have h4 : o = 0 ∨ o = 128 ∨ o = 256 ∨ o = 384 := by have := p.isLt; omega
  rcases h4 with rfl | rfl | rfl | rfl
  all_goals
    simp (disch := decide) only [past]
    exact (here _ _ _ _ _ _ _).trans (ngq a0 a6 a8 a10 _ p ho _ _ i l)
theorem dp_qb (p : Fin 4) (o : ℕ) (ho : o = 768 + p.val * 128) (h : o + 128 ≤ 3584) (i : Fin 256) (l : Fin 128) : dpb a0 a1 a2 a3 a4 a5 a6 a7 a8 a9 a10 a11 a12 a13 (ix2 i (cl o 128 h l))
    = RT (fun k => a3 (ix2 i (hq p k)) * Ideal.ofBits .f32 0x3E000000#32) (TB a11 i) 32 l := by
  unfold dpb
  have h4 : o = 768 ∨ o = 896 ∨ o = 1024 ∨ o = 1152 := by have := p.isLt; omega
  rcases h4 with rfl | rfl | rfl | rfl
  all_goals
    simp (disch := decide) only [past]
    exact (here _ _ _ _ _ _ _).trans (bqq a3 a11 _ p (by omega) _ i l)

/-- What a point adds to the two rows of the gains' gradients. -/
def inc (y : S8x128.Idx) : EReal :=
  if (y 0).val = 0 then ∑ p : Fin 4, ∑ i : Fin 256, DQ a0 a10 p i (y 1) * ZH (fun k => a6 (ix2 i (hq p k))) (y 1)
  else if (y 0).val = 1 then ∑ i : Fin 256, DK a1 a10 i (y 1) * ZH (fun k => a7 (ix2 i k)) (y 1) else 0

abbrev gk : FVec Ideal S1x128 .f32 :=
  k0_pay68 M (k0_pay59 a1) (k0_pay60 a7) (k0_pay62 a1 (lt a10 0 inb_S3x256x128_S1x256x128_0_0_0)) (k0_pay63 a1 (lt a10 1 inb_S3x256x128_S1x256x128_1_0_0)) (lt a10 2 inb_S3x256x128_S1x256x128_2_0_0)
abbrev gq : FVec Ideal S1x128 .f32 :=
  gs (dqb a0 a10 384 inb_S512x256_S128x256_384_0) (l6 a6 384 inb_S256x512_S256x128_0_384)
    (gs (dqb a0 a10 256 inb_S512x256_S128x256_256_0) (l6 a6 256 inb_S256x512_S256x128_0_256)
      (gs (dqb a0 a10 128 inb_S512x256_S128x256_128_0) (l6 a6 128 inb_S256x512_S256x128_0_128)
        (gs (dqb a0 a10 0 inb_S512x256_S128x256_0_0) (l6 a6 0 inb_S256x512_S256x128_0_0) k0_pay10)))

theorem row1 (p : FVec Ideal S1x128 .f32) (l : Fin 128) : k0_pay3 (gk a1 a7 a10) p (ix2 0 l) = p (ix2 0 l) + ∑ i : Fin 256, DK a1 a10 i l * ZH (fun k => a7 (ix2 i k)) l := by
  refine (pay3 _ p l).trans (congrArg (p (ix2 0 l) + ·) ((gk_at _ _ _ _ _ l).trans ?_))
  simp only [← dkb_at a1 a10]
theorem row0 (p : FVec Ideal S1x128 .f32) (l : Fin 128) : k0_pay2 (gq a0 a6 a10) p (ix2 0 l)
    = p (ix2 0 l) + ∑ q : Fin 4, ∑ i : Fin 256, DQ a0 a10 q i l * ZH (fun k => a6 (ix2 i (hq q k))) l := by
  refine (pay2 _ p l).trans (congrArg (p (ix2 0 l) + ·) (((gsq a0 a6 a10 384 3 rfl _ _ _ l).trans (congrArg (· + _) ((gsq a0 a6 a10 256 2 rfl _ _ _ l).trans
    (congrArg (· + _) ((gsq a0 a6 a10 128 1 rfl _ _ _ l).trans (congrArg (· + _) ((gsq a0 a6 a10 0 0 rfl _ _ _ l).trans (congrArg (· + _) (pay10 l))))))))).trans ?_))
  rw [zero_add, Fin.sum_univ_four]
theorem ld_row (p : FVec Ideal S8x128 .f32) (o : ℕ) (r : Fin 8) (ho : o = r.val) (inb : ∀ a, (![o, 0] : Fin 2 → ℕ) a + S1x128.size a ≤ S8x128.size a) (j : Fin 128) :
    View.ld (Val := Elt Ideal) (e' := .f32) p (Rect.unit ![o, 0] S1x128.size inb) (ix2 0 j) = p (ix2 r j) := by
  refine Rl.ld_at (Val := Elt Ideal) (e := .f32) inb p _ _ ?_
  intro a
  fin_cases a
  exacts [ho.symm, (Nat.zero_add _).symm]

end Blocks

theorem o14 (c : Dev nD) (t : Fin cfg0.N) :
    (outsAt0 m c t.val t.isLt).1 = dpb (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) := by
  unfold dpb
  by_cases h0 : t.val % 32 = 0
  · rw [outsAt0_A m c t h0]; frame_out
    rw [g1, g2, g3, g4, b0, b1, b2]
  · rw [outsAt0_B m c t h0]; frame_out
    rw [g1, g2, g3, g4, b0, b1, b2]

/-- What a point adds, over its own blocks. -/
abbrev part (c : Dev nD) (t : Fin cfg0.N) (y : S8x128.Idx) : EReal := inc (iblk m c 0 t) (iblk m c 1 t) (iblk m c 6 t) (iblk m c 7 t) (iblk m c 10 t) y

theorem oA15 (c : Dev nD) (t : Fin cfg0.N) (h0 : t.val % 32 = 0) (y : S8x128.Idx) :
    (outsAt0 m c t.val t.isLt).2 y = 0 + part m c t y := by
  unfold part inc
  idx_vars y
  rw [outsAt0_A m c t h0]; frame_out
  simp (disch := decide) only [↓View.readCov_skip, View.readCov_cons_toLoadRect, View.readCov_fill]
  by_cases h1 : y0.val = 1
  · rw [Rl.canon_mem _ _ _ _ (ix2 (0 : Fin 1) y1) (by intro a; fin_cases a; exacts [h1, (Nat.zero_add _).symm])]
    refine Eq.trans ((row1 _ _ _ _ y1).trans (congrArg₂ (· + ·) ((ld_row _ 1 y0 h1.symm _ y1).trans (pay4 _)) rfl)) ?_
    exact congrArg (_ + ·) ((if_neg (h1.trans_ne Nat.one_ne_zero)).trans (if_pos h1)).symm
  rw [Rl.canon_not_mem _ _ _ _ (0 : Fin 2) (show y0.val < 1 ∨ 1 + 1 ≤ y0.val by omega)]
  by_cases h2 : y0.val = 0
  · rw [Rl.canon_mem _ _ _ _ (ix2 (0 : Fin 1) y1) (by intro a; fin_cases a; exacts [h2, (Nat.zero_add _).symm])]
    rw [s1, s2, s3]
    refine Eq.trans ((row0 _ _ _ _ y1).trans (congrArg₂ (· + ·) ((ld_row _ 0 y0 h2.symm _ y1).trans (pay4 _)) rfl)) ?_
    exact congrArg (_ + ·) (if_pos h2).symm
  · rw [Rl.canon_not_mem _ _ _ _ (0 : Fin 2) (show y0.val < 0 ∨ 0 + 1 ≤ y0.val by omega),
      Rl.canon_mem _ _ _ _ (ix2 y0 y1) (by intro a; fin_cases a; exacts [(Nat.zero_add _).symm, (Nat.zero_add _).symm]), pay4]
    exact ((congrArg (_ + ·) ((if_neg h2).trans (if_neg h1))).trans (add_zero _)).symm

theorem oB15 (c : Dev nD) (t : Fin cfg0.N) (h0 : ¬ t.val % 32 = 0) (y : S8x128.Idx) :
    (outsAt0 m c t.val t.isLt).2 y = (outsAt0 m c (t.val - 1) (Nat.lt_of_le_of_lt (Nat.sub_le _ _) t.isLt)).2 y + part m c t y := by
  unfold part inc
  idx_vars y
  rw [outsAt0_B m c t h0]; frame_out
  by_cases h1 : y0.val = 1
  · rw [View.read_writes_cons_unit_of_mem _ _ _ _ _ _ (ix2 (0 : Fin 1) y1) rfl (by intro a; fin_cases a; exacts [h1, (Nat.zero_add _).symm])]
    refine Eq.trans ((row1 _ _ _ _ y1).trans (congrArg₂ (· + ·) (ld_row _ 1 y0 h1.symm _ y1) rfl)) ?_
    exact congrArg (_ + ·) ((if_neg (h1.trans_ne Nat.one_ne_zero)).trans (if_pos h1)).symm
  rw [View.read_writes_cons_unit_of_not_mem _ _ _ _ _ _ rfl (0 : Fin 2) (show y0.val < 1 ∨ 1 + 1 ≤ y0.val by omega)]
  by_cases h2 : y0.val = 0
  · rw [View.read_writes_cons_unit_of_mem _ _ _ _ _ _ (ix2 (0 : Fin 1) y1) rfl (by intro a; fin_cases a; exacts [h2, (Nat.zero_add _).symm])]
    rw [s1, s2, s3]
    refine Eq.trans ((row0 _ _ _ _ y1).trans (congrArg₂ (· + ·) (ld_row _ 0 y0 h2.symm _ y1) rfl)) ?_
    exact congrArg (_ + ·) (if_pos h2).symm
  · rw [View.read_writes_cons_unit_of_not_mem _ _ _ _ _ _ rfl (0 : Fin 2) (show y0.val < 0 ∨ 0 + 1 ≤ y0.val by omega)]
    erw [Memref.IsWhole.read_unread]
    exact ((congrArg (_ + ·) ((if_neg h2).trans (if_neg h1))).trans (add_zero _)).symm

end Cert.QkKIdeal.Final

end
-- ==== Proof.QkHost.lean ====
/- The tables of cosines and sines the kernel reads, at a place and a lane. -/
module

public import proofs.«01_k».proof.Proof.QkPoint
public import proofs.«01_k».proof.Proof.QkSpec
public import Idealize.ShloMosaic.Lib.StableHlo.ReadAt
public import Idealize.ShloMosaic.Lib.ValueIdxCore

@[expose] public section

set_option maxRecDepth 16384

noncomputable section

open Idealize.ShloMosaic Idealize.ShloMosaic.TcCoe Idealize.SL.Sem
open Idealize.ShloMosaic.Pipeline (Dat)

namespace Cert.QkKIdeal.Final

open Cert.QkKIdeal Cert.QkKIdeal.Gen Cert.Qk

variable (m : (ℓ : Loc nD τ sig) → Buf (Elt Ideal) ℓ) (c : Dev nD)

/-- A gather of one axis at places known to lie in it. -/
theorem take_at {N : ℕ} (hN : 0 < N) (hT : ∀ r : Fin N, min (BitVec.ofNat 32 r.val).toInt.toNat (N - 1) = r.val)
    (wf : GatherDims.WF ⟨1, ![N]⟩ ⟨3, ![1, 128, 1]⟩ ⟨2, ![1, 128]⟩ [] [0] [] [0] [] 2 ![1]) (X : (⟨1, ![N]⟩ : Shape).Idx → EReal) (idx : IVec ⟨3, ![1, 128, 1]⟩ 32)
    (l : Fin 128) (r : Fin N) (h : idx (ix3 0 l 0) = BitVec.ofNat 32 r.val) : Host.gather (ValueIdx.takeDims N 1 128 wf) X idx (ix2 0 l) = X (ix1 r) := by
  refine (ValueIdx.gather_take_apply hN wf X idx (ix2 0 l)).trans (congrArg X (congrArg ix1 (Fin.ext ?_)))
  have e : idx (ValueIdx.takeIdx (ix2 (0 : Fin 1) l)) = BitVec.ofNat 32 r.val :=
    (congrArg idx (funext fun a => by fin_cases a; exacts [rfl, rfl, rfl])).trans h
  show min (idx (ValueIdx.takeIdx (ix2 (0 : Fin 1) l))).toInt.toNat (N - 1) = r.val
  rw [e, hT]

theorem v22_at (l : Fin 128) : (show FVec Ideal S1x128 .f32 from V m c main_v22) (ix2 0 l) = inv16 (l16 l) := by
  show (show FVec Ideal S1x128 .f32 from Gen.V m c main_v22) (ix2 0 l) = _
  dsimp only [Gen.V]; after_reads_at
  refine (take_at (by decide) (by decide) _ _ _ l (l16 l) ?_).trans ?_
  · pointwise
    revert l; decide +kernel
  · pointwise [inv16]
theorem v60_at (l : Fin 128) : (show FVec Ideal S1x128 .f32 from V m c main_v60) (ix2 0 l) = inv32 (l32 l) := by
  show (show FVec Ideal S1x128 .f32 from Gen.V m c main_v60) (ix2 0 l) = _
  dsimp only [Gen.V]; after_reads_at
  refine (take_at (by decide) (by decide) _ _ _ l (l32 l) ?_).trans ?_
  · pointwise
    revert l; decide +kernel
  · pointwise [inv32]
theorem v25_at (t : Fin 8192) : (show IVec S8192x1 32 from V m c main_v25) (ix2 t 0) = fd (BitVec.ofNat 32 t.val) := by
  show (show IVec S8192x1 32 from Gen.V m c main_v25) (ix2 t 0) = _
  dsimp only [Gen.V]; after_reads_at
  rfl
theorem v26_at (t : Fin 8192) : (show IVec S8192x1 32 from V m c main_v26) (ix2 t 0) = rm (BitVec.ofNat 32 t.val) := by
  show (show IVec S8192x1 32 from Gen.V m c main_v26) (ix2 t 0) = _
  dsimp only [Gen.V]; after_reads_at
  rfl
theorem v24_at (l : Fin 128) : (show IVec S1x128 1 from V m c main_v24) (ix2 0 l) = if l.val % 64 < 32 then 1#1 else 0#1 := by
  show (show IVec S1x128 1 from Gen.V m c main_v24) (ix2 0 l) = _
  dsimp only [Gen.V]; after_reads_at
  revert l; decide +kernel
theorem v33_at (l : Fin 128) : (show IVec S1x128 1 from V m c main_v33) (ix2 0 l) = if l.val % 32 < 16 then 1#1 else 0#1 := by
  show (show IVec S1x128 1 from Gen.V m c main_v33) (ix2 0 l) = _
  dsimp only [Gen.V]; after_reads_at
  revert l; decide +kernel
theorem v66_at (l : Fin 128) : (show IVec S1x128 1 from V m c main_v66) (ix2 0 l) = if l.val % 64 < 32 then 1#1 else 0#1 := by
  show (show IVec S1x128 1 from Gen.V m c main_v66) (ix2 0 l) = _
  dsimp only [Gen.V]; after_reads_at
  revert l; decide +kernel

theorem v27_at (t : Fin 8192) (l : Fin 128) : (show IVec S8192x128 32 from V m c main_v27) (ix2 t l)
    = Scalar.select ((show IVec S1x128 1 from V m c main_v24) (ix2 0 l)) ((show IVec S8192x1 32 from V m c main_v25) (ix2 t 0)) ((show IVec S8192x1 32 from V m c main_v26) (ix2 t 0)) := by
  show (show IVec S8192x128 32 from Gen.V m c main_v27) (ix2 t l)
    = Scalar.select ((show IVec S1x128 1 from Gen.V m c main_v24) (ix2 0 l)) ((show IVec S8192x1 32 from Gen.V m c main_v25) (ix2 t 0)) ((show IVec S8192x1 32 from Gen.V m c main_v26) (ix2 t 0))
  dsimp only [Gen.V]; after_reads_at
theorem v30_at (t : Fin 8192) (l : Fin 128) : (show FVec Ideal S8192x128 .f32 from V m c main_v30) (ix2 t l)
    = (FloatOps.sitofp (F := Ideal) .f32 ((show IVec S8192x128 32 from V m c main_v27) (ix2 t l)) : EReal) * (show FVec Ideal S1x128 .f32 from V m c main_v22) (ix2 0 l) := by
  show (show FVec Ideal S8192x128 .f32 from Gen.V m c main_v30) (ix2 t l)
    = (FloatOps.sitofp (F := Ideal) .f32 ((show IVec S8192x128 32 from Gen.V m c main_v27) (ix2 t l)) : EReal) * (show FVec Ideal S1x128 .f32 from Gen.V m c main_v22) (ix2 0 l)
  dsimp only [Gen.V]; after_reads_at
theorem v64_at (t : Fin 8192) (l : Fin 128) : (show FVec Ideal S8192x128 .f32 from V m c main_v64) (ix2 t l)
    = (FloatOps.sitofp (F := Ideal) .f32 (BitVec.ofNat 32 t.val) : EReal) * (show FVec Ideal S1x128 .f32 from V m c main_v60) (ix2 0 l) := by
  show (show FVec Ideal S8192x128 .f32 from Gen.V m c main_v64) (ix2 t l)
    = (FloatOps.sitofp (F := Ideal) .f32 (BitVec.ofNat 32 t.val) : EReal) * (show FVec Ideal S1x128 .f32 from Gen.V m c main_v60) (ix2 0 l)
  dsimp only [Gen.V]; after_reads_at

set_option maxHeartbeats 2000000

/-- The rows of the two tables. -/
theorem v34_at (t : Fin 8192) (l : Fin 128) : (show FVec Ideal S8192x128 .f32 from V m c main_v34) (ix2 t l) = Ideal.cos ((show FVec Ideal S8192x128 .f32 from V m c main_v30) (ix2 t l)) := by
  show (show FVec Ideal S8192x128 .f32 from Gen.V m c main_v34) (ix2 t l) = Ideal.cos ((show FVec Ideal S8192x128 .f32 from Gen.V m c main_v30) (ix2 t l))
  dsimp only [Gen.V]; after_reads_at
theorem v36_at (t : Fin 8192) (l : Fin 128) : (show FVec Ideal S8192x128 .f32 from V m c main_v36) (ix2 t l) = Scalar.select ((show IVec S1x128 1 from V m c main_v33) (ix2 0 l)) ((show FVec Ideal S8192x128 .f32 from V m c main_call6_v2) (ix2 t l)) (Ideal.sin ((show FVec Ideal S8192x128 .f32 from V m c main_v30) (ix2 t l))) := by
  show (show FVec Ideal S8192x128 .f32 from Gen.V m c main_v36) (ix2 t l) = Scalar.select ((show IVec S1x128 1 from Gen.V m c main_v33) (ix2 0 l)) ((show FVec Ideal S8192x128 .f32 from Gen.V m c main_call6_v2) (ix2 t l)) (Ideal.sin ((show FVec Ideal S8192x128 .f32 from Gen.V m c main_v30) (ix2 t l)))
  dsimp only [Gen.V]; after_reads_at
theorem z36_at (t : Fin 8192) (l : Fin 128) : (show FVec Ideal S8192x128 .f32 from V m c main_call6_v2) (ix2 t l) = 0 := by
  show (show FVec Ideal S8192x128 .f32 from Gen.V m c main_call6_v2) (ix2 t l) = 0
  dsimp only [Gen.V]; after_reads_at
  show Ideal.ofBits .f32 0#32 = 0
  simp [Ideal.ofBits, Ideal.ieee]
theorem v38_at (t : Fin 8192) (l : Fin 128) : (show FVec Ideal S8192x128 .f32 from V m c main_v38) (ix2 t l) = Scalar.select ((show IVec S1x128 1 from V m c main_v33) (ix2 0 l)) (-(Ideal.sin ((show FVec Ideal S8192x128 .f32 from V m c main_v30) (ix2 t l)))) ((show FVec Ideal S8192x128 .f32 from V m c main_call7_v2) (ix2 t l)) := by
  show (show FVec Ideal S8192x128 .f32 from Gen.V m c main_v38) (ix2 t l) = Scalar.select ((show IVec S1x128 1 from Gen.V m c main_v33) (ix2 0 l)) (-(Ideal.sin ((show FVec Ideal S8192x128 .f32 from Gen.V m c main_v30) (ix2 t l)))) ((show FVec Ideal S8192x128 .f32 from Gen.V m c main_call7_v2) (ix2 t l))
  dsimp only [Gen.V]; after_reads_at
theorem z38_at (t : Fin 8192) (l : Fin 128) : (show FVec Ideal S8192x128 .f32 from V m c main_call7_v2) (ix2 t l) = 0 := by
  show (show FVec Ideal S8192x128 .f32 from Gen.V m c main_call7_v2) (ix2 t l) = 0
  dsimp only [Gen.V]; after_reads_at
  show Ideal.ofBits .f32 0#32 = 0
  simp [Ideal.ofBits, Ideal.ieee]
theorem v67_at (t : Fin 8192) (l : Fin 128) : (show FVec Ideal S8192x128 .f32 from V m c main_v67) (ix2 t l) = Ideal.cos ((show FVec Ideal S8192x128 .f32 from V m c main_v64) (ix2 t l)) := by
  show (show FVec Ideal S8192x128 .f32 from Gen.V m c main_v67) (ix2 t l) = Ideal.cos ((show FVec Ideal S8192x128 .f32 from Gen.V m c main_v64) (ix2 t l))
  dsimp only [Gen.V]; after_reads_at
theorem v69_at (t : Fin 8192) (l : Fin 128) : (show FVec Ideal S8192x128 .f32 from V m c main_v69) (ix2 t l) = Scalar.select ((show IVec S1x128 1 from V m c main_v66) (ix2 0 l)) ((show FVec Ideal S8192x128 .f32 from V m c main_call9_v2) (ix2 t l)) (Ideal.sin ((show FVec Ideal S8192x128 .f32 from V m c main_v64) (ix2 t l))) := by
  show (show FVec Ideal S8192x128 .f32 from Gen.V m c main_v69) (ix2 t l) = Scalar.select ((show IVec S1x128 1 from Gen.V m c main_v66) (ix2 0 l)) ((show FVec Ideal S8192x128 .f32 from Gen.V m c main_call9_v2) (ix2 t l)) (Ideal.sin ((show FVec Ideal S8192x128 .f32 from Gen.V m c main_v64) (ix2 t l)))
  dsimp only [Gen.V]; after_reads_at
theorem z69_at (t : Fin 8192) (l : Fin 128) : (show FVec Ideal S8192x128 .f32 from V m c main_call9_v2) (ix2 t l) = 0 := by
  show (show FVec Ideal S8192x128 .f32 from Gen.V m c main_call9_v2) (ix2 t l) = 0
  dsimp only [Gen.V]; after_reads_at
  show Ideal.ofBits .f32 0#32 = 0
  simp [Ideal.ofBits, Ideal.ieee]
theorem v71_at (t : Fin 8192) (l : Fin 128) : (show FVec Ideal S8192x128 .f32 from V m c main_v71) (ix2 t l) = Scalar.select ((show IVec S1x128 1 from V m c main_v66) (ix2 0 l)) (-(Ideal.sin ((show FVec Ideal S8192x128 .f32 from V m c main_v64) (ix2 t l)))) ((show FVec Ideal S8192x128 .f32 from V m c main_call10_v2) (ix2 t l)) := by
  show (show FVec Ideal S8192x128 .f32 from Gen.V m c main_v71) (ix2 t l) = Scalar.select ((show IVec S1x128 1 from Gen.V m c main_v66) (ix2 0 l)) (-(Ideal.sin ((show FVec Ideal S8192x128 .f32 from Gen.V m c main_v64) (ix2 t l)))) ((show FVec Ideal S8192x128 .f32 from Gen.V m c main_call10_v2) (ix2 t l))
  dsimp only [Gen.V]; after_reads_at
theorem z71_at (t : Fin 8192) (l : Fin 128) : (show FVec Ideal S8192x128 .f32 from V m c main_call10_v2) (ix2 t l) = 0 := by
  show (show FVec Ideal S8192x128 .f32 from Gen.V m c main_call10_v2) (ix2 t l) = 0
  dsimp only [Gen.V]; after_reads_at
  show Ideal.ofBits .f32 0#32 = 0
  simp [Ideal.ofBits, Ideal.ieee]
theorem v42_0 (t : Fin 8192) (l : Fin 128) : (show FVec Ideal S3x8192x128 .f32 from V m c main_v42) (ix3 0 t l) = (show FVec Ideal S8192x128 .f32 from V m c main_v34) (ix2 t l) := by
  show (show FVec Ideal S3x8192x128 .f32 from Gen.V m c main_v42) (ix3 0 t l) = (show FVec Ideal S8192x128 .f32 from Gen.V m c main_v34) (ix2 t l)
  dsimp only [Gen.V]; after_reads_at
  rw [StableHlo.unary_result]
  after_reads_at
theorem v42_1 (t : Fin 8192) (l : Fin 128) : (show FVec Ideal S3x8192x128 .f32 from V m c main_v42) (ix3 1 t l) = (show FVec Ideal S8192x128 .f32 from V m c main_v36) (ix2 t l) := by
  show (show FVec Ideal S3x8192x128 .f32 from Gen.V m c main_v42) (ix3 1 t l) = (show FVec Ideal S8192x128 .f32 from Gen.V m c main_v36) (ix2 t l)
  dsimp only [Gen.V]; after_reads_at
  rw [StableHlo.unary_result]
  after_reads_at
theorem v42_2 (t : Fin 8192) (l : Fin 128) : (show FVec Ideal S3x8192x128 .f32 from V m c main_v42) (ix3 2 t l) = (show FVec Ideal S8192x128 .f32 from V m c main_v38) (ix2 t l) := by
  show (show FVec Ideal S3x8192x128 .f32 from Gen.V m c main_v42) (ix3 2 t l) = (show FVec Ideal S8192x128 .f32 from Gen.V m c main_v38) (ix2 t l)
  dsimp only [Gen.V]; after_reads_at
  rw [StableHlo.unary_result]
  after_reads_at
theorem v75_0 (t : Fin 8192) (l : Fin 128) : (show FVec Ideal S3x8192x128 .f32 from V m c main_v75) (ix3 0 t l) = (show FVec Ideal S8192x128 .f32 from V m c main_v67) (ix2 t l) := by
  show (show FVec Ideal S3x8192x128 .f32 from Gen.V m c main_v75) (ix3 0 t l) = (show FVec Ideal S8192x128 .f32 from Gen.V m c main_v67) (ix2 t l)
  dsimp only [Gen.V]; after_reads_at
  rw [StableHlo.unary_result]
  after_reads_at
theorem v75_1 (t : Fin 8192) (l : Fin 128) : (show FVec Ideal S3x8192x128 .f32 from V m c main_v75) (ix3 1 t l) = (show FVec Ideal S8192x128 .f32 from V m c main_v69) (ix2 t l) := by
  show (show FVec Ideal S3x8192x128 .f32 from Gen.V m c main_v75) (ix3 1 t l) = (show FVec Ideal S8192x128 .f32 from Gen.V m c main_v69) (ix2 t l)
  dsimp only [Gen.V]; after_reads_at
  rw [StableHlo.unary_result]
  after_reads_at
theorem v75_2 (t : Fin 8192) (l : Fin 128) : (show FVec Ideal S3x8192x128 .f32 from V m c main_v75) (ix3 2 t l) = (show FVec Ideal S8192x128 .f32 from V m c main_v71) (ix2 t l) := by
  show (show FVec Ideal S3x8192x128 .f32 from Gen.V m c main_v75) (ix3 2 t l) = (show FVec Ideal S8192x128 .f32 from Gen.V m c main_v71) (ix2 t l)
  dsimp only [Gen.V]; after_reads_at
  rw [StableHlo.unary_result]
  after_reads_at

end Cert.QkKIdeal.Final

end
-- ==== Proof.QkLane.lean ====
/- The body's lanes, two heads of them in a row: its turns and its sums over a head are a head's own. -/
module

public import proofs.«01_k».proof.Proof.QkPoint
public import proofs.«01_k».proof.Proof.QkSpec

@[expose] public section

set_option maxRecDepth 16384

noncomputable section

open Idealize.ShloMosaic Idealize.ShloMosaic.TcCoe Idealize.SL.Sem

namespace Cert.QkKIdeal.Final

open Cert.QkKIdeal Cert.QkKIdeal.Gen Cert.Qk

/-- A head's lane among the 128. -/
abbrev hl (b : Fin 2) (j : Fin 64) : Fin 128 := hc b j

theorem rot_up16 (b : Fin 2) (j : Fin 64) (h : j.val % 32 < 16) : rot (128 - 16) (hl b j) = hl b (up 16 j) := by
  revert b j; decide +kernel
theorem rot_dn16 (b : Fin 2) (j : Fin 64) (h : ¬ j.val % 32 < 16) : rot 16 (hl b j) = hl b (dn 16 j) := by
  revert b j; decide +kernel
theorem rot_up32 (b : Fin 2) (j : Fin 64) (h : j.val % 64 < 32) : rot (128 - 32) (hl b j) = hl b (up 32 j) := by
  revert b j; decide +kernel
theorem rot_dn32 (b : Fin 2) (j : Fin 64) (h : ¬ j.val % 64 < 32) : rot 32 (hl b j) = hl b (dn 32 j) := by
  revert b j; decide +kernel
theorem off_up16 (b : Fin 2) (j : Fin 64) (h : ¬ j.val % 32 < 16) : (rot (128 - 16) (hl b j)).val % 32 < 16 := by
  revert b j; decide +kernel
theorem off_dn16 (b : Fin 2) (j : Fin 64) (h : j.val % 32 < 16) : ¬ (rot 16 (hl b j)).val % 32 < 16 := by
  revert b j; decide +kernel
theorem off_up32 (b : Fin 2) (j : Fin 64) (h : ¬ j.val % 64 < 32) : (rot (128 - 32) (hl b j)).val % 64 < 32 := by
  revert b j; decide +kernel
theorem off_dn32 (b : Fin 2) (j : Fin 64) (h : j.val % 64 < 32) : ¬ (rot 32 (hl b j)).val % 64 < 32 := by
  revert b j; decide +kernel
theorem on_up16 (b : Fin 2) (j : Fin 64) (h : j.val % 32 < 16) : ¬ (hl b (up 16 j)).val % 32 < 16 := by
  revert b j; decide +kernel
theorem on_dn16 (b : Fin 2) (j : Fin 64) (h : ¬ j.val % 32 < 16) : (hl b (dn 16 j)).val % 32 < 16 := by
  revert b j; decide +kernel
theorem on_up32 (b : Fin 2) (j : Fin 64) (h : j.val % 64 < 32) : ¬ (hl b (up 32 j)).val % 64 < 32 := by
  revert b j; decide +kernel
theorem on_dn32 (b : Fin 2) (j : Fin 64) (h : ¬ j.val % 64 < 32) : (hl b (dn 32 j)).val % 64 < 32 := by
  revert b j; decide +kernel

section Turn

variable (z : Fin 128 → EReal) (T : Fin 3 → Fin 128 → EReal) (cs sn : Fin 64 → EReal) (b : Fin 2) (j : Fin 64)

/-- A row turned back by the body, where its table holds a head's cosines and sines. -/
theorem RT16 (t0 : ∀ b j, T 0 (hl b j) = cs j) (t1 : ∀ l, T 1 l = if l.val % 32 < 16 then 0 else sn ⟨l.val % 64, Nat.mod_lt _ (by decide)⟩)
    (t2 : ∀ l, T 2 l = if l.val % 32 < 16 then -sn ⟨l.val % 64, Nat.mod_lt _ (by decide)⟩ else 0)
    (hu : ∀ j : Fin 64, j.val % 32 < 16 → sn (up 16 j) = sn j) (hd : ∀ j : Fin 64, ¬ j.val % 32 < 16 → sn (dn 16 j) = sn j) :
    RT z T 16 (hl b j) = RB 16 cs sn (fun j => z (hl b j)) j := by
  have hm : ∀ j, sn ⟨(hl b j).val % 64, Nat.mod_lt _ (by decide)⟩ = sn j := fun j => congrArg sn (Fin.ext (by
    show (b.val * 64 + j.val) % 64 = j.val
    have := j.isLt; omega))
  unfold RT RB
  rw [t0]
  by_cases h : j.val % 32 < 16
  · rw [if_pos h, rot_up16 b j h, t1, if_neg (on_up16 b j h), hm, hu j h, t2 (rot 16 _), if_neg (off_dn16 b j h), mul_zero, add_zero, add_comm]
  · rw [if_neg h, t1, if_pos (off_up16 b j h), mul_zero, add_zero, rot_dn16 b j h, t2, if_pos (on_dn16 b j h), hm, hd j h, mul_neg, neg_mul]
theorem RT32 (t0 : ∀ b j, T 0 (hl b j) = cs j) (t1 : ∀ l, T 1 l = if l.val % 64 < 32 then 0 else sn ⟨l.val % 64, Nat.mod_lt _ (by decide)⟩)
    (t2 : ∀ l, T 2 l = if l.val % 64 < 32 then -sn ⟨l.val % 64, Nat.mod_lt _ (by decide)⟩ else 0)
    (hu : ∀ j : Fin 64, j.val % 64 < 32 → sn (up 32 j) = sn j) (hd : ∀ j : Fin 64, ¬ j.val % 64 < 32 → sn (dn 32 j) = sn j) :
    RT z T 32 (hl b j) = RB 32 cs sn (fun j => z (hl b j)) j := by
  have hm : ∀ j, sn ⟨(hl b j).val % 64, Nat.mod_lt _ (by decide)⟩ = sn j := fun j => congrArg sn (Fin.ext (by
    show (b.val * 64 + j.val) % 64 = j.val
    have := j.isLt; omega))
  unfold RT RB
  rw [t0]
  by_cases h : j.val % 64 < 32
  · rw [if_pos h, rot_up32 b j h, t1, if_neg (on_up32 b j h), hm, hu j h, t2 (rot 32 _), if_neg (off_dn32 b j h), mul_zero, add_zero, add_comm]
  · rw [if_neg h, t1, if_pos (off_up32 b j h), mul_zero, add_zero, rot_dn32 b j h, t2, if_pos (on_dn32 b j h), hm, hd j h, mul_neg, neg_mul]

end Turn

/-- The mask's bits, as the body's integers give them. -/
def MB : IVec S128x128 32 :=
  extui 32 (cmpi .eq k0_pay5 (select (andi (cmpi .ne k0_pay7 k0_pay8) (cmpi .ne (remsi (iota Kind.tc S128x128 32 [1] iota_S128x128_d1_w32) (broadcast S128x128 64#32)) (broadcast S128x128 0#32)))
    (subi k0_pay6 (broadcast S128x128 1#32)) k0_pay6)) natLt_1_32
theorem MB_at (b b' : Fin 2) (j j' : Fin 64) : MB (ix2 (hl b j) (hl b' j')) = if b = b' then 1#32 else 0#32 := by
  unfold MB
  pointwise [k0_pay5, k0_pay6, k0_pay7, k0_pay8]
  revert b b' j j'
  decide +kernel
theorem M_at (b b' : Fin 2) (j j' : Fin 64) : M (ix2 (hl b j) (hl b' j')) = if b = b' then 1 else 0 := by
  have e : M (ix2 (hl b j) (hl b' j')) = (FloatOps.sitofp (F := Ideal) .f32 (MB (ix2 (hl b j) (hl b' j'))) : EReal) := rfl
  rw [e, MB_at]
  split_ifs
  · show (((1#32).toInt : ℝ) : EReal) = 1
    norm_num
  · show (((0#32).toInt : ℝ) : EReal) = 0
    norm_num

/-- The body's sum over a head's lanes, of a row of real numbers. -/
theorem SS_at (f : Fin 128 → EReal) (Fr : Fin 128 → ℝ) (hf : ∀ l, f l = (Fr l : EReal)) (b : Fin 2) (j : Fin 64) :
    SS f (hl b j) = ∑ k : Fin 64, f (hl b k) := by
  unfold SS
  have e0 : (∑ k : Fin 128, (f k - f k) * M (ix2 k (hl b j))) = 0 := Finset.sum_eq_zero fun k _ => by
    rw [hf, ← EReal.coe_sub, sub_self, EReal.coe_zero, zero_mul]
  rw [e0, add_zero]
  refine (Fin.sum_univ_tiles 2 64 rfl _).trans ?_
  have e1 : ∀ b' : Fin 2, (∑ k : Fin 64, f (hl b' k) * M (ix2 (hl b' k) (hl b j))) = if b' = b then ∑ k : Fin 64, f (hl b k) else 0 := fun b' => by
    simp only [M_at]
    split_ifs with h
    · subst h
      exact Finset.sum_congr rfl fun k _ => mul_one _
    · exact Finset.sum_eq_zero fun k _ => mul_zero _
  refine (Finset.sum_congr rfl fun b' _ => e1 b').trans ?_
  rw [Finset.sum_ite_eq' Finset.univ b, if_pos (Finset.mem_univ b)]

/-- A 64th, by a product or by a division. -/
theorem div_len (x : EReal) : Ideal.div x len = x * w64 := by
  have e : w64 = ((1 / 64 : ℝ) : EReal) := by
    simp [Ideal.ofBits, Ideal.ieee]
    rw [← EReal.coe_mul, EReal.coe_eq_coe_iff]
    norm_num
  rw [len_word, e]
  unfold Ideal.div
  rw [if_neg (by exact_mod_cast (by norm_num : (64 : ℝ) ≠ 0)), ← EReal.coe_inv]
  norm_num

/-- The head's norm, as the body has it. -/
theorem RS_at (x : Fin 128 → EReal) (X : Fin 128 → ℝ) (hx : ∀ l, x l = (X l : EReal)) (b : Fin 2) (j : Fin 64) :
    RS x (hl b j) = R (fun k => x (hl b k)) := by
  unfold RS R S
  rw [SS_at (fun k => x k * x k) (fun k => X k * X k) (fun l => by simp only [hx, EReal.coe_mul]), div_len]
theorem ZH_at (x : Fin 128 → EReal) (X : Fin 128 → ℝ) (hx : ∀ l, x l = (X l : EReal)) (b : Fin 2) (j : Fin 64) :
    ZH x (hl b j) = x (hl b j) * R (fun k => x (hl b k)) := by
  unfold ZH
  rw [RS_at x X hx]
theorem R_real (x : Fin 64 → EReal) (X : Fin 64 → ℝ) (hx : ∀ l, x l = (X l : EReal)) : ∃ r : ℝ, R x = (r : EReal) := by
  obtain ⟨s, hs, e⟩ := NormRow.mean_of 64 len x X (by norm_num) len_word hx
  have e' : S x = (s : EReal) := e
  unfold R
  rw [e', Rl.rsqrt_real s hs]
  exact ⟨_, rfl⟩
theorem NV_at (dz g x : Fin 128 → EReal) (D Gr X : Fin 128 → ℝ) (hd : ∀ l, dz l = (D l : EReal)) (hg : ∀ l, g l = (Gr l : EReal)) (hx : ∀ l, x l = (X l : EReal))
    (b : Fin 2) (j : Fin 64) :
    NV dz g x (hl b j) = G (fun k => dz (hl b k)) (fun k => g (hl b k)) (fun k => x (hl b k)) j := by
  have hz : ∀ l, ∃ r : ℝ, ZH x l = (r : EReal) := fun l => by
    obtain ⟨b, j, rfl⟩ : ∃ (b : Fin 2) (j : Fin 64), l = hl b j :=
      ⟨⟨l.val / 64, by have := l.isLt; omega⟩, ⟨l.val % 64, Nat.mod_lt _ (by decide)⟩, Fin.ext (by show l.val = l.val / 64 * 64 + l.val % 64; omega)⟩
    obtain ⟨r, hr⟩ := R_real (fun k => x (hl b k)) _ (fun k => hx (hl b k))
    rw [ZH_at x X hx, hr, hx, ← EReal.coe_mul]
    exact ⟨_, rfl⟩
  choose Z hZ using hz
  unfold NV G
  rw [SS_at (fun k => dz k * g k * ZH x k) (fun k => D k * Gr k * Z k) (fun l => by simp only [hd, hg, hZ, EReal.coe_mul]), RS_at x X hx, div_len]
  simp only [ZH_at x X hx]

end Cert.QkKIdeal.Final

end
-- ==== Proof.QkArr.lean ====
/- The arrays the kernel reads, as the arguments' own entries. -/
module

public import proofs.«01_k».proof.Proof.QkHost
public import proofs.«01_k».proof.Proof.QkLane

@[expose] public section

set_option maxRecDepth 16384

noncomputable section

open Idealize.ShloMosaic Idealize.ShloMosaic.TcCoe Idealize.SL.Sem
open Idealize.ShloMosaic.Pipeline (Dat)

namespace Cert.QkKIdeal.Final

open Cert.QkKIdeal Cert.QkKIdeal.Gen Cert.Qk

variable (m : (ℓ : Loc nD τ sig) → Buf (Elt Ideal) ℓ) (c : Dev nD)

/-- The eleven arguments. -/
abbrev A0 : FVec Ideal S8192x3584 .f32 := m ((c.tc : Thread nD τ).loc main_arg0)
abbrev A1 : FVec Ideal S64 .f32 := m ((c.tc : Thread nD τ).loc main_arg1)
abbrev A2 : FVec Ideal S64 .f32 := m ((c.tc : Thread nD τ).loc main_arg2)
abbrev A3 : FVec Ideal S8192x512 .f32 := m ((c.tc : Thread nD τ).loc main_arg3)
abbrev A4 : FVec Ideal S8192x128 .f32 := m ((c.tc : Thread nD τ).loc main_arg4)
abbrev A5 : FVec Ideal S8192x128 .f32 := m ((c.tc : Thread nD τ).loc main_arg5)
abbrev A6 : FVec Ideal S8192x512 .f32 := m ((c.tc : Thread nD τ).loc main_arg6)
abbrev A7 : FVec Ideal S8192x128 .f32 := m ((c.tc : Thread nD τ).loc main_arg7)
abbrev A8 : FVec Ideal S8192x128 .f32 := m ((c.tc : Thread nD τ).loc main_arg8)
abbrev A9 : FVec Ideal S8192x1024 .f32 := m ((c.tc : Thread nD τ).loc main_arg9)
abbrev A10 : FVec Ideal S8192x1024 .f32 := m ((c.tc : Thread nD τ).loc main_arg10)

/-- The words for eight and for an eighth, and the logarithm of the word for two. -/
abbrev w8 : EReal := Ideal.ofBits .f32 0x41000000#32
abbrev e8 : EReal := Ideal.ofBits .f32 0x3E000000#32
abbrev lg2 : EReal := Ideal.log (Ideal.ofBits .f32 0x40000000#32)

theorem back8 (x : EReal) : x * w8 * e8 = x := by
  have e1 : w8 = ((8 : ℝ) : EReal) := by
    simp [Ideal.ofBits, Ideal.ieee]
    rw [← EReal.coe_mul, EReal.coe_eq_coe_iff]
    norm_num
  have e2 : e8 = ((1 / 8 : ℝ) : EReal) := by
    simp [Ideal.ofBits, Ideal.ieee]
    rw [← EReal.coe_mul, EReal.coe_eq_coe_iff]
    norm_num
  rw [mul_assoc, e1, e2, ← EReal.coe_mul]
  norm_num
theorem back2 (x : EReal) : Ideal.div x lg2 * ln2 = x := by
  have e1 : lg2 = ((Real.log 2 : ℝ) : EReal) := by
    show Ideal.log (Ideal.ofBits .f32 0x40000000#32) = _
    rw [two_word, Rl.log_real _ (by norm_num)]
  have e2 : ln2 = ((Real.log 2 : ℝ) : EReal) := rfl
  have hn : Real.log 2 ≠ 0 := (Real.log_pos (by norm_num)).ne'
  rw [e1, e2]
  unfold Ideal.div
  rw [if_neg (by exact_mod_cast hn), ← EReal.coe_inv, mul_assoc, ← EReal.coe_mul, inv_mul_cancel₀ hn, EReal.coe_one, mul_one]

/-- A row of the whole arrays, from a half of a block of 512 and a place in the block. -/
def row5 (b : Fin 16) (i : Fin 512) : Fin 8192 := ⟨b.val * 512 + i.val, by have := b.isLt; have := i.isLt; omega⟩

/-! The arrays the kernel's region reads, from the arguments. -/

abbrev G0 : FVec Ideal S512x8192 .f32 := V m c main_v91
abbrev G1 : FVec Ideal S16x128x512 .f32 := V m c main_v95
abbrev G2 : FVec Ideal S16x128x512 .f32 := V m c main_v97
abbrev G3 : FVec Ideal S8192x512 .f32 := V m c main_v99
abbrev G4 : FVec Ideal S8192x128 .f32 := V m c main_v101
abbrev G5 : FVec Ideal S8192x128 .f32 := V m c main_arg8
abbrev G6 : FVec Ideal S8192x512 .bf16 := V m c main_v85
abbrev G7 : FVec Ideal S8192x128 .bf16 := V m c main_v87
abbrev G8 : FVec Ideal S1x128 .f32 := V m c main_v79
abbrev G9 : FVec Ideal S1x128 .f32 := V m c main_v83
abbrev G10 : FVec Ideal S3x8192x128 .f32 := V m c main_v42
abbrev G11 : FVec Ideal S3x8192x128 .f32 := V m c main_v75
abbrev G12 : FVec Ideal S8192x1024 .bf16 := V m c main_v102
abbrev G13 : FVec Ideal S8192x1024 .bf16 := V m c main_v103

theorem G0_at (k : Fin 512) (r : Fin 8192) : G0 m c (ix2 k r) = A3 m c (ix2 r k) * w8 := by
  show (show FVec Ideal S512x8192 .f32 from Gen.V m c main_v91) (ix2 k r) = _
  dsimp only [Gen.V]; after_reads_at
theorem G1_at (b : Fin 16) (k : Fin 128) (i : Fin 512) : G1 m c (ix3 b k i) = Ideal.div (A4 m c (ix2 (row5 b i) k)) lg2 := by
  show (show FVec Ideal S16x128x512 .f32 from Gen.V m c main_v95) (ix3 b k i) = _
  dsimp only [Gen.V]; after_reads_at
  rfl
theorem G2_at (b : Fin 16) (k : Fin 128) (i : Fin 512) : G2 m c (ix3 b k i) = A5 m c (ix2 (row5 b i) k) := by
  show (show FVec Ideal S16x128x512 .f32 from Gen.V m c main_v97) (ix3 b k i) = _
  dsimp only [Gen.V]; after_reads_at
  rfl
theorem G3_at (r : Fin 8192) (k : Fin 512) : G3 m c (ix2 r k) = A6 m c (ix2 r k) * w8 := by
  show (show FVec Ideal S8192x512 .f32 from Gen.V m c main_v99) (ix2 r k) = _
  dsimp only [Gen.V]; after_reads_at
theorem G4_at (r : Fin 8192) (k : Fin 128) : G4 m c (ix2 r k) = Ideal.div (A7 m c (ix2 r k)) lg2 := by
  show (show FVec Ideal S8192x128 .f32 from Gen.V m c main_v101) (ix2 r k) = _
  dsimp only [Gen.V]; after_reads_at
theorem G5_at (r : Fin 8192) (k : Fin 128) : G5 m c (ix2 r k) = A8 m c (ix2 r k) := by
  show (show FVec Ideal S8192x128 .f32 from Gen.V m c main_arg8) (ix2 r k) = _
  dsimp only [Gen.V]; after_reads_at
theorem G6_at (r : Fin 8192) (k : Fin 512) : G6 m c (ix2 r k) = A0 m c (ix2 r (cl 0 512 (by decide) k)) := by
  show (show FVec Ideal S8192x512 .bf16 from Gen.V m c main_v85) (ix2 r k) = _
  dsimp only [Gen.V]; after_reads_at
  exact congrArg (fun n => A0 m c (ix2 r n)) (Fin.ext (Nat.zero_add _).symm)
theorem G7_at (r : Fin 8192) (k : Fin 128) : G7 m c (ix2 r k) = A0 m c (ix2 r (cl 512 128 (by decide) k)) := by
  show (show FVec Ideal S8192x128 .bf16 from Gen.V m c main_v87) (ix2 r k) = _
  dsimp only [Gen.V]; after_reads_at
  rfl
theorem G8_at (k : Fin 128) : G8 m c (ix2 0 k) = A1 m c (ix1 ⟨k.val % 64, Nat.mod_lt _ (by decide)⟩) := by
  show (show FVec Ideal S1x128 .f32 from Gen.V m c main_v79) (ix2 0 k) = _
  dsimp only [Gen.V]; after_reads_at
theorem G9_at (k : Fin 128) : G9 m c (ix2 0 k) = A2 m c (ix1 ⟨k.val % 64, Nat.mod_lt _ (by decide)⟩) := by
  show (show FVec Ideal S1x128 .f32 from Gen.V m c main_v83) (ix2 0 k) = _
  dsimp only [Gen.V]; after_reads_at
theorem G12_at (r : Fin 8192) (k : Fin 1024) : G12 m c (ix2 r k) = A9 m c (ix2 r k) := by
  show (show FVec Ideal S8192x1024 .bf16 from Gen.V m c main_v102) (ix2 r k) = _
  dsimp only [Gen.V]; after_reads_at
theorem G13_at (r : Fin 8192) (k : Fin 1024) : G13 m c (ix2 r k) = A10 m c (ix2 r k) := by
  show (show FVec Ideal S8192x1024 .bf16 from Gen.V m c main_v103) (ix2 r k) = _
  dsimp only [Gen.V]; after_reads_at

/-! The two tables, at a place. -/

theorem v30_ang (t : Fin 8192) (l : Fin 128) : (show FVec Ideal S8192x128 .f32 from V m c main_v30) (ix2 t l) = angA t ⟨l.val % 64, Nat.mod_lt _ (by decide)⟩ := by
  rw [v30_at, v27_at, v24_at, v25_at, v26_at, v22_at]
  unfold angA
  have e : l16 l = ⟨l.val % 64 % 16, Nat.mod_lt _ (by decide)⟩ := Fin.ext (by show l.val % 16 = l.val % 64 % 16; omega)
  rw [e]
  by_cases h : l.val % 64 < 32
  · rw [if_pos h, if_pos h]; rfl
  · rw [if_neg h, if_neg h]; rfl
theorem v64_ang (t : Fin 8192) (l : Fin 128) : (show FVec Ideal S8192x128 .f32 from V m c main_v64) (ix2 t l) = angB t ⟨l.val % 64, Nat.mod_lt _ (by decide)⟩ := by
  rw [v64_at, v60_at]
  unfold angB
  have e : l32 l = ⟨l.val % 64 % 32, Nat.mod_lt _ (by decide)⟩ := Fin.ext (by show l.val % 32 = l.val % 64 % 32; omega)
  rw [e]

theorem lane_mod (b : Fin 2) (j : Fin 64) : (⟨(hl b j).val % 64, Nat.mod_lt _ (by decide)⟩ : Fin 64) = j :=
  Fin.ext (by show (b.val * 64 + j.val) % 64 = j.val; have := j.isLt; omega)

theorem tA0 (t : Fin 8192) (b : Fin 2) (j : Fin 64) : G10 m c (ix3 0 t (hl b j)) = ca t j := by
  refine Eq.trans (v42_0 m c t (hl b j)) ?_
  rw [v34_at, v30_ang, lane_mod]; rfl
theorem tA1 (t : Fin 8192) (l : Fin 128) : G10 m c (ix3 1 t l) = if l.val % 32 < 16 then 0 else sa t ⟨l.val % 64, Nat.mod_lt _ (by decide)⟩ := by
  refine Eq.trans (v42_1 m c t l) ?_
  rw [v36_at, z36_at, v33_at, v30_ang]
  by_cases h : l.val % 32 < 16
  · rw [if_pos h, if_pos h]; rfl
  · rw [if_neg h, if_neg h]; rfl
theorem tA2 (t : Fin 8192) (l : Fin 128) : G10 m c (ix3 2 t l) = if l.val % 32 < 16 then -sa t ⟨l.val % 64, Nat.mod_lt _ (by decide)⟩ else 0 := by
  refine Eq.trans (v42_2 m c t l) ?_
  rw [v38_at, z38_at, v33_at, v30_ang]
  by_cases h : l.val % 32 < 16
  · rw [if_pos h, if_pos h]; rfl
  · rw [if_neg h, if_neg h]; rfl
theorem tB0 (t : Fin 8192) (b : Fin 2) (j : Fin 64) : G11 m c (ix3 0 t (hl b j)) = cb t j := by
  refine Eq.trans (v75_0 m c t (hl b j)) ?_
  rw [v67_at, v64_ang, lane_mod]; rfl
theorem tB1 (t : Fin 8192) (l : Fin 128) : G11 m c (ix3 1 t l) = if l.val % 64 < 32 then 0 else sb t ⟨l.val % 64, Nat.mod_lt _ (by decide)⟩ := by
  refine Eq.trans (v75_1 m c t l) ?_
  rw [v69_at, z69_at, v66_at, v64_ang]
  by_cases h : l.val % 64 < 32
  · rw [if_pos h, if_pos h]; rfl
  · rw [if_neg h, if_neg h]; rfl
theorem tB2 (t : Fin 8192) (l : Fin 128) : G11 m c (ix3 2 t l) = if l.val % 64 < 32 then -sb t ⟨l.val % 64, Nat.mod_lt _ (by decide)⟩ else 0 := by
  refine Eq.trans (v75_2 m c t l) ?_
  rw [v71_at, z71_at, v66_at, v64_ang]
  by_cases h : l.val % 64 < 32
  · rw [if_pos h, if_pos h]; rfl
  · rw [if_neg h, if_neg h]; rfl

end Cert.QkKIdeal.Final

end
-- ==== Proof.QkBlk.lean ====
/- A point's blocks, as the arguments' own entries. -/
module

public import proofs.«01_k».proof.Proof.QkArr

@[expose] public section

set_option maxRecDepth 16384

noncomputable section

open Idealize.ShloMosaic Idealize.ShloMosaic.TcCoe Idealize.SL.Sem
open Idealize.ShloMosaic.Pipeline (Dat)

namespace Cert.QkKIdeal.Final

open Cert.QkKIdeal Cert.QkKIdeal.Gen Cert.Qk

variable (m : (ℓ : Loc nD τ sig) → Buf (Elt Ideal) ℓ) (c : Dev nD)

/-- Where the windows' blocks lie. -/
theorem idx : ∀ t : Fin cfg0.N, win0_0.index t = ![0, t.val] ∧ win0_1.index t = ![t.val / 2, 0, t.val % 2] ∧ win0_2.index t = ![t.val / 2, 0, t.val % 2]
    ∧ win0_3.index t = ![t.val, 0] ∧ win0_4.index t = ![t.val, 0] ∧ win0_5.index t = ![t.val, 0] ∧ win0_6.index t = ![t.val, 0] ∧ win0_7.index t = ![t.val, 0]
    ∧ win0_8.index t = ![0, 0] ∧ win0_9.index t = ![0, 0] ∧ win0_10.index t = ![0, t.val, 0] ∧ win0_11.index t = ![0, t.val, 0]
    ∧ win0_12.index t = ![t.val, 0] ∧ win0_13.index t = ![t.val, 0] ∧ win0_14.index t = ![t.val, 0] ∧ win0_15.index t = ![0, 0] :=
  (by decide +kernel : ∀ t : Fin grid0.N, _)

/-! A point's blocks. -/

theorem lt32 (t : Fin cfg0.N) : t.val < 32 := lt_of_lt_of_eq t.isLt N_0
def row (t : Fin cfg0.N) (i : Fin 256) : Fin 8192 := ⟨t.val * 256 + i.val, by have := lt32 t; have := i.isLt; omega⟩

variable (t : Fin cfg0.N)

abbrev X0 : FVec Ideal S512x256 .f32 := iblk m c 0 t
abbrev X1 : FVec Ideal S1x128x256 .f32 := iblk m c 1 t
abbrev X2 : FVec Ideal S1x128x256 .f32 := iblk m c 2 t
abbrev X3 : FVec Ideal S256x512 .f32 := iblk m c 3 t
abbrev X4 : FVec Ideal S256x128 .f32 := iblk m c 4 t
abbrev X5 : FVec Ideal S256x128 .f32 := iblk m c 5 t
abbrev X6 : FVec Ideal S256x512 .bf16 := iblk m c 6 t
abbrev X7 : FVec Ideal S256x128 .bf16 := iblk m c 7 t
abbrev X8 : FVec Ideal S1x128 .f32 := iblk m c 8 t
abbrev X9 : FVec Ideal S1x128 .f32 := iblk m c 9 t
abbrev X10 : FVec Ideal S3x256x128 .f32 := iblk m c 10 t
abbrev X11 : FVec Ideal S3x256x128 .f32 := iblk m c 11 t
abbrev X12 : FVec Ideal S256x1024 .bf16 := iblk m c 12 t
abbrev X13 : FVec Ideal S256x1024 .bf16 := iblk m c 13 t

theorem row_row5 (i : Fin 256) : row5 ⟨t.val / 2, by have := lt32 t; omega⟩ ⟨t.val % 2 * 256 + i.val, by have := i.isLt; omega⟩ = row t i :=
  Fin.ext (by show t.val / 2 * 512 + (t.val % 2 * 256 + i.val) = t.val * 256 + i.val; omega)

theorem X0_at (k : Fin 512) (i : Fin 256) : X0 m c t (ix2 k i) = A3 m c (ix2 (row t i) k) * w8 := by
  rw [← G0_at]; blk_ext [iblk, V, idx t, row]
theorem X1_at (k : Fin 128) (i : Fin 256) : X1 m c t (ix3 0 k i) = Ideal.div (A4 m c (ix2 (row t i) k)) lg2 := by
  rw [← row_row5, ← G1_at]; blk_ext [iblk, V, idx t]
theorem X2_at (k : Fin 128) (i : Fin 256) : X2 m c t (ix3 0 k i) = A5 m c (ix2 (row t i) k) := by
  rw [← row_row5, ← G2_at]; blk_ext [iblk, V, idx t]
theorem X3_at (i : Fin 256) (k : Fin 512) : X3 m c t (ix2 i k) = A6 m c (ix2 (row t i) k) * w8 := by
  rw [← G3_at]; blk_ext [iblk, V, idx t, row]
theorem X4_at (i : Fin 256) (k : Fin 128) : X4 m c t (ix2 i k) = Ideal.div (A7 m c (ix2 (row t i) k)) lg2 := by
  rw [← G4_at]; blk_ext [iblk, V, idx t, row]
theorem X5_at (i : Fin 256) (k : Fin 128) : X5 m c t (ix2 i k) = A8 m c (ix2 (row t i) k) := by
  rw [← G5_at]; blk_ext [iblk, V, idx t, row]
theorem X6_at (i : Fin 256) (k : Fin 512) : X6 m c t (ix2 i k) = A0 m c (ix2 (row t i) (cl 0 512 (by decide) k)) := by
  rw [← G6_at]; blk_ext [iblk, V, idx t, row]
theorem X7_at (i : Fin 256) (k : Fin 128) : X7 m c t (ix2 i k) = A0 m c (ix2 (row t i) (cl 512 128 (by decide) k)) := by
  rw [← G7_at]; blk_ext [iblk, V, idx t, row]
theorem X8_at (k : Fin 128) : X8 m c t (ix2 0 k) = A1 m c (ix1 ⟨k.val % 64, Nat.mod_lt _ (by decide)⟩) := by
  rw [← G8_at]; blk_ext [iblk, V, idx t]
theorem X9_at (k : Fin 128) : X9 m c t (ix2 0 k) = A2 m c (ix1 ⟨k.val % 64, Nat.mod_lt _ (by decide)⟩) := by
  rw [← G9_at]; blk_ext [iblk, V, idx t]
theorem X10_at (u : Fin 3) (i : Fin 256) (k : Fin 128) : X10 m c t (ix3 u i k) = G10 m c (ix3 u (row t i) k) := by
  blk_ext [iblk, V, idx t, row]
theorem X11_at (u : Fin 3) (i : Fin 256) (k : Fin 128) : X11 m c t (ix3 u i k) = G11 m c (ix3 u (row t i) k) := by
  blk_ext [iblk, V, idx t, row]
theorem X12_at (i : Fin 256) (k : Fin 1024) : X12 m c t (ix2 i k) = A9 m c (ix2 (row t i) k) := by
  rw [← G12_at]; blk_ext [iblk, V, idx t, row]
theorem X13_at (i : Fin 256) (k : Fin 1024) : X13 m c t (ix2 i k) = A10 m c (ix2 (row t i) k) := by
  rw [← G13_at]; blk_ext [iblk, V, idx t, row]

end Cert.QkKIdeal.Final

end
-- ==== Proof.QkFinal.lean ====
/- The kernel's two results: the projection's gradient, and the gains' gradients summed over the points. -/
module

public import proofs.«01_k».proof.Proof.QkBlk

@[expose] public section

set_option maxRecDepth 16384

noncomputable section

open Idealize.ShloMosaic Idealize.ShloMosaic.TcCoe Idealize.SL.Sem
open Idealize.ShloMosaic.Pipeline (Dat)

namespace Cert.QkKIdeal.Final

open Cert.QkKIdeal Cert.QkKIdeal.Gen Cert.Qk

variable (m : (ℓ : Loc nD τ sig) → Buf (Elt Ideal) ℓ) (c : Dev nD)

/-- The arguments by row and column. -/
abbrev a0 (r : Fin 8192) (n : Fin 3584) : EReal := A0 m c (ix2 r n)
abbrev a1 (k : Fin 64) : EReal := A1 m c (ix1 k)
abbrev a2 (k : Fin 64) : EReal := A2 m c (ix1 k)
abbrev a3 (r : Fin 8192) (n : Fin 512) : EReal := A3 m c (ix2 r n)
abbrev a4 (r : Fin 8192) (n : Fin 128) : EReal := A4 m c (ix2 r n)
abbrev a5 (r : Fin 8192) (n : Fin 128) : EReal := A5 m c (ix2 r n)
abbrev a6 (r : Fin 8192) (n : Fin 512) : EReal := A6 m c (ix2 r n)
abbrev a7 (r : Fin 8192) (n : Fin 128) : EReal := A7 m c (ix2 r n)
abbrev a8 (r : Fin 8192) (n : Fin 128) : EReal := A8 m c (ix2 r n)
abbrev a9 (r : Fin 8192) (n : Fin 1024) : EReal := A9 m c (ix2 r n)
abbrev a10 (r : Fin 8192) (n : Fin 1024) : EReal := A10 m c (ix2 r n)

/-- The arguments the norms' gradients read are real numbers. -/
structure Reals : Prop where
  x : ∀ r n, ∃ y : ℝ, a0 m c r n = (y : EReal)
  g : ∀ k, ∃ y : ℝ, a1 m c k = (y : EReal)
  g' : ∀ k, ∃ y : ℝ, a2 m c k = (y : EReal)
  q : ∀ r n, ∃ y : ℝ, a3 m c r n = (y : EReal)
  k : ∀ r n, ∃ y : ℝ, a4 m c r n = (y : EReal)

section Point

variable (t : Fin cfg0.N) (i : Fin 256)

theorem turnA (z : Fin 128 → EReal) (b : Fin 2) (j : Fin 64) :
    RT z (TB (X10 m c t) i) 16 (hl b j) = RB 16 (ca (row t i)) (sa (row t i)) (fun j => z (hl b j)) j :=
  RT16 z _ _ _ b j (fun b j => (X10_at m c t 0 i _).trans (tA0 m c _ b j)) (fun l => (X10_at m c t 1 i l).trans (tA1 m c _ l))
    (fun l => (X10_at m c t 2 i l).trans (tA2 m c _ l)) (sa_up _) (sa_dn _)
theorem turnB (z : Fin 128 → EReal) (b : Fin 2) (j : Fin 64) :
    RT z (TB (X11 m c t) i) 32 (hl b j) = RB 32 (cb (row t i)) (sb (row t i)) (fun j => z (hl b j)) j :=
  RT32 z _ _ _ b j (fun b j => (X11_at m c t 0 i _).trans (tB0 m c _ b j)) (fun l => (X11_at m c t 1 i l).trans (tB1 m c _ l))
    (fun l => (X11_at m c t 2 i l).trans (tB2 m c _ l)) (fun j _ => sb_up _ j) (fun j _ => sb_dn _ j)

/-- A pair's lane is a head's. -/
theorem hq_hl (p : Fin 4) (b : Fin 2) (j : Fin 64) : hq p (hl b j) = (hc (pr p b) j : Fin 512) :=
  Fin.ext (by show p.val * 128 + (b.val * 64 + j.val) = (p.val * 2 + b.val) * 64 + j.val; omega)

theorem dq_pt (p : Fin 4) (b : Fin 2) (j : Fin 64) : DQ (X0 m c t) (X10 m c t) p i (hl b j) = DZ (n := 8) (a3 m c) (row t i) (pr p b) j := by
  unfold DQ DZ
  refine (turnA m c t i _ b j).trans (congrArg (fun z => RB 16 _ _ z j) (funext fun k => ?_))
  refine (congrArg (· * _) (X0_at m c t _ i)).trans ((back8 _).trans ?_)
  rw [hq_hl]
theorem dk_pt (b : Fin 2) (j : Fin 64) : DK (X1 m c t) (X10 m c t) i (hl b j) = DZ (n := 2) (a4 m c) (row t i) b j := by
  unfold DK DZ
  refine (turnA m c t i _ b j).trans (congrArg (fun z => RB 16 _ _ z j) (funext fun k => ?_))
  exact (congrArg (· * _) (X1_at m c t _ i)).trans (back2 _)
theorem bq_pt (p : Fin 4) (b : Fin 2) (j : Fin 64) : RT (fun k => X3 m c t (ix2 i (hq p k)) * Ideal.ofBits .f32 0x3E000000#32) (TB (X11 m c t) i) 32 (hl b j)
    = DB (n := 8) (a6 m c) (row t i) (pr p b) j := by
  unfold DB
  refine (turnB m c t i _ b j).trans (congrArg (fun z => RB 32 _ _ z j) (funext fun k => ?_))
  refine (congrArg (· * _) (X3_at m c t i _)).trans ((back8 _).trans ?_)
  rw [hq_hl]
theorem bk_pt (b : Fin 2) (j : Fin 64) : RT (fun k => X4 m c t (ix2 i k) * ln2) (TB (X11 m c t) i) 32 (hl b j) = DB (n := 2) (a7 m c) (row t i) b j := by
  unfold DB
  refine (turnB m c t i _ b j).trans (congrArg (fun z => RB 32 _ _ z j) (funext fun k => ?_))
  exact (congrArg (· * _) (X4_at m c t i _)).trans (back2 _)

theorem xq_pt (p : Fin 4) (b : Fin 2) (j : Fin 64) : X6 m c t (ix2 i (hq p (hl b j))) = QX (a0 m c) (row t i) (pr p b) j := by
  unfold QX
  rw [X6_at, hq_hl]
theorem xk_pt (b : Fin 2) (j : Fin 64) : X7 m c t (ix2 i (hl b j)) = KX (a0 m c) (row t i) b j := X7_at m c t i _
theorem gq_pt (b : Fin 2) (j : Fin 64) : X8 m c t (ix2 0 (hl b j)) = a1 m c j := by rw [X8_at, lane_mod]
theorem gk_pt (b : Fin 2) (j : Fin 64) : X9 m c t (ix2 0 (hl b j)) = a2 m c j := by rw [X9_at, lane_mod]

variable {m c} (H : Reals m c)
include H

/-- The rows the norms' sums run over are real numbers. -/
theorem xq_real (p : Fin 4) (l : Fin 128) : ∃ y : ℝ, X6 m c t (ix2 i (hq p l)) = (y : EReal) :=
  (H.x (row t i) (cl 0 512 (by decide) (hq p l))).imp fun _ h => (X6_at m c t i _).trans h
theorem xk_real (l : Fin 128) : ∃ y : ℝ, X7 m c t (ix2 i l) = (y : EReal) :=
  (H.x (row t i) (cl 512 128 (by decide) l)).imp fun _ h => (X7_at m c t i l).trans h
theorem gq_real (l : Fin 128) : ∃ y : ℝ, X8 m c t (ix2 0 l) = (y : EReal) := (H.g _).imp fun _ h => (X8_at m c t l).trans h
theorem gk_real (l : Fin 128) : ∃ y : ℝ, X9 m c t (ix2 0 l) = (y : EReal) := (H.g' _).imp fun _ h => (X9_at m c t l).trans h
theorem dq_real (p : Fin 4) (l : Fin 128) : ∃ y : ℝ, DQ (X0 m c t) (X10 m c t) p i l = (y : EReal) := by
  choose Z hZ using H.q (row t i)
  refine lanes (fun l => ∃ y : ℝ, DQ (X0 m c t) (X10 m c t) p i l = (y : EReal)) (fun b j => ?_) l
  exact (RB_real 16 (row t i) _ (fun k => Z (hc (pr p b) k)) (fun k => hZ _) j).imp fun _ h => (dq_pt m c t i p b j).trans h
theorem dk_real (l : Fin 128) : ∃ y : ℝ, DK (X1 m c t) (X10 m c t) i l = (y : EReal) := by
  choose Z hZ using H.k (row t i)
  refine lanes (fun l => ∃ y : ℝ, DK (X1 m c t) (X10 m c t) i l = (y : EReal)) (fun b j => ?_) l
  exact (RB_real 16 (row t i) _ (fun k => Z (hc b k)) (fun k => hZ _) j).imp fun _ h => (dk_pt m c t i b j).trans h

theorem nq_pt (p : Fin 4) (b : Fin 2) (j : Fin 64) :
    NV (DQ (X0 m c t) (X10 m c t) p i) (fun k => X8 m c t (ix2 0 k)) (fun k => X6 m c t (ix2 i (hq p k))) (hl b j)
      = G (DZ (n := 8) (a3 m c) (row t i) (pr p b)) (a1 m c) (QX (a0 m c) (row t i) (pr p b)) j := by
  choose D hD using dq_real t i H p
  choose E hE using gq_real t H
  choose F hF using xq_real t i H p
  rw [NV_at _ _ _ D E F hD hE hF]
  simp only [dq_pt, gq_pt, xq_pt]
theorem nk_pt (b : Fin 2) (j : Fin 64) :
    NV (DK (X1 m c t) (X10 m c t) i) (fun k => X9 m c t (ix2 0 k)) (fun k => X7 m c t (ix2 i k)) (hl b j)
      = G (DZ (n := 2) (a4 m c) (row t i) b) (a2 m c) (KX (a0 m c) (row t i) b) j := by
  choose D hD using dk_real t i H
  choose E hE using gk_real t H
  choose F hF using xk_real t i H
  rw [NV_at _ _ _ D E F hD hE hF]
  simp only [dk_pt, gk_pt, xk_pt]
theorem zq_pt (p : Fin 4) (b : Fin 2) (j : Fin 64) : ZH (fun k => X6 m c t (ix2 i (hq p k))) (hl b j)
    = QX (a0 m c) (row t i) (pr p b) j * R (QX (a0 m c) (row t i) (pr p b)) := by
  choose F hF using xq_real t i H p
  rw [ZH_at _ F hF]
  simp only [xq_pt]
theorem zk_pt (b : Fin 2) (j : Fin 64) : ZH (fun k => X7 m c t (ix2 i k)) (hl b j) = KX (a0 m c) (row t i) b j * R (KX (a0 m c) (row t i) b) := by
  choose F hF using xk_real t i H
  rw [ZH_at _ F hF]
  simp only [xk_pt]

/-- A point's block of the projection's gradient. -/
theorem out14 (W : Fin 8192 → Fin 3584 → EReal)
    (hW : IsDP (a0 m c) (a1 m c) (a2 m c) (a3 m c) (a4 m c) (a5 m c) (a6 m c) (a7 m c) (a8 m c) (a9 m c) (a10 m c) W) (n : Fin 3584) :
    (outsAt0 m c t.val t.isLt).1 (ix2 i n) = W (row t i) n := by
  have E : ∀ n, (outsAt0 m c t.val t.isLt).1 (ix2 i n) = dpb (X0 m c t) (X1 m c t) (X2 m c t) (X3 m c t) (X4 m c t) (X5 m c t) (X6 m c t) (X7 m c t)
      (X8 m c t) (X9 m c t) (X10 m c t) (X11 m c t) (X12 m c t) (X13 m c t) (ix2 i n) := fun n => congrFun (o14 m c t) _
  refine cols (fun n => (outsAt0 m c t.val t.isLt).1 (ix2 i n) = W (row t i) n) ?_ ?_ ?_ ?_ ?_ ?_ ?_ ?_ n
  · intro h j
    have e : (cl 0 512 (by decide) (hc h j) : Fin 3584) = cl (h.val / 2 * 128) 128 (by have := h.isLt; omega) (hl ⟨h.val % 2, by omega⟩ j) :=
      Fin.ext (by show 0 + (h.val * 64 + j.val) = h.val / 2 * 128 + (h.val % 2 * 64 + j.val); omega)
    have e' : pr ⟨h.val / 2, by have := h.isLt; omega⟩ ⟨h.val % 2, by omega⟩ = h := Fin.ext (by show h.val / 2 * 2 + h.val % 2 = h.val; omega)
    rw [hW.q, e]
    refine (E _).trans ((dp_q _ _ _ _ _ _ _ _ _ _ _ _ _ _ ⟨h.val / 2, by have := h.isLt; omega⟩ _ rfl _ i _).trans ((nq_pt t i H _ _ j).trans ?_))
    rw [e']
  · intro b j
    rw [hW.k]
    exact (E _).trans ((dp_k _ _ _ _ _ _ _ _ _ _ _ _ _ _ i _).trans (nk_pt t i H b j))
  · intro l
    rw [hW.va]
    exact (E _).trans ((dp_va _ _ _ _ _ _ _ _ _ _ _ _ _ _ i l).trans (X2_at m c t l i))
  · intro h j
    have e : (cl 768 512 (by decide) (hc h j) : Fin 3584) = cl (768 + h.val / 2 * 128) 128 (by have := h.isLt; omega) (hl ⟨h.val % 2, by omega⟩ j) :=
      Fin.ext (by show 768 + (h.val * 64 + j.val) = 768 + h.val / 2 * 128 + (h.val % 2 * 64 + j.val); omega)
    have e' : pr ⟨h.val / 2, by have := h.isLt; omega⟩ ⟨h.val % 2, by omega⟩ = h := Fin.ext (by show h.val / 2 * 2 + h.val % 2 = h.val; omega)
    rw [hW.qb, e]
    refine (E _).trans ((dp_qb _ _ _ _ _ _ _ _ _ _ _ _ _ _ ⟨h.val / 2, by have := h.isLt; omega⟩ _ rfl _ i _).trans ((bq_pt m c t i _ _ j).trans ?_))
    rw [e']
  · intro b j
    rw [hW.kb]
    exact (E _).trans ((dp_kb _ _ _ _ _ _ _ _ _ _ _ _ _ _ i _).trans (bk_pt m c t i b j))
  · intro l
    rw [hW.vb]
    exact (E _).trans ((dp_vb _ _ _ _ _ _ _ _ _ _ _ _ _ _ i l).trans (X5_at m c t i l))
  · intro l
    rw [hW.ga]
    exact (E _).trans ((dp_ga _ _ _ _ _ _ _ _ _ _ _ _ _ _ i l).trans (X12_at m c t i l))
  · intro l
    rw [hW.gb]
    exact (E _).trans ((dp_gb _ _ _ _ _ _ _ _ _ _ _ _ _ _ i l).trans (X13_at m c t i l))

end Point

theorem final14 (H : Reals m c) (W : FVec Ideal S8192x3584 .bf16)
    (hW : IsDP (a0 m c) (a1 m c) (a2 m c) (a3 m c) (a4 m c) (a5 m c) (a6 m c) (a7 m c) (a8 m c) (a9 m c) (a10 m c) fun r n => W (ix2 r n)) :
    (show FVec Ideal S8192x3584 .bf16 from (dats m 0 c).arrAt 14 cfg0.N) = W := by
  refine (dats m 0 c).arrAt_eq_of_covers 14 W (by decide +kernel) fun t hf y => ?_
  rw [after0_14]
  simp only [cast_eq]
  have emb : ∀ (i : Fin 256) (j : Fin 3584), (win0_14.blk t).view.emb (ix2 i j) = (ix2 (row t i) j : S8192x3584.Idx) := fun i j => by
    blk_ext [idx t, row]
  have blk : ∀ y : S256x3584.Idx, (outsAt0 m c t.val t.isLt).1 y = W ((win0_14.blk t).view.emb y) := fun y => by
    idx_vars y
    rw [out14 t y0 H _ hW, emb]
  exact blk y

/-- All points' parts together. -/
theorem sum_rows (f : Fin 8192 → EReal) : ∑ t : Fin cfg0.N, ∑ i : Fin 256, f (row t i) = ∑ r : Fin 8192, f r :=
  (Fin.sum_univ_tiles 32 256 rfl f).symm

theorem sum_part (H : Reals m c) (W : Fin 8 → Fin 128 → EReal) (hW : IsDG (a0 m c) (a3 m c) (a4 m c) W) (u : Fin 8) (l : Fin 128) :
    ∑ t : Fin cfg0.N, part m c t (ix2 u l) = W u l := by
  refine lanes (fun l => ∑ t : Fin cfg0.N, part m c t (ix2 u l) = W u l) (fun b j => ?_) l
  unfold part inc
  by_cases h0 : u.val = 0
  · obtain rfl : u = 0 := Fin.ext h0
    refine (Finset.sum_congr rfl fun t _ => if_pos rfl).trans ?_
    rw [Finset.sum_comm, hW.q]
    refine Finset.sum_congr rfl fun p _ => ?_
    rw [← sum_rows]
    exact Finset.sum_congr rfl fun t _ => Finset.sum_congr rfl fun i _ => congrArg₂ (· * ·) (dq_pt m c t i p b j) (zq_pt t i H p b j)
  by_cases h1 : u.val = 1
  · obtain rfl : u = 1 := Fin.ext h1
    refine (Finset.sum_congr rfl fun t _ => (if_neg h0).trans (if_pos rfl)).trans ?_
    rw [hW.k, ← sum_rows]
    exact Finset.sum_congr rfl fun t _ => Finset.sum_congr rfl fun i _ => congrArg₂ (· * ·) (dk_pt m c t i b j) (zk_pt t i H b j)
  · rw [hW.z u _ (by omega)]
    exact Finset.sum_eq_zero fun t _ => (if_neg h0).trans (if_neg h1)

/-- The last point. -/
def tl : Fin cfg0.N := ⟨31, lt_of_lt_of_eq (by decide) N_0.symm⟩

theorem final15 (H : Reals m c) (W : FVec Ideal S8x128 .f32) (hW : IsDG (a0 m c) (a3 m c) (a4 m c) fun u l => W (ix2 u l)) :
    (show FVec Ideal S8x128 .f32 from (dats m 0 c).arrAt 15 cfg0.N) = W := by
  refine (dats m 0 c).arrAt_eq_of_after_last 15 tl (by decide +kernel) W fun y => ?_
  rw [after0_15, Pipeline.eq_sum_fin_of_reset_step_apply_last (fun n h => (outsAt0 m c n h).2) 32 (fun _ => 0) (part m c) (oA15 m c) (oB15 m c) (le_of_eq N_0) tl rfl, zero_add]
  simp only [cast_eq]
  idx_vars y
  exact sum_part m c H _ hW y0 y1

end Cert.QkKIdeal.Final

end
-- ==== Proof.QkRefTurn.lean ====
/- The turns undone, read from the reference at an index. -/
module

public import proofs.«01_k».proof.Proof.Gen.QkRIdeal.Run
public import proofs.«01_k».proof.Proof.Gen.QkRIdeal.Read
public import proofs.«01_k».proof.Proof.QkSpec

@[expose] public section

set_option maxRecDepth 16384

noncomputable section

open Idealize.ShloMosaic Idealize.ShloMosaic.TcCoe Idealize.SL.Sem

namespace Cert.QkRIdeal.Final

open Cert.QkRIdeal Cert.QkRIdeal.Gen Cert.QkRIdeal.Read Cert.Qk

abbrev k16 (j : Fin 64) : Fin 16 := ⟨j.val % 16, Nat.mod_lt _ (by decide)⟩
abbrev k32 (j : Fin 64) : Fin 32 := ⟨j.val % 32, Nat.mod_lt _ (by decide)⟩

theorem v32 (k : Fin 32) : val_main_v32 (F := Ideal) (ix1 k) = inv32 k := by
  unfold inv32
  pointwise [val_main_v32, val_main_v31, val_main_cst_3, val_main_v30, val_main_v29, val_main_cst_2, val_main_v28, val_main_v27, val_main_v26, val_main_cst_1, val_main_v25, val_main_v24, val_main_cst, val_main_v23]
theorem v67 (k : Fin 16) : val_main_v67 (F := Ideal) (ix1 k) = inv16 k := by
  unfold inv16
  pointwise [val_main_v67, val_main_v66, val_main_cst_11, val_main_v65, val_main_v64, val_main_cst_10, val_main_v63, val_main_v62, val_main_v61, val_main_cst_9, val_main_v60, val_main_v59, val_main_cst_8, val_main_v58]

theorem v21 (t : Fin 8192) : val_main_v21 (F := Ideal) (ix1 t) = fd (BitVec.ofNat 32 t.val) := rfl
theorem v22 (t : Fin 8192) : val_main_v22 (F := Ideal) (ix1 t) = rm (BitVec.ofNat 32 t.val) := rfl

theorem v38 (t : Fin 8192) (j : Fin 64) : val_main_v38 (F := Ideal) (ix2 t (k32 j)) = angB t j := by
  refine Eq.trans ?_ (congrArg ((FloatOps.sitofp (F := Ideal) .f32 (BitVec.ofNat 32 t.val) : EReal) * ·) (v32 (k32 j)))
  generalize hh : val_main_v32 (F := Ideal) = y
  pointwise [val_main_v38, val_main_v37, val_main_v36, val_main_v35, val_main_v34, val_main_v33, val_main_v20, hh]

theorem v73 (t : Fin 8192) (j : Fin 64) (h : j.val < 32) : val_main_v73 (F := Ideal) (ix2 t (k16 j)) = angA t j := by
  refine Eq.trans (b := (FloatOps.sitofp (F := Ideal) .f32 (val_main_v21 (F := Ideal) (ix1 t)) : EReal) * val_main_v67 (F := Ideal) (ix1 (k16 j))) ?_ ?_
  · generalize hh : val_main_v67 (F := Ideal) = y
    generalize hg : val_main_v21 (F := Ideal) = z
    pointwise [val_main_v73, val_main_v72, val_main_v71, val_main_v70, val_main_v69, val_main_v68, hh, hg]
  · unfold angA
    rw [v67, v21, if_pos h]

/-- A lane's two terms are its turned row, in either half. -/
theorem lo_of {N s : ℕ} {cs sn z : Fin 64 → EReal} {c d : Fin N → EReal} {j a b : Fin 64} {k : Fin N} (l : Fin N) (h : j.val % (2 * s) < s) (hc : cs j = c l) (hd : sn j = d l)
    (ha : a.val = (j.val + s) % 64) (hb : b.val = j.val) (hl : k.val = l.val) : z a * d k + z b * c k = RB s cs sn z j := by
  obtain rfl : a = up s j := Fin.ext ha
  obtain rfl : b = j := Fin.ext hb
  obtain rfl : k = l := Fin.ext hl
  rw [← hc, ← hd]
  exact (if_pos h).symm
theorem hi_of {N s : ℕ} {cs sn z : Fin 64 → EReal} {c d : Fin N → EReal} {j a b : Fin 64} {k : Fin N} (l : Fin N) (h : ¬ j.val % (2 * s) < s) (hc : cs j = c l) (hd : sn j = d l)
    (ha : a.val = (j.val + 64 - s) % 64) (hb : b.val = j.val) (hl : k.val = l.val) : z b * c k + -z a * d k = RB s cs sn z j := by
  obtain rfl : a = dn s j := Fin.ext ha
  obtain rfl : b = j := Fin.ext hb
  obtain rfl : k = l := Fin.ext hl
  rw [← hc, ← hd]
  exact (if_neg h).symm

theorem v260 (x7 : FVec Ideal S8192x128 .f32) (r : Fin 8192) (h : Fin 2) (j : Fin 64) : val_main_v260 (F := Ideal) x7 (ix4 0 r h j)
    = RB 32 (fun j => val_main_v39 (F := Ideal) (ix2 r (k32 j))) (fun j => val_main_v40 (F := Ideal) (ix2 r (k32 j))) (fun j => val_main_v11 (F := Ideal) x7 (ix4 0 r h j)) j := by
  generalize hh : val_main_v39 (F := Ideal) = c
  generalize hg : val_main_v40 (F := Ideal) = s
  generalize hz : val_main_v11 (F := Ideal) x7 = z
  pointwise [val_main_v260, val_main_v259, val_main_v258, val_main_v257, val_main_v256, val_main_v255, val_main_v254, val_main_v253, val_main_v252, val_main_v251, val_main_v250, val_main_v249, val_main_v248, val_main_v247, val_main_v246, val_main_v245, val_main_cst_28, val_main_cst_29, val_main_v232, val_main_v233, hh, hg, hz]
  have hj := j.isLt
  by_cases h0 : j.val < 32
  · rw [dif_neg (by omega), dif_pos h0, zero_add]
    exact lo_of (z := fun k => z (ix4 0 r h k)) (c := fun k => c (ix2 r k)) (d := fun k => s (ix2 r k)) (k32 j) (by omega) rfl rfl (by dsimp only; omega) (by dsimp only; try omega) (by dsimp only; omega)
  · rw [dif_pos (by omega), dif_neg h0, add_zero]
    exact hi_of (z := fun k => z (ix4 0 r h k)) (c := fun k => c (ix2 r k)) (d := fun k => s (ix2 r k)) (k32 j) (by omega) rfl rfl (by dsimp only; omega) (by dsimp only; try omega) (by dsimp only; omega)
theorem v277 (x6 : FVec Ideal S8192x512 .f32) (r : Fin 8192) (h : Fin 8) (j : Fin 64) : val_main_v277 (F := Ideal) x6 (ix4 0 r h j)
    = RB 32 (fun j => val_main_v39 (F := Ideal) (ix2 r (k32 j))) (fun j => val_main_v40 (F := Ideal) (ix2 r (k32 j))) (fun j => val_main_v10 (F := Ideal) x6 (ix4 0 r h j)) j := by
  generalize hh : val_main_v39 (F := Ideal) = c
  generalize hg : val_main_v40 (F := Ideal) = s
  generalize hz : val_main_v10 (F := Ideal) x6 = z
  pointwise [val_main_v277, val_main_v276, val_main_v275, val_main_v274, val_main_v273, val_main_v272, val_main_v271, val_main_v270, val_main_v269, val_main_v268, val_main_v267, val_main_v266, val_main_v265, val_main_v264, val_main_v263, val_main_v262, val_main_cst_30, val_main_cst_31, val_main_v216, val_main_v217, hh, hg, hz]
  have hj := j.isLt
  by_cases h0 : j.val < 32
  · rw [dif_neg (by omega), dif_pos h0, zero_add]
    exact lo_of (z := fun k => z (ix4 0 r h k)) (c := fun k => c (ix2 r k)) (d := fun k => s (ix2 r k)) (k32 j) (by omega) rfl rfl (by dsimp only; omega) (by dsimp only; try omega) (by dsimp only; omega)
  · rw [dif_pos (by omega), dif_neg h0, add_zero]
    exact hi_of (z := fun k => z (ix4 0 r h k)) (c := fun k => c (ix2 r k)) (d := fun k => s (ix2 r k)) (k32 j) (by omega) rfl rfl (by dsimp only; omega) (by dsimp only; try omega) (by dsimp only; omega)
theorem v296 (x4 : FVec Ideal S8192x128 .f32) (r : Fin 8192) (h : Fin 2) (j : Fin 64) (h32 : ¬ j.val < 32) : val_main_v296 (F := Ideal) x4 (ix4 0 r h ⟨j.val - 32, by omega⟩)
    = RB 16 (fun j => if j.val < 32 then val_main_v160 (F := Ideal) (ix2 r (k16 j)) else val_main_v178 (F := Ideal) (ix2 r (k16 j)))
        (fun j => if j.val < 32 then val_main_v161 (F := Ideal) (ix2 r (k16 j)) else val_main_v179 (F := Ideal) (ix2 r (k16 j))) (fun j => val_main_v9 (F := Ideal) x4 (ix4 0 r h j)) j := by
  generalize val_main_v160 (F := Ideal) = c'
  generalize val_main_v161 (F := Ideal) = s'
  generalize hc : val_main_v178 (F := Ideal) = c
  generalize hs : val_main_v179 (F := Ideal) = s
  generalize hz : val_main_v9 (F := Ideal) x4 = z
  pointwise [val_main_v296, val_main_v295, val_main_v294, val_main_v293, val_main_v292, val_main_v291, val_main_v290, val_main_v289, val_main_v288, val_main_v287, val_main_v286, val_main_v285, val_main_v284, val_main_v283, val_main_v282, val_main_v281, val_main_v199, val_main_v200, val_main_cst_32, val_main_cst_33, val_main_v280, hc, hs, hz]
  have hj := j.isLt
  by_cases h0 : j.val < 48
  · rw [dif_neg (by omega), dif_pos (by omega), zero_add]
    exact lo_of (z := fun k => z (ix4 0 r h k)) (c := fun k => c (ix2 r k)) (d := fun k => s (ix2 r k)) (k16 j) (by omega) (if_neg h32) (if_neg h32) (by dsimp only; omega) (by dsimp only; try omega) (by dsimp only; omega)
  · rw [dif_pos (by omega), dif_neg (by omega), add_zero]
    exact hi_of (z := fun k => z (ix4 0 r h k)) (c := fun k => c (ix2 r k)) (d := fun k => s (ix2 r k)) (k16 j) (by omega) (if_neg h32) (if_neg h32) (by dsimp only; omega) (by dsimp only; try omega) (by dsimp only; omega)
theorem v313 (x4 : FVec Ideal S8192x128 .f32) (r : Fin 8192) (h : Fin 2) (j : Fin 64) (h32 : j.val < 32) : val_main_v313 (F := Ideal) x4 (ix4 0 r h ⟨j.val, by omega⟩)
    = RB 16 (fun j => if j.val < 32 then val_main_v160 (F := Ideal) (ix2 r (k16 j)) else val_main_v178 (F := Ideal) (ix2 r (k16 j)))
        (fun j => if j.val < 32 then val_main_v161 (F := Ideal) (ix2 r (k16 j)) else val_main_v179 (F := Ideal) (ix2 r (k16 j))) (fun j => val_main_v9 (F := Ideal) x4 (ix4 0 r h j)) j := by
  generalize val_main_v178 (F := Ideal) = c'
  generalize val_main_v179 (F := Ideal) = s'
  generalize hc : val_main_v160 (F := Ideal) = c
  generalize hs : val_main_v161 (F := Ideal) = s
  generalize hz : val_main_v9 (F := Ideal) x4 = z
  pointwise [val_main_v313, val_main_v312, val_main_v311, val_main_v310, val_main_v309, val_main_v308, val_main_v307, val_main_v306, val_main_v305, val_main_v304, val_main_v303, val_main_v302, val_main_v301, val_main_v300, val_main_v299, val_main_v298, val_main_v183, val_main_v184, val_main_cst_35, val_main_cst_36, val_main_v279, hc, hs, hz]
  have hj := j.isLt
  by_cases h0 : j.val < 16
  · rw [dif_neg (by omega), dif_pos (by omega), zero_add]
    exact lo_of (z := fun k => z (ix4 0 r h k)) (c := fun k => c (ix2 r k)) (d := fun k => s (ix2 r k)) (k16 j) (by omega) (if_pos h32) (if_pos h32) (by dsimp only; omega) (by dsimp only; try omega) (by dsimp only; omega)
  · rw [dif_pos (by omega), dif_neg (by omega), add_zero]
    exact hi_of (z := fun k => z (ix4 0 r h k)) (c := fun k => c (ix2 r k)) (d := fun k => s (ix2 r k)) (k16 j) (by omega) (if_pos h32) (if_pos h32) (by dsimp only; omega) (by dsimp only; try omega) (by dsimp only; omega)
theorem v315 (x4 : FVec Ideal S8192x128 .f32) (r : Fin 8192) (h : Fin 2) (j : Fin 64) : val_main_v315 (F := Ideal) x4 (ix4 0 r h j)
    = RB 16 (fun j => if j.val < 32 then val_main_v160 (F := Ideal) (ix2 r (k16 j)) else val_main_v178 (F := Ideal) (ix2 r (k16 j)))
        (fun j => if j.val < 32 then val_main_v161 (F := Ideal) (ix2 r (k16 j)) else val_main_v179 (F := Ideal) (ix2 r (k16 j))) (fun j => val_main_v9 (F := Ideal) x4 (ix4 0 r h j)) j := by
  by_cases h32 : j.val < 32
  · rw [← v313 x4 r h j h32]
    generalize hy : val_main_v296 (F := Ideal) x4 = y
    generalize hz : val_main_v313 (F := Ideal) x4 = z
    pointwise [val_main_v315, val_main_v314, val_main_v297, val_main_cst_34, val_main_cst_37, hy, hz]
    rw [dif_neg (by omega), dif_pos h32, zero_add]
  · rw [← v296 x4 r h j h32]
    generalize hy : val_main_v296 (F := Ideal) x4 = y
    generalize hz : val_main_v313 (F := Ideal) x4 = z
    pointwise [val_main_v315, val_main_v314, val_main_v297, val_main_cst_34, val_main_cst_37, hy, hz]
    rw [dif_pos (by omega), dif_neg h32, add_zero]
theorem v355 (x3 : FVec Ideal S8192x512 .f32) (r : Fin 8192) (h : Fin 8) (j : Fin 64) (h32 : ¬ j.val < 32) : val_main_v355 (F := Ideal) x3 (ix4 0 r h ⟨j.val - 32, by omega⟩)
    = RB 16 (fun j => if j.val < 32 then val_main_v74 (F := Ideal) (ix2 r (k16 j)) else val_main_v92 (F := Ideal) (ix2 r (k16 j)))
        (fun j => if j.val < 32 then val_main_v75 (F := Ideal) (ix2 r (k16 j)) else val_main_v93 (F := Ideal) (ix2 r (k16 j))) (fun j => val_main_v8 (F := Ideal) x3 (ix4 0 r h j)) j := by
  generalize val_main_v74 (F := Ideal) = c'
  generalize val_main_v75 (F := Ideal) = s'
  generalize hc : val_main_v92 (F := Ideal) = c
  generalize hs : val_main_v93 (F := Ideal) = s
  generalize hz : val_main_v8 (F := Ideal) x3 = z
  pointwise [val_main_v355, val_main_v354, val_main_v353, val_main_v352, val_main_v351, val_main_v350, val_main_v349, val_main_v348, val_main_v347, val_main_v346, val_main_v345, val_main_v344, val_main_v343, val_main_v342, val_main_v341, val_main_v340, val_main_v113, val_main_v114, val_main_cst_43, val_main_cst_44, val_main_v339, hc, hs, hz]
  have hj := j.isLt
  by_cases h0 : j.val < 48
  · rw [dif_neg (by omega), dif_pos (by omega), zero_add]
    exact lo_of (z := fun k => z (ix4 0 r h k)) (c := fun k => c (ix2 r k)) (d := fun k => s (ix2 r k)) (k16 j) (by omega) (if_neg h32) (if_neg h32) (by dsimp only; omega) (by dsimp only; try omega) (by dsimp only; omega)
  · rw [dif_pos (by omega), dif_neg (by omega), add_zero]
    exact hi_of (z := fun k => z (ix4 0 r h k)) (c := fun k => c (ix2 r k)) (d := fun k => s (ix2 r k)) (k16 j) (by omega) (if_neg h32) (if_neg h32) (by dsimp only; omega) (by dsimp only; try omega) (by dsimp only; omega)
theorem v372 (x3 : FVec Ideal S8192x512 .f32) (r : Fin 8192) (h : Fin 8) (j : Fin 64) (h32 : j.val < 32) : val_main_v372 (F := Ideal) x3 (ix4 0 r h ⟨j.val, by omega⟩)
    = RB 16 (fun j => if j.val < 32 then val_main_v74 (F := Ideal) (ix2 r (k16 j)) else val_main_v92 (F := Ideal) (ix2 r (k16 j)))
        (fun j => if j.val < 32 then val_main_v75 (F := Ideal) (ix2 r (k16 j)) else val_main_v93 (F := Ideal) (ix2 r (k16 j))) (fun j => val_main_v8 (F := Ideal) x3 (ix4 0 r h j)) j := by
  generalize val_main_v92 (F := Ideal) = c'
  generalize val_main_v93 (F := Ideal) = s'
  generalize hc : val_main_v74 (F := Ideal) = c
  generalize hs : val_main_v75 (F := Ideal) = s
  generalize hz : val_main_v8 (F := Ideal) x3 = z
  pointwise [val_main_v372, val_main_v371, val_main_v370, val_main_v369, val_main_v368, val_main_v367, val_main_v366, val_main_v365, val_main_v364, val_main_v363, val_main_v362, val_main_v361, val_main_v360, val_main_v359, val_main_v358, val_main_v357, val_main_v97, val_main_v98, val_main_cst_46, val_main_cst_47, val_main_v338, hc, hs, hz]
  have hj := j.isLt
  by_cases h0 : j.val < 16
  · rw [dif_neg (by omega), dif_pos (by omega), zero_add]
    exact lo_of (z := fun k => z (ix4 0 r h k)) (c := fun k => c (ix2 r k)) (d := fun k => s (ix2 r k)) (k16 j) (by omega) (if_pos h32) (if_pos h32) (by dsimp only; omega) (by dsimp only; try omega) (by dsimp only; omega)
  · rw [dif_pos (by omega), dif_neg (by omega), add_zero]
    exact hi_of (z := fun k => z (ix4 0 r h k)) (c := fun k => c (ix2 r k)) (d := fun k => s (ix2 r k)) (k16 j) (by omega) (if_pos h32) (if_pos h32) (by dsimp only; omega) (by dsimp only; try omega) (by dsimp only; omega)
theorem v374 (x3 : FVec Ideal S8192x512 .f32) (r : Fin 8192) (h : Fin 8) (j : Fin 64) : val_main_v374 (F := Ideal) x3 (ix4 0 r h j)
    = RB 16 (fun j => if j.val < 32 then val_main_v74 (F := Ideal) (ix2 r (k16 j)) else val_main_v92 (F := Ideal) (ix2 r (k16 j)))
        (fun j => if j.val < 32 then val_main_v75 (F := Ideal) (ix2 r (k16 j)) else val_main_v93 (F := Ideal) (ix2 r (k16 j))) (fun j => val_main_v8 (F := Ideal) x3 (ix4 0 r h j)) j := by
  by_cases h32 : j.val < 32
  · rw [← v372 x3 r h j h32]
    generalize hy : val_main_v355 (F := Ideal) x3 = y
    generalize hz : val_main_v372 (F := Ideal) x3 = z
    pointwise [val_main_v374, val_main_v373, val_main_v356, val_main_cst_45, val_main_cst_48, hy, hz]
    rw [dif_neg (by omega), dif_pos h32, zero_add]
  · rw [← v355 x3 r h j h32]
    generalize hy : val_main_v355 (F := Ideal) x3 = y
    generalize hz : val_main_v372 (F := Ideal) x3 = z
    pointwise [val_main_v374, val_main_v373, val_main_v356, val_main_cst_45, val_main_cst_48, hy, hz]
    rw [dif_pos (by omega), dif_neg h32, add_zero]

/-- The tables of the axial turn, the same for the queries' and the keys' lines. -/
theorem v91 (t : Fin 8192) (j : Fin 64) (h : ¬ j.val < 32) : val_main_v91 (F := Ideal) (ix2 t (k16 j)) = angA t j := by
  refine Eq.trans (b := (FloatOps.sitofp (F := Ideal) .f32 (val_main_v22 (F := Ideal) (ix1 t)) : EReal) * val_main_v67 (F := Ideal) (ix1 (k16 j))) ?_ ?_
  · rw [show val_main_v67 (F := Ideal) = val_main_v85 (F := Ideal) from rfl]
    generalize hh : val_main_v85 (F := Ideal) = y
    generalize hg : val_main_v22 (F := Ideal) = z
    pointwise [val_main_v91, val_main_v90, val_main_v89, val_main_v88, val_main_v87, val_main_v86, hh, hg]
  · unfold angA
    rw [v67, v22, if_neg h]
theorem cos_tab (t : Fin 8192) : (fun j : Fin 64 => if j.val < 32 then val_main_v74 (F := Ideal) (ix2 t (k16 j)) else val_main_v92 (F := Ideal) (ix2 t (k16 j))) = ca t := by
  funext j
  by_cases h : j.val < 32
  · exact (if_pos h).trans (congrArg Ideal.cos (v73 t j h))
  · exact (if_neg h).trans (congrArg Ideal.cos (v91 t j h))
theorem sin_tab (t : Fin 8192) : (fun j : Fin 64 => if j.val < 32 then val_main_v75 (F := Ideal) (ix2 t (k16 j)) else val_main_v93 (F := Ideal) (ix2 t (k16 j))) = sa t := by
  funext j
  by_cases h : j.val < 32
  · exact (if_pos h).trans (congrArg Ideal.sin (v73 t j h))
  · exact (if_neg h).trans (congrArg Ideal.sin (v91 t j h))
theorem cos_tab' (t : Fin 8192) : (fun j : Fin 64 => if j.val < 32 then val_main_v160 (F := Ideal) (ix2 t (k16 j)) else val_main_v178 (F := Ideal) (ix2 t (k16 j))) = ca t := by
  rw [show val_main_v160 (F := Ideal) = val_main_v74 (F := Ideal) from rfl, show val_main_v178 (F := Ideal) = val_main_v92 (F := Ideal) from rfl, cos_tab]
theorem sin_tab' (t : Fin 8192) : (fun j : Fin 64 => if j.val < 32 then val_main_v161 (F := Ideal) (ix2 t (k16 j)) else val_main_v179 (F := Ideal) (ix2 t (k16 j))) = sa t := by
  rw [show val_main_v161 (F := Ideal) = val_main_v75 (F := Ideal) from rfl, show val_main_v179 (F := Ideal) = val_main_v93 (F := Ideal) from rfl, sin_tab]
theorem cos_tabB (t : Fin 8192) : (fun j : Fin 64 => val_main_v39 (F := Ideal) (ix2 t (k32 j))) = cb t := funext fun j => congrArg Ideal.cos (v38 t j)
theorem sin_tabB (t : Fin 8192) : (fun j : Fin 64 => val_main_v40 (F := Ideal) (ix2 t (k32 j))) = sb t := funext fun j => congrArg Ideal.sin (v38 t j)

/-- The head's lanes of the cotangents. -/
theorem v8 (x3 : FVec Ideal S8192x512 .f32) (r : Fin 8192) (h : Fin 8) (j : Fin 64) : val_main_v8 (F := Ideal) x3 (ix4 0 r h j) = x3 (ix2 r (hc h j)) := by
  pointwise [val_main_v8, hc]
theorem v9 (x4 : FVec Ideal S8192x128 .f32) (r : Fin 8192) (h : Fin 2) (j : Fin 64) : val_main_v9 (F := Ideal) x4 (ix4 0 r h j) = x4 (ix2 r (hc h j)) := by
  pointwise [val_main_v9, hc]

/-- The four turned cotangents. -/
theorem dz_q (x3 : FVec Ideal S8192x512 .f32) (r : Fin 8192) (h : Fin 8) (j : Fin 64) : val_main_v374 (F := Ideal) x3 (ix4 0 r h j) = DZ (n := 8) (fun r n => x3 (ix2 r n)) r h j := by
  rw [v374, cos_tab, sin_tab]
  exact congrArg (fun z => RB 16 _ _ z j) (funext fun k => v8 x3 r h k)
theorem dz_k (x4 : FVec Ideal S8192x128 .f32) (r : Fin 8192) (h : Fin 2) (j : Fin 64) : val_main_v315 (F := Ideal) x4 (ix4 0 r h j) = DZ (n := 2) (fun r n => x4 (ix2 r n)) r h j := by
  rw [v315, cos_tab', sin_tab']
  exact congrArg (fun z => RB 16 _ _ z j) (funext fun k => v9 x4 r h k)
theorem db_q (x6 : FVec Ideal S8192x512 .f32) (r : Fin 8192) (h : Fin 8) (j : Fin 64) : val_main_v278 (F := Ideal) x6 (ix2 r (hc h j)) = DB (n := 8) (fun r n => x6 (ix2 r n)) r h j := by
  have e : val_main_v278 (F := Ideal) x6 (ix2 r (hc h j)) = val_main_v277 (F := Ideal) x6 (ix4 0 r h j) := by
    rw [val_main_v278_apply]
    refine congrArg _ (funext fun a => ?_)
    have := h.isLt
    have := j.isLt
    have := r.isLt
    fin_cases a <;> refine Fin.ext ?_ <;> simp [hc] <;> omega
  rw [e, v277, cos_tabB, sin_tabB]
  exact congrArg (fun z => RB 32 _ _ z j) (funext fun k => v8 x6 r h k)
theorem db_k (x7 : FVec Ideal S8192x128 .f32) (r : Fin 8192) (h : Fin 2) (j : Fin 64) : val_main_v261 (F := Ideal) x7 (ix2 r (hc h j)) = DB (n := 2) (fun r n => x7 (ix2 r n)) r h j := by
  have e : val_main_v261 (F := Ideal) x7 (ix2 r (hc h j)) = val_main_v260 (F := Ideal) x7 (ix4 0 r h j) := by
    rw [val_main_v261_apply]
    refine congrArg _ (funext fun a => ?_)
    have := h.isLt
    have := j.isLt
    have := r.isLt
    fin_cases a <;> refine Fin.ext ?_ <;> simp [hc] <;> omega
  rw [e, v260, cos_tabB, sin_tabB]
  exact congrArg (fun z => RB 32 _ _ z j) (funext fun k => v9 x7 r h k)

end Cert.QkRIdeal.Final

end
-- ==== Proof.QkRefNorm.lean ====
/- The heads' norms differentiated, read from the reference at an index, and its two results. -/
module

public import proofs.«01_k».proof.Proof.QkRefTurn

@[expose] public section

set_option maxRecDepth 16384

noncomputable section

open Idealize.ShloMosaic Idealize.ShloMosaic.TcCoe Idealize.SL.Sem

namespace Cert.QkRIdeal.Final

open Cert.QkRIdeal Cert.QkRIdeal.Gen Cert.QkRIdeal.Read Cert.Qk

variable (x0 : FVec Ideal S8192x3584 .f32)

/-- The projection by row and column. -/
abbrev at0 (r : Fin 8192) (n : Fin 3584) : EReal := x0 (ix2 r n)

/-- A sum over axes of one place each is the entry there. -/
theorem sum_one {s t : Shape} {axes : List (Fin s.rank)} (h : s.ReducesTo axes t) (hu : 0 < S_.numel) (x : FVec Ideal s .f32) (i : s.Idx) (j : t.Idx) (hi : ∀ i', h.drop i' = j ↔ i' = i) :
    Host.reduceAdd x (constant (F := Ideal) S_ .f32 0x00000000#32) h hu j = x i := by
  have e : Finset.univ.filter (fun i' => h.drop i' = j) = {i} := by
    ext i'
    simp [hi i']
  show Ideal.ofBits .f32 0#32 + ∑ i' ∈ Finset.univ.filter (fun i' => h.drop i' = j), x i' = _
  rw [e, Finset.sum_singleton]
  exact (congrArg (· + x i) (show Ideal.ofBits .f32 0#32 = 0 by simp [Ideal.ofBits, Ideal.ieee])).trans (zero_add _)
theorem sum_03 {n : ℕ} (h : (⟨4, ![1, 8192, n, 1]⟩ : Shape).ReducesTo [0, 3] ⟨2, ![8192, n]⟩) (hu : 0 < S_.numel) (x : FVec Ideal ⟨4, ![1, 8192, n, 1]⟩ .f32) (r : Fin 8192) (k : Fin n) :
    Host.reduceAdd x (constant (F := Ideal) S_ .f32 0x00000000#32) h hu (ix2 r k) = x (ix4 0 r k 0) := by
  refine sum_one h hu x _ _ fun i => ⟨fun e => ?_, fun e => ?_⟩
  · have e1 : (i 1 : Fin 8192) = r := congrFun e 0
    have e2 : (i 2 : Fin n) = k := congrFun e 1
    funext a
    fin_cases a
    exacts [Subsingleton.elim (α := Fin 1) _ _, e1, e2, Subsingleton.elim (α := Fin 1) _ _]
  · rw [e]
    funext a
    fin_cases a <;> rfl
theorem sum_01 {n : ℕ} (h : (⟨4, ![1, 1, n, 64]⟩ : Shape).ReducesTo [0, 1] ⟨2, ![n, 64]⟩) (hu : 0 < S_.numel) (x : FVec Ideal ⟨4, ![1, 1, n, 64]⟩ .f32) (k : Fin n) (j : Fin 64) :
    Host.reduceAdd x (constant (F := Ideal) S_ .f32 0x00000000#32) h hu (ix2 k j) = x (ix4 0 0 k j) := by
  refine sum_one h hu x _ _ fun i => ⟨fun e => ?_, fun e => ?_⟩
  · have e1 : (i 2 : Fin n) = k := congrFun e 0
    have e2 : (i 3 : Fin 64) = j := congrFun e 1
    funext a
    fin_cases a
    exacts [Subsingleton.elim (α := Fin 1) _ _, Subsingleton.elim (α := Fin 1) _ _, e1, e2]
  · rw [e]
    funext a
    fin_cases a <;> rfl

/-! The queries. -/

theorem v41 (r : Fin 8192) (h : Fin 8) (k : Fin 64) : val_main_v41 (F := Ideal) x0 (ix4 0 r h k) = QX (at0 x0) r h k := by
  refine (show val_main_v41 (F := Ideal) x0 (ix4 0 r h k) = x0 (ix2 r ⟨0 + (h.val * 64 + k.val), by have := h.isLt; have := k.isLt; omega⟩) from ?_).trans rfl
  pointwise [val_main_v41, val_main_v0]
theorem v48 (r : Fin 8192) (h : Fin 8) (u : Fin 1) : val_main_v48 (F := Ideal) x0 (ix4 0 r h u) = S (QX (at0 x0) r h) := by
  unfold S
  simp only [← v41]
  generalize hh : val_main_v41 (F := Ideal) x0 = y
  pointwise [val_main_v48, val_main_v47, val_main_cst_6, val_main_v46, val_main_v45, val_main_cst_5, val_main_v44, val_main_v43, val_main_cst_4, val_main_v42, hh]
theorem v49 (r : Fin 8192) (h : Fin 8) (u : Fin 1) : val_main_v49 (F := Ideal) x0 (ix4 0 r h u) = R (QX (at0 x0) r h) :=
  congrArg Ideal.rsqrt (v48 x0 r h u)
theorem v54 (r : Fin 8192) (h : Fin 8) (k : Fin 64) : val_main_v54 (F := Ideal) x0 (ix4 0 r h k) = QX (at0 x0) r h k * R (QX (at0 x0) r h) := by
  rw [← v41, ← v49 x0 r h 0]
  generalize hh : val_main_v41 (F := Ideal) x0 = y
  generalize hg : val_main_v49 (F := Ideal) x0 = z
  pointwise [val_main_v54, val_main_v53, hh, hg]
theorem v379 (x1 : FVec Ideal S64 .f32) (x3 : FVec Ideal S8192x512 .f32) (r : Fin 8192) (h : Fin 8) (j : Fin 64) :
    val_main_v379 (F := Ideal) x1 x3 (ix4 0 r h j) = val_main_v374 (F := Ideal) x3 (ix4 0 r h j) * x1 (ix1 j) := by
  generalize hh : val_main_v374 (F := Ideal) x3 = y
  pointwise [val_main_v379, val_main_v378, val_main_v55, val_main_v15, val_main_v14, val_main_v13, val_main_v12, hh]
theorem v391_red (x1 : FVec Ideal S64 .f32) (x3 : FVec Ideal S8192x512 .f32) (r : Fin 8192) (h : Fin 8) (j : Fin 64) :
    val_main_v391 (F := Ideal) x0 x1 x3 (ix4 0 r h j) = val_main_v388 (F := Ideal) x0 x1 x3 (ix4 0 r h 0) := by
  refine Eq.trans (b := val_main_v389 (F := Ideal) x0 x1 x3 (ix2 r h)) ?_ (sum_03 _ _ _ r h)
  generalize hh : val_main_v389 (F := Ideal) x0 x1 x3 = y
  pointwise [val_main_v391, val_main_v390, hh]
theorem v391 (x1 : FVec Ideal S64 .f32) (x3 : FVec Ideal S8192x512 .f32) (r : Fin 8192) (h : Fin 8) (j : Fin 64) : val_main_v391 (F := Ideal) x0 x1 x3 (ix4 0 r h j)
    = NormRow.CL len (QX (at0 x0) r h) (fun k => val_main_v379 (F := Ideal) x1 x3 (ix4 0 r h k)) (S (QX (at0 x0) r h)) := by
  have e : NormRow.CL len (QX (at0 x0) r h) (fun k => val_main_v379 (F := Ideal) x1 x3 (ix4 0 r h k)) (S (QX (at0 x0) r h))
      = Ideal.div ((∑ k : Fin 64, QX (at0 x0) r h k * val_main_v379 (F := Ideal) x1 x3 (ix4 0 r h k)) * (Ideal.ofBits .f32 0xBF000000#32 * Ideal.div (R (QX (at0 x0) r h)) (S (QX (at0 x0) r h)))) len := rfl
  rw [e, v391_red]
  simp only [← v41, ← v48 x0 r h 0, ← v49 x0 r h 0]
  generalize hh : val_main_v41 (F := Ideal) x0 = x
  generalize hg : val_main_v379 (F := Ideal) x1 x3 = y
  generalize hs : val_main_v48 (F := Ideal) x0 = s
  generalize hr : val_main_v49 (F := Ideal) x0 = z
  pointwise [val_main_v388, val_main_v387, val_main_cst_52, val_main_v386, val_main_v383, val_main_v382, val_main_cst_51, val_main_v381, val_main_v52, val_main_v51, val_main_cst_7, val_main_v50, hh, hg, hs, hr]
theorem v395 (x1 : FVec Ideal S64 .f32) (x3 : FVec Ideal S8192x512 .f32) (r : Fin 8192) (h : Fin 8) (j : Fin 64) : val_main_v395 (F := Ideal) x0 x1 x3 (ix4 0 r h j)
    = val_main_v379 (F := Ideal) x1 x3 (ix4 0 r h j) * R (QX (at0 x0) r h) + QX (at0 x0) r h j * val_main_v391 (F := Ideal) x0 x1 x3 (ix4 0 r h j)
      + val_main_v391 (F := Ideal) x0 x1 x3 (ix4 0 r h j) * QX (at0 x0) r h j := by
  rw [← v41, ← v49 x0 r h 0]
  generalize hh : val_main_v41 (F := Ideal) x0 = x
  generalize hg : val_main_v379 (F := Ideal) x1 x3 = y
  generalize hs : val_main_v391 (F := Ideal) x0 x1 x3 = s
  generalize hr : val_main_v49 (F := Ideal) x0 = z
  pointwise [val_main_v395, val_main_v394, val_main_v393, val_main_v392, val_main_v385, val_main_v384, hh, hg, hs, hr]
theorem dp_q (x1 : FVec Ideal S64 .f32) (x3 : FVec Ideal S8192x512 .f32) (X : S8192x3584.Idx → ℝ) (Y : S64.Idx → ℝ) (Z : S8192x512.Idx → ℝ) (hX : x0 = fun i => (X i : EReal))
    (hY : x1 = fun i => (Y i : EReal)) (hZ : x3 = fun i => (Z i : EReal)) (r : Fin 8192) (h : Fin 8) (j : Fin 64) :
    val_main_v396 (F := Ideal) x0 x1 x3 (ix2 r (hc h j)) = G (DZ (n := 8) (fun r n => x3 (ix2 r n)) r h) (fun k => x1 (ix1 k)) (QX (at0 x0) r h) j := by
  have e : val_main_v396 (F := Ideal) x0 x1 x3 (ix2 r (hc h j)) = val_main_v395 (F := Ideal) x0 x1 x3 (ix4 0 r h j) := by
    rw [val_main_v396_apply]
    refine congrArg _ (funext fun a => ?_)
    have := h.isLt
    have := j.isLt
    have := r.isLt
    fin_cases a <;> refine Fin.ext ?_ <;> simp [hc] <;> omega
  choose D hD using fun k => RB_real 16 r (fun j => x3 (ix2 r (hc h j))) (fun k => Z (ix2 r (hc h k))) (fun k => congrFun hZ _) k
  have hn : ∀ k, val_main_v379 (F := Ideal) x1 x3 (ix4 0 r h k) = ((D k * Y (ix1 k) : ℝ) : EReal) := fun k => by
    rw [v379, dz_q, EReal.coe_mul, ← hD k, ← congrFun hY (ix1 k)]
    rfl
  have hx : ∀ k, QX (at0 x0) r h k = ((X (ix2 r (cl 0 512 (by decide) (hc h k))) : ℝ) : EReal) := fun k => congrFun hX _
  obtain ⟨s, hs, es⟩ := NormRow.mean_of 64 len (QX (at0 x0) r h) _ (by norm_num) len_word hx
  have eS : S (QX (at0 x0) r h) = (s : EReal) := es
  rw [e, v395, v391]
  unfold G R
  rw [eS, ← zero_add (val_main_v379 (F := Ideal) x1 x3 (ix4 0 r h j) * _)]
  refine (NormRow.row_back_of 64 len (QX (at0 x0) r h) (fun k => val_main_v379 (F := Ideal) x1 x3 (ix4 0 r h k)) _ _ (by norm_num) len_word s hs hx hn 0 j).trans ?_
  rw [zero_add]
  simp only [v379, dz_q]

/-! The keys. -/

theorem v127 (r : Fin 8192) (h : Fin 2) (k : Fin 64) : val_main_v127 (F := Ideal) x0 (ix4 0 r h k) = KX (at0 x0) r h k := by
  refine (show val_main_v127 (F := Ideal) x0 (ix4 0 r h k) = x0 (ix2 r ⟨512 + (h.val * 64 + k.val), by have := h.isLt; have := k.isLt; omega⟩) from ?_).trans rfl
  pointwise [val_main_v127, val_main_v1]
theorem v134 (r : Fin 8192) (h : Fin 2) (u : Fin 1) : val_main_v134 (F := Ideal) x0 (ix4 0 r h u) = S (KX (at0 x0) r h) := by
  unfold S
  simp only [← v127]
  generalize hh : val_main_v127 (F := Ideal) x0 = y
  pointwise [val_main_v134, val_main_v133, val_main_cst_18, val_main_v132, val_main_v131, val_main_cst_17, val_main_v130, val_main_v129, val_main_cst_16, val_main_v128, hh]
theorem v135 (r : Fin 8192) (h : Fin 2) (u : Fin 1) : val_main_v135 (F := Ideal) x0 (ix4 0 r h u) = R (KX (at0 x0) r h) :=
  congrArg Ideal.rsqrt (v134 x0 r h u)
theorem v140 (r : Fin 8192) (h : Fin 2) (k : Fin 64) : val_main_v140 (F := Ideal) x0 (ix4 0 r h k) = KX (at0 x0) r h k * R (KX (at0 x0) r h) := by
  rw [← v127, ← v135 x0 r h 0]
  generalize hh : val_main_v127 (F := Ideal) x0 = y
  generalize hg : val_main_v135 (F := Ideal) x0 = z
  pointwise [val_main_v140, val_main_v139, hh, hg]
theorem v320 (x2 : FVec Ideal S64 .f32) (x4 : FVec Ideal S8192x128 .f32) (r : Fin 8192) (h : Fin 2) (j : Fin 64) :
    val_main_v320 (F := Ideal) x2 x4 (ix4 0 r h j) = val_main_v315 (F := Ideal) x4 (ix4 0 r h j) * x2 (ix1 j) := by
  generalize hh : val_main_v315 (F := Ideal) x4 = y
  pointwise [val_main_v320, val_main_v319, val_main_v141, val_main_v19, val_main_v18, val_main_v17, val_main_v16, hh]
theorem v332_red (x2 : FVec Ideal S64 .f32) (x4 : FVec Ideal S8192x128 .f32) (r : Fin 8192) (h : Fin 2) (j : Fin 64) :
    val_main_v332 (F := Ideal) x0 x2 x4 (ix4 0 r h j) = val_main_v329 (F := Ideal) x0 x2 x4 (ix4 0 r h 0) := by
  refine Eq.trans (b := val_main_v330 (F := Ideal) x0 x2 x4 (ix2 r h)) ?_ (sum_03 _ _ _ r h)
  generalize hh : val_main_v330 (F := Ideal) x0 x2 x4 = y
  pointwise [val_main_v332, val_main_v331, hh]
theorem v332 (x2 : FVec Ideal S64 .f32) (x4 : FVec Ideal S8192x128 .f32) (r : Fin 8192) (h : Fin 2) (j : Fin 64) : val_main_v332 (F := Ideal) x0 x2 x4 (ix4 0 r h j)
    = NormRow.CL len (KX (at0 x0) r h) (fun k => val_main_v320 (F := Ideal) x2 x4 (ix4 0 r h k)) (S (KX (at0 x0) r h)) := by
  have e : NormRow.CL len (KX (at0 x0) r h) (fun k => val_main_v320 (F := Ideal) x2 x4 (ix4 0 r h k)) (S (KX (at0 x0) r h))
      = Ideal.div ((∑ k : Fin 64, KX (at0 x0) r h k * val_main_v320 (F := Ideal) x2 x4 (ix4 0 r h k)) * (Ideal.ofBits .f32 0xBF000000#32 * Ideal.div (R (KX (at0 x0) r h)) (S (KX (at0 x0) r h)))) len := rfl
  rw [e, v332_red]
  simp only [← v127, ← v134 x0 r h 0, ← v135 x0 r h 0]
  generalize hh : val_main_v127 (F := Ideal) x0 = x
  generalize hg : val_main_v320 (F := Ideal) x2 x4 = y
  generalize hs : val_main_v134 (F := Ideal) x0 = s
  generalize hr : val_main_v135 (F := Ideal) x0 = z
  pointwise [val_main_v329, val_main_v328, val_main_cst_41, val_main_v327, val_main_v324, val_main_v323, val_main_cst_40, val_main_v322, val_main_v138, val_main_v137, val_main_cst_19, val_main_v136, hh, hg, hs, hr]
theorem v336 (x2 : FVec Ideal S64 .f32) (x4 : FVec Ideal S8192x128 .f32) (r : Fin 8192) (h : Fin 2) (j : Fin 64) : val_main_v336 (F := Ideal) x0 x2 x4 (ix4 0 r h j)
    = val_main_v320 (F := Ideal) x2 x4 (ix4 0 r h j) * R (KX (at0 x0) r h) + KX (at0 x0) r h j * val_main_v332 (F := Ideal) x0 x2 x4 (ix4 0 r h j)
      + val_main_v332 (F := Ideal) x0 x2 x4 (ix4 0 r h j) * KX (at0 x0) r h j := by
  rw [← v127, ← v135 x0 r h 0]
  generalize hh : val_main_v127 (F := Ideal) x0 = x
  generalize hg : val_main_v320 (F := Ideal) x2 x4 = y
  generalize hs : val_main_v332 (F := Ideal) x0 x2 x4 = s
  generalize hr : val_main_v135 (F := Ideal) x0 = z
  pointwise [val_main_v336, val_main_v335, val_main_v334, val_main_v333, val_main_v326, val_main_v325, hh, hg, hs, hr]
theorem dp_k (x2 : FVec Ideal S64 .f32) (x4 : FVec Ideal S8192x128 .f32) (X : S8192x3584.Idx → ℝ) (Y : S64.Idx → ℝ) (Z : S8192x128.Idx → ℝ) (hX : x0 = fun i => (X i : EReal))
    (hY : x2 = fun i => (Y i : EReal)) (hZ : x4 = fun i => (Z i : EReal)) (r : Fin 8192) (h : Fin 2) (j : Fin 64) :
    val_main_v337 (F := Ideal) x0 x2 x4 (ix2 r (hc h j)) = G (DZ (n := 2) (fun r n => x4 (ix2 r n)) r h) (fun k => x2 (ix1 k)) (KX (at0 x0) r h) j := by
  have e : val_main_v337 (F := Ideal) x0 x2 x4 (ix2 r (hc h j)) = val_main_v336 (F := Ideal) x0 x2 x4 (ix4 0 r h j) := by
    rw [val_main_v337_apply]
    refine congrArg _ (funext fun a => ?_)
    have := h.isLt
    have := j.isLt
    have := r.isLt
    fin_cases a <;> refine Fin.ext ?_ <;> simp [hc] <;> omega
  choose D hD using fun k => RB_real 16 r (fun j => x4 (ix2 r (hc h j))) (fun k => Z (ix2 r (hc h k))) (fun k => congrFun hZ _) k
  have hn : ∀ k, val_main_v320 (F := Ideal) x2 x4 (ix4 0 r h k) = ((D k * Y (ix1 k) : ℝ) : EReal) := fun k => by
    rw [v320, dz_k, EReal.coe_mul, ← hD k, ← congrFun hY (ix1 k)]
    rfl
  have hx : ∀ k, KX (at0 x0) r h k = ((X (ix2 r (cl 512 128 (by decide) (hc h k))) : ℝ) : EReal) := fun k => congrFun hX _
  obtain ⟨s, hs, es⟩ := NormRow.mean_of 64 len (KX (at0 x0) r h) _ (by norm_num) len_word hx
  have eS : S (KX (at0 x0) r h) = (s : EReal) := es
  rw [e, v336, v332]
  unfold G R
  rw [eS, ← zero_add (val_main_v320 (F := Ideal) x2 x4 (ix4 0 r h j) * _)]
  refine (NormRow.row_back_of 64 len (KX (at0 x0) r h) (fun k => val_main_v320 (F := Ideal) x2 x4 (ix4 0 r h k)) _ _ (by norm_num) len_word s hs hx hn 0 j).trans ?_
  rw [zero_add]
  simp only [v320, dz_k]

/-- A gain's gradient at a head of the queries. -/
theorem v380 (x3 : FVec Ideal S8192x512 .f32) (h : Fin 8) (j : Fin 64) : val_main_v380 (F := Ideal) x0 x3 (ix2 h j)
    = ∑ r : Fin 8192, DZ (n := 8) (fun r n => x3 (ix2 r n)) r h j * (QX (at0 x0) r h j * R (QX (at0 x0) r h)) := by
  simp only [← dz_q, ← v54, mul_comm (val_main_v374 (F := Ideal) x3 _)]
  refine Eq.trans (b := val_main_v377 (F := Ideal) x0 x3 (ix4 0 0 h j)) (sum_01 _ _ _ h j) ?_
  generalize hh : val_main_v54 (F := Ideal) x0 = y
  generalize hg : val_main_v374 (F := Ideal) x3 = z
  pointwise [val_main_v377, val_main_v376, val_main_cst_49, val_main_v375, hh, hg]
/-- A gain's gradient at a head of the keys. -/
theorem v321 (x4 : FVec Ideal S8192x128 .f32) (h : Fin 2) (j : Fin 64) : val_main_v321 (F := Ideal) x0 x4 (ix2 h j)
    = ∑ r : Fin 8192, DZ (n := 2) (fun r n => x4 (ix2 r n)) r h j * (KX (at0 x0) r h j * R (KX (at0 x0) r h)) := by
  simp only [← dz_k, ← v140, mul_comm (val_main_v315 (F := Ideal) x4 _)]
  refine Eq.trans (b := val_main_v318 (F := Ideal) x0 x4 (ix4 0 0 h j)) (sum_01 _ _ _ h j) ?_
  generalize hh : val_main_v140 (F := Ideal) x0 = y
  generalize hg : val_main_v315 (F := Ideal) x4 = z
  pointwise [val_main_v318, val_main_v317, val_main_cst_38, val_main_v316, hh, hg]

/-- The two rows of the gains' gradients. -/
theorem v398 (x3 : FVec Ideal S8192x512 .f32) (b : Fin 2) (j : Fin 64) : val_main_v398 (F := Ideal) x0 x3 (ix1 (hc b j)) = ∑ p : Fin 4, val_main_v380 (F := Ideal) x0 x3 (ix2 (pr p b) j) := by
  have e : ∀ p, val_main_v397 (F := Ideal) x0 x3 (ix2 p (hc b j)) = val_main_v380 (F := Ideal) x0 x3 (ix2 (pr p b) j) := fun p => by
    rw [val_main_v397_apply]
    refine congrArg _ (funext fun a => ?_)
    have := b.isLt
    have := j.isLt
    have := p.isLt
    fin_cases a <;> refine Fin.ext ?_ <;> simp [hc, pr] <;> omega
  simp only [← e]
  generalize hh : val_main_v397 (F := Ideal) x0 x3 = y
  pointwise [val_main_v398, val_main_cst_54, hh]
theorem v400 (x4 : FVec Ideal S8192x128 .f32) (u : Fin 1) (b : Fin 2) (j : Fin 64) : val_main_v400 (F := Ideal) x0 x4 (ix2 u (hc b j)) = val_main_v321 (F := Ideal) x0 x4 (ix2 b j) := by
  rw [val_main_v400_apply]
  refine congrArg _ (funext fun a => ?_)
  have := b.isLt
  have := j.isLt
  have := u.isLt
  fin_cases a <;> refine Fin.ext ?_ <;> simp [hc] <;> omega

theorem v404 (x3 : FVec Ideal S8192x512 .f32) (x4 : FVec Ideal S8192x128 .f32) (i : Fin 8) (l : Fin 128) : val_main_v404 (F := Ideal) x0 x3 x4 (ix2 i l)
    = if i.val = 0 then val_main_v398 (F := Ideal) x0 x3 (ix1 l) else if i.val = 1 then val_main_v400 (F := Ideal) x0 x4 (ix2 0 l) else 0 := by
  generalize hh : val_main_v398 (F := Ideal) x0 x3 = y
  generalize hg : val_main_v400 (F := Ideal) x0 x4 = z
  pointwise [val_main_v404, val_main_v399, val_main_v403, val_main_cst_55, hh, hg]
  by_cases h0 : i.val = 0
  · rw [dif_pos (by omega), if_pos h0]
  rw [dif_neg (by omega), if_neg h0]
  by_cases h1 : i.val = 1
  · rw [dif_pos (by omega), if_pos h1]
    exact congrArg (fun k : Fin 1 => z (ix2 k l)) (Subsingleton.elim _ _)
  · rw [dif_neg (by omega), if_neg h1]

theorem isDG (x3 : FVec Ideal S8192x512 .f32) (x4 : FVec Ideal S8192x128 .f32) :
    IsDG (at0 x0) (fun r n => x3 (ix2 r n)) (fun r n => x4 (ix2 r n)) fun i l => val_main_v404 (F := Ideal) x0 x3 x4 (ix2 i l) where
  q b j := by
    rw [v404]
    refine (if_pos rfl).trans ((v398 x0 x3 b j).trans (Finset.sum_congr rfl fun p _ => v380 x0 x3 (pr p b) j))
  k b j := by
    rw [v404]
    exact (if_neg (by decide)).trans ((if_pos rfl).trans ((v400 x0 x4 0 b j).trans (v321 x0 x4 b j)))
  z i l h := by rw [v404, if_neg (by omega), if_neg (by omega)]

/-- The projection's gradient, group of columns by group of columns. -/
theorem v402 (x1 x2 : FVec Ideal S64 .f32) (x3 : FVec Ideal S8192x512 .f32) (x4 x5 : FVec Ideal S8192x128 .f32) (x6 : FVec Ideal S8192x512 .f32) (x7 x8 : FVec Ideal S8192x128 .f32)
    (x9 x10 : FVec Ideal S8192x1024 .f32) (r : Fin 8192) (n : Fin 3584) : val_main_v402 (F := Ideal) x0 x1 x2 x3 x4 x5 x6 x7 x8 x9 x10 (ix2 r n)
    = if h0 : n.val < 512 then val_main_v396 (F := Ideal) x0 x1 x3 (ix2 r ⟨n.val, h0⟩)
      else if h1 : n.val - 512 < 128 then val_main_v337 (F := Ideal) x0 x2 x4 (ix2 r ⟨n.val - 512, h1⟩)
      else if h2 : n.val - 512 - 128 < 128 then x5 (ix2 r ⟨n.val - 512 - 128, h2⟩)
      else if h3 : n.val - 512 - 128 - 128 < 512 then val_main_v278 (F := Ideal) x6 (ix2 r ⟨n.val - 512 - 128 - 128, h3⟩)
      else if h4 : n.val - 512 - 128 - 128 - 512 < 128 then val_main_v261 (F := Ideal) x7 (ix2 r ⟨n.val - 512 - 128 - 128 - 512, h4⟩)
      else if h5 : n.val - 512 - 128 - 128 - 512 - 128 < 128 then x8 (ix2 r ⟨n.val - 512 - 128 - 128 - 512 - 128, h5⟩)
      else if h6 : n.val - 512 - 128 - 128 - 512 - 128 - 128 < 1024 then x9 (ix2 r ⟨n.val - 512 - 128 - 128 - 512 - 128 - 128, h6⟩)
      else x10 (ix2 r ⟨n.val - 512 - 128 - 128 - 512 - 128 - 128 - 1024, by have := n.isLt; omega⟩) := by
  generalize ha : val_main_v396 (F := Ideal) x0 x1 x3 = a
  generalize hb : val_main_v337 (F := Ideal) x0 x2 x4 = b
  generalize hc : val_main_v278 (F := Ideal) x6 = c
  generalize hd : val_main_v261 (F := Ideal) x7 = d
  pointwise [val_main_v402, val_main_v401, ha, hb, hc, hd]

section Columns

variable (x1 x2 : FVec Ideal S64 .f32) (x3 : FVec Ideal S8192x512 .f32) (x4 x5 : FVec Ideal S8192x128 .f32) (x6 : FVec Ideal S8192x512 .f32) (x7 x8 : FVec Ideal S8192x128 .f32)
    (x9 x10 : FVec Ideal S8192x1024 .f32) (r : Fin 8192)

theorem col_q (l : Fin 512) : val_main_v402 (F := Ideal) x0 x1 x2 x3 x4 x5 x6 x7 x8 x9 x10 (ix2 r (cl 0 512 (by decide) l)) = val_main_v396 (F := Ideal) x0 x1 x3 (ix2 r l) := by
  have hl := l.isLt
  have e : (cl 0 512 (by decide) l : Fin 3584).val = 0 + l.val := rfl
  rw [v402, dif_pos (by omega)]
  exact congrArg (fun k => val_main_v396 (F := Ideal) x0 x1 x3 (ix2 r k)) (Fin.ext (by show 0 + l.val = l.val; omega))
theorem col_k (l : Fin 128) : val_main_v402 (F := Ideal) x0 x1 x2 x3 x4 x5 x6 x7 x8 x9 x10 (ix2 r (cl 512 128 (by decide) l)) = val_main_v337 (F := Ideal) x0 x2 x4 (ix2 r l) := by
  have hl := l.isLt
  have e : (cl 512 128 (by decide) l : Fin 3584).val = 512 + l.val := rfl
  rw [v402, dif_neg (by omega), dif_pos (by omega)]
  exact congrArg (fun k => val_main_v337 (F := Ideal) x0 x2 x4 (ix2 r k)) (Fin.ext (by show 512 + l.val - 512 = l.val; omega))
theorem col_va (l : Fin 128) : val_main_v402 (F := Ideal) x0 x1 x2 x3 x4 x5 x6 x7 x8 x9 x10 (ix2 r (cl 640 128 (by decide) l)) = x5 (ix2 r l) := by
  have hl := l.isLt
  have e : (cl 640 128 (by decide) l : Fin 3584).val = 640 + l.val := rfl
  rw [v402, dif_neg (by omega), dif_neg (by omega), dif_pos (by omega)]
  exact congrArg (fun k => x5 (ix2 r k)) (Fin.ext (by show 640 + l.val - 512 - 128 = l.val; omega))
theorem col_qb (l : Fin 512) : val_main_v402 (F := Ideal) x0 x1 x2 x3 x4 x5 x6 x7 x8 x9 x10 (ix2 r (cl 768 512 (by decide) l)) = val_main_v278 (F := Ideal) x6 (ix2 r l) := by
  have hl := l.isLt
  have e : (cl 768 512 (by decide) l : Fin 3584).val = 768 + l.val := rfl
  rw [v402, dif_neg (by omega), dif_neg (by omega), dif_neg (by omega), dif_pos (by omega)]
  exact congrArg (fun k => val_main_v278 (F := Ideal) x6 (ix2 r k)) (Fin.ext (by show 768 + l.val - 512 - 128 - 128 = l.val; omega))
theorem col_kb (l : Fin 128) : val_main_v402 (F := Ideal) x0 x1 x2 x3 x4 x5 x6 x7 x8 x9 x10 (ix2 r (cl 1280 128 (by decide) l)) = val_main_v261 (F := Ideal) x7 (ix2 r l) := by
  have hl := l.isLt
  have e : (cl 1280 128 (by decide) l : Fin 3584).val = 1280 + l.val := rfl
  rw [v402, dif_neg (by omega), dif_neg (by omega), dif_neg (by omega), dif_neg (by omega), dif_pos (by omega)]
  exact congrArg (fun k => val_main_v261 (F := Ideal) x7 (ix2 r k)) (Fin.ext (by show 1280 + l.val - 512 - 128 - 128 - 512 = l.val; omega))
theorem col_vb (l : Fin 128) : val_main_v402 (F := Ideal) x0 x1 x2 x3 x4 x5 x6 x7 x8 x9 x10 (ix2 r (cl 1408 128 (by decide) l)) = x8 (ix2 r l) := by
  have hl := l.isLt
  have e : (cl 1408 128 (by decide) l : Fin 3584).val = 1408 + l.val := rfl
  rw [v402, dif_neg (by omega), dif_neg (by omega), dif_neg (by omega), dif_neg (by omega), dif_neg (by omega), dif_pos (by omega)]
  exact congrArg (fun k => x8 (ix2 r k)) (Fin.ext (by show 1408 + l.val - 512 - 128 - 128 - 512 - 128 = l.val; omega))
theorem col_ga (l : Fin 1024) : val_main_v402 (F := Ideal) x0 x1 x2 x3 x4 x5 x6 x7 x8 x9 x10 (ix2 r (cl 1536 1024 (by decide) l)) = x9 (ix2 r l) := by
  have hl := l.isLt
  have e : (cl 1536 1024 (by decide) l : Fin 3584).val = 1536 + l.val := rfl
  rw [v402, dif_neg (by omega), dif_neg (by omega), dif_neg (by omega), dif_neg (by omega), dif_neg (by omega), dif_neg (by omega), dif_pos (by omega)]
  exact congrArg (fun k => x9 (ix2 r k)) (Fin.ext (by show 1536 + l.val - 512 - 128 - 128 - 512 - 128 - 128 = l.val; omega))
theorem col_gb (l : Fin 1024) : val_main_v402 (F := Ideal) x0 x1 x2 x3 x4 x5 x6 x7 x8 x9 x10 (ix2 r (cl 2560 1024 (by decide) l)) = x10 (ix2 r l) := by
  have hl := l.isLt
  have e : (cl 2560 1024 (by decide) l : Fin 3584).val = 2560 + l.val := rfl
  rw [v402, dif_neg (by omega), dif_neg (by omega), dif_neg (by omega), dif_neg (by omega), dif_neg (by omega), dif_neg (by omega), dif_neg (by omega)]
  exact congrArg (fun k => x10 (ix2 r k)) (Fin.ext (by show 2560 + l.val - 512 - 128 - 128 - 512 - 128 - 128 - 1024 = l.val; omega))

end Columns

theorem isDP (x1 x2 : FVec Ideal S64 .f32) (x3 : FVec Ideal S8192x512 .f32) (x4 x5 : FVec Ideal S8192x128 .f32) (x6 : FVec Ideal S8192x512 .f32) (x7 x8 : FVec Ideal S8192x128 .f32)
    (x9 x10 : FVec Ideal S8192x1024 .f32) (X : S8192x3584.Idx → ℝ) (Y Y' : S64.Idx → ℝ) (Z : S8192x512.Idx → ℝ) (Z' : S8192x128.Idx → ℝ) (hX : x0 = fun i => (X i : EReal))
    (hY : x1 = fun i => (Y i : EReal)) (hY' : x2 = fun i => (Y' i : EReal)) (hZ : x3 = fun i => (Z i : EReal)) (hZ' : x4 = fun i => (Z' i : EReal)) :
    IsDP (at0 x0) (fun k => x1 (ix1 k)) (fun k => x2 (ix1 k)) (fun r n => x3 (ix2 r n)) (fun r n => x4 (ix2 r n)) (fun r n => x5 (ix2 r n)) (fun r n => x6 (ix2 r n)) (fun r n => x7 (ix2 r n))
      (fun r n => x8 (ix2 r n)) (fun r n => x9 (ix2 r n)) (fun r n => x10 (ix2 r n)) fun r n => val_main_v402 (F := Ideal) x0 x1 x2 x3 x4 x5 x6 x7 x8 x9 x10 (ix2 r n) where
  q r h j := (col_q x0 x1 x2 x3 x4 x5 x6 x7 x8 x9 x10 r _).trans (dp_q x0 x1 x3 X Y Z hX hY hZ r h j)
  k r h j := (col_k x0 x1 x2 x3 x4 x5 x6 x7 x8 x9 x10 r _).trans (dp_k x0 x2 x4 X Y' Z' hX hY' hZ' r h j)
  va r l := col_va x0 x1 x2 x3 x4 x5 x6 x7 x8 x9 x10 r l
  qb r h j := (col_qb x0 x1 x2 x3 x4 x5 x6 x7 x8 x9 x10 r _).trans (db_q x6 r h j)
  kb r h j := (col_kb x0 x1 x2 x3 x4 x5 x6 x7 x8 x9 x10 r _).trans (db_k x7 r h j)
  vb r l := col_vb x0 x1 x2 x3 x4 x5 x6 x7 x8 x9 x10 r l
  ga r l := col_ga x0 x1 x2 x3 x4 x5 x6 x7 x8 x9 x10 r l
  gb r l := col_gb x0 x1 x2 x3 x4 x5 x6 x7 x8 x9 x10 r l

end Cert.QkRIdeal.Final

end
-- ==== Proof.QkClaims.lean ====
/- The gradient behind the attentions' queries and keys: the kernel's two results and the reference's agree where the arguments the norms' gradients read are finite. -/
module

public import proofs.«01_k».proof.Defs
public import proofs.«01_k».proof.Proof.QkFinal
public import proofs.«01_k».proof.Proof.QkRefNorm
public import proofs.«01_k».proof.Proof.Gen.Pre_qk_finite
public import proofs.«01_k».proof.Proof.Gen.QkK.Frame

@[expose] public section

set_option maxRecDepth 16384

noncomputable section

open Idealize.ShloMosaic Idealize.ShloMosaic.TcCoe Idealize.SL.Sem

namespace Cert.Proof.QkClaims

open Cert.QkKIdeal Cert.QkKIdeal.Gen Cert.QkKIdeal.Final

section Results

variable (m : (ℓ : Loc nD τ sig) → Buf (Elt Ideal) ℓ) (c : Dev nD)

theorem reals (h : Cert.Pre_QkKIdeal_qk_finite m) : Reals m c := by
  obtain ⟨h0, h1, h2, h3, h4⟩ := h c
  obtain ⟨X0, e0⟩ := Rl.real_of_finite (fun _ => Rl.inf_word) h0
  obtain ⟨X1, e1⟩ := Rl.real_of_finite (fun _ => Rl.inf_word) h1
  obtain ⟨X2, e2⟩ := Rl.real_of_finite (fun _ => Rl.inf_word) h2
  obtain ⟨X3, e3⟩ := Rl.real_of_finite (fun _ => Rl.inf_word) h3
  obtain ⟨X4, e4⟩ := Rl.real_of_finite (fun _ => Rl.inf_word) h4
  exact ⟨fun r n => ⟨_, congrFun e0 (ix2 r n)⟩, fun k => ⟨_, congrFun e1 (ix1 k)⟩, fun k => ⟨_, congrFun e2 (ix1 k)⟩, fun r n => ⟨_, congrFun e3 (ix2 r n)⟩, fun r n => ⟨_, congrFun e4 (ix2 r n)⟩⟩

theorem res14 (h : Cert.Pre_QkKIdeal_qk_finite m) : (Cert.QkRIdeal.Read.val_main_v402 (F := Ideal) (A0 m c) (A1 m c) (A2 m c) (A3 m c) (A4 m c) (A5 m c) (A6 m c) (A7 m c) (A8 m c) (A9 m c) (A10 m c) : FVec Ideal S8192x3584 .bf16)
    = (show FVec Ideal S8192x3584 .bf16 from (dats m 0 c).arrAt 14 cfg0.N) := by
  obtain ⟨h0, h1, h2, h3, h4⟩ := h c
  obtain ⟨X0, e0⟩ := Rl.real_of_finite (fun _ => Rl.inf_word) h0
  obtain ⟨X1, e1⟩ := Rl.real_of_finite (fun _ => Rl.inf_word) h1
  obtain ⟨X2, e2⟩ := Rl.real_of_finite (fun _ => Rl.inf_word) h2
  obtain ⟨X3, e3⟩ := Rl.real_of_finite (fun _ => Rl.inf_word) h3
  obtain ⟨X4, e4⟩ := Rl.real_of_finite (fun _ => Rl.inf_word) h4
  exact (final14 m c (reals m c h) _ (Cert.QkRIdeal.Final.isDP (A0 m c) (A1 m c) (A2 m c) (A3 m c) (A4 m c) (A5 m c) (A6 m c) (A7 m c) (A8 m c) (A9 m c) (A10 m c) X0 X1 X2 X3 X4 e0 e1 e2 e3 e4)).symm

theorem res15 (h : Cert.Pre_QkKIdeal_qk_finite m) : (Cert.QkRIdeal.Read.val_main_v404 (F := Ideal) (A0 m c) (A3 m c) (A4 m c) : FVec Ideal S8x128 .f32)
    = (show FVec Ideal S8x128 .f32 from (dats m 0 c).arrAt 15 cfg0.N) :=
  (final15 m c (reals m c h) _ (Cert.QkRIdeal.Final.isDG (A0 m c) (A3 m c) (A4 m c))).symm

end Results

/-- At `Ideal` the kernel's results and the reference's agree. -/
theorem algebraic : Cert.algebraic_QkKIdeal_QkRIdeal_pre_qk_finite := by
  pair_intro
  · run_from Cert.QkKIdeal.Value.run_blocks m g
  · refine (θ_run _ _ _).mono (fun r h c => ?_) (Cert.QkRIdeal.Value.run m' g')
    obtain ⟨a0, a1, a2, a3, a4, a5, a6, a7, a8, a9, a10⟩ := hagree c
    have e0 : Cert.QkRIdeal.Read.val_main_v402 (F := Ideal) (m' ((c.tc : Thread _ _).loc Cert.QkRIdeal.main_arg0)) (m' ((c.tc : Thread _ _).loc Cert.QkRIdeal.main_arg1)) (m' ((c.tc : Thread _ _).loc Cert.QkRIdeal.main_arg2)) (m' ((c.tc : Thread _ _).loc Cert.QkRIdeal.main_arg3)) (m' ((c.tc : Thread _ _).loc Cert.QkRIdeal.main_arg4)) (m' ((c.tc : Thread _ _).loc Cert.QkRIdeal.main_arg5)) (m' ((c.tc : Thread _ _).loc Cert.QkRIdeal.main_arg6)) (m' ((c.tc : Thread _ _).loc Cert.QkRIdeal.main_arg7)) (m' ((c.tc : Thread _ _).loc Cert.QkRIdeal.main_arg8)) (m' ((c.tc : Thread _ _).loc Cert.QkRIdeal.main_arg9)) (m' ((c.tc : Thread _ _).loc Cert.QkRIdeal.main_arg10)) = _ :=
      congr (congr (congr (congr (congr (congr (congr (congr (congr (congr (congrArg _ a0) a1) a2) a3) a4) a5) a6) a7) a8) a9) a10
    have e1 : Cert.QkRIdeal.Read.val_main_v404 (F := Ideal) (m' ((c.tc : Thread _ _).loc Cert.QkRIdeal.main_arg0)) (m' ((c.tc : Thread _ _).loc Cert.QkRIdeal.main_arg3)) (m' ((c.tc : Thread _ _).loc Cert.QkRIdeal.main_arg4)) = _ := congr (congr (congrArg _ a0) a3) a4
    exact ⟨(h c).1.trans ((Cert.QkRIdeal.Read.val_main_v402_eq (F := Ideal) (StableHlo.launchContents m' c)).trans (e0.trans (res14 m c hpre))),
      (h c).2.1.trans ((Cert.QkRIdeal.Read.val_main_v404_eq (F := Ideal) (StableHlo.launchContents m' c)).trans (e1.trans (res15 m c hpre))), (h c).2.2⟩

theorem frame_r : Cert.quiescent_QkRIdeal := by
  intro m g _
  refine (θ_run _ _ _).mono (fun r h => ⟨fun c => (h c).2.2, ?_⟩) (Cert.QkRIdeal.Value.run m g)
  exact sem_eq_zero_of_no_sems (sig := Cert.QkRIdeal.sig) rfl _

/-- The named constant is the one it stands for. -/
theorem preserves : Cert.preserves_QkK_QkKIdeal :=
  IdealRules.named_const.statement Cert.QkKIdeal.κ "ln2" _ _ _ rfl

end Cert.Proof.QkClaims

end
-- ==== Proof.DwFinal.lean ====
/- The weight gradient behind the squared ReLU: the value the kernel leaves. -/
module

public import proofs.«01_k».proof.Proof.Gen.DwKIdeal.Value
public import proofs.«01_k».proof.Proof.Real
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.DwKIdeal.Final

open Cert.DwKIdeal Cert.DwKIdeal.Gen

variable (m : (ℓ : Loc nD τ sig) → Buf (Elt Ideal) ℓ) (c : Dev nD)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The two input blocks of a point. -/
abbrev X0 (t : Fin cfg0.N) : FVec Ideal S2048x1024 .bf16 := iblk m c 0 t
abbrev X1 (t : Fin cfg0.N) : FVec Ideal S2048x1024 .f32 := iblk m c 1 t

/-- What a point adds: the squared ReLU of its block's columns times its rows of the cotangent, summed over its 2048 tokens. -/
def part (t : Fin cfg0.N) (y : S1024x1024.Idx) : EReal :=
  ∑ r : Fin 2048, max (X0 m c t (ix2 r (y 0))) 0 * max (X0 m c t (ix2 r (y 0))) 0 * X1 m c t (ix2 r (y 1))

theorem pay2_at (x0 : FVec Ideal S2048x1024 .bf16) (a : FVec Ideal S1024x1024 .f32) (x1 : FVec Ideal S2048x1024 .f32) (i j : Fin 1024) :
    k0_pay2 x0 a x1 (ix2 i j) = a (ix2 i j) + ∑ r : Fin 2048, max (x0 (ix2 r i)) 0 * max (x0 (ix2 r i)) 0 * x1 (ix2 r j) := by
  pointwise [k0_pay2]

theorem pay1_at (y : S1024x1024.Idx) : k0_pay1 (F := Ideal) y = 0 := by pointwise [k0_pay1]

theorem outA (t : Fin cfg0.N) (h : t.val % 4 = 0) (y : S1024x1024.Idx) : outsAt0 m c t.val t.isLt y = 0 + part m c t y := by
  idx_vars y
  rw [outsAt0_A m c t h]; frame_out
  rw [pay2_at, pay1_at]
  rfl

theorem outB (t : Fin cfg0.N) (h : ¬ t.val % 4 = 0) (y : S1024x1024.Idx) :
    outsAt0 m c t.val t.isLt y = outsAt0 m c (t.val - 1) (Nat.lt_of_le_of_lt (Nat.sub_le _ _) t.isLt) y + part m c t y := by
  idx_vars y
  rw [outsAt0_B m c t h]; frame_out
  rw [pay2_at]
  rfl

/-- The two arguments, and the arrays the kernel's region reads. -/
abbrev A0 : FVec Ideal S8192x4096 .f32 := m ((c.tc : Thread nD τ).loc main_arg0)
abbrev A1 : FVec Ideal S8192x1024 .f32 := m ((c.tc : Thread nD τ).loc main_arg1)
abbrev G0 : FVec Ideal S8192x4096 .bf16 := V m c main_v0
abbrev G1 : FVec Ideal S8192x1024 .f32 := V m c main_arg1

theorem G0_at (r : Fin 8192) (k : Fin 4096) : G0 m c (ix2 r k) = A0 m c (ix2 r k) := by
  show (show FVec Ideal S8192x4096 .bf16 from Gen.V m c main_v0) (ix2 r k) = _
  dsimp only [Gen.V]; after_reads_at
theorem G1_at (r : Fin 8192) (j : Fin 1024) : G1 m c (ix2 r j) = A1 m c (ix2 r j) := by
  show (show FVec Ideal S8192x1024 .f32 from Gen.V m c main_arg1) (ix2 r j) = _
  dsimp only [Gen.V]; after_reads_at

/-- A token, from its block of 2048 and its place there; a hidden column, from its block of 1024. -/
def row (p : Fin 4) (i : Fin 2048) : Fin 8192 := ⟨p.val * 2048 + i.val, by have := p.isLt; have := i.isLt; omega⟩
def col (q : Fin 4) (i : Fin 1024) : Fin 4096 := ⟨q.val * 1024 + i.val, by have := q.isLt; have := i.isLt; omega⟩

theorem X0_at (t : Fin cfg0.N) (p q : Fin 4) (hp : t.val % 4 = p.val) (hq : t.val / 4 = q.val) (r : Fin 2048) (i : Fin 1024) :
    X0 m c t (ix2 r i) = A0 m c (ix2 (row p r) (col q i)) := by
  rw [← G0_at]; blk_ext [iblk, V, idx t, row, col, hp, hq]
theorem X1_at (t : Fin cfg0.N) (p : Fin 4) (hp : t.val % 4 = p.val) (r : Fin 2048) (j : Fin 1024) :
    X1 m c t (ix2 r j) = A1 m c (ix2 (row p r) j) := by
  rw [← G1_at]; blk_ext [iblk, V, idx t, row, hp]

/-- The gradient: for a hidden column and an output column, the sum over all tokens. -/
def W (h : FVec Ideal S8192x4096 .f32) (d : FVec Ideal S8192x1024 .f32) (k : Fin 4096) (j : Fin 1024) : EReal :=
  ∑ r : Fin 8192, max (h (ix2 r k)) 0 * max (h (ix2 r k)) 0 * d (ix2 r j)

theorem lt16 (t : Fin cfg0.N) : t.val < 16 := lt_of_lt_of_eq t.isLt N_0
/-- A point's block of hidden columns. -/
def qb (t : Fin cfg0.N) : Fin 4 := ⟨t.val / 4, by have := lt16 t; omega⟩

/-- At a block's last point the four parts are together. -/
theorem out2 (t : Fin cfg0.N) (hf : t.val % 4 = 4 - 1) (i j : Fin 1024) :
    outsAt0 m c t.val t.isLt (ix2 i j) = W (A0 m c) (A1 m c) (col (qb t) i) j := by
  rw [Pipeline.eq_sum_fin_of_reset_step_apply_of_flush (fun n h => outsAt0 m c n h) 4 (fun _ => 0) (part m c) (outA m c) (outB m c) t hf (ix2 i j), zero_add]
  refine Eq.trans (Finset.sum_congr rfl fun s _ => Finset.sum_congr rfl fun r _ => ?_)
    (Fin.sum_univ_tiles 4 2048 rfl (fun r : Fin 8192 => max (A0 m c (ix2 r (col (qb t) i))) 0 * max (A0 m c (ix2 r (col (qb t) i))) 0 * A1 m c (ix2 r j))).symm
  have hs := s.isLt
  have e0 := X0_at m c ⟨4 * (t.val / 4) + s.val, Pipeline.run_point_lt_of_flush t hf s⟩ s (qb t) (show (4 * (t.val / 4) + s.val) % 4 = s.val by omega)
    (show (4 * (t.val / 4) + s.val) / 4 = t.val / 4 by omega) r i
  have e1 := X1_at m c ⟨4 * (t.val / 4) + s.val, Pipeline.run_point_lt_of_flush t hf s⟩ s (show (4 * (t.val / 4) + s.val) % 4 = s.val by omega) r j
  exact congrArg₂ (· * ·) (congrArg₂ (· * ·) (congrArg (max · 0) e0) (congrArg (max · 0) e0)) e1

theorem final2 : (show FVec Ideal S4096x1024 .f32 from (dats m 0 c).arrAt 2 cfg0.N) = fun y => W (A0 m c) (A1 m c) (y 0) (y 1) := by
  refine (dats m 0 c).arrAt_eq_of_covers 2 _ (by decide +kernel) fun t hf y => ?_
  rw [after0_2]
  simp only [cast_eq]
  have emb : ∀ (i j : Fin 1024), (win0_2.blk t).view.emb (ix2 i j) = (ix2 (col (qb t) i) j : S4096x1024.Idx) := fun i j => by
    blk_ext [idx t, col, qb]
  have blk : ∀ y : S1024x1024.Idx, outsAt0 m c t.val t.isLt y
      = (fun y : S4096x1024.Idx => W (A0 m c) (A1 m c) (y 0) (y 1)) ((win0_2.blk t).view.emb y) := fun y => by
    idx_vars y
    rw [out2 m c t ((flush0_2 t).mp hf), emb]
    rfl
  exact blk y

end Cert.DwKIdeal.Final

end
-- ==== Proof.DwClaims.lean ====
/- The weight gradient behind the squared ReLU: the kernel's result and the reference's agree. -/
module

public import proofs.«01_k».proof.Defs
public import proofs.«01_k».proof.Proof.DwFinal
public import proofs.«01_k».proof.Proof.Gen.DwRIdeal.Run
public import proofs.«01_k».proof.Proof.Gen.DwRIdeal.Read
public import proofs.«01_k».proof.Proof.Gen.DwK.Frame

@[expose] public section

set_option maxRecDepth 16384

noncomputable section

open Idealize.ShloMosaic Idealize.ShloMosaic.TcCoe Idealize.SL.Sem

namespace Cert.Proof.DwClaims

open Cert.DwKIdeal Cert.DwKIdeal.Gen Cert.DwKIdeal.Final

/-- The reference's gradient is the same sum over tokens, with the cotangent before the squared ReLU. -/
theorem ref_W (h : FVec Ideal S8192x4096 .f32) (d : FVec Ideal S8192x1024 .f32) :
    (Cert.DwRIdeal.Read.val_main_v5 (F := Ideal) h d : FVec Ideal S4096x1024 .f32) = fun y => W h d (y 0) (y 1) := by
  funext y
  idx_vars y
  unfold W
  pointwise [Cert.DwRIdeal.Read.val_main_v5, Cert.DwRIdeal.Read.val_main_v4, Cert.DwRIdeal.Read.val_main_v2, Cert.DwRIdeal.Read.val_main_v1, Cert.DwRIdeal.Read.val_main_call0_v0, Cert.DwRIdeal.Read.val_main_call0_cst]
  refine Finset.sum_congr rfl fun r _ => ?_
  exact mul_comm (_ : EReal) _

/-- At `Ideal` the kernel's result and the reference's agree. -/
theorem algebraic : Cert.algebraic_DwKIdeal_DwRIdeal := by
  pair_intro
  · run_from Cert.DwKIdeal.Value.run_blocks m g
  · run_from Cert.DwRIdeal.Value.run m' g'
    · exact (ref_W _ _).trans (final2 m c).symm

theorem frame_r : Cert.quiescent_DwRIdeal := by
  intro m g _
  run_from Cert.DwRIdeal.Value.run m g
  · exact fun c => ⟨trivial, trivial⟩
  · exact sem_eq_zero_of_no_sems rfl _

end Cert.Proof.DwClaims

end
-- ==== Proof.lean ====
module

public import proofs.«01_k».proof.Defs
public import proofs.«01_k».proof.Proof.Gen.GateK
public import proofs.«01_k».proof.Proof.Gen.GateK.Skeleton
public import proofs.«01_k».proof.Proof.Gen.GateK.Launch
public import proofs.«01_k».proof.Proof.Gen.GateK.Points
public import proofs.«01_k».proof.Proof.Gen.GateK.Frame
public import proofs.«01_k».proof.Proof.Gen.GateKIdeal
public import proofs.«01_k».proof.Proof.Gen.GateKIdeal.Skeleton
public import proofs.«01_k».proof.Proof.Gen.GateKIdeal.Launch
public import proofs.«01_k».proof.Proof.Gen.GateKIdeal.Points
public import proofs.«01_k».proof.Proof.Gen.GateKIdeal.Frame
public import proofs.«01_k».proof.Proof.Gen.GateRIdeal
public import proofs.«01_k».proof.Proof.Gen.Pre_gate_finite
public import proofs.«01_k».proof.Proof.Gen.GateKIdeal.Value
public import proofs.«01_k».proof.Proof.Gen.GateRIdeal.Run
public import proofs.«01_k».proof.Proof.Gen.GateRIdeal.Read
public import proofs.«01_k».proof.Proof.GateClaims
public import proofs.«01_k».proof.Proof.AttnClaims
public import proofs.«01_k».proof.Proof.MergeClaims
public import proofs.«01_k».proof.Proof.FwdClaims
public import proofs.«01_k».proof.Proof.Gen.AttnK
public import proofs.«01_k».proof.Proof.Gen.AttnK.Skeleton
public import proofs.«01_k».proof.Proof.Gen.AttnK.Launch
public import proofs.«01_k».proof.Proof.Gen.AttnK.Points
public import proofs.«01_k».proof.Proof.Gen.AttnK.Frame
public import proofs.«01_k».proof.Proof.Gen.AttnKIdeal
public import proofs.«01_k».proof.Proof.Gen.AttnKIdeal.Skeleton
public import proofs.«01_k».proof.Proof.Gen.AttnKIdeal.Launch
public import proofs.«01_k».proof.Proof.Gen.AttnKIdeal.Points
public import proofs.«01_k».proof.Proof.Gen.AttnKIdeal.Frame
public import proofs.«01_k».proof.Proof.Gen.AttnKIdeal.Value
public import proofs.«01_k».proof.Proof.Gen.AttnRIdeal
public import proofs.«01_k».proof.Proof.Gen.AttnRIdeal.Run
public import proofs.«01_k».proof.Proof.Gen.AttnRIdeal.Read
public import proofs.«01_k».proof.Proof.Gen.Pre_attn_finite
public import proofs.«01_k».proof.Proof.Gen.MergeK
public import proofs.«01_k».proof.Proof.Gen.MergeK.Skeleton
public import proofs.«01_k».proof.Proof.Gen.MergeK.Launch
public import proofs.«01_k».proof.Proof.Gen.MergeK.Points
public import proofs.«01_k».proof.Proof.Gen.MergeK.Frame
public import proofs.«01_k».proof.Proof.Gen.MergeKIdeal
public import proofs.«01_k».proof.Proof.Gen.MergeKIdeal.Skeleton
public import proofs.«01_k».proof.Proof.Gen.MergeKIdeal.Launch
public import proofs.«01_k».proof.Proof.Gen.MergeKIdeal.Points
public import proofs.«01_k».proof.Proof.Gen.MergeKIdeal.Frame
public import proofs.«01_k».proof.Proof.Gen.MergeRIdeal
public import proofs.«01_k».proof.Proof.Gen.MergeRIdeal.Run
public import proofs.«01_k».proof.Proof.Gen.MergeRIdeal.Read
public import proofs.«01_k».proof.Proof.Gen.Pre_merge_finite
public import proofs.«01_k».proof.Proof.Gen.FwdK
public import proofs.«01_k».proof.Proof.Gen.FwdK.Skeleton
public import proofs.«01_k».proof.Proof.Gen.FwdK.Loops
public import proofs.«01_k».proof.Proof.Gen.FwdK.Launch
public import proofs.«01_k».proof.Proof.Gen.FwdK.Points
public import proofs.«01_k».proof.Proof.Gen.FwdK.Frame
public import proofs.«01_k».proof.Proof.Gen.FwdKIdeal
public import proofs.«01_k».proof.Proof.Gen.FwdKIdeal.Skeleton
public import proofs.«01_k».proof.Proof.Gen.FwdKIdeal.Loops
public import proofs.«01_k».proof.Proof.Gen.FwdKIdeal.Launch
public import proofs.«01_k».proof.Proof.Gen.FwdKIdeal.Points
public import proofs.«01_k».proof.Proof.Gen.FwdKIdeal.Frame
public import proofs.«01_k».proof.Proof.Gen.FwdKIdeal.Value
public import proofs.«01_k».proof.Proof.Gen.FwdRIdeal
public import proofs.«01_k».proof.Proof.Gen.FwdRIdeal.Run
public import proofs.«01_k».proof.Proof.Gen.FwdRIdeal.Read
public import proofs.«01_k».proof.Proof.Gen.Pre_fwd_finite
public import proofs.«01_k».proof.Proof.MlpClaims
public import proofs.«01_k».proof.Proof.InbClaims
public import proofs.«01_k».proof.Proof.QkClaims
public import proofs.«01_k».proof.Proof.DwClaims
public import proofs.«01_k».proof.Proof.Gen.Pre_mlp_finite
public import proofs.«01_k».proof.Proof.Gen.MlpRIdeal
public import proofs.«01_k».proof.Proof.Gen.MlpRIdeal.Run
public import proofs.«01_k».proof.Proof.Gen.MlpRIdeal.Read
public import proofs.«01_k».proof.Proof.Gen.MlpK
public import proofs.«01_k».proof.Proof.Gen.MlpK.Skeleton
public import proofs.«01_k».proof.Proof.Gen.MlpK.Launch
public import proofs.«01_k».proof.Proof.Gen.MlpK.Points
public import proofs.«01_k».proof.Proof.Gen.MlpK.Frame
public import proofs.«01_k».proof.Proof.Gen.MlpKIdeal
public import proofs.«01_k».proof.Proof.Gen.MlpKIdeal.Skeleton
public import proofs.«01_k».proof.Proof.Gen.MlpKIdeal.Launch
public import proofs.«01_k».proof.Proof.Gen.MlpKIdeal.Points
public import proofs.«01_k».proof.Proof.Gen.MlpKIdeal.Frame
public import proofs.«01_k».proof.Proof.Gen.MlpKIdeal.Value
public import proofs.«01_k».proof.Proof.Gen.Pre_inb_finite
public import proofs.«01_k».proof.Proof.Gen.InbRIdeal
public import proofs.«01_k».proof.Proof.Gen.InbRIdeal.Run
public import proofs.«01_k».proof.Proof.Gen.InbRIdeal.Read
public import proofs.«01_k».proof.Proof.Gen.InbK
public import proofs.«01_k».proof.Proof.Gen.InbK.Skeleton
public import proofs.«01_k».proof.Proof.Gen.InbK.Launch
public import proofs.«01_k».proof.Proof.Gen.InbK.Points
public import proofs.«01_k».proof.Proof.Gen.InbK.Frame
public import proofs.«01_k».proof.Proof.Gen.InbKIdeal
public import proofs.«01_k».proof.Proof.Gen.InbKIdeal.Skeleton
public import proofs.«01_k».proof.Proof.Gen.InbKIdeal.Launch
public import proofs.«01_k».proof.Proof.Gen.InbKIdeal.Points
public import proofs.«01_k».proof.Proof.Gen.InbKIdeal.Frame
public import proofs.«01_k».proof.Proof.Gen.InbKIdeal.Value
public import proofs.«01_k».proof.Proof.Gen.Pre_qk_finite
public import proofs.«01_k».proof.Proof.Gen.QkRIdeal
public import proofs.«01_k».proof.Proof.Gen.QkRIdeal.Run
public import proofs.«01_k».proof.Proof.Gen.QkRIdeal.Read
public import proofs.«01_k».proof.Proof.Gen.QkK
public import proofs.«01_k».proof.Proof.Gen.QkK.Skeleton
public import proofs.«01_k».proof.Proof.Gen.QkK.Launch
public import proofs.«01_k».proof.Proof.Gen.QkK.Points
public import proofs.«01_k».proof.Proof.Gen.QkK.Frame
public import proofs.«01_k».proof.Proof.Gen.QkKIdeal
public import proofs.«01_k».proof.Proof.Gen.QkKIdeal.Skeleton
public import proofs.«01_k».proof.Proof.Gen.QkKIdeal.Launch
public import proofs.«01_k».proof.Proof.Gen.QkKIdeal.Points
public import proofs.«01_k».proof.Proof.Gen.QkKIdeal.Frame
public import proofs.«01_k».proof.Proof.Gen.QkKIdeal.Value
public import proofs.«01_k».proof.Proof.Gen.DwRIdeal
public import proofs.«01_k».proof.Proof.Gen.DwRIdeal.Run
public import proofs.«01_k».proof.Proof.Gen.DwRIdeal.Read
public import proofs.«01_k».proof.Proof.Gen.DwK
public import proofs.«01_k».proof.Proof.Gen.DwK.Skeleton
public import proofs.«01_k».proof.Proof.Gen.DwK.Launch
public import proofs.«01_k».proof.Proof.Gen.DwK.Points
public import proofs.«01_k».proof.Proof.Gen.DwK.Frame
public import proofs.«01_k».proof.Proof.Gen.DwKIdeal
public import proofs.«01_k».proof.Proof.Gen.DwKIdeal.Skeleton
public import proofs.«01_k».proof.Proof.Gen.DwKIdeal.Launch
public import proofs.«01_k».proof.Proof.Gen.DwKIdeal.Points
public import proofs.«01_k».proof.Proof.Gen.DwKIdeal.Frame
public import proofs.«01_k».proof.Proof.Gen.DwKIdeal.Value
public import Idealize.ShloMosaic.Adequacy
public import Idealize.ShloMosaic.Init

@[expose] public section

noncomputable section

namespace Cert.Proof

open Idealize.ShloMosaic Idealize.SL.Sem

theorem claim : Cert.Claim :=
  ⟨Cert.GateK.Gen.facts, Cert.GateKIdeal.Gen.facts, Cert.GateRIdeal.Gen.facts, Cert.AttnK.Gen.facts, Cert.AttnKIdeal.Gen.facts, Cert.AttnRIdeal.Gen.facts,
    Cert.MergeK.Gen.facts, Cert.MergeKIdeal.Gen.facts, Cert.MergeRIdeal.Gen.facts,
    Cert.FwdK.Gen.facts, Cert.FwdKIdeal.Gen.facts, Cert.FwdRIdeal.Gen.facts,
    Cert.MlpK.Gen.facts, Cert.MlpKIdeal.Gen.facts, Cert.MlpRIdeal.Gen.facts,
    Cert.InbK.Gen.facts, Cert.InbKIdeal.Gen.facts, Cert.InbRIdeal.Gen.facts,
    Cert.QkK.Gen.facts, Cert.QkKIdeal.Gen.facts, Cert.QkRIdeal.Gen.facts,
    Cert.DwK.Gen.facts, Cert.DwKIdeal.Gen.facts, Cert.DwRIdeal.Gen.facts,
    Cert.Pre_gate_finite.Gen.facts, Cert.Pre_attn_finite.Gen.facts, Cert.Pre_merge_finite.Gen.facts, Cert.Pre_fwd_finite.Gen.facts, Cert.Pre_mlp_finite.Gen.facts, Cert.Pre_inb_finite.Gen.facts, Cert.Pre_qk_finite.Gen.facts,
    fun m g _ => Cert.GateK.Gen.frame m g,
    fun m g _ => Cert.GateKIdeal.Gen.frame m g,
    fun m g _ => Cert.GateKIdeal.Gen.frame m g,
    GateClaims.frame_r,
    fun m g _ => GateClaims.frame_r m g trivial,
    fun m g _ => Cert.AttnK.Gen.frame m g,
    fun m g _ => Cert.AttnKIdeal.Gen.frame m g,
    fun m g _ => Cert.AttnKIdeal.Gen.frame m g,
    AttnClaims.frame_r,
    fun m g _ => AttnClaims.frame_r m g trivial,
    fun m g _ => Cert.MergeK.Gen.frame m g,
    fun m g _ => Cert.MergeKIdeal.Gen.frame m g,
    fun m g _ => Cert.MergeKIdeal.Gen.frame m g,
    MergeClaims.frame_r,
    fun m g _ => MergeClaims.frame_r m g trivial,
    fun m g _ => Cert.FwdK.Gen.frame m g,
    fun m g _ => Cert.FwdKIdeal.Gen.frame m g,
    fun m g _ => Cert.FwdKIdeal.Gen.frame m g,
    FwdClaims.frame_r,
    fun m g _ => FwdClaims.frame_r m g trivial,
    fun m g _ => Cert.MlpK.Gen.frame m g,
    fun m g _ => Cert.MlpKIdeal.Gen.frame m g,
    fun m g _ => Cert.MlpKIdeal.Gen.frame m g,
    MlpClaims.frame_r,
    fun m g _ => MlpClaims.frame_r m g trivial,
    fun m g _ => Cert.InbK.Gen.frame m g,
    fun m g _ => Cert.InbKIdeal.Gen.frame m g,
    fun m g _ => Cert.InbKIdeal.Gen.frame m g,
    InbClaims.frame_r,
    fun m g _ => InbClaims.frame_r m g trivial,
    fun m g _ => Cert.QkK.Gen.frame m g,
    fun m g _ => Cert.QkKIdeal.Gen.frame m g,
    fun m g _ => Cert.QkKIdeal.Gen.frame m g,
    QkClaims.frame_r,
    fun m g _ => QkClaims.frame_r m g trivial,
    fun m g _ => Cert.DwK.Gen.frame m g,
    fun m g _ => Cert.DwKIdeal.Gen.frame m g,
    DwClaims.frame_r,
    trivial,
    GateClaims.algebraic,
    trivial,
    AttnClaims.algebraic,
    trivial,
    MergeClaims.algebraic,
    FwdClaims.preserves,
    FwdClaims.algebraic,
    trivial,
    MlpClaims.algebraic,
    trivial,
    InbClaims.algebraic,
    QkClaims.preserves,
    QkClaims.algebraic,
    trivial,
    DwClaims.algebraic⟩

end Cert.Proof

end
